-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_proj [hPre_finite_proj : Cert.Pre_finite_proj.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_proj.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).1 = (fun _ => 1#1)
    ∧ (Cert.Pre_finite_proj.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.1 = (fun _ => 1#1)
    ∧ (Cert.Pre_finite_proj.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.1 = (fun _ => 1#1)
    ∧ (Cert.Pre_finite_proj.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.1 = (fun _ => 1#1)
    ∧ (Cert.Pre_finite_proj.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))).2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_proj [hPre_finite_proj : Cert.Pre_finite_proj.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_proj.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).1 = (fun _ => 1#1)
    ∧ (Cert.Pre_finite_proj.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.1 = (fun _ => 1#1)
    ∧ (Cert.Pre_finite_proj.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.1 = (fun _ => 1#1)
    ∧ (Cert.Pre_finite_proj.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.1 = (fun _ => 1#1)
    ∧ (Cert.Pre_finite_proj.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))).2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_finite_proj [hKernel6Ideal : Cert.Kernel6Ideal.Facts] [hPre_finite_proj : Cert.Pre_finite_proj.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_proj m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_finite_proj [hReference6Ideal : Cert.Reference6Ideal.Facts] [hPre_finite_proj : Cert.Pre_finite_proj.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_proj m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite_proj [hKernel6Ideal : Cert.Kernel6Ideal.Facts] [hReference6Ideal : Cert.Reference6Ideal.Facts] [hPre_finite_proj : Cert.Pre_finite_proj.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_proj m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v89_0)) (v1 : (c : Dev Cert.Kernel6Ideal.nD) → Buf (Elt Ideal) ((c.tc : Thread Cert.Kernel6Ideal.nD Cert.Kernel6Ideal.τ).loc Cert.Kernel6Ideal.main_v89_1)) (v2 : (c : Dev Cert.Kernel6Ideal.nD) → Buf (Elt Ideal) ((c.tc : Thread Cert.Kernel6Ideal.nD Cert.Kernel6Ideal.τ).loc Cert.Kernel6Ideal.main_v89_2)) (v3 : (c : Dev Cert.Kernel6Ideal.nD) → Buf (Elt Ideal) ((c.tc : Thread Cert.Kernel6Ideal.nD Cert.Kernel6Ideal.τ).loc Cert.Kernel6Ideal.main_v89_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v89_0) = v0 c
          ∧ r.2.mem ((c.tc : Thread Cert.Kernel6Ideal.nD Cert.Kernel6Ideal.τ).loc Cert.Kernel6Ideal.main_v89_1) = v1 c
          ∧ r.2.mem ((c.tc : Thread Cert.Kernel6Ideal.nD Cert.Kernel6Ideal.τ).loc Cert.Kernel6Ideal.main_v89_2) = v2 c
          ∧ r.2.mem ((c.tc : Thread Cert.Kernel6Ideal.nD Cert.Kernel6Ideal.τ).loc Cert.Kernel6Ideal.main_v89_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v181) = v0 c
          ∧ r.2.mem ((c.tc : Thread Cert.Reference6Ideal.nD Cert.Reference6Ideal.τ).loc Cert.Reference6Ideal.main_v186) = v1 c
          ∧ r.2.mem ((c.tc : Thread Cert.Reference6Ideal.nD Cert.Reference6Ideal.τ).loc Cert.Reference6Ideal.main_v190) = v2 c
          ∧ r.2.mem ((c.tc : Thread Cert.Reference6Ideal.nD Cert.Reference6Ideal.τ).loc Cert.Reference6Ideal.main_v191) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v32_0)) (v1 : (c : Dev Cert.Kernel9Ideal.nD) → Buf (Elt Ideal) ((c.tc : Thread Cert.Kernel9Ideal.nD Cert.Kernel9Ideal.τ).loc Cert.Kernel9Ideal.main_v32_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v32_0) = v0 c
          ∧ r.2.mem ((c.tc : Thread Cert.Kernel9Ideal.nD Cert.Kernel9Ideal.τ).loc Cert.Kernel9Ideal.main_v32_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v42) = v0 c
          ∧ r.2.mem ((c.tc : Thread Cert.Reference9Ideal.nD Cert.Reference9Ideal.τ).loc Cert.Reference9Ideal.main_v43) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v31)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v31) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v69) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)) →
    ∃ (v0 : (c : Dev Cert.Kernel11Ideal.nD) → Buf (Elt Ideal) ((c.tc : Thread Cert.Kernel11Ideal.nD Cert.Kernel11Ideal.τ).loc Cert.Kernel11Ideal.main_v31)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v31) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v35) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_qk : Cert.Pre_finite_qk.Facts) (hPre_finite_proj : Cert.Pre_finite_proj.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_proj (hKernel6Ideal := hKernel6Ideal) (hPre_finite_proj := hPre_finite_proj)
    ∧ quiescent_Reference6Ideal (hReference6Ideal := hReference6Ideal)
    ∧ quiescent_Reference6Ideal_pre_finite_proj (hReference6Ideal := hReference6Ideal) (hPre_finite_proj := hPre_finite_proj)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_proj (hKernel6Ideal := hKernel6Ideal) (hReference6Ideal := hReference6Ideal) (hPre_finite_proj := hPre_finite_proj)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite_proj.lean ====
abbrev S8x4096x1024 : Shape := ⟨3, ![8, 4096, 1024]⟩
abbrev S16x6x1x1024 : Shape := ⟨4, ![16, 6, 1, 1024]⟩
abbrev S1024 : Shape := ⟨1, ![1024]⟩
abbrev S1024x1952 : Shape := ⟨2, ![1024, 1952]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S_ : Shape := ⟨0, ![]⟩

class Facts : Prop where
  bcast_S_S16x6x1x1024 : S_.BroadcastsInDim S16x6x1x1024 (![] : Fin 0 → Fin S16x6x1x1024.rank)
  bcast_S_S1024 : S_.BroadcastsInDim S1024 (![] : Fin 0 → Fin S1024.rank)
  bcast_S_S1024x1952 : S_.BroadcastsInDim S1024x1952 (![] : Fin 0 → Fin S1024x1952.rank)
  bcast_S_S256 : S_.BroadcastsInDim S256 (![] : Fin 0 → Fin S256.rank)
  bcast_S_S256x768 : S_.BroadcastsInDim S256x768 (![] : Fin 0 → Fin S256x768.rank)

variable [Facts]

def fn {F : FTy → Type} [FloatOps F] (main_arg0 : FVec F S8x4096x1024 .f32) (main_arg1 : FVec F S16x6x1x1024 .f32) (main_arg2 : FVec F S1024 .f32) (main_arg3 : FVec F S1024x1952 .f32) (main_arg4 : FVec F S256 .f32) (main_arg5 : FVec F S256x768 .f32) (main_arg6 : FVec F S128 .f32) (main_arg7 : FVec F S128x1024 .f32) : IVec S16x6x1x1024 1 × IVec S1024 1 × IVec S1024x1952 1 × IVec S256 1 × IVec S256x768 1 :=
  let main_v0 : FVec F S16x6x1x1024 .f32 := Host.absf main_arg1
  let main_cst : FVec F S_ .f32 := constant S_ .f32 0x7F800000#32
  let main_v1 : FVec F S16x6x1x1024 .f32 := broadcastInDim S16x6x1x1024 ![] bcast_S_S16x6x1x1024 main_cst
  let main_v2 : IVec S16x6x1x1024 1 := cmpf .olt main_v0 main_v1
  let main_v3 : FVec F S1024 .f32 := Host.absf main_arg2
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1952 .f32 := Host.absf main_arg3
  let main_cst_1 : FVec F S_ .f32 := constant S_ .f32 0x7F800000#32
  let main_v7 : FVec F S1024x1952 .f32 := broadcastInDim S1024x1952 ![] bcast_S_S1024x1952 main_cst_1
  let main_v8 : IVec S1024x1952 1 := cmpf .olt main_v6 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_v12 : FVec F S256x768 .f32 := Host.absf main_arg5
  let main_cst_3 : FVec F S_ .f32 := constant S_ .f32 0x7F800000#32
  let main_v13 : FVec F S256x768 .f32 := broadcastInDim S256x768 ![] bcast_S_S256x768 main_cst_3
  let main_v14 : IVec S256x768 1 := cmpf .olt main_v12 main_v13
  (main_v2, main_v5, main_v8, main_v11, main_v14)
-- ==== Pre_finite_qk.lean ====
abbrev S8x4096x1024 : Shape := ⟨3, ![8, 4096, 1024]⟩
abbrev S8x256x1024 : Shape := ⟨3, ![8, 256, 1024]⟩
abbrev S_ : Shape := ⟨0, ![]⟩

class Facts : Prop where
  bitsLt_bf16_f32 : FTy.bits .bf16 < FTy.bits .f32
  bcast_S_S8x4096x1024 : S_.BroadcastsInDim S8x4096x1024 (![] : Fin 0 → Fin S8x4096x1024.rank)
  bcast_S_S8x256x1024 : S_.BroadcastsInDim S8x256x1024 (![] : Fin 0 → Fin S8x256x1024.rank)

variable [Facts]

def fn {F : FTy → Type} [FloatOps F] (main_arg0 : FVec F S8x4096x1024 .bf16) (main_arg1 : FVec F S8x256x1024 .bf16) (main_arg2 : FVec F S8x4096x1024 .bf16) (main_arg3 : FVec F S8x256x1024 .bf16) (main_arg4 : FVec F S8x4096x1024 .bf16) : IVec S8x4096x1024 1 × IVec S8x256x1024 1 × IVec S8x4096x1024 1 :=
  let main_v0 : FVec F S8x4096x1024 .f32 := (extf .f32 · bitsLt_bf16_f32) main_arg0
  let main_v1 : FVec F S8x4096x1024 .f32 := Host.absf main_v0
  let main_cst : FVec F S_ .f32 := constant S_ .f32 0x7F800000#32
  let main_v2 : FVec F S8x4096x1024 .f32 := broadcastInDim S8x4096x1024 ![] bcast_S_S8x4096x1024 main_cst
  let main_v3 : IVec S8x4096x1024 1 := cmpf .olt main_v1 main_v2
  let main_v4 : FVec F S8x256x1024 .f32 := (extf .f32 · bitsLt_bf16_f32) main_arg1
  let main_v5 : FVec F S8x256x1024 .f32 := Host.absf main_v4
  let main_cst_0 : FVec F S_ .f32 := constant S_ .f32 0x7F800000#32
  let main_v6 : FVec F S8x256x1024 .f32 := broadcastInDim S8x256x1024 ![] bcast_S_S8x256x1024 main_cst_0
  let main_v7 : IVec S8x256x1024 1 := cmpf .olt main_v5 main_v6
  let main_v8 : FVec F S8x4096x1024 .f32 := (extf .f32 · bitsLt_bf16_f32) main_arg2
  let main_v9 : FVec F S8x4096x1024 .f32 := Host.absf main_v8
  let main_cst_1 : FVec F S_ .f32 := constant S_ .f32 0x7F800000#32
  let main_v10 : FVec F S8x4096x1024 .f32 := broadcastInDim S8x4096x1024 ![] bcast_S_S8x4096x1024 main_cst_1
  let main_v11 : IVec S8x4096x1024 1 := cmpf .olt main_v9 main_v10
  (main_v3, main_v7, main_v11)
-- ==== Kernel.lean ====
abbrev S8x4096x1024 : Shape := ⟨3, ![8, 4096, 1024]⟩
abbrev S8x256x1024 : Shape := ⟨3, ![8, 256, 1024]⟩
abbrev S8x4352x1024 : Shape := ⟨3, ![8, 4352, 1024]⟩
abbrev S1x512x128 : Shape := ⟨3, ![1, 512, 128]⟩
abbrev S1x4352x128 : Shape := ⟨3, ![1, 4352, 128]⟩
abbrev S512x128 : Shape := ⟨2, ![512, 128]⟩
abbrev S4352x128 : Shape := ⟨2, ![4352, 128]⟩
abbrev S512x4352 : Shape := ⟨2, ![512, 4352]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S8x4096x1024, .bf16⟩
  | .hbm, ⟨1, _⟩ => ⟨S8x256x1024, .bf16⟩
  | .hbm, ⟨2, _⟩ => ⟨S8x4096x1024, .bf16⟩
  | .hbm, ⟨3, _⟩ => ⟨S8x256x1024, .bf16⟩
  | .hbm, ⟨4, _⟩ => ⟨S8x4096x1024, .bf16⟩
  | .hbm, ⟨5, _⟩ => ⟨S8x4352x1024, .bf16⟩
  | .hbm, ⟨6, _⟩ => ⟨S8x4352x1024, .bf16⟩
  | .hbm, ⟨7, _⟩ => ⟨S8x4096x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x512x128, .bf16⟩
  | .local _ .vmem, ⟨7, _⟩ => ⟨S1x512x128, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x4096x1024 : Shape := ⟨3, ![8, 4096, 1024]⟩
abbrev S8x256x1024 : Shape := ⟨3, ![8, 256, 1024]⟩
abbrev S8x256x8x128 : Shape := ⟨4, ![8, 256, 8, 128]⟩
abbrev S8x4096x8x128 : Shape := ⟨4, ![8, 4096, 8, 128]⟩
abbrev S8x4352x8x128 : Shape := ⟨4, ![8, 4352, 8, 128]⟩
abbrev S8x8x4096x4352 : Shape := ⟨4, ![8, 8, 4096, 4352]⟩
abbrev S_ : Shape := ⟨0, ![]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x256x1024, .bf16⟩
  | .hbm, ⟨2, _⟩ => ⟨S8x4096x1024, .bf16⟩
  | .hbm, ⟨3, _⟩ => ⟨S8x256x1024, .bf16⟩
  | .hbm, ⟨4, _⟩ => ⟨S8x4096x1024, .bf16⟩
  | .hbm, ⟨5, _⟩ => ⟨S8x256x1024, .f32⟩
  | .hbm, ⟨6, _⟩ => ⟨S8x256x8x128, .f32⟩
  | .hbm, ⟨7, _⟩ => ⟨S8x4096x1024, .f32⟩
  | .hbm, ⟨8, _⟩ => ⟨S8x4096x8x128, .f32⟩
  | .hbm, ⟨9, _⟩ => ⟨S8x4352x8x128, .f32⟩
  | .hbm, ⟨10, _⟩ => ⟨S8x256x1024, .f32⟩
  | .hbm, ⟨11, _⟩ => ⟨S8x256x8x128, .f32⟩
  | .hbm, ⟨12, _⟩ => ⟨S8x4096x1024, .f32⟩
  | .hbm, ⟨13, _⟩ => ⟨S8x4096x8x128, .f32⟩
  | .hbm, ⟨14, _⟩ => ⟨S8x4352x8x128, .f32⟩
  | .hbm, ⟨15, _⟩ => ⟨S8x4096x1024, .f32⟩
  | .hbm, ⟨16, _⟩ => ⟨S8x4096x8x128, .f32⟩
  | .hbm, ⟨17, _⟩ => ⟨S8x8x4096x4352, .f32⟩
  | .hbm, ⟨18, _⟩ => ⟨S_, .f32⟩
  | .hbm, ⟨19, _⟩ => ⟨S8x8x4096, .f32⟩
  | .hbm, ⟨20, _⟩ => ⟨S_, .f32⟩
  | .hbm, ⟨21, _⟩ => ⟨S8x8x4096, .f32⟩
  | .hbm, ⟨22, _⟩ => ⟨S8x8x4096, .f32⟩
  | .hbm, ⟨23, _⟩ => ⟨S8x8x4096x1, .f32⟩
  | .hbm, ⟨24, _⟩ => ⟨S8x8x4096x4352, .f32⟩
  | .hbm, ⟨25, _⟩ => ⟨S8x8x4096x4352, .f32⟩
  | .hbm, ⟨26, _⟩ => ⟨S8x8x4096x4352, .f32⟩
  | .hbm, ⟨27, _⟩ => ⟨S_, .f32⟩
  | .hbm, ⟨28, _⟩ => ⟨S8x8x4096, .f32⟩
  | .hbm, ⟨29, _⟩ => ⟨S8x8x4096x1, .f32⟩
  | .hbm, ⟨30, _⟩ => ⟨S8x8x4096x4352, .f32⟩
  | .hbm, ⟨31, _⟩ => ⟨S8x8x4096x4352, .f32⟩
  | .hbm, ⟨32, _⟩ => ⟨S8x8x128x4096, .f32⟩
  | .hbm, ⟨33, _⟩ => ⟨S8x4096x8x128, .f32⟩
  | .hbm, ⟨34, _⟩ => ⟨S8x4096x1024, .f32⟩
  | .hbm, ⟨35, _⟩ => ⟨S8x4096x1024, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel2.lean ====
abbrev S8x4096x1024 : Shape := ⟨3, ![8, 4096, 1024]⟩
abbrev S16x6x1x1024 : Shape := ⟨4, ![16, 6, 1, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S1x512x1024 : Shape := ⟨3, ![1, 512, 1024]⟩
abbrev S1x8x1024 : Shape := ⟨3, ![1, 8, 1024]⟩
abbrev S1x1x1x1024 : Shape := ⟨4, ![1, 1, 1, 1024]⟩
abbrev S512x1024 : Shape := ⟨2, ![512, 1024]⟩
abbrev S8x1024 : Shape := ⟨2, ![8, 1024]⟩
abbrev S8 : Shape := ⟨1, ![8]⟩
abbrev S8x1 : Shape := ⟨2, ![8, 1]⟩
abbrev S512 : Shape := ⟨1, ![512]⟩
abbrev S512x1 : Shape := ⟨2, ![512, 1]⟩
abbrev S528x1024 : Shape := ⟨2, ![528, 1024]⟩
abbrev S1024x256 : Shape := ⟨2, ![1024, 256]⟩
abbrev S528x256 : Shape := ⟨2, ![528, 256]⟩
abbrev S3x256 : Shape := ⟨2, ![3, 256]⟩
abbrev S512x256 : Shape := ⟨2, ![512, 256]⟩
abbrev S1x256 : Shape := ⟨2, ![1, 256]⟩
abbrev S256x1024 : Shape := ⟨2, ![256, 1024]⟩

abbrev nBuf : Space → Nat
  | .hbm => 14
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S16x6x1x1024, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S1x5632, .f32⟩
  | .hbm, ⟨12, _⟩ => ⟨S1x1024, .f32⟩
  | .hbm, ⟨13, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1x1024, .f32⟩
  | .local _ .vmem, ⟨13, _⟩ => ⟨S1024x5632, .bf16⟩
  | .local _ .vmem, ⟨14, _⟩ => ⟨S3x5632, .f32⟩
  | .local _ .vmem, ⟨15, _⟩ => ⟨S1x5632, .f32⟩
  | .local _ .vmem, ⟨16, _⟩ => ⟨S2816x1024, .bf16⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg0.toNat, c5_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S8x4096x1024 : Shape := ⟨3, ![8, 4096, 1024]⟩
abbrev S16x6x1x1024 : Shape := ⟨4, ![16, 6, 1, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x6x1x1024 : Shape := ⟨4, ![8, 6, 1, 1024]⟩
abbrev S8x6x1024 : Shape := ⟨3, ![8, 6, 1024]⟩
abbrev S8x1x1024 : Shape := ⟨3, ![8, 1, 1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩

abbrev nBuf : Space → Nat
  | .hbm => 101
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x6x1x1024, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S1024, .f32⟩
  | .hbm, ⟨8, _⟩ => ⟨S8x6x1x1024, .f32⟩
  | .hbm, ⟨9, _⟩ => ⟨S8x6x1024, .f32⟩
  | .hbm, ⟨10, _⟩ => ⟨S8x1x1024, .f32⟩
  | .hbm, ⟨11, _⟩ => ⟨S8x1024, .f32⟩
  | .hbm, ⟨12, _⟩ => ⟨S8x1x1024, .f32⟩
  | .hbm, ⟨13, _⟩ => ⟨S8x1x1024, .f32⟩
  | .hbm, ⟨14, _⟩ => ⟨S8x1024, .f32⟩
  | .hbm, ⟨15, _⟩ => ⟨S8x1x1024, .f32⟩
  | .hbm, ⟨16, _⟩ => ⟨S8x1x1024, .f32⟩
  | .hbm, ⟨17, _⟩ => ⟨S8x1024, .f32⟩
  | .hbm, ⟨18, _⟩ => ⟨S8x1x1024, .f32⟩
  | .hbm, ⟨19, _⟩ => ⟨S8x4096x1024, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S8x4096x1, .f32⟩
  | .hbm, ⟨30, _⟩ => ⟨S8x4096x1024, .f32⟩
  | .hbm, ⟨31, _⟩ => ⟨S8x4096x1024, .f32⟩
  | .hbm, ⟨32, _⟩ => ⟨S1x1x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x5632, .f32⟩
  | .hbm, ⟨43, _⟩ => ⟨S_, .i32⟩
  | .hbm, ⟨44, _⟩ => ⟨S_, .f32⟩
  | .hbm, ⟨45, _⟩ => ⟨S8x4098x5632, .f32⟩
  | .hbm, ⟨46, _⟩ => ⟨S8x4096x5632, .f32⟩
  | .hbm, ⟨47, _⟩ => ⟨S1x5632, .f32⟩
  | .hbm, ⟨48, _⟩ => ⟨S5632, .f32⟩
  | .hbm, ⟨49, _⟩ => ⟨S1x1x5632, .f32⟩
  | .hbm, ⟨50, _⟩ => ⟨S8x4096x5632, .f32⟩
  | .hbm, ⟨51, _⟩ => ⟨S8x4096x5632, .f32⟩
  | .hbm, ⟨52, _⟩ => ⟨S8x4096x5632, .f32⟩
  | .hbm, ⟨53, _⟩ => ⟨S1x5632, .f32⟩
  | .hbm, ⟨54, _⟩ => ⟨S5632, .f32⟩
  | .hbm, ⟨55, _⟩ => ⟨S1x1x5632, .f32⟩
  | .hbm, ⟨56, _⟩ => ⟨S8x4096x5632, .f32⟩
  | .hbm, ⟨57, _⟩ => ⟨S8x4096x5632, .f32⟩
  | .hbm, ⟨58, _⟩ => ⟨S8x4096x5632, .f32⟩
  | .hbm, ⟨59, _⟩ => ⟨S8x4096x5632, .f32⟩
  | .hbm, ⟨60, _⟩ => ⟨S1x5632, .f32⟩
  | .hbm, ⟨61, _⟩ => ⟨S5632, .f32⟩
  | .hbm, ⟨62, _⟩ => ⟨S1x1x5632, .f32⟩
  | .hbm, ⟨63, _⟩ => ⟨S8x4096x5632, .f32⟩
  | .hbm, ⟨64, _⟩ => ⟨S8x4096x5632, .f32⟩
  | .hbm, ⟨65, _⟩ => ⟨S8x4096x5632, .f32⟩
  | .hbm, ⟨66, _⟩ => ⟨S1x1x5632, .f32⟩
  | .hbm, ⟨67, _⟩ => ⟨S8x4096x5632, .f32⟩
  | .hbm, ⟨68, _⟩ => ⟨S8x4096x5632, .f32⟩
  | .hbm, ⟨69, _⟩ => ⟨S8x4096x2816, .f32⟩
  | .hbm, ⟨70, _⟩ => ⟨S8x4096x2816, .f32⟩
  | .hbm, ⟨71, _⟩ => ⟨S8x4096x2816, .f32⟩
  | .hbm, ⟨72, _⟩ => ⟨S8x4096x2816, .f32⟩
  | .hbm, ⟨73, _⟩ => ⟨S_, .f32⟩
  | .hbm, ⟨74, _⟩ => ⟨S8x4096x2816, .f32⟩
  | .hbm, ⟨75, _⟩ => ⟨S8x4096x2816, .f32⟩
  | .hbm, ⟨76, _⟩ => ⟨S_, .f32⟩
  | .hbm, ⟨77, _⟩ => ⟨S8x4096x2816, .f32⟩
  | .hbm, ⟨78, _⟩ => ⟨S8x4096x2816, .f32⟩
  | .hbm, ⟨79, _⟩ => ⟨S8x4096x2816, .f32⟩
  | .hbm, ⟨80, _⟩ => ⟨S8x4096x2816, .f32⟩
  | .hbm, ⟨81, _⟩ => ⟨S8x4096x1024, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | .hbm, ⟨85, _⟩ => ⟨S8x4096x1024, .f32⟩
  | .hbm, ⟨86, _⟩ => ⟨S_, .f32⟩
  | .hbm, ⟨87, _⟩ => ⟨S8x4096, .f32⟩
  | .hbm, ⟨88, _⟩ => ⟨S8x4096x1, .f32⟩
  | .hbm, ⟨89, _⟩ => ⟨S_, .f32⟩
  | .hbm, ⟨90, _⟩ => ⟨S8x4096x1, .f32⟩
  | .hbm, ⟨91, _⟩ => ⟨S8x4096x1, .f32⟩
  | .hbm, ⟨92, _⟩ => ⟨S_, .f32⟩
  | .hbm, ⟨93, _⟩ => ⟨S8x4096x1, .f32⟩
  | .hbm, ⟨94, _⟩ => ⟨S8x4096x1, .f32⟩
  | .hbm, ⟨95, _⟩ => ⟨S8x4096x1, .f32⟩
  | .hbm, ⟨96, _⟩ => ⟨S8x4096x1024, .f32⟩
  | .hbm, ⟨97, _⟩ => ⟨S8x4096x1024, .f32⟩
  | .hbm, ⟨98, _⟩ => ⟨S1x1x1024, .f32⟩
  | .hbm, ⟨99, _⟩ => ⟨S8x4096x1024, .f32⟩
  | .hbm, ⟨100, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_call0_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_3 : Ref sig .tc := ⟨.hbm, 86, rfl⟩
abbrev main_v64 : Ref sig .tc := ⟨.hbm, 87, rfl⟩
abbrev main_v65 : Ref sig .tc := ⟨.hbm, 88, rfl⟩
abbrev main_cst_4 : Ref sig .tc := ⟨.hbm, 89, rfl⟩
abbrev main_v66 : Ref sig .tc := ⟨.hbm, 90, rfl⟩
abbrev main_v67 : Ref sig .tc := ⟨.hbm, 91, rfl⟩
abbrev main_cst_5 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]
-- ==== Kernel3.lean ====
abbrev S8x4096x1024 : Shape := ⟨3, ![8, 4096, 1024]⟩
abbrev S16x6x1x1024 : Shape := ⟨4, ![16, 6, 1, 1024]⟩
abbrev S1024 : Shape := ⟨1, ![1024]⟩
abbrev S1024x5120 : Shape := ⟨2, ![1024, 5120]⟩
abbrev S1x1024 : Shape := ⟨2, ![1, 1024]⟩
abbrev S8x4096x5120 : Shape := ⟨3, ![8, 4096, 5120]⟩
abbrev S1x512x1024 : Shape := ⟨3, ![1, 512, 1024]⟩
abbrev S1x1x1x1024 : Shape := ⟨4, ![1, 1, 1, 1024]⟩
abbrev S1x512x5120 : Shape := ⟨3, ![1, 512, 5120]⟩
abbrev S512x1024 : Shape := ⟨2, ![512, 1024]⟩
abbrev S512 : Shape := ⟨1, ![512]⟩
abbrev S512x1 : Shape := ⟨2, ![512, 1]⟩
abbrev S512x5120 : Shape := ⟨2, ![512, 5120]⟩
abbrev S512x4096 : Shape := ⟨2, ![512, 4096]⟩
abbrev S1x512x4096 : Shape := ⟨3, ![1, 512, 4096]⟩

abbrev nBuf : Space → Nat
  | .hbm => 7
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S16x6x1x1024, .f32⟩
  | .hbm, ⟨2, _⟩ => ⟨S1024, .f32⟩
  | .hbm, ⟨3, _⟩ => ⟨S1024x5120, .f32⟩
  | .hbm, ⟨4, _⟩ => ⟨S1024x5120, .bf16⟩
  | .hbm, ⟨5, _⟩ => ⟨S1x1024, .f32⟩
  | .hbm, ⟨6, _⟩ => ⟨S8x4096x5120, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1024, .f32⟩
  | .local _ .vmem, ⟨7, _⟩ => ⟨S1024x5120, .bf16⟩
  | .local _ .vmem, ⟨8, _⟩ => ⟨S1x512x5120, .f32⟩
  | .local _ .vmem, ⟨9, _⟩ => ⟨S1x512x5120, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x5120 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8x4096x1024 : Shape := ⟨3, ![8, 4096, 1024]⟩
abbrev S16x6x1x1024 : Shape := ⟨4, ![16, 6, 1, 1024]⟩
abbrev S1024 : Shape := ⟨1, ![1024]⟩
abbrev S1024x5120 : Shape := ⟨2, ![1024, 5120]⟩
abbrev S8x6x1x1024 : Shape := ⟨4, ![8, 6, 1, 1024]⟩
abbrev S8x6x1024 : Shape := ⟨3, ![8, 6, 1024]⟩
abbrev S8x1x1024 : Shape := ⟨3, ![8, 1, 1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5120 : Shape := ⟨3, ![8, 4096, 5120]⟩

abbrev nBuf : Space → Nat
  | .hbm => 51
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x6x1x1024, .f32⟩
  | .hbm, ⟨2, _⟩ => ⟨S1024, .f32⟩
  | .hbm, ⟨3, _⟩ => ⟨S1024x5120, .f32⟩
  | .hbm, ⟨4, _⟩ => ⟨S8x6x1x1024, .f32⟩
  | .hbm, ⟨5, _⟩ => ⟨S8x6x1024, .f32⟩
  | .hbm, ⟨6, _⟩ => ⟨S8x1x1024, .f32⟩
  | .hbm, ⟨7, _⟩ => ⟨S8x1024, .f32⟩
  | .hbm, ⟨8, _⟩ => ⟨S8x1x1024, .f32⟩
  | .hbm, ⟨9, _⟩ => ⟨S8x1x1024, .f32⟩
  | .hbm, ⟨10, _⟩ => ⟨S8x1024, .f32⟩
  | .hbm, ⟨11, _⟩ => ⟨S8x1x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x5120, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096x1024, .f32⟩
  | .hbm, ⟨45, _⟩ => ⟨S8x4096x1024, .f32⟩
  | .hbm, ⟨46, _⟩ => ⟨S_, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S8x4096x5120, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x4096x5120 : Shape := ⟨3, ![8, 4096, 5120]⟩
abbrev S16x6x1x1024 : Shape := ⟨4, ![16, 6, 1, 1024]⟩
abbrev S128 : Shape := ⟨1, ![128]⟩
abbrev S1024x1024 : Shape := ⟨2, ![1024, 1024]⟩
abbrev S1x128 : Shape := ⟨2, ![1, 128]⟩
abbrev S1x512x1024 : Shape := ⟨3, ![1, 512, 1024]⟩
abbrev S1x1x1x1024 : Shape := ⟨4, ![1, 1, 1, 1024]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S512x1024 : Shape := ⟨2, ![512, 1024]⟩
abbrev S1x1024 : Shape := ⟨2, ![1, 1024]⟩

abbrev nBuf : Space → Nat
  | .hbm => 9
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x4096x5120, .f32⟩
  | .hbm, ⟨2, _⟩ => ⟨S8x4096x1024, .f32⟩
  | .hbm, ⟨3, _⟩ => ⟨S16x6x1x1024, .f32⟩
  | .hbm, ⟨4, _⟩ => ⟨S128, .f32⟩
  | .hbm, ⟨5, _⟩ => ⟨S1024x1024, .f32⟩
  | .hbm, ⟨6, _⟩ => ⟨S1024x1024, .bf16⟩
  | .hbm, ⟨7, _⟩ => ⟨S1x128, .f32⟩
  | .hbm, ⟨8, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x128, .f32⟩
  | .local _ .vmem, ⟨9, _⟩ => ⟨S1024x1024, .bf16⟩
  | .local _ .vmem, ⟨10, _⟩ => ⟨S1x512x1024, .f32⟩
  | .local _ .vmem, ⟨11, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S8x4096x1024 : Shape := ⟨3, ![8, 4096, 1024]⟩
abbrev S8x4096x5120 : Shape := ⟨3, ![8, 4096, 5120]⟩
abbrev S16x6x1x1024 : Shape := ⟨4, ![16, 6, 1, 1024]⟩
abbrev S128 : Shape := ⟨1, ![128]⟩
abbrev S1024x1024 : Shape := ⟨2, ![1024, 1024]⟩
abbrev S8x1x1x1024 : Shape := ⟨4, ![8, 1, 1, 1024]⟩
abbrev S8x1x1024 : Shape := ⟨3, ![8, 1, 1024]⟩
abbrev S8x4096x8x128 : Shape := ⟨4, ![8, 4096, 8, 128]⟩
abbrev S_ : Shape := ⟨0, ![]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x5120, .f32⟩
  | .hbm, ⟨2, _⟩ => ⟨S8x4096x1024, .f32⟩
  | .hbm, ⟨3, _⟩ => ⟨S16x6x1x1024, .f32⟩
  | .hbm, ⟨4, _⟩ => ⟨S128, .f32⟩
  | .hbm, ⟨5, _⟩ => ⟨S1024x1024, .f32⟩
  | .hbm, ⟨6, _⟩ => ⟨S8x1x1x1024, .f32⟩
  | .hbm, ⟨7, _⟩ => ⟨S8x1x1024, .f32⟩
  | .hbm, ⟨8, _⟩ => ⟨S8x4096x1024, .f32⟩
  | .hbm, ⟨9, _⟩ => ⟨S8x4096x8x128, .f32⟩
  | .hbm, ⟨10, _⟩ => ⟨S8x4096x8x128, .f32⟩
  | .hbm, ⟨11, _⟩ => ⟨S_, .f32⟩
  | .hbm, ⟨12, _⟩ => ⟨S8x4096x8, .f32⟩
  | .hbm, ⟨13, _⟩ => ⟨S8x4096x8x1, .f32⟩
  | .hbm, ⟨14, _⟩ => ⟨S_, .f32⟩
  | .hbm, ⟨15, _⟩ => ⟨S8x4096x8x1, .f32⟩
  | .hbm, ⟨16, _⟩ => ⟨S8x4096x8x1, .f32⟩
  | .hbm, ⟨17, _⟩ => ⟨S_, .f32⟩
  | .hbm, ⟨18, _⟩ => ⟨S8x4096x8x1, .f32⟩
  | .hbm, ⟨19, _⟩ => ⟨S8x4096x8x1, .f32⟩
  | .hbm, ⟨20, _⟩ => ⟨S8x4096x8x1, .f32⟩
  | .hbm, ⟨21, _⟩ => ⟨S8x4096x8x128, .f32⟩
  | .hbm, ⟨22, _⟩ => ⟨S8x4096x8x128, .f32⟩
  | .hbm, ⟨23, _⟩ => ⟨S1x1x1x128, .f32⟩
  | .hbm, ⟨24, _⟩ => ⟨S8x4096x8x128, .f32⟩
  | .hbm, ⟨25, _⟩ => ⟨S8x4096x8x128, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x4096x512 : Shape := ⟨3, ![8, 4096, 512]⟩
abbrev S16x6x1x1024 : Shape := ⟨4, ![16, 6, 1, 1024]⟩
abbrev S1024x1024 : Shape := ⟨2, ![1024, 1024]⟩
abbrev S512x1024 : Shape := ⟨2, ![512, 1024]⟩
abbrev S8x64x1024 : Shape := ⟨3, ![8, 64, 1024]⟩
abbrev S_ : Shape := ⟨0, ![]⟩
abbrev S8x128x1024 : Shape := ⟨3, ![8, 128, 1024]⟩
abbrev S1x512x1024 : Shape := ⟨3, ![1, 512, 1024]⟩
abbrev S1x512x512 : Shape := ⟨3, ![1, 512, 512]⟩
abbrev S1x1x1x1024 : Shape := ⟨4, ![1, 1, 1, 1024]⟩
abbrev S512x512 : Shape := ⟨2, ![512, 512]⟩
abbrev S1x1024 : Shape := ⟨2, ![1, 1024]⟩

abbrev nBuf : Space → Nat
  | .hbm => 15
  | .vmem => 12
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x512, .f32⟩
  | .hbm, ⟨2, _⟩ => ⟨S8x4096x1024, .f32⟩
  | .hbm, ⟨3, _⟩ => ⟨S16x6x1x1024, .f32⟩
  | .hbm, ⟨4, _⟩ => ⟨S1024x1024, .f32⟩
  | .hbm, ⟨5, _⟩ => ⟨S512x1024, .f32⟩
  | .hbm, ⟨6, _⟩ => ⟨S8x64x1024, .f32⟩
  | .hbm, ⟨7, _⟩ => ⟨S_, .f32⟩
  | .hbm, ⟨8, _⟩ => ⟨S8x64x1024, .f32⟩
  | .hbm, ⟨9, _⟩ => ⟨S8x128x1024, .f32⟩
  | .hbm, ⟨10, _⟩ => ⟨S1024x1024, .f32⟩
  | .hbm, ⟨11, _⟩ => ⟨S1024x1024, .bf16⟩
  | .hbm, ⟨12, _⟩ => ⟨S512x1024, .f32⟩
  | .hbm, ⟨13, _⟩ => ⟨S512x1024, .bf16⟩
  | .hbm, ⟨14, _⟩ => ⟨S8x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x512, .f32⟩
  | .local _ .vmem, ⟨3, _⟩ => ⟨S1x512x512, .f32⟩
  | .local _ .vmem, ⟨4, _⟩ => ⟨S1x512x1024, .f32⟩
  | .local _ .vmem, ⟨5, _⟩ => ⟨S1x512x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1024x1024, .bf16⟩
  | .local _ .vmem, ⟨9, _⟩ => ⟨S512x1024, .bf16⟩
  | .local _ .vmem, ⟨10, _⟩ => ⟨S1x512x1024, .f32⟩
  | .local _ .vmem, ⟨11, _⟩ => ⟨S1x512x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S8x4096x1024 : Shape := ⟨3, ![8, 4096, 1024]⟩
abbrev S8x4096x512 : Shape := ⟨3, ![8, 4096, 512]⟩
abbrev S16x6x1x1024 : Shape := ⟨4, ![16, 6, 1, 1024]⟩
abbrev S1024x1024 : Shape := ⟨2, ![1024, 1024]⟩
abbrev S8x1x1x1024 : Shape := ⟨4, ![8, 1, 1, 1024]⟩
abbrev S8x1x1024 : Shape := ⟨3, ![8, 1, 1024]⟩
abbrev S8x4096x8x128 : Shape := ⟨4, ![8, 4096, 8, 128]⟩
abbrev S8x4096x8x64 : Shape := ⟨4, ![8, 4096, 8, 64]⟩

abbrev nBuf : Space → Nat
  | .hbm => 16
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x512, .f32⟩
  | .hbm, ⟨2, _⟩ => ⟨S8x4096x1024, .f32⟩
  | .hbm, ⟨3, _⟩ => ⟨S16x6x1x1024, .f32⟩
  | .hbm, ⟨4, _⟩ => ⟨S1024x1024, .f32⟩
  | .hbm, ⟨5, _⟩ => ⟨S8x1x1x1024, .f32⟩
  | .hbm, ⟨6, _⟩ => ⟨S8x1x1024, .f32⟩
  | .hbm, ⟨7, _⟩ => ⟨S8x4096x1024, .f32⟩
  | .hbm, ⟨8, _⟩ => ⟨S8x4096x8x128, .f32⟩
  | .hbm, ⟨9, _⟩ => ⟨S8x4096x8x64, .f32⟩
  | .hbm, ⟨10, _⟩ => ⟨S8x4096x512, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel6.lean ====
abbrev S8x4096x1024 : Shape := ⟨3, ![8, 4096, 1024]⟩
abbrev S16x6x1x1024 : Shape := ⟨4, ![16, 6, 1, 1024]⟩
abbrev S1024 : Shape := ⟨1, ![1024]⟩
abbrev S1024x1952 : Shape := ⟨2, ![1024, 1952]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S1024x32 : Shape := ⟨2, ![1024, 32]⟩
abbrev S1024x384 : Shape := ⟨2, ![1024, 384]⟩
abbrev S_ : Shape := ⟨0, ![]⟩
abbrev S1024x64 : Shape := ⟨2, ![1024, 64]⟩
abbrev S1024x8 : Shape := ⟨2, ![1024, 8]⟩
abbrev S1024x1536 : Shape := ⟨2, ![1024, 1536]⟩
abbrev S1024x2176 : Shape := ⟨2, ![1024, 2176]⟩
abbrev S256x8x96 : Shape := ⟨3, ![256, 8, 96]⟩
abbrev S256x8x32 : Shape := ⟨3, ![256, 8, 32]⟩
abbrev S256x8x128 : Shape := ⟨3, ![256, 8, 128]⟩
abbrev S256x1024 : Shape := ⟨2, ![256, 1024]⟩
abbrev S2048x32 : Shape := ⟨2, ![2048, 32]⟩
abbrev S256x8x64 : Shape := ⟨3, ![256, 8, 64]⟩
abbrev S2048x8 : Shape := ⟨2, ![2048, 8]⟩
abbrev S128x8x128 : Shape := ⟨3, ![128, 8, 128]⟩
abbrev S128x8x64 : Shape := ⟨3, ![128, 8, 64]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x64 : Shape := ⟨2, ![4096, 64]⟩
abbrev S4096x32 : Shape := ⟨2, ![4096, 32]⟩
abbrev S4096x128 : Shape := ⟨2, ![4096, 128]⟩
abbrev S1x1024 : Shape := ⟨2, ![1, 1024]⟩
abbrev S1x256 : Shape := ⟨2, ![1, 256]⟩
abbrev S1x128 : Shape := ⟨2, ![1, 128]⟩
abbrev S8x4096x1536 : Shape := ⟨3, ![8, 4096, 1536]⟩
abbrev S1x512x1024 : Shape := ⟨3, ![1, 512, 1024]⟩
abbrev S1x1x1x1024 : Shape := ⟨4, ![1, 1, 1, 1024]⟩
abbrev S512x128 : Shape := ⟨2, ![512, 128]⟩
abbrev S1x512x1536 : Shape := ⟨3, ![1, 512, 1536]⟩
abbrev S512x1024 : Shape := ⟨2, ![512, 1024]⟩
abbrev S512 : Shape := ⟨1, ![512]⟩
abbrev S512x1 : Shape := ⟨2, ![512, 1]⟩
abbrev S512x2176 : Shape := ⟨2, ![512, 2176]⟩
abbrev S512x1536 : Shape := ⟨2, ![512, 1536]⟩
abbrev S512x256 : Shape := ⟨2, ![512, 256]⟩
abbrev S1x512x128 : Shape := ⟨3, ![1, 512, 128]⟩

abbrev nBuf : Space → Nat
  | .hbm => 115
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S16x6x1x1024, .f32⟩
  | .hbm, ⟨2, _⟩ => ⟨S1024, .f32⟩
  | .hbm, ⟨3, _⟩ => ⟨S1024x1952, .f32⟩
  | .hbm, ⟨4, _⟩ => ⟨S256, .f32⟩
  | .hbm, ⟨5, _⟩ => ⟨S256x768, .f32⟩
  | .hbm, ⟨6, _⟩ => ⟨S128, .f32⟩
  | .hbm, ⟨7, _⟩ => ⟨S128x1024, .f32⟩
  | .hbm, ⟨8, _⟩ => ⟨S1024x32, .f32⟩
  | .hbm, ⟨9, _⟩ => ⟨S1024x384, .f32⟩
  | .hbm, ⟨10, _⟩ => ⟨S_, .f32⟩
  | .hbm, ⟨11, _⟩ => ⟨S1024x64, .f32⟩
  | .hbm, ⟨12, _⟩ => ⟨S_, .f32⟩
  | .hbm, ⟨13, _⟩ => ⟨S1024x32, .f32⟩
  | .hbm, ⟨14, _⟩ => ⟨S_, .f32⟩
  | .hbm, ⟨15, _⟩ => ⟨S1024x64, .f32⟩
  | .hbm, ⟨16, _⟩ => ⟨S1024x8, .f32⟩
  | .hbm, ⟨17, _⟩ => ⟨S1024x8, .f32⟩
  | .hbm, ⟨18, _⟩ => ⟨S1024x8, .f32⟩
  | .hbm, ⟨19, _⟩ => ⟨S1024x8, .f32⟩
  | .hbm, ⟨20, _⟩ => ⟨S1024x8, .f32⟩
  | .hbm, ⟨21, _⟩ => ⟨S1024x8, .f32⟩
  | .hbm, ⟨22, _⟩ => ⟨S1024x32, .f32⟩
  | .hbm, ⟨23, _⟩ => ⟨S_, .f32⟩
  | .hbm, ⟨24, _⟩ => ⟨S1024x32, .f32⟩
  | .hbm, ⟨25, _⟩ => ⟨S1024x1536, .f32⟩
  | .hbm, ⟨26, _⟩ => ⟨S1024x2176, .f32⟩
  | .hbm, ⟨27, _⟩ => ⟨S1024x2176, .bf16⟩
  | .hbm, ⟨28, _⟩ => ⟨S256x8x96, .f32⟩
  | .hbm, ⟨29, _⟩ => ⟨S_, .f32⟩
  | .hbm, ⟨30, _⟩ => ⟨S256x8x32, .f32⟩
  | .hbm, ⟨31, _⟩ => ⟨S256x8x128, .f32⟩
  | .hbm, ⟨32, _⟩ => ⟨S256x1024, .f32⟩
  | .hbm, ⟨33, _⟩ => ⟨S256x1024, .bf16⟩
  | .hbm, ⟨34, _⟩ => ⟨S256x8x32, .f32⟩
  | .hbm, ⟨35, _⟩ => ⟨S2048x32, .f32⟩
  | .hbm, ⟨36, _⟩ => ⟨S_, .f32⟩
  | .hbm, ⟨37, _⟩ => ⟨S256x8x64, .f32⟩
  | .hbm, ⟨38, _⟩ => ⟨S2048x8, .f32⟩
  | .hbm, ⟨39, _⟩ => ⟨S2048x8, .f32⟩
  | .hbm, ⟨40, _⟩ => ⟨S2048x8, .f32⟩
  | .hbm, ⟨41, _⟩ => ⟨S2048x8, .f32⟩
  | .hbm, ⟨42, _⟩ => ⟨S2048x8, .f32⟩
  | .hbm, ⟨43, _⟩ => ⟨S2048x8, .f32⟩
  | .hbm, ⟨44, _⟩ => ⟨S2048x32, .f32⟩
  | .hbm, ⟨45, _⟩ => ⟨S256x8x32, .f32⟩
  | .hbm, ⟨46, _⟩ => ⟨S256x8x128, .f32⟩
  | .hbm, ⟨47, _⟩ => ⟨S256x1024, .f32⟩
  | .hbm, ⟨48, _⟩ => ⟨S256x1024, .bf16⟩
  | .hbm, ⟨49, _⟩ => ⟨S128x8x128, .f32⟩
  | .hbm, ⟨50, _⟩ => ⟨S_, .f32⟩
  | .hbm, ⟨51, _⟩ => ⟨S128x8x64, .f32⟩
  | .hbm, ⟨52, _⟩ => ⟨S128x8x64, .f32⟩
  | .hbm, ⟨53, _⟩ => ⟨S128x8x128, .f32⟩
  | .hbm, ⟨54, _⟩ => ⟨S128x1024, .f32⟩
  | .hbm, ⟨55, _⟩ => ⟨S128x1024, .bf16⟩
  | .hbm, ⟨56, _⟩ => ⟨S_, .f32⟩
  | .hbm, ⟨57, _⟩ => ⟨S128x8x64, .f32⟩
  | .hbm, ⟨58, _⟩ => ⟨S128x8x64, .f32⟩
  | .hbm, ⟨59, _⟩ => ⟨S128x8x128, .f32⟩
  | .hbm, ⟨60, _⟩ => ⟨S128x1024, .f32⟩
  | .hbm, ⟨61, _⟩ => ⟨S128x1024, .bf16⟩
  | .hbm, ⟨62, _⟩ => ⟨S64, .i32⟩
  | .hbm, ⟨63, _⟩ => ⟨S64x64, .i32⟩
  | .hbm, ⟨64, _⟩ => ⟨S4096, .i32⟩
  | .hbm, ⟨65, _⟩ => ⟨S4096, .f32⟩
  | .hbm, ⟨66, _⟩ => ⟨S64, .i32⟩
  | .hbm, ⟨67, _⟩ => ⟨S1x64, .i32⟩
  | .hbm, ⟨68, _⟩ => ⟨S64x64, .i32⟩
  | .hbm, ⟨69, _⟩ => ⟨S4096, .i32⟩
  | .hbm, ⟨70, _⟩ => ⟨S4096, .f32⟩
  | .hbm, ⟨71, _⟩ => ⟨S8, .f32⟩
  | .hbm, ⟨72, _⟩ => ⟨S8, .f32⟩
  | .hbm, ⟨73, _⟩ => ⟨S_, .f32⟩
  | .hbm, ⟨74, _⟩ => ⟨S8, .f32⟩
  | .hbm, ⟨75, _⟩ => ⟨S8, .f32⟩
  | .hbm, ⟨76, _⟩ => ⟨S_, .f32⟩
  | .hbm, ⟨77, _⟩ => ⟨S8, .f32⟩
  | .hbm, ⟨78, _⟩ => ⟨S8, .f32⟩
  | .hbm, ⟨79, _⟩ => ⟨S4096x1, .f32⟩
  | .hbm, ⟨80, _⟩ => ⟨S1x8, .f32⟩
  | .hbm, ⟨81, _⟩ => ⟨S4096x8, .f32⟩
  | .hbm, ⟨82, _⟩ => ⟨S4096x8, .f32⟩
  | .hbm, ⟨83, _⟩ => ⟨S4096x8, .f32⟩
  | .hbm, ⟨84, _⟩ => ⟨S4096x1, .f32⟩
  | .hbm, ⟨85, _⟩ => ⟨S1x8, .f32⟩
  | .hbm, ⟨86, _⟩ => ⟨S4096x8, .f32⟩
  | .hbm, ⟨87, _⟩ => ⟨S4096x8, .f32⟩
  | .hbm, ⟨88, _⟩ => ⟨S4096x8, .f32⟩
  | .hbm, ⟨89, _⟩ => ⟨S_, .f32⟩
  | .hbm, ⟨90, _⟩ => ⟨S4096x64, .f32⟩
  | .hbm, ⟨91, _⟩ => ⟨S4096x8, .f32⟩
  | .hbm, ⟨92, _⟩ => ⟨S4096x8, .f32⟩
  | .hbm, ⟨93, _⟩ => ⟨S4096x8, .f32⟩
  | .hbm, ⟨94, _⟩ => ⟨S4096x8, .f32⟩
  | .hbm, ⟨95, _⟩ => ⟨S_, .f32⟩
  | .hbm, ⟨96, _⟩ => ⟨S4096x32, .f32⟩
  | .hbm, ⟨97, _⟩ => ⟨S4096x128, .f32⟩
  | .hbm, ⟨98, _⟩ => ⟨S_, .f32⟩
  | .hbm, ⟨99, _⟩ => ⟨S4096x64, .f32⟩
  | .hbm, ⟨100, _⟩ => ⟨S4096x64, .f32⟩
  | .hbm, ⟨101, _⟩ => ⟨S4096x8, .f32⟩
  | .hbm, ⟨102, _⟩ => ⟨S4096x8, .f32⟩
  | .hbm, ⟨103, _⟩ => ⟨S4096x8, .f32⟩
  | .hbm, ⟨104, _⟩ => ⟨S4096x8, .f32⟩
  | .hbm, ⟨105, _⟩ => ⟨S_, .f32⟩
  | .hbm, ⟨106, _⟩ => ⟨S4096x32, .f32⟩
  | .hbm, ⟨107, _⟩ => ⟨S4096x128, .f32⟩
  | .hbm, ⟨108, _⟩ => ⟨S1x1024, .f32⟩
  | .hbm, ⟨109, _⟩ => ⟨S1x256, .f32⟩
  | .hbm, ⟨110, _⟩ => ⟨S1x128, .f32⟩
  | .hbm, ⟨111, _⟩ => ⟨S8x4096x1024, .bf16⟩
  | .hbm, ⟨112, _⟩ => ⟨S8x4096x1024, .bf16⟩
  | .hbm, ⟨113, _⟩ => ⟨S8x4096x1024, .bf16⟩
  | .hbm, ⟨114, _⟩ => ⟨S8x4096x1536, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1024, .f32⟩
  | .local _ .vmem, ⟨7, _⟩ => ⟨S1024x2176, .bf16⟩
  | .local _ .vmem, ⟨8, _⟩ => ⟨S1x256, .f32⟩
  | .local _ .vmem, ⟨9, _⟩ => ⟨S256x1024, .bf16⟩
  | .local _ .vmem, ⟨10, _⟩ => ⟨S256x1024, .bf16⟩
  | .local _ .vmem, ⟨11, _⟩ => ⟨S1x128, .f32⟩
  | .local _ .vmem, ⟨12, _⟩ => ⟨S128x1024, .bf16⟩
  | .local _ .vmem, ⟨13, _⟩ => ⟨S128x1024, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x1536, .f32⟩
  | .local _ .vmem, ⟨25, _⟩ => ⟨S1x512x1536, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_7 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_9 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_10 : Ref sig .tc := ⟨.hbm, 95, rfl⟩
abbrev main_v76 : Ref sig .tc := ⟨.hbm, 96, rfl⟩
abbrev main_v77 : Ref sig .tc := ⟨.hbm, 97, rfl⟩
abbrev main_cst_11 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_12 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89_0 : Ref sig .tc := ⟨.hbm, 111, rfl⟩
abbrev main_v89_1 : Ref sig .tc := ⟨.hbm, 112, rfl⟩
abbrev main_v89_2 : Ref sig .tc := ⟨.hbm, 113, rfl⟩
abbrev main_v89_3 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2176 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1536 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference6Ideal.lean ====
abbrev S8x4096x1024 : Shape := ⟨3, ![8, 4096, 1024]⟩
abbrev S16x6x1x1024 : Shape := ⟨4, ![16, 6, 1, 1024]⟩
abbrev S1024 : Shape := ⟨1, ![1024]⟩
abbrev S1024x1952 : Shape := ⟨2, ![1024, 1952]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S4096x1 : Shape := ⟨2, ![4096, 1]⟩
abbrev S4096x2 : Shape := ⟨2, ![4096, 2]⟩
abbrev S4096x2x1 : Shape := ⟨3, ![4096, 2, 1]⟩
abbrev S8 : Shape := ⟨1, ![8]⟩
abbrev S_ : Shape := ⟨0, ![]⟩
abbrev S1x1x8 : Shape := ⟨3, ![1, 1, 8]⟩
abbrev S4096x2x8 : Shape := ⟨3, ![4096, 2, 8]⟩
abbrev S8x6x1x1024 : Shape := ⟨4, ![8, 6, 1, 1024]⟩
abbrev S8x6x1024 : Shape := ⟨3, ![8, 6, 1024]⟩
abbrev S8x1x1024 : Shape := ⟨3, ![8, 1, 1024]⟩
abbrev S8x1024 : Shape := ⟨2, ![8, 1024]⟩
abbrev S8x4096 : Shape := ⟨2, ![8, 4096]⟩
abbrev S8x4096x1 : Shape := ⟨3, ![8, 4096, 1]⟩
abbrev S1x1x1024 : Shape := ⟨3, ![1, 1, 1024]⟩
abbrev S8x4096x1952 : Shape := ⟨3, ![8, 4096, 1952]⟩
abbrev S8x4096x256 : Shape := ⟨3, ![8, 4096, 256]⟩
abbrev S1x1x256 : Shape := ⟨3, ![1, 1, 256]⟩
abbrev S8x4096x768 : Shape := ⟨3, ![8, 4096, 768]⟩
abbrev S8x4096x8x96 : Shape := ⟨4, ![8, 4096, 8, 96]⟩
abbrev S8x4096x128 : Shape := ⟨3, ![8, 4096, 128]⟩
abbrev S1x1x128 : Shape := ⟨3, ![1, 1, 128]⟩
abbrev S8x4096x8x128 : Shape := ⟨4, ![8, 4096, 8, 128]⟩
abbrev S8x4096x8x64 : Shape := ⟨4, ![8, 4096, 8, 64]⟩
abbrev S8x4096x8x32 : Shape := ⟨4, ![8, 4096, 8, 32]⟩
abbrev S4096x1x2x8 : Shape := ⟨4, ![4096, 1, 2, 8]⟩
abbrev S8x4096x8x8 : Shape := ⟨4, ![8, 4096, 8, 8]⟩
abbrev S4096x1x1x8 : Shape := ⟨4, ![4096, 1, 1, 8]⟩
abbrev S4096x1x8 : Shape := ⟨3, ![4096, 1, 8]⟩
abbrev S1x4096x1x8 : Shape := ⟨4, ![1, 4096, 1, 8]⟩
abbrev S8x4096x32 : Shape := ⟨3, ![8, 4096, 32]⟩
abbrev S8x4096x8 : Shape := ⟨3, ![8, 4096, 8]⟩
abbrev S4096x8 : Shape := ⟨2, ![4096, 8]⟩
abbrev S1x4096x8 : Shape := ⟨3, ![1, 4096, 8]⟩
abbrev S8x4096x1x32 : Shape := ⟨4, ![8, 4096, 1, 32]⟩
abbrev S8x4096x1536 : Shape := ⟨3, ![8, 4096, 1536]⟩

abbrev nBuf : Space → Nat
  | .hbm => 214
  | .vmem => 0
  | .smem => 0
  | _ => 0

abbrev hbmTy0_0 (i : Nat) : BufTy := match i % 128 with
  | 0 => ⟨S8x4096x1024, .f32⟩
  | 1 => ⟨S16x6x1x1024, .f32⟩
  | 2 => ⟨S1024, .f32⟩
  | 3 => ⟨S1024x1952, .f32⟩
  | 4 => ⟨S256, .f32⟩
  | 5 => ⟨S256x768, .f32⟩
  | 6 => ⟨S128, .f32⟩
  | 7 => ⟨S128x1024, .f32⟩
  | 8 => ⟨S64, .i32⟩
  | 9 => ⟨S64x64, .i32⟩
  | 10 => ⟨S4096, .i32⟩
  | 11 => ⟨S4096, .f32⟩
  | 12 => ⟨S64, .i32⟩
  | 13 => ⟨S1x64, .i32⟩
  | 14 => ⟨S64x64, .i32⟩
  | 15 => ⟨S4096, .i32⟩
  | 16 => ⟨S4096, .f32⟩
  | 17 => ⟨S4096x1, .f32⟩
  | 18 => ⟨S4096x1, .f32⟩
  | 19 => ⟨S4096x2, .f32⟩
  | 20 => ⟨S4096x2x1, .f32⟩
  | 21 => ⟨S8, .f32⟩
  | 22 => ⟨S8, .f32⟩
  | 23 => ⟨S_, .f32⟩
  | 24 => ⟨S8, .f32⟩
  | 25 => ⟨S8, .f32⟩
  | 26 => ⟨S_, .f32⟩
  | 27 => ⟨S8, .f32⟩
  | 28 => ⟨S8, .f32⟩
  | 29 => ⟨S1x1x8, .f32⟩
  | 30 => ⟨S4096x2x8, .f32⟩
  | 31 => ⟨S4096x2x8, .f32⟩
  | 32 => ⟨S4096x2x8, .f32⟩
  | 33 => ⟨S4096x2x8, .f32⟩
  | 34 => ⟨S4096x2x8, .f32⟩
  | 35 => ⟨S8x6x1x1024, .f32⟩
  | 36 => ⟨S8x6x1024, .f32⟩
  | 37 => ⟨S8x1x1024, .f32⟩
  | 38 => ⟨S8x1024, .f32⟩
  | 39 => ⟨S8x1x1024, .f32⟩
  | 40 => ⟨S8x1x1024, .f32⟩
  | 41 => ⟨S8x1024, .f32⟩
  | 42 => ⟨S8x1x1024, .f32⟩
  | 43 => ⟨S8x4096x1024, .f32⟩
  | 44 => ⟨S_, .f32⟩
  | 45 => ⟨S8x4096, .f32⟩
  | 46 => ⟨S8x4096x1, .f32⟩
  | 47 => ⟨S_, .f32⟩
  | 48 => ⟨S8x4096x1, .f32⟩
  | 49 => ⟨S8x4096x1, .f32⟩
  | 50 => ⟨S_, .f32⟩
  | 51 => ⟨S8x4096x1, .f32⟩
  | 52 => ⟨S8x4096x1, .f32⟩
  | 53 => ⟨S8x4096x1, .f32⟩
  | 54 => ⟨S8x4096x1024, .f32⟩
  | 55 => ⟨S8x4096x1024, .f32⟩
  | 56 => ⟨S1x1x1024, .f32⟩
  | 57 => ⟨S8x4096x1024, .f32⟩
  | 58 => ⟨S8x4096x1024, .f32⟩
  | 59 => ⟨S_, .f32⟩
  | 60 => ⟨S8x1x1024, .f32⟩
  | 61 => ⟨S8x1x1024, .f32⟩
  | 62 => ⟨S8x4096x1024, .f32⟩
  | 63 => ⟨S8x4096x1024, .f32⟩
  | 64 => ⟨S8x4096x1024, .f32⟩
  | 65 => ⟨S8x4096x1024, .f32⟩
  | 66 => ⟨S8x4096x1952, .f32⟩
  | 67 => ⟨S8x4096x256, .f32⟩
  | 68 => ⟨S8x4096x256, .f32⟩
  | 69 => ⟨S_, .f32⟩
  | 70 => ⟨S8x4096, .f32⟩
  | 71 => ⟨S8x4096x1, .f32⟩
  | 72 => ⟨S_, .f32⟩
  | 73 => ⟨S8x4096x1, .f32⟩
  | 74 => ⟨S8x4096x1, .f32⟩
  | 75 => ⟨S_, .f32⟩
  | 76 => ⟨S8x4096x1, .f32⟩
  | 77 => ⟨S8x4096x1, .f32⟩
  | 78 => ⟨S8x4096x1, .f32⟩
  | 79 => ⟨S8x4096x256, .f32⟩
  | 80 => ⟨S8x4096x256, .f32⟩
  | 81 => ⟨S1x1x256, .f32⟩
  | 82 => ⟨S8x4096x256, .f32⟩
  | 83 => ⟨S8x4096x256, .f32⟩
  | 84 => ⟨S8x4096x768, .f32⟩
  | 85 => ⟨S8x4096x8x96, .f32⟩
  | 86 => ⟨S8x4096x128, .f32⟩
  | 87 => ⟨S8x4096x128, .f32⟩
  | 88 => ⟨S_, .f32⟩
  | 89 => ⟨S8x4096, .f32⟩
  | 90 => ⟨S8x4096x1, .f32⟩
  | 91 => ⟨S_, .f32⟩
  | 92 => ⟨S8x4096x1, .f32⟩
  | 93 => ⟨S8x4096x1, .f32⟩
  | 94 => ⟨S_, .f32⟩
  | 95 => ⟨S8x4096x1, .f32⟩
  | 96 => ⟨S8x4096x1, .f32⟩
  | 97 => ⟨S8x4096x1, .f32⟩
  | 98 => ⟨S8x4096x128, .f32⟩
  | 99 => ⟨S8x4096x128, .f32⟩
  | 100 => ⟨S1x1x128, .f32⟩
  | 101 => ⟨S8x4096x128, .f32⟩
  | 102 => ⟨S8x4096x128, .f32⟩
  | 103 => ⟨S8x4096x1024, .f32⟩
  | 104 => ⟨S8x4096x8x128, .f32⟩
  | 105 => ⟨S8x4096x8x64, .f32⟩
  | 106 => ⟨S8x4096x8x32, .f32⟩
  | 107 => ⟨S4096x1x2x8, .f32⟩
  | 108 => ⟨S4096x1x2x8, .f32⟩
  | 109 => ⟨S8x4096x8x8, .f32⟩
  | 110 => ⟨S8x4096x8x8, .f32⟩
  | 111 => ⟨S8x4096x8x8, .f32⟩
  | 112 => ⟨S8x4096x8x8, .f32⟩
  | 113 => ⟨S4096x1x1x8, .f32⟩
  | 114 => ⟨S4096x1x8, .f32⟩
  | 115 => ⟨S4096x1x1x8, .f32⟩
  | 116 => ⟨S4096x1x8, .f32⟩
  | 117 => ⟨S4096x1x1x8, .f32⟩
  | 118 => ⟨S4096x1x8, .f32⟩
  | 119 => ⟨S4096x1x1x8, .f32⟩
  | 120 => ⟨S4096x1x8, .f32⟩
  | 121 => ⟨S1x4096x1x8, .f32⟩
  | 122 => ⟨S8x4096x8x8, .f32⟩
  | 123 => ⟨S8x4096x8x8, .f32⟩
  | 124 => ⟨S1x4096x1x8, .f32⟩
  | 125 => ⟨S8x4096x8x8, .f32⟩
  | 126 => ⟨S8x4096x8x8, .f32⟩
  | 127 => ⟨S8x4096x8x8, .f32⟩
  | _ => ⟨S8x4096x1024, .f32⟩

abbrev hbmTy0_1 (i : Nat) : BufTy := match i % 128 with
  | 0 => ⟨S1x4096x1x8, .f32⟩
  | 1 => ⟨S8x4096x8x8, .f32⟩
  | 2 => ⟨S8x4096x8x8, .f32⟩
  | 3 => ⟨S1x4096x1x8, .f32⟩
  | 4 => ⟨S8x4096x8x8, .f32⟩
  | 5 => ⟨S8x4096x8x8, .f32⟩
  | 6 => ⟨S8x4096x8x8, .f32⟩
  | 7 => ⟨S1x4096x1x8, .f32⟩
  | 8 => ⟨S8x4096x8x8, .f32⟩
  | 9 => ⟨S8x4096x8x8, .f32⟩
  | 10 => ⟨S1x4096x1x8, .f32⟩
  | 11 => ⟨S8x4096x8x8, .f32⟩
  | 12 => ⟨S8x4096x8x8, .f32⟩
  | 13 => ⟨S8x4096x8x8, .f32⟩
  | 14 => ⟨S1x4096x1x8, .f32⟩
  | 15 => ⟨S8x4096x8x8, .f32⟩
  | 16 => ⟨S8x4096x8x8, .f32⟩
  | 17 => ⟨S1x4096x1x8, .f32⟩
  | 18 => ⟨S8x4096x8x8, .f32⟩
  | 19 => ⟨S8x4096x8x8, .f32⟩
  | 20 => ⟨S8x4096x8x8, .f32⟩
  | 21 => ⟨S8x4096x8x32, .f32⟩
  | 22 => ⟨S8x4096x8x96, .f32⟩
  | 23 => ⟨S_, .f32⟩
  | 24 => ⟨S8x4096x8x96, .f32⟩
  | 25 => ⟨S8x4096x8x96, .f32⟩
  | 26 => ⟨S8x4096x32, .f32⟩
  | 27 => ⟨S8x4096x8, .f32⟩
  | 28 => ⟨S8x4096x8, .f32⟩
  | 29 => ⟨S8x4096x8, .f32⟩
  | 30 => ⟨S8x4096x8, .f32⟩
  | 31 => ⟨S4096x1x8, .f32⟩
  | 32 => ⟨S4096x8, .f32⟩
  | 33 => ⟨S4096x1x8, .f32⟩
  | 34 => ⟨S4096x8, .f32⟩
  | 35 => ⟨S4096x1x8, .f32⟩
  | 36 => ⟨S4096x8, .f32⟩
  | 37 => ⟨S4096x1x8, .f32⟩
  | 38 => ⟨S4096x8, .f32⟩
  | 39 => ⟨S1x4096x8, .f32⟩
  | 40 => ⟨S8x4096x8, .f32⟩
  | 41 => ⟨S8x4096x8, .f32⟩
  | 42 => ⟨S1x4096x8, .f32⟩
  | 43 => ⟨S8x4096x8, .f32⟩
  | 44 => ⟨S8x4096x8, .f32⟩
  | 45 => ⟨S8x4096x8, .f32⟩
  | 46 => ⟨S1x4096x8, .f32⟩
  | 47 => ⟨S8x4096x8, .f32⟩
  | 48 => ⟨S8x4096x8, .f32⟩
  | 49 => ⟨S1x4096x8, .f32⟩
  | 50 => ⟨S8x4096x8, .f32⟩
  | 51 => ⟨S8x4096x8, .f32⟩
  | 52 => ⟨S8x4096x8, .f32⟩
  | 53 => ⟨S1x4096x8, .f32⟩
  | 54 => ⟨S8x4096x8, .f32⟩
  | 55 => ⟨S8x4096x8, .f32⟩
  | 56 => ⟨S1x4096x8, .f32⟩
  | 57 => ⟨S8x4096x8, .f32⟩
  | 58 => ⟨S8x4096x8, .f32⟩
  | 59 => ⟨S8x4096x8, .f32⟩
  | 60 => ⟨S1x4096x8, .f32⟩
  | 61 => ⟨S8x4096x8, .f32⟩
  | 62 => ⟨S8x4096x8, .f32⟩
  | 63 => ⟨S1x4096x8, .f32⟩
  | 64 => ⟨S8x4096x8, .f32⟩
  | 65 => ⟨S8x4096x8, .f32⟩
  | 66 => ⟨S8x4096x8, .f32⟩
  | 67 => ⟨S8x4096x32, .f32⟩
  | 68 => ⟨S8x4096x1x32, .f32⟩
  | 69 => ⟨S8x4096x8x32, .f32⟩
  | 70 => ⟨S_, .f32⟩
  | 71 => ⟨S8x4096x8x64, .f32⟩
  | 72 => ⟨S8x4096x8x32, .f32⟩
  | 73 => ⟨S8x4096x8x128, .f32⟩
  | 74 => ⟨S8x4096x1024, .f32⟩
  | 75 => ⟨S8x4096x1024, .bf16⟩
  | 76 => ⟨S8x4096x8x64, .f32⟩
  | 77 => ⟨S8x4096x8x32, .f32⟩
  | 78 => ⟨S8x4096x8x128, .f32⟩
  | 79 => ⟨S8x4096x1024, .f32⟩
  | 80 => ⟨S8x4096x1024, .bf16⟩
  | 81 => ⟨S8x4096x8x64, .f32⟩
  | 82 => ⟨S8x4096x8x128, .f32⟩
  | 83 => ⟨S8x4096x1024, .f32⟩
  | 84 => ⟨S8x4096x1024, .bf16⟩
  | 85 => ⟨S8x4096x1536, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_1 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_5 : Ref sig .tc := ⟨.hbm, 69, rfl⟩
abbrev main_v55 : Ref sig .tc := ⟨.hbm, 70, rfl⟩
abbrev main_v56 : Ref sig .tc := ⟨.hbm, 71, rfl⟩
abbrev main_cst_6 : Ref sig .tc := ⟨.hbm, 72, rfl⟩
abbrev main_v57 : Ref sig .tc := ⟨.hbm, 73, rfl⟩
abbrev main_v58 : Ref sig .tc := ⟨.hbm, 74, rfl⟩
abbrev main_cst_7 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_8 : Ref sig .tc := ⟨.hbm, 88, rfl⟩
abbrev main_v71 : Ref sig .tc := ⟨.hbm, 89, rfl⟩
abbrev main_v72 : Ref sig .tc := ⟨.hbm, 90, rfl⟩
abbrev main_cst_9 : Ref sig .tc := ⟨.hbm, 91, rfl⟩
abbrev main_v73 : Ref sig .tc := ⟨.hbm, 92, rfl⟩
abbrev main_v74 : Ref sig .tc := ⟨.hbm, 93, rfl⟩
abbrev main_cst_10 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_cst_11 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_cst_12 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩

abbrev nD : Nat := 1
abbrev τ : Topo := Topo.v7x

variable {F : FTy → Type} [FloatOps F]
-- ==== Kernel7.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S16x1024 : Shape := ⟨2, ![16, 1024]⟩
abbrev S1 : Shape := ⟨1, ![1]⟩
abbrev S2x1x6144 : Shape := ⟨3, ![2, 1, 6144]⟩
abbrev S2x16x6144 : Shape := ⟨3, ![2, 16, 6144]⟩
abbrev S1x1024x512 : Shape := ⟨3, ![1, 1024, 512]⟩
abbrev S1x1x512 : Shape := ⟨3, ![1, 1, 512]⟩
abbrev S1x16x512 : Shape := ⟨3, ![1, 16, 512]⟩
abbrev S1024x512 : Shape := ⟨2, ![1024, 512]⟩
abbrev S16x512 : Shape := ⟨2, ![16, 512]⟩
abbrev S1x512 : Shape := ⟨2, ![1, 512]⟩

abbrev nBuf : Space → Nat
  | .hbm => 14
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S_, .f32⟩
  | .hbm, ⟨5, _⟩ => ⟨S16x1024, .f32⟩
  | .hbm, ⟨6, _⟩ => ⟨S_, .i32⟩
  | .hbm, ⟨7, _⟩ => ⟨S1, .i32⟩
  | .hbm, ⟨8, _⟩ => ⟨S16x1024, .f32⟩
  | .hbm, ⟨9, _⟩ => ⟨S_, .i32⟩
  | .hbm, ⟨10, _⟩ => ⟨S1, .i32⟩
  | .hbm, ⟨11, _⟩ => ⟨S16x1024, .f32⟩
  | .hbm, ⟨12, _⟩ => ⟨S2x1x6144, .f32⟩
  | .hbm, ⟨13, _⟩ => ⟨S2x16x6144, .f32⟩
  | .local _ .vmem, ⟨0, _⟩ => ⟨S16x1024, .f32⟩
  | .local _ .vmem, ⟨1, _⟩ => ⟨S1x1024x512, .f32⟩
  | .local _ .vmem, ⟨2, _⟩ => ⟨S1x1024x512, .f32⟩
  | .local _ .vmem, ⟨3, _⟩ => ⟨S1x1x512, .f32⟩
  | .local _ .vmem, ⟨4, _⟩ => ⟨S1x1x512, .f32⟩
  | .local _ .vmem, ⟨5, _⟩ => ⟨S1x16x512, .f32⟩
  | .local _ .vmem, ⟨6, _⟩ => ⟨S1x16x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S16x2x6144 : Shape := ⟨3, ![16, 2, 6144]⟩
abbrev S1x2x6144 : Shape := ⟨3, ![1, 2, 6144]⟩
abbrev S2x16x6144 : Shape := ⟨3, ![2, 16, 6144]⟩

abbrev nBuf : Space → Nat
  | .hbm => 22
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S16x2x6144, .f32⟩
  | .hbm, ⟨18, _⟩ => ⟨S1x2x6144, .f32⟩
  | .hbm, ⟨19, _⟩ => ⟨S16x2x6144, .f32⟩
  | .hbm, ⟨20, _⟩ => ⟨S16x2x6144, .f32⟩
  | .hbm, ⟨21, _⟩ => ⟨S2x16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Kernel8.lean ====
abbrev S8x4096x1536 : Shape := ⟨3, ![8, 4096, 1536]⟩
abbrev S3x1536 : Shape := ⟨2, ![3, 1536]⟩
abbrev S1536 : Shape := ⟨1, ![1536]⟩
abbrev S1x1536 : Shape := ⟨2, ![1, 1536]⟩
abbrev S1x4096x256 : Shape := ⟨3, ![1, 4096, 256]⟩
abbrev S3x256 : Shape := ⟨2, ![3, 256]⟩
abbrev S1x256 : Shape := ⟨2, ![1, 256]⟩
abbrev S4096x256 : Shape := ⟨2, ![4096, 256]⟩

abbrev nBuf : Space → Nat
  | .hbm => 6
  | .vmem => 10
  | .smem => 0
  | _ => 0

abbrev bufTy : (tb : Table) → Fin (tcTables nBuf tb) → BufTy
  | .hbm, ⟨0, _⟩ => ⟨S8x4096x1536, .f32⟩
  | .hbm, ⟨1, _⟩ => ⟨S3x1536, .f32⟩
  | .hbm, ⟨2, _⟩ => ⟨S1536, .f32⟩
  | .hbm, ⟨3, _⟩ => ⟨S1x1536, .f32⟩
  | .hbm, ⟨4, _⟩ => ⟨S8x4096x1536, .f32⟩
  | .hbm, ⟨5, _⟩ => ⟨S8x4096x1536, .bf16⟩
  | .local _ .vmem, ⟨0, _⟩ => ⟨S1x4096x256, .f32⟩
  | .local _ .vmem, ⟨1, _⟩ => ⟨S1x4096x256, .f32⟩
  | .local _ .vmem, ⟨2, _⟩ => ⟨S3x256, .f32⟩
  | .local _ .vmem, ⟨3, _⟩ => ⟨S3x256, .f32⟩
  | .local _ .vmem, ⟨4, _⟩ => ⟨S1x256, .f32⟩
  | .local _ .vmem, ⟨5, _⟩ => ⟨S1x256, .f32⟩
  | .local _ .vmem, ⟨6, _⟩ => ⟨S1x4096x256, .f32⟩
  | .local _ .vmem, ⟨7, _⟩ => ⟨S1x4096x256, .f32⟩
  | .local _ .vmem, ⟨8, _⟩ => ⟨S1x4096x256, .bf16⟩
  | .local _ .vmem, ⟨9, _⟩ => ⟨S1x4096x256, .bf16⟩
  | _, _ => ⟨S8x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S8x4096x1536 : Shape := ⟨3, ![8, 4096, 1536]⟩
abbrev S3x1536 : Shape := ⟨2, ![3, 1536]⟩
abbrev S1536 : Shape := ⟨1, ![1536]⟩
abbrev S_ : Shape := ⟨0, ![]⟩
abbrev S8x4098x1536 : Shape := ⟨3, ![8, 4098, 1536]⟩
abbrev S1x1536 : Shape := ⟨2, ![1, 1536]⟩
abbrev S1x1x1536 : Shape := ⟨3, ![1, 1, 1536]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x1536, .f32⟩
  | .hbm, ⟨1, _⟩ => ⟨S3x1536, .f32⟩
  | .hbm, ⟨2, _⟩ => ⟨S1536, .f32⟩
  | .hbm, ⟨3, _⟩ => ⟨S_, .i32⟩
  | .hbm, ⟨4, _⟩ => ⟨S_, .f32⟩
  | .hbm, ⟨5, _⟩ => ⟨S8x4098x1536, .f32⟩
  | .hbm, ⟨6, _⟩ => ⟨S8x4096x1536, .f32⟩
  | .hbm, ⟨7, _⟩ => ⟨S1x1536, .f32⟩
  | .hbm, ⟨8, _⟩ => ⟨S1536, .f32⟩
  | .hbm, ⟨9, _⟩ => ⟨S1x1x1536, .f32⟩
  | .hbm, ⟨10, _⟩ => ⟨S8x4096x1536, .f32⟩
  | .hbm, ⟨11, _⟩ => ⟨S8x4096x1536, .f32⟩
  | .hbm, ⟨12, _⟩ => ⟨S8x4096x1536, .f32⟩
  | .hbm, ⟨13, _⟩ => ⟨S1x1536, .f32⟩
  | .hbm, ⟨14, _⟩ => ⟨S1536, .f32⟩
  | .hbm, ⟨15, _⟩ => ⟨S1x1x1536, .f32⟩
  | .hbm, ⟨16, _⟩ => ⟨S8x4096x1536, .f32⟩
  | .hbm, ⟨17, _⟩ => ⟨S8x4096x1536, .f32⟩
  | .hbm, ⟨18, _⟩ => ⟨S8x4096x1536, .f32⟩
  | .hbm, ⟨19, _⟩ => ⟨S8x4096x1536, .f32⟩
  | .hbm, ⟨20, _⟩ => ⟨S1x1536, .f32⟩
  | .hbm, ⟨21, _⟩ => ⟨S1536, .f32⟩
  | .hbm, ⟨22, _⟩ => ⟨S1x1x1536, .f32⟩
  | .hbm, ⟨23, _⟩ => ⟨S8x4096x1536, .f32⟩
  | .hbm, ⟨24, _⟩ => ⟨S8x4096x1536, .f32⟩
  | .hbm, ⟨25, _⟩ => ⟨S8x4096x1536, .f32⟩
  | .hbm, ⟨26, _⟩ => ⟨S1x1x1536, .f32⟩
  | .hbm, ⟨27, _⟩ => ⟨S8x4096x1536, .f32⟩
  | .hbm, ⟨28, _⟩ => ⟨S8x4096x1536, .f32⟩
  | .hbm, ⟨29, _⟩ => ⟨S8x4096x1536, .bf16⟩
  | _, _ => ⟨S8x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Kernel9.lean ====
abbrev S8x2x4096x512 : Shape := ⟨4, ![8, 2, 4096, 512]⟩
abbrev S8x4096x1536 : Shape := ⟨3, ![8, 4096, 1536]⟩
abbrev S512 : Shape := ⟨1, ![512]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S1x512 : Shape := ⟨2, ![1, 512]⟩
abbrev S8x4096x512 : Shape := ⟨3, ![8, 4096, 512]⟩
abbrev S1x2x4096x512 : Shape := ⟨4, ![1, 2, 4096, 512]⟩
abbrev S512x4096 : Shape := ⟨2, ![512, 4096]⟩
abbrev S1x512x512 : Shape := ⟨3, ![1, 512, 512]⟩
abbrev S1x1x4096x512 : Shape := ⟨4, ![1, 1, 4096, 512]⟩
abbrev S4096x512 : Shape := ⟨2, ![4096, 512]⟩
abbrev S512x512 : Shape := ⟨2, ![512, 512]⟩

abbrev nBuf : Space → Nat
  | .hbm => 91
  | .vmem => 15
  | .smem => 0
  | _ => 0

abbrev bufTy : (tb : Table) → Fin (tcTables nBuf tb) → BufTy
  | .hbm, ⟨0, _⟩ => ⟨S8x2x4096x512, .bf16⟩
  | .hbm, ⟨1, _⟩ => ⟨S8x4096x1536, .f32⟩
  | .hbm, ⟨2, _⟩ => ⟨S512, .f32⟩
  | .hbm, ⟨3, _⟩ => ⟨S4096, .i32⟩
  | .hbm, ⟨4, _⟩ => ⟨S4096x1, .i32⟩
  | .hbm, ⟨5, _⟩ => ⟨S1x4096, .i32⟩
  | .hbm, ⟨6, _⟩ => ⟨S4096x4096, .i32⟩
  | .hbm, ⟨7, _⟩ => ⟨S4096x4096, .i32⟩
  | .hbm, ⟨8, _⟩ => ⟨S4096x4096, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i1⟩
  | .hbm, ⟨20, _⟩ => ⟨S_, .i32⟩
  | .hbm, ⟨21, _⟩ => ⟨S4096x4096, .i32⟩
  | .hbm, ⟨22, _⟩ => ⟨S4096x4096, .i1⟩
  | .hbm, ⟨23, _⟩ => ⟨S_, .i32⟩
  | .hbm, ⟨24, _⟩ => ⟨S_, .i1⟩
  | .hbm, ⟨25, _⟩ => ⟨S4096x4096, .i1⟩
  | .hbm, ⟨26, _⟩ => ⟨S4096x4096, .i1⟩
  | .hbm, ⟨27, _⟩ => ⟨S4096x4096, .i1⟩
  | .hbm, ⟨28, _⟩ => ⟨S4096x4096, .i32⟩
  | .hbm, ⟨29, _⟩ => ⟨S4096x4096, .i32⟩
  | .hbm, ⟨30, _⟩ => ⟨S4096x4096, .i32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i1⟩
  | .hbm, ⟨50, _⟩ => ⟨S_, .i32⟩
  | .hbm, ⟨51, _⟩ => ⟨S_, .i1⟩
  | .hbm, ⟨52, _⟩ => ⟨S4096, .i1⟩
  | .hbm, ⟨53, _⟩ => ⟨S4096, .i1⟩
  | .hbm, ⟨54, _⟩ => ⟨S4096, .i1⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S_, .i32⟩
  | .hbm, ⟨59, _⟩ => ⟨S4096, .i32⟩
  | .hbm, ⟨60, _⟩ => ⟨S4096, .i1⟩
  | .hbm, ⟨61, _⟩ => ⟨S_, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S4096, .f32⟩
  | .hbm, ⟨66, _⟩ => ⟨S4096, .f32⟩
  | .hbm, ⟨67, _⟩ => ⟨S4096x4096, .f32⟩
  | .hbm, ⟨68, _⟩ => ⟨S4096x4096, .f32⟩
  | .hbm, ⟨69, _⟩ => ⟨S4096x1, .i32⟩
  | .hbm, ⟨70, _⟩ => ⟨S_, .i32⟩
  | .hbm, ⟨71, _⟩ => ⟨S4096x1, .i32⟩
  | .hbm, ⟨72, _⟩ => ⟨S4096x1, .i1⟩
  | .hbm, ⟨73, _⟩ => ⟨S1x4096, .f32⟩
  | .hbm, ⟨74, _⟩ => ⟨S4096x4096, .i1⟩
  | .hbm, ⟨75, _⟩ => ⟨S4096x4096, .f32⟩
  | .hbm, ⟨76, _⟩ => ⟨S4096x4096, .f32⟩
  | .hbm, ⟨77, _⟩ => ⟨S1x4096, .i32⟩
  | .hbm, ⟨78, _⟩ => ⟨S_, .i32⟩
  | .hbm, ⟨79, _⟩ => ⟨S1x4096, .i32⟩
  | .hbm, ⟨80, _⟩ => ⟨S1x4096, .i1⟩
  | .hbm, ⟨81, _⟩ => ⟨S4096x1, .f32⟩
  | .hbm, ⟨82, _⟩ => ⟨S4096x4096, .i1⟩
  | .hbm, ⟨83, _⟩ => ⟨S4096x4096, .f32⟩
  | .hbm, ⟨84, _⟩ => ⟨S4096x4096, .f32⟩
  | .hbm, ⟨85, _⟩ => ⟨S4096x4096, .bf16⟩
  | .hbm, ⟨86, _⟩ => ⟨S4096x4096, .bf16⟩
  | .hbm, ⟨87, _⟩ => ⟨S4096x4096, .bf16⟩
  | .hbm, ⟨88, _⟩ => ⟨S1x512, .f32⟩
  | .hbm, ⟨89, _⟩ => ⟨S8x4096x512, .f32⟩
  | .hbm, ⟨90, _⟩ => ⟨S8x4096x512, .bf16⟩
  | .local _ .vmem, ⟨0, _⟩ => ⟨S1x2x4096x512, .bf16⟩
  | .local _ .vmem, ⟨1, _⟩ => ⟨S1x2x4096x512, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .bf16⟩
  | .local _ .vmem, ⟨14, _⟩ => ⟨S1x512x512, .bf16⟩
  | _, _ => ⟨S8x2x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_0 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_v5 : Ref sig .tc := ⟨.hbm, 45, rfl⟩
abbrev main_call1_v6 : Ref sig .tc := ⟨.hbm, 46, rfl⟩
abbrev main_call1_c_2 : Ref sig .tc := ⟨.hbm, 47, rfl⟩
abbrev main_call1_v7 : Ref sig .tc := ⟨.hbm, 48, rfl⟩
abbrev main_call1_v8 : Ref sig .tc := ⟨.hbm, 49, rfl⟩
abbrev main_call1_c_3 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_v11 : Ref sig .tc := ⟨.hbm, 57, rfl⟩
abbrev main_c_1 : Ref sig .tc := ⟨.hbm, 58, rfl⟩
abbrev main_v12 : Ref sig .tc := ⟨.hbm, 59, rfl⟩
abbrev main_v13 : Ref sig .tc := ⟨.hbm, 60, rfl⟩
abbrev main_cst_2 : Ref sig .tc := ⟨.hbm, 61, rfl⟩
abbrev main_cst_3 : Ref sig .tc := ⟨.hbm, 62, rfl⟩
abbrev main_call2_v0 : Ref sig .tc := ⟨.hbm, 63, rfl⟩
abbrev main_call2_v1 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_c_4 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_call3_v0 : Ref sig .tc := ⟨.hbm, 74, rfl⟩
abbrev main_call3_v1 : Ref sig .tc := ⟨.hbm, 75, rfl⟩
abbrev main_v22 : Ref sig .tc := ⟨.hbm, 76, rfl⟩
abbrev main_v23 : Ref sig .tc := ⟨.hbm, 77, rfl⟩
abbrev main_c_5 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_call4_v0 : Ref sig .tc := ⟨.hbm, 82, rfl⟩
abbrev main_call4_v1 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32_0 : Ref sig .tc := ⟨.hbm, 89, rfl⟩
abbrev main_v32_1 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference9Ideal.lean ====
abbrev S8x2x4096x512 : Shape := ⟨4, ![8, 2, 4096, 512]⟩
abbrev S8x4096x1536 : Shape := ⟨3, ![8, 4096, 1536]⟩
abbrev S512 : Shape := ⟨1, ![512]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x1x4096x512 : Shape := ⟨4, ![8, 1, 4096, 512]⟩
abbrev S8x4096x512 : Shape := ⟨3, ![8, 4096, 512]⟩
abbrev S8x512x4096 : Shape := ⟨3, ![8, 512, 4096]⟩
abbrev S8x1x512 : Shape := ⟨3, ![8, 1, 512]⟩
abbrev S1x4096x1 : Shape := ⟨3, ![1, 4096, 1]⟩
abbrev S1x1x512 : Shape := ⟨3, ![1, 1, 512]⟩

abbrev nBuf : Space → Nat
  | .hbm => 95
  | .vmem => 0
  | .smem => 0
  | _ => 0

abbrev bufTy : (tb : Table) → Fin (tcTables nBuf tb) → BufTy
  | .hbm, ⟨0, _⟩ => ⟨S8x2x4096x512, .bf16⟩
  | .hbm, ⟨1, _⟩ => ⟨S8x4096x1536, .f32⟩
  | .hbm, ⟨2, _⟩ => ⟨S512, .f32⟩
  | .hbm, ⟨3, _⟩ => ⟨S4096, .i32⟩
  | .hbm, ⟨4, _⟩ => ⟨S4096x1, .i32⟩
  | .hbm, ⟨5, _⟩ => ⟨S1x4096, .i32⟩
  | .hbm, ⟨6, _⟩ => ⟨S4096x4096, .i32⟩
  | .hbm, ⟨7, _⟩ => ⟨S4096x4096, .i32⟩
  | .hbm, ⟨8, _⟩ => ⟨S4096x4096, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S4096x4096, .i32⟩
  | .hbm, ⟨19, _⟩ => ⟨S4096x4096, .i1⟩
  | .hbm, ⟨20, _⟩ => ⟨S_, .i32⟩
  | .hbm, ⟨21, _⟩ => ⟨S4096x4096, .i32⟩
  | .hbm, ⟨22, _⟩ => ⟨S4096x4096, .i1⟩
  | .hbm, ⟨23, _⟩ => ⟨S_, .i32⟩
  | .hbm, ⟨24, _⟩ => ⟨S_, .i1⟩
  | .hbm, ⟨25, _⟩ => ⟨S4096x4096, .i1⟩
  | .hbm, ⟨26, _⟩ => ⟨S4096x4096, .i1⟩
  | .hbm, ⟨27, _⟩ => ⟨S4096x4096, .i1⟩
  | .hbm, ⟨28, _⟩ => ⟨S4096x4096, .i32⟩
  | .hbm, ⟨29, _⟩ => ⟨S4096x4096, .i32⟩
  | .hbm, ⟨30, _⟩ => ⟨S4096x4096, .i32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S8x1x4096x512, .bf16⟩
  | .hbm, ⟨36, _⟩ => ⟨S8x4096x512, .bf16⟩
  | .hbm, ⟨37, _⟩ => ⟨S8x4096x512, .f32⟩
  | .hbm, ⟨38, _⟩ => ⟨S8x1x4096x512, .bf16⟩
  | .hbm, ⟨39, _⟩ => ⟨S8x4096x512, .bf16⟩
  | .hbm, ⟨40, _⟩ => ⟨S8x4096x512, .f32⟩
  | .hbm, ⟨41, _⟩ => ⟨S4096x4096, .f32⟩
  | .hbm, ⟨42, _⟩ => ⟨S8x512x4096, .f32⟩
  | .hbm, ⟨43, _⟩ => ⟨S8x4096x512, .f32⟩
  | .hbm, ⟨44, _⟩ => ⟨S4096x4096, .f32⟩
  | .hbm, ⟨45, _⟩ => ⟨S4096x4096, .f32⟩
  | .hbm, ⟨46, _⟩ => ⟨S8x512x4096, .f32⟩
  | .hbm, ⟨47, _⟩ => ⟨S8x4096x512, .f32⟩
  | .hbm, ⟨48, _⟩ => ⟨S8x4096x512, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S_, .i1⟩
  | .hbm, ⟨65, _⟩ => ⟨S4096, .i1⟩
  | .hbm, ⟨66, _⟩ => ⟨S4096, .i1⟩
  | .hbm, ⟨67, _⟩ => ⟨S4096, .i1⟩
  | .hbm, ⟨68, _⟩ => ⟨S4096, .i32⟩
  | .hbm, ⟨69, _⟩ => ⟨S4096, .i32⟩
  | .hbm, ⟨70, _⟩ => ⟨S4096, .i32⟩
  | .hbm, ⟨71, _⟩ => ⟨S_, .i32⟩
  | .hbm, ⟨72, _⟩ => ⟨S4096, .i32⟩
  | .hbm, ⟨73, _⟩ => ⟨S4096, .i1⟩
  | .hbm, ⟨74, _⟩ => ⟨S_, .f32⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S4096, .f32⟩
  | .hbm, ⟨79, _⟩ => ⟨S4096x1, .f32⟩
  | .hbm, ⟨80, _⟩ => ⟨S8x1x512, .f32⟩
  | .hbm, ⟨81, _⟩ => ⟨S4096x1, .f32⟩
  | .hbm, ⟨82, _⟩ => ⟨S1x4096x1, .f32⟩
  | .hbm, ⟨83, _⟩ => ⟨S8x4096x512, .f32⟩
  | .hbm, ⟨84, _⟩ => ⟨S8x4096x512, .f32⟩
  | .hbm, ⟨85, _⟩ => ⟨S8x4096x512, .f32⟩
  | .hbm, ⟨86, _⟩ => ⟨S8x4096x512, .f32⟩
  | .hbm, ⟨87, _⟩ => ⟨S8x4096x512, .f32⟩
  | .hbm, ⟨88, _⟩ => ⟨S8x4096x512, .f32⟩
  | .hbm, ⟨89, _⟩ => ⟨S1x1x512, .f32⟩
  | .hbm, ⟨90, _⟩ => ⟨S8x4096x512, .f32⟩
  | .hbm, ⟨91, _⟩ => ⟨S8x4096x512, .f32⟩
  | .hbm, ⟨92, _⟩ => ⟨S8x4096x512, .f32⟩
  | .hbm, ⟨93, _⟩ => ⟨S8x4096x512, .f32⟩
  | .hbm, ⟨94, _⟩ => ⟨S8x4096x512, .bf16⟩
  | _, _ => ⟨S8x2x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_0 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_c_1 : Ref sig .tc := ⟨.hbm, 57, rfl⟩
abbrev main_call1_v5 : Ref sig .tc := ⟨.hbm, 58, rfl⟩
abbrev main_call1_v6 : Ref sig .tc := ⟨.hbm, 59, rfl⟩
abbrev main_call1_c_2 : Ref sig .tc := ⟨.hbm, 60, rfl⟩
abbrev main_call1_v7 : Ref sig .tc := ⟨.hbm, 61, rfl⟩
abbrev main_call1_v8 : Ref sig .tc := ⟨.hbm, 62, rfl⟩
abbrev main_call1_c_3 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_v24 : Ref sig .tc := ⟨.hbm, 70, rfl⟩
abbrev main_c_1 : Ref sig .tc := ⟨.hbm, 71, rfl⟩
abbrev main_v25 : Ref sig .tc := ⟨.hbm, 72, rfl⟩
abbrev main_v26 : Ref sig .tc := ⟨.hbm, 73, rfl⟩
abbrev main_cst_2 : Ref sig .tc := ⟨.hbm, 74, rfl⟩
abbrev main_cst_3 : Ref sig .tc := ⟨.hbm, 75, rfl⟩
abbrev main_call2_v0 : Ref sig .tc := ⟨.hbm, 76, rfl⟩
abbrev main_call2_v1 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩

abbrev nD : Nat := 1
abbrev τ : Topo := Topo.v7x

variable {F : FTy → Type} [FloatOps F]
-- ==== Kernel10.lean ====
abbrev S8x4096x1536 : Shape := ⟨3, ![8, 4096, 1536]⟩
abbrev S2x4096x512 : Shape := ⟨3, ![2, 4096, 512]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x2x4096x512 : Shape := ⟨4, ![8, 2, 4096, 512]⟩
abbrev S1x4096x512 : Shape := ⟨3, ![1, 4096, 512]⟩
abbrev S512x4096 : Shape := ⟨2, ![512, 4096]⟩
abbrev S2x512x512 : Shape := ⟨3, ![2, 512, 512]⟩
abbrev S1x2x512x512 : Shape := ⟨4, ![1, 2, 512, 512]⟩
abbrev S4096x512 : Shape := ⟨2, ![4096, 512]⟩
abbrev S512x512 : Shape := ⟨2, ![512, 512]⟩
abbrev S1x512x512 : Shape := ⟨3, ![1, 512, 512]⟩
abbrev S512x1 : Shape := ⟨2, ![512, 1]⟩
abbrev S1x1x512x512 : Shape := ⟨4, ![1, 1, 512, 512]⟩

abbrev nBuf : Space → Nat
  | .hbm => 88
  | .vmem => 10
  | .smem => 0
  | _ => 0

abbrev bufTy : (tb : Table) → Fin (tcTables nBuf tb) → BufTy
  | .hbm, ⟨0, _⟩ => ⟨S8x4096x1536, .bf16⟩
  | .hbm, ⟨1, _⟩ => ⟨S2x4096x512, .f32⟩
  | .hbm, ⟨2, _⟩ => ⟨S4096, .i32⟩
  | .hbm, ⟨3, _⟩ => ⟨S4096x1, .i32⟩
  | .hbm, ⟨4, _⟩ => ⟨S1x4096, .i32⟩
  | .hbm, ⟨5, _⟩ => ⟨S4096x4096, .i32⟩
  | .hbm, ⟨6, _⟩ => ⟨S4096x4096, .i32⟩
  | .hbm, ⟨7, _⟩ => ⟨S4096x4096, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S_, .i32⟩
  | .hbm, ⟨17, _⟩ => ⟨S4096x4096, .i32⟩
  | .hbm, ⟨18, _⟩ => ⟨S4096x4096, .i1⟩
  | .hbm, ⟨19, _⟩ => ⟨S_, .i32⟩
  | .hbm, ⟨20, _⟩ => ⟨S4096x4096, .i32⟩
  | .hbm, ⟨21, _⟩ => ⟨S4096x4096, .i1⟩
  | .hbm, ⟨22, _⟩ => ⟨S_, .i32⟩
  | .hbm, ⟨23, _⟩ => ⟨S_, .i1⟩
  | .hbm, ⟨24, _⟩ => ⟨S4096x4096, .i1⟩
  | .hbm, ⟨25, _⟩ => ⟨S4096x4096, .i1⟩
  | .hbm, ⟨26, _⟩ => ⟨S4096x4096, .i1⟩
  | .hbm, ⟨27, _⟩ => ⟨S4096x4096, .i32⟩
  | .hbm, ⟨28, _⟩ => ⟨S4096x4096, .i32⟩
  | .hbm, ⟨29, _⟩ => ⟨S4096x4096, .i32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i1⟩
  | .hbm, ⟨49, _⟩ => ⟨S_, .i32⟩
  | .hbm, ⟨50, _⟩ => ⟨S_, .i1⟩
  | .hbm, ⟨51, _⟩ => ⟨S4096, .i1⟩
  | .hbm, ⟨52, _⟩ => ⟨S4096, .i1⟩
  | .hbm, ⟨53, _⟩ => ⟨S4096, .i1⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S_, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S4096, .f32⟩
  | .hbm, ⟨65, _⟩ => ⟨S4096, .f32⟩
  | .hbm, ⟨66, _⟩ => ⟨S4096x4096, .f32⟩
  | .hbm, ⟨67, _⟩ => ⟨S4096x4096, .f32⟩
  | .hbm, ⟨68, _⟩ => ⟨S4096x1, .i32⟩
  | .hbm, ⟨69, _⟩ => ⟨S_, .i32⟩
  | .hbm, ⟨70, _⟩ => ⟨S4096x1, .i32⟩
  | .hbm, ⟨71, _⟩ => ⟨S4096x1, .i1⟩
  | .hbm, ⟨72, _⟩ => ⟨S1x4096, .f32⟩
  | .hbm, ⟨73, _⟩ => ⟨S4096x4096, .i1⟩
  | .hbm, ⟨74, _⟩ => ⟨S4096x4096, .f32⟩
  | .hbm, ⟨75, _⟩ => ⟨S4096x4096, .f32⟩
  | .hbm, ⟨76, _⟩ => ⟨S1x4096, .i32⟩
  | .hbm, ⟨77, _⟩ => ⟨S_, .i32⟩
  | .hbm, ⟨78, _⟩ => ⟨S1x4096, .i32⟩
  | .hbm, ⟨79, _⟩ => ⟨S1x4096, .i1⟩
  | .hbm, ⟨80, _⟩ => ⟨S4096x1, .f32⟩
  | .hbm, ⟨81, _⟩ => ⟨S4096x4096, .i1⟩
  | .hbm, ⟨82, _⟩ => ⟨S4096x4096, .f32⟩
  | .hbm, ⟨83, _⟩ => ⟨S4096x4096, .f32⟩
  | .hbm, ⟨84, _⟩ => ⟨S4096x4096, .bf16⟩
  | .hbm, ⟨85, _⟩ => ⟨S4096x4096, .bf16⟩
  | .hbm, ⟨86, _⟩ => ⟨S4096x4096, .bf16⟩
  | .hbm, ⟨87, _⟩ => ⟨S8x2x4096x512, .bf16⟩
  | .local _ .vmem, ⟨0, _⟩ => ⟨S1x4096x512, .bf16⟩
  | .local _ .vmem, ⟨1, _⟩ => ⟨S1x4096x512, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S2x512x512, .f32⟩
  | .local _ .vmem, ⟨7, _⟩ => ⟨S2x512x512, .f32⟩
  | .local _ .vmem, ⟨8, _⟩ => ⟨S1x2x512x512, .bf16⟩
  | .local _ .vmem, ⟨9, _⟩ => ⟨S1x2x512x512, .bf16⟩
  | _, _ => ⟨S8x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c_0 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v11 : Ref sig .tc := ⟨.hbm, 56, rfl⟩
abbrev main_c_1 : Ref sig .tc := ⟨.hbm, 57, rfl⟩
abbrev main_v12 : Ref sig .tc := ⟨.hbm, 58, rfl⟩
abbrev main_v13 : Ref sig .tc := ⟨.hbm, 59, rfl⟩
abbrev main_cst_2 : Ref sig .tc := ⟨.hbm, 60, rfl⟩
abbrev main_cst_3 : Ref sig .tc := ⟨.hbm, 61, rfl⟩
abbrev main_call2_v0 : Ref sig .tc := ⟨.hbm, 62, rfl⟩
abbrev main_call2_v1 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_c_4 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_call3_v0 : Ref sig .tc := ⟨.hbm, 73, rfl⟩
abbrev main_call3_v1 : Ref sig .tc := ⟨.hbm, 74, rfl⟩
abbrev main_v22 : Ref sig .tc := ⟨.hbm, 75, rfl⟩
abbrev main_v23 : Ref sig .tc := ⟨.hbm, 76, rfl⟩
abbrev main_c_5 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_call4_v0 : Ref sig .tc := ⟨.hbm, 81, rfl⟩
abbrev main_call4_v1 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S8x4096x1536 : Shape := ⟨3, ![8, 4096, 1536]⟩
abbrev S2x4096x512 : Shape := ⟨3, ![2, 4096, 512]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S8x4096x512 : Shape := ⟨3, ![8, 4096, 512]⟩
abbrev S8x512x4096 : Shape := ⟨3, ![8, 512, 4096]⟩
abbrev S8x512 : Shape := ⟨2, ![8, 512]⟩
abbrev S8x1x512 : Shape := ⟨3, ![8, 1, 512]⟩
abbrev S1x4096x512 : Shape := ⟨3, ![1, 4096, 512]⟩
abbrev S4096x512 : Shape := ⟨2, ![4096, 512]⟩
abbrev S1x4096x1 : Shape := ⟨3, ![1, 4096, 1]⟩
abbrev S8x1x4096x512 : Shape := ⟨4, ![8, 1, 4096, 512]⟩
abbrev S8x2x4096x512 : Shape := ⟨4, ![8, 2, 4096, 512]⟩

abbrev nBuf : Space → Nat
  | .hbm => 126
  | .vmem => 0
  | .smem => 0
  | _ => 0

abbrev bufTy : (tb : Table) → Fin (tcTables nBuf tb) → BufTy
  | .hbm, ⟨0, _⟩ => ⟨S8x4096x1536, .bf16⟩
  | .hbm, ⟨1, _⟩ => ⟨S2x4096x512, .f32⟩
  | .hbm, ⟨2, _⟩ => ⟨S4096, .i32⟩
  | .hbm, ⟨3, _⟩ => ⟨S4096x1, .i32⟩
  | .hbm, ⟨4, _⟩ => ⟨S1x4096, .i32⟩
  | .hbm, ⟨5, _⟩ => ⟨S4096x4096, .i32⟩
  | .hbm, ⟨6, _⟩ => ⟨S4096x4096, .i32⟩
  | .hbm, ⟨7, _⟩ => ⟨S4096x4096, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S_, .i32⟩
  | .hbm, ⟨17, _⟩ => ⟨S4096x4096, .i32⟩
  | .hbm, ⟨18, _⟩ => ⟨S4096x4096, .i1⟩
  | .hbm, ⟨19, _⟩ => ⟨S_, .i32⟩
  | .hbm, ⟨20, _⟩ => ⟨S4096x4096, .i32⟩
  | .hbm, ⟨21, _⟩ => ⟨S4096x4096, .i1⟩
  | .hbm, ⟨22, _⟩ => ⟨S_, .i32⟩
  | .hbm, ⟨23, _⟩ => ⟨S_, .i1⟩
  | .hbm, ⟨24, _⟩ => ⟨S4096x4096, .i1⟩
  | .hbm, ⟨25, _⟩ => ⟨S4096x4096, .i1⟩
  | .hbm, ⟨26, _⟩ => ⟨S4096x4096, .i1⟩
  | .hbm, ⟨27, _⟩ => ⟨S4096x4096, .i32⟩
  | .hbm, ⟨28, _⟩ => ⟨S4096x4096, .i32⟩
  | .hbm, ⟨29, _⟩ => ⟨S4096x4096, .i32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S8x4096x512, .bf16⟩
  | .hbm, ⟨35, _⟩ => ⟨S8x4096x512, .f32⟩
  | .hbm, ⟨36, _⟩ => ⟨S4096x4096, .f32⟩
  | .hbm, ⟨37, _⟩ => ⟨S8x512x4096, .f32⟩
  | .hbm, ⟨38, _⟩ => ⟨S8x4096x512, .f32⟩
  | .hbm, ⟨39, _⟩ => ⟨S4096x4096, .f32⟩
  | .hbm, ⟨40, _⟩ => ⟨S4096x4096, .f32⟩
  | .hbm, ⟨41, _⟩ => ⟨S8x512x4096, .f32⟩
  | .hbm, ⟨42, _⟩ => ⟨S8x4096x512, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S4096, .i32⟩
  | .hbm, ⟨50, _⟩ => ⟨S4096, .i32⟩
  | .hbm, ⟨51, _⟩ => ⟨S_, .i32⟩
  | .hbm, ⟨52, _⟩ => ⟨S4096, .i32⟩
  | .hbm, ⟨53, _⟩ => ⟨S4096, .i1⟩
  | .hbm, ⟨54, _⟩ => ⟨S_, .i32⟩
  | .hbm, ⟨55, _⟩ => ⟨S4096, .i32⟩
  | .hbm, ⟨56, _⟩ => ⟨S4096, .i1⟩
  | .hbm, ⟨57, _⟩ => ⟨S_, .i32⟩
  | .hbm, ⟨58, _⟩ => ⟨S_, .i1⟩
  | .hbm, ⟨59, _⟩ => ⟨S4096, .i1⟩
  | .hbm, ⟨60, _⟩ => ⟨S4096, .i1⟩
  | .hbm, ⟨61, _⟩ => ⟨S4096, .i1⟩
  | .hbm, ⟨62, _⟩ => ⟨S4096, .i32⟩
  | .hbm, ⟨63, _⟩ => ⟨S4096, .i32⟩
  | .hbm, ⟨64, _⟩ => ⟨S4096, .i32⟩
  | .hbm, ⟨65, _⟩ => ⟨S_, .i32⟩
  | .hbm, ⟨66, _⟩ => ⟨S4096, .i32⟩
  | .hbm, ⟨67, _⟩ => ⟨S4096, .i1⟩
  | .hbm, ⟨68, _⟩ => ⟨S_, .f32⟩
  | .hbm, ⟨69, _⟩ => ⟨S_, .f32⟩
  | .hbm, ⟨70, _⟩ => ⟨S4096, .f32⟩
  | .hbm, ⟨71, _⟩ => ⟨S4096, .f32⟩
  | .hbm, ⟨72, _⟩ => ⟨S4096, .f32⟩
  | .hbm, ⟨73, _⟩ => ⟨S8x512, .f32⟩
  | .hbm, ⟨74, _⟩ => ⟨S8x1x512, .f32⟩
  | .hbm, ⟨75, _⟩ => ⟨S_, .i32⟩
  | .hbm, ⟨76, _⟩ => ⟨S4096, .i32⟩
  | .hbm, ⟨77, _⟩ => ⟨S4096, .i1⟩
  | .hbm, ⟨78, _⟩ => ⟨S4096x1, .i1⟩
  | .hbm, ⟨79, _⟩ => ⟨S1x4096x512, .f32⟩
  | .hbm, ⟨80, _⟩ => ⟨S4096x512, .f32⟩
  | .hbm, ⟨81, _⟩ => ⟨S1x4096x512, .f32⟩
  | .hbm, ⟨82, _⟩ => ⟨S8x4096x512, .f32⟩
  | .hbm, ⟨83, _⟩ => ⟨S8x4096x512, .f32⟩
  | .hbm, ⟨84, _⟩ => ⟨S1x4096x512, .f32⟩
  | .hbm, ⟨85, _⟩ => ⟨S4096x512, .f32⟩
  | .hbm, ⟨86, _⟩ => ⟨S1x4096x512, .f32⟩
  | .hbm, ⟨87, _⟩ => ⟨S8x4096x512, .f32⟩
  | .hbm, ⟨88, _⟩ => ⟨S8x4096x512, .f32⟩
  | .hbm, ⟨89, _⟩ => ⟨S8x4096x512, .f32⟩
  | .hbm, ⟨90, _⟩ => ⟨S1x4096x512, .f32⟩
  | .hbm, ⟨91, _⟩ => ⟨S4096x512, .f32⟩
  | .hbm, ⟨92, _⟩ => ⟨S1x4096x512, .f32⟩
  | .hbm, ⟨93, _⟩ => ⟨S8x4096x512, .f32⟩
  | .hbm, ⟨94, _⟩ => ⟨S8x4096x512, .f32⟩
  | .hbm, ⟨95, _⟩ => ⟨S8x4096x512, .f32⟩
  | .hbm, ⟨96, _⟩ => ⟨S1x4096x512, .f32⟩
  | .hbm, ⟨97, _⟩ => ⟨S4096x512, .f32⟩
  | .hbm, ⟨98, _⟩ => ⟨S1x4096x512, .f32⟩
  | .hbm, ⟨99, _⟩ => ⟨S8x4096x512, .f32⟩
  | .hbm, ⟨100, _⟩ => ⟨S8x4096x512, .f32⟩
  | .hbm, ⟨101, _⟩ => ⟨S1x4096x512, .f32⟩
  | .hbm, ⟨102, _⟩ => ⟨S4096x512, .f32⟩
  | .hbm, ⟨103, _⟩ => ⟨S1x4096x512, .f32⟩
  | .hbm, ⟨104, _⟩ => ⟨S8x4096x512, .f32⟩
  | .hbm, ⟨105, _⟩ => ⟨S8x4096x512, .f32⟩
  | .hbm, ⟨106, _⟩ => ⟨S8x4096x512, .f32⟩
  | .hbm, ⟨107, _⟩ => ⟨S8x4096x512, .i1⟩
  | .hbm, ⟨108, _⟩ => ⟨S8x4096x512, .f32⟩
  | .hbm, ⟨109, _⟩ => ⟨S_, .f32⟩
  | .hbm, ⟨110, _⟩ => ⟨S_, .f32⟩
  | .hbm, ⟨111, _⟩ => ⟨S4096x1, .f32⟩
  | .hbm, ⟨112, _⟩ => ⟨S4096x1, .f32⟩
  | .hbm, ⟨113, _⟩ => ⟨S4096x1, .f32⟩
  | .hbm, ⟨114, _⟩ => ⟨S4096x1, .f32⟩
  | .hbm, ⟨115, _⟩ => ⟨S1x4096x1, .f32⟩
  | .hbm, ⟨116, _⟩ => ⟨S8x4096x512, .f32⟩
  | .hbm, ⟨117, _⟩ => ⟨S8x4096x512, .f32⟩
  | .hbm, ⟨118, _⟩ => ⟨S4096x1, .f32⟩
  | .hbm, ⟨119, _⟩ => ⟨S1x4096x1, .f32⟩
  | .hbm, ⟨120, _⟩ => ⟨S8x4096x512, .f32⟩
  | .hbm, ⟨121, _⟩ => ⟨S8x4096x512, .f32⟩
  | .hbm, ⟨122, _⟩ => ⟨S8x1x4096x512, .f32⟩
  | .hbm, ⟨123, _⟩ => ⟨S8x1x4096x512, .f32⟩
  | .hbm, ⟨124, _⟩ => ⟨S8x2x4096x512, .f32⟩
  | .hbm, ⟨125, _⟩ => ⟨S8x2x4096x512, .bf16⟩
  | _, _ => ⟨S8x4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_0 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v19 : Ref sig .tc := ⟨.hbm, 64, rfl⟩
abbrev main_c_1 : Ref sig .tc := ⟨.hbm, 65, rfl⟩
abbrev main_v20 : Ref sig .tc := ⟨.hbm, 66, rfl⟩
abbrev main_v21 : Ref sig .tc := ⟨.hbm, 67, rfl⟩
abbrev main_cst_2 : Ref sig .tc := ⟨.hbm, 68, rfl⟩
abbrev main_cst_3 : Ref sig .tc := ⟨.hbm, 69, rfl⟩
abbrev main_call2_v0 : Ref sig .tc := ⟨.hbm, 70, rfl⟩
abbrev main_call2_v1 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_c_4 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_call3_v0 : Ref sig .tc := ⟨.hbm, 107, rfl⟩
abbrev main_v56 : Ref sig .tc := ⟨.hbm, 108, rfl⟩
abbrev main_cst_5 : Ref sig .tc := ⟨.hbm, 109, rfl⟩
abbrev main_cst_6 : Ref sig .tc := ⟨.hbm, 110, rfl⟩
abbrev main_call4_v0 : Ref sig .tc := ⟨.hbm, 111, rfl⟩
abbrev main_call4_v1 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩

abbrev nD : Nat := 1
abbrev τ : Topo := Topo.v7x

variable {F : FTy → Type} [FloatOps F]
-- ==== Kernel11.lean ====
abbrev S4096x2048 : Shape := ⟨2, ![4096, 2048]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S2x2x4096x512 : Shape := ⟨4, ![2, 2, 4096, 512]⟩
abbrev S4096x512 : Shape := ⟨2, ![4096, 512]⟩
abbrev S512x4096 : Shape := ⟨2, ![512, 4096]⟩
abbrev S1x2x512x512 : Shape := ⟨4, ![1, 2, 512, 512]⟩
abbrev S512x512 : Shape := ⟨2, ![512, 512]⟩
abbrev S1x1x512x512 : Shape := ⟨4, ![1, 1, 512, 512]⟩
abbrev S8x4096 : Shape := ⟨2, ![8, 4096]⟩
abbrev S8x512 : Shape := ⟨2, ![8, 512]⟩
abbrev S1x512 : Shape := ⟨2, ![1, 512]⟩
abbrev S512x1 : Shape := ⟨2, ![512, 1]⟩

abbrev nBuf : Space → Nat
  | .hbm => 87
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S4096x4096, .i32⟩
  | .hbm, ⟨5, _⟩ => ⟨S4096x4096, .i32⟩
  | .hbm, ⟨6, _⟩ => ⟨S4096x4096, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S4096x4096, .i32⟩
  | .hbm, ⟨14, _⟩ => ⟨S4096x4096, .i32⟩
  | .hbm, ⟨15, _⟩ => ⟨S_, .i32⟩
  | .hbm, ⟨16, _⟩ => ⟨S4096x4096, .i32⟩
  | .hbm, ⟨17, _⟩ => ⟨S4096x4096, .i1⟩
  | .hbm, ⟨18, _⟩ => ⟨S_, .i32⟩
  | .hbm, ⟨19, _⟩ => ⟨S4096x4096, .i32⟩
  | .hbm, ⟨20, _⟩ => ⟨S4096x4096, .i1⟩
  | .hbm, ⟨21, _⟩ => ⟨S_, .i32⟩
  | .hbm, ⟨22, _⟩ => ⟨S_, .i1⟩
  | .hbm, ⟨23, _⟩ => ⟨S4096x4096, .i1⟩
  | .hbm, ⟨24, _⟩ => ⟨S4096x4096, .i1⟩
  | .hbm, ⟨25, _⟩ => ⟨S4096x4096, .i1⟩
  | .hbm, ⟨26, _⟩ => ⟨S4096x4096, .i32⟩
  | .hbm, ⟨27, _⟩ => ⟨S4096x4096, .i32⟩
  | .hbm, ⟨28, _⟩ => ⟨S4096x4096, .i32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S_, .i32⟩
  | .hbm, ⟨43, _⟩ => ⟨S4096, .i32⟩
  | .hbm, ⟨44, _⟩ => ⟨S4096, .i1⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S_, .i32⟩
  | .hbm, ⟨49, _⟩ => ⟨S_, .i1⟩
  | .hbm, ⟨50, _⟩ => ⟨S4096, .i1⟩
  | .hbm, ⟨51, _⟩ => ⟨S4096, .i1⟩
  | .hbm, ⟨52, _⟩ => ⟨S4096, .i1⟩
  | .hbm, ⟨53, _⟩ => ⟨S4096, .i32⟩
  | .hbm, ⟨54, _⟩ => ⟨S4096, .i32⟩
  | .hbm, ⟨55, _⟩ => ⟨S4096, .i32⟩
  | .hbm, ⟨56, _⟩ => ⟨S_, .i32⟩
  | .hbm, ⟨57, _⟩ => ⟨S4096, .i32⟩
  | .hbm, ⟨58, _⟩ => ⟨S4096, .i1⟩
  | .hbm, ⟨59, _⟩ => ⟨S_, .f32⟩
  | .hbm, ⟨60, _⟩ => ⟨S_, .f32⟩
  | .hbm, ⟨61, _⟩ => ⟨S4096, .f32⟩
  | .hbm, ⟨62, _⟩ => ⟨S4096, .f32⟩
  | .hbm, ⟨63, _⟩ => ⟨S4096, .f32⟩
  | .hbm, ⟨64, _⟩ => ⟨S4096, .f32⟩
  | .hbm, ⟨65, _⟩ => ⟨S4096x4096, .f32⟩
  | .hbm, ⟨66, _⟩ => ⟨S4096x4096, .f32⟩
  | .hbm, ⟨67, _⟩ => ⟨S4096x1, .i32⟩
  | .hbm, ⟨68, _⟩ => ⟨S_, .i32⟩
  | .hbm, ⟨69, _⟩ => ⟨S4096x1, .i32⟩
  | .hbm, ⟨70, _⟩ => ⟨S4096x1, .i1⟩
  | .hbm, ⟨71, _⟩ => ⟨S1x4096, .f32⟩
  | .hbm, ⟨72, _⟩ => ⟨S4096x4096, .i1⟩
  | .hbm, ⟨73, _⟩ => ⟨S4096x4096, .f32⟩
  | .hbm, ⟨74, _⟩ => ⟨S4096x4096, .f32⟩
  | .hbm, ⟨75, _⟩ => ⟨S1x4096, .i32⟩
  | .hbm, ⟨76, _⟩ => ⟨S_, .i32⟩
  | .hbm, ⟨77, _⟩ => ⟨S1x4096, .i32⟩
  | .hbm, ⟨78, _⟩ => ⟨S1x4096, .i1⟩
  | .hbm, ⟨79, _⟩ => ⟨S4096x1, .f32⟩
  | .hbm, ⟨80, _⟩ => ⟨S4096x4096, .i1⟩
  | .hbm, ⟨81, _⟩ => ⟨S4096x4096, .f32⟩
  | .hbm, ⟨82, _⟩ => ⟨S4096x4096, .f32⟩
  | .hbm, ⟨83, _⟩ => ⟨S4096x4096, .bf16⟩
  | .hbm, ⟨84, _⟩ => ⟨S4096x4096, .bf16⟩
  | .hbm, ⟨85, _⟩ => ⟨S4096x4096, .bf16⟩
  | .hbm, ⟨86, _⟩ => ⟨S2x2x4096x512, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | .local _ .vmem, ⟨7, _⟩ => ⟨S512x4096, .bf16⟩
  | .local _ .vmem, ⟨8, _⟩ => ⟨S1x2x512x512, .f32⟩
  | .local _ .vmem, ⟨9, _⟩ => ⟨S1x2x512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_0 : Ref sig .tc := ⟨.hbm, 34, rfl⟩
abbrev main_call1_v0 : Ref sig .tc := ⟨.hbm, 35, rfl⟩
abbrev main_call1_c : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_v5 : Ref sig .tc := ⟨.hbm, 43, rfl⟩
abbrev main_call1_v6 : Ref sig .tc := ⟨.hbm, 44, rfl⟩
abbrev main_call1_c_2 : Ref sig .tc := ⟨.hbm, 45, rfl⟩
abbrev main_call1_v7 : Ref sig .tc := ⟨.hbm, 46, rfl⟩
abbrev main_call1_v8 : Ref sig .tc := ⟨.hbm, 47, rfl⟩
abbrev main_call1_c_3 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_v11 : Ref sig .tc := ⟨.hbm, 55, rfl⟩
abbrev main_c_1 : Ref sig .tc := ⟨.hbm, 56, rfl⟩
abbrev main_v12 : Ref sig .tc := ⟨.hbm, 57, rfl⟩
abbrev main_v13 : Ref sig .tc := ⟨.hbm, 58, rfl⟩
abbrev main_cst_2 : Ref sig .tc := ⟨.hbm, 59, rfl⟩
abbrev main_cst_3 : Ref sig .tc := ⟨.hbm, 60, rfl⟩
abbrev main_call2_v0 : Ref sig .tc := ⟨.hbm, 61, rfl⟩
abbrev main_call2_v1 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_c_4 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_call3_v0 : Ref sig .tc := ⟨.hbm, 72, rfl⟩
abbrev main_call3_v1 : Ref sig .tc := ⟨.hbm, 73, rfl⟩
abbrev main_v22 : Ref sig .tc := ⟨.hbm, 74, rfl⟩
abbrev main_v23 : Ref sig .tc := ⟨.hbm, 75, rfl⟩
abbrev main_c_5 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_call4_v0 : Ref sig .tc := ⟨.hbm, 80, rfl⟩
abbrev main_call4_v1 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S4096x2048 : Shape := ⟨2, ![4096, 2048]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x2x2x512 : Shape := ⟨4, ![4096, 2, 2, 512]⟩
abbrev S4096x2x1x512 : Shape := ⟨4, ![4096, 2, 1, 512]⟩
abbrev S4096x2x512 : Shape := ⟨3, ![4096, 2, 512]⟩
abbrev S2x512x4096 : Shape := ⟨3, ![2, 512, 4096]⟩
abbrev S2x4096x512 : Shape := ⟨3, ![2, 4096, 512]⟩
abbrev S2x512 : Shape := ⟨2, ![2, 512]⟩
abbrev S2x1x512 : Shape := ⟨3, ![2, 1, 512]⟩
abbrev S2x1x4096x512 : Shape := ⟨4, ![2, 1, 4096, 512]⟩
abbrev S2x2x4096x512 : Shape := ⟨4, ![2, 2, 4096, 512]⟩

abbrev nBuf : Space → Nat
  | .hbm => 88
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S4096x4096, .i32⟩
  | .hbm, ⟨5, _⟩ => ⟨S4096x4096, .i32⟩
  | .hbm, ⟨6, _⟩ => ⟨S4096x4096, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S4096x4096, .i32⟩
  | .hbm, ⟨14, _⟩ => ⟨S4096x4096, .i32⟩
  | .hbm, ⟨15, _⟩ => ⟨S_, .i32⟩
  | .hbm, ⟨16, _⟩ => ⟨S4096x4096, .i32⟩
  | .hbm, ⟨17, _⟩ => ⟨S4096x4096, .i1⟩
  | .hbm, ⟨18, _⟩ => ⟨S_, .i32⟩
  | .hbm, ⟨19, _⟩ => ⟨S4096x4096, .i32⟩
  | .hbm, ⟨20, _⟩ => ⟨S4096x4096, .i1⟩
  | .hbm, ⟨21, _⟩ => ⟨S_, .i32⟩
  | .hbm, ⟨22, _⟩ => ⟨S_, .i1⟩
  | .hbm, ⟨23, _⟩ => ⟨S4096x4096, .i1⟩
  | .hbm, ⟨24, _⟩ => ⟨S4096x4096, .i1⟩
  | .hbm, ⟨25, _⟩ => ⟨S4096x4096, .i1⟩
  | .hbm, ⟨26, _⟩ => ⟨S4096x4096, .i32⟩
  | .hbm, ⟨27, _⟩ => ⟨S4096x4096, .i32⟩
  | .hbm, ⟨28, _⟩ => ⟨S4096x4096, .i32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x2048, .f32⟩
  | .hbm, ⟨34, _⟩ => ⟨S4096x2x2x512, .f32⟩
  | .hbm, ⟨35, _⟩ => ⟨S4096x2x1x512, .f32⟩
  | .hbm, ⟨36, _⟩ => ⟨S4096x2x512, .f32⟩
  | .hbm, ⟨37, _⟩ => ⟨S4096x2x1x512, .f32⟩
  | .hbm, ⟨38, _⟩ => ⟨S4096x2x512, .f32⟩
  | .hbm, ⟨39, _⟩ => ⟨S4096x4096, .f32⟩
  | .hbm, ⟨40, _⟩ => ⟨S2x512x4096, .f32⟩
  | .hbm, ⟨41, _⟩ => ⟨S2x4096x512, .f32⟩
  | .hbm, ⟨42, _⟩ => ⟨S4096x4096, .f32⟩
  | .hbm, ⟨43, _⟩ => ⟨S4096x4096, .f32⟩
  | .hbm, ⟨44, _⟩ => ⟨S2x512x4096, .f32⟩
  | .hbm, ⟨45, _⟩ => ⟨S2x4096x512, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S_, .i32⟩
  | .hbm, ⟨55, _⟩ => ⟨S4096, .i32⟩
  | .hbm, ⟨56, _⟩ => ⟨S4096, .i1⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S_, .i32⟩
  | .hbm, ⟨61, _⟩ => ⟨S_, .i1⟩
  | .hbm, ⟨62, _⟩ => ⟨S4096, .i1⟩
  | .hbm, ⟨63, _⟩ => ⟨S4096, .i1⟩
  | .hbm, ⟨64, _⟩ => ⟨S4096, .i1⟩
  | .hbm, ⟨65, _⟩ => ⟨S4096, .i32⟩
  | .hbm, ⟨66, _⟩ => ⟨S4096, .i32⟩
  | .hbm, ⟨67, _⟩ => ⟨S4096, .i32⟩
  | .hbm, ⟨68, _⟩ => ⟨S_, .i32⟩
  | .hbm, ⟨69, _⟩ => ⟨S4096, .i32⟩
  | .hbm, ⟨70, _⟩ => ⟨S4096, .i1⟩
  | .hbm, ⟨71, _⟩ => ⟨S_, .f32⟩
  | .hbm, ⟨72, _⟩ => ⟨S_, .f32⟩
  | .hbm, ⟨73, _⟩ => ⟨S4096, .f32⟩
  | .hbm, ⟨74, _⟩ => ⟨S4096, .f32⟩
  | .hbm, ⟨75, _⟩ => ⟨S4096, .f32⟩
  | .hbm, ⟨76, _⟩ => ⟨S2x512, .f32⟩
  | .hbm, ⟨77, _⟩ => ⟨S2x1x512, .f32⟩
  | .hbm, ⟨78, _⟩ => ⟨S_, .i32⟩
  | .hbm, ⟨79, _⟩ => ⟨S4096, .i32⟩
  | .hbm, ⟨80, _⟩ => ⟨S4096, .i1⟩
  | .hbm, ⟨81, _⟩ => ⟨S4096x1, .i1⟩
  | .hbm, ⟨82, _⟩ => ⟨S2x4096x512, .i1⟩
  | .hbm, ⟨83, _⟩ => ⟨S2x4096x512, .f32⟩
  | .hbm, ⟨84, _⟩ => ⟨S2x4096x512, .f32⟩
  | .hbm, ⟨85, _⟩ => ⟨S2x1x4096x512, .f32⟩
  | .hbm, ⟨86, _⟩ => ⟨S2x1x4096x512, .f32⟩
  | .hbm, ⟨87, _⟩ => ⟨S2x2x4096x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_0 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c_1 : Ref sig .tc := ⟨.hbm, 54, rfl⟩
abbrev main_call1_v5 : Ref sig .tc := ⟨.hbm, 55, rfl⟩
abbrev main_call1_v6 : Ref sig .tc := ⟨.hbm, 56, rfl⟩
abbrev main_call1_c_2 : Ref sig .tc := ⟨.hbm, 57, rfl⟩
abbrev main_call1_v7 : Ref sig .tc := ⟨.hbm, 58, rfl⟩
abbrev main_call1_v8 : Ref sig .tc := ⟨.hbm, 59, rfl⟩
abbrev main_call1_c_3 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_v23 : Ref sig .tc := ⟨.hbm, 67, rfl⟩
abbrev main_c_1 : Ref sig .tc := ⟨.hbm, 68, rfl⟩
abbrev main_v24 : Ref sig .tc := ⟨.hbm, 69, rfl⟩
abbrev main_v25 : Ref sig .tc := ⟨.hbm, 70, rfl⟩
abbrev main_cst_2 : Ref sig .tc := ⟨.hbm, 71, rfl⟩
abbrev main_cst_3 : Ref sig .tc := ⟨.hbm, 72, rfl⟩
abbrev main_call2_v0 : Ref sig .tc := ⟨.hbm, 73, rfl⟩
abbrev main_call2_v1 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_c_4 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_call3_v0 : Ref sig .tc := ⟨.hbm, 82, rfl⟩
abbrev main_call3_v1 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩

abbrev nD : Nat := 1
abbrev τ : Topo := Topo.v7x

variable {F : FTy → Type} [FloatOps F]
-- ==== Proof.Attn.Payload.lean ====
/-
  The attention body's result at one element: with the query row, the key rows and the value rows of the block it loaded,
  the softmax-weighted sum of the values divided by the sum of the weights.
-/
module

public import proofs.«01_k».proof.Proof.Gen.KernelIdeal.Value
public import Idealize.ShloMosaic.Lib.MatmulPlain
public import Idealize.ShloMosaic.Lib.ValueIdx
public import Idealize.ShloMosaic.Lib.ValueIdxRank1
public import Idealize.ShloMosaic.PureOps.Ideal.Laws

@[expose] public section

noncomputable section

namespace Cert.Proof.Attn

open Cert.KernelIdeal Cert.KernelIdeal.Gen Idealize.ShloMosaic Idealize.ShloMosaic.ValueIdx
open scoped BigOperators

theorem zero_f32 : Ideal.ofBits .f32 0x00000000#32 = 0 := by simp [Ideal.ofBits, Ideal.ieee]
theorem neg_inf_f32 : Ideal.ofBits .f32 0xFF800000#32 = ⊥ := by simp [Ideal.ofBits, Ideal.ieee]
theorem inf_f32 : Ideal.ofBits .f32 0x7F800000#32 = ⊤ := by simp [Ideal.ofBits, Ideal.ieee]

/-- A row's attention from its scores and one column of the values, with the weights summed before the division. -/
def row (s v : Fin 4352 → EReal) : EReal :=
  Ideal.div (∑ j, Ideal.exp (s j - Finset.univ.fold max ⊥ s) * v j) (∑ j, Ideal.exp (s j - Finset.univ.fold max ⊥ s))

/-- The scores' product at a row and a key. -/
theorem scores_apply (q : FVec Ideal S512x128 .bf16) (k : FVec Ideal S4352x128 .bf16) (r : Fin 512) (j : Fin 4352) :
    matmul dot_S512x128_S4352x128_S512x4352_1_1_0_0_n_n none q k (constant S512x4352 .f32 0x00000000#32) (ix2 r j)
      = ∑ d : Fin 128, q (ix2 r d) * k (ix2 j d) := by
  refine (Ideal.matmul_transposedRhs_apply (M := 512) (K := 128) (N := 4352) none q k _ r j).trans ?_
  show Ideal.ofBits .f32 0x00000000#32 + _ = _
  rw [zero_f32, zero_add]

/-- The weights' product with the values at a row and a column. -/
theorem values_apply (p : FVec Ideal S512x4352 .bf16) (v : FVec Ideal S4352x128 .bf16) (r : Fin 512) (c : Fin 128) :
    matmul dot_S512x4352_S4352x128_S512x128_1_0_0_1_n_n none p v (constant S512x128 .f32 0x00000000#32) (ix2 r c)
      = ∑ j : Fin 4352, p (ix2 r j) * v (ix2 j c) := by
  refine (Ideal.matmul_plain_apply (M := 512) (K := 4352) (N := 128) none p v _ r c).trans ?_
  show Ideal.ofBits .f32 0x00000000#32 + _ = _
  rw [zero_f32, zero_add]

theorem lift_row (r : Fin 512) (j : Fin 4352) :
    reduces_S512x4352_S512.lift (ix1 r) j = ix2 r j := by
  funext a; apply Fin.ext
  match a with
  | ⟨0, _⟩ => rfl
  | ⟨1, _⟩ => rfl

theorem rowmax_apply (s : FVec Ideal S512x4352 .f32) (r : Fin 512) :
    multiReduction .maximumf [1] S512 s 0xFF800000#32 reduces_S512x4352_S512 (.inl rfl) rfl (ix1 r)
      = Finset.univ.fold max ⊥ fun j : Fin 4352 => s (ix2 r j) := by
  refine (Ideal.multiReduction_maximumf_single s _ reduces_S512x4352_S512 (.inl rfl) rfl (ix1 r)).trans ?_
  show Finset.univ.fold max (Ideal.ofBits .f32 0xFF800000#32) (fun j : Fin 4352 => s (reduces_S512x4352_S512.lift (ix1 r) j)) = _
  rw [neg_inf_f32]
  simp only [lift_row]

theorem rowsum_apply (s : FVec Ideal S512x4352 .f32) (r : Fin 512) :
    multiReduction .add [1] S512 s 0x00000000#32 reduces_S512x4352_S512 (.inl rfl) rfl (ix1 r)
      = ∑ j : Fin 4352, s (ix2 r j) := by
  refine (Ideal.multiReduction_add_single s _ reduces_S512x4352_S512 (.inl rfl) rfl (ix1 r)).trans ?_
  show (∑ j : Fin 4352, s (reduces_S512x4352_S512.lift (ix1 r) j)) = _
  simp only [lift_row]

/-- A column kept as a (512, 1) array and stretched along a row reads the column at the row. -/
theorem column_apply {α : Type} {n : Nat} (x : S512.Idx → α) (h : S512x1.Broadcasts ⟨2, ![512, n]⟩) (r : Fin 512) (j : Fin n) :
    broadcastTo ⟨2, ![512, n]⟩ (shapeCast S512x1 x shapeCasts_S512_S512x1) h (ix2 r j) = x (ix1 r) := by
  refine (broadcastTo_apply _ h (ix2 r j) (ix2 r (0 : Fin 1)) (fun a => ?_)).trans ?_
  · match a with
    | ⟨0, _⟩ => rfl
    | ⟨1, _⟩ => rfl
  · exact shapeCast_apply x shapeCasts_S512_S512x1 (ix2 r (0 : Fin 1)) (ix1 r) (by
      rw [Shape.rowMajor_val_one, Shape.rowMajor_val_two]
      show r.val = r.val * 1 + 0
      omega)

/-- The weights of a score array, at a row whose scores are known. -/
theorem weights_apply (s : FVec Ideal S512x4352 .f32) (r : Fin 512) (t : Fin 4352 → EReal) (ht : ∀ j, s (ix2 r j) = t j) (j : Fin 4352) :
    exp (subf s (broadcastTo S512x4352 (shapeCast S512x1 (multiReduction .maximumf [1] S512 s 0xFF800000#32
        reduces_S512x4352_S512 (.inl rfl) rfl) shapeCasts_S512_S512x1) broadcasts_S512x1_S512x4352)) (ix2 r j)
      = Ideal.exp (t j - Finset.univ.fold max ⊥ t) := by
  refine congrArg Ideal.exp (congrArg₂ (fun a b : EReal => a - b) (ht j) ?_)
  refine (column_apply _ _ r j).trans ((rowmax_apply s r).trans ?_)
  exact congrArg (Finset.univ.fold max ⊥) (funext ht)

/-- The body's result block at row `r`, column `c`. -/
theorem payload_apply (q : Vec Ideal S1x512x128 .bf16) (k v : Vec Ideal S1x4352x128 .bf16) (r : Fin 512) (c : Fin 128) :
    k0_pay1 (F := Ideal) q k v (ix3 (0 : Fin 1) r c)
      = row (fun j => ∑ d : Fin 128, q (ix3 (0 : Fin 1) r d) * k (ix3 (0 : Fin 1) j d)) (fun j => v (ix3 (0 : Fin 1) j c)) := by
  have hq : ∀ d : Fin 128, shapeCast S512x128 q shapeCasts_S1x512x128_S512x128 (ix2 r d) = q (ix3 (0 : Fin 1) r d) := fun d => by
    refine (shapeCast_dropUnit_apply ![512, 128] q shapeCasts_S1x512x128_S512x128 (ix2 r d)).trans (congrArg q (funext fun a => ?_))
    match a with
    | ⟨0, _⟩ => rfl
    | ⟨1, _⟩ => rfl
    | ⟨2, _⟩ => rfl
  have hk : ∀ (x : Vec Ideal S1x4352x128 .bf16) (j : Fin 4352) (d : Fin 128),
      shapeCast S4352x128 x shapeCasts_S1x4352x128_S4352x128 (ix2 j d) = x (ix3 (0 : Fin 1) j d) := fun x j d => by
    refine (shapeCast_dropUnit_apply ![4352, 128] x shapeCasts_S1x4352x128_S4352x128 (ix2 j d)).trans (congrArg x (funext fun a => ?_))
    match a with
    | ⟨0, _⟩ => rfl
    | ⟨1, _⟩ => rfl
    | ⟨2, _⟩ => rfl
  unfold k0_pay1
  dsimp only
  refine (shapeCast_addUnit_apply ![512, 128] _ shapeCasts_S512x128_S1x512x128 (ix3 (0 : Fin 1) r c)).trans ?_
  have e : (fun a : Fin 2 => (ix3 (0 : Fin 1) r c : S1x512x128.Idx) a.succ) = (ix2 r c : S512x128.Idx) := funext fun a => by
    match a with
    | ⟨0, _⟩ => rfl
    | ⟨1, _⟩ => rfl
  refine (congrArg _ e).trans ?_
  show Ideal.div (matmul (F := Ideal) dot_S512x4352_S4352x128_S512x128_1_0_0_1_n_n none _ _ (constant S512x128 .f32 0x00000000#32) (ix2 r c))
    (broadcastTo S512x128 _ broadcasts_S512x1_S512x128 (ix2 r c)) = _
  have hs : ∀ j : Fin 4352, matmul (F := Ideal) dot_S512x128_S4352x128_S512x4352_1_1_0_0_n_n none (shapeCast S512x128 q shapeCasts_S1x512x128_S512x128)
        (shapeCast S4352x128 k shapeCasts_S1x4352x128_S4352x128) (constant S512x4352 .f32 0x00000000#32) (ix2 r j)
      = ∑ d : Fin 128, q (ix3 (0 : Fin 1) r d) * k (ix3 (0 : Fin 1) j d) := fun j =>
    (scores_apply _ _ r j).trans (Finset.sum_congr rfl fun d _ => congrArg₂ (fun a b : EReal => a * b) (hq d) (hk k j d))
  refine congrArg₂ Ideal.div ((values_apply _ _ r c).trans (Finset.sum_congr rfl fun j _ => ?_))
    ((column_apply _ _ r c).trans ((rowsum_apply _ r).trans (Finset.sum_congr rfl fun j _ => weights_apply _ r _ hs j)))
  exact congrArg₂ (fun a b : EReal => a * b) (weights_apply _ r _ hs j) (hk v j c)

end Cert.Proof.Attn

end
-- ==== Proof.Softmax.lean ====
/-
  The arithmetic of one softmax row over extended reals: weights `exp (s j - M)` with real scores `s j` and `M` their
  largest, a weighted sum of any values `v j`, and the division by the sum of the weights. Dividing the weighted sum once
  (what a kernel does) is the sum with each weight divided first (what the mathematics says): the weights are nonnegative
  reals, and their sum is a positive real, so its inverse distributes over the sum even where some `v j` is infinite.
-/
module

public import Idealize.ShloMosaic.PureOps.Ideal
public import Mathlib.Data.EReal.Inv

@[expose] public section

noncomputable section

namespace Cert.Proof

open Idealize.ShloMosaic
open scoped BigOperators

/-- An extended real that is a number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- An absolute value below infinity is a number's. -/
theorem isReal_of_abs_lt {x : EReal} (h : max x (-x) < ⊤) : IsReal x := by
  induction x using EReal.rec with
  | bot => simp at h
  | top => simp at h
  | coe r => exact ⟨r, rfl⟩

/-- A nonnegative real factor distributes over any finite sum of extended reals. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- The largest of finitely many real scores, started at minus infinity, is a real when there is at least one. -/
theorem fold_max_isReal {n : Nat} (s : Fin n → EReal) (hs : ∀ j, IsReal (s j)) (hn : 0 < n) :
    IsReal (Finset.univ.fold max ⊥ s) := by
  have hlt : Finset.univ.fold max ⊥ s < ⊤ := by
    rw [Finset.fold_max_lt]
    exact ⟨bot_lt_top, fun j _ => by obtain ⟨r, hr⟩ := hs j; rw [hr]; exact EReal.coe_lt_top r⟩
  have hge : s ⟨0, hn⟩ ≤ Finset.univ.fold max ⊥ s := by
    rw [Finset.le_fold_max]; exact Or.inr ⟨_, Finset.mem_univ _, le_rfl⟩
  obtain ⟨r, hr⟩ := hs ⟨0, hn⟩
  induction h : Finset.univ.fold max ⊥ s using EReal.rec with
  | bot => rw [h, hr] at hge; exact absurd hge (by simp)
  | top => rw [h] at hlt; exact absurd hlt (lt_irrefl _)
  | coe m => exact ⟨m, rfl⟩

/-- One row: the weighted sum divided once is the sum of the divided weights times the values. -/
theorem softmax_row {n : Nat} (s v : Fin n → EReal) (hs : ∀ j, IsReal (s j)) (hn : 0 < n) :
    Ideal.div (∑ j, Ideal.exp (s j - Finset.univ.fold max ⊥ s) * v j) (∑ j, Ideal.exp (s j - Finset.univ.fold max ⊥ s))
      = ∑ j, v j * Ideal.div (Ideal.exp (s j - Finset.univ.fold max ⊥ s)) (∑ j, Ideal.exp (s j - Finset.univ.fold max ⊥ s)) := by
  obtain ⟨M, hM⟩ := fold_max_isReal s hs hn
  choose r hr using hs
  have hp : ∀ j, Ideal.exp (s j - Finset.univ.fold max ⊥ s) = ((Real.exp (r j - M) : ℝ) : EReal) := fun j => by
    rw [hM, hr j, ← EReal.coe_sub, Ideal.exp_coe]
  have hl : ∑ j, Ideal.exp (s j - Finset.univ.fold max ⊥ s) = ((∑ j, Real.exp (r j - M) : ℝ) : EReal) := by
    rw [Finset.sum_congr rfl fun j _ => hp j]
    exact (map_sum (⟨⟨Real.toEReal, EReal.coe_zero⟩, EReal.coe_add⟩ : ℝ →+ EReal) _ _).symm
  have hpos : 0 < ∑ j, Real.exp (r j - M) :=
    Finset.sum_pos (fun j _ => Real.exp_pos _) ⟨⟨0, hn⟩, Finset.mem_univ _⟩
  have hne : ((∑ j, Real.exp (r j - M) : ℝ) : EReal) ≠ 0 := by exact_mod_cast hpos.ne'
  simp only [hl]
  unfold Ideal.div
  simp only [if_neg hne, ← EReal.coe_inv]
  rw [sum_mul_coe _ _ (inv_nonneg.mpr hpos.le)]
  refine Finset.sum_congr rfl fun j _ => ?_
  rw [mul_comm (Ideal.exp _) (v j), mul_assoc]

end Cert.Proof

end
-- ==== Proof.Attn.Array.lean ====
/-
  The attention kernel's result array: at batch `b`, token `n` and lane `c` of head `c / 128`, the row of softmax attention
  over the 256 prefix keys followed by the 4096 keys of the sequence.
-/
module

public import proofs.«01_k».proof.Proof.Attn.Payload
public import proofs.«01_k».proof.Proof.Softmax
public import Idealize.ShloMosaic.Lib.Pipeline.ValueKit.Basic

@[expose] public section

noncomputable section

namespace Cert.Proof.Attn

open Cert.KernelIdeal Cert.KernelIdeal.Gen Idealize.ShloMosaic Idealize.ShloMosaic.TcCoe Idealize.ShloMosaic.ValueIdx Idealize.SL.Sem
open Idealize.ShloMosaic.Pipeline (Dat)
open scoped BigOperators

/-- The prefix rows, then the sequence's. -/
def joined (a : S8x256x1024.Idx → EReal) (x : S8x4096x1024.Idx → EReal) (b : Fin 8) (j : Fin 4352) (c : Fin 1024) : EReal :=
  if h : j.val < 256 then a (ix3 b ⟨j.val, h⟩ c) else x (ix3 b ⟨j.val - 256, by have := j.isLt; omega⟩ c)

/-- Lane `d` of the head that lane `c` lies in. -/
def headLane (c : Fin 1024) (d : Fin 128) : Fin 1024 := ⟨c.val / 128 * 128 + d.val, by have := c.isLt; have := d.isLt; omega⟩

/-- The score of token `n` with key `j` in the head of lane `c`. -/
def score (q : S8x4096x1024.Idx → EReal) (kc : S8x256x1024.Idx → EReal) (k : S8x4096x1024.Idx → EReal)
    (b : Fin 8) (n : Fin 4096) (c : Fin 1024) (j : Fin 4352) : EReal :=
  ∑ d : Fin 128, q (ix3 b n (headLane c d)) * joined kc k b j (headLane c d)

/-- The attention of five arrays: queries, prefix keys, keys, prefix values, values. -/
def attention (q : S8x4096x1024.Idx → EReal) (kc : S8x256x1024.Idx → EReal) (k : S8x4096x1024.Idx → EReal)
    (vc : S8x256x1024.Idx → EReal) (v : S8x4096x1024.Idx → EReal) (i : S8x4096x1024.Idx) : EReal :=
  row (score q kc k (i 0) (i 1) (i 2)) fun j => joined vc v (i 0) j (i 2)

variable (m : (ℓ : Loc nD τ sig) → Buf (Elt Ideal) ℓ) (ρ : Dev nD → PrngReg)

/-- A concatenation of a prefix and a sequence along the tokens, at an index. -/
theorem concat_apply (a : S8x256x1024.Idx → EReal) (x : S8x4096x1024.Idx → EReal)
    (h : Shape.Concatenates [S8x256x1024, S8x4096x1024] S8x4352x1024 1) (b : Fin 8) (j : Fin 4352) (c : Fin 1024) :
    concatenate S8x4352x1024 1 [⟨S8x256x1024, a⟩, ⟨S8x4096x1024, x⟩] h (ix3 b j c) = joined a x b j c := by
  unfold joined
  split
  · next hj =>
    exact concatenate_pair_apply_left 1 a x h (ix3 b j c) rfl (ix3 b ⟨j.val, hj⟩ c) (fun e => by
      match e with
      | ⟨0, _⟩ => rfl
      | ⟨1, _⟩ => rfl
      | ⟨2, _⟩ => rfl)
  · next hj =>
    exact concatenate_pair_apply_right 1 a x h (ix3 b j c) rfl rfl (ix3 b ⟨j.val - 256, by have := j.isLt; omega⟩ c) (fun e he => by
      match e with
      | ⟨0, _⟩ => rfl
      | ⟨1, _⟩ => exact absurd rfl he
      | ⟨2, _⟩ => rfl) (by show j.val - 256 + 256 = j.val; omega)

/-- The joined keys the region reads. -/
theorem V_keys (c : Dev nD) (b : Fin 8) (j : Fin 4352) (e : Fin 1024) :
    V m c main_v0 (ix3 b j e) = joined (m ((c : Thread nD τ).loc main_arg1)) (m ((c : Thread nD τ).loc main_arg2)) b j e := by
  have hv : V m c main_v0 = concatenate S8x4352x1024 1 [⟨S8x256x1024, m ((c : Thread nD τ).loc main_arg1)⟩,
      ⟨S8x4096x1024, m ((c : Thread nD τ).loc main_arg2)⟩] concatenates_S8x256x1024_S8x4096x1024_S8x4352x1024_d1 := by
    show StableHlo.after _ _ _ = _
    simp only [hostOps0, List.flatten_cons, List.flatten_nil, List.append_nil, List.cons_append, List.nil_append]
    after_results_simp <;> rfl
  rw [hv]
  exact concat_apply _ _ _ b j e

/-- The joined values the region reads. -/
theorem V_values (c : Dev nD) (b : Fin 8) (j : Fin 4352) (e : Fin 1024) :
    V m c main_v1 (ix3 b j e) = joined (m ((c : Thread nD τ).loc main_arg3)) (m ((c : Thread nD τ).loc main_arg4)) b j e := by
  have hv : V m c main_v1 = concatenate S8x4352x1024 1 [⟨S8x256x1024, m ((c : Thread nD τ).loc main_arg3)⟩,
      ⟨S8x4096x1024, m ((c : Thread nD τ).loc main_arg4)⟩] concatenates_S8x256x1024_S8x4096x1024_S8x4352x1024_d1 := by
    show StableHlo.after _ _ _ = _
    simp only [hostOps0, List.flatten_cons, List.flatten_nil, List.append_nil, List.cons_append, List.nil_append]
    after_results_simp <;> rfl
  rw [hv]
  exact concat_apply _ _ _ b j e

/-- Where each window's block sits at a point: batch `t / 64`, head `t / 8 % 8`, row tile `t % 8`. -/
theorem idx_facts : ∀ t : Fin cfg0.N,
    (win0_0.index t 0 = t.val / 64 ∧ win0_0.index t 1 = t.val % 8 ∧ win0_0.index t 2 = t.val / 8 % 8)
    ∧ (win0_1.index t 0 = t.val / 64 ∧ win0_1.index t 1 = 0 ∧ win0_1.index t 2 = t.val / 8 % 8)
    ∧ (win0_2.index t 0 = t.val / 64 ∧ win0_2.index t 1 = 0 ∧ win0_2.index t 2 = t.val / 8 % 8)
    ∧ (win0_3.index t 0 = t.val / 64 ∧ win0_3.index t 1 = t.val % 8 ∧ win0_3.index t 2 = t.val / 8 % 8) :=
  (by decide +kernel : ∀ t : Fin grid0.N, _)

theorem t_lt (t : Fin cfg0.N) : t.val < 512 := lt_of_lt_of_eq t.isLt N_0

/-- The batch, the token and the lane under point `t`'s block coordinates. -/
def batchAt (t : Fin cfg0.N) : Fin 8 := ⟨t.val / 64, by have := t_lt t; omega⟩
def tokenAt (t : Fin cfg0.N) (r : Fin 512) : Fin 4096 := ⟨t.val % 8 * 512 + r.val, by have := r.isLt; omega⟩
def laneAt (t : Fin cfg0.N) (d : Fin 128) : Fin 1024 := ⟨t.val / 8 % 8 * 128 + d.val, by have := d.isLt; omega⟩

theorem emb3 (t : Fin cfg0.N) (r : Fin 512) (d : Fin 128) :
    (win0_3.blk t).view.emb (ix3 (0 : Fin 1) r d) = ix3 (batchAt t) (tokenAt t r) (laneAt t d) := by
  obtain ⟨-, -, -, h0, h1, h2⟩ := idx_facts t
  funext a; apply Fin.ext
  match a with
  | ⟨0, _⟩ => exact (Pipeline.Window.rect_emb_val win0_3 t _ 0).trans (by rw [h0]; show t.val / 64 * 1 + 0 = t.val / 64; omega)
  | ⟨1, _⟩ => exact (Pipeline.Window.rect_emb_val win0_3 t _ 1).trans (by rw [h1]; rfl)
  | ⟨2, _⟩ => exact (Pipeline.Window.rect_emb_val win0_3 t _ 2).trans (by rw [h2]; rfl)

theorem blk0 (c : Dev nD) (t : Fin cfg0.N) (r : Fin 512) (d : Fin 128) :
    iblk m c 0 t (ix3 (0 : Fin 1) r d) = m ((c : Thread nD τ).loc main_arg0) (ix3 (batchAt t) (tokenAt t r) (laneAt t d)) := by
  obtain ⟨⟨h0, h1, h2⟩, -⟩ := idx_facts t
  refine Eq.trans ?_ (congrFun (V_main_arg0 m c) _)
  refine congrArg (V m c main_arg0) (funext fun a => Fin.ext ?_)
  match a with
  | ⟨0, _⟩ => exact (Pipeline.Window.rect_emb_val win0_0 t _ 0).trans (by rw [h0]; show t.val / 64 * 1 + 0 = t.val / 64; omega)
  | ⟨1, _⟩ => exact (Pipeline.Window.rect_emb_val win0_0 t _ 1).trans (by rw [h1]; rfl)
  | ⟨2, _⟩ => exact (Pipeline.Window.rect_emb_val win0_0 t _ 2).trans (by rw [h2]; rfl)

theorem blk1 (c : Dev nD) (t : Fin cfg0.N) (j : Fin 4352) (d : Fin 128) :
    iblk m c 1 t (ix3 (0 : Fin 1) j d) = joined (m ((c : Thread nD τ).loc main_arg1)) (m ((c : Thread nD τ).loc main_arg2)) (batchAt t) j (laneAt t d) := by
  obtain ⟨-, ⟨h0, h1, h2⟩, -⟩ := idx_facts t
  refine Eq.trans ?_ (V_keys m c _ _ _)
  refine congrArg (V m c main_v0) (funext fun a => Fin.ext ?_)
  match a with
  | ⟨0, _⟩ => exact (Pipeline.Window.rect_emb_val win0_1 t _ 0).trans (by rw [h0]; show t.val / 64 * 1 + 0 = t.val / 64; omega)
  | ⟨1, _⟩ => exact (Pipeline.Window.rect_emb_val win0_1 t _ 1).trans (by rw [h1]; show 0 * 4352 + j.val = j.val; omega)
  | ⟨2, _⟩ => exact (Pipeline.Window.rect_emb_val win0_1 t _ 2).trans (by rw [h2]; rfl)

theorem blk2 (c : Dev nD) (t : Fin cfg0.N) (j : Fin 4352) (d : Fin 128) :
    iblk m c 2 t (ix3 (0 : Fin 1) j d) = joined (m ((c : Thread nD τ).loc main_arg3)) (m ((c : Thread nD τ).loc main_arg4)) (batchAt t) j (laneAt t d) := by
  obtain ⟨-, -, ⟨h0, h1, h2⟩, -⟩ := idx_facts t
  refine Eq.trans ?_ (V_values m c _ _ _)
  refine congrArg (V m c main_v1) (funext fun a => Fin.ext ?_)
  match a with
  | ⟨0, _⟩ => exact (Pipeline.Window.rect_emb_val win0_2 t _ 0).trans (by rw [h0]; show t.val / 64 * 1 + 0 = t.val / 64; omega)
  | ⟨1, _⟩ => exact (Pipeline.Window.rect_emb_val win0_2 t _ 1).trans (by rw [h1]; show 0 * 4352 + j.val = j.val; omega)
  | ⟨2, _⟩ => exact (Pipeline.Window.rect_emb_val win0_2 t _ 2).trans (by rw [h2]; rfl)

/-- The attention of device `c`'s arguments. -/
abbrev result (c : Dev nD) : Buf (Elt Ideal) ((c : Thread nD τ).loc main_v2) :=
  attention (m ((c : Thread nD τ).loc main_arg0)) (m ((c : Thread nD τ).loc main_arg1)) (m ((c : Thread nD τ).loc main_arg2))
    (m ((c : Thread nD τ).loc main_arg3)) (m ((c : Thread nD τ).loc main_arg4))

theorem hz : (![0, 0, 0] : Fin 3 → Nat) = fun _ => 0 := funext fun a => by fin_cases a <;> rfl

/-- What a point writes back is its block of the attention. -/
theorem flushed_eq (c : Dev nD) (t : Fin cfg0.N) :
    (dats m 0 c).flushed 3 t = (win0_3.blk t).view.read (Elt Ideal) (result m c) := by
  rw [Value.flushed3]
  unfold out0_3
  rw [View.canon_unit_zero hz, View.ld_unit_zero hz, View.ld_unit_zero hz, View.ld_unit_zero hz]
  funext y
  show k0_pay1 (iblk m c 0 t) (iblk m c 1 t) (iblk m c 2 t) y = result m c ((win0_3.blk t).view.emb y)
  obtain ⟨r, d, rfl⟩ : ∃ (r : Fin 512) (d : Fin 128), y = ix3 (0 : Fin 1) r d :=
    ⟨y 1, y 2, funext fun a => Fin.ext (by
      match a with
      | ⟨0, _⟩ => exact Nat.lt_one_iff.mp (y 0).isLt
      | ⟨1, _⟩ => rfl
      | ⟨2, _⟩ => rfl)⟩
  refine (payload_apply _ _ _ r d).trans ?_
  rw [emb3]
  have hl : ∀ e : Fin 128, headLane (laneAt t d) e = laneAt t e := fun e => Fin.ext (by
    have := d.isLt
    show (t.val / 8 % 8 * 128 + d.val) / 128 * 128 + e.val = t.val / 8 % 8 * 128 + e.val
    omega)
  show row _ _ = row _ _
  refine congrArg₂ row (funext fun j => ?_) (funext fun j => blk2 m c t j d)
  show _ = ∑ e : Fin 128, _
  refine Finset.sum_congr rfl fun e _ => ?_
  show _ = _ * joined _ _ (batchAt t) j (headLane (laneAt t d) e)
  rw [blk0, blk1, hl]

/-- The blocks tile the result. -/
theorem cover (i : S8x4096x1024.Idx) :
    ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 1024 := (i 2).isLt
  have hN : cfg0.N = 512 := N_0
  have ht : (i 0).val * 64 + (i 2).val / 128 * 8 + (i 1).val / 512 < cfg0.N := by omega
  refine ⟨⟨_, ht⟩, flush0_3 _, ?_⟩
  have e := emb3 ⟨_, ht⟩ ⟨(i 1).val % 512, by omega⟩ ⟨(i 2).val % 128, by omega⟩
  have this : (win0_3.blk ⟨_, ht⟩).view.emb (ix3 (0 : Fin 1) ⟨(i 1).val % 512, by omega⟩ ⟨(i 2).val % 128, by omega⟩) = i := by
    symm
    rw [e]
    funext a; apply Fin.ext
    match a with
    | ⟨0, _⟩ => show (i 0).val = ((i 0).val * 64 + (i 2).val / 128 * 8 + (i 1).val / 512) / 64; omega
    | ⟨1, _⟩ => show (i 1).val = ((i 0).val * 64 + (i 2).val / 128 * 8 + (i 1).val / 512) % 8 * 512 + (i 1).val % 512; omega
    | ⟨2, _⟩ => show (i 2).val = ((i 0).val * 64 + (i 2).val / 128 * 8 + (i 1).val / 512) / 8 % 8 * 128 + (i 2).val % 128; omega
  have hm := View.emb_mem_set (win0_3.blk ⟨_, ht⟩).view (ix3 (0 : Fin 1) ⟨(i 1).val % 512, by omega⟩ ⟨(i 2).val % 128, by omega⟩)
  rwa [this] at hm

theorem final (c : Dev nD) : (dats m 0 c).arrAt 3 cfg0.N = result m c :=
  (dats m 0 c).arrAt_eq_of_cover 3 (result m c) (fun t _ => flushed_eq m c t) cover

end Cert.Proof.Attn

end
-- ==== Proof.Attn.Ref.lean ====
/-
  The reference's result array: at batch `b`, token `n` and lane `c`, the values of the lane's head weighted by the
  softmax of the scores, each weight divided by the sum before it meets its value.
-/
module

public import proofs.«01_k».proof.Proof.Attn.Array
public import proofs.«01_k».proof.Proof.Gen.ReferenceIdeal.Read
public import Idealize.ShloMosaic.Lib.KernelVsHost

@[expose] public section

noncomputable section

namespace Cert.Proof.Attn

open Cert.ReferenceIdeal Cert.ReferenceIdeal.Gen Cert.ReferenceIdeal.Read Idealize.ShloMosaic Idealize.ShloMosaic.TcCoe
open Idealize.ShloMosaic.ValueIdx Idealize.SL.Sem
open scoped BigOperators

variable (q : S8x4096x1024.Idx → EReal) (kc : S8x256x1024.Idx → EReal) (k : S8x4096x1024.Idx → EReal)
  (vc : S8x256x1024.Idx → EReal) (v : S8x4096x1024.Idx → EReal)

/-- Lane `d` of head `h`. -/
def headAt (h : Fin 8) (d : Fin 128) : Fin 1024 := ⟨h.val * 128 + d.val, by have := h.isLt; have := d.isLt; omega⟩

/-- A sequence's array read by heads. -/
theorem idx_seq (f : S8x4096x8x128.Idx → S8x4096x1024.Idx) (hf : f = idx_main_v3) (b : Fin 8) (n : Fin 4096) (h : Fin 8) (d : Fin 128) :
    f (ix4 b n h d) = ix3 b n (headAt h d) := by
  subst hf
  have := b.isLt; have := n.isLt; have := h.isLt; have := d.isLt
  funext a; apply Fin.ext
  match a with
  | ⟨0, _⟩ => show (((b.val * 4096 + n.val) * 8 + h.val) * 128 + d.val) / 4194304 = b.val; omega
  | ⟨1, _⟩ => show (((b.val * 4096 + n.val) * 8 + h.val) * 128 + d.val) / 1024 % 4096 = n.val; omega
  | ⟨2, _⟩ => show (((b.val * 4096 + n.val) * 8 + h.val) * 128 + d.val) % 1024 = h.val * 128 + d.val; omega

/-- A prefix's array read by heads. -/
theorem idx_prefix (f : S8x256x8x128.Idx → S8x256x1024.Idx) (hf : f = idx_main_v1) (b : Fin 8) (n : Fin 256) (h : Fin 8) (d : Fin 128) :
    f (ix4 b n h d) = ix3 b n (headAt h d) := by
  subst hf
  have := b.isLt; have := n.isLt; have := h.isLt; have := d.isLt
  funext a; apply Fin.ext
  match a with
  | ⟨0, _⟩ => show (((b.val * 256 + n.val) * 8 + h.val) * 128 + d.val) / 262144 = b.val; omega
  | ⟨1, _⟩ => show (((b.val * 256 + n.val) * 8 + h.val) * 128 + d.val) / 1024 % 256 = n.val; omega
  | ⟨2, _⟩ => show (((b.val * 256 + n.val) * 8 + h.val) * 128 + d.val) % 1024 = h.val * 128 + d.val; omega

/-- A concatenation by heads of a prefix and a sequence, at an index. -/
theorem concat4_apply (a : S8x256x8x128.Idx → EReal) (x : S8x4096x8x128.Idx → EReal) (a' : S8x256x1024.Idx → EReal) (x' : S8x4096x1024.Idx → EReal)
    (ha : ∀ b n h d, a (ix4 b n h d) = a' (ix3 b n (headAt h d))) (hx : ∀ b n h d, x (ix4 b n h d) = x' (ix3 b n (headAt h d)))
    (hc : Shape.Concatenates [S8x256x8x128, S8x4096x8x128] S8x4352x8x128 1) (b : Fin 8) (j : Fin 4352) (h : Fin 8) (d : Fin 128) :
    concatenate S8x4352x8x128 1 [⟨S8x256x8x128, a⟩, ⟨S8x4096x8x128, x⟩] hc (ix4 b j h d) = joined a' x' b j (headAt h d) := by
  unfold joined
  split
  · next hj =>
    refine (concatenate_pair_apply_left 1 a x hc (ix4 b j h d) rfl (ix4 b ⟨j.val, hj⟩ h d) (fun e => ?_)).trans (ha _ _ _ _)
    match e with
    | ⟨0, _⟩ => rfl
    | ⟨1, _⟩ => rfl
    | ⟨2, _⟩ => rfl
    | ⟨3, _⟩ => rfl
  · next hj =>
    refine (concatenate_pair_apply_right 1 a x hc (ix4 b j h d) rfl rfl (ix4 b ⟨j.val - 256, by have := j.isLt; omega⟩ h d)
      (fun e he => ?_) ?_).trans (hx _ _ _ _)
    · match e with
      | ⟨0, _⟩ => rfl
      | ⟨1, _⟩ => exact absurd rfl he
      | ⟨2, _⟩ => rfl
      | ⟨3, _⟩ => rfl
    · show j.val - 256 + 256 = j.val; omega

theorem keys_apply (b : Fin 8) (j : Fin 4352) (h : Fin 8) (d : Fin 128) :
    val_main_v4 (F := Ideal) kc k (ix4 b j h d) = joined kc k b j (headAt h d) :=
  concat4_apply _ _ kc k
    (fun b n h d => (val_main_v1_apply (F := Ideal) kc _).trans (congrArg kc (idx_prefix _ rfl b n h d)))
    (fun b n h d => (val_main_v3_apply (F := Ideal) k _).trans (congrArg k (idx_seq _ rfl b n h d))) _ b j h d

theorem vals_apply (b : Fin 8) (j : Fin 4352) (h : Fin 8) (d : Fin 128) :
    val_main_v9 (F := Ideal) vc v (ix4 b j h d) = joined vc v b j (headAt h d) :=
  concat4_apply _ _ vc v
    (fun b n h d => (val_main_v6_apply (F := Ideal) vc _).trans (congrArg vc (idx_prefix _ rfl b n h d)))
    (fun b n h d => (val_main_v8_apply (F := Ideal) v _).trans (congrArg v (idx_seq _ rfl b n h d))) _ b j h d

/-- The reference's score. -/
theorem ref_score (b h : Fin 8) (n : Fin 4096) (j : Fin 4352) (e : Fin 128) :
    val_main_v12 (F := Ideal) q kc k (ix4 b h n j) = score q kc k b n (headAt h e) j := by
  refine (val_main_v12_apply q kc k (ix4 b h n j)).trans ?_
  refine Finset.sum_congr rfl fun d _ => ?_
  have hl : headLane (headAt h e) d = headAt h d := Fin.ext (by
    have := e.isLt
    show (h.val * 128 + e.val) / 128 * 128 + d.val = h.val * 128 + d.val
    omega)
  rw [hl]
  refine congrArg₂ (fun a b : EReal => a * b) ?_ ?_
  · refine Eq.trans (congrArg _ ?_) ((val_main_v11_apply (F := Ideal) q _).trans (congrArg q (idx_seq _ rfl b n h d)))
    exact eq_ix4 _
  · refine Eq.trans (congrArg _ ?_) (keys_apply kc k b j h d)
    exact eq_ix4 _

theorem reduces_scores : S8x8x4096x4352.Reduces [3] S8x8x4096 := by decide

/-- The host's fold of an array by maximum from `-∞`, as a reduction. -/
theorem max_fold (y : FVec Ideal S8x8x4096x4352 .f32) :
    Host.reduce FloatOps.maximumf y (constant (F := Ideal) S_ .f32 0xFF800000#32) reducesTo_S8x8x4096x4352_S8x8x4096_d3 h_S_
      = multiReduction (F := Ideal) .maximumf [3] S8x8x4096 y 0xFF800000#32 reduces_scores (.inl rfl) rfl :=
  hostReduce_maximumf_eq_multiReduction y 0xFF800000#32 reducesTo_S8x8x4096x4352_S8x8x4096_d3 h_S_ reduces_scores (.inl rfl) rfl

/-- The reference's fold of the scores by maximum, as a reduction. -/
theorem max_stage : val_main_v13 (F := Ideal) q kc k
    = multiReduction (F := Ideal) .maximumf [3] S8x8x4096 (val_main_v12 (F := Ideal) q kc k) 0xFF800000#32 reduces_scores (.inl rfl) rfl := by
  unfold val_main_v13 val_main_cst
  generalize val_main_v12 (F := Ideal) q kc k = y
  exact max_fold y

/-- The row maximum the reference subtracts. -/
theorem ref_max (b h : Fin 8) (n : Fin 4096) (e : Fin 128) :
    val_main_v15 (F := Ideal) q kc k (ix3 b h n) = Finset.univ.fold max ⊥ (score q kc k b n (headAt h e)) := by
  have h13 : val_main_v13 (F := Ideal) q kc k (ix3 b h n) = Finset.univ.fold max ⊥ (score q kc k b n (headAt h e)) := by
    rw [max_stage]
    refine (Ideal.multiReduction_maximumf_single _ _ reduces_scores (.inl rfl) rfl (ix3 b h n)).trans ?_
    show Finset.univ.fold max (Ideal.ofBits .f32 0xFF800000#32)
      (fun j : Fin 4352 => val_main_v12 (F := Ideal) q kc k (reduces_scores.lift (ix3 b h n) j)) = _
    rw [neg_inf_f32]
    refine congrArg (Finset.univ.fold max ⊥) (funext fun j => ?_)
    refine Eq.trans (congrArg _ ?_) (ref_score q kc k b h n j e)
    funext a; apply Fin.ext
    match a with
    | ⟨0, _⟩ => rfl
    | ⟨1, _⟩ => rfl
    | ⟨2, _⟩ => rfl
    | ⟨3, _⟩ => rfl
  refine (val_main_v15_apply (F := Ideal) q kc k (ix3 b h n)).trans ?_
  have h14 : val_main_v14 (F := Ideal) (ix3 b h n) = (⊥ : EReal) := (val_main_v14_apply (F := Ideal) _).trans neg_inf_f32
  rw [h14, h13]
  exact max_eq_right bot_le

/-- A weight before its division. -/
theorem ref_exp (b h : Fin 8) (n : Fin 4096) (j : Fin 4352) (e : Fin 128) :
    val_main_v19 (F := Ideal) q kc k (ix4 b h n j)
      = Ideal.exp (score q kc k b n (headAt h e) j - Finset.univ.fold max ⊥ (score q kc k b n (headAt h e))) := by
  refine (val_main_v19_apply (F := Ideal) q kc k _).trans ?_
  refine congrArg Ideal.exp ?_
  refine (val_main_v18_apply (F := Ideal) q kc k _).trans ?_
  refine congrArg₂ (fun a b : EReal => a - b) (ref_score q kc k b h n j e) ?_
  refine (val_main_v17_apply (F := Ideal) q kc k _).trans ((val_main_v16_apply (F := Ideal) q kc k _).trans ?_)
  refine Eq.trans (congrArg _ ?_) (ref_max q kc k b h n e)
  exact eq_ix3 _

/-- The sum of a row's weights. -/
theorem ref_sum (b h : Fin 8) (n : Fin 4096) (e : Fin 128) :
    val_main_v20 (F := Ideal) q kc k (ix3 b h n)
      = ∑ j, Ideal.exp (score q kc k b n (headAt h e) j - Finset.univ.fold max ⊥ (score q kc k b n (headAt h e))) := by
  refine (val_main_v20_apply q kc k (ix3 b h n)).trans ?_
  have h0 : (val_main_cst_1 (F := Ideal)) (Shape.Idx.first h_S_) = (0 : EReal) := zero_f32
  rw [h0]
  refine (zero_add _).trans ?_
  refine Finset.sum_congr rfl fun j _ => ?_
  refine Eq.trans (congrArg _ ?_) (ref_exp q kc k b h n j e)
  exact eq_ix4 _

/-- A weight of the softmax. -/
theorem ref_weight (b h : Fin 8) (n : Fin 4096) (j : Fin 4352) (e : Fin 128) :
    val_main_v23 (F := Ideal) q kc k (ix4 b h n j)
      = Ideal.div (Ideal.exp (score q kc k b n (headAt h e) j - Finset.univ.fold max ⊥ (score q kc k b n (headAt h e))))
        (∑ j, Ideal.exp (score q kc k b n (headAt h e) j - Finset.univ.fold max ⊥ (score q kc k b n (headAt h e)))) := by
  refine (val_main_v23_apply (F := Ideal) q kc k _).trans ?_
  refine congrArg₂ Ideal.div (ref_exp q kc k b h n j e) ?_
  refine (val_main_v22_apply (F := Ideal) q kc k _).trans ((val_main_v21_apply (F := Ideal) q kc k _).trans ?_)
  refine Eq.trans (congrArg _ ?_) (ref_sum q kc k b h n e)
  exact eq_ix3 _

/-- The reference's result at an index, when every query and key is a number. -/
theorem ref_value (hq : ∀ i, IsReal (q i)) (hkc : ∀ i, IsReal (kc i)) (hk : ∀ i, IsReal (k i)) :
    val_main_v27 (F := Ideal) q kc k vc v = attention q kc k vc v := by
  funext i
  obtain ⟨b, n, c, rfl⟩ : ∃ (b : Fin 8) (n : Fin 4096) (c : Fin 1024), i = ix3 b n c := ⟨i 0, i 1, i 2, eq_ix3 i⟩
  have hc := c.isLt
  obtain ⟨h, e, hce⟩ : ∃ (h : Fin 8) (e : Fin 128), c = headAt h e :=
    ⟨⟨c.val / 128, by omega⟩, ⟨c.val % 128, by omega⟩, Fin.ext (by show c.val = c.val / 128 * 128 + c.val % 128; omega)⟩
  subst hce
  refine (val_main_v27_apply (F := Ideal) q kc k vc v _).trans ?_
  refine (val_main_v26_apply (F := Ideal) q kc k vc v _).trans ((val_main_v25_apply (F := Ideal) q kc k vc v _).trans ?_)
  have hi : idx_main_v25 (idx_main_v26 (ix3 b n (headAt h e))) = ix4 b h e n := by
    have := b.isLt; have := n.isLt; have := h.isLt; have := e.isLt
    funext a; apply Fin.ext
    match a with
    | ⟨0, _⟩ => show ((b.val * 4096 + n.val) * 1024 + (h.val * 128 + e.val)) / 4194304 = b.val; omega
    | ⟨1, _⟩ => show ((b.val * 4096 + n.val) * 1024 + (h.val * 128 + e.val)) / 128 % 8 = h.val; omega
    | ⟨2, _⟩ => show ((b.val * 4096 + n.val) * 1024 + (h.val * 128 + e.val)) % 128 = e.val; omega
    | ⟨3, _⟩ => show ((b.val * 4096 + n.val) * 1024 + (h.val * 128 + e.val)) / 1024 % 4096 = n.val; omega
  rw [hi]
  refine (val_main_v24_apply q kc k vc v (ix4 b h e n)).trans ?_
  have hs : ∀ j, IsReal (score q kc k b n (headAt h e) j) := fun j =>
    IsReal.sum _ _ fun d => (hq _).mul (by unfold joined; split; exacts [hkc _, hk _])
  refine Eq.trans ?_ (softmax_row (score q kc k b n (headAt h e)) (fun j => joined vc v b j (headAt h e)) hs (by decide)).symm
  refine Finset.sum_congr rfl fun j _ => congrArg₂ (fun a b : EReal => a * b) ?_ ?_
  · refine Eq.trans (congrArg _ ?_) (vals_apply vc v b j h e)
    exact eq_ix4 _
  · refine Eq.trans (congrArg _ ?_) (ref_weight q kc k b h n j e)
    exact eq_ix4 _

end Cert.Proof.Attn

end
-- ==== Proof.Attn.Claim.lean ====
/-
  The claims about the attention: the programs run, and the kernel's result is the reference's when every query and key is
  a number.
-/
module

public import proofs.«01_k».proof.Defs
public import proofs.«01_k».proof.Proof.Attn.Ref
public import proofs.«01_k».proof.Proof.Gen.Kernel.Frame
public import proofs.«01_k».proof.Proof.Gen.KernelIdeal.Frame
public import Idealize.ShloMosaic.Lib.Quiescent

@[expose] public section

noncomputable section

namespace Cert.Proof.Attn

open Idealize.ShloMosaic Idealize.SL.Sem

/-- The side conditions of the precondition's operations. -/
theorem preFacts : Cert.Pre_finite_qk.Facts := ⟨by decide, by decide, by decide⟩

section Pre

variable [Cert.Pre_finite_qk.Facts]

/-- An element whose absolute value compares below infinity is a number. -/
theorem isReal_of_cmp {x : EReal} (h : BitVec.ofBool (decide (max x (-x) < Ideal.ofBits .f32 0x7F800000#32)) = 1#1) : IsReal x := by
  rw [inf_f32] at h
  refine isReal_of_abs_lt ?_
  by_contra hn
  rw [decide_eq_false hn] at h
  exact absurd h (by decide)

variable (q : FVec Ideal Cert.Pre_finite_qk.S8x4096x1024 .bf16) (kc : FVec Ideal Cert.Pre_finite_qk.S8x256x1024 .bf16)
  (k : FVec Ideal Cert.Pre_finite_qk.S8x4096x1024 .bf16) (vc : FVec Ideal Cert.Pre_finite_qk.S8x256x1024 .bf16)
  (v : FVec Ideal Cert.Pre_finite_qk.S8x4096x1024 .bf16)

theorem pre_q (h : (Cert.Pre_finite_qk.fn (F := Ideal) q kc k vc v).1 = fun _ => 1#1) (i : Cert.Pre_finite_qk.S8x4096x1024.Idx) :
    IsReal (q i) := isReal_of_cmp (congrFun h i)

theorem pre_kc (h : (Cert.Pre_finite_qk.fn (F := Ideal) q kc k vc v).2.1 = fun _ => 1#1) (i : Cert.Pre_finite_qk.S8x256x1024.Idx) :
    IsReal (kc i) := isReal_of_cmp (congrFun h i)

theorem pre_k (h : (Cert.Pre_finite_qk.fn (F := Ideal) q kc k vc v).2.2 = fun _ => 1#1) (i : Cert.Pre_finite_qk.S8x4096x1024.Idx) :
    IsReal (k i) := isReal_of_cmp (congrFun h i)

end Pre

theorem frame_reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

theorem algebraic (hP : Cert.Pre_finite_qk.Facts) :
    Cert.algebraic_KernelIdeal_ReferenceIdeal_pre_finite_qk (hPre_finite_qk := hP) := by
  intro m g m' g' hpre hargs
  refine ⟨fun c => result m c, ?_, ?_⟩
  · exact (θ_run (Cert.KernelIdeal.defs (F := Ideal)) _ _).mono (fun r h c => ⟨(h c).1.trans (final m c), (h c).2⟩)
      (Cert.KernelIdeal.Value.run_blocks (F := Ideal) m g)
  · refine (θ_run (Cert.ReferenceIdeal.defs (F := Ideal)) _ _).mono (fun r h c => ⟨(h c).1.trans ?_, (h c).2⟩)
      (Cert.ReferenceIdeal.Value.run (F := Ideal) m' g')
    obtain ⟨h0, h1, h2, h3, h4⟩ := hargs c
    obtain ⟨p0, p1, p2⟩ := hpre c
    refine (Cert.ReferenceIdeal.Read.val_main_v27_eq (F := Ideal) _ _ _ _ _).trans ?_
    rw [h0, h1, h2, h3, h4]
    exact ref_value _ _ _ _ _ (pre_q _ _ _ _ _ p0) (pre_kc _ _ _ _ _ p1) (pre_k _ _ _ _ _ p2)

end Cert.Proof.Attn

end
-- ==== Proof.Ffn.Chunks.lean ====
/-
  The feed-forward body's payload, chunk by chunk: each of its eleven column chunks is one function of the operand rows, the
  accumulator and the chunk's weights, and the last step is the residual with its norm.
-/
module

public import proofs.«01_k».proof.Proof.Gen.Kernel2Ideal.Value

@[expose] public section

noncomputable section

namespace Cert.Proof.Ffn

open Cert.Kernel2Ideal Cert.Kernel2Ideal.Gen Idealize.ShloMosaic Idealize.ShloMosaic.TcCoe Idealize.SL.Sem

variable {F : FTy → Type} [FloatOps F]

/-- A chunk's convolved half: the rows' product with 256 columns, weighed over three neighbouring rows, plus the bias. -/
abbrev half (he : FVec F S528x1024 .bf16) (w : Vec F S1024x256 .bf16) (cw : Vec F S3x256 .f32) (cb : Vec F S1x256 .f32) :
    FVec F S512x256 .f32 := k0_pay39 he w cw cb

/-- A chunk: the gated product of its two halves, multiplied down and added to the accumulator. -/
abbrev chunk (he : FVec F S528x1024 .bf16) (acc : FVec F S512x1024 .f32) (w : Vec F S1024x256 .bf16) (cw : Vec F S3x256 .f32)
    (cb : Vec F S1x256 .f32) (w' : Vec F S1024x256 .bf16) (cw' : Vec F S3x256 .f32) (cb' : Vec F S1x256 .f32)
    (wd : Vec F S256x1024 .bf16) : FVec F S512x1024 .f32 := k0_pay40 he acc (half he w cw cb) w' cw' cb' wd

/-- The residual: the rows plus the gate times the accumulated product. -/
def resid (x : FVec F S512x1024 .f32) (acc : FVec F S512x1024 .f32) (g : Vec F S1x1x1x1024 .f32) : FVec F S512x1024 .f32 :=
  addf x (mulf (broadcastTo S512x1024 (shapeCast S1x1024 g shapeCasts_S1x1x1x1024_S1x1024) broadcasts_S1x1024_S512x1024) acc)

/-- Rows over the root of their mean square. -/
def normed (y : FVec F S512x1024 .f32) : FVec F S512x1024 .f32 :=
  mulf y (broadcastTo S512x1024 (rsqrt (addf (divf (shapeCast S512x1 (multiReduction .add [1] S512 (mulf y y) 0x00000000#32
    reduces_S512x1024_S512 (.inl rfl) rfl) shapeCasts_S512_S512x1) (broadcast S512x1 (Scalar.ofBits .f32 0x44800000#32)))
    (broadcast S512x1 (Scalar.ofBits .f32 0x358637BD#32)))) broadcasts_S512x1_S512x1024)

variable (he : FVec F S528x1024 .bf16) (acc : FVec F S512x1024 .f32) (w : Vec F S1024x256 .bf16) (cw : Vec F S3x256 .f32)
  (cb : Vec F S1x256 .f32) (w' : Vec F S1024x256 .bf16) (cw' : Vec F S3x256 .f32) (cb' : Vec F S1x256 .f32)
  (wd : Vec F S256x1024 .bf16)

theorem half0 (x : FVec F S512x1024 .f32) (p n : FVec F S8x1024 .f32) (a b : FVec F S1x1024 .f32) (s : Vec F S1x1x1x1024 .f32) :
    k0_pay9 x p n a b s w cw cb = half (k0_pay7 x p n a b s) w cw cb := rfl
theorem chunk0 (g : FVec F S512x256 .f32) : k0_pay10 he acc g w' cw' cb' wd = k0_pay40 he acc g w' cw' cb' wd := rfl
theorem chunk1 : k0_pay16 acc (k0_pay15 he (k0_pay11 he w) cw (k0_pay12 he w) (k0_pay13 he w) (k0_pay14 cw) cb w' cw' cb' wd)
    = chunk he acc w cw cb w' cw' cb' wd := rfl
theorem chunk2 : k0_pay21 acc (k0_pay17 he w cw cb) (k0_pay19 he w' cw') (k0_pay20 he w' cw') cb' wd
    = chunk he acc w cw cb w' cw' cb' wd := rfl
theorem chunk3 : k0_pay24 acc (k0_pay22 he w cw cb) (k0_pay23 he w') cw' cb' wd = chunk he acc w cw cb w' cw' cb' wd := rfl
theorem chunk4 : k0_pay29 he acc (k0_pay26 he w) (k0_pay27 he w cw) (k0_pay28 cw) cb w' cw' cb' wd
    = chunk he acc w cw cb w' cw' cb' wd := rfl
theorem chunk5 : k0_pay33 acc (k0_pay31 he w' cw' cb') (k0_pay32 (k0_pay30 he w) cw cb) wd
    = chunk he acc w cw cb w' cw' cb' wd := rfl
theorem chunk6 : k0_pay38 acc (k0_pay34 he w cw cb) (k0_pay35 he w') cw' (k0_pay36 he w') (k0_pay37 he w' cw') cb' wd
    = chunk he acc w cw cb w' cw' cb' wd := rfl
theorem chunk8 : k0_pay45 he acc (k0_pay41 he w) cw (k0_pay42 he w) (k0_pay43 he w) (k0_pay44 cw) cb w' cw' cb' wd
    = chunk he acc w cw cb w' cw' cb' wd := rfl
theorem chunk9 : k0_pay48 acc (k0_pay46 he w cw cb) (k0_pay47 he w' cw') cb' wd = chunk he acc w cw cb w' cw' cb' wd := rfl
theorem chunk10 (x : FVec F S512x1024 .f32) (g : Vec F S1x1x1x1024 .f32) :
    k0_pay52 x acc (k0_pay49 he w cw cb) (k0_pay50 he w') cw' 1#32 cb' wd g
      = normed (resid x (chunk he acc w cw cb w' cw' cb' wd) g) := rfl

end Cert.Proof.Ffn

end
-- ==== Proof.Ffn.Rows.lean ====
/-
  The feed-forward body's arithmetic, read at one element: a modulated row, a convolved half of a chunk, a chunk's
  contribution to the accumulator, and a row over the root of its mean square.
-/
module

public import proofs.«01_k».proof.Proof.Ffn.Chunks
public import Idealize.ShloMosaic.Lib.Pointwise.Tactic
public import Idealize.ShloMosaic.Lib.MatmulPlain
public import Idealize.ShloMosaic.Lib.KernelVsHost

@[expose] public section

noncomputable section

namespace Cert.Proof.Ffn

open Cert.Kernel2Ideal Cert.Kernel2Ideal.Gen Idealize.ShloMosaic Idealize.ShloMosaic.TcCoe Idealize.SL.Sem
open scoped BigOperators

/-- One over the root of a row's mean square, `1e-6` added under the root. -/
def invRms (x : Fin 1024 → EReal) : EReal :=
  Ideal.rsqrt (Ideal.div (∑ e, x e * x e) (Ideal.ofBits .f32 0x44800000#32) + Ideal.ofBits .f32 0x358637BD#32)

/-- A row normalised, then scaled by `1 + sc` and shifted by `sh`. -/
def modRow (x g sh sc : Fin 1024 → EReal) (d : Fin 1024) : EReal := x d * invRms x * g d * (1 + sc d) + sh d

theorem drop_mod {α : Type} (x : S1x1x1x1024.Idx → α) (d : Fin 1024) :
    shapeCast S1x1024 x shapeCasts_S1x1x1x1024_S1x1024 (ix2 (0 : Fin 1) d) = x (ix4 (0 : Fin 1) (0 : Fin 1) (0 : Fin 1) d) :=
  shapeCast_apply x _ _ _ (by
    rw [Shape.rowMajor_val_two, Shape.rowMajor_val_four]
    show ((0 * 1 + 0) * 1 + 0) * 1024 + d.val = 0 * 1024 + d.val
    omega)

theorem drop_row {α : Type} (x : S1x1024.Idx → α) (d : Fin 1024) :
    shapeCast S1x1024 x shapeCasts_S1x1024_S1x1024 (ix2 (0 : Fin 1) d) = x (ix2 (0 : Fin 1) d) :=
  shapeCast_apply x _ _ _ rfl

theorem drop_halo {α : Type} (x : S1x8x1024.Idx → α) (r : Fin 8) (d : Fin 1024) :
    shapeCast S8x1024 x shapeCasts_S1x8x1024_S8x1024 (ix2 r d) = x (ix3 (0 : Fin 1) r d) :=
  shapeCast_apply x _ _ _ (by
    rw [Shape.rowMajor_val_two, Shape.rowMajor_val_three]
    show (0 * 8 + r.val) * 1024 + d.val = r.val * 1024 + d.val
    omega)

theorem drop_tile {α : Type} (x : S1x512x1024.Idx → α) (r : Fin 512) (d : Fin 1024) :
    shapeCast S512x1024 x shapeCasts_S1x512x1024_S512x1024 (ix2 r d) = x (ix3 (0 : Fin 1) r d) :=
  shapeCast_apply x _ _ _ (by
    rw [Shape.rowMajor_val_two, Shape.rowMajor_val_three]
    show (0 * 512 + r.val) * 1024 + d.val = r.val * 1024 + d.val
    omega)

theorem lift8 (r : Fin 8) (j : Fin 1024) : reduces_S8x1024_S8.lift (ix1 r) j = ix2 r j := by
  funext a; apply Fin.ext
  match a with
  | ⟨0, _⟩ => rfl
  | ⟨1, _⟩ => rfl

theorem lift512 (r : Fin 512) (j : Fin 1024) : reduces_S512x1024_S512.lift (ix1 r) j = ix2 r j := by
  funext a; apply Fin.ext
  match a with
  | ⟨0, _⟩ => rfl
  | ⟨1, _⟩ => rfl

/-- The sum of squares of a halo row. -/
theorem sq8 (x : FVec Ideal S8x1024 .f32) (r : Fin 8) :
    shapeCast S8x1 (multiReduction .add [1] S8 (mulf x x) 0x00000000#32 reduces_S8x1024_S8 (.inl rfl) rfl) shapeCasts_S8_S8x1 (ix2 r (0 : Fin 1))
      = ∑ e, x (ix2 r e) * x (ix2 r e) := by
  refine (shapeCast_apply _ shapeCasts_S8_S8x1 (ix2 r (0 : Fin 1)) (ix1 r) (by
    rw [Shape.rowMajor_val_one, Shape.rowMajor_val_two]
    show r.val = r.val * 1 + 0
    omega)).trans ?_
  refine (Ideal.multiReduction_add_single _ _ reduces_S8x1024_S8 (.inl rfl) rfl (ix1 r)).trans ?_
  exact Finset.sum_congr rfl fun e _ => congrArg (fun i => x i * x i) (lift8 r e)

/-- The sum of squares of a tile's row. -/
theorem sq512 (x : FVec Ideal S512x1024 .f32) (r : Fin 512) :
    shapeCast S512x1 (multiReduction .add [1] S512 (mulf x x) 0x00000000#32 reduces_S512x1024_S512 (.inl rfl) rfl) shapeCasts_S512_S512x1 (ix2 r (0 : Fin 1))
      = ∑ e, x (ix2 r e) * x (ix2 r e) := by
  refine (shapeCast_apply _ shapeCasts_S512_S512x1 (ix2 r (0 : Fin 1)) (ix1 r) (by
    rw [Shape.rowMajor_val_one, Shape.rowMajor_val_two]
    show r.val = r.val * 1 + 0
    omega)).trans ?_
  refine (Ideal.multiReduction_add_single _ _ reduces_S512x1024_S512 (.inl rfl) rfl (ix1 r)).trans ?_
  exact Finset.sum_congr rfl fun e _ => congrArg (fun i => x i * x i) (lift512 r e)

/-- The halo rows before the tile. -/
theorem prev_apply (i : grid0.Coords) (x : Vec Ideal S1x8x1024 .f32) (g : Vec Ideal S1x1024 .f32) (s c : Vec Ideal S1x1x1x1024 .f32)
    (r : Fin 8) (d : Fin 1024) :
    k0_pay3 (F := Ideal) i x g s c (ix2 r d)
      = modRow (fun e => x (ix3 (0 : Fin 1) r e)) (fun e => g (ix2 (0 : Fin 1) e)) (fun e => s (ix4 (0 : Fin 1) (0 : Fin 1) (0 : Fin 1) e))
          (fun e => c (ix4 (0 : Fin 1) (0 : Fin 1) (0 : Fin 1) e)) d
        * (((Scalar.extui (Scalar.cmpi .sgt (BitVec.ofNat 32 (i 1).val) 0#32) : BitVec 32).toInt : ℝ) : EReal) := by
  unfold k0_pay3
  pointwise
  rw [sq8, drop_halo, drop_row, drop_mod, drop_mod]
  simp only [drop_halo]
  rfl

/-- The halo rows after the tile. -/
theorem next_apply (i : BitVec 32) (x : Vec Ideal S1x8x1024 .f32) (g : Vec Ideal S1x1024 .f32) (s c : Vec Ideal S1x1x1x1024 .f32)
    (r : Fin 8) (d : Fin 1024) :
    k0_pay4 (F := Ideal) i x g s c (ix2 r d)
      = modRow (fun e => x (ix3 (0 : Fin 1) r e)) (fun e => g (ix2 (0 : Fin 1) e)) (fun e => s (ix4 (0 : Fin 1) (0 : Fin 1) (0 : Fin 1) e))
          (fun e => c (ix4 (0 : Fin 1) (0 : Fin 1) (0 : Fin 1) e)) d
        * (((Scalar.extui (Scalar.cmpi .slt i 7#32) : BitVec 32).toInt : ℝ) : EReal) := by
  unfold k0_pay4
  pointwise
  rw [sq8, drop_halo, drop_row, drop_mod, drop_mod]
  simp only [drop_halo]
  rfl

/-- Three pieces along the rows: eight, 512, eight. -/
theorem concat_rows (p : S8x1024.Idx → EReal) (m : S512x1024.Idx → EReal) (n : S8x1024.Idx → EReal) (d : Fin 1024) (j : Fin 528) :
    (∀ r : Fin 8, j.val = r.val → concatenate S528x1024 0 [⟨S8x1024, p⟩, ⟨S512x1024, m⟩, ⟨S8x1024, n⟩]
        concatenates_S8x1024_S512x1024_S8x1024_S528x1024_d0 (ix2 j d) = p (ix2 r d))
    ∧ (∀ r : Fin 512, j.val = 8 + r.val → concatenate S528x1024 0 [⟨S8x1024, p⟩, ⟨S512x1024, m⟩, ⟨S8x1024, n⟩]
        concatenates_S8x1024_S512x1024_S8x1024_S528x1024_d0 (ix2 j d) = m (ix2 r d))
    ∧ (∀ r : Fin 8, j.val = 520 + r.val → concatenate S528x1024 0 [⟨S8x1024, p⟩, ⟨S512x1024, m⟩, ⟨S8x1024, n⟩]
        concatenates_S8x1024_S512x1024_S8x1024_S528x1024_d0 (ix2 j d) = n (ix2 r d)) := by
  refine ⟨fun r hj => ?_, fun r hj => ?_, fun r hj => ?_⟩
  · refine concatenate_apply_piece (t := S528x1024) 0 [⟨S8x1024, p⟩, ⟨S512x1024, m⟩, ⟨S8x1024, n⟩] _ (ix2 j d) 0
      (by show 0 < 3; omega) S8x1024 p rfl rfl 0 rfl (ix2 r d) (fun b hb => ?_) (by show 0 + r.val = j.val; omega)
    match b with
    | ⟨0, _⟩ => exact absurd rfl hb
    | ⟨1, _⟩ => rfl
  · refine concatenate_apply_piece (t := S528x1024) 0 [⟨S8x1024, p⟩, ⟨S512x1024, m⟩, ⟨S8x1024, n⟩] _ (ix2 j d) 1
      (by show 1 < 3; omega) S512x1024 m rfl rfl 8 rfl (ix2 r d) (fun b hb => ?_) (by show 8 + r.val = j.val; omega)
    match b with
    | ⟨0, _⟩ => exact absurd rfl hb
    | ⟨1, _⟩ => rfl
  · refine concatenate_apply_piece (t := S528x1024) 0 [⟨S8x1024, p⟩, ⟨S512x1024, m⟩, ⟨S8x1024, n⟩] _ (ix2 j d) 2
      (by show 2 < 3; omega) S8x1024 n rfl rfl 520 rfl (ix2 r d) (fun b hb => ?_) (by show 520 + r.val = j.val; omega)
    match b with
    | ⟨0, _⟩ => exact absurd rfl hb
    | ⟨1, _⟩ => rfl

section Operand

variable (x : FVec Ideal S512x1024 .f32) (p n : FVec Ideal S8x1024 .f32) (g s : FVec Ideal S1x1024 .f32)
  (c : Vec Ideal S1x1x1x1024 .f32) (d : Fin 1024)

/-- The operand's first eight rows are the halo before the tile. -/
theorem operand_prev (r : Fin 8) (j : Fin 528) (hj : j.val = r.val) :
    k0_pay7 (F := Ideal) x p n g s c (ix2 j d) = p (ix2 r d) := by
  unfold k0_pay7
  exact (concat_rows p _ n d j).1 r hj

/-- The operand's last eight rows are the halo after the tile. -/
theorem operand_next (r : Fin 8) (j : Fin 528) (hj : j.val = 520 + r.val) :
    k0_pay7 (F := Ideal) x p n g s c (ix2 j d) = n (ix2 r d) := by
  unfold k0_pay7
  exact (concat_rows p _ n d j).2.2 r hj

/-- The rows between them are the tile's, modulated. -/
theorem operand_tile (r : Fin 512) (j : Fin 528) (hj : j.val = 8 + r.val) :
    k0_pay7 (F := Ideal) x p n g s c (ix2 j d)
      = modRow (fun e => x (ix2 r e)) (fun e => g (ix2 (0 : Fin 1) e)) (fun e => s (ix2 (0 : Fin 1) e))
          (fun e => c (ix4 (0 : Fin 1) (0 : Fin 1) (0 : Fin 1) e)) d := by
  unfold k0_pay7
  refine ((concat_rows p _ n d j).2.1 r hj).trans ?_
  pointwise
  rw [sq512, drop_mod]
  rfl

end Operand

/-- A row of the operand times a column of weights. -/
def dotCol (he : S528x1024.Idx → EReal) (w : Fin 1024 → EReal) (j : Fin 528) : EReal := ∑ d, he (ix2 j d) * w d

theorem up_apply (he : FVec Ideal S528x1024 .bf16) (w : FVec Ideal S1024x256 .bf16) (j : Fin 528) (k : Fin 256) :
    Ideal.matmul dot_S528x1024_S1024x256_S528x256_1_0_0_1_n_n he (shapeCast S1024x256 w shapeCasts_S1024x256_S1024x256)
      (constant (F := Ideal) S528x256 .f32 0x00000000#32) (ix2 j k) = dotCol he (fun d => w (ix2 d k)) j := by
  refine (Ideal.matmul_plain_apply (M := 528) (K := 1024) (N := 256) (φ₁ := .bf16) (φ₂ := .bf16) none he _ _ j k).trans ?_
  show Ideal.ofBits .f32 0x00000000#32 + _ = _
  rw [Ideal.ofBits_zero_f32, zero_add]
  refine Finset.sum_congr rfl fun d _ => congrArg (fun b : EReal => he (ix2 j d) * b) ?_
  exact shapeCast_apply _ _ _ (ix2 d k) rfl

theorem down_apply (m : FVec Ideal S512x256 .bf16) (w : FVec Ideal S256x1024 .bf16) (r : Fin 512) (c : Fin 1024) :
    Ideal.matmul dot_S512x256_S256x1024_S512x1024_1_0_0_1_n_n m (shapeCast S256x1024 w shapeCasts_S256x1024_S256x1024)
      (constant (F := Ideal) S512x1024 .f32 0x00000000#32) (ix2 r c) = ∑ k : Fin 256, m (ix2 r k) * w (ix2 k c) := by
  refine (Ideal.matmul_plain_apply (M := 512) (K := 256) (N := 1024) (φ₁ := .bf16) (φ₂ := .bf16) none m _ _ r c).trans ?_
  show Ideal.ofBits .f32 0x00000000#32 + _ = _
  rw [Ideal.ofBits_zero_f32, zero_add]
  refine Finset.sum_congr rfl fun d _ => congrArg (fun b : EReal => m (ix2 r d) * b) ?_
  exact shapeCast_apply _ _ _ (ix2 d c) rfl

/-- A column of the convolved product: three neighbouring rows' products, each times its tap, plus the bias. -/
def convCol (he : S528x1024.Idx → EReal) (w : Fin 1024 → EReal) (t0 t1 t2 b : EReal) (r : Fin 512) : EReal :=
  dotCol he w ⟨r.val + 7, by have := r.isLt; omega⟩ * t0 + dotCol he w ⟨r.val + 8, by have := r.isLt; omega⟩ * t1
    + dotCol he w ⟨r.val + 9, by have := r.isLt; omega⟩ * t2 + b

theorem half_apply (he : FVec Ideal S528x1024 .bf16) (w : Vec Ideal S1024x256 .bf16) (cw : Vec Ideal S3x256 .f32)
    (cb : Vec Ideal S1x256 .f32) (r : Fin 512) (k : Fin 256) :
    half (F := Ideal) he w cw cb (ix2 r k)
      = convCol he (fun d => w (ix2 d k)) (cw (ix2 (0 : Fin 3) k)) (cw (ix2 (1 : Fin 3) k)) (cw (ix2 (2 : Fin 3) k)) (cb (ix2 (0 : Fin 1) k)) r := by
  unfold half k0_pay39
  pointwise
  rw [up_apply, up_apply, up_apply]
  have hb : shapeCast S1x256 cb shapeCasts_S1x256_S1x256 (ix2 (0 : Fin 1) k) = cb (ix2 (0 : Fin 1) k) := shapeCast_apply _ _ _ _ rfl
  rw [hb]
  have h := r.isLt
  unfold convCol
  have e0 : (⟨(8 + r.val + 528 - 1) % 528, Nat.mod_lt _ (by decide)⟩ : Fin 528) = ⟨r.val + 7, by omega⟩ := Fin.ext (by show (8 + r.val + 528 - 1) % 528 = r.val + 7; omega)
  have e1 : (⟨8 + r.val, by omega⟩ : Fin 528) = ⟨r.val + 8, by omega⟩ := Fin.ext (by show 8 + r.val = r.val + 8; omega)
  have e2 : (⟨(8 + r.val + 528 - 527) % 528, Nat.mod_lt _ (by decide)⟩ : Fin 528) = ⟨r.val + 9, by omega⟩ := Fin.ext (by show (8 + r.val + 528 - 527) % 528 = r.val + 9; omega)
  exact congrArg₂ (fun a b : EReal => a + b) (congrArg₂ (fun a b : EReal => a + b) (congrArg₂ (fun a b : EReal => a + b)
    (congrArg (fun j => dotCol he _ j * _) e0) (congrArg (fun j => dotCol he _ j * _) e1)) (congrArg (fun j => dotCol he _ j * _) e2)) rfl

/-- The gated product of a gate and a value. -/
def gated (g v : EReal) : EReal := g * Ideal.logistic g * v

theorem chunk_apply (he : FVec Ideal S528x1024 .bf16) (acc : FVec Ideal S512x1024 .f32) (w : Vec Ideal S1024x256 .bf16)
    (cw : Vec Ideal S3x256 .f32) (cb : Vec Ideal S1x256 .f32) (w' : Vec Ideal S1024x256 .bf16) (cw' : Vec Ideal S3x256 .f32)
    (cb' : Vec Ideal S1x256 .f32) (wd : Vec Ideal S256x1024 .bf16) (r : Fin 512) (c : Fin 1024) :
    chunk (F := Ideal) he acc w cw cb w' cw' cb' wd (ix2 r c)
      = acc (ix2 r c) + ∑ k : Fin 256, gated (half (F := Ideal) he w cw cb (ix2 r k)) (half (F := Ideal) he w' cw' cb' (ix2 r k)) * wd (ix2 k c) := by
  show acc (ix2 r c) + Ideal.matmul dot_S512x256_S256x1024_S512x1024_1_0_0_1_n_n
    (truncf .bf16 (mulf (mulf (half (F := Ideal) he w cw cb) (logistic (half (F := Ideal) he w cw cb))) (half (F := Ideal) he w' cw' cb')) bitsLt_bf16_f32)
    (shapeCast S256x1024 wd shapeCasts_S256x1024_S256x1024) (constant (F := Ideal) S512x1024 .f32 0x00000000#32) (ix2 r c) = _
  rw [down_apply]
  rfl

theorem normed_apply (y : FVec Ideal S512x1024 .f32) (r : Fin 512) (c : Fin 1024) :
    normed (F := Ideal) y (ix2 r c) = y (ix2 r c) * invRms fun e => y (ix2 r e) := by
  unfold normed
  pointwise
  rw [sq512]
  rfl

theorem resid_apply (x acc : FVec Ideal S512x1024 .f32) (g : Vec Ideal S1x1x1x1024 .f32) (r : Fin 512) (c : Fin 1024) :
    resid (F := Ideal) x acc g (ix2 r c) = x (ix2 r c) + g (ix4 (0 : Fin 1) (0 : Fin 1) (0 : Fin 1) c) * acc (ix2 r c) := by
  unfold resid
  pointwise
  rw [drop_mod]

theorem gain_apply (y : FVec Ideal S512x1024 .f32) (g : Vec Ideal S1x1024 .f32) (r : Fin 512) (c : Fin 1024) :
    k0_pay1 (F := Ideal) (k0_pay51 (F := Ideal) g) y (ix3 (0 : Fin 1) r c) = y (ix2 r c) * g (ix2 (0 : Fin 1) c) := by
  unfold k0_pay1 k0_pay51
  refine (shapeCast_addUnit_apply ![512, 1024] _ shapeCasts_S512x1024_S1x512x1024 (ix3 (0 : Fin 1) r c)).trans ?_
  have e : (fun a : Fin 2 => (ix3 (0 : Fin 1) r c : S1x512x1024.Idx) a.succ) = (ix2 r c : S512x1024.Idx) := funext fun a => by
    match a with
    | ⟨0, _⟩ => rfl
    | ⟨1, _⟩ => rfl
  refine (congrArg _ e).trans ?_
  pointwise
  rw [drop_row]

end Cert.Proof.Ffn

end
-- ==== Proof.Ffn.Payload.lean ====
/-
  The feed-forward body's result block: the eleven chunks are one sum over the 2816 hidden columns.
-/
module

public import proofs.«01_k».proof.Proof.Ffn.Rows
public import Idealize.ShloMosaic.Lib.Pipeline.ValueKit.Tiles

@[expose] public section

noncomputable section

namespace Cert.Proof.Ffn

open Cert.Kernel2Ideal Cert.Kernel2Ideal.Gen Idealize.ShloMosaic Idealize.ShloMosaic.TcCoe Idealize.SL.Sem
open scoped BigOperators

section Chain

variable {F : FTy → Type} [FloatOps F]

/-- The accumulator after the eleven chunks. -/
def chain (he : FVec F S528x1024 .bf16) (x7 : Vec F S1024x5632 .bf16) (x8 : Vec F S3x5632 .f32) (x9 : Vec F S1x5632 .f32)
    (x10 : Vec F S2816x1024 .bf16) : FVec F S512x1024 .f32 :=
  (chunk he
    (chunk he
    (chunk he
    (chunk he
    (chunk he
    (chunk he
    (chunk he
    (chunk he
    (chunk he
    (chunk he
    (chunk he (k0_pay8 (F := F)) (View.ld x7 r0_4) (View.ld x8 r0_5) (View.ld x9 r0_6) (View.ld x7 r0_7) (View.ld x8 r0_8) (View.ld x9 r0_9) (View.ld x10 r0_10)) (View.ld x7 r0_11) (View.ld x8 r0_12) (View.ld x9 r0_13) (View.ld x7 r0_14) (View.ld x8 r0_15) (View.ld x9 r0_16) (View.ld x10 r0_17)) (View.ld x7 r0_18) (View.ld x8 r0_19) (View.ld x9 r0_20) (View.ld x7 r0_21) (View.ld x8 r0_22) (View.ld x9 r0_23) (View.ld x10 r0_24)) (View.ld x7 r0_25) (View.ld x8 r0_26) (View.ld x9 r0_27) (View.ld x7 r0_28) (View.ld x8 r0_29) (View.ld x9 r0_30) (View.ld x10 r0_31)) (View.ld x7 r0_32) (View.ld x8 r0_33) (View.ld x9 r0_34) (View.ld x7 r0_35) (View.ld x8 r0_36) (View.ld x9 r0_37) (View.ld x10 r0_38)) (View.ld x7 r0_39) (View.ld x8 r0_40) (View.ld x9 r0_41) (View.ld x7 r0_42) (View.ld x8 r0_43) (View.ld x9 r0_44) (View.ld x10 r0_45)) (View.ld x7 r0_46) (View.ld x8 r0_47) (View.ld x9 r0_48) (View.ld x7 r0_49) (View.ld x8 r0_50) (View.ld x9 r0_51) (View.ld x10 r0_52)) (View.ld x7 r0_53) (View.ld x8 r0_54) (View.ld x9 r0_55) (View.ld x7 r0_56) (View.ld x8 r0_57) (View.ld x9 r0_58) (View.ld x10 r0_59)) (View.ld x7 r0_60) (View.ld x8 r0_61) (View.ld x9 r0_62) (View.ld x7 r0_63) (View.ld x8 r0_64) (View.ld x9 r0_65) (View.ld x10 r0_66)) (View.ld x7 r0_67) (View.ld x8 r0_68) (View.ld x9 r0_69) (View.ld x7 r0_70) (View.ld x8 r0_71) (View.ld x9 r0_72) (View.ld x10 r0_73)) (View.ld x7 r0_74) (View.ld x8 r0_75) (View.ld x9 r0_76) (View.ld x7 r0_77) (View.ld x8 r0_78) (View.ld x9 r0_79) (View.ld x10 r0_80))

variable (i : grid0.Coords) (x0 : Vec F S1x512x1024 .f32) (x1 x2 : Vec F S1x8x1024 .f32) (x3 x4 x5 : Vec F S1x1x1x1024 .f32)
  (x6 : Vec F S1x1024 .f32) (x7 : Vec F S1024x5632 .bf16) (x8 : Vec F S3x5632 .f32) (x9 : Vec F S1x5632 .f32) (x10 : Vec F S2816x1024 .bf16)
  (x11 : Vec F S1x1024 .f32)

/-- The block a point stores, chunk by chunk. -/
theorem out_eq : out0_12 i x0 x1 x2 x3 x4 x5 x6 x7 x8 x9 x10 x11
    = View.canon [⟨r0_0, k0_pay1 (k0_pay51 (View.ld x11 r0_2)) (normed (resid (k0_pay53 i x0 x1 x2 x3 x4 x5 x6 x7 x8 x9 x10 x11)
        (chain (k0_pay58 i x0 x1 x2 x3 x4 x5 x6 x7 x8 x9 x10 x11) x7 x8 x9 x10) (View.ld x5 r0_3)))⟩] := by
  unfold out0_12
  rw [half0, chunk0, chunk1, chunk2, chunk3, chunk4, chunk5, chunk6, chunk8, chunk9, chunk10]
  rfl

end Chain

/-- Hidden column `l` of the gate's half, and of the value's. -/
def gateCol (l : Fin 2816) : Fin 5632 := ⟨l.val, by have := l.isLt; omega⟩
def valueCol (l : Fin 2816) : Fin 5632 := ⟨2816 + l.val, by have := l.isLt; omega⟩

/-- A row's convolved product at a hidden column. -/
def conv (he : S528x1024.Idx → EReal) (w : S1024x5632.Idx → EReal) (cw : S3x5632.Idx → EReal) (cb : S1x5632.Idx → EReal)
    (r : Fin 512) (l : Fin 5632) : EReal :=
  convCol he (fun d => w (ix2 d l)) (cw (ix2 (0 : Fin 3) l)) (cw (ix2 (1 : Fin 3) l)) (cw (ix2 (2 : Fin 3) l)) (cb (ix2 (0 : Fin 1) l)) r

/-- A hidden column's contribution to the result. -/
def term (he : S528x1024.Idx → EReal) (w : S1024x5632.Idx → EReal) (cw : S3x5632.Idx → EReal) (cb : S1x5632.Idx → EReal)
    (wd : S2816x1024.Idx → EReal) (r : Fin 512) (c : Fin 1024) (l : Fin 2816) : EReal :=
  gated (conv he w cw cb r (gateCol l)) (conv he w cw cb r (valueCol l)) * wd (ix2 l c)

theorem half_ld (he : FVec Ideal S528x1024 .bf16) (x7 : Vec Ideal S1024x5632 .bf16) (x8 : Vec Ideal S3x5632 .f32) (x9 : Vec Ideal S1x5632 .f32)
    (o : Nat) (h7 : ∀ a, (![0, o] : Fin 2 → Nat) a + S1024x256.size a ≤ S1024x5632.size a)
    (h8 : ∀ a, (![0, o] : Fin 2 → Nat) a + S3x256.size a ≤ S3x5632.size a)
    (h9 : ∀ a, (![0, o] : Fin 2 → Nat) a + S1x256.size a ≤ S1x5632.size a) (r : Fin 512) (k : Fin 256) (l : Fin 5632) (hl : l.val = o + k.val) :
    half (F := Ideal) he (View.ld x7 (Rect.unit (s := S1024x5632) ![0, o] S1024x256.size h7))
      (View.ld x8 (Rect.unit (s := S3x5632) ![0, o] S3x256.size h8)) (View.ld x9 (Rect.unit (s := S1x5632) ![0, o] S1x256.size h9)) (ix2 r k)
      = conv he x7 x8 x9 r l := by
  refine (half_apply _ _ _ _ r k).trans ?_
  have e7 : ∀ d : Fin 1024, View.ld x7 (Rect.unit (s := S1024x5632) ![0, o] S1024x256.size h7) (ix2 d k) = x7 (ix2 d l) := fun d =>
    View.ld_unit_apply_of x7 _ _ h7 (ix2 d k) (ix2 d l) fun a => by
      match a with
      | ⟨0, _⟩ => exact (Nat.zero_add _).symm
      | ⟨1, _⟩ => exact hl
  have e8 : ∀ t : Fin 3, View.ld x8 (Rect.unit (s := S3x5632) ![0, o] S3x256.size h8) (ix2 t k) = x8 (ix2 t l) := fun t =>
    View.ld_unit_apply_of x8 _ _ h8 (ix2 t k) (ix2 t l) fun a => by
      match a with
      | ⟨0, _⟩ => exact (Nat.zero_add _).symm
      | ⟨1, _⟩ => exact hl
  have e9 : View.ld x9 (Rect.unit (s := S1x5632) ![0, o] S1x256.size h9) (ix2 (0 : Fin 1) k) = x9 (ix2 (0 : Fin 1) l) :=
    View.ld_unit_apply_of x9 _ _ h9 (ix2 (0 : Fin 1) k) (ix2 (0 : Fin 1) l) fun a => by
      match a with
      | ⟨0, _⟩ => rfl
      | ⟨1, _⟩ => exact hl
  unfold conv
  rw [← funext e7, ← e8, ← e8, ← e8, ← e9]

/-- A chunk at columns `o … o + 255` adds those columns' contributions. -/
theorem chunk_ld (he : FVec Ideal S528x1024 .bf16) (acc : FVec Ideal S512x1024 .f32) (x7 : Vec Ideal S1024x5632 .bf16) (x8 : Vec Ideal S3x5632 .f32)
    (x9 : Vec Ideal S1x5632 .f32) (x10 : Vec Ideal S2816x1024 .bf16) (o o' : Nat) (ho : o + 256 ≤ 2816) (ho' : o' = 2816 + o)
    (h7 : ∀ a, (![0, o] : Fin 2 → Nat) a + S1024x256.size a ≤ S1024x5632.size a)
    (h8 : ∀ a, (![0, o] : Fin 2 → Nat) a + S3x256.size a ≤ S3x5632.size a)
    (h9 : ∀ a, (![0, o] : Fin 2 → Nat) a + S1x256.size a ≤ S1x5632.size a)
    (h7' : ∀ a, (![0, o'] : Fin 2 → Nat) a + S1024x256.size a ≤ S1024x5632.size a)
    (h8' : ∀ a, (![0, o'] : Fin 2 → Nat) a + S3x256.size a ≤ S3x5632.size a)
    (h9' : ∀ a, (![0, o'] : Fin 2 → Nat) a + S1x256.size a ≤ S1x5632.size a)
    (h10 : ∀ a, (![o, 0] : Fin 2 → Nat) a + S256x1024.size a ≤ S2816x1024.size a) (r : Fin 512) (c : Fin 1024) :
    chunk (F := Ideal) he acc (View.ld x7 (Rect.unit (s := S1024x5632) ![0, o] S1024x256.size h7))
      (View.ld x8 (Rect.unit (s := S3x5632) ![0, o] S3x256.size h8)) (View.ld x9 (Rect.unit (s := S1x5632) ![0, o] S1x256.size h9))
      (View.ld x7 (Rect.unit (s := S1024x5632) ![0, o'] S1024x256.size h7'))
      (View.ld x8 (Rect.unit (s := S3x5632) ![0, o'] S3x256.size h8')) (View.ld x9 (Rect.unit (s := S1x5632) ![0, o'] S1x256.size h9'))
      (View.ld x10 (Rect.unit (s := S2816x1024) ![o, 0] S256x1024.size h10)) (ix2 r c)
      = acc (ix2 r c) + ∑ k : Fin 256, term he x7 x8 x9 x10 r c ⟨o + k.val, by have := k.isLt; omega⟩ := by
  refine (chunk_apply _ _ _ _ _ _ _ _ _ r c).trans ?_
  refine congrArg (fun s : EReal => acc (ix2 r c) + s) (Finset.sum_congr rfl fun k _ => ?_)
  have hk := k.isLt
  refine congrArg₂ (fun a b : EReal => a * b) (congrArg₂ gated ?_ ?_) ?_
  · exact half_ld he x7 x8 x9 o h7 h8 h9 r k (gateCol ⟨o + k.val, by omega⟩) rfl
  · exact half_ld he x7 x8 x9 o' h7' h8' h9' r k (valueCol ⟨o + k.val, by omega⟩) (by
      show 2816 + (o + k.val) = o' + k.val
      omega)
  · exact View.ld_unit_apply_of x10 _ _ h10 (ix2 k c) (ix2 ⟨o + k.val, by omega⟩ c) fun a => by
      match a with
      | ⟨0, _⟩ => rfl
      | ⟨1, _⟩ => exact (Nat.zero_add _).symm

/-- A sum over the hidden columns, in eleven runs of 256. -/
theorem sum_runs (T : Fin 2816 → EReal) :
    ∑ l, T l = ∑ a : Fin 11, ∑ k : Fin 256, T ⟨a.val * 256 + k.val, by have := a.isLt; have := k.isLt; omega⟩ := by
  rw [← Fintype.sum_prod_type']
  refine (Fintype.sum_equiv (finProdFinEquiv (m := 11) (n := 256)) _ _ fun p => ?_).symm
  refine congrArg T (Fin.ext ?_)
  show p.1.val * 256 + p.2.val = p.2.val + 256 * p.1.val
  omega

theorem sum_eleven (f : Fin 11 → EReal) :
    ∑ a, f a = 0 + f 0 + f 1 + f 2 + f 3 + f 4 + f 5 + f 6 + f 7 + f 8 + f 9 + f 10 := by
  simp only [Fin.sum_univ_castSucc, Finset.univ_eq_empty, Finset.sum_empty]
  rfl

/-- The accumulator after the eleven chunks is the sum over the hidden columns. -/
theorem chain_apply (he : FVec Ideal S528x1024 .bf16) (x7 : Vec Ideal S1024x5632 .bf16) (x8 : Vec Ideal S3x5632 .f32)
    (x9 : Vec Ideal S1x5632 .f32) (x10 : Vec Ideal S2816x1024 .bf16) (r : Fin 512) (c : Fin 1024) :
    chain (F := Ideal) he x7 x8 x9 x10 (ix2 r c) = ∑ l, term he x7 x8 x9 x10 r c l := by
  rw [sum_runs, sum_eleven]
  unfold chain
  refine (chunk_ld he _ x7 x8 x9 x10 2560 5376 (by omega) rfl _ _ _ _ _ _ _ r c).trans ?_
  refine congrArg₂ (fun a b : EReal => a + b) ?_ rfl
  refine (chunk_ld he _ x7 x8 x9 x10 2304 5120 (by omega) rfl _ _ _ _ _ _ _ r c).trans ?_
  refine congrArg₂ (fun a b : EReal => a + b) ?_ rfl
  refine (chunk_ld he _ x7 x8 x9 x10 2048 4864 (by omega) rfl _ _ _ _ _ _ _ r c).trans ?_
  refine congrArg₂ (fun a b : EReal => a + b) ?_ rfl
  refine (chunk_ld he _ x7 x8 x9 x10 1792 4608 (by omega) rfl _ _ _ _ _ _ _ r c).trans ?_
  refine congrArg₂ (fun a b : EReal => a + b) ?_ rfl
  refine (chunk_ld he _ x7 x8 x9 x10 1536 4352 (by omega) rfl _ _ _ _ _ _ _ r c).trans ?_
  refine congrArg₂ (fun a b : EReal => a + b) ?_ rfl
  refine (chunk_ld he _ x7 x8 x9 x10 1280 4096 (by omega) rfl _ _ _ _ _ _ _ r c).trans ?_
  refine congrArg₂ (fun a b : EReal => a + b) ?_ rfl
  refine (chunk_ld he _ x7 x8 x9 x10 1024 3840 (by omega) rfl _ _ _ _ _ _ _ r c).trans ?_
  refine congrArg₂ (fun a b : EReal => a + b) ?_ rfl
  refine (chunk_ld he _ x7 x8 x9 x10 768 3584 (by omega) rfl _ _ _ _ _ _ _ r c).trans ?_
  refine congrArg₂ (fun a b : EReal => a + b) ?_ rfl
  refine (chunk_ld he _ x7 x8 x9 x10 512 3328 (by omega) rfl _ _ _ _ _ _ _ r c).trans ?_
  refine congrArg₂ (fun a b : EReal => a + b) ?_ rfl
  refine (chunk_ld he _ x7 x8 x9 x10 256 3072 (by omega) rfl _ _ _ _ _ _ _ r c).trans ?_
  refine congrArg₂ (fun a b : EReal => a + b) ?_ rfl
  refine (chunk_ld he _ x7 x8 x9 x10 0 2816 (by omega) rfl _ _ _ _ _ _ _ r c).trans ?_
  refine congrArg₂ (fun a b : EReal => a + b) ?_ rfl
  exact Ideal.ofBits_zero_f32

variable (i : grid0.Coords) (x0 : Vec Ideal S1x512x1024 .f32) (x1 x2 : Vec Ideal S1x8x1024 .f32) (x3 x4 x5 : Vec Ideal S1x1x1x1024 .f32)
  (x6 : Vec Ideal S1x1024 .f32) (x7 : Vec Ideal S1024x5632 .bf16) (x8 : Vec Ideal S3x5632 .f32) (x9 : Vec Ideal S1x5632 .f32) (x10 : Vec Ideal S2816x1024 .bf16)
  (x11 : Vec Ideal S1x1024 .f32)

/-- The residual row before its norm. -/
def residRow (he : S528x1024.Idx → EReal) (x0 : S1x512x1024.Idx → EReal) (x5 : S1x1x1x1024.Idx → EReal) (x7 : S1024x5632.Idx → EReal)
    (x8 : S3x5632.Idx → EReal) (x9 : S1x5632.Idx → EReal) (x10 : S2816x1024.Idx → EReal) (r : Fin 512) (c : Fin 1024) : EReal :=
  x0 (ix3 (0 : Fin 1) r c) + x5 (ix4 (0 : Fin 1) (0 : Fin 1) (0 : Fin 1) c) * ∑ l, term he x7 x8 x9 x10 r c l

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The operand rows a point multiplies. -/
abbrev operand (i : grid0.Coords) (x0 : Vec Ideal S1x512x1024 .f32) (x1 x2 : Vec Ideal S1x8x1024 .f32) (x3 x4 : Vec Ideal S1x1x1x1024 .f32)
    (x6 : Vec Ideal S1x1024 .f32) : FVec Ideal S528x1024 .bf16 :=
  k0_pay7 (k0_pay2 x0) (k0_pay3 i x1 x6 x3 x4) (k0_pay4 (BitVec.ofNat 32 (i 1).val) x2 x6 x3 x4) (k0_pay5 x6) (k0_pay6 x3) x4

/-- The block a point stores, at an element. -/
theorem out_apply (r : Fin 512) (c : Fin 1024) :
    out0_12 (F := Ideal) i x0 x1 x2 x3 x4 x5 x6 x7 x8 x9 x10 x11 (ix3 (0 : Fin 1) r c)
      = residRow (operand i x0 x1 x2 x3 x4 x6) x0 x5 x7 x8 x9 x10 r c
          * invRms (residRow (operand i x0 x1 x2 x3 x4 x6) x0 x5 x7 x8 x9 x10 r) * x11 (ix2 (0 : Fin 1) c) := by
  rw [out_eq]
  unfold k0_pay58 k0_pay57 k0_pay56 k0_pay55 k0_pay54 k0_pay53
  rw [View.canon_unit_zero hz3]
  simp only [View.ld_unit_zero (S := S1x1024) hz2, View.ld_unit_zero (S := S1x512x1024) hz3, View.ld_unit_zero (S := S1x8x1024) hz3,
    View.ld_unit_zero (S := S1x1x1x1024) hz4]
  refine (gain_apply _ _ r c).trans (congrArg (fun a : EReal => a * x11 (ix2 (0 : Fin 1) c)) ?_)
  refine (normed_apply _ r c).trans ?_
  have e : ∀ c : Fin 1024, resid (F := Ideal) (k0_pay2 x0) (chain (operand i x0 x1 x2 x3 x4 x6) x7 x8 x9 x10) x5 (ix2 r c)
      = residRow (operand i x0 x1 x2 x3 x4 x6) x0 x5 x7 x8 x9 x10 r c := fun c => by
    refine (resid_apply _ _ _ r c).trans ?_
    refine congrArg₂ (fun a b : EReal => a + b) (drop_tile x0 r c) (congrArg (fun b : EReal => x5 (ix4 (0 : Fin 1) (0 : Fin 1) (0 : Fin 1) c) * b) ?_)
    exact chain_apply _ x7 x8 x9 x10 r c
  exact congrArg₂ (fun a b : EReal => a * b) (e c) (congrArg invRms (funext e))

end Cert.Proof.Ffn

end
-- ==== Proof.Ffn.Blocks.lean ====
/-
  The feed-forward kernel's result array: at batch `b`, token `n` and lane `c`, the residual row over the root of its mean
  square, where the hidden products of a token's two neighbours are zero beyond the sequence's ends.
-/
module

public import proofs.«01_k».proof.Proof.Ffn.Payload
public import Idealize.ShloMosaic.Lib.Pipeline.ValueKit.Basic

@[expose] public section

noncomputable section

namespace Cert.Proof.Ffn

open Cert.Kernel2Ideal Cert.Kernel2Ideal.Gen Idealize.ShloMosaic Idealize.ShloMosaic.TcCoe Idealize.SL.Sem
open Idealize.ShloMosaic.Pipeline (Dat)
open scoped BigOperators

section Spec

variable (x : S8x4096x1024.Idx → EReal) (mods : S16x6x1x1024.Idx → EReal) (ng : S1024.Idx → EReal) (wup : S1024x5632.Idx → EReal)
  (cw : S3x5632.Idx → EReal) (cb : S5632.Idx → EReal) (wd : S2816x1024.Idx → EReal) (fg : S1024.Idx → EReal)

/-- Row `k` of batch `b`'s modulation vectors. -/
def modAt (b : Fin 8) (k : Fin 6) (d : Fin 1024) : EReal := mods (ix4 ⟨b.val, by have := b.isLt; omega⟩ k (0 : Fin 1) d)

/-- A token's modulated row. -/
def modulated (b : Fin 8) (n : Fin 4096) : Fin 1024 → EReal :=
  modRow (fun e => x (ix3 b n e)) (fun e => ng (ix1 e)) (modAt mods b 3) (modAt mods b 4)

/-- Row `j` of the modulated sequence with one row of zeros before it and one after it. -/
def padded (b : Fin 8) (j : Nat) (d : Fin 1024) : EReal :=
  if h : 1 ≤ j ∧ j ≤ 4096 then modulated x mods ng b ⟨j - 1, by omega⟩ d else 0

/-- Its product with a hidden column. -/
def upAt (b : Fin 8) (j : Nat) (l : Fin 5632) : EReal := ∑ d, padded x mods ng b j d * wup (ix2 d l)

/-- The convolution over three neighbouring tokens. -/
def convAt (b : Fin 8) (n : Fin 4096) (l : Fin 5632) : EReal :=
  upAt x mods ng wup b n.val l * cw (ix2 (0 : Fin 3) l) + upAt x mods ng wup b (n.val + 1) l * cw (ix2 (1 : Fin 3) l)
    + upAt x mods ng wup b (n.val + 2) l * cw (ix2 (2 : Fin 3) l) + cb (ix1 l)

/-- The residual row before its norm. -/
def ffnRow (b : Fin 8) (n : Fin 4096) (c : Fin 1024) : EReal :=
  x (ix3 b n c) + modAt mods b 5 c * ∑ l : Fin 2816,
    gated (convAt x mods ng wup cw cb b n (gateCol l)) (convAt x mods ng wup cw cb b n (valueCol l)) * wd (ix2 l c)

/-- The feed-forward of eight arrays. -/
def ffn (i : S8x4096x1024.Idx) : EReal :=
  ffnRow x mods ng wup cw cb wd (i 0) (i 1) (i 2) * invRms (ffnRow x mods ng wup cw cb wd (i 0) (i 1)) * fg (ix1 (i 2))

end Spec

variable (m : (ℓ : Loc nD τ sig) → Buf (Elt Ideal) ℓ) (ρ : Dev nD → PrngReg)

/-- The norm's gain as a row. -/
theorem V_norm (c : Dev nD) (e : Fin 1024) : V m c main_v2 (ix2 (0 : Fin 1) e) = m ((c : Thread nD τ).loc main_arg2) (ix1 e) := by
  have hv : V m c main_v2 = shapeCast S1x1024 (m ((c : Thread nD τ).loc main_arg2)) shapeCasts_S1024_S1x1024 := by
    show StableHlo.after _ _ _ = _
    simp only [hostOps0, List.flatten_cons, List.flatten_nil, List.append_nil, List.cons_append, List.nil_append]
    after_results_simp <;> rfl
  rw [hv]
  exact shapeCast_apply (s := S1024) _ _ _ _ (by
    rw [Shape.rowMajor_val_one, Shape.rowMajor_val_two]
    show e.val = 0 * 1024 + e.val
    omega)

/-- The convolution's bias as a row. -/
theorem V_bias (c : Dev nD) (e : Fin 5632) : V m c main_v3 (ix2 (0 : Fin 1) e) = m ((c : Thread nD τ).loc main_arg5) (ix1 e) := by
  have hv : V m c main_v3 = shapeCast S1x5632 (m ((c : Thread nD τ).loc main_arg5)) shapeCasts_S5632_S1x5632 := by
    show StableHlo.after _ _ _ = _
    simp only [hostOps0, List.flatten_cons, List.flatten_nil, List.append_nil, List.cons_append, List.nil_append]
    after_results_simp <;> rfl
  rw [hv]
  exact shapeCast_apply (s := S5632) _ _ _ _ (by
    rw [Shape.rowMajor_val_one, Shape.rowMajor_val_two]
    show e.val = 0 * 5632 + e.val
    omega)

/-- The last norm's gain as a row. -/
theorem V_final (c : Dev nD) (e : Fin 1024) : V m c main_v4 (ix2 (0 : Fin 1) e) = m ((c : Thread nD τ).loc main_arg7) (ix1 e) := by
  have hv : V m c main_v4 = shapeCast S1x1024 (m ((c : Thread nD τ).loc main_arg7)) shapeCasts_S1024_S1x1024 := by
    show StableHlo.after _ _ _ = _
    simp only [hostOps0, List.flatten_cons, List.flatten_nil, List.append_nil, List.cons_append, List.nil_append]
    after_results_simp <;> rfl
  rw [hv]
  exact shapeCast_apply (s := S1024) _ _ _ _ (by
    rw [Shape.rowMajor_val_one, Shape.rowMajor_val_two]
    show e.val = 0 * 1024 + e.val
    omega)

/-- The upward weights, their change of format the identity. -/
theorem V_up (c : Dev nD) : V m c main_v0 = m ((c : Thread nD τ).loc main_arg3) := by
  show StableHlo.after _ _ _ = _
  simp only [hostOps0, List.flatten_cons, List.flatten_nil, List.append_nil, List.cons_append, List.nil_append]
  after_results_simp <;> rfl

/-- The downward weights. -/
theorem V_down (c : Dev nD) : V m c main_v1 = m ((c : Thread nD τ).loc main_arg6) := by
  show StableHlo.after _ _ _ = _
  simp only [hostOps0, List.flatten_cons, List.flatten_nil, List.append_nil, List.cons_append, List.nil_append]
  after_results_simp <;> rfl

/-- Where each tiled window's block sits at a point: batch `t / 8`, tile `t % 8`. -/
theorem idx_facts : ∀ t : Fin cfg0.N,
    (win0_0.index t 0 = t.val / 8 ∧ win0_0.index t 1 = t.val % 8 ∧ win0_0.index t 2 = 0)
    ∧ (win0_1.index t 0 = t.val / 8 ∧ win0_1.index t 1 = t.val % 8 * 64 - 1 ∧ win0_1.index t 2 = 0)
    ∧ (win0_2.index t 0 = t.val / 8 ∧ win0_2.index t 1 = min ((t.val % 8 + 1) * 64) 511 ∧ win0_2.index t 2 = 0)
    ∧ (win0_12.index t 0 = t.val / 8 ∧ win0_12.index t 1 = t.val % 8 ∧ win0_12.index t 2 = 0)
    ∧ (grid0.coords t 1).val = t.val % 8 :=
  (by decide +kernel : ∀ t : Fin grid0.N, _)

/-- The modulation windows' blocks. -/
theorem idx_mods : ∀ t : Fin cfg0.N,
    (win0_3.index t 0 = t.val / 8 ∧ win0_3.index t 1 = 3 ∧ win0_3.index t 2 = 0 ∧ win0_3.index t 3 = 0)
    ∧ (win0_4.index t 0 = t.val / 8 ∧ win0_4.index t 1 = 4 ∧ win0_4.index t 2 = 0 ∧ win0_4.index t 3 = 0)
    ∧ (win0_5.index t 0 = t.val / 8 ∧ win0_5.index t 1 = 5 ∧ win0_5.index t 2 = 0 ∧ win0_5.index t 3 = 0) :=
  (by decide +kernel : ∀ t : Fin grid0.N, _)

/-- The windows that hold a whole array. -/
theorem idx_whole : ∀ t : Fin cfg0.N,
    (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = 0 ∧ win0_10.index t 1 = 0) ∧ (win0_11.index t 0 = 0 ∧ win0_11.index t 1 = 0) :=
  (by decide +kernel : ∀ t : Fin grid0.N, _)

theorem t_lt (t : Fin cfg0.N) : t.val < 64 := lt_of_lt_of_eq t.isLt N_0

/-- The batch and the token under point `t`'s block coordinates. -/
def batchAt (t : Fin cfg0.N) : Fin 8 := ⟨t.val / 8, by have := t_lt t; omega⟩
def tokenAt (t : Fin cfg0.N) (r : Fin 512) : Fin 4096 := ⟨t.val % 8 * 512 + r.val, by have := r.isLt; omega⟩

theorem emb12 (t : Fin cfg0.N) (r : Fin 512) (d : Fin 1024) :
    (win0_12.blk t).view.emb (ix3 (0 : Fin 1) r d) = ix3 (batchAt t) (tokenAt t r) d := by
  obtain ⟨-, -, -, ⟨h0, h1, h2⟩, -⟩ := idx_facts t
  funext a; apply Fin.ext
  match a with
  | ⟨0, _⟩ => exact (Pipeline.Window.rect_emb_val win0_12 t _ 0).trans (by rw [h0]; show t.val / 8 * 1 + 0 = t.val / 8; omega)
  | ⟨1, _⟩ => exact (Pipeline.Window.rect_emb_val win0_12 t _ 1).trans (by rw [h1]; rfl)
  | ⟨2, _⟩ => exact (Pipeline.Window.rect_emb_val win0_12 t _ 2).trans (by rw [h2]; show 0 * 1024 + d.val = d.val; omega)

theorem blk0 (c : Dev nD) (t : Fin cfg0.N) (r : Fin 512) (d : Fin 1024) :
    iblk m c 0 t (ix3 (0 : Fin 1) r d) = m ((c : Thread nD τ).loc main_arg0) (ix3 (batchAt t) (tokenAt t r) d) := by
  obtain ⟨⟨h0, h1, h2⟩, -⟩ := idx_facts t
  refine Eq.trans ?_ (congrFun (V_main_arg0 m c) _)
  refine congrArg (V m c main_arg0) (funext fun a => Fin.ext ?_)
  match a with
  | ⟨0, _⟩ => exact (Pipeline.Window.rect_emb_val win0_0 t _ 0).trans (by rw [h0]; show t.val / 8 * 1 + 0 = t.val / 8; omega)
  | ⟨1, _⟩ => exact (Pipeline.Window.rect_emb_val win0_0 t _ 1).trans (by rw [h1]; rfl)
  | ⟨2, _⟩ => exact (Pipeline.Window.rect_emb_val win0_0 t _ 2).trans (by rw [h2]; show 0 * 1024 + d.val = d.val; omega)

/-- The last row of the halo before a tile that is not the first. -/
theorem blk1 (c : Dev nD) (t : Fin cfg0.N) (ht : 0 < t.val % 8) (d : Fin 1024) (n : Fin 4096) (hn : n.val + 1 = t.val % 8 * 512) :
    iblk m c 1 t (ix3 (0 : Fin 1) (7 : Fin 8) d) = m ((c : Thread nD τ).loc main_arg0) (ix3 (batchAt t) n d) := by
  obtain ⟨-, ⟨h0, h1, h2⟩, -⟩ := idx_facts t
  refine Eq.trans ?_ (congrFun (V_main_arg0 m c) _)
  refine congrArg (V m c main_arg0) (funext fun a => Fin.ext ?_)
  match a with
  | ⟨0, _⟩ => exact (Pipeline.Window.rect_emb_val win0_1 t _ 0).trans (by rw [h0]; show t.val / 8 * 1 + 0 = t.val / 8; omega)
  | ⟨1, _⟩ => exact (Pipeline.Window.rect_emb_val win0_1 t _ 1).trans (by rw [h1]; show (t.val % 8 * 64 - 1) * 8 + 7 = n.val; omega)
  | ⟨2, _⟩ => exact (Pipeline.Window.rect_emb_val win0_1 t _ 2).trans (by rw [h2]; show 0 * 1024 + d.val = d.val; omega)

/-- The first row of the halo after a tile that is not the last. -/
theorem blk2 (c : Dev nD) (t : Fin cfg0.N) (ht : t.val % 8 < 7) (d : Fin 1024) (n : Fin 4096) (hn : n.val = t.val % 8 * 512 + 512) :
    iblk m c 2 t (ix3 (0 : Fin 1) (0 : Fin 8) d) = m ((c : Thread nD τ).loc main_arg0) (ix3 (batchAt t) n d) := by
  obtain ⟨-, -, ⟨h0, h1, h2⟩, -⟩ := idx_facts t
  refine Eq.trans ?_ (congrFun (V_main_arg0 m c) _)
  refine congrArg (V m c main_arg0) (funext fun a => Fin.ext ?_)
  match a with
  | ⟨0, _⟩ => exact (Pipeline.Window.rect_emb_val win0_2 t _ 0).trans (by rw [h0]; show t.val / 8 * 1 + 0 = t.val / 8; omega)
  | ⟨1, _⟩ => exact (Pipeline.Window.rect_emb_val win0_2 t _ 1).trans (by rw [h1]; show min ((t.val % 8 + 1) * 64) 511 * 8 + 0 = n.val; omega)
  | ⟨2, _⟩ => exact (Pipeline.Window.rect_emb_val win0_2 t _ 2).trans (by rw [h2]; show 0 * 1024 + d.val = d.val; omega)

theorem blk3 (c : Dev nD) (t : Fin cfg0.N) (d : Fin 1024) :
    iblk m c 3 t (ix4 (0 : Fin 1) (0 : Fin 1) (0 : Fin 1) d) = modAt (m ((c : Thread nD τ).loc main_arg1)) (batchAt t) 3 d := by
  obtain ⟨⟨h0, h1, h2, h3⟩, -⟩ := idx_mods t
  refine Eq.trans ?_ (congrFun (V_main_arg1 m c) _)
  refine congrArg (V m c main_arg1) (funext fun a => Fin.ext ?_)
  match a with
  | ⟨0, _⟩ => exact (Pipeline.Window.rect_emb_val win0_3 t _ 0).trans (by rw [h0]; show t.val / 8 * 1 + 0 = t.val / 8; omega)
  | ⟨1, _⟩ => exact (Pipeline.Window.rect_emb_val win0_3 t _ 1).trans (by rw [h1]; rfl)
  | ⟨2, _⟩ => exact (Pipeline.Window.rect_emb_val win0_3 t _ 2).trans (by rw [h2]; rfl)
  | ⟨3, _⟩ => exact (Pipeline.Window.rect_emb_val win0_3 t _ 3).trans (by rw [h3]; show 0 * 1024 + d.val = d.val; omega)

theorem blk4 (c : Dev nD) (t : Fin cfg0.N) (d : Fin 1024) :
    iblk m c 4 t (ix4 (0 : Fin 1) (0 : Fin 1) (0 : Fin 1) d) = modAt (m ((c : Thread nD τ).loc main_arg1)) (batchAt t) 4 d := by
  obtain ⟨-, ⟨h0, h1, h2, h3⟩, -⟩ := idx_mods t
  refine Eq.trans ?_ (congrFun (V_main_arg1 m c) _)
  refine congrArg (V m c main_arg1) (funext fun a => Fin.ext ?_)
  match a with
  | ⟨0, _⟩ => exact (Pipeline.Window.rect_emb_val win0_4 t _ 0).trans (by rw [h0]; show t.val / 8 * 1 + 0 = t.val / 8; omega)
  | ⟨1, _⟩ => exact (Pipeline.Window.rect_emb_val win0_4 t _ 1).trans (by rw [h1]; rfl)
  | ⟨2, _⟩ => exact (Pipeline.Window.rect_emb_val win0_4 t _ 2).trans (by rw [h2]; rfl)
  | ⟨3, _⟩ => exact (Pipeline.Window.rect_emb_val win0_4 t _ 3).trans (by rw [h3]; show 0 * 1024 + d.val = d.val; omega)

theorem blk5 (c : Dev nD) (t : Fin cfg0.N) (d : Fin 1024) :
    iblk m c 5 t (ix4 (0 : Fin 1) (0 : Fin 1) (0 : Fin 1) d) = modAt (m ((c : Thread nD τ).loc main_arg1)) (batchAt t) 5 d := by
  obtain ⟨-, -, ⟨h0, h1, h2, h3⟩⟩ := idx_mods t
  refine Eq.trans ?_ (congrFun (V_main_arg1 m c) _)
  refine congrArg (V m c main_arg1) (funext fun a => Fin.ext ?_)
  match a with
  | ⟨0, _⟩ => exact (Pipeline.Window.rect_emb_val win0_5 t _ 0).trans (by rw [h0]; show t.val / 8 * 1 + 0 = t.val / 8; omega)
  | ⟨1, _⟩ => exact (Pipeline.Window.rect_emb_val win0_5 t _ 1).trans (by rw [h1]; rfl)
  | ⟨2, _⟩ => exact (Pipeline.Window.rect_emb_val win0_5 t _ 2).trans (by rw [h2]; rfl)
  | ⟨3, _⟩ => exact (Pipeline.Window.rect_emb_val win0_5 t _ 3).trans (by rw [h3]; show 0 * 1024 + d.val = d.val; omega)

theorem blk6 (c : Dev nD) (t : Fin cfg0.N) (e : Fin 1024) :
    iblk m c 6 t (ix2 (0 : Fin 1) e) = m ((c : Thread nD τ).loc main_arg2) (ix1 e) := by
  obtain ⟨⟨h0, h1⟩, -⟩ := idx_whole t
  refine Eq.trans ?_ (V_norm m c e)
  refine congrArg (V m c main_v2) (funext fun a => Fin.ext ?_)
  match a with
  | ⟨0, _⟩ => exact (Pipeline.Window.rect_emb_val win0_6 t _ 0).trans (by rw [h0]; show 0 * 1 + 0 = 0; omega)
  | ⟨1, _⟩ => exact (Pipeline.Window.rect_emb_val win0_6 t _ 1).trans (by rw [h1]; show 0 * 1024 + e.val = e.val; omega)

theorem blk7 (c : Dev nD) (t : Fin cfg0.N) (r : Fin 1024) (e : Fin 5632) :
    iblk m c 7 t (ix2 r e) = m ((c : Thread nD τ).loc main_arg3) (ix2 r e) := by
  obtain ⟨-, ⟨h0, h1⟩, -⟩ := idx_whole t
  refine Eq.trans ?_ (congrFun (V_up m c) _)
  refine congrArg (V m c main_v0) (funext fun a => Fin.ext ?_)
  match a with
  | ⟨0, _⟩ => exact (Pipeline.Window.rect_emb_val win0_7 t _ 0).trans (by rw [h0]; show 0 * 1024 + r.val = r.val; omega)
  | ⟨1, _⟩ => exact (Pipeline.Window.rect_emb_val win0_7 t _ 1).trans (by rw [h1]; show 0 * 5632 + e.val = e.val; omega)

theorem blk8 (c : Dev nD) (t : Fin cfg0.N) (r : Fin 3) (e : Fin 5632) :
    iblk m c 8 t (ix2 r e) = m ((c : Thread nD τ).loc main_arg4) (ix2 r e) := by
  obtain ⟨-, -, ⟨h0, h1⟩, -⟩ := idx_whole t
  refine Eq.trans ?_ (congrFun (V_main_arg4 m c) _)
  refine congrArg (V m c main_arg4) (funext fun a => Fin.ext ?_)
  match a with
  | ⟨0, _⟩ => exact (Pipeline.Window.rect_emb_val win0_8 t _ 0).trans (by rw [h0]; show 0 * 3 + r.val = r.val; omega)
  | ⟨1, _⟩ => exact (Pipeline.Window.rect_emb_val win0_8 t _ 1).trans (by rw [h1]; show 0 * 5632 + e.val = e.val; omega)

theorem blk9 (c : Dev nD) (t : Fin cfg0.N) (e : Fin 5632) :
    iblk m c 9 t (ix2 (0 : Fin 1) e) = m ((c : Thread nD τ).loc main_arg5) (ix1 e) := by
  obtain ⟨-, -, -, ⟨h0, h1⟩, -⟩ := idx_whole t
  refine Eq.trans ?_ (V_bias m c e)
  refine congrArg (V m c main_v3) (funext fun a => Fin.ext ?_)
  match a with
  | ⟨0, _⟩ => exact (Pipeline.Window.rect_emb_val win0_9 t _ 0).trans (by rw [h0]; show 0 * 1 + 0 = 0; omega)
  | ⟨1, _⟩ => exact (Pipeline.Window.rect_emb_val win0_9 t _ 1).trans (by rw [h1]; show 0 * 5632 + e.val = e.val; omega)

theorem blk10 (c : Dev nD) (t : Fin cfg0.N) (r : Fin 2816) (e : Fin 1024) :
    iblk m c 10 t (ix2 r e) = m ((c : Thread nD τ).loc main_arg6) (ix2 r e) := by
  obtain ⟨-, -, -, -, ⟨h0, h1⟩, -⟩ := idx_whole t
  refine Eq.trans ?_ (congrFun (V_down m c) _)
  refine congrArg (V m c main_v1) (funext fun a => Fin.ext ?_)
  match a with
  | ⟨0, _⟩ => exact (Pipeline.Window.rect_emb_val win0_10 t _ 0).trans (by rw [h0]; show 0 * 2816 + r.val = r.val; omega)
  | ⟨1, _⟩ => exact (Pipeline.Window.rect_emb_val win0_10 t _ 1).trans (by rw [h1]; show 0 * 1024 + e.val = e.val; omega)

theorem blk11 (c : Dev nD) (t : Fin cfg0.N) (e : Fin 1024) :
    iblk m c 11 t (ix2 (0 : Fin 1) e) = m ((c : Thread nD τ).loc main_arg7) (ix1 e) := by
  obtain ⟨-, -, -, -, -, ⟨h0, h1⟩⟩ := idx_whole t
  refine Eq.trans ?_ (V_final m c e)
  refine congrArg (V m c main_v4) (funext fun a => Fin.ext ?_)
  match a with
  | ⟨0, _⟩ => exact (Pipeline.Window.rect_emb_val win0_11 t _ 0).trans (by rw [h0]; show 0 * 1 + 0 = 0; omega)
  | ⟨1, _⟩ => exact (Pipeline.Window.rect_emb_val win0_11 t _ 1).trans (by rw [h1]; show 0 * 1024 + e.val = e.val; omega)

end Cert.Proof.Ffn

end
-- ==== Proof.Ffn.Array.lean ====
/-
  The feed-forward kernel's result array is the feed-forward of its arguments: a tile's operand rows are rows of the padded
  sequence, and the tiles' blocks make up the array.
-/
module

public import proofs.«01_k».proof.Proof.Ffn.Blocks

@[expose] public section

noncomputable section

namespace Cert.Proof.Ffn

open Cert.Kernel2Ideal Cert.Kernel2Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The factor on the halo before a tile: zero on the first tile, one on the others. -/
theorem before_factor : ∀ k : Fin 8, (Scalar.extui (Scalar.cmpi .sgt (BitVec.ofNat 32 k.val) 0#32) : BitVec 32).toInt
    = if k.val = 0 then 0 else 1 := by decide

/-- The factor on the halo after a tile: zero on the last tile, one on the others. -/
theorem after_factor : ∀ k : Fin 8, (Scalar.extui (Scalar.cmpi .slt (BitVec.ofNat 32 k.val) 7#32) : BitVec 32).toInt
    = if k.val = 7 then 0 else 1 := by decide

/-- A point's operand rows. -/
abbrev rowsAt (c : Dev nD) (t : Fin cfg0.N) : FVec Ideal S528x1024 .bf16 :=
  operand (grid0.coords t) (iblk m c 0 t) (iblk m c 1 t) (iblk m c 2 t) (iblk m c 3 t) (iblk m c 4 t) (iblk m c 6 t)

/-- The padded sequence of device `c`'s arguments. -/
abbrev paddedAt (c : Dev nD) : Fin 8 → Nat → Fin 1024 → EReal :=
  padded (m ((c : Thread nD τ).loc main_arg0)) (m ((c : Thread nD τ).loc main_arg1)) (m ((c : Thread nD τ).loc main_arg2))

/-- A modulated row of a block whose elements are a token's. -/
theorem modRow_block (c : Dev nD) (t : Fin cfg0.N) (u : Fin 1024 → EReal) (n : Fin 4096) (j : Nat) (hj : j = n.val + 1)
    (hu : ∀ e, u e = m ((c : Thread nD τ).loc main_arg0) (ix3 (batchAt t) n e)) (d : Fin 1024) :
    modRow u (fun e => iblk m c 6 t (ix2 (0 : Fin 1) e)) (fun e => iblk m c 3 t (ix4 (0 : Fin 1) (0 : Fin 1) (0 : Fin 1) e))
        (fun e => iblk m c 4 t (ix4 (0 : Fin 1) (0 : Fin 1) (0 : Fin 1) e)) d
      = paddedAt m c (batchAt t) j d := by
  have hn := n.isLt
  show _ = padded _ _ _ _ _ _
  unfold padded
  rw [dif_pos (by omega)]
  unfold modulated
  rw [funext hu, funext (blk6 m c t), funext (blk3 m c t), funext (blk4 m c t)]
  have e : (⟨j - 1, by omega⟩ : Fin 4096) = n := Fin.ext (by show j - 1 = n.val; omega)
  rw [e]

/-- Row `j` of a point's operand, the ninth the tile's first, is a row of the padded sequence. -/
theorem rowsAt_apply (c : Dev nD) (t : Fin cfg0.N) (j : Fin 528) (hlo : 7 ≤ j.val) (hhi : j.val ≤ 520) (d : Fin 1024) :
    rowsAt m c t (ix2 j d) = paddedAt m c (batchAt t) (t.val % 8 * 512 + (j.val - 7)) d := by
  obtain ⟨-, -, -, -, hc⟩ := idx_facts t
  have hk : t.val % 8 < 8 := Nat.mod_lt _ (by decide)
  by_cases h7 : j.val = 7
  · refine (operand_prev _ _ _ _ _ _ d (7 : Fin 8) j h7).trans ((prev_apply _ _ _ _ _ _ d).trans ?_)
    rw [hc, before_factor ⟨t.val % 8, hk⟩]
    by_cases h0 : t.val % 8 = 0
    · rw [if_pos h0]
      show _ * (((0 : ℤ) : ℝ) : EReal) = padded _ _ _ _ _ _
      unfold padded
      rw [dif_neg (by omega)]
      simp
    · rw [if_neg h0]
      have h1 : (((1 : ℤ) : ℝ) : EReal) = 1 := by simp
      rw [h1, mul_one]
      exact modRow_block m c t _ ⟨t.val % 8 * 512 - 1, by omega⟩ _ (by show _ = t.val % 8 * 512 - 1 + 1; omega)
        (fun e => blk1 m c t (by omega) e _ (by show t.val % 8 * 512 - 1 + 1 = _; omega)) d
  · by_cases h520 : j.val = 520
    · refine (operand_next _ _ _ _ _ _ d (0 : Fin 8) j h520).trans ((next_apply _ _ _ _ _ _ d).trans ?_)
      rw [hc, after_factor ⟨t.val % 8, hk⟩]
      by_cases hl : t.val % 8 = 7
      · rw [if_pos hl]
        show _ * (((0 : ℤ) : ℝ) : EReal) = padded _ _ _ _ _ _
        unfold padded
        rw [dif_neg (by omega)]
        simp
      · rw [if_neg hl]
        have h1 : (((1 : ℤ) : ℝ) : EReal) = 1 := by simp
        rw [h1, mul_one]
        exact modRow_block m c t _ ⟨t.val % 8 * 512 + 512, by omega⟩ _ (by show _ = t.val % 8 * 512 + 512 + 1; omega)
          (fun e => blk2 m c t (by omega) e _ rfl) d
    · have hr : j.val - 8 < 512 := by omega
      refine (operand_tile _ _ _ _ _ _ d ⟨j.val - 8, hr⟩ j (by show j.val = 8 + (j.val - 8); omega)).trans ?_
      have eg : (fun e => k0_pay5 (F := Ideal) (iblk m c 6 t) (ix2 (0 : Fin 1) e)) = fun e => iblk m c 6 t (ix2 (0 : Fin 1) e) :=
        funext fun e => drop_row (iblk m c 6 t) e
      have es : (fun e => k0_pay6 (F := Ideal) (iblk m c 3 t) (ix2 (0 : Fin 1) e))
          = fun e => iblk m c 3 t (ix4 (0 : Fin 1) (0 : Fin 1) (0 : Fin 1) e) := funext fun e => drop_mod (iblk m c 3 t) e
      rw [eg, es]
      exact modRow_block m c t _ (tokenAt t ⟨j.val - 8, hr⟩) _ (by show _ = t.val % 8 * 512 + (j.val - 8) + 1; omega)
        (fun e => (drop_tile (iblk m c 0 t) _ e).trans (blk0 m c t _ e)) d

/-- The convolved product of a point's rows is the sequence's. -/
theorem conv_block (c : Dev nD) (t : Fin cfg0.N) (r : Fin 512) (l : Fin 5632) :
    conv (rowsAt m c t) (iblk m c 7 t) (iblk m c 8 t) (iblk m c 9 t) r l
      = convAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (batchAt t) (tokenAt t r) l := by
  have hr := r.isLt
  have hd : ∀ (j : Fin 528) (s : Nat), 7 ≤ j.val → j.val ≤ 520 → s = t.val % 8 * 512 + (j.val - 7) →
      dotCol (rowsAt m c t) (fun d => iblk m c 7 t (ix2 d l)) j
        = upAt (m ((c : Thread nD τ).loc main_arg0)) (m ((c : Thread nD τ).loc main_arg1)) (m ((c : Thread nD τ).loc main_arg2))
            (m ((c : Thread nD τ).loc main_arg3)) (batchAt t) s l := fun j s h1 h2 hs => by
    subst hs
    exact Finset.sum_congr rfl fun d _ => congrArg₂ (fun a b : EReal => a * b) (rowsAt_apply m c t j h1 h2 d) (blk7 m c t d l)
  unfold conv convCol convAt
  refine congrArg₂ (fun a b : EReal => a + b) (congrArg₂ (fun a b : EReal => a + b) (congrArg₂ (fun a b : EReal => a + b)
    (congrArg₂ (fun a b : EReal => a * b) ?_ (blk8 m c t 0 l)) (congrArg₂ (fun a b : EReal => a * b) ?_ (blk8 m c t 1 l)))
    (congrArg₂ (fun a b : EReal => a * b) ?_ (blk8 m c t 2 l))) (blk9 m c t l)
  · exact hd _ _ (by show 7 ≤ r.val + 7; omega) (by show r.val + 7 ≤ 520; omega)
      (by show t.val % 8 * 512 + r.val = t.val % 8 * 512 + (r.val + 7 - 7); omega)
  · exact hd _ _ (by show 7 ≤ r.val + 8; omega) (by show r.val + 8 ≤ 520; omega)
      (by show t.val % 8 * 512 + r.val + 1 = t.val % 8 * 512 + (r.val + 8 - 7); omega)
  · exact hd _ _ (by show 7 ≤ r.val + 9; omega) (by show r.val + 9 ≤ 520; omega)
      (by show t.val % 8 * 512 + r.val + 2 = t.val % 8 * 512 + (r.val + 9 - 7); omega)

/-- A point's residual row is the token's. -/
theorem resid_block (c : Dev nD) (t : Fin cfg0.N) (r : Fin 512) :
    residRow (rowsAt m c t) (iblk m c 0 t) (iblk m c 5 t) (iblk m c 7 t) (iblk m c 8 t) (iblk m c 9 t) (iblk m c 10 t) r
      = ffnRow (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (batchAt t) (tokenAt t r) := by
  funext d
  unfold residRow ffnRow
  refine congrArg₂ (fun a b : EReal => a + b) (blk0 m c t r d) (congrArg₂ (fun a b : EReal => a * b) (blk5 m c t d)
    (Finset.sum_congr rfl fun l _ => ?_))
  unfold term
  exact congrArg₂ (fun a b : EReal => a * b) (congrArg₂ gated (conv_block m c t r _) (conv_block m c t r _)) (blk10 m c t l d)

/-- The feed-forward of device `c`'s arguments. -/
abbrev result (c : Dev nD) : Buf (Elt Ideal) ((c : Thread nD τ).loc main_v5) :=
  ffn (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- What a point writes back is its block of the feed-forward. -/
theorem flushed_eq (c : Dev nD) (t : Fin cfg0.N) :
    (dats m 0 c).flushed 12 t = (win0_12.blk t).view.read (Elt Ideal) (result m c) := by
  rw [Value.flushed12]
  funext y
  show out0_12 (grid0.coords t) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) y = result m c ((win0_12.blk t).view.emb y)
  obtain ⟨r, d, rfl⟩ : ∃ (r : Fin 512) (d : Fin 1024), y = ix3 (0 : Fin 1) r d :=
    ⟨y 1, y 2, funext fun a => Fin.ext (by
      match a with
      | ⟨0, _⟩ => exact Nat.lt_one_iff.mp (y 0).isLt
      | ⟨1, _⟩ => rfl
      | ⟨2, _⟩ => rfl)⟩
  refine (out_apply _ _ _ _ _ _ _ _ _ _ _ _ _ r d).trans ?_
  rw [emb12]
  show residRow (rowsAt m c t) _ _ _ _ _ _ r d * invRms (residRow (rowsAt m c t) _ _ _ _ _ _ r) * _
    = ffnRow _ _ _ _ _ _ _ (batchAt t) (tokenAt t r) d * invRms (ffnRow _ _ _ _ _ _ _ (batchAt t) (tokenAt t r)) * _
  rw [resid_block, blk11]
  rfl

/-- The blocks tile the result. -/
theorem cover (i : S8x4096x1024.Idx) :
    ∃ t : Fin cfg0.N, (cfg0.win 12).flush t = true ∧ i ∈ ((cfg0.win 12).blk t).view.set := by
  have h0 : (i 0).val < 8 := (i 0).isLt
  have h1 : (i 1).val < 4096 := (i 1).isLt
  have hN : cfg0.N = 64 := N_0
  have ht : (i 0).val * 8 + (i 1).val / 512 < cfg0.N := by omega
  refine ⟨⟨_, ht⟩, flush0_12 _, ?_⟩
  have e := emb12 ⟨_, ht⟩ ⟨(i 1).val % 512, by omega⟩ (i 2)
  have this : (win0_12.blk ⟨_, ht⟩).view.emb (ix3 (0 : Fin 1) ⟨(i 1).val % 512, by omega⟩ (i 2)) = i := by
    symm
    rw [e]
    funext a; apply Fin.ext
    match a with
    | ⟨0, _⟩ => show (i 0).val = ((i 0).val * 8 + (i 1).val / 512) / 8; omega
    | ⟨1, _⟩ => show (i 1).val = ((i 0).val * 8 + (i 1).val / 512) % 8 * 512 + (i 1).val % 512; omega
    | ⟨2, _⟩ => rfl
  have hm := View.emb_mem_set (win0_12.blk ⟨_, ht⟩).view (ix3 (0 : Fin 1) ⟨(i 1).val % 512, by omega⟩ (i 2))
  rwa [this] at hm

theorem final (c : Dev nD) : (dats m 0 c).arrAt 12 cfg0.N = result m c :=
  (dats m 0 c).arrAt_eq_of_cover 12 (result m c) (fun t _ => flushed_eq m c t) cover

end Cert.Proof.Ffn

end
-- ==== Proof.Ffn.Ref.lean ====
/-
  The reference's result array is the feed-forward of its arguments.
-/
module

public import proofs.«01_k».proof.Proof.Ffn.Blocks
public import proofs.«01_k».proof.Proof.Gen.Reference2Ideal.Read
public import Idealize.ShloMosaic.Lib.KernelVsHost

@[expose] public section

noncomputable section

namespace Cert.Proof.Ffn

open Cert.Reference2Ideal Cert.Reference2Ideal.Gen Cert.Reference2Ideal.Read Idealize.ShloMosaic Idealize.ShloMosaic.TcCoe
open Idealize.SL.Sem
open scoped BigOperators

variable (x : S8x4096x1024.Idx → EReal) (mods : S16x6x1x1024.Idx → EReal) (ng : S1024.Idx → EReal) (wup : S1024x5632.Idx → EReal)
  (cw : S3x5632.Idx → EReal) (cb : S5632.Idx → EReal) (wd : S2816x1024.Idx → EReal) (fg : S1024.Idx → EReal)

/-- The modulation vectors without their unit axis. -/
theorem ref_mods (b : Fin 8) (k : Fin 6) (d : Fin 1024) :
    val_main_v1 (F := Ideal) mods (ix3 b k d) = modAt mods b k d := by
  refine (val_main_v1_apply (F := Ideal) mods _).trans ((val_main_v0_apply (F := Ideal) mods _).trans (congrArg mods ?_))
  have := b.isLt; have := k.isLt; have := d.isLt
  funext a; apply Fin.ext
  match a with
  | ⟨0, _⟩ => show ((b.val * 6 + k.val) * 1024 + d.val) / 6144 = b.val; omega
  | ⟨1, _⟩ => show ((b.val * 6 + k.val) * 1024 + d.val) / 1024 % 6 = k.val; omega
  | ⟨2, _⟩ => rfl
  | ⟨3, _⟩ => show ((b.val * 6 + k.val) * 1024 + d.val) % 1024 = d.val; omega

theorem ref_shift (b : Fin 8) (d : Fin 1024) : val_main_v4 (F := Ideal) mods (ix3 b (0 : Fin 1) d) = modAt mods b 3 d := by
  refine (val_main_v4_apply (F := Ideal) mods _).trans ((val_main_v3_apply (F := Ideal) mods _).trans
    ((val_main_v2_apply (F := Ideal) mods _).trans (Eq.trans (congrArg _ ?_) (ref_mods mods b 3 d))))
  have := b.isLt; have := d.isLt
  funext a; apply Fin.ext
  match a with
  | ⟨0, _⟩ => show (b.val * 1024 + d.val) / 1024 = b.val; omega
  | ⟨1, _⟩ => rfl
  | ⟨2, _⟩ => show (b.val * 1024 + d.val) % 1024 = d.val; omega

theorem ref_scale (b : Fin 8) (d : Fin 1024) : val_main_v7 (F := Ideal) mods (ix3 b (0 : Fin 1) d) = modAt mods b 4 d := by
  refine (val_main_v7_apply (F := Ideal) mods _).trans ((val_main_v6_apply (F := Ideal) mods _).trans
    ((val_main_v5_apply (F := Ideal) mods _).trans (Eq.trans (congrArg _ ?_) (ref_mods mods b 4 d))))
  have := b.isLt; have := d.isLt
  funext a; apply Fin.ext
  match a with
  | ⟨0, _⟩ => show (b.val * 1024 + d.val) / 1024 = b.val; omega
  | ⟨1, _⟩ => rfl
  | ⟨2, _⟩ => show (b.val * 1024 + d.val) % 1024 = d.val; omega

theorem ref_gate (b : Fin 8) (d : Fin 1024) : val_main_v10 (F := Ideal) mods (ix3 b (0 : Fin 1) d) = modAt mods b 5 d := by
  refine (val_main_v10_apply (F := Ideal) mods _).trans ((val_main_v9_apply (F := Ideal) mods _).trans
    ((val_main_v8_apply (F := Ideal) mods _).trans (Eq.trans (congrArg _ ?_) (ref_mods mods b 5 d))))
  have := b.isLt; have := d.isLt
  funext a; apply Fin.ext
  match a with
  | ⟨0, _⟩ => show (b.val * 1024 + d.val) / 1024 = b.val; omega
  | ⟨1, _⟩ => rfl
  | ⟨2, _⟩ => show (b.val * 1024 + d.val) % 1024 = d.val; omega

/-- One over the root of a token's mean square. -/
theorem ref_inv (b : Fin 8) (n : Fin 4096) :
    val_main_v18 (F := Ideal) x (ix3 b n (0 : Fin 1)) = invRms fun e => x (ix3 b n e) := by
  refine (val_main_v18_apply (F := Ideal) x _).trans ?_
  refine congrArg Ideal.rsqrt ?_
  refine (val_main_v17_apply (F := Ideal) x _).trans ?_
  refine congrArg₂ (fun a b : EReal => a + b) ?_ (val_main_v16_apply (F := Ideal) _)
  refine (val_main_v15_apply (F := Ideal) x _).trans (congrArg₂ Ideal.div ?_ (val_main_v14_apply (F := Ideal) _))
  refine (val_main_v13_apply (F := Ideal) x _).trans ((val_main_v12_apply x _).trans ?_)
  show Ideal.ofBits .f32 0x00000000#32 + _ = _
  rw [Ideal.ofBits_zero_f32, zero_add]
  refine Finset.sum_congr rfl fun e _ => ?_
  refine (val_main_v11_apply (F := Ideal) x _).trans ?_
  refine congrArg (fun i => x i * x i) ?_
  funext a; apply Fin.ext
  match a with
  | ⟨0, _⟩ => rfl
  | ⟨1, _⟩ => rfl
  | ⟨2, _⟩ => rfl

/-- A token's modulated row. -/
theorem ref_modulated (b : Fin 8) (n : Fin 4096) (d : Fin 1024) :
    val_main_v29 (F := Ideal) x mods ng (ix3 b n d) = modulated x mods ng b n d := by
  refine (val_main_v29_apply (F := Ideal) x mods ng _).trans ?_
  refine congrArg₂ (fun a b : EReal => a + b) ?_ ?_
  · refine (val_main_v27_apply (F := Ideal) x mods ng _).trans (congrArg₂ (fun a b : EReal => a * b) ?_ ?_)
    · refine (val_main_v23_apply (F := Ideal) x ng _).trans (congrArg₂ (fun a b : EReal => a * b) ?_ ?_)
      · refine (val_main_v20_apply (F := Ideal) x _).trans (congrArg (fun r : EReal => x (ix3 b n d) * r) ?_)
        refine (val_main_v19_apply (F := Ideal) x _).trans (Eq.trans (congrArg _ ?_) (ref_inv x b n))
        funext a; apply Fin.ext
        match a with
        | ⟨0, _⟩ => rfl
        | ⟨1, _⟩ => rfl
        | ⟨2, _⟩ => rfl
      · refine (val_main_v22_apply (F := Ideal) ng _).trans ((val_main_v21_apply (F := Ideal) ng _).trans (congrArg ng ?_))
        funext a; apply Fin.ext
        match a with
        | ⟨0, _⟩ => rfl
    · refine (val_main_v26_apply (F := Ideal) mods _).trans ((val_main_v25_apply (F := Ideal) mods _).trans ?_)
      refine congrArg₂ (fun a b : EReal => a + b) ((val_main_v24_apply (F := Ideal) _).trans Ideal.ofBits_one_f32) ?_
      refine Eq.trans (congrArg _ ?_) (ref_scale mods b d)
      funext a; apply Fin.ext
      match a with
      | ⟨0, _⟩ => rfl
      | ⟨1, _⟩ => rfl
      | ⟨2, _⟩ => rfl
  · refine (val_main_v28_apply (F := Ideal) mods _).trans (Eq.trans (congrArg _ ?_) (ref_shift mods b d))
    funext a; apply Fin.ext
    match a with
    | ⟨0, _⟩ => rfl
    | ⟨1, _⟩ => rfl
    | ⟨2, _⟩ => rfl

/-- The upward product at a token. -/
theorem ref_up (b : Fin 8) (n : Fin 4096) (l : Fin 5632) :
    val_main_v30 (F := Ideal) x mods ng wup (ix3 b n l) = ∑ d, modulated x mods ng b n d * wup (ix2 d l) := by
  refine (val_main_v30_apply x mods ng wup _).trans (Finset.sum_congr rfl fun d _ => ?_)
  refine congrArg₂ (fun a b : EReal => a * b) (Eq.trans (congrArg _ ?_) (ref_modulated x mods ng b n d)) (congrArg wup ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl

/-- A sequence padded by one row of `v` at each end, at an index. -/
theorem pad_apply (y : S8x4096x5632.Idx → EReal) (v : S_.Idx → EReal) (b : Fin 8) (j : Fin 4098) (l : Fin 5632) :
    pad S8x4098x5632 ![0, 1, 0] ![0, 1, 0] ![0, 0, 0] y v pads_S8x4096x5632_S8x4098x5632_000_110_000 h_S_ (ix3 b j l)
      = if h : 1 ≤ j.val ∧ j.val ≤ 4096 then y (ix3 b ⟨j.val - 1, by omega⟩ l) else v (Shape.Idx.first h_S_) := by
  split
  · next h =>
    refine pad_apply_of_inside _ _ _ y v _ h_S_ _ (ix3 b ⟨j.val - 1, by omega⟩ l) fun a => ?_
    match a with
    | ⟨0, _⟩ => show b.val = 0 + b.val * (0 + 1); omega
    | ⟨1, _⟩ => show j.val = 1 + (j.val - 1) * (0 + 1); omega
    | ⟨2, _⟩ => show l.val = 0 + l.val * (0 + 1); omega
  · next h =>
    refine pad_apply_of_not_inside _ _ _ y v _ h_S_ _ (1 : Fin 3) fun hn => h ?_
    have h1 : 1 ≤ j.val := hn.1
    have h2 : (j.val - 1) / (0 + 1) < 4096 := hn.2.2
    rw [Nat.zero_add, Nat.div_one] at h2
    exact ⟨h1, by omega⟩

/-- The padded product. -/
theorem ref_padded (b : Fin 8) (j : Fin 4098) (l : Fin 5632) :
    val_main_v31 (F := Ideal) x mods ng wup (ix3 b j l) = upAt x mods ng wup b j.val l := by
  unfold val_main_v31
  refine (pad_apply _ _ b j l).trans ?_
  unfold upAt padded
  split
  · next h => exact ref_up x mods ng wup b _ l
  · next h =>
    simp only [zero_mul, Finset.sum_const_zero]
    show (((0#32 : BitVec 32).toInt : ℝ) : EReal) = 0
    simp

/-- A tap of the convolution, along a token. -/
theorem ref_conv (b : Fin 8) (n : Fin 4096) (l : Fin 5632) :
    val_main_v54 (F := Ideal) x mods ng wup cw cb (ix3 b n l) = convAt x mods ng wup cw cb b n l := by
  have hn := n.isLt
  refine (val_main_v54_apply (F := Ideal) x mods ng wup cw cb _).trans ?_
  refine congrArg₂ (fun a b : EReal => a + b) ?_ ?_
  · refine (val_main_v51_apply (F := Ideal) x mods ng wup cw _).trans (congrArg₂ (fun a b : EReal => a + b) ?_ ?_)
    · refine (val_main_v44_apply (F := Ideal) x mods ng wup cw _).trans (congrArg₂ (fun a b : EReal => a + b) ?_ ?_)
      · refine (val_main_v37_apply (F := Ideal) x mods ng wup cw _).trans (congrArg₂ (fun a b : EReal => a * b) ?_ ?_)
        · refine (val_main_v32_apply (F := Ideal) x mods ng wup _).trans
            (Eq.trans (congrArg _ ?_) (ref_padded x mods ng wup b ⟨n.val, by omega⟩ l))
          funext a; apply Fin.ext
          match a with
          | ⟨0, _⟩ => rfl
          | ⟨1, _⟩ => rfl
          | ⟨2, _⟩ => rfl
        · refine (val_main_v36_apply (F := Ideal) cw _).trans ((val_main_v35_apply (F := Ideal) cw _).trans
            ((val_main_v34_apply (F := Ideal) cw _).trans ((val_main_v33_apply (F := Ideal) cw _).trans (congrArg cw ?_))))
          funext a; apply Fin.ext
          match a with
          | ⟨0, _⟩ => rfl
          | ⟨1, _⟩ => exact Nat.mod_eq_of_lt l.isLt
      · refine (val_main_v43_apply (F := Ideal) x mods ng wup cw _).trans (congrArg₂ (fun a b : EReal => a * b) ?_ ?_)
        · refine (val_main_v38_apply (F := Ideal) x mods ng wup _).trans
            (Eq.trans (congrArg _ ?_) (ref_padded x mods ng wup b ⟨n.val + 1, by omega⟩ l))
          funext a; apply Fin.ext
          match a with
          | ⟨0, _⟩ => rfl
          | ⟨1, _⟩ => exact Nat.add_comm 1 n.val
          | ⟨2, _⟩ => rfl
        · refine (val_main_v42_apply (F := Ideal) cw _).trans ((val_main_v41_apply (F := Ideal) cw _).trans
            ((val_main_v40_apply (F := Ideal) cw _).trans ((val_main_v39_apply (F := Ideal) cw _).trans (congrArg cw ?_))))
          funext a; apply Fin.ext
          match a with
          | ⟨0, _⟩ => rfl
          | ⟨1, _⟩ => exact Nat.mod_eq_of_lt l.isLt
    · refine (val_main_v50_apply (F := Ideal) x mods ng wup cw _).trans (congrArg₂ (fun a b : EReal => a * b) ?_ ?_)
      · refine (val_main_v45_apply (F := Ideal) x mods ng wup _).trans
          (Eq.trans (congrArg _ ?_) (ref_padded x mods ng wup b ⟨n.val + 2, by omega⟩ l))
        funext a; apply Fin.ext
        match a with
        | ⟨0, _⟩ => rfl
        | ⟨1, _⟩ => exact Nat.add_comm 2 n.val
        | ⟨2, _⟩ => rfl
      · refine (val_main_v49_apply (F := Ideal) cw _).trans ((val_main_v48_apply (F := Ideal) cw _).trans
          ((val_main_v47_apply (F := Ideal) cw _).trans ((val_main_v46_apply (F := Ideal) cw _).trans (congrArg cw ?_))))
        funext a; apply Fin.ext
        match a with
        | ⟨0, _⟩ => rfl
        | ⟨1, _⟩ => exact Nat.mod_eq_of_lt l.isLt
  · refine (val_main_v53_apply (F := Ideal) cb _).trans ((val_main_v52_apply (F := Ideal) cb _).trans (congrArg cb ?_))
    funext a; apply Fin.ext
    match a with
    | ⟨0, _⟩ => rfl

/-- The gated product at a token and a hidden column. -/
theorem ref_gated (b : Fin 8) (n : Fin 4096) (l : Fin 2816) :
    val_main_v58 (F := Ideal) x mods ng wup cw cb (ix3 b n l)
      = gated (convAt x mods ng wup cw cb b n (gateCol l)) (convAt x mods ng wup cw cb b n (valueCol l)) := by
  have hg : val_main_v55 (F := Ideal) x mods ng wup cw cb (ix3 b n l) = convAt x mods ng wup cw cb b n (gateCol l) := by
    refine (val_main_v55_apply (F := Ideal) x mods ng wup cw cb _).trans
      (Eq.trans (congrArg _ ?_) (ref_conv x mods ng wup cw cb b n (gateCol l)))
    funext a; apply Fin.ext
    match a with
    | ⟨0, _⟩ => rfl
    | ⟨1, _⟩ => rfl
    | ⟨2, _⟩ => rfl
  have hv : val_main_v56 (F := Ideal) x mods ng wup cw cb (ix3 b n l) = convAt x mods ng wup cw cb b n (valueCol l) := by
    refine (val_main_v56_apply (F := Ideal) x mods ng wup cw cb _).trans
      (Eq.trans (congrArg _ ?_) (ref_conv x mods ng wup cw cb b n (valueCol l)))
    funext a; apply Fin.ext
    match a with
    | ⟨0, _⟩ => rfl
    | ⟨1, _⟩ => rfl
    | ⟨2, _⟩ => rfl
  refine (val_main_v58_apply (F := Ideal) x mods ng wup cw cb _).trans ?_
  unfold gated
  refine congrArg₂ (fun a b : EReal => a * b) ?_ hv
  refine (val_main_v57_apply (F := Ideal) x mods ng wup cw cb _).trans (congrArg₂ (fun a b : EReal => a * b) hg ?_)
  refine (val_main_call1_v5_apply (F := Ideal) x mods ng wup cw cb _).trans ?_
  have h1 : val_main_call1_v4 (F := Ideal) (ix3 b n l) = (1 : EReal) :=
    (val_main_call1_v4_apply (F := Ideal) _).trans Ideal.ofBits_one_f32
  have h2 : val_main_call1_v2 (F := Ideal) (ix3 b n l) = (1 : EReal) :=
    (val_main_call1_v2_apply (F := Ideal) _).trans Ideal.ofBits_one_f32
  refine (congrArg₂ Ideal.div h1 ?_).trans (rfl : Ideal.div 1 (1 + Ideal.exp (-convAt x mods ng wup cw cb b n (gateCol l))) = _)
  refine (val_main_call1_v3_apply (F := Ideal) x mods ng wup cw cb _).trans (congrArg₂ (fun a b : EReal => a + b) h2 ?_)
  refine (val_main_call1_v1_apply (F := Ideal) x mods ng wup cw cb _).trans (congrArg Ideal.exp ?_)
  exact (val_main_call1_v0_apply (F := Ideal) x mods ng wup cw cb _).trans (congrArg (fun a : EReal => -a) hg)

/-- The residual row. -/
theorem ref_resid (b : Fin 8) (n : Fin 4096) (c : Fin 1024) :
    val_main_v62 (F := Ideal) x mods ng wup cw cb wd (ix3 b n c) = ffnRow x mods ng wup cw cb wd b n c := by
  refine (val_main_v62_apply (F := Ideal) x mods ng wup cw cb wd _).trans (congrArg (fun r : EReal => x (ix3 b n c) + r) ?_)
  refine (val_main_v61_apply (F := Ideal) x mods ng wup cw cb wd _).trans (congrArg₂ (fun a b : EReal => a * b) ?_ ?_)
  · refine (val_main_v60_apply (F := Ideal) mods _).trans (Eq.trans (congrArg _ ?_) (ref_gate mods b c))
    funext a; apply Fin.ext
    match a with
    | ⟨0, _⟩ => rfl
    | ⟨1, _⟩ => rfl
    | ⟨2, _⟩ => rfl
  · refine (val_main_v59_apply x mods ng wup cw cb wd _).trans (Finset.sum_congr rfl fun l _ => ?_)
    refine congrArg₂ (fun a b : EReal => a * b) (Eq.trans (congrArg _ ?_) (ref_gated x mods ng wup cw cb b n l)) (congrArg wd ?_)
    · funext a; apply Fin.ext
      match a with
      | ⟨0, _⟩ => rfl
      | ⟨1, _⟩ => rfl
      | ⟨2, _⟩ => rfl
    · funext a; apply Fin.ext
      match a with
      | ⟨0, _⟩ => rfl
      | ⟨1, _⟩ => rfl

/-- One over the root of a residual row's mean square. -/
theorem ref_inv_resid (b : Fin 8) (n : Fin 4096) :
    val_main_v70 (F := Ideal) x mods ng wup cw cb wd (ix3 b n (0 : Fin 1)) = invRms (ffnRow x mods ng wup cw cb wd b n) := by
  refine (val_main_v70_apply (F := Ideal) x mods ng wup cw cb wd _).trans ?_
  refine congrArg Ideal.rsqrt ?_
  refine (val_main_v69_apply (F := Ideal) x mods ng wup cw cb wd _).trans ?_
  refine congrArg₂ (fun a b : EReal => a + b) ?_ (val_main_v68_apply (F := Ideal) _)
  refine (val_main_v67_apply (F := Ideal) x mods ng wup cw cb wd _).trans (congrArg₂ Ideal.div ?_ (val_main_v66_apply (F := Ideal) _))
  refine (val_main_v65_apply (F := Ideal) x mods ng wup cw cb wd _).trans ((val_main_v64_apply x mods ng wup cw cb wd _).trans ?_)
  show Ideal.ofBits .f32 0x00000000#32 + _ = _
  rw [Ideal.ofBits_zero_f32, zero_add]
  refine Finset.sum_congr rfl fun e _ => ?_
  refine (val_main_v63_apply (F := Ideal) x mods ng wup cw cb wd _).trans ?_
  refine congrArg (fun v : EReal => v * v) (Eq.trans (congrArg _ ?_) (ref_resid x mods ng wup cw cb wd b n e))
  funext a; apply Fin.ext
  match a with
  | ⟨0, _⟩ => rfl
  | ⟨1, _⟩ => rfl
  | ⟨2, _⟩ => rfl

/-- The reference's result is the feed-forward. -/
theorem ref_value : val_main_v75 (F := Ideal) x mods ng wup cw cb wd fg = ffn x mods ng wup cw cb wd fg := by
  funext i
  obtain ⟨b, n, c, rfl⟩ : ∃ (b : Fin 8) (n : Fin 4096) (c : Fin 1024), i = ix3 b n c :=
    ⟨i 0, i 1, i 2, funext fun a => by
      match a with
      | ⟨0, _⟩ => rfl
      | ⟨1, _⟩ => rfl
      | ⟨2, _⟩ => rfl⟩
  refine (val_main_v75_apply (F := Ideal) x mods ng wup cw cb wd fg _).trans (congrArg₂ (fun a b : EReal => a * b) ?_ ?_)
  · refine (val_main_v72_apply (F := Ideal) x mods ng wup cw cb wd _).trans
      (congrArg₂ (fun a b : EReal => a * b) (ref_resid x mods ng wup cw cb wd b n c) ?_)
    refine (val_main_v71_apply (F := Ideal) x mods ng wup cw cb wd _).trans
      (Eq.trans (congrArg _ ?_) (ref_inv_resid x mods ng wup cw cb wd b n))
    funext a; apply Fin.ext
    match a with
    | ⟨0, _⟩ => rfl
    | ⟨1, _⟩ => rfl
    | ⟨2, _⟩ => rfl
  · refine (val_main_v74_apply (F := Ideal) fg _).trans ((val_main_v73_apply (F := Ideal) fg _).trans (congrArg fg ?_))
    funext a; apply Fin.ext
    match a with
    | ⟨0, _⟩ => rfl

end Cert.Proof.Ffn

end
-- ==== Proof.Ffn.Claim.lean ====
/-
  The claims about the feed-forward: the reference runs, and the kernel's result is the reference's at every argument.
-/
module

public import proofs.«01_k».proof.Defs
public import proofs.«01_k».proof.Proof.Ffn.Array
public import proofs.«01_k».proof.Proof.Ffn.Ref
public import proofs.«01_k».proof.Proof.Gen.Kernel2.Frame
public import proofs.«01_k».proof.Proof.Gen.Kernel2Ideal.Frame
public import Idealize.ShloMosaic.Lib.Quiescent

@[expose] public section

noncomputable section

namespace Cert.Proof.Ffn

open Idealize.ShloMosaic Idealize.SL.Sem

theorem frame_reference : Cert.quiescent_Reference2Ideal := fun m ρ _ =>
  (θ_run (Cert.Reference2Ideal.defs (F := Ideal)) _ _).mono
    (fun r h => ⟨fun c => (h c).2, Idealize.ShloMosaic.sem_eq_zero_of_no_sems (by decide) r.2⟩)
    (Cert.Reference2Ideal.Value.run (F := Ideal) m ρ)

theorem algebraic : Cert.algebraic_Kernel2Ideal_Reference2Ideal := by
  intro m g m' g' _ hargs
  refine ⟨fun c => result m c, ?_, ?_⟩
  · exact (θ_run (Cert.Kernel2Ideal.defs (F := Ideal)) _ _).mono (fun r h c => ⟨(h c).1.trans (final m c), (h c).2⟩)
      (Cert.Kernel2Ideal.Value.run_blocks (F := Ideal) m g)
  · refine (θ_run (Cert.Reference2Ideal.defs (F := Ideal)) _ _).mono (fun r h c => ⟨(h c).1.trans ?_, (h c).2⟩)
      (Cert.Reference2Ideal.Value.run (F := Ideal) m' g')
    obtain ⟨h0, h1, h2, h3, h4, h5, h6, h7⟩ := hargs c
    refine (Cert.Reference2Ideal.Read.val_main_v75_eq (F := Ideal) _ _).trans ?_
    rw [h0, h1, h2, h3, h4, h5, h6, h7]
    exact ref_value _ _ _ _ _ _ _ _

end Cert.Proof.Ffn

end
-- ==== Proof.HgIn.Payload.lean ====
/-
  The input projection of the gated mixer's body, read at one element: a modulated row times a column of weights, and the
  silu of the first 1024 columns.
-/
module

public import proofs.«01_k».proof.Proof.Ffn.Rows
public import proofs.«01_k».proof.Proof.Gen.Kernel3Ideal.Value
public import Idealize.ShloMosaic.Lib.Pipeline.ValueKit.Basic
public import Idealize.ShloMosaic.Lib.Pointwise.Tactic
public import Idealize.ShloMosaic.Lib.MatmulPlain
public import Idealize.ShloMosaic.Lib.KernelVsHost

@[expose] public section

noncomputable section

namespace Cert.Proof.HgIn

open Cert.Kernel3Ideal Cert.Kernel3Ideal.Gen Idealize.ShloMosaic Idealize.ShloMosaic.TcCoe Idealize.SL.Sem
open Cert.Proof.Ffn (invRms modRow)
open scoped BigOperators

theorem drop_mod {α : Type} (x : S1x1x1x1024.Idx → α) (d : Fin 1024) :
    shapeCast S1x1024 x shapeCasts_S1x1x1x1024_S1x1024 (ix2 (0 : Fin 1) d) = x (ix4 (0 : Fin 1) (0 : Fin 1) (0 : Fin 1) d) :=
  shapeCast_apply x _ _ _ (by
    rw [Shape.rowMajor_val_two, Shape.rowMajor_val_four]
    show ((0 * 1 + 0) * 1 + 0) * 1024 + d.val = 0 * 1024 + d.val
    omega)

theorem drop_row {α : Type} (x : S1x1024.Idx → α) (d : Fin 1024) :
    shapeCast S1x1024 x shapeCasts_S1x1024_S1x1024 (ix2 (0 : Fin 1) d) = x (ix2 (0 : Fin 1) d) :=
  shapeCast_apply x _ _ _ rfl

theorem drop_tile {α : Type} (x : S1x512x1024.Idx → α) (r : Fin 512) (d : Fin 1024) :
    shapeCast S512x1024 x shapeCasts_S1x512x1024_S512x1024 (ix2 r d) = x (ix3 (0 : Fin 1) r d) :=
  shapeCast_apply x _ _ _ (by
    rw [Shape.rowMajor_val_two, Shape.rowMajor_val_three]
    show (0 * 512 + r.val) * 1024 + d.val = r.val * 1024 + d.val
    omega)

theorem lift512 (r : Fin 512) (j : Fin 1024) : reduces_S512x1024_S512.lift (ix1 r) j = ix2 r j := by
  funext a; apply Fin.ext
  match a with
  | ⟨0, _⟩ => rfl
  | ⟨1, _⟩ => rfl

/-- The sum of squares of a tile's row. -/
theorem sq512 (x : FVec Ideal S512x1024 .f32) (r : Fin 512) :
    shapeCast S512x1 (multiReduction .add [1] S512 (mulf x x) 0x00000000#32 reduces_S512x1024_S512 (.inl rfl) rfl) shapeCasts_S512_S512x1 (ix2 r (0 : Fin 1))
      = ∑ e, x (ix2 r e) * x (ix2 r e) := by
  refine (shapeCast_apply _ shapeCasts_S512_S512x1 (ix2 r (0 : Fin 1)) (ix1 r) (by
    rw [Shape.rowMajor_val_one, Shape.rowMajor_val_two]
    show r.val = r.val * 1 + 0
    omega)).trans ?_
  refine (Ideal.multiReduction_add_single _ _ reduces_S512x1024_S512 (.inl rfl) rfl (ix1 r)).trans ?_
  exact Finset.sum_congr rfl fun e _ => congrArg (fun i => x i * x i) (lift512 r e)

theorem prod_apply (u : FVec Ideal S512x1024 .bf16) (w : FVec Ideal S1024x5120 .bf16) (r : Fin 512) (l : Fin 5120) :
    Ideal.matmul dot_S512x1024_S1024x5120_S512x5120_1_0_0_1_n_n u (shapeCast S1024x5120 w shapeCasts_S1024x5120_S1024x5120)
      (constant (F := Ideal) S512x5120 .f32 0x00000000#32) (ix2 r l) = ∑ d : Fin 1024, u (ix2 r d) * w (ix2 d l) := by
  refine (Ideal.matmul_plain_apply (M := 512) (K := 1024) (N := 5120) (φ₁ := .bf16) (φ₂ := .bf16) none u _ _ r l).trans ?_
  show Ideal.ofBits .f32 0x00000000#32 + _ = _
  rw [Ideal.ofBits_zero_f32, zero_add]
  refine Finset.sum_congr rfl fun d _ => congrArg (fun b : EReal => u (ix2 r d) * b) ?_
  exact shapeCast_apply _ _ _ (ix2 d l) rfl

section Body

variable (x : Vec Ideal S1x512x1024 .f32) (g : Vec Ideal S1x1024 .f32) (s c : Vec Ideal S1x1x1x1024 .f32)
  (w : Vec Ideal S1024x5120 .bf16)

/-- A modulated row of the tile times a column of the weights. -/
def zRow (r : Fin 512) (l : Fin 5120) : EReal :=
  ∑ d, modRow (fun e => x (ix3 (0 : Fin 1) r e)) (fun e => g (ix2 (0 : Fin 1) e)) (fun e => s (ix4 (0 : Fin 1) (0 : Fin 1) (0 : Fin 1) e))
    (fun e => c (ix4 (0 : Fin 1) (0 : Fin 1) (0 : Fin 1) e)) d * w (ix2 d l)

theorem product_apply (r : Fin 512) (l : Fin 5120) : k0_pay3 (F := Ideal) x g s c w (ix2 r l) = zRow x g s c w r l := by
  unfold k0_pay3
  refine (prod_apply _ w r l).trans ?_
  refine Finset.sum_congr rfl fun d _ => congrArg (fun a : EReal => a * w (ix2 d l)) ?_
  pointwise
  rw [sq512, drop_tile, drop_row, drop_mod, drop_mod]
  simp only [drop_tile]
  rfl

/-- An element times its logistic. -/
def silu (z : EReal) : EReal := z * Ideal.logistic z

theorem act_apply (y : FVec Ideal S512x5120 .f32) (r : Fin 512) (l : Fin 1024) :
    mulf (extractStridedSlice S512x1024 ![0, 0] y slices_S512x5120_o0_0_S512x1024)
        (logistic (extractStridedSlice S512x1024 ![0, 0] y slices_S512x5120_o0_0_S512x1024)) (ix2 r l)
      = silu (y (ix2 r ⟨l.val, by have := l.isLt; omega⟩)) := by
  have h : extractStridedSlice S512x1024 ![0, 0] y slices_S512x5120_o0_0_S512x1024 (ix2 r l) = y (ix2 r ⟨l.val, by have := l.isLt; omega⟩) := by
    refine extractStridedSlice_apply ![0, 0] _ slices_S512x5120_o0_0_S512x1024 (ix2 r l) (ix2 r ⟨l.val, by have := l.isLt; omega⟩) fun a => ?_
    match a with
    | ⟨0, _⟩ => show r.val = 0 + r.val; omega
    | ⟨1, _⟩ => show l.val = 0 + l.val; omega
  exact congrArg silu h

theorem rest_apply (y : FVec Ideal S512x5120 .f32) (r : Fin 512) (l : Fin 4096) :
    shapeCast S1x512x4096 (extractStridedSlice S512x4096 ![0, 1024] y slices_S512x5120_o0_1024_S512x4096) shapeCasts_S512x4096_S1x512x4096
      (ix3 (0 : Fin 1) r l) = y (ix2 r ⟨1024 + l.val, by have := l.isLt; omega⟩) := by
  refine (shapeCast_apply _ shapeCasts_S512x4096_S1x512x4096 (ix3 (0 : Fin 1) r l) (ix2 r l) (by
    rw [Shape.rowMajor_val_two, Shape.rowMajor_val_three]
    show r.val * 4096 + l.val = (0 * 512 + r.val) * 4096 + l.val
    omega)).trans ?_
  refine extractStridedSlice_apply ![0, 1024] _ slices_S512x5120_o0_1024_S512x4096 (ix2 r l) (ix2 r ⟨1024 + l.val, by have := l.isLt; omega⟩) fun a => ?_
  match a with
  | ⟨0, _⟩ => show r.val = 0 + r.val; omega
  | ⟨1, _⟩ => rfl

theorem lead_apply (y : FVec Ideal S512x1024 .f32) (r : Fin 512) (l : Fin 1024) :
    shapeCast S1x512x1024 y shapeCasts_S512x1024_S1x512x1024 (ix3 (0 : Fin 1) r l) = y (ix2 r l) :=
  shapeCast_apply _ shapeCasts_S512x1024_S1x512x1024 (ix3 (0 : Fin 1) r l) (ix2 r l) (by
    rw [Shape.rowMajor_val_two, Shape.rowMajor_val_three]
    show r.val * 1024 + l.val = (0 * 512 + r.val) * 1024 + l.val
    omega)

theorem activated_apply (r : Fin 512) (l : Fin 1024) :
    k0_pay4 (F := Ideal) x g s c w (ix2 r l) = silu (zRow x g s c w r ⟨l.val, by have := l.isLt; omega⟩) := by
  unfold k0_pay4
  exact (act_apply _ r l).trans (congrArg silu (product_apply x g s c w r _))

/-- What is stored in the first 1024 columns, and in those after them. -/
theorem head_apply (r : Fin 512) (l : Fin 1024) :
    k0_pay1 (F := Ideal) (k0_pay4 (F := Ideal) x g s c w) (ix3 (0 : Fin 1) r l)
      = silu (zRow x g s c w r ⟨l.val, by have := l.isLt; omega⟩) := by
  unfold k0_pay1
  exact (lead_apply _ r l).trans (activated_apply x g s c w r l)

theorem tail_apply (r : Fin 512) (l : Fin 4096) :
    k0_pay2 (F := Ideal) (k0_pay3 (F := Ideal) x g s c w) (ix3 (0 : Fin 1) r l)
      = zRow x g s c w r ⟨1024 + l.val, by have := l.isLt; omega⟩ := by
  unfold k0_pay2
  exact (rest_apply _ r l).trans (product_apply x g s c w r _)

end Body

theorem zero2 : (![0, 0] : Fin 2 → Nat) = 0 := by
  funext a
  match a with
  | ⟨0, _⟩ => rfl
  | ⟨1, _⟩ => rfl

theorem zero3 : (![0, 0, 0] : Fin 3 → Nat) = 0 := by
  funext a
  match a with
  | ⟨0, _⟩ => rfl
  | ⟨1, _⟩ => rfl
  | ⟨2, _⟩ => rfl

theorem zero4 : (![0, 0, 0, 0] : Fin 4 → Nat) = 0 := by
  funext a
  match a with
  | ⟨0, _⟩ => rfl
  | ⟨1, _⟩ => rfl
  | ⟨2, _⟩ => rfl
  | ⟨3, _⟩ => rfl

section Stored

variable (c : Dev nD) (i : grid0.Coords) (arg2 : Memref sig .tc .vmem S1x512x1024 .f32) (harg2 : arg2.IsWhole)
  (arg3 : Memref sig .tc .vmem S1x1x1x1024 .f32) (harg3 : arg3.IsWhole) (arg4 : Memref sig .tc .vmem S1x1x1x1024 .f32) (harg4 : arg4.IsWhole)
  (arg5 : Memref sig .tc .vmem S1x1024 .f32) (harg5 : arg5.IsWhole) (arg6 : Memref sig .tc .vmem S1024x5120 .bf16) (harg6 : arg6.IsWhole)
  (arg7 : Memref sig .tc .vmem S1x512x5120 .f32) (harg7 : arg7.IsWhole)
  (x0 : Vec Ideal S1x512x1024 .f32) (x1 x2 : Vec Ideal S1x1x1x1024 .f32) (x3 : Vec Ideal S1x1024 .f32) (x4 : Vec Ideal S1024x5120 .bf16)

/-- The two rectangles a point stores, the later one first. -/
theorem stored :
    out0_A_5 (F := Ideal) c i arg2 harg2 arg3 harg3 arg4 harg4 arg5 harg5 arg6 harg6 arg7 harg7 x0 x1 x2 x3 x4
      = View.canon [⟨Rect.unit ![0, 0, 1024] ![1, 512, 4096] inb_S1x512x5120_S1x512x4096_0_0_1024, k0_pay2 (F := Ideal) (k0_pay3 (F := Ideal) x0 x3 x1 x2 x4)⟩,
          ⟨Rect.unit ![0, 0, 0] ![1, 512, 1024] inb_S1x512x5120_S1x512x1024_0_0_0, k0_pay1 (F := Ideal) (k0_pay4 (F := Ideal) x0 x3 x1 x2 x4)⟩] := by
  unfold out0_A_5
  rw [View.read_writes_junk_eq_canon]
  unfold kernelRun0_A
  dsimp only
  unfold kernelRun0_A.sl.r kernelRun0_A.sl.r_1
  simp only [View.readAt_eq_ld, harg2.read_unread, harg3.read_unread, harg4.read_unread, harg5.read_unread, harg6.read_unread,
    View.ld_unit_zero (S := S1x512x1024) zero3, View.ld_unit_zero (S := S1x1x1x1024) zero4, View.ld_unit_zero (S := S1x1024) zero2,
    View.ld_unit_zero (S := S1024x5120) zero2]

/-- What a point leaves in its output block. -/
theorem out_apply (r : Fin 512) (l : Fin 5120) :
    out0_A_5 (F := Ideal) c i arg2 harg2 arg3 harg3 arg4 harg4 arg5 harg5 arg6 harg6 arg7 harg7 x0 x1 x2 x3 x4 (ix3 (0 : Fin 1) r l)
      = if l.val < 1024 then silu (zRow x0 x3 x1 x2 x4 r l) else zRow x0 x3 x1 x2 x4 r l := by
  rw [stored]
  have hl := l.isLt
  by_cases h : l.val < 1024
  · rw [if_pos h]
    refine (View.canon_cons_of_not_mem _ _ ?_).trans ?_
    · show _ ∉ (Rect.unit (s := S1x512x5120) ![0, 0, 1024] ![1, 512, 4096] inb_S1x512x5120_S1x512x4096_0_0_1024).set
      rw [Rect.mem_set_unit]
      intro hm
      have h2 : 1024 ≤ l.val := (hm 2).1
      omega
    · have e : (Rect.unit (s := S1x512x5120) ![0, 0, 0] ![1, 512, 1024] inb_S1x512x5120_S1x512x1024_0_0_0).emb (ix3 (0 : Fin 1) r (⟨l.val, h⟩ : Fin 1024))
          = (ix3 (0 : Fin 1) r l : S1x512x5120.Idx) := by
        funext a; apply Fin.ext
        match a with
        | ⟨0, _⟩ => rfl
        | ⟨1, _⟩ => show 0 + 1 * r.val = r.val; omega
        | ⟨2, _⟩ => show 0 + 1 * l.val = l.val; omega
      rw [← e]
      exact (View.canon_cons_emb _ _ _ _).trans (head_apply x0 x3 x1 x2 x4 r ⟨l.val, h⟩)
  · rw [if_neg h]
    have e : (Rect.unit (s := S1x512x5120) ![0, 0, 1024] ![1, 512, 4096] inb_S1x512x5120_S1x512x4096_0_0_1024).emb (ix3 (0 : Fin 1) r (⟨l.val - 1024, by omega⟩ : Fin 4096))
        = (ix3 (0 : Fin 1) r l : S1x512x5120.Idx) := by
      funext a; apply Fin.ext
      match a with
      | ⟨0, _⟩ => rfl
      | ⟨1, _⟩ => show 0 + 1 * r.val = r.val; omega
      | ⟨2, _⟩ => show 1024 + 1 * (l.val - 1024) = l.val; omega
    rw [← e]
    refine (View.canon_cons_emb _ _ _ _).trans ((tail_apply x0 x3 x1 x2 x4 r ⟨l.val - 1024, by omega⟩).trans ?_)
    exact congrArg (zRow x0 x3 x1 x2 x4 r) (Fin.ext (by show 1024 + (l.val - 1024) = l.val; omega))

end Stored

end Cert.Proof.HgIn

end
-- ==== Proof.HgIn.Array.lean ====
/-
  The gated mixer's input projection: the kernel's result array, its tiles' blocks put together.
-/
module

public import proofs.«01_k».proof.Proof.HgIn.Payload

@[expose] public section

noncomputable section

namespace Cert.Proof.HgIn

open Cert.Kernel3Ideal Cert.Kernel3Ideal.Gen Idealize.ShloMosaic Idealize.ShloMosaic.TcCoe Idealize.SL.Sem
open Idealize.ShloMosaic.Pipeline (Dat)
open Cert.Proof.Ffn (invRms modRow)
open scoped BigOperators

section Spec

variable (x : S8x4096x1024.Idx → EReal) (mods : S16x6x1x1024.Idx → EReal) (ng : S1024.Idx → EReal) (w : S1024x5120.Idx → EReal)

/-- Row `k` of batch `b`'s modulation vectors. -/
def modAt (b : Fin 8) (k : Fin 6) (d : Fin 1024) : EReal := mods (ix4 ⟨b.val, by have := b.isLt; omega⟩ k (0 : Fin 1) d)

/-- A token's modulated row. -/
def modulated (b : Fin 8) (n : Fin 4096) : Fin 1024 → EReal :=
  modRow (fun e => x (ix3 b n e)) (fun e => ng (ix1 e)) (modAt mods b 0) (modAt mods b 1)

/-- Its product with a column of the weights. -/
def zAt (b : Fin 8) (n : Fin 4096) (l : Fin 5120) : EReal := ∑ d, modulated x mods ng b n d * w (ix2 d l)

/-- The projection, its first 1024 columns (the queries) through silu. -/
def projection (i : S8x4096x5120.Idx) : EReal :=
  if (i 2).val < 1024 then silu (zAt x mods ng w (i 0) (i 1) (i 2)) else zAt x mods ng w (i 0) (i 1) (i 2)

end Spec

variable (m : (ℓ : Loc nD τ sig) → Buf (Elt Ideal) ℓ) (ρ : Dev nD → PrngReg)

/-- The norm's gain as a row. -/
theorem V_norm (c : Dev nD) (e : Fin 1024) : V m c main_v1 (ix2 (0 : Fin 1) e) = m ((c : Thread nD τ).loc main_arg2) (ix1 e) := by
  have hv : V m c main_v1 = shapeCast S1x1024 (m ((c : Thread nD τ).loc main_arg2)) shapeCasts_S1024_S1x1024 := by
    show StableHlo.after _ _ _ = _
    simp only [hostOps0, List.flatten_cons, List.flatten_nil, List.append_nil, List.cons_append, List.nil_append]
    after_results_simp <;> rfl
  rw [hv]
  exact shapeCast_apply (s := S1024) _ _ _ _ (by
    rw [Shape.rowMajor_val_one, Shape.rowMajor_val_two]
    show e.val = 0 * 1024 + e.val
    omega)

/-- The weights, rounded. -/
theorem V_weights (c : Dev nD) : V m c main_v0 = m ((c : Thread nD τ).loc main_arg3) := by
  show StableHlo.after _ _ _ = _
  simp only [hostOps0, List.flatten_cons, List.flatten_nil, List.append_nil, List.cons_append, List.nil_append]
  after_results_simp <;> rfl

theorem t_lt (t : Fin cfg0.N) : t.val < 64 := lt_of_lt_of_eq t.isLt N_0

/-- The batch and the token under point `t`'s block coordinates. -/
def batchAt (t : Fin cfg0.N) : Fin 8 := ⟨t.val / 8, by have := t_lt t; omega⟩
def tokenAt (t : Fin cfg0.N) (r : Fin 512) : Fin 4096 := ⟨t.val % 8 * 512 + r.val, by have := r.isLt; omega⟩

theorem idx5 : ∀ t : Fin cfg0.N, win0_5.index t 0 = t.val / 8 ∧ win0_5.index t 1 = t.val % 8 ∧ win0_5.index t 2 = 0 :=
  (by decide +kernel : ∀ t : Fin grid0.N, _)

theorem emb5 (t : Fin cfg0.N) (r : Fin 512) (d : Fin 5120) :
    (win0_5.blk t).view.emb (ix3 (0 : Fin 1) r d) = ix3 (batchAt t) (tokenAt t r) d := by
  obtain ⟨h0, h1, h2⟩ := idx5 t
  funext a; apply Fin.ext
  match a with
  | ⟨0, _⟩ => exact (Pipeline.Window.rect_emb_val win0_5 t _ 0).trans (by rw [h0]; show t.val / 8 * 1 + 0 = t.val / 8; omega)
  | ⟨1, _⟩ => exact (Pipeline.Window.rect_emb_val win0_5 t _ 1).trans (by rw [h1]; rfl)
  | ⟨2, _⟩ => exact (Pipeline.Window.rect_emb_val win0_5 t _ 2).trans (by rw [h2]; show 0 * 5120 + d.val = d.val; omega)

theorem idx0 : ∀ t : Fin cfg0.N, win0_0.index t 0 = t.val / 8 ∧ win0_0.index t 1 = t.val % 8 ∧ win0_0.index t 2 = 0 :=
  (by decide +kernel : ∀ t : Fin grid0.N, _)

theorem blk0 (c : Dev nD) (t : Fin cfg0.N) (r : Fin 512) (d : Fin 1024) :
    iblk m c 0 t (ix3 (0 : Fin 1) r d) = m ((c : Thread nD τ).loc main_arg0) (ix3 (batchAt t) (tokenAt t r) d) := by
  obtain ⟨h0, h1, h2⟩ := idx0 t
  refine Eq.trans ?_ (congrFun (V_main_arg0 m c) _)
  refine congrArg (V m c main_arg0) (funext fun a => Fin.ext ?_)
  match a with
  | ⟨0, _⟩ => exact (Pipeline.Window.rect_emb_val win0_0 t _ 0).trans (by rw [h0]; show t.val / 8 * 1 + 0 = t.val / 8; omega)
  | ⟨1, _⟩ => exact (Pipeline.Window.rect_emb_val win0_0 t _ 1).trans (by rw [h1]; rfl)
  | ⟨2, _⟩ => exact (Pipeline.Window.rect_emb_val win0_0 t _ 2).trans (by rw [h2]; show 0 * 1024 + d.val = d.val; omega)

theorem idx1 : ∀ t : Fin cfg0.N, win0_1.index t 0 = t.val / 8 ∧ win0_1.index t 1 = 0 ∧ win0_1.index t 2 = 0 ∧ win0_1.index t 3 = 0 :=
  (by decide +kernel : ∀ t : Fin grid0.N, _)

theorem blk1 (c : Dev nD) (t : Fin cfg0.N) (d : Fin 1024) :
    iblk m c 1 t (ix4 (0 : Fin 1) (0 : Fin 1) (0 : Fin 1) d) = modAt (m ((c : Thread nD τ).loc main_arg1)) (batchAt t) 0 d := by
  obtain ⟨h0, h1, h2, h3⟩ := idx1 t
  refine Eq.trans ?_ (congrFun (V_main_arg1 m c) _)
  refine congrArg (V m c main_arg1) (funext fun a => Fin.ext ?_)
  match a with
  | ⟨0, _⟩ => exact (Pipeline.Window.rect_emb_val win0_1 t _ 0).trans (by rw [h0]; show t.val / 8 * 1 + 0 = t.val / 8; omega)
  | ⟨1, _⟩ => exact (Pipeline.Window.rect_emb_val win0_1 t _ 1).trans (by rw [h1]; rfl)
  | ⟨2, _⟩ => exact (Pipeline.Window.rect_emb_val win0_1 t _ 2).trans (by rw [h2]; rfl)
  | ⟨3, _⟩ => exact (Pipeline.Window.rect_emb_val win0_1 t _ 3).trans (by rw [h3]; show 0 * 1024 + d.val = d.val; omega)

theorem idx2 : ∀ t : Fin cfg0.N, win0_2.index t 0 = t.val / 8 ∧ win0_2.index t 1 = 1 ∧ win0_2.index t 2 = 0 ∧ win0_2.index t 3 = 0 :=
  (by decide +kernel : ∀ t : Fin grid0.N, _)

theorem blk2 (c : Dev nD) (t : Fin cfg0.N) (d : Fin 1024) :
    iblk m c 2 t (ix4 (0 : Fin 1) (0 : Fin 1) (0 : Fin 1) d) = modAt (m ((c : Thread nD τ).loc main_arg1)) (batchAt t) 1 d := by
  obtain ⟨h0, h1, h2, h3⟩ := idx2 t
  refine Eq.trans ?_ (congrFun (V_main_arg1 m c) _)
  refine congrArg (V m c main_arg1) (funext fun a => Fin.ext ?_)
  match a with
  | ⟨0, _⟩ => exact (Pipeline.Window.rect_emb_val win0_2 t _ 0).trans (by rw [h0]; show t.val / 8 * 1 + 0 = t.val / 8; omega)
  | ⟨1, _⟩ => exact (Pipeline.Window.rect_emb_val win0_2 t _ 1).trans (by rw [h1]; rfl)
  | ⟨2, _⟩ => exact (Pipeline.Window.rect_emb_val win0_2 t _ 2).trans (by rw [h2]; rfl)
  | ⟨3, _⟩ => exact (Pipeline.Window.rect_emb_val win0_2 t _ 3).trans (by rw [h3]; show 0 * 1024 + d.val = d.val; omega)

theorem idx3 : ∀ t : Fin cfg0.N, win0_3.index t 0 = 0 ∧ win0_3.index t 1 = 0 :=
  (by decide +kernel : ∀ t : Fin grid0.N, _)

theorem blk3 (c : Dev nD) (t : Fin cfg0.N) (e : Fin 1024) :
    iblk m c 3 t (ix2 (0 : Fin 1) e) = m ((c : Thread nD τ).loc main_arg2) (ix1 e) := by
  obtain ⟨h0, h1⟩ := idx3 t
  refine Eq.trans ?_ (V_norm m c e)
  refine congrArg (V m c main_v1) (funext fun a => Fin.ext ?_)
  match a with
  | ⟨0, _⟩ => exact (Pipeline.Window.rect_emb_val win0_3 t _ 0).trans (by rw [h0]; show 0 * 1 + 0 = 0; omega)
  | ⟨1, _⟩ => exact (Pipeline.Window.rect_emb_val win0_3 t _ 1).trans (by rw [h1]; show 0 * 1024 + e.val = e.val; omega)

theorem idx4 : ∀ t : Fin cfg0.N, win0_4.index t 0 = 0 ∧ win0_4.index t 1 = 0 :=
  (by decide +kernel : ∀ t : Fin grid0.N, _)

theorem blk4 (c : Dev nD) (t : Fin cfg0.N) (r : Fin 1024) (e : Fin 5120) :
    iblk m c 4 t (ix2 r e) = m ((c : Thread nD τ).loc main_arg3) (ix2 r e) := by
  obtain ⟨h0, h1⟩ := idx4 t
  refine Eq.trans ?_ (congrFun (V_weights m c) _)
  refine congrArg (V m c main_v0) (funext fun a => Fin.ext ?_)
  match a with
  | ⟨0, _⟩ => exact (Pipeline.Window.rect_emb_val win0_4 t _ 0).trans (by rw [h0]; show 0 * 1024 + r.val = r.val; omega)
  | ⟨1, _⟩ => exact (Pipeline.Window.rect_emb_val win0_4 t _ 1).trans (by rw [h1]; show 0 * 5120 + e.val = e.val; omega)

/-- A point's product is the token's. -/
theorem z_block (c : Dev nD) (t : Fin cfg0.N) (r : Fin 512) (l : Fin 5120) :
    zRow (iblk m c 0 t) (iblk m c 3 t) (iblk m c 1 t) (iblk m c 2 t) (iblk m c 4 t) r l
      = zAt (m ((c : Thread nD τ).loc main_arg0)) (m ((c : Thread nD τ).loc main_arg1)) (m ((c : Thread nD τ).loc main_arg2))
          (m ((c : Thread nD τ).loc main_arg3)) (batchAt t) (tokenAt t r) l := by
  unfold zRow zAt modulated
  rw [funext (blk0 m c t r), funext (blk3 m c t), funext (blk1 m c t), funext (blk2 m c t)]
  exact Finset.sum_congr rfl fun d _ => congrArg (fun b : EReal => _ * b) (blk4 m c t d l)

/-- The projection of device `c`'s arguments. -/
abbrev result (c : Dev nD) : Buf (Elt Ideal) ((c : Thread nD τ).loc main_v2) :=
  projection (m ((c : Thread nD τ).loc main_arg0)) (m ((c : Thread nD τ).loc main_arg1)) (m ((c : Thread nD τ).loc main_arg2))
    (m ((c : Thread nD τ).loc main_arg3))

/-- What a point writes back is its block of the projection. -/
theorem flushed_eq (c : Dev nD) (t : Fin cfg0.N) :
    (dats m 0 c).flushed 5 t = (win0_5.blk t).view.read (Elt Ideal) (result m c) := by
  rw [Value.flushed5_A]
  funext y
  show out0_A_5 (F := Ideal) c (grid0.coords t) (ms0_0 t) (hs0_0 t) (ms0_1 t) (hs0_1 t) (ms0_2 t) (hs0_2 t) (ms0_3 t) (hs0_3 t) (ms0_4 t) (hs0_4 t)
    (ms0_5 t) (hs0_5 t) (iblk m c 0 t) (iblk m c 1 t) (iblk m c 2 t) (iblk m c 3 t) (iblk m c 4 t) y = result m c ((win0_5.blk t).view.emb y)
  obtain ⟨r, d, rfl⟩ : ∃ (r : Fin 512) (d : Fin 5120), y = ix3 (0 : Fin 1) r d :=
    ⟨y 1, y 2, funext fun a => Fin.ext (by
      match a with
      | ⟨0, _⟩ => exact Nat.lt_one_iff.mp (y 0).isLt
      | ⟨1, _⟩ => rfl
      | ⟨2, _⟩ => rfl)⟩
  refine (out_apply _ _ _ _ _ _ _ _ _ _ _ _ _ _ _ _ _ _ _ r d).trans ?_
  rw [emb5, z_block]
  rfl

/-- The blocks tile the result. -/
theorem cover (i : S8x4096x5120.Idx) :
    ∃ t : Fin cfg0.N, (cfg0.win 5).flush t = true ∧ i ∈ ((cfg0.win 5).blk t).view.set := by
  have h0 : (i 0).val < 8 := (i 0).isLt
  have h1 : (i 1).val < 4096 := (i 1).isLt
  have hN : cfg0.N = 64 := N_0
  have ht : (i 0).val * 8 + (i 1).val / 512 < cfg0.N := by omega
  refine ⟨⟨_, ht⟩, flush0_5 _, ?_⟩
  have e := emb5 ⟨_, ht⟩ ⟨(i 1).val % 512, by omega⟩ (i 2)
  have this : (win0_5.blk ⟨_, ht⟩).view.emb (ix3 (0 : Fin 1) ⟨(i 1).val % 512, by omega⟩ (i 2)) = i := by
    symm
    rw [e]
    funext a; apply Fin.ext
    match a with
    | ⟨0, _⟩ => show (i 0).val = ((i 0).val * 8 + (i 1).val / 512) / 8; omega
    | ⟨1, _⟩ => show (i 1).val = ((i 0).val * 8 + (i 1).val / 512) % 8 * 512 + (i 1).val % 512; omega
    | ⟨2, _⟩ => rfl
  have hm := View.emb_mem_set (win0_5.blk ⟨_, ht⟩).view (ix3 (0 : Fin 1) ⟨(i 1).val % 512, by omega⟩ (i 2))
  rwa [this] at hm

theorem final (c : Dev nD) : (dats m 0 c).arrAt 5 cfg0.N = result m c :=
  (dats m 0 c).arrAt_eq_of_cover 5 (result m c) (fun t _ => flushed_eq m c t) cover

end Cert.Proof.HgIn

end
-- ==== Proof.HgIn.Ref.lean ====
/-
  The reference's result array is the gated mixer's input projection of its arguments.
-/
module

public import proofs.«01_k».proof.Proof.HgIn.Array
public import proofs.«01_k».proof.Proof.Gen.Reference3Ideal.Read
public import Idealize.ShloMosaic.Lib.KernelVsHost

@[expose] public section

noncomputable section

namespace Cert.Proof.HgIn

open Cert.Reference3Ideal Cert.Reference3Ideal.Gen Cert.Reference3Ideal.Read Idealize.ShloMosaic Idealize.ShloMosaic.TcCoe Idealize.SL.Sem
open Cert.Proof.Ffn (invRms modRow)
open scoped BigOperators

variable (x : S8x4096x1024.Idx → EReal) (mods : S16x6x1x1024.Idx → EReal) (ng : S1024.Idx → EReal) (w : S1024x5120.Idx → EReal)

/-- The modulation vectors without their unit axis. -/
theorem ref_mods (b : Fin 8) (k : Fin 6) (d : Fin 1024) :
    val_main_v1 (F := Ideal) mods (ix3 b k d) = modAt mods b k d := by
  refine (val_main_v1_apply (F := Ideal) mods _).trans ((val_main_v0_apply (F := Ideal) mods _).trans (congrArg mods ?_))
  have := b.isLt; have := k.isLt; have := d.isLt
  funext a; apply Fin.ext
  match a with
  | ⟨0, _⟩ => show ((b.val * 6 + k.val) * 1024 + d.val) / 6144 = b.val; omega
  | ⟨1, _⟩ => show ((b.val * 6 + k.val) * 1024 + d.val) / 1024 % 6 = k.val; omega
  | ⟨2, _⟩ => rfl
  | ⟨3, _⟩ => show ((b.val * 6 + k.val) * 1024 + d.val) % 1024 = d.val; omega

theorem ref_shift (b : Fin 8) (d : Fin 1024) : val_main_v4 (F := Ideal) mods (ix3 b (0 : Fin 1) d) = modAt mods b 0 d := by
  refine (val_main_v4_apply (F := Ideal) mods _).trans ((val_main_v3_apply (F := Ideal) mods _).trans
    ((val_main_v2_apply (F := Ideal) mods _).trans (Eq.trans (congrArg _ ?_) (ref_mods mods b 0 d))))
  have := b.isLt; have := d.isLt
  funext a; apply Fin.ext
  match a with
  | ⟨0, _⟩ => show (b.val * 1024 + d.val) / 1024 = b.val; omega
  | ⟨1, _⟩ => rfl
  | ⟨2, _⟩ => show (b.val * 1024 + d.val) % 1024 = d.val; omega

theorem ref_scale (b : Fin 8) (d : Fin 1024) : val_main_v7 (F := Ideal) mods (ix3 b (0 : Fin 1) d) = modAt mods b 1 d := by
  refine (val_main_v7_apply (F := Ideal) mods _).trans ((val_main_v6_apply (F := Ideal) mods _).trans
    ((val_main_v5_apply (F := Ideal) mods _).trans (Eq.trans (congrArg _ ?_) (ref_mods mods b 1 d))))
  have := b.isLt; have := d.isLt
  funext a; apply Fin.ext
  match a with
  | ⟨0, _⟩ => show (b.val * 1024 + d.val) / 1024 = b.val; omega
  | ⟨1, _⟩ => rfl
  | ⟨2, _⟩ => show (b.val * 1024 + d.val) % 1024 = d.val; omega

/-- One over the root of a token's mean square. -/
theorem ref_inv (b : Fin 8) (n : Fin 4096) :
    val_main_v15 (F := Ideal) x (ix3 b n (0 : Fin 1)) = invRms fun e => x (ix3 b n e) := by
  refine (val_main_v15_apply (F := Ideal) x _).trans ?_
  refine congrArg Ideal.rsqrt ?_
  refine (val_main_v14_apply (F := Ideal) x _).trans ?_
  refine congrArg₂ (fun a b : EReal => a + b) ?_ (val_main_v13_apply (F := Ideal) _)
  refine (val_main_v12_apply (F := Ideal) x _).trans (congrArg₂ Ideal.div ?_ (val_main_v11_apply (F := Ideal) _))
  refine (val_main_v10_apply (F := Ideal) x _).trans ((val_main_v9_apply x _).trans ?_)
  show Ideal.ofBits .f32 0x00000000#32 + _ = _
  rw [Ideal.ofBits_zero_f32, zero_add]
  refine Finset.sum_congr rfl fun e _ => ?_
  refine (val_main_v8_apply (F := Ideal) x _).trans ?_
  refine congrArg (fun i => x i * x i) ?_
  funext a; apply Fin.ext
  match a with
  | ⟨0, _⟩ => rfl
  | ⟨1, _⟩ => rfl
  | ⟨2, _⟩ => rfl

/-- A token's modulated row. -/
theorem ref_modulated (b : Fin 8) (n : Fin 4096) (d : Fin 1024) :
    val_main_v26 (F := Ideal) x mods ng (ix3 b n d) = modulated x mods ng b n d := by
  refine (val_main_v26_apply (F := Ideal) x mods ng _).trans ?_
  refine congrArg₂ (fun a b : EReal => a + b) ?_ ?_
  · refine (val_main_v24_apply (F := Ideal) x mods ng _).trans (congrArg₂ (fun a b : EReal => a * b) ?_ ?_)
    · refine (val_main_v20_apply (F := Ideal) x ng _).trans (congrArg₂ (fun a b : EReal => a * b) ?_ ?_)
      · refine (val_main_v17_apply (F := Ideal) x _).trans (congrArg (fun r : EReal => x (ix3 b n d) * r) ?_)
        refine (val_main_v16_apply (F := Ideal) x _).trans (Eq.trans (congrArg _ ?_) (ref_inv x b n))
        funext a; apply Fin.ext
        match a with
        | ⟨0, _⟩ => rfl
        | ⟨1, _⟩ => rfl
        | ⟨2, _⟩ => rfl
      · refine (val_main_v19_apply (F := Ideal) ng _).trans ((val_main_v18_apply (F := Ideal) ng _).trans (congrArg ng ?_))
        funext a; apply Fin.ext
        match a with
        | ⟨0, _⟩ => rfl
    · refine (val_main_v23_apply (F := Ideal) mods _).trans ((val_main_v22_apply (F := Ideal) mods _).trans ?_)
      refine congrArg₂ (fun a b : EReal => a + b) ((val_main_v21_apply (F := Ideal) _).trans Ideal.ofBits_one_f32) ?_
      refine Eq.trans (congrArg _ ?_) (ref_scale mods b d)
      funext a; apply Fin.ext
      match a with
      | ⟨0, _⟩ => rfl
      | ⟨1, _⟩ => rfl
      | ⟨2, _⟩ => rfl
  · refine (val_main_v25_apply (F := Ideal) mods _).trans (Eq.trans (congrArg _ ?_) (ref_shift mods b d))
    funext a; apply Fin.ext
    match a with
    | ⟨0, _⟩ => rfl
    | ⟨1, _⟩ => rfl
    | ⟨2, _⟩ => rfl

/-- The product at a token. -/
theorem ref_z (b : Fin 8) (n : Fin 4096) (l : Fin 5120) : val_main_v27 (F := Ideal) x mods ng w (ix3 b n l) = zAt x mods ng w b n l := by
  refine (val_main_v27_apply x mods ng w _).trans (Finset.sum_congr rfl fun d _ => ?_)
  refine congrArg₂ (fun a b : EReal => a * b) (Eq.trans (congrArg _ ?_) (ref_modulated x mods ng b n d)) (congrArg w ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl

theorem ref_part0 (b : Fin 8) (n : Fin 4096) (d : Fin 1024) (l : Fin 5120) (h : l.val = 0 + d.val) :
    val_main_v28 (F := Ideal) x mods ng w (ix3 b n d) = zAt x mods ng w b n l := by
  refine (val_main_v28_apply (F := Ideal) x mods ng w _).trans (Eq.trans (congrArg _ ?_) (ref_z x mods ng w b n l))
  funext a; apply Fin.ext
  match a with
  | ⟨0, _⟩ => rfl
  | ⟨1, _⟩ => rfl
  | ⟨2, _⟩ => show d.val = l.val; omega

theorem ref_part1 (b : Fin 8) (n : Fin 4096) (d : Fin 1024) (l : Fin 5120) (h : l.val = 1024 + d.val) :
    val_main_v29 (F := Ideal) x mods ng w (ix3 b n d) = zAt x mods ng w b n l := by
  refine (val_main_v29_apply (F := Ideal) x mods ng w _).trans (Eq.trans (congrArg _ ?_) (ref_z x mods ng w b n l))
  funext a; apply Fin.ext
  match a with
  | ⟨0, _⟩ => rfl
  | ⟨1, _⟩ => rfl
  | ⟨2, _⟩ => show 1024 + d.val = l.val; omega

theorem ref_part2 (b : Fin 8) (n : Fin 4096) (d : Fin 1024) (l : Fin 5120) (h : l.val = 2048 + d.val) :
    val_main_v30 (F := Ideal) x mods ng w (ix3 b n d) = zAt x mods ng w b n l := by
  refine (val_main_v30_apply (F := Ideal) x mods ng w _).trans (Eq.trans (congrArg _ ?_) (ref_z x mods ng w b n l))
  funext a; apply Fin.ext
  match a with
  | ⟨0, _⟩ => rfl
  | ⟨1, _⟩ => rfl
  | ⟨2, _⟩ => show 2048 + d.val = l.val; omega

theorem ref_part3 (b : Fin 8) (n : Fin 4096) (d : Fin 1024) (l : Fin 5120) (h : l.val = 3072 + d.val) :
    val_main_v31 (F := Ideal) x mods ng w (ix3 b n d) = zAt x mods ng w b n l := by
  refine (val_main_v31_apply (F := Ideal) x mods ng w _).trans (Eq.trans (congrArg _ ?_) (ref_z x mods ng w b n l))
  funext a; apply Fin.ext
  match a with
  | ⟨0, _⟩ => rfl
  | ⟨1, _⟩ => rfl
  | ⟨2, _⟩ => show 3072 + d.val = l.val; omega

theorem ref_part4 (b : Fin 8) (n : Fin 4096) (d : Fin 1024) (l : Fin 5120) (h : l.val = 4096 + d.val) :
    val_main_v32 (F := Ideal) x mods ng w (ix3 b n d) = zAt x mods ng w b n l := by
  refine (val_main_v32_apply (F := Ideal) x mods ng w _).trans (Eq.trans (congrArg _ ?_) (ref_z x mods ng w b n l))
  funext a; apply Fin.ext
  match a with
  | ⟨0, _⟩ => rfl
  | ⟨1, _⟩ => rfl
  | ⟨2, _⟩ => show 4096 + d.val = l.val; omega

/-- The silu of the queries. -/
theorem ref_silu (b : Fin 8) (n : Fin 4096) (d : Fin 1024) (l : Fin 5120) (h : l.val = 0 + d.val) :
    val_main_v33 (F := Ideal) x mods ng w (ix3 b n d) = silu (zAt x mods ng w b n l) := by
  have hg := ref_part0 x mods ng w b n d l h
  refine (val_main_v33_apply (F := Ideal) x mods ng w _).trans (congrArg₂ (fun a b : EReal => a * b) hg ?_)
  refine (val_main_call0_v5_apply (F := Ideal) x mods ng w _).trans ?_
  have h1 : val_main_call0_v4 (F := Ideal) (ix3 b n d) = (1 : EReal) :=
    (val_main_call0_v4_apply (F := Ideal) _).trans Ideal.ofBits_one_f32
  have h2 : val_main_call0_v2 (F := Ideal) (ix3 b n d) = (1 : EReal) :=
    (val_main_call0_v2_apply (F := Ideal) _).trans Ideal.ofBits_one_f32
  refine (congrArg₂ Ideal.div h1 ?_).trans (rfl : Ideal.div 1 (1 + Ideal.exp (-zAt x mods ng w b n l)) = _)
  refine (val_main_call0_v3_apply (F := Ideal) x mods ng w _).trans (congrArg₂ (fun a b : EReal => a + b) h2 ?_)
  refine (val_main_call0_v1_apply (F := Ideal) x mods ng w _).trans (congrArg Ideal.exp ?_)
  exact (val_main_call0_v0_apply (F := Ideal) x mods ng w _).trans (congrArg (fun a : EReal => -a) hg)

/-- Five pieces of 1024 columns each. -/
theorem concat_cols (p0 p1 p2 p3 p4 : S8x4096x1024.Idx → EReal) (b : Fin 8) (n : Fin 4096) (l : Fin 5120) (d : Fin 1024) :
    (l.val = 0 + d.val → concatenate S8x4096x5120 2 [⟨S8x4096x1024, p0⟩, ⟨S8x4096x1024, p1⟩, ⟨S8x4096x1024, p2⟩, ⟨S8x4096x1024, p3⟩, ⟨S8x4096x1024, p4⟩]
        concatenates_S8x4096x1024_S8x4096x1024_S8x4096x1024_S8x4096x1024_S8x4096x1024_S8x4096x5120_d2 (ix3 b n l) = p0 (ix3 b n d))
    ∧ (l.val = 1024 + d.val → concatenate S8x4096x5120 2 [⟨S8x4096x1024, p0⟩, ⟨S8x4096x1024, p1⟩, ⟨S8x4096x1024, p2⟩, ⟨S8x4096x1024, p3⟩, ⟨S8x4096x1024, p4⟩]
        concatenates_S8x4096x1024_S8x4096x1024_S8x4096x1024_S8x4096x1024_S8x4096x1024_S8x4096x5120_d2 (ix3 b n l) = p1 (ix3 b n d))
    ∧ (l.val = 2048 + d.val → concatenate S8x4096x5120 2 [⟨S8x4096x1024, p0⟩, ⟨S8x4096x1024, p1⟩, ⟨S8x4096x1024, p2⟩, ⟨S8x4096x1024, p3⟩, ⟨S8x4096x1024, p4⟩]
        concatenates_S8x4096x1024_S8x4096x1024_S8x4096x1024_S8x4096x1024_S8x4096x1024_S8x4096x5120_d2 (ix3 b n l) = p2 (ix3 b n d))
    ∧ (l.val = 3072 + d.val → concatenate S8x4096x5120 2 [⟨S8x4096x1024, p0⟩, ⟨S8x4096x1024, p1⟩, ⟨S8x4096x1024, p2⟩, ⟨S8x4096x1024, p3⟩, ⟨S8x4096x1024, p4⟩]
        concatenates_S8x4096x1024_S8x4096x1024_S8x4096x1024_S8x4096x1024_S8x4096x1024_S8x4096x5120_d2 (ix3 b n l) = p3 (ix3 b n d))
    ∧ (l.val = 4096 + d.val → concatenate S8x4096x5120 2 [⟨S8x4096x1024, p0⟩, ⟨S8x4096x1024, p1⟩, ⟨S8x4096x1024, p2⟩, ⟨S8x4096x1024, p3⟩, ⟨S8x4096x1024, p4⟩]
        concatenates_S8x4096x1024_S8x4096x1024_S8x4096x1024_S8x4096x1024_S8x4096x1024_S8x4096x5120_d2 (ix3 b n l) = p4 (ix3 b n d)) := by
  refine ⟨fun h => ?_, fun h => ?_, fun h => ?_, fun h => ?_, fun h => ?_⟩
  · refine concatenate_apply_piece (t := S8x4096x5120) 2 [⟨S8x4096x1024, p0⟩, ⟨S8x4096x1024, p1⟩, ⟨S8x4096x1024, p2⟩, ⟨S8x4096x1024, p3⟩, ⟨S8x4096x1024, p4⟩] _ (ix3 b n l) 0
      (by show 0 < 5; omega) S8x4096x1024 p0 rfl rfl 0 rfl (ix3 b n d) (fun a ha => ?_) (by show 0 + d.val = l.val; omega)
    match a with
    | ⟨0, _⟩ => rfl
    | ⟨1, _⟩ => rfl
    | ⟨2, _⟩ => exact absurd rfl ha
  · refine concatenate_apply_piece (t := S8x4096x5120) 2 [⟨S8x4096x1024, p0⟩, ⟨S8x4096x1024, p1⟩, ⟨S8x4096x1024, p2⟩, ⟨S8x4096x1024, p3⟩, ⟨S8x4096x1024, p4⟩] _ (ix3 b n l) 1
      (by show 1 < 5; omega) S8x4096x1024 p1 rfl rfl 1024 rfl (ix3 b n d) (fun a ha => ?_) (by show 1024 + d.val = l.val; omega)
    match a with
    | ⟨0, _⟩ => rfl
    | ⟨1, _⟩ => rfl
    | ⟨2, _⟩ => exact absurd rfl ha
  · refine concatenate_apply_piece (t := S8x4096x5120) 2 [⟨S8x4096x1024, p0⟩, ⟨S8x4096x1024, p1⟩, ⟨S8x4096x1024, p2⟩, ⟨S8x4096x1024, p3⟩, ⟨S8x4096x1024, p4⟩] _ (ix3 b n l) 2
      (by show 2 < 5; omega) S8x4096x1024 p2 rfl rfl 2048 rfl (ix3 b n d) (fun a ha => ?_) (by show 2048 + d.val = l.val; omega)
    match a with
    | ⟨0, _⟩ => rfl
    | ⟨1, _⟩ => rfl
    | ⟨2, _⟩ => exact absurd rfl ha
  · refine concatenate_apply_piece (t := S8x4096x5120) 2 [⟨S8x4096x1024, p0⟩, ⟨S8x4096x1024, p1⟩, ⟨S8x4096x1024, p2⟩, ⟨S8x4096x1024, p3⟩, ⟨S8x4096x1024, p4⟩] _ (ix3 b n l) 3
      (by show 3 < 5; omega) S8x4096x1024 p3 rfl rfl 3072 rfl (ix3 b n d) (fun a ha => ?_) (by show 3072 + d.val = l.val; omega)
    match a with
    | ⟨0, _⟩ => rfl
    | ⟨1, _⟩ => rfl
    | ⟨2, _⟩ => exact absurd rfl ha
  · refine concatenate_apply_piece (t := S8x4096x5120) 2 [⟨S8x4096x1024, p0⟩, ⟨S8x4096x1024, p1⟩, ⟨S8x4096x1024, p2⟩, ⟨S8x4096x1024, p3⟩, ⟨S8x4096x1024, p4⟩] _ (ix3 b n l) 4
      (by show 4 < 5; omega) S8x4096x1024 p4 rfl rfl 4096 rfl (ix3 b n d) (fun a ha => ?_) (by show 4096 + d.val = l.val; omega)
    match a with
    | ⟨0, _⟩ => rfl
    | ⟨1, _⟩ => rfl
    | ⟨2, _⟩ => exact absurd rfl ha

/-- The reference's result is the projection. -/
theorem ref_value : val_main_v34 (F := Ideal) x mods ng w = projection x mods ng w := by
  funext i
  obtain ⟨b, n, l, rfl⟩ : ∃ (b : Fin 8) (n : Fin 4096) (l : Fin 5120), i = ix3 b n l :=
    ⟨i 0, i 1, i 2, funext fun a => by
      match a with
      | ⟨0, _⟩ => rfl
      | ⟨1, _⟩ => rfl
      | ⟨2, _⟩ => rfl⟩
  have hl := l.isLt
  unfold val_main_v34
  show _ = if l.val < 1024 then silu (zAt x mods ng w b n l) else zAt x mods ng w b n l
  by_cases h0 : l.val < 1024
  · rw [if_pos h0]
    exact ((concat_cols _ _ _ _ _ b n l ⟨l.val, h0⟩).1 (by show l.val = 0 + l.val; omega)).trans
      (ref_silu x mods ng w b n _ l (by show l.val = 0 + l.val; omega))
  · rw [if_neg h0]
    by_cases h1 : l.val < 2048
    · exact ((concat_cols _ _ _ _ _ b n l ⟨l.val - 1024, by omega⟩).2.1 (by show l.val = 1024 + (l.val - 1024); omega)).trans
        (ref_part1 x mods ng w b n _ l (by show l.val = 1024 + (l.val - 1024); omega))
    · by_cases h2 : l.val < 3072
      · exact ((concat_cols _ _ _ _ _ b n l ⟨l.val - 2048, by omega⟩).2.2.1 (by show l.val = 2048 + (l.val - 2048); omega)).trans
          (ref_part2 x mods ng w b n _ l (by show l.val = 2048 + (l.val - 2048); omega))
      · by_cases h3 : l.val < 4096
        · exact ((concat_cols _ _ _ _ _ b n l ⟨l.val - 3072, by omega⟩).2.2.2.1 (by show l.val = 3072 + (l.val - 3072); omega)).trans
            (ref_part3 x mods ng w b n _ l (by show l.val = 3072 + (l.val - 3072); omega))
        · exact ((concat_cols _ _ _ _ _ b n l ⟨l.val - 4096, by omega⟩).2.2.2.2 (by show l.val = 4096 + (l.val - 4096); omega)).trans
            (ref_part4 x mods ng w b n _ l (by show l.val = 4096 + (l.val - 4096); omega))

end Cert.Proof.HgIn

end
-- ==== Proof.HgIn.Claim.lean ====
/-
  The claims on the gated mixer's input projection.
-/
module

public import proofs.«01_k».proof.Defs
public import proofs.«01_k».proof.Proof.HgIn.Array
public import proofs.«01_k».proof.Proof.HgIn.Ref
public import proofs.«01_k».proof.Proof.Gen.Kernel3.Frame
public import proofs.«01_k».proof.Proof.Gen.Kernel3Ideal.Frame
public import Idealize.ShloMosaic.Lib.Quiescent

@[expose] public section

noncomputable section

namespace Cert.Proof.HgIn

open Idealize.ShloMosaic Idealize.SL.Sem

theorem frame_reference : Cert.quiescent_Reference3Ideal := fun m ρ _ =>
  (θ_run (Cert.Reference3Ideal.defs (F := Ideal)) _ _).mono
    (fun r h => ⟨fun c => (h c).2, Idealize.ShloMosaic.sem_eq_zero_of_no_sems (by decide) r.2⟩)
    (Cert.Reference3Ideal.Value.run (F := Ideal) m ρ)

theorem algebraic : Cert.algebraic_Kernel3Ideal_Reference3Ideal := by
  intro m g m' g' _ hargs
  refine ⟨fun c => result m c, ?_, ?_⟩
  · exact (θ_run (Cert.Kernel3Ideal.defs (F := Ideal)) _ _).mono (fun r h c => ⟨(h c).1.trans (final m c), (h c).2⟩)
      (Cert.Kernel3Ideal.Value.run_blocks (F := Ideal) m g)
  · refine (θ_run (Cert.Reference3Ideal.defs (F := Ideal)) _ _).mono (fun r h c => ⟨(h c).1.trans ?_, (h c).2⟩)
      (Cert.Reference3Ideal.Value.run (F := Ideal) m' g')
    obtain ⟨h0, h1, h2, h3⟩ := hargs c
    refine (Cert.Reference3Ideal.Read.val_main_v34_eq (F := Ideal) _ _).trans ?_
    rw [h0, h1, h2, h3]
    exact ref_value _ _ _ _

end Cert.Proof.HgIn

end
-- ==== Proof.HgOut.Payload.lean ====
/-
  The output projection of the gated mixer's body, read at one element: each head's row over the root of its mean square,
  times the silu of the gate, through the output weights.
-/
module

public import proofs.«01_k».proof.Proof.Gen.Kernel4Ideal.Value
public import Idealize.ShloMosaic.Lib.Pipeline.ValueKit.Basic
public import Idealize.ShloMosaic.Lib.Pipeline.ValueKit.Tiles
public import Idealize.ShloMosaic.Lib.Pointwise.Tactic
public import Idealize.ShloMosaic.Lib.MatmulPlain
public import Idealize.ShloMosaic.Lib.KernelVsHost

@[expose] public section

noncomputable section

namespace Cert.Proof.HgOut

open Cert.Kernel4Ideal Cert.Kernel4Ideal.Gen Idealize.ShloMosaic Idealize.ShloMosaic.TcCoe Idealize.SL.Sem
open scoped BigOperators

/-- One over the root of a head's mean square, `1e-6` added under the root. -/
def headRms (u : Fin 128 → EReal) : EReal :=
  Ideal.rsqrt (Ideal.div (∑ e, u e * u e) (Ideal.ofBits .f32 0x43000000#32) + Ideal.ofBits .f32 0x358637BD#32)

/-- Column `e` of head `h`. -/
def headCol (h : Fin 8) (e : Fin 128) : Fin 1024 := ⟨h.val * 128 + e.val, by have := h.isLt; have := e.isLt; omega⟩

/-- A column's head and its place there. -/
def headOf (l : Fin 1024) : Fin 8 := ⟨l.val / 128, by have := l.isLt; omega⟩
def laneOf (l : Fin 1024) : Fin 128 := ⟨l.val % 128, by omega⟩

theorem headOf_headCol (h : Fin 8) (e : Fin 128) : headOf (headCol h e) = h :=
  Fin.ext (by have := e.isLt; show (h.val * 128 + e.val) / 128 = h.val; omega)

theorem laneOf_headCol (h : Fin 8) (e : Fin 128) : laneOf (headCol h e) = e :=
  Fin.ext (by have := e.isLt; show (h.val * 128 + e.val) % 128 = e.val; omega)

/-- A row normalised head by head. -/
def normRow (o : Fin 1024 → EReal) (g : Fin 128 → EReal) (l : Fin 1024) : EReal :=
  o l * headRms (fun e => o (headCol (headOf l) e)) * g (laneOf l)

/-- An element times its logistic. -/
def silu (z : EReal) : EReal := z * Ideal.logistic z

theorem drop_mod {α : Type} (x : S1x1x1x1024.Idx → α) (d : Fin 1024) :
    shapeCast S1x1024 x shapeCasts_S1x1x1x1024_S1x1024 (ix2 (0 : Fin 1) d) = x (ix4 (0 : Fin 1) (0 : Fin 1) (0 : Fin 1) d) :=
  shapeCast_apply x _ _ _ (by
    rw [Shape.rowMajor_val_two, Shape.rowMajor_val_four]
    show ((0 * 1 + 0) * 1 + 0) * 1024 + d.val = 0 * 1024 + d.val
    omega)

theorem drop_tile {α : Type} (x : S1x512x1024.Idx → α) (r : Fin 512) (d : Fin 1024) :
    shapeCast S512x1024 x shapeCasts_S1x512x1024_S512x1024 (ix2 r d) = x (ix3 (0 : Fin 1) r d) :=
  shapeCast_apply x _ _ _ (by
    rw [Shape.rowMajor_val_two, Shape.rowMajor_val_three]
    show (0 * 512 + r.val) * 1024 + d.val = r.val * 1024 + d.val
    omega)

theorem lead_apply (y : FVec Ideal S512x1024 .f32) (r : Fin 512) (l : Fin 1024) :
    shapeCast S1x512x1024 y shapeCasts_S512x1024_S1x512x1024 (ix3 (0 : Fin 1) r l) = y (ix2 r l) :=
  shapeCast_apply _ shapeCasts_S512x1024_S1x512x1024 (ix3 (0 : Fin 1) r l) (ix2 r l) (by
    rw [Shape.rowMajor_val_two, Shape.rowMajor_val_three]
    show r.val * 1024 + l.val = (0 * 512 + r.val) * 1024 + l.val
    omega)

theorem drop_gain {α : Type} (x : S1x128.Idx → α) (d : Fin 128) :
    shapeCast S1x128 x shapeCasts_S1x128_S1x128 (ix2 (0 : Fin 1) d) = x (ix2 (0 : Fin 1) d) :=
  shapeCast_apply x _ _ _ rfl

theorem drop_head {α : Type} (x : S1x512x128.Idx → α) (r : Fin 512) (d : Fin 128) :
    shapeCast S512x128 x shapeCasts_S1x512x128_S512x128 (ix2 r d) = x (ix3 (0 : Fin 1) r d) :=
  shapeCast_apply x _ _ _ (by
    rw [Shape.rowMajor_val_two, Shape.rowMajor_val_three]
    show (0 * 512 + r.val) * 128 + d.val = r.val * 128 + d.val
    omega)

theorem lift128 (r : Fin 512) (j : Fin 128) : reduces_S512x128_S512.lift (ix1 r) j = ix2 r j := by
  funext a; apply Fin.ext
  match a with
  | ⟨0, _⟩ => rfl
  | ⟨1, _⟩ => rfl

/-- The sum of squares of a head's row. -/
theorem sq128 (x : FVec Ideal S512x128 .f32) (r : Fin 512) :
    shapeCast S512x1 (multiReduction .add [1] S512 (mulf x x) 0x00000000#32 reduces_S512x128_S512 (.inl rfl) rfl) shapeCasts_S512_S512x1 (ix2 r (0 : Fin 1))
      = ∑ e, x (ix2 r e) * x (ix2 r e) := by
  refine (shapeCast_apply _ shapeCasts_S512_S512x1 (ix2 r (0 : Fin 1)) (ix1 r) (by
    rw [Shape.rowMajor_val_one, Shape.rowMajor_val_two]
    show r.val = r.val * 1 + 0
    omega)).trans ?_
  refine (Ideal.multiReduction_add_single _ _ reduces_S512x128_S512 (.inl rfl) rfl (ix1 r)).trans ?_
  exact Finset.sum_congr rfl fun e _ => congrArg (fun i => x i * x i) (lift128 r e)

/-- A head's tile, normalised row by row. -/
def normHead (u : FVec Ideal S512x128 .f32) (g : FVec Ideal S1x128 .f32) : FVec Ideal S512x128 .f32 :=
  mulf (mulf u (broadcastTo S512x128 (rsqrt (addf (divf
    (shapeCast S512x1 (multiReduction .add [1] S512 (mulf u u) 0x00000000#32 reduces_S512x128_S512 (.inl rfl) rfl) shapeCasts_S512_S512x1)
    (broadcast S512x1 (Scalar.ofBits (F := Ideal) .f32 0x43000000#32))) (broadcast S512x1 (Scalar.ofBits (F := Ideal) .f32 0x358637BD#32))))
    broadcasts_S512x1_S512x128)) (broadcastTo S512x128 g broadcasts_S1x128_S512x128)

theorem normHead_apply (u : FVec Ideal S512x128 .f32) (g : FVec Ideal S1x128 .f32) (r : Fin 512) (e : Fin 128) :
    normHead u g (ix2 r e) = u (ix2 r e) * headRms (fun e => u (ix2 r e)) * g (ix2 (0 : Fin 1) e) := by
  unfold normHead
  pointwise
  rw [sq128]
  rfl

/-- A head cut from a row is the row normalised there. -/
theorem head_apply (v : Vec Ideal S1x512x128 .f32) (g : Vec Ideal S1x128 .f32) (x : Vec Ideal S1x512x1024 .f32) (h : Fin 8)
    (hv : ∀ r e, v (ix3 (0 : Fin 1) r e) = x (ix3 (0 : Fin 1) r (headCol h e))) (r : Fin 512) (e : Fin 128) :
    normHead (shapeCast S512x128 v shapeCasts_S1x512x128_S512x128) (k0_pay2 (F := Ideal) g) (ix2 r e)
      = normRow (fun l => x (ix3 (0 : Fin 1) r l)) (fun e => g (ix2 (0 : Fin 1) e)) (headCol h e) := by
  have hd : ∀ e, shapeCast S512x128 v shapeCasts_S1x512x128_S512x128 (ix2 r e) = x (ix3 (0 : Fin 1) r (headCol h e)) := fun e =>
    (drop_head v r e).trans (hv r e)
  refine (normHead_apply _ _ r e).trans ?_
  unfold normRow
  rw [headOf_headCol, laneOf_headCol, funext hd, hd]
  exact congrArg (fun b : EReal => _ * b) (drop_gain g e)

/-- Eight pieces of 128 columns that are the heads of a row-indexed family are that family. -/
theorem concat_heads (p0 p1 p2 p3 p4 p5 p6 p7 : S512x128.Idx → EReal) (f : Fin 512 → Fin 1024 → EReal)
    (h0 : ∀ r e, p0 (ix2 r e) = f r (headCol 0 e))
    (h1 : ∀ r e, p1 (ix2 r e) = f r (headCol 1 e))
    (h2 : ∀ r e, p2 (ix2 r e) = f r (headCol 2 e))
    (h3 : ∀ r e, p3 (ix2 r e) = f r (headCol 3 e))
    (h4 : ∀ r e, p4 (ix2 r e) = f r (headCol 4 e))
    (h5 : ∀ r e, p5 (ix2 r e) = f r (headCol 5 e))
    (h6 : ∀ r e, p6 (ix2 r e) = f r (headCol 6 e))
    (h7 : ∀ r e, p7 (ix2 r e) = f r (headCol 7 e))
    (r : Fin 512) (l : Fin 1024) :
    concatenate S512x1024 1 [⟨S512x128, p0⟩, ⟨S512x128, p1⟩, ⟨S512x128, p2⟩, ⟨S512x128, p3⟩, ⟨S512x128, p4⟩, ⟨S512x128, p5⟩, ⟨S512x128, p6⟩, ⟨S512x128, p7⟩]
      concatenates_S512x128_S512x128_S512x128_S512x128_S512x128_S512x128_S512x128_S512x128_S512x1024_d1 (ix2 r l) = f r l := by
  have hl := l.isLt
  obtain ⟨h, e, rfl⟩ : ∃ (h : Fin 8) (e : Fin 128), l = headCol h e :=
    ⟨⟨l.val / 128, by omega⟩, ⟨l.val % 128, by omega⟩, Fin.ext (by show l.val = l.val / 128 * 128 + l.val % 128; omega)⟩
  match h with
  | ⟨0, _⟩ =>
    refine (concatenate_apply_piece (t := S512x1024) 1 [⟨S512x128, p0⟩, ⟨S512x128, p1⟩, ⟨S512x128, p2⟩, ⟨S512x128, p3⟩, ⟨S512x128, p4⟩, ⟨S512x128, p5⟩, ⟨S512x128, p6⟩, ⟨S512x128, p7⟩] _ (ix2 r _) 0
      (by show 0 < 8; omega) S512x128 p0 rfl rfl 0 rfl (ix2 r e) (fun b hb => ?_) (by show 0 + e.val = 0 * 128 + e.val; omega)).trans (h0 r e)
    match b with
    | ⟨0, _⟩ => rfl
    | ⟨1, _⟩ => exact absurd rfl hb
  | ⟨1, _⟩ =>
    refine (concatenate_apply_piece (t := S512x1024) 1 [⟨S512x128, p0⟩, ⟨S512x128, p1⟩, ⟨S512x128, p2⟩, ⟨S512x128, p3⟩, ⟨S512x128, p4⟩, ⟨S512x128, p5⟩, ⟨S512x128, p6⟩, ⟨S512x128, p7⟩] _ (ix2 r _) 1
      (by show 1 < 8; omega) S512x128 p1 rfl rfl 128 rfl (ix2 r e) (fun b hb => ?_) (by show 128 + e.val = 1 * 128 + e.val; omega)).trans (h1 r e)
    match b with
    | ⟨0, _⟩ => rfl
    | ⟨1, _⟩ => exact absurd rfl hb
  | ⟨2, _⟩ =>
    refine (concatenate_apply_piece (t := S512x1024) 1 [⟨S512x128, p0⟩, ⟨S512x128, p1⟩, ⟨S512x128, p2⟩, ⟨S512x128, p3⟩, ⟨S512x128, p4⟩, ⟨S512x128, p5⟩, ⟨S512x128, p6⟩, ⟨S512x128, p7⟩] _ (ix2 r _) 2
      (by show 2 < 8; omega) S512x128 p2 rfl rfl 256 rfl (ix2 r e) (fun b hb => ?_) (by show 256 + e.val = 2 * 128 + e.val; omega)).trans (h2 r e)
    match b with
    | ⟨0, _⟩ => rfl
    | ⟨1, _⟩ => exact absurd rfl hb
  | ⟨3, _⟩ =>
    refine (concatenate_apply_piece (t := S512x1024) 1 [⟨S512x128, p0⟩, ⟨S512x128, p1⟩, ⟨S512x128, p2⟩, ⟨S512x128, p3⟩, ⟨S512x128, p4⟩, ⟨S512x128, p5⟩, ⟨S512x128, p6⟩, ⟨S512x128, p7⟩] _ (ix2 r _) 3
      (by show 3 < 8; omega) S512x128 p3 rfl rfl 384 rfl (ix2 r e) (fun b hb => ?_) (by show 384 + e.val = 3 * 128 + e.val; omega)).trans (h3 r e)
    match b with
    | ⟨0, _⟩ => rfl
    | ⟨1, _⟩ => exact absurd rfl hb
  | ⟨4, _⟩ =>
    refine (concatenate_apply_piece (t := S512x1024) 1 [⟨S512x128, p0⟩, ⟨S512x128, p1⟩, ⟨S512x128, p2⟩, ⟨S512x128, p3⟩, ⟨S512x128, p4⟩, ⟨S512x128, p5⟩, ⟨S512x128, p6⟩, ⟨S512x128, p7⟩] _ (ix2 r _) 4
      (by show 4 < 8; omega) S512x128 p4 rfl rfl 512 rfl (ix2 r e) (fun b hb => ?_) (by show 512 + e.val = 4 * 128 + e.val; omega)).trans (h4 r e)
    match b with
    | ⟨0, _⟩ => rfl
    | ⟨1, _⟩ => exact absurd rfl hb
  | ⟨5, _⟩ =>
    refine (concatenate_apply_piece (t := S512x1024) 1 [⟨S512x128, p0⟩, ⟨S512x128, p1⟩, ⟨S512x128, p2⟩, ⟨S512x128, p3⟩, ⟨S512x128, p4⟩, ⟨S512x128, p5⟩, ⟨S512x128, p6⟩, ⟨S512x128, p7⟩] _ (ix2 r _) 5
      (by show 5 < 8; omega) S512x128 p5 rfl rfl 640 rfl (ix2 r e) (fun b hb => ?_) (by show 640 + e.val = 5 * 128 + e.val; omega)).trans (h5 r e)
    match b with
    | ⟨0, _⟩ => rfl
    | ⟨1, _⟩ => exact absurd rfl hb
  | ⟨6, _⟩ =>
    refine (concatenate_apply_piece (t := S512x1024) 1 [⟨S512x128, p0⟩, ⟨S512x128, p1⟩, ⟨S512x128, p2⟩, ⟨S512x128, p3⟩, ⟨S512x128, p4⟩, ⟨S512x128, p5⟩, ⟨S512x128, p6⟩, ⟨S512x128, p7⟩] _ (ix2 r _) 6
      (by show 6 < 8; omega) S512x128 p6 rfl rfl 768 rfl (ix2 r e) (fun b hb => ?_) (by show 768 + e.val = 6 * 128 + e.val; omega)).trans (h6 r e)
    match b with
    | ⟨0, _⟩ => rfl
    | ⟨1, _⟩ => exact absurd rfl hb
  | ⟨7, _⟩ =>
    refine (concatenate_apply_piece (t := S512x1024) 1 [⟨S512x128, p0⟩, ⟨S512x128, p1⟩, ⟨S512x128, p2⟩, ⟨S512x128, p3⟩, ⟨S512x128, p4⟩, ⟨S512x128, p5⟩, ⟨S512x128, p6⟩, ⟨S512x128, p7⟩] _ (ix2 r _) 7
      (by show 7 < 8; omega) S512x128 p7 rfl rfl 896 rfl (ix2 r e) (fun b hb => ?_) (by show 896 + e.val = 7 * 128 + e.val; omega)).trans (h7 r e)
    match b with
    | ⟨0, _⟩ => rfl
    | ⟨1, _⟩ => exact absurd rfl hb

theorem ld_head0 (x : Vec Ideal S1x512x1024 .f32) (r : Fin 512) (e : Fin 128) :
    View.ld x r0_1 (ix3 (0 : Fin 1) r e) = x (ix3 (0 : Fin 1) r (headCol 0 e)) :=
  View.ld_unit_apply_of x _ _ _ (ix3 (0 : Fin 1) r e) (ix3 (0 : Fin 1) r (headCol 0 e)) fun a => by
    match a with
    | ⟨0, _⟩ => rfl
    | ⟨1, _⟩ => show r.val = 0 + r.val; omega
    | ⟨2, _⟩ => show 0 * 128 + e.val = 0 + e.val; omega

theorem ld_head1 (x : Vec Ideal S1x512x1024 .f32) (r : Fin 512) (e : Fin 128) :
    View.ld x r0_2 (ix3 (0 : Fin 1) r e) = x (ix3 (0 : Fin 1) r (headCol 1 e)) :=
  View.ld_unit_apply_of x _ _ _ (ix3 (0 : Fin 1) r e) (ix3 (0 : Fin 1) r (headCol 1 e)) fun a => by
    match a with
    | ⟨0, _⟩ => rfl
    | ⟨1, _⟩ => show r.val = 0 + r.val; omega
    | ⟨2, _⟩ => show 1 * 128 + e.val = 128 + e.val; omega

theorem ld_head2 (x : Vec Ideal S1x512x1024 .f32) (r : Fin 512) (e : Fin 128) :
    View.ld x r0_3 (ix3 (0 : Fin 1) r e) = x (ix3 (0 : Fin 1) r (headCol 2 e)) :=
  View.ld_unit_apply_of x _ _ _ (ix3 (0 : Fin 1) r e) (ix3 (0 : Fin 1) r (headCol 2 e)) fun a => by
    match a with
    | ⟨0, _⟩ => rfl
    | ⟨1, _⟩ => show r.val = 0 + r.val; omega
    | ⟨2, _⟩ => show 2 * 128 + e.val = 256 + e.val; omega

theorem ld_head3 (x : Vec Ideal S1x512x1024 .f32) (r : Fin 512) (e : Fin 128) :
    View.ld x r0_4 (ix3 (0 : Fin 1) r e) = x (ix3 (0 : Fin 1) r (headCol 3 e)) :=
  View.ld_unit_apply_of x _ _ _ (ix3 (0 : Fin 1) r e) (ix3 (0 : Fin 1) r (headCol 3 e)) fun a => by
    match a with
    | ⟨0, _⟩ => rfl
    | ⟨1, _⟩ => show r.val = 0 + r.val; omega
    | ⟨2, _⟩ => show 3 * 128 + e.val = 384 + e.val; omega

theorem ld_head4 (x : Vec Ideal S1x512x1024 .f32) (r : Fin 512) (e : Fin 128) :
    View.ld x r0_5 (ix3 (0 : Fin 1) r e) = x (ix3 (0 : Fin 1) r (headCol 4 e)) :=
  View.ld_unit_apply_of x _ _ _ (ix3 (0 : Fin 1) r e) (ix3 (0 : Fin 1) r (headCol 4 e)) fun a => by
    match a with
    | ⟨0, _⟩ => rfl
    | ⟨1, _⟩ => show r.val = 0 + r.val; omega
    | ⟨2, _⟩ => show 4 * 128 + e.val = 512 + e.val; omega

theorem ld_head5 (x : Vec Ideal S1x512x1024 .f32) (r : Fin 512) (e : Fin 128) :
    View.ld x r0_6 (ix3 (0 : Fin 1) r e) = x (ix3 (0 : Fin 1) r (headCol 5 e)) :=
  View.ld_unit_apply_of x _ _ _ (ix3 (0 : Fin 1) r e) (ix3 (0 : Fin 1) r (headCol 5 e)) fun a => by
    match a with
    | ⟨0, _⟩ => rfl
    | ⟨1, _⟩ => show r.val = 0 + r.val; omega
    | ⟨2, _⟩ => show 5 * 128 + e.val = 640 + e.val; omega

theorem ld_head6 (x : Vec Ideal S1x512x1024 .f32) (r : Fin 512) (e : Fin 128) :
    View.ld x r0_7 (ix3 (0 : Fin 1) r e) = x (ix3 (0 : Fin 1) r (headCol 6 e)) :=
  View.ld_unit_apply_of x _ _ _ (ix3 (0 : Fin 1) r e) (ix3 (0 : Fin 1) r (headCol 6 e)) fun a => by
    match a with
    | ⟨0, _⟩ => rfl
    | ⟨1, _⟩ => show r.val = 0 + r.val; omega
    | ⟨2, _⟩ => show 6 * 128 + e.val = 768 + e.val; omega

theorem ld_head7 (x : Vec Ideal S1x512x1024 .f32) (r : Fin 512) (e : Fin 128) :
    View.ld x r0_8 (ix3 (0 : Fin 1) r e) = x (ix3 (0 : Fin 1) r (headCol 7 e)) :=
  View.ld_unit_apply_of x _ _ _ (ix3 (0 : Fin 1) r e) (ix3 (0 : Fin 1) r (headCol 7 e)) fun a => by
    match a with
    | ⟨0, _⟩ => rfl
    | ⟨1, _⟩ => show r.val = 0 + r.val; omega
    | ⟨2, _⟩ => show 7 * 128 + e.val = 896 + e.val; omega

section Body

variable (g : Vec Ideal S1x128 .f32) (u0 u1 u2 u3 u4 u5 u6 u7 : Vec Ideal S1x512x128 .f32) (z : Vec Ideal S1x512x1024 .f32)

/-- The eight normalised heads side by side, times the silu of the gate. -/
theorem heads_eq (r : Fin 512) (l : Fin 1024) :
    k0_pay14 (F := Ideal) (k0_pay2 g) (k0_pay3 g u0) (k0_pay4 g u1) (k0_pay8 (k0_pay2 g) (k0_pay5 u2) (k0_pay6 u2) (k0_pay7 (F := Ideal)))
        (k0_pay9 (k0_pay2 g) u3) (k0_pay10 (k0_pay2 g) u4) (k0_pay11 u5) (k0_pay12 u5) (k0_pay13 (F := Ideal)) u6 u7 z (ix2 r l)
      = concatenate S512x1024 1 [⟨S512x128, normHead (shapeCast S512x128 u0 shapeCasts_S1x512x128_S512x128) (k0_pay2 (F := Ideal) g)⟩, ⟨S512x128, normHead (shapeCast S512x128 u1 shapeCasts_S1x512x128_S512x128) (k0_pay2 (F := Ideal) g)⟩, ⟨S512x128, normHead (shapeCast S512x128 u2 shapeCasts_S1x512x128_S512x128) (k0_pay2 (F := Ideal) g)⟩, ⟨S512x128, normHead (shapeCast S512x128 u3 shapeCasts_S1x512x128_S512x128) (k0_pay2 (F := Ideal) g)⟩, ⟨S512x128, normHead (shapeCast S512x128 u4 shapeCasts_S1x512x128_S512x128) (k0_pay2 (F := Ideal) g)⟩, ⟨S512x128, normHead (shapeCast S512x128 u5 shapeCasts_S1x512x128_S512x128) (k0_pay2 (F := Ideal) g)⟩, ⟨S512x128, normHead (shapeCast S512x128 u6 shapeCasts_S1x512x128_S512x128) (k0_pay2 (F := Ideal) g)⟩, ⟨S512x128, normHead (shapeCast S512x128 u7 shapeCasts_S1x512x128_S512x128) (k0_pay2 (F := Ideal) g)⟩]
          concatenates_S512x128_S512x128_S512x128_S512x128_S512x128_S512x128_S512x128_S512x128_S512x1024_d1 (ix2 r l) * silu (z (ix3 (0 : Fin 1) r l)) := by
  refine Eq.trans ?_ (congrArg (fun v : EReal => concatenate S512x1024 1 [⟨S512x128, normHead (shapeCast S512x128 u0 shapeCasts_S1x512x128_S512x128) (k0_pay2 (F := Ideal) g)⟩, ⟨S512x128, normHead (shapeCast S512x128 u1 shapeCasts_S1x512x128_S512x128) (k0_pay2 (F := Ideal) g)⟩, ⟨S512x128, normHead (shapeCast S512x128 u2 shapeCasts_S1x512x128_S512x128) (k0_pay2 (F := Ideal) g)⟩, ⟨S512x128, normHead (shapeCast S512x128 u3 shapeCasts_S1x512x128_S512x128) (k0_pay2 (F := Ideal) g)⟩, ⟨S512x128, normHead (shapeCast S512x128 u4 shapeCasts_S1x512x128_S512x128) (k0_pay2 (F := Ideal) g)⟩, ⟨S512x128, normHead (shapeCast S512x128 u5 shapeCasts_S1x512x128_S512x128) (k0_pay2 (F := Ideal) g)⟩, ⟨S512x128, normHead (shapeCast S512x128 u6 shapeCasts_S1x512x128_S512x128) (k0_pay2 (F := Ideal) g)⟩, ⟨S512x128, normHead (shapeCast S512x128 u7 shapeCasts_S1x512x128_S512x128) (k0_pay2 (F := Ideal) g)⟩]
          concatenates_S512x128_S512x128_S512x128_S512x128_S512x128_S512x128_S512x128_S512x128_S512x1024_d1 (ix2 r l) * silu v) (drop_tile z r l))
  rfl

/-- A row through the output weights, gated by the modulation and added to the residual. -/
theorem out_row (p : FVec Ideal S512x1024 .f32) (x : FVec Ideal S512x1024 .f32) (m : Vec Ideal S1x1x1x1024 .f32) (w : Vec Ideal S1024x1024 .bf16)
    (r : Fin 512) (c : Fin 1024) :
    k0_pay1 (F := Ideal) p x m w (ix3 (0 : Fin 1) r c)
      = x (ix2 r c) + m (ix4 (0 : Fin 1) (0 : Fin 1) (0 : Fin 1) c) * ∑ k : Fin 1024, p (ix2 r k) * w (ix2 k c) := by
  have hm : Ideal.matmul dot_S512x1024_S1024x1024_S512x1024_1_0_0_1_n_n (truncf .bf16 p bitsLt_bf16_f32)
      (shapeCast S1024x1024 w shapeCasts_S1024x1024_S1024x1024) (constant (F := Ideal) S512x1024 .f32 0x00000000#32) (ix2 r c)
        = ∑ k : Fin 1024, p (ix2 r k) * w (ix2 k c) := by
    refine (Ideal.matmul_plain_apply (M := 512) (K := 1024) (N := 1024) (φ₁ := .bf16) (φ₂ := .bf16) none _ _ _ r c).trans ?_
    show Ideal.ofBits .f32 0x00000000#32 + _ = _
    rw [Ideal.ofBits_zero_f32, zero_add]
    refine Finset.sum_congr rfl fun d _ => congrArg (fun b : EReal => p (ix2 r d) * b) ?_
    exact shapeCast_apply _ _ _ (ix2 d c) rfl
  unfold k0_pay1
  refine (lead_apply _ r c).trans ?_
  pointwise
  rw [drop_mod, hm]

end Body

theorem zero2 : (![0, 0] : Fin 2 → Nat) = 0 := by
  funext a
  match a with
  | ⟨0, _⟩ => rfl
  | ⟨1, _⟩ => rfl

theorem zero3 : (![0, 0, 0] : Fin 3 → Nat) = 0 := by
  funext a
  match a with
  | ⟨0, _⟩ => rfl
  | ⟨1, _⟩ => rfl
  | ⟨2, _⟩ => rfl

theorem zero4 : (![0, 0, 0, 0] : Fin 4 → Nat) = 0 := by
  funext a
  match a with
  | ⟨0, _⟩ => rfl
  | ⟨1, _⟩ => rfl
  | ⟨2, _⟩ => rfl
  | ⟨3, _⟩ => rfl

section Stored

variable (x0 x1 x2 : Vec Ideal S1x512x1024 .f32) (x3 : Vec Ideal S1x1x1x1024 .f32) (x4 : Vec Ideal S1x128 .f32) (x5 : Vec Ideal S1024x1024 .bf16)

/-- A point's gated row. -/
def gatedRow (r : Fin 512) (l : Fin 1024) : EReal :=
  normRow (fun l => x0 (ix3 (0 : Fin 1) r l)) (fun e => x4 (ix2 (0 : Fin 1) e)) l * silu (x1 (ix3 (0 : Fin 1) r l))

/-- What a point leaves in its output block. -/
theorem out_apply (r : Fin 512) (c : Fin 1024) :
    out0_6 (F := Ideal) x0 x1 x2 x3 x4 x5 (ix3 (0 : Fin 1) r c)
      = x2 (ix3 (0 : Fin 1) r c) + x3 (ix4 (0 : Fin 1) (0 : Fin 1) (0 : Fin 1) c) * ∑ k : Fin 1024, gatedRow x0 x1 x4 r k * x5 (ix2 k c) := by
  unfold out0_6 k0_pay16
  rw [View.canon_unit_zero zero3]
  simp only [View.ld_unit_zero (S := S1x128) zero2, View.ld_unit_zero (S := S1x512x1024) zero3, View.ld_unit_zero (S := S1x1x1x1024) zero4,
    View.ld_unit_zero (S := S1024x1024) zero2]
  refine (out_row _ _ x3 x5 r c).trans (congrArg₂ (fun a b : EReal => a + b) (drop_tile x2 r c)
    (congrArg (fun b : EReal => x3 (ix4 (0 : Fin 1) (0 : Fin 1) (0 : Fin 1) c) * b) (Finset.sum_congr rfl fun k _ =>
      congrArg (fun a : EReal => a * x5 (ix2 k c)) ?_)))
  refine (heads_eq x4 _ _ _ _ _ _ _ _ x1 r k).trans ?_
  refine congrArg (fun a : EReal => a * silu (x1 (ix3 (0 : Fin 1) r k))) ?_
  exact concat_heads _ _ _ _ _ _ _ _ (fun r => normRow (fun l => x0 (ix3 (0 : Fin 1) r l)) (fun e => x4 (ix2 (0 : Fin 1) e)))
    (head_apply _ x4 x0 0 (ld_head0 x0))
    (head_apply _ x4 x0 1 (ld_head1 x0))
    (head_apply _ x4 x0 2 (ld_head2 x0))
    (head_apply _ x4 x0 3 (ld_head3 x0))
    (head_apply _ x4 x0 4 (ld_head4 x0))
    (head_apply _ x4 x0 5 (ld_head5 x0))
    (head_apply _ x4 x0 6 (ld_head6 x0))
    (head_apply _ x4 x0 7 (ld_head7 x0)) r k

end Stored

end Cert.Proof.HgOut

end
-- ==== Proof.HgOut.Array.lean ====
/-
  The gated mixer's output projection: the kernel's result array, its tiles' blocks put together.
-/
module

public import proofs.«01_k».proof.Proof.HgOut.Payload

@[expose] public section

noncomputable section

namespace Cert.Proof.HgOut

open Cert.Kernel4Ideal Cert.Kernel4Ideal.Gen Idealize.ShloMosaic Idealize.ShloMosaic.TcCoe Idealize.SL.Sem
open Idealize.ShloMosaic.Pipeline (Dat)
open scoped BigOperators

/-- Row `k` of batch `b`'s modulation vectors. -/
def modAt (mods : S16x6x1x1024.Idx → EReal) (b : Fin 8) (k : Fin 6) (d : Fin 1024) : EReal :=
  mods (ix4 ⟨b.val, by have := b.isLt; omega⟩ k (0 : Fin 1) d)

/-- The column of the projected row that holds a lane of the gate. -/
def gateCol (l : Fin 1024) : Fin 5120 := ⟨4096 + l.val, by have := l.isLt; omega⟩

section Spec

variable (o : S8x4096x1024.Idx → EReal) (z : S8x4096x5120.Idx → EReal) (x : S8x4096x1024.Idx → EReal) (mods : S16x6x1x1024.Idx → EReal)
  (ng : S128.Idx → EReal) (w : S1024x1024.Idx → EReal)

/-- A token's gated row. -/
def gatedAt (b : Fin 8) (n : Fin 4096) (l : Fin 1024) : EReal :=
  normRow (fun l => o (ix3 b n l)) (fun e => ng (ix1 e)) l * silu (z (ix3 b n (gateCol l)))

/-- The residual stream after the mixer. -/
def mixed (i : S8x4096x1024.Idx) : EReal :=
  x (ix3 (i 0) (i 1) (i 2)) + modAt mods (i 0) 2 (i 2) * ∑ k : Fin 1024, gatedAt o z ng (i 0) (i 1) k * w (ix2 k (i 2))

end Spec

variable (m : (ℓ : Loc nD τ sig) → Buf (Elt Ideal) ℓ) (ρ : Dev nD → PrngReg)

/-- The norm's gain as a row. -/
theorem V_norm (c : Dev nD) (e : Fin 128) : V m c main_v1 (ix2 (0 : Fin 1) e) = m ((c : Thread nD τ).loc main_arg4) (ix1 e) := by
  have hv : V m c main_v1 = shapeCast S1x128 (m ((c : Thread nD τ).loc main_arg4)) shapeCasts_S128_S1x128 := by
    show StableHlo.after _ _ _ = _
    simp only [hostOps0, List.flatten_cons, List.flatten_nil, List.append_nil, List.cons_append, List.nil_append]
    after_results_simp <;> rfl
  rw [hv]
  exact shapeCast_apply (s := S128) _ _ _ _ (by
    rw [Shape.rowMajor_val_one, Shape.rowMajor_val_two]
    show e.val = 0 * 128 + e.val
    omega)

/-- The weights, rounded. -/
theorem V_weights (c : Dev nD) : V m c main_v0 = m ((c : Thread nD τ).loc main_arg5) := by
  show StableHlo.after _ _ _ = _
  simp only [hostOps0, List.flatten_cons, List.flatten_nil, List.append_nil, List.cons_append, List.nil_append]
  after_results_simp <;> rfl

theorem t_lt (t : Fin cfg0.N) : t.val < 64 := lt_of_lt_of_eq t.isLt N_0

/-- The batch and the token under point `t`'s block coordinates. -/
def batchAt (t : Fin cfg0.N) : Fin 8 := ⟨t.val / 8, by have := t_lt t; omega⟩
def tokenAt (t : Fin cfg0.N) (r : Fin 512) : Fin 4096 := ⟨t.val % 8 * 512 + r.val, by have := r.isLt; omega⟩

theorem idx6 : ∀ t : Fin cfg0.N, win0_6.index t 0 = t.val / 8 ∧ win0_6.index t 1 = t.val % 8 ∧ win0_6.index t 2 = 0 :=
  (by decide +kernel : ∀ t : Fin grid0.N, _)

theorem emb6 (t : Fin cfg0.N) (r : Fin 512) (d : Fin 1024) :
    (win0_6.blk t).view.emb (ix3 (0 : Fin 1) r d) = ix3 (batchAt t) (tokenAt t r) d := by
  obtain ⟨h0, h1, h2⟩ := idx6 t
  funext a; apply Fin.ext
  match a with
  | ⟨0, _⟩ => exact (Pipeline.Window.rect_emb_val win0_6 t _ 0).trans (by rw [h0]; show t.val / 8 * 1 + 0 = t.val / 8; omega)
  | ⟨1, _⟩ => exact (Pipeline.Window.rect_emb_val win0_6 t _ 1).trans (by rw [h1]; rfl)
  | ⟨2, _⟩ => exact (Pipeline.Window.rect_emb_val win0_6 t _ 2).trans (by rw [h2]; show 0 * 1024 + d.val = d.val; omega)

theorem idx0 : ∀ t : Fin cfg0.N, win0_0.index t 0 = t.val / 8 ∧ win0_0.index t 1 = t.val % 8 ∧ win0_0.index t 2 = 0 :=
  (by decide +kernel : ∀ t : Fin grid0.N, _)

theorem blk0 (c : Dev nD) (t : Fin cfg0.N) (r : Fin 512) (d : Fin 1024) :
    iblk m c 0 t (ix3 (0 : Fin 1) r d) = m ((c : Thread nD τ).loc main_arg0) (ix3 (batchAt t) (tokenAt t r) d) := by
  obtain ⟨h0, h1, h2⟩ := idx0 t
  refine Eq.trans ?_ (congrFun (V_main_arg0 m c) _)
  refine congrArg (V m c main_arg0) (funext fun a => Fin.ext ?_)
  match a with
  | ⟨0, _⟩ => exact (Pipeline.Window.rect_emb_val win0_0 t _ 0).trans (by rw [h0]; show t.val / 8 * 1 + 0 = t.val / 8; omega)
  | ⟨1, _⟩ => exact (Pipeline.Window.rect_emb_val win0_0 t _ 1).trans (by rw [h1]; rfl)
  | ⟨2, _⟩ => exact (Pipeline.Window.rect_emb_val win0_0 t _ 2).trans (by rw [h2]; show 0 * 1024 + d.val = d.val; omega)

theorem idx1 : ∀ t : Fin cfg0.N, win0_1.index t 0 = t.val / 8 ∧ win0_1.index t 1 = t.val % 8 ∧ win0_1.index t 2 = 4 :=
  (by decide +kernel : ∀ t : Fin grid0.N, _)

theorem blk1 (c : Dev nD) (t : Fin cfg0.N) (r : Fin 512) (d : Fin 1024) :
    iblk m c 1 t (ix3 (0 : Fin 1) r d) = m ((c : Thread nD τ).loc main_arg1) (ix3 (batchAt t) (tokenAt t r) (gateCol d)) := by
  obtain ⟨h0, h1, h2⟩ := idx1 t
  refine Eq.trans ?_ (congrFun (V_main_arg1 m c) _)
  refine congrArg (V m c main_arg1) (funext fun a => Fin.ext ?_)
  match a with
  | ⟨0, _⟩ => exact (Pipeline.Window.rect_emb_val win0_1 t _ 0).trans (by rw [h0]; show t.val / 8 * 1 + 0 = t.val / 8; omega)
  | ⟨1, _⟩ => exact (Pipeline.Window.rect_emb_val win0_1 t _ 1).trans (by rw [h1]; rfl)
  | ⟨2, _⟩ => exact (Pipeline.Window.rect_emb_val win0_1 t _ 2).trans (by rw [h2]; show 4 * 1024 + d.val = 4096 + d.val; omega)

theorem idx2 : ∀ t : Fin cfg0.N, win0_2.index t 0 = t.val / 8 ∧ win0_2.index t 1 = t.val % 8 ∧ win0_2.index t 2 = 0 :=
  (by decide +kernel : ∀ t : Fin grid0.N, _)

theorem blk2 (c : Dev nD) (t : Fin cfg0.N) (r : Fin 512) (d : Fin 1024) :
    iblk m c 2 t (ix3 (0 : Fin 1) r d) = m ((c : Thread nD τ).loc main_arg2) (ix3 (batchAt t) (tokenAt t r) d) := by
  obtain ⟨h0, h1, h2⟩ := idx2 t
  refine Eq.trans ?_ (congrFun (V_main_arg2 m c) _)
  refine congrArg (V m c main_arg2) (funext fun a => Fin.ext ?_)
  match a with
  | ⟨0, _⟩ => exact (Pipeline.Window.rect_emb_val win0_2 t _ 0).trans (by rw [h0]; show t.val / 8 * 1 + 0 = t.val / 8; omega)
  | ⟨1, _⟩ => exact (Pipeline.Window.rect_emb_val win0_2 t _ 1).trans (by rw [h1]; rfl)
  | ⟨2, _⟩ => exact (Pipeline.Window.rect_emb_val win0_2 t _ 2).trans (by rw [h2]; show 0 * 1024 + d.val = d.val; omega)

theorem idx3 : ∀ t : Fin cfg0.N, win0_3.index t 0 = t.val / 8 ∧ win0_3.index t 1 = 2 ∧ win0_3.index t 2 = 0 ∧ win0_3.index t 3 = 0 :=
  (by decide +kernel : ∀ t : Fin grid0.N, _)

theorem blk3 (c : Dev nD) (t : Fin cfg0.N) (d : Fin 1024) :
    iblk m c 3 t (ix4 (0 : Fin 1) (0 : Fin 1) (0 : Fin 1) d) = modAt (m ((c : Thread nD τ).loc main_arg3)) (batchAt t) 2 d := by
  obtain ⟨h0, h1, h2, h3⟩ := idx3 t
  refine Eq.trans ?_ (congrFun (V_main_arg3 m c) _)
  refine congrArg (V m c main_arg3) (funext fun a => Fin.ext ?_)
  match a with
  | ⟨0, _⟩ => exact (Pipeline.Window.rect_emb_val win0_3 t _ 0).trans (by rw [h0]; show t.val / 8 * 1 + 0 = t.val / 8; omega)
  | ⟨1, _⟩ => exact (Pipeline.Window.rect_emb_val win0_3 t _ 1).trans (by rw [h1]; rfl)
  | ⟨2, _⟩ => exact (Pipeline.Window.rect_emb_val win0_3 t _ 2).trans (by rw [h2]; rfl)
  | ⟨3, _⟩ => exact (Pipeline.Window.rect_emb_val win0_3 t _ 3).trans (by rw [h3]; show 0 * 1024 + d.val = d.val; omega)

theorem idx4 : ∀ t : Fin cfg0.N, win0_4.index t 0 = 0 ∧ win0_4.index t 1 = 0 :=
  (by decide +kernel : ∀ t : Fin grid0.N, _)

theorem blk4 (c : Dev nD) (t : Fin cfg0.N) (e : Fin 128) :
    iblk m c 4 t (ix2 (0 : Fin 1) e) = m ((c : Thread nD τ).loc main_arg4) (ix1 e) := by
  obtain ⟨h0, h1⟩ := idx4 t
  refine Eq.trans ?_ (V_norm m c e)
  refine congrArg (V m c main_v1) (funext fun a => Fin.ext ?_)
  match a with
  | ⟨0, _⟩ => exact (Pipeline.Window.rect_emb_val win0_4 t _ 0).trans (by rw [h0]; show 0 * 1 + 0 = 0; omega)
  | ⟨1, _⟩ => exact (Pipeline.Window.rect_emb_val win0_4 t _ 1).trans (by rw [h1]; show 0 * 128 + e.val = e.val; omega)

theorem idx5 : ∀ t : Fin cfg0.N, win0_5.index t 0 = 0 ∧ win0_5.index t 1 = 0 :=
  (by decide +kernel : ∀ t : Fin grid0.N, _)

theorem blk5 (c : Dev nD) (t : Fin cfg0.N) (r : Fin 1024) (e : Fin 1024) :
    iblk m c 5 t (ix2 r e) = m ((c : Thread nD τ).loc main_arg5) (ix2 r e) := by
  obtain ⟨h0, h1⟩ := idx5 t
  refine Eq.trans ?_ (congrFun (V_weights m c) _)
  refine congrArg (V m c main_v0) (funext fun a => Fin.ext ?_)
  match a with
  | ⟨0, _⟩ => exact (Pipeline.Window.rect_emb_val win0_5 t _ 0).trans (by rw [h0]; show 0 * 1024 + r.val = r.val; omega)
  | ⟨1, _⟩ => exact (Pipeline.Window.rect_emb_val win0_5 t _ 1).trans (by rw [h1]; show 0 * 1024 + e.val = e.val; omega)

/-- The residual stream of device `c`'s arguments. -/
abbrev result (c : Dev nD) : Buf (Elt Ideal) ((c : Thread nD τ).loc main_v2) :=
  mixed (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- A point's gated row is the token's. -/
theorem gated_block (c : Dev nD) (t : Fin cfg0.N) (r : Fin 512) (l : Fin 1024) :
    gatedRow (iblk m c 0 t) (iblk m c 1 t) (iblk m c 4 t) r l
      = gatedAt (m ((c : Thread nD τ).loc main_arg0)) (m ((c : Thread nD τ).loc main_arg1)) (m ((c : Thread nD τ).loc main_arg4)) (batchAt t) (tokenAt t r) l := by
  unfold gatedRow gatedAt
  rw [funext (blk0 m c t r), funext (blk4 m c t), blk1]

/-- What a point writes back is its block of the residual stream. -/
theorem flushed_eq (c : Dev nD) (t : Fin cfg0.N) :
    (dats m 0 c).flushed 6 t = (win0_6.blk t).view.read (Elt Ideal) (result m c) := by
  rw [Value.flushed6]
  funext y
  show out0_6 (F := Ideal) (iblk m c 0 t) (iblk m c 1 t) (iblk m c 2 t) (iblk m c 3 t) (iblk m c 4 t) (iblk m c 5 t) y
    = result m c ((win0_6.blk t).view.emb y)
  obtain ⟨r, d, rfl⟩ : ∃ (r : Fin 512) (d : Fin 1024), y = ix3 (0 : Fin 1) r d :=
    ⟨y 1, y 2, funext fun a => Fin.ext (by
      match a with
      | ⟨0, _⟩ => exact Nat.lt_one_iff.mp (y 0).isLt
      | ⟨1, _⟩ => rfl
      | ⟨2, _⟩ => rfl)⟩
  refine (out_apply _ _ _ _ _ _ r d).trans ?_
  rw [emb6]
  refine congrArg₂ (fun a b : EReal => a + b) (blk2 m c t r d) (congrArg₂ (fun a b : EReal => a * b) (blk3 m c t d) ?_)
  exact Finset.sum_congr rfl fun k _ => congrArg₂ (fun a b : EReal => a * b) (gated_block m c t r k) (blk5 m c t k d)

/-- The blocks tile the result. -/
theorem cover (i : S8x4096x1024.Idx) :
    ∃ t : Fin cfg0.N, (cfg0.win 6).flush t = true ∧ i ∈ ((cfg0.win 6).blk t).view.set := by
  have h0 : (i 0).val < 8 := (i 0).isLt
  have h1 : (i 1).val < 4096 := (i 1).isLt
  have hN : cfg0.N = 64 := N_0
  have ht : (i 0).val * 8 + (i 1).val / 512 < cfg0.N := by omega
  refine ⟨⟨_, ht⟩, flush0_6 _, ?_⟩
  have e := emb6 ⟨_, ht⟩ ⟨(i 1).val % 512, by omega⟩ (i 2)
  have this : (win0_6.blk ⟨_, ht⟩).view.emb (ix3 (0 : Fin 1) ⟨(i 1).val % 512, by omega⟩ (i 2)) = i := by
    symm
    rw [e]
    funext a; apply Fin.ext
    match a with
    | ⟨0, _⟩ => show (i 0).val = ((i 0).val * 8 + (i 1).val / 512) / 8; omega
    | ⟨1, _⟩ => show (i 1).val = ((i 0).val * 8 + (i 1).val / 512) % 8 * 512 + (i 1).val % 512; omega
    | ⟨2, _⟩ => rfl
  have hm := View.emb_mem_set (win0_6.blk ⟨_, ht⟩).view (ix3 (0 : Fin 1) ⟨(i 1).val % 512, by omega⟩ (i 2))
  rwa [this] at hm

theorem final (c : Dev nD) : (dats m 0 c).arrAt 6 cfg0.N = result m c :=
  (dats m 0 c).arrAt_eq_of_cover 6 (result m c) (fun t _ => flushed_eq m c t) cover

end Cert.Proof.HgOut

end
-- ==== Proof.HgOut.Ref.lean ====
/-
  The reference's result array is the gated mixer's output projection of its arguments.
-/
module

public import proofs.«01_k».proof.Proof.HgOut.Array
public import proofs.«01_k».proof.Proof.Gen.Reference4Ideal.Read
public import Idealize.ShloMosaic.Lib.KernelVsHost

@[expose] public section

noncomputable section

namespace Cert.Proof.HgOut

open Cert.Reference4Ideal Cert.Reference4Ideal.Gen Cert.Reference4Ideal.Read Idealize.ShloMosaic Idealize.ShloMosaic.TcCoe Idealize.SL.Sem
open scoped BigOperators

variable (o : S8x4096x1024.Idx → EReal) (z : S8x4096x5120.Idx → EReal) (x : S8x4096x1024.Idx → EReal) (mods : S16x6x1x1024.Idx → EReal)
  (ng : S128.Idx → EReal) (w : S1024x1024.Idx → EReal)

theorem ref_gate (b : Fin 8) (d : Fin 1024) : val_main_v1 (F := Ideal) mods (ix3 b (0 : Fin 1) d) = modAt mods b 2 d := by
  refine (val_main_v1_apply (F := Ideal) mods _).trans ((val_main_v0_apply (F := Ideal) mods _).trans (congrArg mods ?_))
  have := b.isLt; have := d.isLt
  funext a; apply Fin.ext
  match a with
  | ⟨0, _⟩ => show ((b.val * 1 + 0) * 1024 + d.val) / 1024 = b.val; omega
  | ⟨1, _⟩ => rfl
  | ⟨2, _⟩ => rfl
  | ⟨3, _⟩ => show ((b.val * 1 + 0) * 1024 + d.val) % 1024 = d.val; omega

/-- The attention's rows, a head apart. -/
theorem ref_heads (b : Fin 8) (n : Fin 4096) (h : Fin 8) (e : Fin 128) :
    val_main_v3 (F := Ideal) o (ix4 b n h e) = o (ix3 b n (headCol h e)) := by
  refine (val_main_v3_apply (F := Ideal) o _).trans (congrArg o ?_)
  have := b.isLt; have := n.isLt; have := h.isLt; have := e.isLt
  funext a; apply Fin.ext
  match a with
  | ⟨0, _⟩ => show (((b.val * 4096 + n.val) * 8 + h.val) * 128 + e.val) / 4194304 = b.val; omega
  | ⟨1, _⟩ => show (((b.val * 4096 + n.val) * 8 + h.val) * 128 + e.val) / 1024 % 4096 = n.val; omega
  | ⟨2, _⟩ => show (((b.val * 4096 + n.val) * 8 + h.val) * 128 + e.val) % 1024 = h.val * 128 + e.val; omega

/-- One over the root of a head's mean square. -/
theorem ref_inv (b : Fin 8) (n : Fin 4096) (h : Fin 8) :
    val_main_v11 (F := Ideal) o (ix4 b n h (0 : Fin 1)) = headRms fun e => o (ix3 b n (headCol h e)) := by
  refine (val_main_v11_apply (F := Ideal) o _).trans ?_
  refine congrArg Ideal.rsqrt ?_
  refine (val_main_v10_apply (F := Ideal) o _).trans ?_
  refine congrArg₂ (fun a b : EReal => a + b) ?_ (val_main_v9_apply (F := Ideal) _)
  refine (val_main_v8_apply (F := Ideal) o _).trans (congrArg₂ Ideal.div ?_ (val_main_v7_apply (F := Ideal) _))
  refine (val_main_v6_apply (F := Ideal) o _).trans ((val_main_v5_apply o _).trans ?_)
  show Ideal.ofBits .f32 0x00000000#32 + _ = _
  rw [Ideal.ofBits_zero_f32, zero_add]
  refine Finset.sum_congr rfl fun e _ => ?_
  refine (val_main_v4_apply (F := Ideal) o _).trans ?_
  refine congrArg (fun v : EReal => v * v) (Eq.trans (congrArg _ ?_) (ref_heads o b n h e))
  funext a; apply Fin.ext
  match a with
  | ⟨0, _⟩ => rfl
  | ⟨1, _⟩ => rfl
  | ⟨2, _⟩ => rfl
  | ⟨3, _⟩ => rfl

theorem ref_norm (b : Fin 8) (n : Fin 4096) (h : Fin 8) (e : Fin 128) :
    val_main_v16 (F := Ideal) o ng (ix4 b n h e)
      = o (ix3 b n (headCol h e)) * headRms (fun e => o (ix3 b n (headCol h e))) * ng (ix1 e) := by
  refine (val_main_v16_apply (F := Ideal) o ng _).trans (congrArg₂ (fun a b : EReal => a * b) ?_ ?_)
  · refine (val_main_v13_apply (F := Ideal) o _).trans (congrArg₂ (fun a b : EReal => a * b) (ref_heads o b n h e) ?_)
    refine (val_main_v12_apply (F := Ideal) o _).trans (Eq.trans (congrArg _ ?_) (ref_inv o b n h))
    funext a; apply Fin.ext
    match a with
    | ⟨0, _⟩ => rfl
    | ⟨1, _⟩ => rfl
    | ⟨2, _⟩ => rfl
    | ⟨3, _⟩ => rfl
  · refine (val_main_v15_apply (F := Ideal) ng _).trans ((val_main_v14_apply (F := Ideal) ng _).trans (congrArg ng ?_))
    funext a; apply Fin.ext
    match a with
    | ⟨0, _⟩ => rfl

/-- A token's row normalised head by head. -/
theorem ref_row (b : Fin 8) (n : Fin 4096) (l : Fin 1024) :
    val_main_v17 (F := Ideal) o ng (ix3 b n l) = normRow (fun l => o (ix3 b n l)) (fun e => ng (ix1 e)) l := by
  have hb := b.isLt; have hn := n.isLt; have hl := l.isLt
  have hc : headCol (headOf l) (laneOf l) = l := Fin.ext (by show l.val / 128 * 128 + l.val % 128 = l.val; omega)
  refine (val_main_v17_apply (F := Ideal) o ng _).trans (Eq.trans (congrArg _ ?_) ((ref_norm o ng b n (headOf l) (laneOf l)).trans ?_))
  · funext a; apply Fin.ext
    match a with
    | ⟨0, _⟩ => show ((b.val * 4096 + n.val) * 1024 + l.val) / 4194304 = b.val; omega
    | ⟨1, _⟩ => show ((b.val * 4096 + n.val) * 1024 + l.val) / 1024 % 4096 = n.val; omega
    | ⟨2, _⟩ => show ((b.val * 4096 + n.val) * 1024 + l.val) / 128 % 8 = l.val / 128; omega
    | ⟨3, _⟩ => show ((b.val * 4096 + n.val) * 1024 + l.val) % 128 = l.val % 128; omega
  · unfold normRow
    rw [hc]

/-- The gate's silu. -/
theorem ref_silu (b : Fin 8) (n : Fin 4096) (d : Fin 1024) :
    val_main_v18 (F := Ideal) z (ix3 b n d) = silu (z (ix3 b n (gateCol d))) := by
  have hg : val_main_v2 (F := Ideal) z (ix3 b n d) = z (ix3 b n (gateCol d)) := by
    refine (val_main_v2_apply (F := Ideal) z _).trans (congrArg z ?_)
    funext a; apply Fin.ext
    match a with
    | ⟨0, _⟩ => rfl
    | ⟨1, _⟩ => rfl
    | ⟨2, _⟩ => rfl
  refine (val_main_v18_apply (F := Ideal) z _).trans (congrArg₂ (fun a b : EReal => a * b) hg ?_)
  refine (val_main_call0_v5_apply (F := Ideal) z _).trans ?_
  have h1 : val_main_call0_v4 (F := Ideal) (ix3 b n d) = (1 : EReal) :=
    (val_main_call0_v4_apply (F := Ideal) _).trans Ideal.ofBits_one_f32
  have h2 : val_main_call0_v2 (F := Ideal) (ix3 b n d) = (1 : EReal) :=
    (val_main_call0_v2_apply (F := Ideal) _).trans Ideal.ofBits_one_f32
  refine (congrArg₂ Ideal.div h1 ?_).trans (rfl : Ideal.div 1 (1 + Ideal.exp (-z (ix3 b n (gateCol d)))) = _)
  refine (val_main_call0_v3_apply (F := Ideal) z _).trans (congrArg₂ (fun a b : EReal => a + b) h2 ?_)
  refine (val_main_call0_v1_apply (F := Ideal) z _).trans (congrArg Ideal.exp ?_)
  exact (val_main_call0_v0_apply (F := Ideal) z _).trans (congrArg (fun a : EReal => -a) hg)

/-- The reference's result is the residual stream after the mixer. -/
theorem ref_value : val_main_v23 (F := Ideal) o z x mods ng w = mixed o z x mods ng w := by
  funext i
  obtain ⟨b, n, c, rfl⟩ : ∃ (b : Fin 8) (n : Fin 4096) (c : Fin 1024), i = ix3 b n c :=
    ⟨i 0, i 1, i 2, funext fun a => by
      match a with
      | ⟨0, _⟩ => rfl
      | ⟨1, _⟩ => rfl
      | ⟨2, _⟩ => rfl⟩
  refine (val_main_v23_apply (F := Ideal) o z x mods ng w _).trans (congrArg (fun r : EReal => x (ix3 b n c) + r) ?_)
  refine (val_main_v22_apply (F := Ideal) o z mods ng w _).trans (congrArg₂ (fun a b : EReal => a * b) ?_ ?_)
  · refine (val_main_v21_apply (F := Ideal) mods _).trans (Eq.trans (congrArg _ ?_) (ref_gate mods b c))
    funext a; apply Fin.ext
    match a with
    | ⟨0, _⟩ => rfl
    | ⟨1, _⟩ => rfl
    | ⟨2, _⟩ => rfl
  · refine (val_main_v20_apply o z ng w _).trans (Finset.sum_congr rfl fun k _ => ?_)
    refine congrArg₂ (fun a b : EReal => a * b) ?_ (congrArg w ?_)
    · refine (val_main_v19_apply (F := Ideal) o z ng _).trans ?_
      have e : lidx_main_v20 (ix3 b n c) k = ix3 b n k := by
        funext a; apply Fin.ext
        match a with
        | ⟨0, _⟩ => rfl
        | ⟨1, _⟩ => rfl
        | ⟨2, _⟩ => rfl
      rw [e]
      exact congrArg₂ (fun a b : EReal => a * b) (ref_row o ng b n k) (ref_silu z b n k)
    · funext a; apply Fin.ext
      match a with
      | ⟨0, _⟩ => rfl
      | ⟨1, _⟩ => rfl

end Cert.Proof.HgOut

end
-- ==== Proof.HgOut.Claim.lean ====
/-
  The claims on the gated mixer's output projection.
-/
module

public import proofs.«01_k».proof.Defs
public import proofs.«01_k».proof.Proof.HgOut.Array
public import proofs.«01_k».proof.Proof.HgOut.Ref
public import proofs.«01_k».proof.Proof.Gen.Kernel4.Frame
public import proofs.«01_k».proof.Proof.Gen.Kernel4Ideal.Frame
public import Idealize.ShloMosaic.Lib.Quiescent

@[expose] public section

noncomputable section

namespace Cert.Proof.HgOut

open Idealize.ShloMosaic Idealize.SL.Sem

theorem frame_reference : Cert.quiescent_Reference4Ideal := fun m ρ _ =>
  (θ_run (Cert.Reference4Ideal.defs (F := Ideal)) _ _).mono
    (fun r h => ⟨fun c => (h c).2, Idealize.ShloMosaic.sem_eq_zero_of_no_sems (by decide) r.2⟩)
    (Cert.Reference4Ideal.Value.run (F := Ideal) m ρ)

theorem algebraic : Cert.algebraic_Kernel4Ideal_Reference4Ideal := by
  intro m g m' g' _ hargs
  refine ⟨fun c => result m c, ?_, ?_⟩
  · exact (θ_run (Cert.Kernel4Ideal.defs (F := Ideal)) _ _).mono (fun r h c => ⟨(h c).1.trans (final m c), (h c).2⟩)
      (Cert.Kernel4Ideal.Value.run_blocks (F := Ideal) m g)
  · refine (θ_run (Cert.Reference4Ideal.defs (F := Ideal)) _ _).mono (fun r h c => ⟨(h c).1.trans ?_, (h c).2⟩)
      (Cert.Reference4Ideal.Value.run (F := Ideal) m' g')
    obtain ⟨h0, h1, h2, h3, h4, h5⟩ := hargs c
    refine (Cert.Reference4Ideal.Read.val_main_v23_eq (F := Ideal) _ _ _ _ _ _ ).trans ?_
    rw [h0, h1, h2, h3, h4, h5]
    exact ref_value _ _ _ _ _ _

end Cert.Proof.HgOut

end
-- ==== Proof.AbOut.Sums.lean ====
/-
  Sums over the columns of a row: by heads of 128 columns, by heads of 64, and by halves.
-/
module

public import Mathlib.Data.EReal.Basic
public import Mathlib.Algebra.BigOperators.Fin

@[expose] public section

noncomputable section

namespace Cert.Proof.AbOut

open scoped BigOperators

theorem sum_pairs (a b : Nat) (f : Fin (a * b) → EReal) : ∑ k, f k = ∑ h : Fin a, ∑ e : Fin b, f (finProdFinEquiv (h, e)) := by
  rw [← finProdFinEquiv.sum_comp, Fintype.sum_prod_type]

/-- Column `e` of head `h`, and the row of the weights it meets. -/
def headCol (h : Fin 8) (e : Fin 128) : Fin 1024 := ⟨h.val * 128 + e.val, by have := h.isLt; have := e.isLt; omega⟩
def keptCol (h : Fin 8) (e : Fin 64) : Fin 1024 := headCol h ⟨e.val, by have := e.isLt; omega⟩
def keptRow (h : Fin 8) (e : Fin 64) : Fin 1024 := ⟨h.val * 64 + e.val, by have := h.isLt; have := e.isLt; omega⟩
def lateRow (j : Fin 512) : Fin 1024 := ⟨512 + j.val, by have := j.isLt; omega⟩

/-- A sum whose terms vanish in the last 64 columns of each head. -/
theorem sum_kept (f : Fin 1024 → EReal) (hz : ∀ h e, 64 ≤ e.val → f (headCol h e) = 0) :
    ∑ k, f k = ∑ h : Fin 8, ∑ e : Fin 64, f (keptCol h e) := by
  refine (sum_pairs 8 128 f).trans (Finset.sum_congr rfl fun h _ => ?_)
  have hc : ∀ e : Fin 128, f (finProdFinEquiv (h, e)) = f (headCol h e) := fun e =>
    congrArg f (Fin.ext (by show e.val + 128 * h.val = h.val * 128 + e.val; omega))
  refine (Finset.sum_congr rfl fun e _ => hc e).trans ?_
  refine (Fin.sum_univ_add (a := 64) (b := 64) fun e => f (headCol h e)).trans ?_
  have h0 : ∑ e : Fin 64, f (headCol h (Fin.natAdd 64 e)) = 0 :=
    Finset.sum_eq_zero fun e _ => hz h _ (by show 64 ≤ 64 + e.val; omega)
  refine (congrArg (fun v : EReal => _ + v) h0).trans ((add_zero _).trans (Finset.sum_congr rfl fun e _ => ?_))
  exact congrArg f (Fin.ext rfl)

/-- A sum over the weights' rows, the first 512 of them by heads. -/
theorem sum_rows (f : Fin 1024 → EReal) :
    ∑ k, f k = (∑ h : Fin 8, ∑ e : Fin 64, f (keptRow h e)) + ∑ j : Fin 512, f (lateRow j) := by
  refine (Fin.sum_univ_add (a := 512) (b := 512) f).trans (congrArg₂ (fun a b : EReal => a + b) ?_ ?_)
  · refine (sum_pairs 8 64 fun k => f (Fin.castAdd 512 k)).trans (Finset.sum_congr rfl fun h _ => Finset.sum_congr rfl fun e _ => ?_)
    exact congrArg f (Fin.ext (by show e.val + 64 * h.val = h.val * 64 + e.val; omega))
  · exact Finset.sum_congr rfl fun j _ => congrArg f (Fin.ext rfl)

end Cert.Proof.AbOut

end
-- ==== Proof.AbOut.Payload.lean ====
/-
  The output projection of the attention mixer's body, read at one element: the attention's row and the convolution's, each
  through its part of the weights.
-/
module

public import proofs.«01_k».proof.Proof.AbOut.Sums
public import proofs.«01_k».proof.Proof.Gen.Kernel5Ideal.Value
public import Idealize.ShloMosaic.Lib.Pipeline.ValueKit.Basic
public import Idealize.ShloMosaic.Lib.Pipeline.ValueKit.Tiles
public import Idealize.ShloMosaic.Lib.Pointwise.Tactic
public import Idealize.ShloMosaic.Lib.MatmulPlain
public import Idealize.ShloMosaic.Lib.KernelVsHost

@[expose] public section

noncomputable section

namespace Cert.Proof.AbOut

open Cert.Kernel5Ideal Cert.Kernel5Ideal.Gen Idealize.ShloMosaic Idealize.ShloMosaic.TcCoe Idealize.SL.Sem
open scoped BigOperators

theorem drop_mod {α : Type} (x : S1x1x1x1024.Idx → α) (d : Fin 1024) :
    shapeCast S1x1024 x shapeCasts_S1x1x1x1024_S1x1024 (ix2 (0 : Fin 1) d) = x (ix4 (0 : Fin 1) (0 : Fin 1) (0 : Fin 1) d) :=
  shapeCast_apply x _ _ _ (by
    rw [Shape.rowMajor_val_two, Shape.rowMajor_val_four]
    show ((0 * 1 + 0) * 1 + 0) * 1024 + d.val = 0 * 1024 + d.val
    omega)

theorem drop_tile {α : Type} (x : S1x512x1024.Idx → α) (r : Fin 512) (d : Fin 1024) :
    shapeCast S512x1024 x shapeCasts_S1x512x1024_S512x1024 (ix2 r d) = x (ix3 (0 : Fin 1) r d) :=
  shapeCast_apply x _ _ _ (by
    rw [Shape.rowMajor_val_two, Shape.rowMajor_val_three]
    show (0 * 512 + r.val) * 1024 + d.val = r.val * 1024 + d.val
    omega)

theorem lead_apply (y : FVec Ideal S512x1024 .f32) (r : Fin 512) (l : Fin 1024) :
    shapeCast S1x512x1024 y shapeCasts_S512x1024_S1x512x1024 (ix3 (0 : Fin 1) r l) = y (ix2 r l) :=
  shapeCast_apply _ shapeCasts_S512x1024_S1x512x1024 (ix3 (0 : Fin 1) r l) (ix2 r l) (by
    rw [Shape.rowMajor_val_two, Shape.rowMajor_val_three]
    show r.val * 1024 + l.val = (0 * 512 + r.val) * 1024 + l.val
    omega)

theorem drop_half {α : Type} (x : S1x512x512.Idx → α) (r d : Fin 512) :
    shapeCast S512x512 x shapeCasts_S1x512x512_S512x512 (ix2 r d) = x (ix3 (0 : Fin 1) r d) :=
  shapeCast_apply x _ _ _ (by
    rw [Shape.rowMajor_val_two, Shape.rowMajor_val_three]
    show (0 * 512 + r.val) * 512 + d.val = r.val * 512 + d.val
    omega)

theorem wide_apply (p : FVec Ideal S512x1024 .bf16) (w : FVec Ideal S1024x1024 .bf16) (r : Fin 512) (c : Fin 1024) :
    Ideal.matmul dot_S512x1024_S1024x1024_S512x1024_1_0_0_1_n_n p (shapeCast S1024x1024 w shapeCasts_S1024x1024_S1024x1024)
      (constant (F := Ideal) S512x1024 .f32 0x00000000#32) (ix2 r c) = ∑ k : Fin 1024, p (ix2 r k) * w (ix2 k c) := by
  refine (Ideal.matmul_plain_apply (M := 512) (K := 1024) (N := 1024) (φ₁ := .bf16) (φ₂ := .bf16) none p _ _ r c).trans ?_
  show Ideal.ofBits .f32 0x00000000#32 + _ = _
  rw [Ideal.ofBits_zero_f32, zero_add]
  refine Finset.sum_congr rfl fun d _ => congrArg (fun b : EReal => p (ix2 r d) * b) ?_
  exact shapeCast_apply _ _ _ (ix2 d c) rfl

theorem half_apply (p : FVec Ideal S512x512 .bf16) (w : FVec Ideal S512x1024 .bf16) (r : Fin 512) (c : Fin 1024) :
    Ideal.matmul dot_S512x512_S512x1024_S512x1024_1_0_0_1_n_n p (shapeCast S512x1024 w shapeCasts_S512x1024_S512x1024)
      (constant (F := Ideal) S512x1024 .f32 0x00000000#32) (ix2 r c) = ∑ k : Fin 512, p (ix2 r k) * w (ix2 k c) := by
  refine (Ideal.matmul_plain_apply (M := 512) (K := 512) (N := 1024) (φ₁ := .bf16) (φ₂ := .bf16) none p _ _ r c).trans ?_
  show Ideal.ofBits .f32 0x00000000#32 + _ = _
  rw [Ideal.ofBits_zero_f32, zero_add]
  refine Finset.sum_congr rfl fun d _ => congrArg (fun b : EReal => p (ix2 r d) * b) ?_
  exact shapeCast_apply _ _ _ (ix2 d c) rfl

theorem zero2 : (![0, 0] : Fin 2 → Nat) = 0 := by
  funext a
  match a with
  | ⟨0, _⟩ => rfl
  | ⟨1, _⟩ => rfl

theorem zero3 : (![0, 0, 0] : Fin 3 → Nat) = 0 := by
  funext a
  match a with
  | ⟨0, _⟩ => rfl
  | ⟨1, _⟩ => rfl
  | ⟨2, _⟩ => rfl

theorem zero4 : (![0, 0, 0, 0] : Fin 4 → Nat) = 0 := by
  funext a
  match a with
  | ⟨0, _⟩ => rfl
  | ⟨1, _⟩ => rfl
  | ⟨2, _⟩ => rfl
  | ⟨3, _⟩ => rfl

section Stored

variable (x0 : Vec Ideal S1x512x1024 .bf16) (x1 : Vec Ideal S1x512x512 .f32) (x2 : Vec Ideal S1x512x1024 .f32) (x3 : Vec Ideal S1x1x1x1024 .f32)
  (x4 : Vec Ideal S1024x1024 .bf16) (x5 : Vec Ideal S512x1024 .bf16)

/-- What a point leaves in its output block. -/
theorem out_apply (r : Fin 512) (c : Fin 1024) :
    out0_6 (F := Ideal) x0 x1 x2 x3 x4 x5 (ix3 (0 : Fin 1) r c)
      = x2 (ix3 (0 : Fin 1) r c) + x3 (ix4 (0 : Fin 1) (0 : Fin 1) (0 : Fin 1) c)
          * ((∑ k : Fin 1024, x0 (ix3 (0 : Fin 1) r k) * x4 (ix2 k c)) + ∑ k : Fin 512, x1 (ix3 (0 : Fin 1) r k) * x5 (ix2 k c)) := by
  unfold out0_6
  rw [View.canon_unit_zero zero3]
  simp only [View.ld_unit_zero (S := S1x512x1024) zero3, View.ld_unit_zero (S := S1x512x512) zero3, View.ld_unit_zero (S := S1x1x1x1024) zero4,
    View.ld_unit_zero (S := S1024x1024) zero2, View.ld_unit_zero (S := S512x1024) zero2]
  have ha : Ideal.matmul dot_S512x1024_S1024x1024_S512x1024_1_0_0_1_n_n
      (shapeCast S512x1024 x0 shapeCasts_S1x512x1024_S512x1024) (shapeCast S1024x1024 x4 shapeCasts_S1024x1024_S1024x1024)
      (constant (F := Ideal) S512x1024 .f32 0x00000000#32) (ix2 r c) = ∑ k : Fin 1024, x0 (ix3 (0 : Fin 1) r k) * x4 (ix2 k c) :=
    (wide_apply _ x4 r c).trans (Finset.sum_congr rfl fun k _ => congrArg (fun a : EReal => a * x4 (ix2 k c)) (drop_tile x0 r k))
  have hb : Ideal.matmul dot_S512x512_S512x1024_S512x1024_1_0_0_1_n_n
      (truncf (F := Ideal) .bf16 (shapeCast S512x512 x1 shapeCasts_S1x512x512_S512x512) bitsLt_bf16_f32) (shapeCast S512x1024 x5 shapeCasts_S512x1024_S512x1024)
      (constant (F := Ideal) S512x1024 .f32 0x00000000#32) (ix2 r c) = ∑ k : Fin 512, x1 (ix3 (0 : Fin 1) r k) * x5 (ix2 k c) :=
    (half_apply _ x5 r c).trans (Finset.sum_congr rfl fun k _ => congrArg (fun a : EReal => a * x5 (ix2 k c)) (drop_half x1 r k))
  unfold k0_pay1
  refine (lead_apply _ r c).trans ?_
  pointwise
  rw [drop_mod, drop_tile, ha, hb]

end Stored

end Cert.Proof.AbOut

end
-- ==== Proof.AbOut.Array.lean ====
/-
  The attention mixer's output projection: the kernel's result array, its tiles' blocks put together.
-/
module

public import proofs.«01_k».proof.Proof.AbOut.Payload

@[expose] public section

noncomputable section

namespace Cert.Proof.AbOut

open Cert.Kernel5Ideal Cert.Kernel5Ideal.Gen Idealize.ShloMosaic Idealize.ShloMosaic.TcCoe Idealize.SL.Sem
open Idealize.ShloMosaic.Pipeline (Dat)
open scoped BigOperators

/-- Row `k` of batch `b`'s modulation vectors. -/
def modAt (mods : S16x6x1x1024.Idx → EReal) (b : Fin 8) (k : Fin 6) (d : Fin 1024) : EReal :=
  mods (ix4 ⟨b.val, by have := b.isLt; omega⟩ k (0 : Fin 1) d)

section Spec

variable (o : S8x4096x1024.Idx → EReal) (y : S8x4096x512.Idx → EReal) (x : S8x4096x1024.Idx → EReal) (mods : S16x6x1x1024.Idx → EReal)
  (w : S1024x1024.Idx → EReal)

/-- A token's row through the output weights: the first 64 columns of each head, then the convolution's columns. -/
def projAt (b : Fin 8) (n : Fin 4096) (c : Fin 1024) : EReal :=
  (∑ h : Fin 8, ∑ e : Fin 64, o (ix3 b n (keptCol h e)) * w (ix2 (keptRow h e) c)) + ∑ j : Fin 512, y (ix3 b n j) * w (ix2 (lateRow j) c)

/-- The residual stream after the mixer. -/
def mixed (i : S8x4096x1024.Idx) : EReal :=
  x (ix3 (i 0) (i 1) (i 2)) + modAt mods (i 0) 2 (i 2) * projAt o y w (i 0) (i 1) (i 2)

end Spec

/-- Heads of 64 rows, each followed by 64 rows of another array, as one array. -/
theorem padded_apply (p q : S8x64x1024.Idx → EReal) (h : Fin 8) (e : Fin 128) (c : Fin 1024) :
    shapeCast S1024x1024 (concatenate S8x128x1024 1 [⟨S8x64x1024, p⟩, ⟨S8x64x1024, q⟩] concatenates_S8x64x1024_S8x64x1024_S8x128x1024_d1)
        shapeCasts_S8x128x1024_S1024x1024 (ix2 (headCol h e) c)
      = if he : e.val < 64 then p (ix3 h ⟨e.val, he⟩ c) else q (ix3 h ⟨e.val - 64, by have := e.isLt; omega⟩ c) := by
  refine (shapeCast_apply _ shapeCasts_S8x128x1024_S1024x1024 (ix2 (headCol h e) c) (ix3 h e c) (by
    rw [Shape.rowMajor_val_two, Shape.rowMajor_val_three]
    show (h.val * 128 + e.val) * 1024 + c.val = (h.val * 128 + e.val) * 1024 + c.val
    rfl)).trans ?_
  split
  · next he =>
    refine concatenate_apply_piece (t := S8x128x1024) 1 [⟨S8x64x1024, p⟩, ⟨S8x64x1024, q⟩] _ (ix3 h e c) 0
      (by show 0 < 2; omega) S8x64x1024 p rfl rfl 0 rfl (ix3 h ⟨e.val, he⟩ c) (fun b hb => ?_) (by show 0 + e.val = e.val; omega)
    match b with
    | ⟨0, _⟩ => rfl
    | ⟨1, _⟩ => exact absurd rfl hb
    | ⟨2, _⟩ => rfl
  · next he =>
    refine concatenate_apply_piece (t := S8x128x1024) 1 [⟨S8x64x1024, p⟩, ⟨S8x64x1024, q⟩] _ (ix3 h e c) 1
      (by show 1 < 2; omega) S8x64x1024 q rfl rfl 64 rfl (ix3 h ⟨e.val - 64, by have := e.isLt; omega⟩ c) (fun b hb => ?_)
      (by show 64 + (e.val - 64) = e.val; omega)
    match b with
    | ⟨0, _⟩ => rfl
    | ⟨1, _⟩ => exact absurd rfl hb
    | ⟨2, _⟩ => rfl

variable (m : (ℓ : Loc nD τ sig) → Buf (Elt Ideal) ℓ) (ρ : Dev nD → PrngReg)

/-- The attention's weights, a head's 64 rows followed by 64 rows of zeros. -/
theorem V_wide (c : Dev nD) :
    V m c main_v5 = shapeCast S1024x1024 (concatenate S8x128x1024 1
      [⟨S8x64x1024, shapeCast S8x64x1024 (extractStridedSlice S512x1024 ![0, 0] (m ((c : Thread nD τ).loc main_arg4)) slices_S1024x1024_S512x1024_0_0) shapeCasts_S512x1024_S8x64x1024⟩,
        ⟨S8x64x1024, broadcastInDim S8x64x1024 ![] bcast_S_S8x64x1024 (constant (F := Ideal) S_ .f32 0x00000000#32)⟩]
      concatenates_S8x64x1024_S8x64x1024_S8x128x1024_d1) shapeCasts_S8x128x1024_S1024x1024 := by
  show StableHlo.after _ _ _ = _
  simp only [hostOps0, List.flatten_cons, List.flatten_nil, List.append_nil, List.cons_append, List.nil_append]
  after_results_simp <;> rfl

theorem V_wide_kept (c : Dev nD) (h : Fin 8) (e : Fin 64) (d : Fin 1024) :
    V m c main_v5 (ix2 (keptCol h e) d) = m ((c : Thread nD τ).loc main_arg4) (ix2 (keptRow h e) d) := by
  rw [V_wide]
  refine (padded_apply _ _ h ⟨e.val, by have := e.isLt; omega⟩ d).trans ((dif_pos e.isLt).trans ?_)
  have hh := h.isLt; have he := e.isLt
  refine (shapeCast_apply _ shapeCasts_S512x1024_S8x64x1024 (ix3 h ⟨e.val, e.isLt⟩ d) (ix2 (⟨h.val * 64 + e.val, by omega⟩ : Fin 512) d) (by
    rw [Shape.rowMajor_val_two, Shape.rowMajor_val_three]
    rfl)).trans ?_
  refine extractStridedSlice_apply ![0, 0] _ slices_S1024x1024_S512x1024_0_0 (ix2 (⟨h.val * 64 + e.val, by omega⟩ : Fin 512) d) (ix2 (keptRow h e) d) fun a => ?_
  match a with
  | ⟨0, _⟩ => show h.val * 64 + e.val = 0 + (h.val * 64 + e.val); omega
  | ⟨1, _⟩ => show d.val = 0 + d.val; omega

theorem V_wide_zero (c : Dev nD) (h : Fin 8) (e : Fin 128) (he : 64 ≤ e.val) (d : Fin 1024) :
    V m c main_v5 (ix2 (headCol h e) d) = (0 : EReal) := by
  rw [V_wide]
  refine (padded_apply _ _ h e d).trans ((dif_neg (by omega)).trans ?_)
  exact Ideal.ofBits_zero_f32

/-- The convolution's weights. -/
theorem V_late (c : Dev nD) (j : Fin 512) (d : Fin 1024) :
    V m c main_v7 (ix2 j d) = m ((c : Thread nD τ).loc main_arg4) (ix2 (lateRow j) d) := by
  have hv : V m c main_v7 = extractStridedSlice S512x1024 ![512, 0] (m ((c : Thread nD τ).loc main_arg4)) slices_S1024x1024_S512x1024_512_0 := by
    show StableHlo.after _ _ _ = _
    simp only [hostOps0, List.flatten_cons, List.flatten_nil, List.append_nil, List.cons_append, List.nil_append]
    after_results_simp <;> rfl
  rw [hv]
  refine extractStridedSlice_apply ![512, 0] _ slices_S1024x1024_S512x1024_512_0 (ix2 j d) (ix2 (lateRow j) d) fun a => ?_
  match a with
  | ⟨0, _⟩ => rfl
  | ⟨1, _⟩ => show d.val = 0 + d.val; omega

theorem t_lt (t : Fin cfg0.N) : t.val < 64 := lt_of_lt_of_eq t.isLt N_0

/-- The batch and the token under point `t`'s block coordinates. -/
def batchAt (t : Fin cfg0.N) : Fin 8 := ⟨t.val / 8, by have := t_lt t; omega⟩
def tokenAt (t : Fin cfg0.N) (r : Fin 512) : Fin 4096 := ⟨t.val % 8 * 512 + r.val, by have := r.isLt; omega⟩

theorem idx6 : ∀ t : Fin cfg0.N, win0_6.index t 0 = t.val / 8 ∧ win0_6.index t 1 = t.val % 8 ∧ win0_6.index t 2 = 0 :=
  (by decide +kernel : ∀ t : Fin grid0.N, _)

theorem emb6 (t : Fin cfg0.N) (r : Fin 512) (d : Fin 1024) :
    (win0_6.blk t).view.emb (ix3 (0 : Fin 1) r d) = ix3 (batchAt t) (tokenAt t r) d := by
  obtain ⟨h0, h1, h2⟩ := idx6 t
  funext a; apply Fin.ext
  match a with
  | ⟨0, _⟩ => exact (Pipeline.Window.rect_emb_val win0_6 t _ 0).trans (by rw [h0]; show t.val / 8 * 1 + 0 = t.val / 8; omega)
  | ⟨1, _⟩ => exact (Pipeline.Window.rect_emb_val win0_6 t _ 1).trans (by rw [h1]; rfl)
  | ⟨2, _⟩ => exact (Pipeline.Window.rect_emb_val win0_6 t _ 2).trans (by rw [h2]; show 0 * 1024 + d.val = d.val; omega)

theorem idx0 : ∀ t : Fin cfg0.N, win0_0.index t 0 = t.val / 8 ∧ win0_0.index t 1 = t.val % 8 ∧ win0_0.index t 2 = 0 :=
  (by decide +kernel : ∀ t : Fin grid0.N, _)

theorem blk0 (c : Dev nD) (t : Fin cfg0.N) (r : Fin 512) (d : Fin 1024) :
    iblk m c 0 t (ix3 (0 : Fin 1) r d) = m ((c : Thread nD τ).loc main_arg0) (ix3 (batchAt t) (tokenAt t r) d) := by
  obtain ⟨h0, h1, h2⟩ := idx0 t
  refine Eq.trans ?_ (congrFun (V_main_arg0 m c) _)
  refine congrArg (V m c main_arg0) (funext fun a => Fin.ext ?_)
  match a with
  | ⟨0, _⟩ => exact (Pipeline.Window.rect_emb_val win0_0 t _ 0).trans (by rw [h0]; show t.val / 8 * 1 + 0 = t.val / 8; omega)
  | ⟨1, _⟩ => exact (Pipeline.Window.rect_emb_val win0_0 t _ 1).trans (by rw [h1]; rfl)
  | ⟨2, _⟩ => exact (Pipeline.Window.rect_emb_val win0_0 t _ 2).trans (by rw [h2]; show 0 * 1024 + d.val = d.val; omega)

theorem idx1 : ∀ t : Fin cfg0.N, win0_1.index t 0 = t.val / 8 ∧ win0_1.index t 1 = t.val % 8 ∧ win0_1.index t 2 = 0 :=
  (by decide +kernel : ∀ t : Fin grid0.N, _)

theorem blk1 (c : Dev nD) (t : Fin cfg0.N) (r : Fin 512) (d : Fin 512) :
    iblk m c 1 t (ix3 (0 : Fin 1) r d) = m ((c : Thread nD τ).loc main_arg1) (ix3 (batchAt t) (tokenAt t r) d) := by
  obtain ⟨h0, h1, h2⟩ := idx1 t
  refine Eq.trans ?_ (congrFun (V_main_arg1 m c) _)
  refine congrArg (V m c main_arg1) (funext fun a => Fin.ext ?_)
  match a with
  | ⟨0, _⟩ => exact (Pipeline.Window.rect_emb_val win0_1 t _ 0).trans (by rw [h0]; show t.val / 8 * 1 + 0 = t.val / 8; omega)
  | ⟨1, _⟩ => exact (Pipeline.Window.rect_emb_val win0_1 t _ 1).trans (by rw [h1]; rfl)
  | ⟨2, _⟩ => exact (Pipeline.Window.rect_emb_val win0_1 t _ 2).trans (by rw [h2]; show 0 * 512 + d.val = d.val; omega)

theorem idx2 : ∀ t : Fin cfg0.N, win0_2.index t 0 = t.val / 8 ∧ win0_2.index t 1 = t.val % 8 ∧ win0_2.index t 2 = 0 :=
  (by decide +kernel : ∀ t : Fin grid0.N, _)

theorem blk2 (c : Dev nD) (t : Fin cfg0.N) (r : Fin 512) (d : Fin 1024) :
    iblk m c 2 t (ix3 (0 : Fin 1) r d) = m ((c : Thread nD τ).loc main_arg2) (ix3 (batchAt t) (tokenAt t r) d) := by
  obtain ⟨h0, h1, h2⟩ := idx2 t
  refine Eq.trans ?_ (congrFun (V_main_arg2 m c) _)
  refine congrArg (V m c main_arg2) (funext fun a => Fin.ext ?_)
  match a with
  | ⟨0, _⟩ => exact (Pipeline.Window.rect_emb_val win0_2 t _ 0).trans (by rw [h0]; show t.val / 8 * 1 + 0 = t.val / 8; omega)
  | ⟨1, _⟩ => exact (Pipeline.Window.rect_emb_val win0_2 t _ 1).trans (by rw [h1]; rfl)
  | ⟨2, _⟩ => exact (Pipeline.Window.rect_emb_val win0_2 t _ 2).trans (by rw [h2]; show 0 * 1024 + d.val = d.val; omega)

theorem idx3 : ∀ t : Fin cfg0.N, win0_3.index t 0 = t.val / 8 ∧ win0_3.index t 1 = 2 ∧ win0_3.index t 2 = 0 ∧ win0_3.index t 3 = 0 :=
  (by decide +kernel : ∀ t : Fin grid0.N, _)

theorem blk3 (c : Dev nD) (t : Fin cfg0.N) (d : Fin 1024) :
    iblk m c 3 t (ix4 (0 : Fin 1) (0 : Fin 1) (0 : Fin 1) d) = modAt (m ((c : Thread nD τ).loc main_arg3)) (batchAt t) 2 d := by
  obtain ⟨h0, h1, h2, h3⟩ := idx3 t
  refine Eq.trans ?_ (congrFun (V_main_arg3 m c) _)
  refine congrArg (V m c main_arg3) (funext fun a => Fin.ext ?_)
  match a with
  | ⟨0, _⟩ => exact (Pipeline.Window.rect_emb_val win0_3 t _ 0).trans (by rw [h0]; show t.val / 8 * 1 + 0 = t.val / 8; omega)
  | ⟨1, _⟩ => exact (Pipeline.Window.rect_emb_val win0_3 t _ 1).trans (by rw [h1]; rfl)
  | ⟨2, _⟩ => exact (Pipeline.Window.rect_emb_val win0_3 t _ 2).trans (by rw [h2]; rfl)
  | ⟨3, _⟩ => exact (Pipeline.Window.rect_emb_val win0_3 t _ 3).trans (by rw [h3]; show 0 * 1024 + d.val = d.val; omega)

theorem idx4 : ∀ t : Fin cfg0.N, win0_4.index t 0 = 0 ∧ win0_4.index t 1 = 0 :=
  (by decide +kernel : ∀ t : Fin grid0.N, _)

theorem blk4 (c : Dev nD) (t : Fin cfg0.N) (r : Fin 1024) (e : Fin 1024) :
    iblk m c 4 t (ix2 r e) = V m c main_v5 (ix2 r e) := by
  obtain ⟨h0, h1⟩ := idx4 t
  refine Eq.trans ?_ rfl
  refine congrArg (V m c main_v5) (funext fun a => Fin.ext ?_)
  match a with
  | ⟨0, _⟩ => exact (Pipeline.Window.rect_emb_val win0_4 t _ 0).trans (by rw [h0]; show 0 * 1024 + r.val = r.val; omega)
  | ⟨1, _⟩ => exact (Pipeline.Window.rect_emb_val win0_4 t _ 1).trans (by rw [h1]; show 0 * 1024 + e.val = e.val; omega)

theorem idx5 : ∀ t : Fin cfg0.N, win0_5.index t 0 = 0 ∧ win0_5.index t 1 = 0 :=
  (by decide +kernel : ∀ t : Fin grid0.N, _)

theorem blk5 (c : Dev nD) (t : Fin cfg0.N) (r : Fin 512) (e : Fin 1024) :
    iblk m c 5 t (ix2 r e) = m ((c : Thread nD τ).loc main_arg4) (ix2 (lateRow r) e) := by
  obtain ⟨h0, h1⟩ := idx5 t
  refine Eq.trans ?_ (V_late m c r e)
  refine congrArg (V m c main_v7) (funext fun a => Fin.ext ?_)
  match a with
  | ⟨0, _⟩ => exact (Pipeline.Window.rect_emb_val win0_5 t _ 0).trans (by rw [h0]; show 0 * 512 + r.val = r.val; omega)
  | ⟨1, _⟩ => exact (Pipeline.Window.rect_emb_val win0_5 t _ 1).trans (by rw [h1]; show 0 * 1024 + e.val = e.val; omega)

/-- A block's row through its parts of the weights is the token's row through the weights. -/
theorem proj_of (o : S8x4096x1024.Idx → EReal) (y : S8x4096x512.Idx → EReal) (w : S1024x1024.Idx → EReal) (b : Fin 8) (n : Fin 4096)
    (x0 : S1x512x1024.Idx → EReal) (x1 : S1x512x512.Idx → EReal) (x4 : S1024x1024.Idx → EReal) (x5 : S512x1024.Idx → EReal)
    (r : Fin 512) (d : Fin 1024) (h0 : ∀ k, x0 (ix3 (0 : Fin 1) r k) = o (ix3 b n k)) (h1 : ∀ j, x1 (ix3 (0 : Fin 1) r j) = y (ix3 b n j))
    (hk : ∀ h e, x4 (ix2 (keptCol h e) d) = w (ix2 (keptRow h e) d)) (hz : ∀ h e, 64 ≤ e.val → x4 (ix2 (headCol h e) d) = 0)
    (h5 : ∀ j, x5 (ix2 j d) = w (ix2 (lateRow j) d)) :
    (∑ k : Fin 1024, x0 (ix3 (0 : Fin 1) r k) * x4 (ix2 k d)) + ∑ j : Fin 512, x1 (ix3 (0 : Fin 1) r j) * x5 (ix2 j d) = projAt o y w b n d := by
  unfold projAt
  refine congrArg₂ (fun a b : EReal => a + b) ?_ ?_
  · refine (sum_kept (fun k => x0 (ix3 (0 : Fin 1) r k) * x4 (ix2 k d)) fun h e he => ?_).trans ?_
    · exact (congrArg (fun b : EReal => x0 (ix3 (0 : Fin 1) r (headCol h e)) * b) (hz h e he)).trans (mul_zero _)
    · exact Finset.sum_congr rfl fun h _ => Finset.sum_congr rfl fun e _ => congrArg₂ (fun a b : EReal => a * b) (h0 (keptCol h e)) (hk h e)
  · exact Finset.sum_congr rfl fun j _ => congrArg₂ (fun a b : EReal => a * b) (h1 j) (h5 j)

/-- The residual stream of device `c`'s arguments. -/
abbrev result (c : Dev nD) : Buf (Elt Ideal) ((c : Thread nD τ).loc main_v8) :=
  mixed (m ((c : Thread nD τ).loc main_arg0)) (m ((c : Thread nD τ).loc main_arg1)) (m ((c : Thread nD τ).loc main_arg2))
    (m ((c : Thread nD τ).loc main_arg3)) (m ((c : Thread nD τ).loc main_arg4))

/-- What a point writes back is its block of the residual stream. -/
theorem flushed_eq (c : Dev nD) (t : Fin cfg0.N) :
    (dats m 0 c).flushed 6 t = (win0_6.blk t).view.read (Elt Ideal) (result m c) := by
  rw [Value.flushed6]
  funext y
  show out0_6 (F := Ideal) (iblk m c 0 t) (iblk m c 1 t) (iblk m c 2 t) (iblk m c 3 t) (iblk m c 4 t) (iblk m c 5 t) y
    = result m c ((win0_6.blk t).view.emb y)
  obtain ⟨r, d, rfl⟩ : ∃ (r : Fin 512) (d : Fin 1024), y = ix3 (0 : Fin 1) r d :=
    ⟨y 1, y 2, funext fun a => Fin.ext (by
      match a with
      | ⟨0, _⟩ => exact Nat.lt_one_iff.mp (y 0).isLt
      | ⟨1, _⟩ => rfl
      | ⟨2, _⟩ => rfl)⟩
  refine (out_apply _ _ _ _ _ _ r d).trans ?_
  rw [emb6]
  exact congrArg₂ (fun a b : EReal => a + b) (blk2 m c t r d) (congrArg₂ (fun a b : EReal => a * b) (blk3 m c t d)
    (proj_of _ _ _ (batchAt t) (tokenAt t r) _ _ _ _ r d (fun k => blk0 m c t r k) (fun j => blk1 m c t r j)
      (fun h e => (blk4 m c t (keptCol h e) d).trans (V_wide_kept m c h e d))
      (fun h e he => (blk4 m c t (headCol h e) d).trans (V_wide_zero m c h e he d)) fun j => blk5 m c t j d))

/-- The blocks tile the result. -/
theorem cover (i : S8x4096x1024.Idx) :
    ∃ t : Fin cfg0.N, (cfg0.win 6).flush t = true ∧ i ∈ ((cfg0.win 6).blk t).view.set := by
  have h0 : (i 0).val < 8 := (i 0).isLt
  have h1 : (i 1).val < 4096 := (i 1).isLt
  have hN : cfg0.N = 64 := N_0
  have ht : (i 0).val * 8 + (i 1).val / 512 < cfg0.N := by omega
  refine ⟨⟨_, ht⟩, flush0_6 _, ?_⟩
  have e := emb6 ⟨_, ht⟩ ⟨(i 1).val % 512, by omega⟩ (i 2)
  have this : (win0_6.blk ⟨_, ht⟩).view.emb (ix3 (0 : Fin 1) ⟨(i 1).val % 512, by omega⟩ (i 2)) = i := by
    symm
    rw [e]
    funext a; apply Fin.ext
    match a with
    | ⟨0, _⟩ => show (i 0).val = ((i 0).val * 8 + (i 1).val / 512) / 8; omega
    | ⟨1, _⟩ => show (i 1).val = ((i 0).val * 8 + (i 1).val / 512) % 8 * 512 + (i 1).val % 512; omega
    | ⟨2, _⟩ => rfl
  have hm := View.emb_mem_set (win0_6.blk ⟨_, ht⟩).view (ix3 (0 : Fin 1) ⟨(i 1).val % 512, by omega⟩ (i 2))
  rwa [this] at hm

theorem final (c : Dev nD) : (dats m 0 c).arrAt 6 cfg0.N = result m c :=
  (dats m 0 c).arrAt_eq_of_cover 6 (result m c) (fun t _ => flushed_eq m c t) cover

end Cert.Proof.AbOut

end
-- ==== Proof.AbOut.Ref.lean ====
/-
  The reference's result array is the attention mixer's output projection of its arguments.
-/
module

public import proofs.«01_k».proof.Proof.AbOut.Array
public import proofs.«01_k».proof.Proof.Gen.Reference5Ideal.Read
public import Idealize.ShloMosaic.Lib.KernelVsHost

@[expose] public section

noncomputable section

namespace Cert.Proof.AbOut

open Cert.Reference5Ideal Cert.Reference5Ideal.Gen Cert.Reference5Ideal.Read Idealize.ShloMosaic Idealize.ShloMosaic.TcCoe Idealize.SL.Sem
open scoped BigOperators

variable (o : S8x4096x1024.Idx → EReal) (y : S8x4096x512.Idx → EReal) (x : S8x4096x1024.Idx → EReal) (mods : S16x6x1x1024.Idx → EReal)
  (w : S1024x1024.Idx → EReal)

theorem ref_gate (b : Fin 8) (d : Fin 1024) : val_main_v1 (F := Ideal) mods (ix3 b (0 : Fin 1) d) = modAt mods b 2 d := by
  refine (val_main_v1_apply (F := Ideal) mods _).trans ((val_main_v0_apply (F := Ideal) mods _).trans (congrArg mods ?_))
  have := b.isLt; have := d.isLt
  funext a; apply Fin.ext
  match a with
  | ⟨0, _⟩ => show ((b.val * 1 + 0) * 1024 + d.val) / 1024 = b.val; omega
  | ⟨1, _⟩ => rfl
  | ⟨2, _⟩ => rfl
  | ⟨3, _⟩ => show ((b.val * 1 + 0) * 1024 + d.val) % 1024 = d.val; omega

/-- The kept columns of the attention's heads, side by side. -/
theorem ref_kept (b : Fin 8) (n : Fin 4096) (h : Fin 8) (e : Fin 64) (l : Fin 512) (hl : l.val = h.val * 64 + e.val) :
    val_main_v5 (F := Ideal) o (ix3 b n l) = o (ix3 b n (keptCol h e)) := by
  have hb := b.isLt; have hn := n.isLt; have hh := h.isLt; have he := e.isLt
  have h3 : val_main_v3 (F := Ideal) o (ix4 b n h (⟨e.val, by omega⟩ : Fin 128)) = o (ix3 b n (keptCol h e)) := by
    refine (val_main_v3_apply (F := Ideal) o _).trans (congrArg o ?_)
    funext a; apply Fin.ext
    match a with
    | ⟨0, _⟩ => show (((b.val * 4096 + n.val) * 8 + h.val) * 128 + e.val) / 4194304 = b.val; omega
    | ⟨1, _⟩ => show (((b.val * 4096 + n.val) * 8 + h.val) * 128 + e.val) / 1024 % 4096 = n.val; omega
    | ⟨2, _⟩ => show (((b.val * 4096 + n.val) * 8 + h.val) * 128 + e.val) % 1024 = h.val * 128 + e.val; omega
  have h4 : val_main_v4 (F := Ideal) o (ix4 b n h e) = o (ix3 b n (keptCol h e)) := by
    refine (val_main_v4_apply (F := Ideal) o _).trans (Eq.trans (congrArg _ ?_) h3)
    funext a; apply Fin.ext
    match a with
    | ⟨0, _⟩ => rfl
    | ⟨1, _⟩ => rfl
    | ⟨2, _⟩ => rfl
    | ⟨3, _⟩ => rfl
  refine (val_main_v5_apply (F := Ideal) o _).trans (Eq.trans (congrArg _ ?_) h4)
  funext a; apply Fin.ext
  match a with
  | ⟨0, _⟩ => show ((b.val * 4096 + n.val) * 512 + l.val) / 2097152 = b.val; omega
  | ⟨1, _⟩ => show ((b.val * 4096 + n.val) * 512 + l.val) / 512 % 4096 = n.val; omega
  | ⟨2, _⟩ => show ((b.val * 4096 + n.val) * 512 + l.val) / 64 % 8 = h.val; omega
  | ⟨3, _⟩ => show ((b.val * 4096 + n.val) * 512 + l.val) % 64 = e.val; omega

/-- Two pieces of 512 columns. -/
theorem concat_cols (p q : S8x4096x512.Idx → EReal) (b : Fin 8) (n : Fin 4096) (l : Fin 1024) (d : Fin 512) :
    (l.val = 0 + d.val → concatenate S8x4096x1024 2 [⟨S8x4096x512, p⟩, ⟨S8x4096x512, q⟩] concatenates_S8x4096x512_S8x4096x512_S8x4096x1024_d2 (ix3 b n l) = p (ix3 b n d))
    ∧ (l.val = 512 + d.val → concatenate S8x4096x1024 2 [⟨S8x4096x512, p⟩, ⟨S8x4096x512, q⟩] concatenates_S8x4096x512_S8x4096x512_S8x4096x1024_d2 (ix3 b n l) = q (ix3 b n d)) := by
  refine ⟨fun h => ?_, fun h => ?_⟩
  · refine concatenate_apply_piece (t := S8x4096x1024) 2 [⟨S8x4096x512, p⟩, ⟨S8x4096x512, q⟩] _ (ix3 b n l) 0
      (by show 0 < 2; omega) S8x4096x512 p rfl rfl 0 rfl (ix3 b n d) (fun a ha => ?_) (by show 0 + d.val = l.val; omega)
    match a with
    | ⟨0, _⟩ => rfl
    | ⟨1, _⟩ => rfl
    | ⟨2, _⟩ => exact absurd rfl ha
  · refine concatenate_apply_piece (t := S8x4096x1024) 2 [⟨S8x4096x512, p⟩, ⟨S8x4096x512, q⟩] _ (ix3 b n l) 1
      (by show 1 < 2; omega) S8x4096x512 q rfl rfl 512 rfl (ix3 b n d) (fun a ha => ?_) (by show 512 + d.val = l.val; omega)
    match a with
    | ⟨0, _⟩ => rfl
    | ⟨1, _⟩ => rfl
    | ⟨2, _⟩ => exact absurd rfl ha

/-- The row through the output weights. -/
theorem ref_proj (b : Fin 8) (n : Fin 4096) (c : Fin 1024) : val_main_v7 (F := Ideal) o y w (ix3 b n c) = projAt o y w b n c := by
  have hterm : ∀ k : Fin 1024, (val_main_v6 (F := Ideal) o y (lidx_main_v7 (ix3 b n c) k) * w (ridx_main_v7 (ix3 b n c) k) : EReal)
      = val_main_v6 (F := Ideal) o y (ix3 b n k) * w (ix2 k c) := fun k => by
    refine congrArg₂ (fun a b : EReal => a * b) (congrArg _ ?_) (congrArg w ?_)
    · funext a; apply Fin.ext
      match a with
      | ⟨0, _⟩ => rfl
      | ⟨1, _⟩ => rfl
      | ⟨2, _⟩ => rfl
    · funext a; apply Fin.ext
      match a with
      | ⟨0, _⟩ => rfl
      | ⟨1, _⟩ => rfl
  refine (val_main_v7_apply o y w _).trans ((Finset.sum_congr rfl fun k _ => hterm k).trans ?_)
  refine (sum_rows fun k => val_main_v6 (F := Ideal) o y (ix3 b n k) * w (ix2 k c)).trans ?_
  unfold projAt val_main_v6
  refine congrArg₂ (fun a b : EReal => a + b) (Finset.sum_congr rfl fun h _ => Finset.sum_congr rfl fun e _ => ?_)
    (Finset.sum_congr rfl fun j _ => ?_)
  · have hh := h.isLt; have he := e.isLt
    exact congrArg (fun a : EReal => a * w (ix2 (keptRow h e) c)) (((concat_cols _ _ b n (keptRow h e) ⟨h.val * 64 + e.val, by omega⟩).1
      (by show h.val * 64 + e.val = 0 + (h.val * 64 + e.val); omega)).trans (ref_kept o b n h e _ rfl))
  · exact congrArg (fun a : EReal => a * w (ix2 (lateRow j) c)) ((concat_cols _ _ b n (lateRow j) j).2 rfl)

/-- The reference's result is the residual stream after the mixer. -/
theorem ref_value : val_main_v10 (F := Ideal) o y x mods w = mixed o y x mods w := by
  funext i
  obtain ⟨b, n, c, rfl⟩ : ∃ (b : Fin 8) (n : Fin 4096) (c : Fin 1024), i = ix3 b n c :=
    ⟨i 0, i 1, i 2, funext fun a => by
      match a with
      | ⟨0, _⟩ => rfl
      | ⟨1, _⟩ => rfl
      | ⟨2, _⟩ => rfl⟩
  refine (val_main_v10_apply (F := Ideal) o y x mods w _).trans (congrArg (fun r : EReal => x (ix3 b n c) + r) ?_)
  refine (val_main_v9_apply (F := Ideal) o y mods w _).trans (congrArg₂ (fun a b : EReal => a * b) ?_ (ref_proj o y w b n c))
  refine (val_main_v8_apply (F := Ideal) mods _).trans (Eq.trans (congrArg _ ?_) (ref_gate mods b c))
  funext a; apply Fin.ext
  match a with
  | ⟨0, _⟩ => rfl
  | ⟨1, _⟩ => rfl
  | ⟨2, _⟩ => rfl

end Cert.Proof.AbOut

end
-- ==== Proof.AbOut.Claim.lean ====
/-
  The claims on the attention mixer's output projection.
-/
module

public import proofs.«01_k».proof.Defs
public import proofs.«01_k».proof.Proof.AbOut.Array
public import proofs.«01_k».proof.Proof.AbOut.Ref
public import proofs.«01_k».proof.Proof.Gen.Kernel5.Frame
public import proofs.«01_k».proof.Proof.Gen.Kernel5Ideal.Frame
public import Idealize.ShloMosaic.Lib.Quiescent

@[expose] public section

noncomputable section

namespace Cert.Proof.AbOut

open Idealize.ShloMosaic Idealize.SL.Sem

theorem frame_reference : Cert.quiescent_Reference5Ideal := fun m ρ _ =>
  (θ_run (Cert.Reference5Ideal.defs (F := Ideal)) _ _).mono
    (fun r h => ⟨fun c => (h c).2, Idealize.ShloMosaic.sem_eq_zero_of_no_sems (by decide) r.2⟩)
    (Cert.Reference5Ideal.Value.run (F := Ideal) m ρ)

theorem algebraic : Cert.algebraic_Kernel5Ideal_Reference5Ideal := by
  intro m g m' g' _ hargs
  refine ⟨fun c => result m c, ?_, ?_⟩
  · exact (θ_run (Cert.Kernel5Ideal.defs (F := Ideal)) _ _).mono (fun r h c => ⟨(h c).1.trans (final m c), (h c).2⟩)
      (Cert.Kernel5Ideal.Value.run_blocks (F := Ideal) m g)
  · refine (θ_run (Cert.Reference5Ideal.defs (F := Ideal)) _ _).mono (fun r h c => ⟨(h c).1.trans ?_, (h c).2⟩)
      (Cert.Reference5Ideal.Value.run (F := Ideal) m' g')
    obtain ⟨h0, h1, h2, h3, h4⟩ := hargs c
    refine (Cert.Reference5Ideal.Read.val_main_v10_eq (F := Ideal) _ _ _ _ _ ).trans ?_
    rw [h0, h1, h2, h3, h4]
    exact ref_value _ _ _ _ _

end Cert.Proof.AbOut

end
-- ==== Proof.AbIn.Math.lean ====
/-
  The attention mixer's input projection: rows normalised to numbers, sums of negated weights, and the 128 lanes of a head
  (64 plain ones, 32 rotated ones in four quarters of eight, 32 padded ones).
-/
module

public import proofs.«01_k».proof.Proof.Softmax
public import proofs.«01_k».proof.Proof.Ffn.Rows
public import Idealize.ShloMosaic.Lib.IdealHost

@[expose] public section

noncomputable section

namespace Cert.Proof.AbIn

open Idealize.ShloMosaic
open Cert.Proof.Ffn (invRms modRow)
open scoped BigOperators

/-- One over the root of a row's mean square, `1e-6` added under the root; `N` is the pattern of the row's length. -/
def rms (N : BitVec 32) {n : Nat} (y : Fin n → EReal) : EReal :=
  Ideal.rsqrt (Ideal.div (∑ e, y e * y e) (Ideal.ofBits .f32 N) + Ideal.ofBits .f32 0x358637BD#32)

/-- A row normalised, times its gain. -/
def normed (N : BitVec 32) {n : Nat} (y g : Fin n → EReal) (k : Fin n) : EReal := y k * rms N y * g k

theorem IsReal.neg {x : EReal} (hx : IsReal x) : IsReal (-x) := by
  obtain ⟨a, rfl⟩ := hx; exact ⟨-a, (EReal.coe_neg a).symm⟩

theorem isReal_zero : IsReal 0 := ⟨0, rfl⟩
theorem isReal_one : IsReal 1 := ⟨1, rfl⟩

theorem eps_pos : ∃ e : ℝ, 0 < e ∧ Ideal.ofBits .f32 0x358637BD#32 = (e : EReal) := by
  refine ⟨_, ?_, by simp [Ideal.ofBits, Ideal.ieee, -EReal.coe_mul]; rfl⟩
  positivity

theorem b1024 : Ideal.ofBits .f32 0x44800000#32 = ((1024 : ℝ) : EReal) := by
  simp [Ideal.ofBits, Ideal.ieee, -EReal.coe_mul]; norm_num

theorem b256 : Ideal.ofBits .f32 0x43800000#32 = ((256 : ℝ) : EReal) := by
  simp [Ideal.ofBits, Ideal.ieee, -EReal.coe_mul]; norm_num

theorem coe_sum {n : Nat} (f : Fin n → ℝ) : ((∑ i, f i : ℝ) : EReal) = ∑ i, (f i : EReal) := by
  classical
  induction (Finset.univ : Finset (Fin n)) using Finset.induction_on with
  | empty => simp
  | insert a s ha ih => rw [Finset.sum_insert ha, Finset.sum_insert ha, EReal.coe_add, ih]

theorem sq_nonneg (y : EReal) : 0 ≤ y * y := by
  induction y using EReal.rec with
  | bot => simp
  | top => simp
  | coe r => rw [← EReal.coe_mul]; exact_mod_cast mul_self_nonneg r

theorem sq_top {y : EReal} (h : ¬ IsReal y) : y * y = ⊤ := by
  induction y using EReal.rec with
  | bot => simp
  | top => simp
  | coe r => exact absurd ⟨r, rfl⟩ h

/-- A row's element over the root of the mean square is a number, whatever the row. -/
theorem scaled_isReal (N : BitVec 32) {c : ℝ} (hc : 0 < c) (hN : Ideal.ofBits .f32 N = (c : EReal)) {n : Nat} (y : Fin n → EReal) (k : Fin n) :
    IsReal (y k * rms N y) := by
  obtain ⟨e, he, hE⟩ := eps_pos
  unfold rms
  rw [hN, hE, Ideal.div_coe hc.ne']
  by_cases hy : ∀ i, IsReal (y i)
  · choose r hr using hy
    have hs : ∑ i, y i * y i = ((∑ i, r i * r i : ℝ) : EReal) := by
      rw [coe_sum]
      exact Finset.sum_congr rfl fun i _ => by rw [hr i, EReal.coe_mul]
    have h0 : 0 ≤ ∑ i, r i * r i := Finset.sum_nonneg fun i _ => mul_self_nonneg _
    have hp : 0 < (∑ i, r i * r i) * (1 / c) + e := by positivity
    rw [hs, ← EReal.coe_mul, ← EReal.coe_add, Ideal.rsqrt_coe, if_neg (not_lt.mpr hp.le), if_neg hp.ne']
    exact IsReal.mul ⟨_, hr k⟩ ⟨_, rfl⟩
  · obtain ⟨i, hi⟩ := not_forall.mp hy
    have hs : ∑ i, y i * y i = ⊤ := by
      refine top_le_iff.mp ?_
      rw [← sq_top hi]
      exact Finset.single_le_sum (f := fun i => y i * y i) (fun j _ => sq_nonneg (y j)) (Finset.mem_univ i)
    rw [hs, EReal.top_mul_coe_of_pos (by positivity), EReal.top_add_coe, Ideal.rsqrt_top, mul_zero]
    exact isReal_zero

theorem normed_isReal (N : BitVec 32) {c : ℝ} (hc : 0 < c) (hN : Ideal.ofBits .f32 N = (c : EReal)) {n : Nat} (y g : Fin n → EReal)
    (hg : ∀ k, IsReal (g k)) (k : Fin n) : IsReal (normed N y g k) :=
  (scaled_isReal N hc hN y k).mul (hg k)

theorem modRow_isReal (x g sh sc : Fin 1024 → EReal) (hg : ∀ d, IsReal (g d)) (hsh : ∀ d, IsReal (sh d)) (hsc : ∀ d, IsReal (sc d))
    (d : Fin 1024) : IsReal (modRow x g sh sc d) :=
  (((scaled_isReal 0x44800000#32 (by norm_num : (0 : ℝ) < 1024) b1024 x d).mul (hg d)).mul (isReal_one.add (hsc d))).add (hsh d)

/-- A sum of products of numbers changes its sign with its second factors. -/
theorem sum_neg {n : Nat} (f g : Fin n → EReal) (hf : ∀ i, IsReal (f i)) (hg : ∀ i, IsReal (g i)) :
    ∑ i, f i * -(g i) = -∑ i, f i * g i := by
  choose a ha using hf
  choose b hb using hg
  have h1 : ∑ i, f i * -(g i) = ((∑ i, a i * -(b i) : ℝ) : EReal) := by
    rw [coe_sum]
    exact Finset.sum_congr rfl fun i _ => by rw [ha i, hb i, EReal.coe_mul, EReal.coe_neg]
  have h2 : ∑ i, f i * g i = ((∑ i, a i * b i : ℝ) : EReal) := by
    rw [coe_sum]
    exact Finset.sum_congr rfl fun i _ => by rw [ha i, hb i, EReal.coe_mul]
  rw [h1, h2, ← EReal.coe_neg]
  exact congrArg _ (by simp [Finset.sum_neg_distrib])

theorem sum_zero {n : Nat} (f : Fin n → EReal) : ∑ i, f i * (0 : EReal) = 0 := by simp

/-! ## Lanes -/

def lane0 (i : Fin 64) : Fin 128 := ⟨i.val, by have := i.isLt; omega⟩
def laneR (j : Fin 4) (i : Fin 8) : Fin 128 := ⟨64 + j.val * 8 + i.val, by have := j.isLt; have := i.isLt; omega⟩
def lane5 (i : Fin 32) : Fin 128 := ⟨96 + i.val, by have := i.isLt; omega⟩

theorem lane_cases (P : Fin 128 → Prop) (h0 : ∀ i, P (lane0 i)) (hr : ∀ j i, P (laneR j i)) (h5 : ∀ i, P (lane5 i)) (e : Fin 128) : P e := by
  have he := e.isLt
  by_cases h : e.val < 64
  · exact h0 ⟨e.val, h⟩
  by_cases h' : e.val < 96
  · have := hr ⟨(e.val - 64) / 8, by omega⟩ ⟨(e.val - 64) % 8, by omega⟩
    rwa [show laneR ⟨(e.val - 64) / 8, by omega⟩ ⟨(e.val - 64) % 8, by omega⟩ = e from
      Fin.ext (by show 64 + (e.val - 64) / 8 * 8 + (e.val - 64) % 8 = e.val; omega)] at this
  · have := h5 ⟨e.val - 96, by omega⟩
    rwa [show lane5 ⟨e.val - 96, by omega⟩ = e from Fin.ext (by show 96 + (e.val - 96) = e.val; omega)] at this

/-- A head's lanes from its plain, its rotated and its padded ones. -/
def lanes {α : Type} (p : Fin 64 → α) (q : Fin 4 → Fin 8 → α) (z : Fin 32 → α) (e : Fin 128) : α :=
  if h : e.val < 64 then p ⟨e.val, h⟩
  else if h' : e.val < 96 then q ⟨(e.val - 64) / 8, by omega⟩ ⟨(e.val - 64) % 8, by omega⟩
  else z ⟨e.val - 96, by have := e.isLt; omega⟩

section Lanes

variable {α : Type} (p : Fin 64 → α) (q : Fin 4 → Fin 8 → α) (z : Fin 32 → α)

theorem lanes_0 (i : Fin 64) : lanes p q z (lane0 i) = p i := dif_pos i.isLt

theorem lanes_R (j : Fin 4) (i : Fin 8) : lanes p q z (laneR j i) = q j i := by
  have hj := j.isLt; have hi := i.isLt
  refine (dif_neg (by show ¬ 64 + j.val * 8 + i.val < 64; omega)).trans ((dif_pos (by show 64 + j.val * 8 + i.val < 96; omega)).trans ?_)
  exact congrArg₂ q (Fin.ext (by show (64 + j.val * 8 + i.val - 64) / 8 = j.val; omega)) (Fin.ext (by show (64 + j.val * 8 + i.val - 64) % 8 = i.val; omega))

theorem lanes_5 (i : Fin 32) : lanes p q z (lane5 i) = z i := by
  refine (dif_neg (by show ¬ 96 + i.val < 64; omega)).trans ((dif_neg (by show ¬ 96 + i.val < 96; omega)).trans ?_)
  exact congrArg z (Fin.ext (by show 96 + i.val - 96 = i.val; omega))

end Lanes

/-- The axis (row or column of the token's place) whose angles turn quarter `j`. -/
def axisOf : Fin 4 → Fin 2 := ![0, 0, 1, 1]

/-- Four quarters turned pairwise, by the first axis' angles and by the second's. -/
def turned (a : Fin 4 → Fin 8 → EReal) (c s : Fin 2 → Fin 8 → EReal) : Fin 4 → Fin 8 → EReal :=
  ![fun i => a 0 i * c 0 i - a 1 i * s 0 i, fun i => a 1 i * c 0 i + a 0 i * s 0 i,
    fun i => a 2 i * c 1 i - a 3 i * s 1 i, fun i => a 3 i * c 1 i + a 2 i * s 1 i]

/-- The quarters each turn adds, with their signs. -/
def swapped (a : Fin 4 → Fin 8 → EReal) : Fin 4 → Fin 8 → EReal := ![fun i => -(a 1 i), a 0, fun i => -(a 3 i), a 2]

theorem turned_eq (a : Fin 4 → Fin 8 → EReal) (c s : Fin 2 → Fin 8 → EReal) (j : Fin 4) (i : Fin 8) :
    a j i * c (axisOf j) i + swapped a j i * s (axisOf j) i = turned a c s j i := by
  match j with
  | ⟨0, _⟩ => show a 0 i * c 0 i + -(a 1 i) * s 0 i = a 0 i * c 0 i - a 1 i * s 0 i; rw [EReal.neg_mul, sub_eq_add_neg]
  | ⟨1, _⟩ => rfl
  | ⟨2, _⟩ => show a 2 i * c 1 i + -(a 3 i) * s 1 i = a 2 i * c 1 i - a 3 i * s 1 i; rw [EReal.neg_mul, sub_eq_add_neg]
  | ⟨3, _⟩ => rfl

/-- Swapped weights give the swapped products. -/
theorem sum_swapped {n : Nat} (f : Fin n → EReal) (w : Fin n → Fin 4 → Fin 8 → EReal) (hf : ∀ k, IsReal (f k)) (hw : ∀ k j i, IsReal (w k j i))
    (j : Fin 4) (i : Fin 8) : ∑ k, f k * swapped (w k) j i = swapped (fun j i => ∑ k, f k * w k j i) j i := by
  match j with
  | ⟨0, _⟩ => exact sum_neg f (fun k => w k 1 i) hf fun k => hw k 1 i
  | ⟨1, _⟩ => rfl
  | ⟨2, _⟩ => exact sum_neg f (fun k => w k 3 i) hf fun k => hw k 3 i
  | ⟨3, _⟩ => rfl

end Cert.Proof.AbIn

end
-- ==== Proof.AbIn.Spread.lean ====
/-
  The attention mixer's input projection: the columns of its weights, the angles of the tokens' places, and the concatenations
  of its host code read piece by piece.
-/
module

public import proofs.«01_k».proof.Proof.AbIn.Math
public import proofs.«01_k».proof.Proof.Gen.Kernel6Ideal.Value
public import Idealize.ShloMosaic.Lib.Pipeline.ValueKit.Basic
public import Idealize.ShloMosaic.Lib.Pointwise.Tactic
public import Idealize.ShloMosaic.Lib.KernelVsHost

@[expose] public section

noncomputable section

namespace Cert.Proof.AbIn

open Cert.Kernel6Ideal Cert.Kernel6Ideal.Gen Idealize.ShloMosaic Idealize.ShloMosaic.TcCoe Idealize.SL.Sem
open scoped BigOperators

/-- Columns of the weights: a head's plain lanes and its rotated quarters, and the shared key's rotated quarters. -/
def plainCol (h : Fin 8) (i : Fin 64) : Fin 768 := ⟨h.val * 96 + i.val, by have := h.isLt; have := i.isLt; omega⟩
def turnCol (h : Fin 8) (j : Fin 4) (i : Fin 8) : Fin 768 :=
  ⟨h.val * 96 + (64 + j.val * 8 + i.val), by have := h.isLt; have := j.isLt; have := i.isLt; omega⟩
def keyCol (j : Fin 4) (i : Fin 8) : Fin 1952 := ⟨384 + (j.val * 8 + i.val), by have := j.isLt; have := i.isLt; omega⟩
def headCol (h : Fin 8) (e : Fin 128) : Fin 1024 := ⟨h.val * 128 + e.val, by have := h.isLt; have := e.isLt; omega⟩
def kCol (h : Fin 8) (i : Fin 64) : Fin 1024 := ⟨h.val * 128 + i.val, by have := h.isLt; have := i.isLt; omega⟩
def vCol (h : Fin 8) (i : Fin 64) : Fin 1024 := ⟨h.val * 128 + (64 + i.val), by have := h.isLt; have := i.isLt; omega⟩

/-- The rows and the columns of the tokens' places, as numbers, and the eight frequencies. -/
def places : Fin 2 → S4096.Idx → EReal :=
  ![sitofp (F := Ideal) .f32 (shapeCast S4096 (broadcastInDim S64x64 ![0] bcast_S64_S64x64_0 (iotaInDim S64 32 0)) shapeCasts_S64x64_S4096),
    sitofp (F := Ideal) .f32 (shapeCast S4096 (broadcastInDim S64x64 ![0, 1] bcast_S1x64_S64x64_0_1
      (shapeCast S1x64 (iotaInDim S64 32 0) shapeCasts_S64_S1x64)) shapeCasts_S64x64_S4096)]

def freqs : S8.Idx → EReal :=
  Host.powf (F := Ideal) (broadcastInDim S8 ![] bcast_S_S8 (constant (F := Ideal) S_ .f32 0x461C4000#32))
    (Host.divf (F := Ideal) (Host.negf (F := Ideal) (sitofp (F := Ideal) .f32 (iotaInDim S8 32 0)))
      (broadcastInDim S8 ![] bcast_S_S8 (constant (F := Ideal) S_ .f32 0x41000000#32)))

/-- A token's angle along axis `a` at frequency `f`. -/
def angAt (n : Fin 4096) (a : Fin 2) (f : Fin 8) : EReal := places a (ix1 n) * freqs (ix1 f)

/-- The angles along one axis. -/
def angles (p : S4096.Idx → EReal) : S4096x8.Idx → EReal :=
  mulf (F := Ideal) (φ := .f32)
    (broadcastInDim S4096x8 ![0, 1] bcast_S4096x1_S4096x8_0_1 (broadcastInDim S4096x1 ![0] bcast_S4096_S4096x1_0 p))
    (broadcastInDim S4096x8 ![0, 1] bcast_S1x8_S4096x8_0_1 (broadcastInDim S1x8 ![1] bcast_S8_S1x8_1 freqs))

theorem angles_apply (a : Fin 2) (n : Fin 4096) (f : Fin 8) : angles (places a) (ix2 n f) = angAt n a f := by
  unfold angles angAt
  generalize places a = p
  generalize freqs = q
  show _ * _ = _
  refine congrArg₂ (fun a b : EReal => a * b) (congrArg p ?_) (congrArg q ?_)
  · funext a; apply Fin.ext
    match a with
    | ⟨0, _⟩ => rfl
  · funext a; apply Fin.ext
    match a with
    | ⟨0, _⟩ => rfl

/-! ## Concatenations, piece by piece -/

theorem four1024_0 (p0 : S1024x8.Idx → EReal) (p1 : S1024x8.Idx → EReal) (p2 : S1024x8.Idx → EReal) (p3 : S1024x8.Idx → EReal) (a : Fin 1024) (i : Fin 8) (l : Fin 32) (hl : l.val = 0 + i.val) :
    concatenate S1024x32 1 [⟨S1024x8, p0⟩, ⟨S1024x8, p1⟩, ⟨S1024x8, p2⟩, ⟨S1024x8, p3⟩] concatenates_S1024x8_S1024x8_S1024x8_S1024x8_S1024x32_d1 (ix2 a l) = p0 (ix2 a i) := by
  refine concatenate_apply_piece (t := S1024x32) 1 [⟨S1024x8, p0⟩, ⟨S1024x8, p1⟩, ⟨S1024x8, p2⟩, ⟨S1024x8, p3⟩] _ (ix2 a l) 0
    (by show 0 < 4; omega) S1024x8 p0 rfl rfl 0 rfl (ix2 a i) (fun b hb => ?_) (by show 0 + i.val = l.val; omega)
  match b with
  | ⟨0, _⟩ => rfl
  | ⟨1, _⟩ => exact absurd rfl hb

theorem four1024_1 (p0 : S1024x8.Idx → EReal) (p1 : S1024x8.Idx → EReal) (p2 : S1024x8.Idx → EReal) (p3 : S1024x8.Idx → EReal) (a : Fin 1024) (i : Fin 8) (l : Fin 32) (hl : l.val = 8 + i.val) :
    concatenate S1024x32 1 [⟨S1024x8, p0⟩, ⟨S1024x8, p1⟩, ⟨S1024x8, p2⟩, ⟨S1024x8, p3⟩] concatenates_S1024x8_S1024x8_S1024x8_S1024x8_S1024x32_d1 (ix2 a l) = p1 (ix2 a i) := by
  refine concatenate_apply_piece (t := S1024x32) 1 [⟨S1024x8, p0⟩, ⟨S1024x8, p1⟩, ⟨S1024x8, p2⟩, ⟨S1024x8, p3⟩] _ (ix2 a l) 1
    (by show 1 < 4; omega) S1024x8 p1 rfl rfl 8 rfl (ix2 a i) (fun b hb => ?_) (by show 8 + i.val = l.val; omega)
  match b with
  | ⟨0, _⟩ => rfl
  | ⟨1, _⟩ => exact absurd rfl hb

theorem four1024_2 (p0 : S1024x8.Idx → EReal) (p1 : S1024x8.Idx → EReal) (p2 : S1024x8.Idx → EReal) (p3 : S1024x8.Idx → EReal) (a : Fin 1024) (i : Fin 8) (l : Fin 32) (hl : l.val = 16 + i.val) :
    concatenate S1024x32 1 [⟨S1024x8, p0⟩, ⟨S1024x8, p1⟩, ⟨S1024x8, p2⟩, ⟨S1024x8, p3⟩] concatenates_S1024x8_S1024x8_S1024x8_S1024x8_S1024x32_d1 (ix2 a l) = p2 (ix2 a i) := by
  refine concatenate_apply_piece (t := S1024x32) 1 [⟨S1024x8, p0⟩, ⟨S1024x8, p1⟩, ⟨S1024x8, p2⟩, ⟨S1024x8, p3⟩] _ (ix2 a l) 2
    (by show 2 < 4; omega) S1024x8 p2 rfl rfl 16 rfl (ix2 a i) (fun b hb => ?_) (by show 16 + i.val = l.val; omega)
  match b with
  | ⟨0, _⟩ => rfl
  | ⟨1, _⟩ => exact absurd rfl hb

theorem four1024_3 (p0 : S1024x8.Idx → EReal) (p1 : S1024x8.Idx → EReal) (p2 : S1024x8.Idx → EReal) (p3 : S1024x8.Idx → EReal) (a : Fin 1024) (i : Fin 8) (l : Fin 32) (hl : l.val = 24 + i.val) :
    concatenate S1024x32 1 [⟨S1024x8, p0⟩, ⟨S1024x8, p1⟩, ⟨S1024x8, p2⟩, ⟨S1024x8, p3⟩] concatenates_S1024x8_S1024x8_S1024x8_S1024x8_S1024x32_d1 (ix2 a l) = p3 (ix2 a i) := by
  refine concatenate_apply_piece (t := S1024x32) 1 [⟨S1024x8, p0⟩, ⟨S1024x8, p1⟩, ⟨S1024x8, p2⟩, ⟨S1024x8, p3⟩] _ (ix2 a l) 3
    (by show 3 < 4; omega) S1024x8 p3 rfl rfl 24 rfl (ix2 a i) (fun b hb => ?_) (by show 24 + i.val = l.val; omega)
  match b with
  | ⟨0, _⟩ => rfl
  | ⟨1, _⟩ => exact absurd rfl hb

theorem four2048_0 (p0 : S2048x8.Idx → EReal) (p1 : S2048x8.Idx → EReal) (p2 : S2048x8.Idx → EReal) (p3 : S2048x8.Idx → EReal) (a : Fin 2048) (i : Fin 8) (l : Fin 32) (hl : l.val = 0 + i.val) :
    concatenate S2048x32 1 [⟨S2048x8, p0⟩, ⟨S2048x8, p1⟩, ⟨S2048x8, p2⟩, ⟨S2048x8, p3⟩] concatenates_S2048x8_S2048x8_S2048x8_S2048x8_S2048x32_d1 (ix2 a l) = p0 (ix2 a i) := by
  refine concatenate_apply_piece (t := S2048x32) 1 [⟨S2048x8, p0⟩, ⟨S2048x8, p1⟩, ⟨S2048x8, p2⟩, ⟨S2048x8, p3⟩] _ (ix2 a l) 0
    (by show 0 < 4; omega) S2048x8 p0 rfl rfl 0 rfl (ix2 a i) (fun b hb => ?_) (by show 0 + i.val = l.val; omega)
  match b with
  | ⟨0, _⟩ => rfl
  | ⟨1, _⟩ => exact absurd rfl hb

theorem four2048_1 (p0 : S2048x8.Idx → EReal) (p1 : S2048x8.Idx → EReal) (p2 : S2048x8.Idx → EReal) (p3 : S2048x8.Idx → EReal) (a : Fin 2048) (i : Fin 8) (l : Fin 32) (hl : l.val = 8 + i.val) :
    concatenate S2048x32 1 [⟨S2048x8, p0⟩, ⟨S2048x8, p1⟩, ⟨S2048x8, p2⟩, ⟨S2048x8, p3⟩] concatenates_S2048x8_S2048x8_S2048x8_S2048x8_S2048x32_d1 (ix2 a l) = p1 (ix2 a i) := by
  refine concatenate_apply_piece (t := S2048x32) 1 [⟨S2048x8, p0⟩, ⟨S2048x8, p1⟩, ⟨S2048x8, p2⟩, ⟨S2048x8, p3⟩] _ (ix2 a l) 1
    (by show 1 < 4; omega) S2048x8 p1 rfl rfl 8 rfl (ix2 a i) (fun b hb => ?_) (by show 8 + i.val = l.val; omega)
  match b with
  | ⟨0, _⟩ => rfl
  | ⟨1, _⟩ => exact absurd rfl hb

theorem four2048_2 (p0 : S2048x8.Idx → EReal) (p1 : S2048x8.Idx → EReal) (p2 : S2048x8.Idx → EReal) (p3 : S2048x8.Idx → EReal) (a : Fin 2048) (i : Fin 8) (l : Fin 32) (hl : l.val = 16 + i.val) :
    concatenate S2048x32 1 [⟨S2048x8, p0⟩, ⟨S2048x8, p1⟩, ⟨S2048x8, p2⟩, ⟨S2048x8, p3⟩] concatenates_S2048x8_S2048x8_S2048x8_S2048x8_S2048x32_d1 (ix2 a l) = p2 (ix2 a i) := by
  refine concatenate_apply_piece (t := S2048x32) 1 [⟨S2048x8, p0⟩, ⟨S2048x8, p1⟩, ⟨S2048x8, p2⟩, ⟨S2048x8, p3⟩] _ (ix2 a l) 2
    (by show 2 < 4; omega) S2048x8 p2 rfl rfl 16 rfl (ix2 a i) (fun b hb => ?_) (by show 16 + i.val = l.val; omega)
  match b with
  | ⟨0, _⟩ => rfl
  | ⟨1, _⟩ => exact absurd rfl hb

theorem four2048_3 (p0 : S2048x8.Idx → EReal) (p1 : S2048x8.Idx → EReal) (p2 : S2048x8.Idx → EReal) (p3 : S2048x8.Idx → EReal) (a : Fin 2048) (i : Fin 8) (l : Fin 32) (hl : l.val = 24 + i.val) :
    concatenate S2048x32 1 [⟨S2048x8, p0⟩, ⟨S2048x8, p1⟩, ⟨S2048x8, p2⟩, ⟨S2048x8, p3⟩] concatenates_S2048x8_S2048x8_S2048x8_S2048x8_S2048x32_d1 (ix2 a l) = p3 (ix2 a i) := by
  refine concatenate_apply_piece (t := S2048x32) 1 [⟨S2048x8, p0⟩, ⟨S2048x8, p1⟩, ⟨S2048x8, p2⟩, ⟨S2048x8, p3⟩] _ (ix2 a l) 3
    (by show 3 < 4; omega) S2048x8 p3 rfl rfl 24 rfl (ix2 a i) (fun b hb => ?_) (by show 24 + i.val = l.val; omega)
  match b with
  | ⟨0, _⟩ => rfl
  | ⟨1, _⟩ => exact absurd rfl hb

theorem inner_0 (p0 : S1024x384.Idx → EReal) (p1 : S1024x64.Idx → EReal) (p2 : S1024x32.Idx → EReal) (p3 : S1024x32.Idx → EReal) (p4 : S1024x64.Idx → EReal) (p5 : S1024x32.Idx → EReal) (p6 : S1024x32.Idx → EReal) (p7 : S1024x1536.Idx → EReal) (a : Fin 1024) (i : Fin 384) (l : Fin 2176) (hl : l.val = 0 + i.val) :
    concatenate S1024x2176 1 [⟨S1024x384, p0⟩, ⟨S1024x64, p1⟩, ⟨S1024x32, p2⟩, ⟨S1024x32, p3⟩, ⟨S1024x64, p4⟩, ⟨S1024x32, p5⟩, ⟨S1024x32, p6⟩, ⟨S1024x1536, p7⟩] concatenates_S1024x384_S1024x64_S1024x32_S1024x32_S1024x64_S1024x32_S1024x32_S1024x1536_S1024x2176_d1 (ix2 a l) = p0 (ix2 a i) := by
  refine concatenate_apply_piece (t := S1024x2176) 1 [⟨S1024x384, p0⟩, ⟨S1024x64, p1⟩, ⟨S1024x32, p2⟩, ⟨S1024x32, p3⟩, ⟨S1024x64, p4⟩, ⟨S1024x32, p5⟩, ⟨S1024x32, p6⟩, ⟨S1024x1536, p7⟩] _ (ix2 a l) 0
    (by show 0 < 8; omega) S1024x384 p0 rfl rfl 0 rfl (ix2 a i) (fun b hb => ?_) (by show 0 + i.val = l.val; omega)
  match b with
  | ⟨0, _⟩ => rfl
  | ⟨1, _⟩ => exact absurd rfl hb

theorem inner_1 (p0 : S1024x384.Idx → EReal) (p1 : S1024x64.Idx → EReal) (p2 : S1024x32.Idx → EReal) (p3 : S1024x32.Idx → EReal) (p4 : S1024x64.Idx → EReal) (p5 : S1024x32.Idx → EReal) (p6 : S1024x32.Idx → EReal) (p7 : S1024x1536.Idx → EReal) (a : Fin 1024) (i : Fin 64) (l : Fin 2176) (hl : l.val = 384 + i.val) :
    concatenate S1024x2176 1 [⟨S1024x384, p0⟩, ⟨S1024x64, p1⟩, ⟨S1024x32, p2⟩, ⟨S1024x32, p3⟩, ⟨S1024x64, p4⟩, ⟨S1024x32, p5⟩, ⟨S1024x32, p6⟩, ⟨S1024x1536, p7⟩] concatenates_S1024x384_S1024x64_S1024x32_S1024x32_S1024x64_S1024x32_S1024x32_S1024x1536_S1024x2176_d1 (ix2 a l) = p1 (ix2 a i) := by
  refine concatenate_apply_piece (t := S1024x2176) 1 [⟨S1024x384, p0⟩, ⟨S1024x64, p1⟩, ⟨S1024x32, p2⟩, ⟨S1024x32, p3⟩, ⟨S1024x64, p4⟩, ⟨S1024x32, p5⟩, ⟨S1024x32, p6⟩, ⟨S1024x1536, p7⟩] _ (ix2 a l) 1
    (by show 1 < 8; omega) S1024x64 p1 rfl rfl 384 rfl (ix2 a i) (fun b hb => ?_) (by show 384 + i.val = l.val; omega)
  match b with
  | ⟨0, _⟩ => rfl
  | ⟨1, _⟩ => exact absurd rfl hb

theorem inner_2 (p0 : S1024x384.Idx → EReal) (p1 : S1024x64.Idx → EReal) (p2 : S1024x32.Idx → EReal) (p3 : S1024x32.Idx → EReal) (p4 : S1024x64.Idx → EReal) (p5 : S1024x32.Idx → EReal) (p6 : S1024x32.Idx → EReal) (p7 : S1024x1536.Idx → EReal) (a : Fin 1024) (i : Fin 32) (l : Fin 2176) (hl : l.val = 448 + i.val) :
    concatenate S1024x2176 1 [⟨S1024x384, p0⟩, ⟨S1024x64, p1⟩, ⟨S1024x32, p2⟩, ⟨S1024x32, p3⟩, ⟨S1024x64, p4⟩, ⟨S1024x32, p5⟩, ⟨S1024x32, p6⟩, ⟨S1024x1536, p7⟩] concatenates_S1024x384_S1024x64_S1024x32_S1024x32_S1024x64_S1024x32_S1024x32_S1024x1536_S1024x2176_d1 (ix2 a l) = p2 (ix2 a i) := by
  refine concatenate_apply_piece (t := S1024x2176) 1 [⟨S1024x384, p0⟩, ⟨S1024x64, p1⟩, ⟨S1024x32, p2⟩, ⟨S1024x32, p3⟩, ⟨S1024x64, p4⟩, ⟨S1024x32, p5⟩, ⟨S1024x32, p6⟩, ⟨S1024x1536, p7⟩] _ (ix2 a l) 2
    (by show 2 < 8; omega) S1024x32 p2 rfl rfl 448 rfl (ix2 a i) (fun b hb => ?_) (by show 448 + i.val = l.val; omega)
  match b with
  | ⟨0, _⟩ => rfl
  | ⟨1, _⟩ => exact absurd rfl hb

theorem inner_3 (p0 : S1024x384.Idx → EReal) (p1 : S1024x64.Idx → EReal) (p2 : S1024x32.Idx → EReal) (p3 : S1024x32.Idx → EReal) (p4 : S1024x64.Idx → EReal) (p5 : S1024x32.Idx → EReal) (p6 : S1024x32.Idx → EReal) (p7 : S1024x1536.Idx → EReal) (a : Fin 1024) (i : Fin 32) (l : Fin 2176) (hl : l.val = 480 + i.val) :
    concatenate S1024x2176 1 [⟨S1024x384, p0⟩, ⟨S1024x64, p1⟩, ⟨S1024x32, p2⟩, ⟨S1024x32, p3⟩, ⟨S1024x64, p4⟩, ⟨S1024x32, p5⟩, ⟨S1024x32, p6⟩, ⟨S1024x1536, p7⟩] concatenates_S1024x384_S1024x64_S1024x32_S1024x32_S1024x64_S1024x32_S1024x32_S1024x1536_S1024x2176_d1 (ix2 a l) = p3 (ix2 a i) := by
  refine concatenate_apply_piece (t := S1024x2176) 1 [⟨S1024x384, p0⟩, ⟨S1024x64, p1⟩, ⟨S1024x32, p2⟩, ⟨S1024x32, p3⟩, ⟨S1024x64, p4⟩, ⟨S1024x32, p5⟩, ⟨S1024x32, p6⟩, ⟨S1024x1536, p7⟩] _ (ix2 a l) 3
    (by show 3 < 8; omega) S1024x32 p3 rfl rfl 480 rfl (ix2 a i) (fun b hb => ?_) (by show 480 + i.val = l.val; omega)
  match b with
  | ⟨0, _⟩ => rfl
  | ⟨1, _⟩ => exact absurd rfl hb

theorem inner_4 (p0 : S1024x384.Idx → EReal) (p1 : S1024x64.Idx → EReal) (p2 : S1024x32.Idx → EReal) (p3 : S1024x32.Idx → EReal) (p4 : S1024x64.Idx → EReal) (p5 : S1024x32.Idx → EReal) (p6 : S1024x32.Idx → EReal) (p7 : S1024x1536.Idx → EReal) (a : Fin 1024) (i : Fin 64) (l : Fin 2176) (hl : l.val = 512 + i.val) :
    concatenate S1024x2176 1 [⟨S1024x384, p0⟩, ⟨S1024x64, p1⟩, ⟨S1024x32, p2⟩, ⟨S1024x32, p3⟩, ⟨S1024x64, p4⟩, ⟨S1024x32, p5⟩, ⟨S1024x32, p6⟩, ⟨S1024x1536, p7⟩] concatenates_S1024x384_S1024x64_S1024x32_S1024x32_S1024x64_S1024x32_S1024x32_S1024x1536_S1024x2176_d1 (ix2 a l) = p4 (ix2 a i) := by
  refine concatenate_apply_piece (t := S1024x2176) 1 [⟨S1024x384, p0⟩, ⟨S1024x64, p1⟩, ⟨S1024x32, p2⟩, ⟨S1024x32, p3⟩, ⟨S1024x64, p4⟩, ⟨S1024x32, p5⟩, ⟨S1024x32, p6⟩, ⟨S1024x1536, p7⟩] _ (ix2 a l) 4
    (by show 4 < 8; omega) S1024x64 p4 rfl rfl 512 rfl (ix2 a i) (fun b hb => ?_) (by show 512 + i.val = l.val; omega)
  match b with
  | ⟨0, _⟩ => rfl
  | ⟨1, _⟩ => exact absurd rfl hb

theorem inner_5 (p0 : S1024x384.Idx → EReal) (p1 : S1024x64.Idx → EReal) (p2 : S1024x32.Idx → EReal) (p3 : S1024x32.Idx → EReal) (p4 : S1024x64.Idx → EReal) (p5 : S1024x32.Idx → EReal) (p6 : S1024x32.Idx → EReal) (p7 : S1024x1536.Idx → EReal) (a : Fin 1024) (i : Fin 32) (l : Fin 2176) (hl : l.val = 576 + i.val) :
    concatenate S1024x2176 1 [⟨S1024x384, p0⟩, ⟨S1024x64, p1⟩, ⟨S1024x32, p2⟩, ⟨S1024x32, p3⟩, ⟨S1024x64, p4⟩, ⟨S1024x32, p5⟩, ⟨S1024x32, p6⟩, ⟨S1024x1536, p7⟩] concatenates_S1024x384_S1024x64_S1024x32_S1024x32_S1024x64_S1024x32_S1024x32_S1024x1536_S1024x2176_d1 (ix2 a l) = p5 (ix2 a i) := by
  refine concatenate_apply_piece (t := S1024x2176) 1 [⟨S1024x384, p0⟩, ⟨S1024x64, p1⟩, ⟨S1024x32, p2⟩, ⟨S1024x32, p3⟩, ⟨S1024x64, p4⟩, ⟨S1024x32, p5⟩, ⟨S1024x32, p6⟩, ⟨S1024x1536, p7⟩] _ (ix2 a l) 5
    (by show 5 < 8; omega) S1024x32 p5 rfl rfl 576 rfl (ix2 a i) (fun b hb => ?_) (by show 576 + i.val = l.val; omega)
  match b with
  | ⟨0, _⟩ => rfl
  | ⟨1, _⟩ => exact absurd rfl hb

theorem inner_6 (p0 : S1024x384.Idx → EReal) (p1 : S1024x64.Idx → EReal) (p2 : S1024x32.Idx → EReal) (p3 : S1024x32.Idx → EReal) (p4 : S1024x64.Idx → EReal) (p5 : S1024x32.Idx → EReal) (p6 : S1024x32.Idx → EReal) (p7 : S1024x1536.Idx → EReal) (a : Fin 1024) (i : Fin 32) (l : Fin 2176) (hl : l.val = 608 + i.val) :
    concatenate S1024x2176 1 [⟨S1024x384, p0⟩, ⟨S1024x64, p1⟩, ⟨S1024x32, p2⟩, ⟨S1024x32, p3⟩, ⟨S1024x64, p4⟩, ⟨S1024x32, p5⟩, ⟨S1024x32, p6⟩, ⟨S1024x1536, p7⟩] concatenates_S1024x384_S1024x64_S1024x32_S1024x32_S1024x64_S1024x32_S1024x32_S1024x1536_S1024x2176_d1 (ix2 a l) = p6 (ix2 a i) := by
  refine concatenate_apply_piece (t := S1024x2176) 1 [⟨S1024x384, p0⟩, ⟨S1024x64, p1⟩, ⟨S1024x32, p2⟩, ⟨S1024x32, p3⟩, ⟨S1024x64, p4⟩, ⟨S1024x32, p5⟩, ⟨S1024x32, p6⟩, ⟨S1024x1536, p7⟩] _ (ix2 a l) 6
    (by show 6 < 8; omega) S1024x32 p6 rfl rfl 608 rfl (ix2 a i) (fun b hb => ?_) (by show 608 + i.val = l.val; omega)
  match b with
  | ⟨0, _⟩ => rfl
  | ⟨1, _⟩ => exact absurd rfl hb

theorem inner_7 (p0 : S1024x384.Idx → EReal) (p1 : S1024x64.Idx → EReal) (p2 : S1024x32.Idx → EReal) (p3 : S1024x32.Idx → EReal) (p4 : S1024x64.Idx → EReal) (p5 : S1024x32.Idx → EReal) (p6 : S1024x32.Idx → EReal) (p7 : S1024x1536.Idx → EReal) (a : Fin 1024) (i : Fin 1536) (l : Fin 2176) (hl : l.val = 640 + i.val) :
    concatenate S1024x2176 1 [⟨S1024x384, p0⟩, ⟨S1024x64, p1⟩, ⟨S1024x32, p2⟩, ⟨S1024x32, p3⟩, ⟨S1024x64, p4⟩, ⟨S1024x32, p5⟩, ⟨S1024x32, p6⟩, ⟨S1024x1536, p7⟩] concatenates_S1024x384_S1024x64_S1024x32_S1024x32_S1024x64_S1024x32_S1024x32_S1024x1536_S1024x2176_d1 (ix2 a l) = p7 (ix2 a i) := by
  refine concatenate_apply_piece (t := S1024x2176) 1 [⟨S1024x384, p0⟩, ⟨S1024x64, p1⟩, ⟨S1024x32, p2⟩, ⟨S1024x32, p3⟩, ⟨S1024x64, p4⟩, ⟨S1024x32, p5⟩, ⟨S1024x32, p6⟩, ⟨S1024x1536, p7⟩] _ (ix2 a l) 7
    (by show 7 < 8; omega) S1024x1536 p7 rfl rfl 640 rfl (ix2 a i) (fun b hb => ?_) (by show 640 + i.val = l.val; omega)
  match b with
  | ⟨0, _⟩ => rfl
  | ⟨1, _⟩ => exact absurd rfl hb

theorem qa_0 (p0 : S256x8x96.Idx → EReal) (p1 : S256x8x32.Idx → EReal) (a : Fin 256) (b : Fin 8) (i : Fin 96) (l : Fin 128) (hl : l.val = 0 + i.val) :
    concatenate S256x8x128 2 [⟨S256x8x96, p0⟩, ⟨S256x8x32, p1⟩] concatenates_S256x8x96_S256x8x32_S256x8x128_d2 (ix3 a b l) = p0 (ix3 a b i) := by
  refine concatenate_apply_piece (t := S256x8x128) 2 [⟨S256x8x96, p0⟩, ⟨S256x8x32, p1⟩] _ (ix3 a b l) 0
    (by show 0 < 2; omega) S256x8x96 p0 rfl rfl 0 rfl (ix3 a b i) (fun b hb => ?_) (by show 0 + i.val = l.val; omega)
  match b with
  | ⟨0, _⟩ => rfl
  | ⟨1, _⟩ => rfl
  | ⟨2, _⟩ => exact absurd rfl hb

theorem qa_1 (p0 : S256x8x96.Idx → EReal) (p1 : S256x8x32.Idx → EReal) (a : Fin 256) (b : Fin 8) (i : Fin 32) (l : Fin 128) (hl : l.val = 96 + i.val) :
    concatenate S256x8x128 2 [⟨S256x8x96, p0⟩, ⟨S256x8x32, p1⟩] concatenates_S256x8x96_S256x8x32_S256x8x128_d2 (ix3 a b l) = p1 (ix3 a b i) := by
  refine concatenate_apply_piece (t := S256x8x128) 2 [⟨S256x8x96, p0⟩, ⟨S256x8x32, p1⟩] _ (ix3 a b l) 1
    (by show 1 < 2; omega) S256x8x32 p1 rfl rfl 96 rfl (ix3 a b i) (fun b hb => ?_) (by show 96 + i.val = l.val; omega)
  match b with
  | ⟨0, _⟩ => rfl
  | ⟨1, _⟩ => rfl
  | ⟨2, _⟩ => exact absurd rfl hb

theorem qb_0 (p0 : S256x8x64.Idx → EReal) (p1 : S256x8x32.Idx → EReal) (p2 : S256x8x32.Idx → EReal) (a : Fin 256) (b : Fin 8) (i : Fin 64) (l : Fin 128) (hl : l.val = 0 + i.val) :
    concatenate S256x8x128 2 [⟨S256x8x64, p0⟩, ⟨S256x8x32, p1⟩, ⟨S256x8x32, p2⟩] concatenates_S256x8x64_S256x8x32_S256x8x32_S256x8x128_d2 (ix3 a b l) = p0 (ix3 a b i) := by
  refine concatenate_apply_piece (t := S256x8x128) 2 [⟨S256x8x64, p0⟩, ⟨S256x8x32, p1⟩, ⟨S256x8x32, p2⟩] _ (ix3 a b l) 0
    (by show 0 < 3; omega) S256x8x64 p0 rfl rfl 0 rfl (ix3 a b i) (fun b hb => ?_) (by show 0 + i.val = l.val; omega)
  match b with
  | ⟨0, _⟩ => rfl
  | ⟨1, _⟩ => rfl
  | ⟨2, _⟩ => exact absurd rfl hb

theorem qb_1 (p0 : S256x8x64.Idx → EReal) (p1 : S256x8x32.Idx → EReal) (p2 : S256x8x32.Idx → EReal) (a : Fin 256) (b : Fin 8) (i : Fin 32) (l : Fin 128) (hl : l.val = 64 + i.val) :
    concatenate S256x8x128 2 [⟨S256x8x64, p0⟩, ⟨S256x8x32, p1⟩, ⟨S256x8x32, p2⟩] concatenates_S256x8x64_S256x8x32_S256x8x32_S256x8x128_d2 (ix3 a b l) = p1 (ix3 a b i) := by
  refine concatenate_apply_piece (t := S256x8x128) 2 [⟨S256x8x64, p0⟩, ⟨S256x8x32, p1⟩, ⟨S256x8x32, p2⟩] _ (ix3 a b l) 1
    (by show 1 < 3; omega) S256x8x32 p1 rfl rfl 64 rfl (ix3 a b i) (fun b hb => ?_) (by show 64 + i.val = l.val; omega)
  match b with
  | ⟨0, _⟩ => rfl
  | ⟨1, _⟩ => rfl
  | ⟨2, _⟩ => exact absurd rfl hb

theorem qb_2 (p0 : S256x8x64.Idx → EReal) (p1 : S256x8x32.Idx → EReal) (p2 : S256x8x32.Idx → EReal) (a : Fin 256) (b : Fin 8) (i : Fin 32) (l : Fin 128) (hl : l.val = 96 + i.val) :
    concatenate S256x8x128 2 [⟨S256x8x64, p0⟩, ⟨S256x8x32, p1⟩, ⟨S256x8x32, p2⟩] concatenates_S256x8x64_S256x8x32_S256x8x32_S256x8x128_d2 (ix3 a b l) = p2 (ix3 a b i) := by
  refine concatenate_apply_piece (t := S256x8x128) 2 [⟨S256x8x64, p0⟩, ⟨S256x8x32, p1⟩, ⟨S256x8x32, p2⟩] _ (ix3 a b l) 2
    (by show 2 < 3; omega) S256x8x32 p2 rfl rfl 96 rfl (ix3 a b i) (fun b hb => ?_) (by show 96 + i.val = l.val; omega)
  match b with
  | ⟨0, _⟩ => rfl
  | ⟨1, _⟩ => rfl
  | ⟨2, _⟩ => exact absurd rfl hb

theorem kv_0 (p0 : S128x8x64.Idx → EReal) (p1 : S128x8x64.Idx → EReal) (a : Fin 128) (b : Fin 8) (i : Fin 64) (l : Fin 128) (hl : l.val = 0 + i.val) :
    concatenate S128x8x128 2 [⟨S128x8x64, p0⟩, ⟨S128x8x64, p1⟩] concatenates_S128x8x64_S128x8x64_S128x8x128_d2 (ix3 a b l) = p0 (ix3 a b i) := by
  refine concatenate_apply_piece (t := S128x8x128) 2 [⟨S128x8x64, p0⟩, ⟨S128x8x64, p1⟩] _ (ix3 a b l) 0
    (by show 0 < 2; omega) S128x8x64 p0 rfl rfl 0 rfl (ix3 a b i) (fun b hb => ?_) (by show 0 + i.val = l.val; omega)
  match b with
  | ⟨0, _⟩ => rfl
  | ⟨1, _⟩ => rfl
  | ⟨2, _⟩ => exact absurd rfl hb

theorem kv_1 (p0 : S128x8x64.Idx → EReal) (p1 : S128x8x64.Idx → EReal) (a : Fin 128) (b : Fin 8) (i : Fin 64) (l : Fin 128) (hl : l.val = 64 + i.val) :
    concatenate S128x8x128 2 [⟨S128x8x64, p0⟩, ⟨S128x8x64, p1⟩] concatenates_S128x8x64_S128x8x64_S128x8x128_d2 (ix3 a b l) = p1 (ix3 a b i) := by
  refine concatenate_apply_piece (t := S128x8x128) 2 [⟨S128x8x64, p0⟩, ⟨S128x8x64, p1⟩] _ (ix3 a b l) 1
    (by show 1 < 2; omega) S128x8x64 p1 rfl rfl 64 rfl (ix3 a b i) (fun b hb => ?_) (by show 64 + i.val = l.val; omega)
  match b with
  | ⟨0, _⟩ => rfl
  | ⟨1, _⟩ => rfl
  | ⟨2, _⟩ => exact absurd rfl hb

theorem table_0 (p0 : S4096x64.Idx → EReal) (p1 : S4096x8.Idx → EReal) (p2 : S4096x8.Idx → EReal) (p3 : S4096x8.Idx → EReal) (p4 : S4096x8.Idx → EReal) (p5 : S4096x32.Idx → EReal) (a : Fin 4096) (i : Fin 64) (l : Fin 128) (hl : l.val = 0 + i.val) :
    concatenate S4096x128 1 [⟨S4096x64, p0⟩, ⟨S4096x8, p1⟩, ⟨S4096x8, p2⟩, ⟨S4096x8, p3⟩, ⟨S4096x8, p4⟩, ⟨S4096x32, p5⟩] concatenates_S4096x64_S4096x8_S4096x8_S4096x8_S4096x8_S4096x32_S4096x128_d1 (ix2 a l) = p0 (ix2 a i) := by
  refine concatenate_apply_piece (t := S4096x128) 1 [⟨S4096x64, p0⟩, ⟨S4096x8, p1⟩, ⟨S4096x8, p2⟩, ⟨S4096x8, p3⟩, ⟨S4096x8, p4⟩, ⟨S4096x32, p5⟩] _ (ix2 a l) 0
    (by show 0 < 6; omega) S4096x64 p0 rfl rfl 0 rfl (ix2 a i) (fun b hb => ?_) (by show 0 + i.val = l.val; omega)
  match b with
  | ⟨0, _⟩ => rfl
  | ⟨1, _⟩ => exact absurd rfl hb

theorem table_1 (p0 : S4096x64.Idx → EReal) (p1 : S4096x8.Idx → EReal) (p2 : S4096x8.Idx → EReal) (p3 : S4096x8.Idx → EReal) (p4 : S4096x8.Idx → EReal) (p5 : S4096x32.Idx → EReal) (a : Fin 4096) (i : Fin 8) (l : Fin 128) (hl : l.val = 64 + i.val) :
    concatenate S4096x128 1 [⟨S4096x64, p0⟩, ⟨S4096x8, p1⟩, ⟨S4096x8, p2⟩, ⟨S4096x8, p3⟩, ⟨S4096x8, p4⟩, ⟨S4096x32, p5⟩] concatenates_S4096x64_S4096x8_S4096x8_S4096x8_S4096x8_S4096x32_S4096x128_d1 (ix2 a l) = p1 (ix2 a i) := by
  refine concatenate_apply_piece (t := S4096x128) 1 [⟨S4096x64, p0⟩, ⟨S4096x8, p1⟩, ⟨S4096x8, p2⟩, ⟨S4096x8, p3⟩, ⟨S4096x8, p4⟩, ⟨S4096x32, p5⟩] _ (ix2 a l) 1
    (by show 1 < 6; omega) S4096x8 p1 rfl rfl 64 rfl (ix2 a i) (fun b hb => ?_) (by show 64 + i.val = l.val; omega)
  match b with
  | ⟨0, _⟩ => rfl
  | ⟨1, _⟩ => exact absurd rfl hb

theorem table_2 (p0 : S4096x64.Idx → EReal) (p1 : S4096x8.Idx → EReal) (p2 : S4096x8.Idx → EReal) (p3 : S4096x8.Idx → EReal) (p4 : S4096x8.Idx → EReal) (p5 : S4096x32.Idx → EReal) (a : Fin 4096) (i : Fin 8) (l : Fin 128) (hl : l.val = 72 + i.val) :
    concatenate S4096x128 1 [⟨S4096x64, p0⟩, ⟨S4096x8, p1⟩, ⟨S4096x8, p2⟩, ⟨S4096x8, p3⟩, ⟨S4096x8, p4⟩, ⟨S4096x32, p5⟩] concatenates_S4096x64_S4096x8_S4096x8_S4096x8_S4096x8_S4096x32_S4096x128_d1 (ix2 a l) = p2 (ix2 a i) := by
  refine concatenate_apply_piece (t := S4096x128) 1 [⟨S4096x64, p0⟩, ⟨S4096x8, p1⟩, ⟨S4096x8, p2⟩, ⟨S4096x8, p3⟩, ⟨S4096x8, p4⟩, ⟨S4096x32, p5⟩] _ (ix2 a l) 2
    (by show 2 < 6; omega) S4096x8 p2 rfl rfl 72 rfl (ix2 a i) (fun b hb => ?_) (by show 72 + i.val = l.val; omega)
  match b with
  | ⟨0, _⟩ => rfl
  | ⟨1, _⟩ => exact absurd rfl hb

theorem table_3 (p0 : S4096x64.Idx → EReal) (p1 : S4096x8.Idx → EReal) (p2 : S4096x8.Idx → EReal) (p3 : S4096x8.Idx → EReal) (p4 : S4096x8.Idx → EReal) (p5 : S4096x32.Idx → EReal) (a : Fin 4096) (i : Fin 8) (l : Fin 128) (hl : l.val = 80 + i.val) :
    concatenate S4096x128 1 [⟨S4096x64, p0⟩, ⟨S4096x8, p1⟩, ⟨S4096x8, p2⟩, ⟨S4096x8, p3⟩, ⟨S4096x8, p4⟩, ⟨S4096x32, p5⟩] concatenates_S4096x64_S4096x8_S4096x8_S4096x8_S4096x8_S4096x32_S4096x128_d1 (ix2 a l) = p3 (ix2 a i) := by
  refine concatenate_apply_piece (t := S4096x128) 1 [⟨S4096x64, p0⟩, ⟨S4096x8, p1⟩, ⟨S4096x8, p2⟩, ⟨S4096x8, p3⟩, ⟨S4096x8, p4⟩, ⟨S4096x32, p5⟩] _ (ix2 a l) 3
    (by show 3 < 6; omega) S4096x8 p3 rfl rfl 80 rfl (ix2 a i) (fun b hb => ?_) (by show 80 + i.val = l.val; omega)
  match b with
  | ⟨0, _⟩ => rfl
  | ⟨1, _⟩ => exact absurd rfl hb

theorem table_4 (p0 : S4096x64.Idx → EReal) (p1 : S4096x8.Idx → EReal) (p2 : S4096x8.Idx → EReal) (p3 : S4096x8.Idx → EReal) (p4 : S4096x8.Idx → EReal) (p5 : S4096x32.Idx → EReal) (a : Fin 4096) (i : Fin 8) (l : Fin 128) (hl : l.val = 88 + i.val) :
    concatenate S4096x128 1 [⟨S4096x64, p0⟩, ⟨S4096x8, p1⟩, ⟨S4096x8, p2⟩, ⟨S4096x8, p3⟩, ⟨S4096x8, p4⟩, ⟨S4096x32, p5⟩] concatenates_S4096x64_S4096x8_S4096x8_S4096x8_S4096x8_S4096x32_S4096x128_d1 (ix2 a l) = p4 (ix2 a i) := by
  refine concatenate_apply_piece (t := S4096x128) 1 [⟨S4096x64, p0⟩, ⟨S4096x8, p1⟩, ⟨S4096x8, p2⟩, ⟨S4096x8, p3⟩, ⟨S4096x8, p4⟩, ⟨S4096x32, p5⟩] _ (ix2 a l) 4
    (by show 4 < 6; omega) S4096x8 p4 rfl rfl 88 rfl (ix2 a i) (fun b hb => ?_) (by show 88 + i.val = l.val; omega)
  match b with
  | ⟨0, _⟩ => rfl
  | ⟨1, _⟩ => exact absurd rfl hb

theorem table_5 (p0 : S4096x64.Idx → EReal) (p1 : S4096x8.Idx → EReal) (p2 : S4096x8.Idx → EReal) (p3 : S4096x8.Idx → EReal) (p4 : S4096x8.Idx → EReal) (p5 : S4096x32.Idx → EReal) (a : Fin 4096) (i : Fin 32) (l : Fin 128) (hl : l.val = 96 + i.val) :
    concatenate S4096x128 1 [⟨S4096x64, p0⟩, ⟨S4096x8, p1⟩, ⟨S4096x8, p2⟩, ⟨S4096x8, p3⟩, ⟨S4096x8, p4⟩, ⟨S4096x32, p5⟩] concatenates_S4096x64_S4096x8_S4096x8_S4096x8_S4096x8_S4096x32_S4096x128_d1 (ix2 a l) = p5 (ix2 a i) := by
  refine concatenate_apply_piece (t := S4096x128) 1 [⟨S4096x64, p0⟩, ⟨S4096x8, p1⟩, ⟨S4096x8, p2⟩, ⟨S4096x8, p3⟩, ⟨S4096x8, p4⟩, ⟨S4096x32, p5⟩] _ (ix2 a l) 5
    (by show 5 < 6; omega) S4096x32 p5 rfl rfl 96 rfl (ix2 a i) (fun b hb => ?_) (by show 96 + i.val = l.val; omega)
  match b with
  | ⟨0, _⟩ => rfl
  | ⟨1, _⟩ => exact absurd rfl hb

end Cert.Proof.AbIn

end
-- ==== Proof.AbIn.Weights.lean ====
/-
  The attention mixer's input projection: what its host code hands to the kernel, read at one element. Weights are spread over
  heads of 128 lanes, with a copy whose rotated quarters are swapped and signed; the angles' cosines and sines are spread the
  same way.
-/
module

public import proofs.«01_k».proof.Proof.AbIn.Spread

@[expose] public section

noncomputable section

namespace Cert.Proof.AbIn

open Cert.Kernel6Ideal Cert.Kernel6Ideal.Gen Idealize.ShloMosaic Idealize.ShloMosaic.TcCoe Idealize.SL.Sem
open scoped BigOperators

/-- Zeros, and ones, of a shape. -/
abbrev zeros {S : Shape} (h : S_.BroadcastsInDim S ![]) : S.Idx → EReal := broadcastInDim S ![] h (constant (F := Ideal) S_ .f32 0x00000000#32)
abbrev ones {S : Shape} (h : S_.BroadcastsInDim S ![]) : S.Idx → EReal := broadcastInDim S ![] h (constant (F := Ideal) S_ .f32 0x3F800000#32)

theorem zeros_apply {S : Shape} (h : S_.BroadcastsInDim S ![]) (i : S.Idx) : zeros h i = 0 := Ideal.ofBits_zero_f32
theorem ones_apply {S : Shape} (h : S_.BroadcastsInDim S ![]) (i : S.Idx) : ones h i = 1 := Ideal.ofBits_one_f32

/-! ## The shared weights -/

/-- Four quarters of 32 columns, swapped pairwise, each first of a pair with its sign changed. -/
def swap1024 (w : S1024x32.Idx → EReal) : S1024x32.Idx → EReal :=
  concatenate S1024x32 1 [⟨S1024x8, Host.negf (F := Ideal) (φ := .f32) (extractStridedSlice S1024x8 ![0, 8] w slices_S1024x32_S1024x8_0_8)⟩,
    ⟨S1024x8, extractStridedSlice S1024x8 ![0, 0] w slices_S1024x32_S1024x8_0_0⟩,
    ⟨S1024x8, Host.negf (F := Ideal) (φ := .f32) (extractStridedSlice S1024x8 ![0, 24] w slices_S1024x32_S1024x8_0_24)⟩,
    ⟨S1024x8, extractStridedSlice S1024x8 ![0, 16] w slices_S1024x32_S1024x8_0_16⟩]
    concatenates_S1024x8_S1024x8_S1024x8_S1024x8_S1024x32_d1

def quarter (j : Fin 4) (i : Fin 8) : Fin 32 := ⟨j.val * 8 + i.val, by have := j.isLt; have := i.isLt; omega⟩

theorem swap1024_apply (w : S1024x32.Idx → EReal) (a : Fin 1024) (j : Fin 4) (i : Fin 8) :
    swap1024 w (ix2 a (quarter j i)) = swapped (fun j i => w (ix2 a (quarter j i))) j i := by
  unfold swap1024
  match j with
  | ⟨0, _⟩ =>
    refine (four1024_0 _ _ _ _ a i _ (by show 0 * 8 + i.val = 0 + i.val; omega)).trans ?_
    show -_ = -_
    refine congrArg (fun v : EReal => -v) ?_
    refine extractStridedSlice_apply ![0, 8] w slices_S1024x32_S1024x8_0_8 (ix2 a i) (ix2 a (quarter 1 i)) fun b => ?_
    match b with
    | ⟨0, _⟩ => show a.val = 0 + a.val; omega
    | ⟨1, _⟩ => show 1 * 8 + i.val = 8 + i.val; omega
  | ⟨1, _⟩ =>
    refine (four1024_1 _ _ _ _ a i _ (by show 1 * 8 + i.val = 8 + i.val; omega)).trans ?_
    refine extractStridedSlice_apply ![0, 0] w slices_S1024x32_S1024x8_0_0 (ix2 a i) (ix2 a (quarter 0 i)) fun b => ?_
    match b with
    | ⟨0, _⟩ => show a.val = 0 + a.val; omega
    | ⟨1, _⟩ => show 0 * 8 + i.val = 0 + i.val; omega
  | ⟨2, _⟩ =>
    refine (four1024_2 _ _ _ _ a i _ (by show 2 * 8 + i.val = 16 + i.val; omega)).trans ?_
    show -_ = -_
    refine congrArg (fun v : EReal => -v) ?_
    refine extractStridedSlice_apply ![0, 24] w slices_S1024x32_S1024x8_0_24 (ix2 a i) (ix2 a (quarter 3 i)) fun b => ?_
    match b with
    | ⟨0, _⟩ => show a.val = 0 + a.val; omega
    | ⟨1, _⟩ => show 3 * 8 + i.val = 24 + i.val; omega
  | ⟨3, _⟩ =>
    refine (four1024_3 _ _ _ _ a i _ (by show 3 * 8 + i.val = 24 + i.val; omega)).trans ?_
    refine extractStridedSlice_apply ![0, 16] w slices_S1024x32_S1024x8_0_16 (ix2 a i) (ix2 a (quarter 2 i)) fun b => ?_
    match b with
    | ⟨0, _⟩ => show a.val = 0 + a.val; omega
    | ⟨1, _⟩ => show 2 * 8 + i.val = 16 + i.val; omega

/-- The projection's weights with the shared key's columns spread over 128 lanes, twice. -/
def innerOf (w : S1024x1952.Idx → EReal) : S1024x2176.Idx → EReal :=
  concatenate S1024x2176 1 [⟨S1024x384, extractStridedSlice S1024x384 ![0, 0] w slices_S1024x1952_S1024x384_0_0⟩,
    ⟨S1024x64, zeros bcast_S_S1024x64⟩, ⟨S1024x32, extractStridedSlice S1024x32 ![0, 384] w slices_S1024x1952_S1024x32_0_384⟩,
    ⟨S1024x32, zeros bcast_S_S1024x32⟩, ⟨S1024x64, zeros bcast_S_S1024x64⟩,
    ⟨S1024x32, swap1024 (extractStridedSlice S1024x32 ![0, 384] w slices_S1024x1952_S1024x32_0_384)⟩,
    ⟨S1024x32, zeros bcast_S_S1024x32⟩, ⟨S1024x1536, extractStridedSlice S1024x1536 ![0, 416] w slices_S1024x1952_S1024x1536_0_416⟩]
    concatenates_S1024x384_S1024x64_S1024x32_S1024x32_S1024x64_S1024x32_S1024x32_S1024x1536_S1024x2176_d1

/-- Where the spread key's lanes lie, and where their swapped copy's. -/
def lowCol (l : Fin 384) : Fin 2176 := ⟨l.val, by have := l.isLt; omega⟩
def spreadCol (e : Fin 128) : Fin 2176 := ⟨384 + e.val, by have := e.isLt; omega⟩
def swapCol (e : Fin 128) : Fin 2176 := ⟨512 + e.val, by have := e.isLt; omega⟩
def restCol (l : Fin 1536) : Fin 2176 := ⟨640 + l.val, by have := l.isLt; omega⟩

section Inner

variable (w : S1024x1952.Idx → EReal) (d : Fin 1024)

theorem inner_low (l : Fin 384) : innerOf w (ix2 d (lowCol l)) = w (ix2 d ⟨l.val, by have := l.isLt; omega⟩) := by
  refine (inner_0 _ _ _ _ _ _ _ _ d l _ (by show l.val = 0 + l.val; omega)).trans ?_
  refine extractStridedSlice_apply ![0, 0] w slices_S1024x1952_S1024x384_0_0 (ix2 d l) (ix2 d ⟨l.val, by have := l.isLt; omega⟩) fun b => ?_
  match b with
  | ⟨0, _⟩ => show d.val = 0 + d.val; omega
  | ⟨1, _⟩ => show l.val = 0 + l.val; omega

theorem inner_rest (l : Fin 1536) : innerOf w (ix2 d (restCol l)) = w (ix2 d ⟨416 + l.val, by have := l.isLt; omega⟩) := by
  refine (inner_7 _ _ _ _ _ _ _ _ d l _ (by show 640 + l.val = 640 + l.val; omega)).trans ?_
  refine extractStridedSlice_apply ![0, 416] w slices_S1024x1952_S1024x1536_0_416 (ix2 d l) (ix2 d ⟨416 + l.val, by have := l.isLt; omega⟩) fun b => ?_
  match b with
  | ⟨0, _⟩ => show d.val = 0 + d.val; omega
  | ⟨1, _⟩ => show 416 + l.val = 416 + l.val; omega

theorem key_apply (j : Fin 4) (i : Fin 8) :
    extractStridedSlice S1024x32 ![0, 384] w slices_S1024x1952_S1024x32_0_384 (ix2 d (quarter j i)) = w (ix2 d (keyCol j i)) := by
  refine extractStridedSlice_apply ![0, 384] w slices_S1024x1952_S1024x32_0_384 (ix2 d (quarter j i)) (ix2 d (keyCol j i)) fun b => ?_
  match b with
  | ⟨0, _⟩ => show d.val = 0 + d.val; omega
  | ⟨1, _⟩ => rfl

theorem inner_spread (e : Fin 128) :
    innerOf w (ix2 d (spreadCol e)) = lanes (fun _ => 0) (fun j i => w (ix2 d (keyCol j i))) (fun _ => 0) e := by
  refine lane_cases (fun e => innerOf w (ix2 d (spreadCol e)) = lanes (fun _ => 0) (fun j i => w (ix2 d (keyCol j i))) (fun _ => 0) e)
    (fun i => ?_) (fun j i => ?_) (fun i => ?_) e
  · rw [lanes_0]
    exact (inner_1 _ _ _ _ _ _ _ _ d i _ (by show 384 + i.val = 384 + i.val; omega)).trans (zeros_apply _ _)
  · rw [lanes_R]
    exact (inner_2 _ _ _ _ _ _ _ _ d (quarter j i) _ (by show 384 + (64 + j.val * 8 + i.val) = 448 + (j.val * 8 + i.val); omega)).trans (key_apply w d j i)
  · rw [lanes_5]
    exact (inner_3 _ _ _ _ _ _ _ _ d i _ (by show 384 + (96 + i.val) = 480 + i.val; omega)).trans (zeros_apply _ _)

theorem inner_swap (e : Fin 128) :
    innerOf w (ix2 d (swapCol e)) = lanes (fun _ => 0) (swapped fun j i => w (ix2 d (keyCol j i))) (fun _ => 0) e := by
  refine lane_cases (fun e => innerOf w (ix2 d (swapCol e)) = lanes (fun _ => 0) (swapped fun j i => w (ix2 d (keyCol j i))) (fun _ => 0) e)
    (fun i => ?_) (fun j i => ?_) (fun i => ?_) e
  · rw [lanes_0]
    exact (inner_4 _ _ _ _ _ _ _ _ d i _ (by show 512 + i.val = 512 + i.val; omega)).trans (zeros_apply _ _)
  · rw [lanes_R]
    refine (inner_5 _ _ _ _ _ _ _ _ d (quarter j i) _ (by show 512 + (64 + j.val * 8 + i.val) = 576 + (j.val * 8 + i.val); omega)).trans ?_
    refine (swap1024_apply _ d j i).trans ?_
    exact congrArg (fun f => swapped f j i) (funext fun j => funext fun i => key_apply w d j i)
  · rw [lanes_5]
    exact (inner_6 _ _ _ _ _ _ _ _ d i _ (by show 512 + (96 + i.val) = 608 + i.val; omega)).trans (zeros_apply _ _)

end Inner

/-! ## The queries' weights -/

def swap2048 (w : S2048x32.Idx → EReal) : S2048x32.Idx → EReal :=
  concatenate S2048x32 1 [⟨S2048x8, Host.negf (F := Ideal) (φ := .f32) (extractStridedSlice S2048x8 ![0, 8] w slices_S2048x32_S2048x8_0_8)⟩,
    ⟨S2048x8, extractStridedSlice S2048x8 ![0, 0] w slices_S2048x32_S2048x8_0_0⟩,
    ⟨S2048x8, Host.negf (F := Ideal) (φ := .f32) (extractStridedSlice S2048x8 ![0, 24] w slices_S2048x32_S2048x8_0_24)⟩,
    ⟨S2048x8, extractStridedSlice S2048x8 ![0, 16] w slices_S2048x32_S2048x8_0_16⟩]
    concatenates_S2048x8_S2048x8_S2048x8_S2048x8_S2048x32_d1

theorem swap2048_apply (w : S2048x32.Idx → EReal) (a : Fin 2048) (j : Fin 4) (i : Fin 8) :
    swap2048 w (ix2 a (quarter j i)) = swapped (fun j i => w (ix2 a (quarter j i))) j i := by
  unfold swap2048
  match j with
  | ⟨0, _⟩ =>
    refine (four2048_0 _ _ _ _ a i _ (by show 0 * 8 + i.val = 0 + i.val; omega)).trans ?_
    show -_ = -_
    refine congrArg (fun v : EReal => -v) ?_
    refine extractStridedSlice_apply ![0, 8] w slices_S2048x32_S2048x8_0_8 (ix2 a i) (ix2 a (quarter 1 i)) fun b => ?_
    match b with
    | ⟨0, _⟩ => show a.val = 0 + a.val; omega
    | ⟨1, _⟩ => show 1 * 8 + i.val = 8 + i.val; omega
  | ⟨1, _⟩ =>
    refine (four2048_1 _ _ _ _ a i _ (by show 1 * 8 + i.val = 8 + i.val; omega)).trans ?_
    refine extractStridedSlice_apply ![0, 0] w slices_S2048x32_S2048x8_0_0 (ix2 a i) (ix2 a (quarter 0 i)) fun b => ?_
    match b with
    | ⟨0, _⟩ => show a.val = 0 + a.val; omega
    | ⟨1, _⟩ => show 0 * 8 + i.val = 0 + i.val; omega
  | ⟨2, _⟩ =>
    refine (four2048_2 _ _ _ _ a i _ (by show 2 * 8 + i.val = 16 + i.val; omega)).trans ?_
    show -_ = -_
    refine congrArg (fun v : EReal => -v) ?_
    refine extractStridedSlice_apply ![0, 24] w slices_S2048x32_S2048x8_0_24 (ix2 a i) (ix2 a (quarter 3 i)) fun b => ?_
    match b with
    | ⟨0, _⟩ => show a.val = 0 + a.val; omega
    | ⟨1, _⟩ => show 3 * 8 + i.val = 24 + i.val; omega
  | ⟨3, _⟩ =>
    refine (four2048_3 _ _ _ _ a i _ (by show 3 * 8 + i.val = 24 + i.val; omega)).trans ?_
    refine extractStridedSlice_apply ![0, 16] w slices_S2048x32_S2048x8_0_16 (ix2 a i) (ix2 a (quarter 2 i)) fun b => ?_
    match b with
    | ⟨0, _⟩ => show a.val = 0 + a.val; omega
    | ⟨1, _⟩ => show 2 * 8 + i.val = 16 + i.val; omega

/-- The queries' weights by heads. -/
abbrev headsOf (w : S256x768.Idx → EReal) : S256x8x96.Idx → EReal := shapeCast S256x8x96 w shapeCasts_S256x768_S256x8x96

theorem heads_apply (w : S256x768.Idx → EReal) (k : Fin 256) (h : Fin 8) (l : Fin 96) (c : Fin 768) (hc : c.val = h.val * 96 + l.val) :
    headsOf w (ix3 k h l) = w (ix2 k c) :=
  shapeCast_apply w shapeCasts_S256x768_S256x8x96 (ix3 k h l) (ix2 k c) (by
    rw [Shape.rowMajor_val_two, Shape.rowMajor_val_three]
    show k.val * 768 + c.val = (k.val * 8 + h.val) * 96 + l.val
    omega)

/-- Each head's 96 columns padded to 128. -/
def wideOf (w : S256x768.Idx → EReal) : S256x1024.Idx → EReal :=
  shapeCast S256x1024 (concatenate S256x8x128 2 [⟨S256x8x96, headsOf w⟩, ⟨S256x8x32, zeros bcast_S_S256x8x32⟩]
    concatenates_S256x8x96_S256x8x32_S256x8x128_d2) shapeCasts_S256x8x128_S256x1024

/-- Each head's rotated columns, swapped, at their lanes. -/
def wideSwap (w : S256x768.Idx → EReal) : S256x1024.Idx → EReal :=
  shapeCast S256x1024 (concatenate S256x8x128 2 [⟨S256x8x64, zeros bcast_S_S256x8x64⟩,
    ⟨S256x8x32, shapeCast S256x8x32 (swap2048 (shapeCast S2048x32 (extractStridedSlice S256x8x32 ![0, 0, 64] (headsOf w)
      slices_S256x8x96_S256x8x32_0_0_64) shapeCasts_S256x8x32_S2048x32)) shapeCasts_S2048x32_S256x8x32⟩,
    ⟨S256x8x32, zeros bcast_S_S256x8x32⟩]
    concatenates_S256x8x64_S256x8x32_S256x8x32_S256x8x128_d2) shapeCasts_S256x8x128_S256x1024

section Queries

variable (w : S256x768.Idx → EReal) (k : Fin 256) (h : Fin 8)

theorem flat256 (y : S256x8x128.Idx → EReal) (e : Fin 128) :
    shapeCast S256x1024 y shapeCasts_S256x8x128_S256x1024 (ix2 k (headCol h e)) = y (ix3 k h e) :=
  shapeCast_apply y shapeCasts_S256x8x128_S256x1024 (ix2 k (headCol h e)) (ix3 k h e) (by
    rw [Shape.rowMajor_val_two, Shape.rowMajor_val_three]
    show (k.val * 8 + h.val) * 128 + e.val = k.val * 1024 + (h.val * 128 + e.val)
    omega)

theorem wide_apply (e : Fin 128) :
    wideOf w (ix2 k (headCol h e)) = lanes (fun i => w (ix2 k (plainCol h i))) (fun j i => w (ix2 k (turnCol h j i))) (fun _ => 0) e := by
  refine (flat256 k h _ e).trans ?_
  refine lane_cases (fun e => concatenate S256x8x128 2 [⟨S256x8x96, headsOf w⟩, ⟨S256x8x32, zeros bcast_S_S256x8x32⟩]
      concatenates_S256x8x96_S256x8x32_S256x8x128_d2 (ix3 k h e)
      = lanes (fun i => w (ix2 k (plainCol h i))) (fun j i => w (ix2 k (turnCol h j i))) (fun _ => 0) e) (fun i => ?_) (fun j i => ?_) (fun i => ?_) e
  · rw [lanes_0]
    have hi := i.isLt
    exact (qa_0 _ _ k h ⟨i.val, by omega⟩ _ (by show i.val = 0 + i.val; omega)).trans (heads_apply w k h _ _ rfl)
  · rw [lanes_R]
    have hi := i.isLt; have hj := j.isLt
    exact (qa_0 _ _ k h ⟨64 + j.val * 8 + i.val, by omega⟩ _ (by show 64 + j.val * 8 + i.val = 0 + (64 + j.val * 8 + i.val); omega)).trans
      (heads_apply w k h _ _ rfl)
  · rw [lanes_5]
    exact (qa_1 _ _ k h i _ (by show 96 + i.val = 96 + i.val; omega)).trans (zeros_apply _ _)

/-- A rotated column of a head, among the rows of heads. -/
theorem turn_apply (j : Fin 4) (i : Fin 8) (a : Fin 2048) (ha : a.val = k.val * 8 + h.val) :
    shapeCast S2048x32 (extractStridedSlice S256x8x32 ![0, 0, 64] (headsOf w) slices_S256x8x96_S256x8x32_0_0_64) shapeCasts_S256x8x32_S2048x32
      (ix2 a (quarter j i)) = w (ix2 k (turnCol h j i)) := by
  refine (shapeCast_apply _ shapeCasts_S256x8x32_S2048x32 (ix2 a (quarter j i)) (ix3 k h (quarter j i)) (by
    rw [Shape.rowMajor_val_two, Shape.rowMajor_val_three]
    show (k.val * 8 + h.val) * 32 + (quarter j i).val = a.val * 32 + (quarter j i).val
    rw [ha])).trans ?_
  have hi := i.isLt; have hj := j.isLt
  refine (extractStridedSlice_apply ![0, 0, 64] (headsOf w) slices_S256x8x96_S256x8x32_0_0_64 (ix3 k h (quarter j i))
    (ix3 k h (⟨64 + (j.val * 8 + i.val), by omega⟩ : Fin 96)) fun b => ?_).trans (heads_apply w k h _ _ (by show h.val * 96 + (64 + j.val * 8 + i.val) = h.val * 96 + (64 + (j.val * 8 + i.val)); omega))
  match b with
  | ⟨0, _⟩ => show k.val = 0 + k.val; omega
  | ⟨1, _⟩ => show h.val = 0 + h.val; omega
  | ⟨2, _⟩ => rfl

theorem wideSwap_apply (e : Fin 128) :
    wideSwap w (ix2 k (headCol h e)) = lanes (fun _ => 0) (swapped fun j i => w (ix2 k (turnCol h j i))) (fun _ => 0) e := by
  refine (flat256 k h _ e).trans ?_
  refine lane_cases (fun e => concatenate S256x8x128 2 [⟨S256x8x64, zeros bcast_S_S256x8x64⟩,
      ⟨S256x8x32, shapeCast S256x8x32 (swap2048 (shapeCast S2048x32 (extractStridedSlice S256x8x32 ![0, 0, 64] (headsOf w)
        slices_S256x8x96_S256x8x32_0_0_64) shapeCasts_S256x8x32_S2048x32)) shapeCasts_S2048x32_S256x8x32⟩,
      ⟨S256x8x32, zeros bcast_S_S256x8x32⟩]
      concatenates_S256x8x64_S256x8x32_S256x8x32_S256x8x128_d2 (ix3 k h e)
      = lanes (fun _ => 0) (swapped fun j i => w (ix2 k (turnCol h j i))) (fun _ => 0) e) (fun i => ?_) (fun j i => ?_) (fun i => ?_) e
  · rw [lanes_0]
    exact (qb_0 _ _ _ k h i _ (by show i.val = 0 + i.val; omega)).trans (zeros_apply _ _)
  · rw [lanes_R]
    have hk := k.isLt; have hh := h.isLt
    refine (qb_1 _ _ _ k h (quarter j i) _ (by show 64 + j.val * 8 + i.val = 64 + (j.val * 8 + i.val); omega)).trans ?_
    refine (shapeCast_apply _ shapeCasts_S2048x32_S256x8x32 (ix3 k h (quarter j i)) (ix2 (⟨k.val * 8 + h.val, by omega⟩ : Fin 2048) (quarter j i)) (by
      rw [Shape.rowMajor_val_two, Shape.rowMajor_val_three]
      rfl)).trans ?_
    refine (swap2048_apply _ _ j i).trans ?_
    exact congrArg (fun f => swapped f j i) (funext fun j => funext fun i => turn_apply w k h j i _ rfl)
  · rw [lanes_5]
    exact (qb_2 _ _ _ k h i _ (by show 96 + i.val = 96 + i.val; omega)).trans (zeros_apply _ _)

end Queries

/-! ## The keys' and values' weights -/

abbrev kvHeads (w : S128x1024.Idx → EReal) : S128x8x128.Idx → EReal := shapeCast S128x8x128 w shapeCasts_S128x1024_S128x8x128

def keysOf (w : S128x1024.Idx → EReal) : S128x1024.Idx → EReal :=
  shapeCast S128x1024 (concatenate S128x8x128 2 [⟨S128x8x64, extractStridedSlice S128x8x64 ![0, 0, 0] (kvHeads w) slices_S128x8x128_S128x8x64_0_0_0⟩,
    ⟨S128x8x64, zeros bcast_S_S128x8x64⟩] concatenates_S128x8x64_S128x8x64_S128x8x128_d2) shapeCasts_S128x8x128_S128x1024

def valuesOf (w : S128x1024.Idx → EReal) : S128x1024.Idx → EReal :=
  shapeCast S128x1024 (concatenate S128x8x128 2 [⟨S128x8x64, extractStridedSlice S128x8x64 ![0, 0, 64] (kvHeads w) slices_S128x8x128_S128x8x64_0_0_64⟩,
    ⟨S128x8x64, zeros bcast_S_S128x8x64⟩] concatenates_S128x8x64_S128x8x64_S128x8x128_d2) shapeCasts_S128x8x128_S128x1024

section Keys

variable (w : S128x1024.Idx → EReal) (k : Fin 128) (h : Fin 8)

theorem kvHeads_apply (l : Fin 128) (c : Fin 1024) (hc : c.val = h.val * 128 + l.val) : kvHeads w (ix3 k h l) = w (ix2 k c) :=
  shapeCast_apply w shapeCasts_S128x1024_S128x8x128 (ix3 k h l) (ix2 k c) (by
    rw [Shape.rowMajor_val_two, Shape.rowMajor_val_three]
    show k.val * 1024 + c.val = (k.val * 8 + h.val) * 128 + l.val
    omega)

theorem flat128 (y : S128x8x128.Idx → EReal) (e : Fin 128) :
    shapeCast S128x1024 y shapeCasts_S128x8x128_S128x1024 (ix2 k (headCol h e)) = y (ix3 k h e) :=
  shapeCast_apply y shapeCasts_S128x8x128_S128x1024 (ix2 k (headCol h e)) (ix3 k h e) (by
    rw [Shape.rowMajor_val_two, Shape.rowMajor_val_three]
    show (k.val * 8 + h.val) * 128 + e.val = k.val * 1024 + (h.val * 128 + e.val)
    omega)

/-- 64 columns followed by 64 zeros, as lanes. -/
theorem halves_apply (p : S128x8x64.Idx → EReal) (e : Fin 128) :
    concatenate S128x8x128 2 [⟨S128x8x64, p⟩, ⟨S128x8x64, zeros bcast_S_S128x8x64⟩] concatenates_S128x8x64_S128x8x64_S128x8x128_d2 (ix3 k h e)
      = lanes (fun i => p (ix3 k h i)) (fun _ _ => 0) (fun _ => 0) e := by
  refine lane_cases (fun e => concatenate S128x8x128 2 [⟨S128x8x64, p⟩, ⟨S128x8x64, zeros bcast_S_S128x8x64⟩]
      concatenates_S128x8x64_S128x8x64_S128x8x128_d2 (ix3 k h e) = lanes (fun i => p (ix3 k h i)) (fun _ _ => 0) (fun _ => 0) e)
    (fun i => ?_) (fun j i => ?_) (fun i => ?_) e
  · rw [lanes_0]
    exact kv_0 _ _ k h i _ (by show i.val = 0 + i.val; omega)
  · rw [lanes_R]
    have hi := i.isLt; have hj := j.isLt
    exact (kv_1 _ _ k h ⟨j.val * 8 + i.val, by omega⟩ _ (by show 64 + j.val * 8 + i.val = 64 + (j.val * 8 + i.val); omega)).trans (zeros_apply _ _)
  · rw [lanes_5]
    have hi := i.isLt
    exact (kv_1 _ _ k h ⟨32 + i.val, by omega⟩ _ (by show 96 + i.val = 64 + (32 + i.val); omega)).trans (zeros_apply _ _)

theorem keyPart_apply (i : Fin 64) :
    extractStridedSlice S128x8x64 ![0, 0, 0] (kvHeads w) slices_S128x8x128_S128x8x64_0_0_0 (ix3 k h i) = w (ix2 k (kCol h i)) := by
  have e : extractStridedSlice S128x8x64 ![0, 0, 0] (kvHeads w) slices_S128x8x128_S128x8x64_0_0_0 (ix3 k h i) = kvHeads w (ix3 k h (lane0 i)) := by
    generalize kvHeads w = y
    refine extractStridedSlice_apply ![0, 0, 0] y slices_S128x8x128_S128x8x64_0_0_0 (ix3 k h i) (ix3 k h (lane0 i)) fun b => ?_
    match b with
    | ⟨0, _⟩ => exact (Nat.zero_add k.val).symm
    | ⟨1, _⟩ => exact (Nat.zero_add h.val).symm
    | ⟨2, _⟩ => exact (Nat.zero_add i.val).symm
  exact e.trans (kvHeads_apply w k h (lane0 i) (kCol h i) rfl)

theorem keys_apply (e : Fin 128) :
    keysOf w (ix2 k (headCol h e)) = lanes (fun i => w (ix2 k (kCol h i))) (fun _ _ => 0) (fun _ => 0) e := by
  unfold keysOf
  rw [flat128, halves_apply]
  exact congrArg (fun f => lanes f (fun _ _ => (0 : EReal)) (fun _ => 0) e) (funext fun i => keyPart_apply w k h i)

theorem values_apply (e : Fin 128) :
    valuesOf w (ix2 k (headCol h e)) = lanes (fun i => w (ix2 k (vCol h i))) (fun _ _ => 0) (fun _ => 0) e := by
  refine (flat128 k h _ e).trans ((halves_apply k h _ e).trans ?_)
  refine congrArg (fun f => lanes f (fun _ _ => (0 : EReal)) (fun _ => 0) e) (funext fun i => ?_)
  have hi := i.isLt
  refine (extractStridedSlice_apply ![0, 0, 64] (kvHeads w) slices_S128x8x128_S128x8x64_0_0_64 (ix3 k h i)
    (ix3 k h (⟨64 + i.val, by omega⟩ : Fin 128)) fun b => ?_).trans (kvHeads_apply w k h _ _ rfl)
  match b with
  | ⟨0, _⟩ => show k.val = 0 + k.val; omega
  | ⟨1, _⟩ => show h.val = 0 + h.val; omega
  | ⟨2, _⟩ => show 64 + i.val = 64 + i.val; omega

end Keys

/-! ## The angles' cosines and sines -/

def cosTable : S4096x128.Idx → EReal :=
  concatenate S4096x128 1 [⟨S4096x64, ones bcast_S_S4096x64⟩, ⟨S4096x8, Host.cos (F := Ideal) (φ := .f32) (angles (places 0))⟩,
    ⟨S4096x8, Host.cos (F := Ideal) (φ := .f32) (angles (places 0))⟩, ⟨S4096x8, Host.cos (F := Ideal) (φ := .f32) (angles (places 1))⟩,
    ⟨S4096x8, Host.cos (F := Ideal) (φ := .f32) (angles (places 1))⟩, ⟨S4096x32, ones bcast_S_S4096x32⟩]
    concatenates_S4096x64_S4096x8_S4096x8_S4096x8_S4096x8_S4096x32_S4096x128_d1

def sinTable : S4096x128.Idx → EReal :=
  concatenate S4096x128 1 [⟨S4096x64, mulf (F := Ideal) (φ := .f32) (zeros bcast_S_S4096x64) (ones bcast_S_S4096x64)⟩,
    ⟨S4096x8, Host.sin (F := Ideal) (φ := .f32) (angles (places 0))⟩,
    ⟨S4096x8, Host.sin (F := Ideal) (φ := .f32) (angles (places 0))⟩, ⟨S4096x8, Host.sin (F := Ideal) (φ := .f32) (angles (places 1))⟩,
    ⟨S4096x8, Host.sin (F := Ideal) (φ := .f32) (angles (places 1))⟩, ⟨S4096x32, zeros bcast_S_S4096x32⟩]
    concatenates_S4096x64_S4096x8_S4096x8_S4096x8_S4096x8_S4096x32_S4096x128_d1

theorem cosTable_apply (n : Fin 4096) (e : Fin 128) :
    cosTable (ix2 n e) = lanes (fun _ => 1) (fun j i => Ideal.cos (angAt n (axisOf j) i)) (fun _ => 1) e := by
  refine lane_cases (fun e => cosTable (ix2 n e) = lanes (fun _ => 1) (fun j i => Ideal.cos (angAt n (axisOf j) i)) (fun _ => 1) e)
    (fun i => ?_) (fun j i => ?_) (fun i => ?_) e
  · rw [lanes_0]
    refine (table_0 _ _ _ _ _ _ n i _ (by show i.val = 0 + i.val; omega)).trans ?_
    exact ones_apply _ _
  · rw [lanes_R]
    match j with
    | ⟨0, _⟩ => exact (table_1 _ _ _ _ _ _ n i _ (by show 64 + 0 * 8 + i.val = 64 + i.val; omega)).trans (congrArg Ideal.cos (angles_apply 0 n i))
    | ⟨1, _⟩ => exact (table_2 _ _ _ _ _ _ n i _ (by show 64 + 1 * 8 + i.val = 72 + i.val; omega)).trans (congrArg Ideal.cos (angles_apply 0 n i))
    | ⟨2, _⟩ => exact (table_3 _ _ _ _ _ _ n i _ (by show 64 + 2 * 8 + i.val = 80 + i.val; omega)).trans (congrArg Ideal.cos (angles_apply 1 n i))
    | ⟨3, _⟩ => exact (table_4 _ _ _ _ _ _ n i _ (by show 64 + 3 * 8 + i.val = 88 + i.val; omega)).trans (congrArg Ideal.cos (angles_apply 1 n i))
  · rw [lanes_5]
    exact (table_5 _ _ _ _ _ _ n i _ (by show 96 + i.val = 96 + i.val; omega)).trans (ones_apply _ _)

theorem sinTable_apply (n : Fin 4096) (e : Fin 128) :
    sinTable (ix2 n e) = lanes (fun _ => 0) (fun j i => Ideal.sin (angAt n (axisOf j) i)) (fun _ => 0) e := by
  refine lane_cases (fun e => sinTable (ix2 n e) = lanes (fun _ => 0) (fun j i => Ideal.sin (angAt n (axisOf j) i)) (fun _ => 0) e)
    (fun i => ?_) (fun j i => ?_) (fun i => ?_) e
  · rw [lanes_0]
    refine (table_0 _ _ _ _ _ _ n i _ (by show i.val = 0 + i.val; omega)).trans ?_
    exact (congrArg (fun v : EReal => v * _) (zeros_apply bcast_S_S4096x64 (ix2 n i))).trans (zero_mul _)
  · rw [lanes_R]
    match j with
    | ⟨0, _⟩ => exact (table_1 _ _ _ _ _ _ n i _ (by show 64 + 0 * 8 + i.val = 64 + i.val; omega)).trans (congrArg Ideal.sin (angles_apply 0 n i))
    | ⟨1, _⟩ => exact (table_2 _ _ _ _ _ _ n i _ (by show 64 + 1 * 8 + i.val = 72 + i.val; omega)).trans (congrArg Ideal.sin (angles_apply 0 n i))
    | ⟨2, _⟩ => exact (table_3 _ _ _ _ _ _ n i _ (by show 64 + 2 * 8 + i.val = 80 + i.val; omega)).trans (congrArg Ideal.sin (angles_apply 1 n i))
    | ⟨3, _⟩ => exact (table_4 _ _ _ _ _ _ n i _ (by show 64 + 3 * 8 + i.val = 88 + i.val; omega)).trans (congrArg Ideal.sin (angles_apply 1 n i))
  · rw [lanes_5]
    exact (table_5 _ _ _ _ _ _ n i _ (by show 96 + i.val = 96 + i.val; omega)).trans (zeros_apply _ _)

end Cert.Proof.AbIn

end
-- ==== Proof.AbIn.Host.lean ====
/-
  The attention mixer's input projection: the arrays its host code hands to the kernel are the spread weights, the tables and the
  gains of its arguments.
-/
module

public import proofs.«01_k».proof.Proof.AbIn.Weights

@[expose] public section

noncomputable section

namespace Cert.Proof.AbIn

open Cert.Kernel6Ideal Cert.Kernel6Ideal.Gen Idealize.ShloMosaic Idealize.ShloMosaic.TcCoe Idealize.SL.Sem
open scoped BigOperators

variable (m : (ℓ : Loc nD τ sig) → Buf (Elt Ideal) ℓ) (ρ : Dev nD → PrngReg)

theorem V_inner (c : Dev nD) : V m c main_v15 = innerOf (m ((c : Thread nD τ).loc main_arg3)) := by
  show StableHlo.after _ _ _ = _
  simp only [hostOps0, List.flatten_cons, List.flatten_nil, List.append_nil, List.cons_append, List.nil_append]
  after_results_simp <;> rfl

theorem V_wide (c : Dev nD) : V m c main_v20 = wideOf (m ((c : Thread nD τ).loc main_arg5)) := by
  show StableHlo.after _ _ _ = _
  simp only [hostOps0, List.flatten_cons, List.flatten_nil, List.append_nil, List.cons_append, List.nil_append]
  after_results_simp <;> rfl

theorem V_wideSwap (c : Dev nD) : V m c main_v34 = wideSwap (m ((c : Thread nD τ).loc main_arg5)) := by
  show StableHlo.after _ _ _ = _
  simp only [hostOps0, List.flatten_cons, List.flatten_nil, List.append_nil, List.cons_append, List.nil_append]
  after_results_simp <;> rfl

theorem V_keys (c : Dev nD) : V m c main_v40 = keysOf (m ((c : Thread nD τ).loc main_arg7)) := by
  show StableHlo.after _ _ _ = _
  simp only [hostOps0, List.flatten_cons, List.flatten_nil, List.append_nil, List.cons_append, List.nil_append]
  after_results_simp <;> rfl

theorem V_values (c : Dev nD) : V m c main_v45 = valuesOf (m ((c : Thread nD τ).loc main_arg7)) := by
  show StableHlo.after _ _ _ = _
  simp only [hostOps0, List.flatten_cons, List.flatten_nil, List.append_nil, List.cons_append, List.nil_append]
  after_results_simp <;> rfl

theorem V_cos (c : Dev nD) : V m c main_v77 = cosTable := by
  show StableHlo.after _ _ _ = _
  simp only [hostOps0, List.flatten_cons, List.flatten_nil, List.append_nil, List.cons_append, List.nil_append]
  after_results_simp <;> rfl

theorem V_sin (c : Dev nD) : V m c main_v85 = sinTable := by
  show StableHlo.after _ _ _ = _
  simp only [hostOps0, List.flatten_cons, List.flatten_nil, List.append_nil, List.cons_append, List.nil_append]
  after_results_simp <;> rfl

theorem V_norm (c : Dev nD) (e : Fin 1024) : V m c main_v86 (ix2 (0 : Fin 1) e) = m ((c : Thread nD τ).loc main_arg2) (ix1 e) := by
  have hv : V m c main_v86 = shapeCast S1x1024 (m ((c : Thread nD τ).loc main_arg2)) shapeCasts_S1024_S1x1024 := by
    show StableHlo.after _ _ _ = _
    simp only [hostOps0, List.flatten_cons, List.flatten_nil, List.append_nil, List.cons_append, List.nil_append]
    after_results_simp <;> rfl
  rw [hv]
  exact shapeCast_apply (s := S1024) _ _ _ _ (by
    rw [Shape.rowMajor_val_one, Shape.rowMajor_val_two]
    show e.val = 0 * 1024 + e.val
    omega)

theorem V_qGain (c : Dev nD) (e : Fin 256) : V m c main_v87 (ix2 (0 : Fin 1) e) = m ((c : Thread nD τ).loc main_arg4) (ix1 e) := by
  have hv : V m c main_v87 = shapeCast S1x256 (m ((c : Thread nD τ).loc main_arg4)) shapeCasts_S256_S1x256 := by
    show StableHlo.after _ _ _ = _
    simp only [hostOps0, List.flatten_cons, List.flatten_nil, List.append_nil, List.cons_append, List.nil_append]
    after_results_simp <;> rfl
  rw [hv]
  exact shapeCast_apply (s := S256) _ _ _ _ (by
    rw [Shape.rowMajor_val_one, Shape.rowMajor_val_two]
    show e.val = 0 * 256 + e.val
    omega)

theorem V_kvGain (c : Dev nD) (e : Fin 128) : V m c main_v88 (ix2 (0 : Fin 1) e) = m ((c : Thread nD τ).loc main_arg6) (ix1 e) := by
  have hv : V m c main_v88 = shapeCast S1x128 (m ((c : Thread nD τ).loc main_arg6)) shapeCasts_S128_S1x128 := by
    show StableHlo.after _ _ _ = _
    simp only [hostOps0, List.flatten_cons, List.flatten_nil, List.append_nil, List.cons_append, List.nil_append]
    after_results_simp <;> rfl
  rw [hv]
  exact shapeCast_apply (s := S128) _ _ _ _ (by
    rw [Shape.rowMajor_val_one, Shape.rowMajor_val_two]
    show e.val = 0 * 128 + e.val
    omega)

end Cert.Proof.AbIn

end
-- ==== Proof.AbIn.Payload.lean ====
/-
  The attention mixer's input projection's body, read at one element: the projected row, its two normalised parts, and the four
  blocks the body stores.
-/
module

public import proofs.«01_k».proof.Proof.AbIn.Weights
public import Idealize.ShloMosaic.Lib.MatmulPlain

@[expose] public section

noncomputable section

namespace Cert.Proof.AbIn

open Cert.Kernel6Ideal Cert.Kernel6Ideal.Gen Idealize.ShloMosaic Idealize.ShloMosaic.TcCoe Idealize.SL.Sem
open Cert.Proof.Ffn (invRms modRow)
open scoped BigOperators

theorem drop_mod {α : Type} (x : S1x1x1x1024.Idx → α) (d : Fin 1024) :
    shapeCast S1x1024 x shapeCasts_S1x1x1x1024_S1x1024 (ix2 (0 : Fin 1) d) = x (ix4 (0 : Fin 1) (0 : Fin 1) (0 : Fin 1) d) :=
  shapeCast_apply x _ _ _ (by
    rw [Shape.rowMajor_val_two, Shape.rowMajor_val_four]
    show ((0 * 1 + 0) * 1 + 0) * 1024 + d.val = 0 * 1024 + d.val
    omega)

theorem drop_tile {α : Type} (x : S1x512x1024.Idx → α) (r : Fin 512) (d : Fin 1024) :
    shapeCast S512x1024 x shapeCasts_S1x512x1024_S512x1024 (ix2 r d) = x (ix3 (0 : Fin 1) r d) :=
  shapeCast_apply x _ _ _ (by
    rw [Shape.rowMajor_val_two, Shape.rowMajor_val_three]
    show (0 * 512 + r.val) * 1024 + d.val = r.val * 1024 + d.val
    omega)

theorem drop_row1024 {α : Type} (x : S1x1024.Idx → α) (d : Fin 1024) :
    shapeCast S1x1024 x shapeCasts_S1x1024_S1x1024 (ix2 (0 : Fin 1) d) = x (ix2 (0 : Fin 1) d) :=
  shapeCast_apply x _ _ _ rfl

theorem lift1024 (r : Fin 512) (j : Fin 1024) : reduces_S512x1024_S512.lift (ix1 r) j = ix2 r j := by
  funext a; apply Fin.ext
  match a with
  | ⟨0, _⟩ => rfl
  | ⟨1, _⟩ => rfl

/-- The sum of squares of a row. -/
theorem sq1024 (x : FVec Ideal S512x1024 .f32) (r : Fin 512) :
    shapeCast S512x1 (multiReduction .add [1] S512 (mulf x x) 0x00000000#32 reduces_S512x1024_S512 (.inl rfl) rfl) shapeCasts_S512_S512x1 (ix2 r (0 : Fin 1))
      = ∑ e, x (ix2 r e) * x (ix2 r e) := by
  refine (shapeCast_apply _ shapeCasts_S512_S512x1 (ix2 r (0 : Fin 1)) (ix1 r) (by
    rw [Shape.rowMajor_val_one, Shape.rowMajor_val_two]
    show r.val = r.val * 1 + 0
    omega)).trans ?_
  refine (Ideal.multiReduction_add_single _ _ reduces_S512x1024_S512 (.inl rfl) rfl (ix1 r)).trans ?_
  exact Finset.sum_congr rfl fun e _ => congrArg (fun i => x i * x i) (lift1024 r e)

theorem drop_row256 {α : Type} (x : S1x256.Idx → α) (d : Fin 256) :
    shapeCast S1x256 x shapeCasts_S1x256_S1x256 (ix2 (0 : Fin 1) d) = x (ix2 (0 : Fin 1) d) :=
  shapeCast_apply x _ _ _ rfl

theorem lift256 (r : Fin 512) (j : Fin 256) : reduces_S512x256_S512.lift (ix1 r) j = ix2 r j := by
  funext a; apply Fin.ext
  match a with
  | ⟨0, _⟩ => rfl
  | ⟨1, _⟩ => rfl

/-- The sum of squares of a row. -/
theorem sq256 (x : FVec Ideal S512x256 .f32) (r : Fin 512) :
    shapeCast S512x1 (multiReduction .add [1] S512 (mulf x x) 0x00000000#32 reduces_S512x256_S512 (.inl rfl) rfl) shapeCasts_S512_S512x1 (ix2 r (0 : Fin 1))
      = ∑ e, x (ix2 r e) * x (ix2 r e) := by
  refine (shapeCast_apply _ shapeCasts_S512_S512x1 (ix2 r (0 : Fin 1)) (ix1 r) (by
    rw [Shape.rowMajor_val_one, Shape.rowMajor_val_two]
    show r.val = r.val * 1 + 0
    omega)).trans ?_
  refine (Ideal.multiReduction_add_single _ _ reduces_S512x256_S512 (.inl rfl) rfl (ix1 r)).trans ?_
  exact Finset.sum_congr rfl fun e _ => congrArg (fun i => x i * x i) (lift256 r e)

theorem drop_row128 {α : Type} (x : S1x128.Idx → α) (d : Fin 128) :
    shapeCast S1x128 x shapeCasts_S1x128_S1x128 (ix2 (0 : Fin 1) d) = x (ix2 (0 : Fin 1) d) :=
  shapeCast_apply x _ _ _ rfl

theorem lift128 (r : Fin 512) (j : Fin 128) : reduces_S512x128_S512.lift (ix1 r) j = ix2 r j := by
  funext a; apply Fin.ext
  match a with
  | ⟨0, _⟩ => rfl
  | ⟨1, _⟩ => rfl

/-- The sum of squares of a row. -/
theorem sq128 (x : FVec Ideal S512x128 .f32) (r : Fin 512) :
    shapeCast S512x1 (multiReduction .add [1] S512 (mulf x x) 0x00000000#32 reduces_S512x128_S512 (.inl rfl) rfl) shapeCasts_S512_S512x1 (ix2 r (0 : Fin 1))
      = ∑ e, x (ix2 r e) * x (ix2 r e) := by
  refine (shapeCast_apply _ shapeCasts_S512_S512x1 (ix2 r (0 : Fin 1)) (ix1 r) (by
    rw [Shape.rowMajor_val_one, Shape.rowMajor_val_two]
    show r.val = r.val * 1 + 0
    omega)).trans ?_
  refine (Ideal.multiReduction_add_single _ _ reduces_S512x128_S512 (.inl rfl) rfl (ix1 r)).trans ?_
  exact Finset.sum_congr rfl fun e _ => congrArg (fun i => x i * x i) (lift128 r e)

theorem prod1024_apply (u : FVec Ideal S512x1024 .bf16) (w : FVec Ideal S1024x2176 .bf16) (r : Fin 512) (l : Fin 2176) :
    Ideal.matmul dot_S512x1024_S1024x2176_S512x2176_1_0_0_1_n_n u (shapeCast S1024x2176 w shapeCasts_S1024x2176_S1024x2176)
      (constant (F := Ideal) S512x2176 .f32 0x00000000#32) (ix2 r l) = ∑ d : Fin 1024, u (ix2 r d) * w (ix2 d l) := by
  refine (Ideal.matmul_plain_apply (M := 512) (K := 1024) (N := 2176) (φ₁ := .bf16) (φ₂ := .bf16) none u _ _ r l).trans ?_
  show Ideal.ofBits .f32 0x00000000#32 + _ = _
  rw [Ideal.ofBits_zero_f32, zero_add]
  refine Finset.sum_congr rfl fun d _ => congrArg (fun b : EReal => u (ix2 r d) * b) ?_
  exact shapeCast_apply _ _ _ (ix2 d l) rfl

theorem prod256_apply (u : FVec Ideal S512x256 .bf16) (w : FVec Ideal S256x1024 .bf16) (r : Fin 512) (l : Fin 1024) :
    Ideal.matmul dot_S512x256_S256x1024_S512x1024_1_0_0_1_n_n u (shapeCast S256x1024 w shapeCasts_S256x1024_S256x1024)
      (constant (F := Ideal) S512x1024 .f32 0x00000000#32) (ix2 r l) = ∑ d : Fin 256, u (ix2 r d) * w (ix2 d l) := by
  refine (Ideal.matmul_plain_apply (M := 512) (K := 256) (N := 1024) (φ₁ := .bf16) (φ₂ := .bf16) none u _ _ r l).trans ?_
  show Ideal.ofBits .f32 0x00000000#32 + _ = _
  rw [Ideal.ofBits_zero_f32, zero_add]
  refine Finset.sum_congr rfl fun d _ => congrArg (fun b : EReal => u (ix2 r d) * b) ?_
  exact shapeCast_apply _ _ _ (ix2 d l) rfl

theorem prod128_apply (u : FVec Ideal S512x128 .bf16) (w : FVec Ideal S128x1024 .bf16) (r : Fin 512) (l : Fin 1024) :
    Ideal.matmul dot_S512x128_S128x1024_S512x1024_1_0_0_1_n_n u (shapeCast S128x1024 w shapeCasts_S128x1024_S128x1024)
      (constant (F := Ideal) S512x1024 .f32 0x00000000#32) (ix2 r l) = ∑ d : Fin 128, u (ix2 r d) * w (ix2 d l) := by
  refine (Ideal.matmul_plain_apply (M := 512) (K := 128) (N := 1024) (φ₁ := .bf16) (φ₂ := .bf16) none u _ _ r l).trans ?_
  show Ideal.ofBits .f32 0x00000000#32 + _ = _
  rw [Ideal.ofBits_zero_f32, zero_add]
  refine Finset.sum_congr rfl fun d _ => congrArg (fun b : EReal => u (ix2 r d) * b) ?_
  exact shapeCast_apply _ _ _ (ix2 d l) rfl

/-- Columns of a row of the projection. -/
theorem cols_apply (y : FVec Ideal S512x2176 .f32) {N o : Nat} (hs : S512x2176.Slices ![0, o] ⟨2, ![512, N]⟩) (r : Fin 512) (l : Fin N) (c : Fin 2176)
    (hc : c.val = o + l.val) : extractStridedSlice ⟨2, ![512, N]⟩ ![0, o] y hs (ix2 r l) = y (ix2 r c) := by
  refine extractStridedSlice_apply ![0, o] y hs (ix2 r l) (ix2 r c) fun a => ?_
  match a with
  | ⟨0, _⟩ => exact (Nat.zero_add r.val).symm
  | ⟨1, _⟩ => exact hc

/-- A head's 128 lanes of a row. -/
theorem head_apply (y : FVec Ideal S512x1024 .f32) {o : Nat} (hs : S512x1024.Slices ![0, o] S512x128) (r : Fin 512) (h : Fin 8) (e : Fin 128)
    (ho : o = h.val * 128) : extractStridedSlice S512x128 ![0, o] y hs (ix2 r e) = y (ix2 r (headCol h e)) := by
  subst ho
  refine extractStridedSlice_apply _ y hs (ix2 r e) (ix2 r (headCol h e)) fun a => ?_
  match a with
  | ⟨0, _⟩ => exact (Nat.zero_add r.val).symm
  | ⟨1, _⟩ => rfl

theorem lead {N : Nat} {α : Type} (y : Shape.Idx ⟨2, ![512, N]⟩ → α) (hc : Shape.ShapeCasts ⟨2, ![512, N]⟩ ⟨3, ![1, 512, N]⟩) (r : Fin 512) (l : Fin N) :
    shapeCast ⟨3, ![1, 512, N]⟩ y hc (ix3 (0 : Fin 1) r l) = y (ix2 r l) :=
  shapeCast_apply _ hc (ix3 (0 : Fin 1) r l) (ix2 r l) (by
    rw [Shape.rowMajor_val_two, Shape.rowMajor_val_three]
    show r.val * N + l.val = (0 * 512 + r.val) * N + l.val
    rw [Nat.zero_mul, Nat.zero_add])

section Rows

variable (x : Vec Ideal S1x512x1024 .f32) (s c : Vec Ideal S1x1x1x1024 .f32) (g : Vec Ideal S1x1024 .f32) (w : Vec Ideal S1024x2176 .bf16)

/-- A modulated row of the tile times a column of the weights. -/
def zRow (r : Fin 512) (l : Fin 2176) : EReal :=
  ∑ d, modRow (fun e => x (ix3 (0 : Fin 1) r e)) (fun e => g (ix2 (0 : Fin 1) e)) (fun e => s (ix4 (0 : Fin 1) (0 : Fin 1) (0 : Fin 1) e))
    (fun e => c (ix4 (0 : Fin 1) (0 : Fin 1) (0 : Fin 1) e)) d * w (ix2 d l)

theorem z_apply (r : Fin 512) (l : Fin 2176) : k0_pay1 (F := Ideal) x g s c w (ix2 r l) = zRow x s c g w r l := by
  unfold k0_pay1
  refine (prod1024_apply _ w r l).trans ?_
  refine Finset.sum_congr rfl fun d _ => congrArg (fun a : EReal => a * w (ix2 d l)) ?_
  pointwise
  rw [sq1024, drop_tile, drop_row1024, drop_mod, drop_mod]
  simp only [drop_tile]
  rfl

end Rows

/-- Columns of the projection before the spread ones. -/
def qCol (k : Fin 256) : Fin 2176 := ⟨k.val, by have := k.isLt; omega⟩
def kvCol (k : Fin 128) : Fin 2176 := ⟨256 + k.val, by have := k.isLt; omega⟩

theorem norm256_apply (y : FVec Ideal S512x256 .f32) (g : Vec Ideal S1x256 .f32) (r : Fin 512) (k : Fin 256) :
    mulf (mulf y (broadcastTo S512x256 (rsqrt (addf (divf (shapeCast S512x1 (multiReduction .add [1] S512 (mulf y y) 0x00000000#32 reduces_S512x256_S512 (.inl rfl) rfl)
        shapeCasts_S512_S512x1) (broadcast S512x1 (Scalar.ofBits (F := Ideal) .f32 0x43800000#32))) (broadcast S512x1 (Scalar.ofBits (F := Ideal) .f32 0x358637BD#32))))
        broadcasts_S512x1_S512x256)) (broadcastTo S512x256 (shapeCast S1x256 g shapeCasts_S1x256_S1x256) broadcasts_S1x256_S512x256) (ix2 r k)
      = normed 0x43800000#32 (fun k => y (ix2 r k)) (fun k => g (ix2 (0 : Fin 1) k)) k := by
  pointwise
  rw [sq256, drop_row256]
  rfl

theorem qNorm_apply (z : FVec Ideal S512x2176 .f32) (g : Vec Ideal S1x256 .f32) (r : Fin 512) (k : Fin 256) :
    k0_pay3 (F := Ideal) z g (ix2 r k) = normed 0x43800000#32 (fun k : Fin 256 => z (ix2 r (qCol k))) (fun k => g (ix2 (0 : Fin 1) k)) k := by
  unfold k0_pay3
  refine (norm256_apply _ g r k).trans ?_
  exact congrArg (fun f => normed 0x43800000#32 f (fun k => g (ix2 (0 : Fin 1) k)) k)
    (funext fun k => cols_apply z slices_S512x2176_o0_0_S512x256 r k (qCol k) (by show _ = 0 + k.val; exact (Nat.zero_add k.val).symm))

theorem norm128_apply (y : FVec Ideal S512x128 .f32) (g : Vec Ideal S1x128 .f32) (r : Fin 512) (k : Fin 128) :
    mulf (mulf y (broadcastTo S512x128 (rsqrt (addf (divf (shapeCast S512x1 (multiReduction .add [1] S512 (mulf y y) 0x00000000#32 reduces_S512x128_S512 (.inl rfl) rfl)
        shapeCasts_S512_S512x1) (broadcast S512x1 (Scalar.ofBits (F := Ideal) .f32 0x43000000#32))) (broadcast S512x1 (Scalar.ofBits (F := Ideal) .f32 0x358637BD#32))))
        broadcasts_S512x1_S512x128)) (broadcastTo S512x128 (shapeCast S1x128 g shapeCasts_S1x128_S1x128) broadcasts_S1x128_S512x128) (ix2 r k)
      = normed 0x43000000#32 (fun k => y (ix2 r k)) (fun k => g (ix2 (0 : Fin 1) k)) k := by
  pointwise
  rw [sq128, drop_row128]
  rfl

theorem kvNorm_apply (z : FVec Ideal S512x2176 .f32) (g : Vec Ideal S1x128 .f32) (r : Fin 512) (k : Fin 128) :
    k0_pay4 (F := Ideal) z g (ix2 r k) = normed 0x43000000#32 (fun k : Fin 128 => z (ix2 r (kvCol k))) (fun k => g (ix2 (0 : Fin 1) k)) k := by
  unfold k0_pay4
  refine (norm128_apply _ g r k).trans ?_
  exact congrArg (fun f => normed 0x43000000#32 f (fun k => g (ix2 (0 : Fin 1) k)) k)
    (funext fun k => cols_apply z slices_S512x2176_o0_256_S512x128 r k (kvCol k) (by show _ = 256 + k.val; rfl))

/-! ## The heads' blocks -/

def laneOf (c : Fin 1024) : Fin 128 := ⟨c.val % 128, Nat.mod_lt _ (by omega)⟩

theorem laneOf_head (h : Fin 8) (e : Fin 128) : laneOf (headCol h e) = e :=
  Fin.ext (by show (h.val * 128 + e.val) % 128 = e.val; have := e.isLt; omega)

/-- The queries' block: the wide products turned by the tables, scaled. -/
def queries (qa : S512x1024.Idx → EReal) (cs sn : S512x128.Idx → EReal) (qb : S512x1024.Idx → EReal) (y : S1x512x1024.Idx) : EReal :=
  (qa (ix2 (y 1) (y 2)) * cs (ix2 (y 1) (laneOf (y 2))) + qb (ix2 (y 1) (y 2)) * sn (ix2 (y 1) (laneOf (y 2)))) * Ideal.ofBits .f32 0x3DD105EC#32

/-- The keys' block: the keys' products, the shared turned lanes added to every head. -/
def keys (kk : S512x1024.Idx → EReal) (rot : S512x128.Idx → EReal) (y : S1x512x1024.Idx) : EReal :=
  kk (ix2 (y 1) (y 2)) + rot (ix2 (y 1) (laneOf (y 2)))

theorem tile_idx {N : Nat} (x : Shape.Idx ⟨3, ![1, 512, N]⟩) : ∃ (r : Fin 512) (e : Fin N), x = ix3 (0 : Fin 1) r e :=
  ⟨x 1, x 2, funext fun a => Fin.ext (by
    match a with
    | ⟨0, _⟩ => exact Nat.lt_one_iff.mp (x 0).isLt
    | ⟨1, _⟩ => rfl
    | ⟨2, _⟩ => rfl)⟩

theorem emb_head {o : Nat} (hin : ∀ a, (![0, 0, o] : Fin 3 → Nat) a + S1x512x128.size a ≤ S1x512x1024.size a) (r : Fin 512) (h : Fin 8) (e : Fin 128)
    (ho : o = h.val * 128) : (Rect.unit (s := S1x512x1024) ![0, 0, o] S1x512x128.size hin).emb (ix3 (0 : Fin 1) r e) = (ix3 (0 : Fin 1) r (headCol h e) : S1x512x1024.Idx) := by
  funext a; apply Fin.ext
  match a with
  | ⟨0, _⟩ => rfl
  | ⟨1, _⟩ => show 0 + 1 * r.val = r.val; omega
  | ⟨2, _⟩ => show o + 1 * e.val = h.val * 128 + e.val; omega

theorem query_head (qa qb : FVec Ideal S512x1024 .f32) (cs sn : FVec Ideal S512x128 .f32) {o : Nat} (hs : S512x1024.Slices ![0, o] S512x128)
    (hin : ∀ a, (![0, 0, o] : Fin 3 → Nat) a + S1x512x128.size a ≤ S1x512x1024.size a) (h : Fin 8) (ho : o = h.val * 128) (x : S1x512x128.Idx) :
    shapeCast S1x512x128 (truncf .bf16 (mulf (addf (mulf (extractStridedSlice S512x128 ![0, o] qa hs) cs) (mulf (extractStridedSlice S512x128 ![0, o] qb hs) sn))
        (broadcast S512x128 (Scalar.ofBits (F := Ideal) .f32 0x3DD105EC#32))) bitsLt_bf16_f32) shapeCasts_S512x128_S1x512x128 x
      = queries qa cs sn qb ((Rect.unit (s := S1x512x1024) ![0, 0, o] S1x512x128.size hin).emb x) := by
  obtain ⟨r, e, rfl⟩ := tile_idx x
  refine (lead _ shapeCasts_S512x128_S1x512x128 r e).trans ?_
  refine Eq.trans ?_ (congrArg (queries qa cs sn qb) (emb_head hin r h e ho)).symm
  show (extractStridedSlice S512x128 ![0, o] qa hs (ix2 r e) * cs (ix2 r e) + extractStridedSlice S512x128 ![0, o] qb hs (ix2 r e) * sn (ix2 r e))
      * Ideal.ofBits .f32 0x3DD105EC#32
    = (qa (ix2 r (headCol h e)) * cs (ix2 r (laneOf (headCol h e))) + qb (ix2 r (headCol h e)) * sn (ix2 r (laneOf (headCol h e)))) * Ideal.ofBits .f32 0x3DD105EC#32
  rw [head_apply qa hs r h e ho, head_apply qb hs r h e ho, laneOf_head]

theorem key_head (kk : FVec Ideal S512x1024 .f32) (rot : FVec Ideal S512x128 .f32) {o : Nat} (hs : S512x1024.Slices ![0, o] S512x128)
    (hin : ∀ a, (![0, 0, o] : Fin 3 → Nat) a + S1x512x128.size a ≤ S1x512x1024.size a) (h : Fin 8) (ho : o = h.val * 128) (x : S1x512x128.Idx) :
    shapeCast S1x512x128 (truncf .bf16 (addf (extractStridedSlice S512x128 ![0, o] kk hs) rot) bitsLt_bf16_f32) shapeCasts_S512x128_S1x512x128 x
      = keys kk rot ((Rect.unit (s := S1x512x1024) ![0, 0, o] S1x512x128.size hin).emb x) := by
  obtain ⟨r, e, rfl⟩ := tile_idx x
  refine (lead _ shapeCasts_S512x128_S1x512x128 r e).trans ?_
  refine Eq.trans ?_ (congrArg (keys kk rot) (emb_head hin r h e ho)).symm
  show extractStridedSlice S512x128 ![0, o] kk hs (ix2 r e) + rot (ix2 r e) = kk (ix2 r (headCol h e)) + rot (ix2 r (laneOf (headCol h e)))
  rw [head_apply kk hs r h e ho, laneOf_head]

theorem zero2 : (![0, 0] : Fin 2 → Nat) = 0 := by
  funext a
  match a with
  | ⟨0, _⟩ => rfl
  | ⟨1, _⟩ => rfl

theorem zero3 : (![0, 0, 0] : Fin 3 → Nat) = 0 := by
  funext a
  match a with
  | ⟨0, _⟩ => rfl
  | ⟨1, _⟩ => rfl
  | ⟨2, _⟩ => rfl

theorem zero4 : (![0, 0, 0, 0] : Fin 4 → Nat) = 0 := by
  funext a
  match a with
  | ⟨0, _⟩ => rfl
  | ⟨1, _⟩ => rfl
  | ⟨2, _⟩ => rfl
  | ⟨3, _⟩ => rfl

/-! ## What the body stores -/

section Stored

variable (x0 : Vec Ideal S1x512x1024 .f32) (x1 x2 : Vec Ideal S1x1x1x1024 .f32) (x3 : Vec Ideal S1x1024 .f32) (x4 : Vec Ideal S1024x2176 .bf16)
  (x5 : Vec Ideal S1x256 .f32) (x6 x7 : Vec Ideal S256x1024 .bf16) (x8 : Vec Ideal S1x128 .f32) (x9 x10 : Vec Ideal S128x1024 .bf16)
  (x11 x12 : Vec Ideal S512x128 .f32)

theorem z_stored (r : Fin 512) (l : Fin 2176) : k0_pay32 (F := Ideal) x0 x1 x2 x3 x4 x5 x6 x7 x8 x9 x10 x11 x12 (ix2 r l) = zRow x0 x1 x2 x3 x4 r l := by
  unfold k0_pay32
  simp only [View.ld_unit_zero (S := S1x512x1024) zero3, View.ld_unit_zero (S := S1x1x1x1024) zero4, View.ld_unit_zero (S := S1x1024) zero2,
    View.ld_unit_zero (S := S1024x2176) zero2]
  exact z_apply x0 x1 x2 x3 x4 r l

/-- The tile's normalised rows. -/
def qRow (r : Fin 512) (k : Fin 256) : EReal :=
  normed 0x43800000#32 (fun k : Fin 256 => zRow x0 x1 x2 x3 x4 r (qCol k)) (fun k => x5 (ix2 (0 : Fin 1) k)) k

def kvRow (r : Fin 512) (k : Fin 128) : EReal :=
  normed 0x43000000#32 (fun k : Fin 128 => zRow x0 x1 x2 x3 x4 r (kvCol k)) (fun k => x8 (ix2 (0 : Fin 1) k)) k

theorem q_stored (r : Fin 512) (k : Fin 256) : k0_pay33 (F := Ideal) x0 x1 x2 x3 x4 x5 x6 x7 x8 x9 x10 x11 x12 (ix2 r k) = qRow x0 x1 x2 x3 x4 x5 r k := by
  unfold k0_pay33
  simp only [View.ld_unit_zero (S := S1x256) zero2]
  refine (qNorm_apply _ x5 r k).trans ?_
  exact congrArg (fun f => normed 0x43800000#32 f (fun k => x5 (ix2 (0 : Fin 1) k)) k) (funext fun k => z_stored x0 x1 x2 x3 x4 x5 x6 x7 x8 x9 x10 x11 x12 r (qCol k))

theorem kv_stored (r : Fin 512) (k : Fin 128) : k0_pay34 (F := Ideal) x0 x1 x2 x3 x4 x5 x6 x7 x8 x9 x10 x11 x12 (ix2 r k) = kvRow x0 x1 x2 x3 x4 x8 r k := by
  unfold k0_pay34
  simp only [View.ld_unit_zero (S := S1x128) zero2]
  refine (kvNorm_apply _ x8 r k).trans ?_
  exact congrArg (fun f => normed 0x43000000#32 f (fun k => x8 (ix2 (0 : Fin 1) k)) k) (funext fun k => z_stored x0 x1 x2 x3 x4 x5 x6 x7 x8 x9 x10 x11 x12 r (kvCol k))

theorem qa_stored (r : Fin 512) (l : Fin 1024) :
    k0_pay36 (F := Ideal) x0 x1 x2 x3 x4 x5 x6 x7 x8 x9 x10 x11 x12 (ix2 r l) = ∑ k, qRow x0 x1 x2 x3 x4 x5 r k * x6 (ix2 k l) := by
  unfold k0_pay36 k0_pay35
  simp only [View.ld_unit_zero (S := S256x1024) zero2]
  unfold k0_pay7 k0_pay6
  exact (prod256_apply _ x6 r l).trans (Finset.sum_congr rfl fun k _ => congrArg (fun a : EReal => a * x6 (ix2 k l)) (q_stored x0 x1 x2 x3 x4 x5 x6 x7 x8 x9 x10 x11 x12 r k))

theorem qb_stored (r : Fin 512) (l : Fin 1024) :
    k0_pay40 (F := Ideal) x0 x1 x2 x3 x4 x5 x6 x7 x8 x9 x10 x11 x12 (ix2 r l) = ∑ k, qRow x0 x1 x2 x3 x4 x5 r k * x7 (ix2 k l) := by
  unfold k0_pay40
  simp only [View.ld_unit_zero (S := S256x1024) zero2]
  unfold k0_pay11
  exact (prod256_apply _ x7 r l).trans (Finset.sum_congr rfl fun k _ => congrArg (fun a : EReal => a * x7 (ix2 k l)) (q_stored x0 x1 x2 x3 x4 x5 x6 x7 x8 x9 x10 x11 x12 r k))

theorem kk_stored (r : Fin 512) (l : Fin 1024) :
    k0_pay37 (F := Ideal) x0 x1 x2 x3 x4 x5 x6 x7 x8 x9 x10 x11 x12 (ix2 r l) = ∑ k, kvRow x0 x1 x2 x3 x4 x8 r k * x9 (ix2 k l) := by
  unfold k0_pay37
  simp only [View.ld_unit_zero (S := S128x1024) zero2]
  unfold k0_pay8
  exact (prod128_apply _ x9 r l).trans (Finset.sum_congr rfl fun k _ => congrArg (fun a : EReal => a * x9 (ix2 k l)) (kv_stored x0 x1 x2 x3 x4 x5 x6 x7 x8 x9 x10 x11 x12 r k))

theorem same_table (t : Vec Ideal S512x128 .f32) (r : Fin 512) (e : Fin 128) :
    shapeCast S512x128 t shapeCasts_S512x128_S512x128 (ix2 r e) = t (ix2 r e) :=
  shapeCast_apply t _ _ _ rfl

theorem cos_stored (r : Fin 512) (e : Fin 128) : k0_pay38 (F := Ideal) x0 x1 x2 x3 x4 x5 x6 x7 x8 x9 x10 x11 x12 (ix2 r e) = x11 (ix2 r e) := by
  unfold k0_pay38
  simp only [View.ld_unit_zero (S := S512x128) zero2]
  exact same_table x11 r e

theorem sin_stored (r : Fin 512) (e : Fin 128) : k0_pay39 (F := Ideal) x0 x1 x2 x3 x4 x5 x6 x7 x8 x9 x10 x11 x12 (ix2 r e) = x12 (ix2 r e) := by
  unfold k0_pay39
  simp only [View.ld_unit_zero (S := S512x128) zero2]
  exact same_table x12 r e

theorem turn_of (z : FVec Ideal S512x2176 .f32) (cs sn : Vec Ideal S512x128 .f32) (r : Fin 512) (e : Fin 128) :
    k0_pay12 (F := Ideal) z cs sn (ix2 r e) = z (ix2 r (spreadCol e)) * cs (ix2 r e) + z (ix2 r (swapCol e)) * sn (ix2 r e) := by
  unfold k0_pay12
  show extractStridedSlice S512x128 ![0, 384] z slices_S512x2176_o0_384_S512x128 (ix2 r e) * k0_pay9 (F := Ideal) cs (ix2 r e)
    + extractStridedSlice S512x128 ![0, 512] z slices_S512x2176_o0_512_S512x128 (ix2 r e) * k0_pay10 (F := Ideal) sn (ix2 r e) = _
  exact congrArg₂ (fun a b : EReal => a + b)
    (congrArg₂ (fun a b : EReal => a * b) (cols_apply z slices_S512x2176_o0_384_S512x128 r e (spreadCol e) rfl) (same_table cs r e))
    (congrArg₂ (fun a b : EReal => a * b) (cols_apply z slices_S512x2176_o0_512_S512x128 r e (swapCol e) rfl) (same_table sn r e))

theorem rot_stored (r : Fin 512) (e : Fin 128) :
    k0_pay41 (F := Ideal) x0 x1 x2 x3 x4 x5 x6 x7 x8 x9 x10 x11 x12 (ix2 r e)
      = zRow x0 x1 x2 x3 x4 r (spreadCol e) * x11 (ix2 r e) + zRow x0 x1 x2 x3 x4 r (swapCol e) * x12 (ix2 r e) := by
  unfold k0_pay41
  simp only [View.ld_unit_zero (S := S512x128) zero2]
  refine (turn_of _ x11 x12 r e).trans ?_
  rw [z_stored, z_stored]

theorem out13_eq (y : S1x512x1024.Idx) :
    out0_13 (F := Ideal) x0 x1 x2 x3 x4 x5 x6 x7 x8 x9 x10 x11 x12 y = queries (k0_pay36 (F := Ideal) x0 x1 x2 x3 x4 x5 x6 x7 x8 x9 x10 x11 x12) (k0_pay38 (F := Ideal) x0 x1 x2 x3 x4 x5 x6 x7 x8 x9 x10 x11 x12) (k0_pay39 (F := Ideal) x0 x1 x2 x3 x4 x5 x6 x7 x8 x9 x10 x11 x12) (k0_pay40 (F := Ideal) x0 x1 x2 x3 x4 x5 x6 x7 x8 x9 x10 x11 x12) y := by
  unfold out0_13
  refine View.canon_apply_of_pieces (Val := Elt Ideal) (queries (k0_pay36 (F := Ideal) x0 x1 x2 x3 x4 x5 x6 x7 x8 x9 x10 x11 x12) (k0_pay38 (F := Ideal) x0 x1 x2 x3 x4 x5 x6 x7 x8 x9 x10 x11 x12) (k0_pay39 (F := Ideal) x0 x1 x2 x3 x4 x5 x6 x7 x8 x9 x10 x11 x12) (k0_pay40 (F := Ideal) x0 x1 x2 x3 x4 x5 x6 x7 x8 x9 x10 x11 x12)) _ ?_ y
    (cover0_13 _ _ _ _ _ _ _ _ y)
  intro pc hpc
  rcases List.mem_cons.mp hpc with rfl | hpc
  · exact fun x => query_head _ _ _ _ slices_S512x1024_o0_896_S512x128 inb_S1x512x1024_S1x512x128_0_0_896 7 rfl x
  rcases List.mem_cons.mp hpc with rfl | hpc
  · exact fun x => query_head _ _ _ _ slices_S512x1024_o0_768_S512x128 inb_S1x512x1024_S1x512x128_0_0_768 6 rfl x
  rcases List.mem_cons.mp hpc with rfl | hpc
  · exact fun x => query_head _ _ _ _ slices_S512x1024_o0_640_S512x128 inb_S1x512x1024_S1x512x128_0_0_640 5 rfl x
  rcases List.mem_cons.mp hpc with rfl | hpc
  · exact fun x => query_head _ _ _ _ slices_S512x1024_o0_512_S512x128 inb_S1x512x1024_S1x512x128_0_0_512 4 rfl x
  rcases List.mem_cons.mp hpc with rfl | hpc
  · exact fun x => query_head _ _ _ _ slices_S512x1024_o0_384_S512x128 inb_S1x512x1024_S1x512x128_0_0_384 3 rfl x
  rcases List.mem_cons.mp hpc with rfl | hpc
  · exact fun x => query_head _ _ _ _ slices_S512x1024_o0_256_S512x128 inb_S1x512x1024_S1x512x128_0_0_256 2 rfl x
  rcases List.mem_cons.mp hpc with rfl | hpc
  · exact fun x => query_head _ _ _ _ slices_S512x1024_o0_128_S512x128 inb_S1x512x1024_S1x512x128_0_0_128 1 rfl x
  rcases List.mem_cons.mp hpc with rfl | hpc
  · exact fun x => query_head _ _ _ _ slices_S512x1024_o0_0_S512x128 inb_S1x512x1024_S1x512x128_0_0_0 0 rfl x
  nomatch hpc

theorem out14_eq (y : S1x512x1024.Idx) :
    out0_14 (F := Ideal) x0 x1 x2 x3 x4 x5 x6 x7 x8 x9 x10 x11 x12 y = keys (k0_pay37 (F := Ideal) x0 x1 x2 x3 x4 x5 x6 x7 x8 x9 x10 x11 x12) (k0_pay41 (F := Ideal) x0 x1 x2 x3 x4 x5 x6 x7 x8 x9 x10 x11 x12) y := by
  unfold out0_14
  refine View.canon_apply_of_pieces (Val := Elt Ideal) (keys (k0_pay37 (F := Ideal) x0 x1 x2 x3 x4 x5 x6 x7 x8 x9 x10 x11 x12) (k0_pay41 (F := Ideal) x0 x1 x2 x3 x4 x5 x6 x7 x8 x9 x10 x11 x12)) _ ?_ y (cover0_14 _ _ _ _ _ _ _ _ y)
  intro pc hpc
  rcases List.mem_cons.mp hpc with rfl | hpc
  · exact fun x => key_head _ _ slices_S512x1024_o0_896_S512x128 inb_S1x512x1024_S1x512x128_0_0_896 7 rfl x
  rcases List.mem_cons.mp hpc with rfl | hpc
  · exact fun x => key_head _ _ slices_S512x1024_o0_768_S512x128 inb_S1x512x1024_S1x512x128_0_0_768 6 rfl x
  rcases List.mem_cons.mp hpc with rfl | hpc
  · exact fun x => key_head _ _ slices_S512x1024_o0_640_S512x128 inb_S1x512x1024_S1x512x128_0_0_640 5 rfl x
  rcases List.mem_cons.mp hpc with rfl | hpc
  · exact fun x => key_head _ _ slices_S512x1024_o0_512_S512x128 inb_S1x512x1024_S1x512x128_0_0_512 4 rfl x
  rcases List.mem_cons.mp hpc with rfl | hpc
  · exact fun x => key_head _ _ slices_S512x1024_o0_384_S512x128 inb_S1x512x1024_S1x512x128_0_0_384 3 rfl x
  rcases List.mem_cons.mp hpc with rfl | hpc
  · exact fun x => key_head _ _ slices_S512x1024_o0_256_S512x128 inb_S1x512x1024_S1x512x128_0_0_256 2 rfl x
  rcases List.mem_cons.mp hpc with rfl | hpc
  · exact fun x => key_head _ _ slices_S512x1024_o0_128_S512x128 inb_S1x512x1024_S1x512x128_0_0_128 1 rfl x
  rcases List.mem_cons.mp hpc with rfl | hpc
  · exact fun x => key_head _ _ slices_S512x1024_o0_0_S512x128 inb_S1x512x1024_S1x512x128_0_0_0 0 rfl x
  nomatch hpc

/-- The four blocks. -/
theorem out13_apply (r : Fin 512) (h : Fin 8) (e : Fin 128) :
    out0_13 (F := Ideal) x0 x1 x2 x3 x4 x5 x6 x7 x8 x9 x10 x11 x12 (ix3 (0 : Fin 1) r (headCol h e))
      = ((∑ k, qRow x0 x1 x2 x3 x4 x5 r k * x6 (ix2 k (headCol h e))) * x11 (ix2 r e)
          + (∑ k, qRow x0 x1 x2 x3 x4 x5 r k * x7 (ix2 k (headCol h e))) * x12 (ix2 r e)) * Ideal.ofBits .f32 0x3DD105EC#32 := by
  refine (out13_eq x0 x1 x2 x3 x4 x5 x6 x7 x8 x9 x10 x11 x12 _).trans ?_
  rw [← qa_stored x0 x1 x2 x3 x4 x5 x6 x7 x8 x9 x10 x11 x12, ← qb_stored x0 x1 x2 x3 x4 x5 x6 x7 x8 x9 x10 x11 x12, ← cos_stored x0 x1 x2 x3 x4 x5 x6 x7 x8 x9 x10 x11 x12, ← sin_stored x0 x1 x2 x3 x4 x5 x6 x7 x8 x9 x10 x11 x12]
  exact congrArg (fun e' => (k0_pay36 (F := Ideal) x0 x1 x2 x3 x4 x5 x6 x7 x8 x9 x10 x11 x12 (ix2 r (headCol h e)) * k0_pay38 (F := Ideal) x0 x1 x2 x3 x4 x5 x6 x7 x8 x9 x10 x11 x12 (ix2 r e')
    + k0_pay40 (F := Ideal) x0 x1 x2 x3 x4 x5 x6 x7 x8 x9 x10 x11 x12 (ix2 r (headCol h e)) * k0_pay39 (F := Ideal) x0 x1 x2 x3 x4 x5 x6 x7 x8 x9 x10 x11 x12 (ix2 r e')) * Ideal.ofBits .f32 0x3DD105EC#32) (laneOf_head h e)

theorem out14_apply (r : Fin 512) (h : Fin 8) (e : Fin 128) :
    out0_14 (F := Ideal) x0 x1 x2 x3 x4 x5 x6 x7 x8 x9 x10 x11 x12 (ix3 (0 : Fin 1) r (headCol h e))
      = (∑ k, kvRow x0 x1 x2 x3 x4 x8 r k * x9 (ix2 k (headCol h e)))
          + (zRow x0 x1 x2 x3 x4 r (spreadCol e) * x11 (ix2 r e) + zRow x0 x1 x2 x3 x4 r (swapCol e) * x12 (ix2 r e)) := by
  refine (out14_eq x0 x1 x2 x3 x4 x5 x6 x7 x8 x9 x10 x11 x12 _).trans ?_
  rw [← kk_stored x0 x1 x2 x3 x4 x5 x6 x7 x8 x9 x10 x11 x12, ← rot_stored x0 x1 x2 x3 x4 x5 x6 x7 x8 x9 x10 x11 x12]
  exact congrArg (fun e' => k0_pay37 (F := Ideal) x0 x1 x2 x3 x4 x5 x6 x7 x8 x9 x10 x11 x12 (ix2 r (headCol h e)) + k0_pay41 (F := Ideal) x0 x1 x2 x3 x4 x5 x6 x7 x8 x9 x10 x11 x12 (ix2 r e')) (laneOf_head h e)

theorem out15_apply (r : Fin 512) (l : Fin 1024) :
    out0_15 (F := Ideal) x0 x1 x2 x3 x4 x5 x6 x7 x8 x9 x10 x11 x12 (ix3 (0 : Fin 1) r l) = ∑ k, kvRow x0 x1 x2 x3 x4 x8 r k * x10 (ix2 k l) := by
  unfold out0_15
  rw [View.canon_unit_zero zero3]
  simp only [View.ld_unit_zero (S := S128x1024) zero2, View.ld_unit_zero (S := S1x128) zero2]
  unfold k0_pay5
  refine (lead _ shapeCasts_S512x1024_S1x512x1024 r l).trans ((prod128_apply _ x10 r l).trans ?_)
  refine Finset.sum_congr rfl fun k _ => congrArg (fun a : EReal => a * x10 (ix2 k l)) ?_
  refine (kvNorm_apply _ x8 r k).trans ?_
  exact congrArg (fun f => normed 0x43000000#32 f (fun k => x8 (ix2 (0 : Fin 1) k)) k) (funext fun k => z_stored x0 x1 x2 x3 x4 x5 x6 x7 x8 x9 x10 x11 x12 r (kvCol k))

theorem out16_apply (r : Fin 512) (l : Fin 1536) :
    out0_16 (F := Ideal) x0 x1 x2 x3 x4 x5 x6 x7 x8 x9 x10 x11 x12 (ix3 (0 : Fin 1) r l) = zRow x0 x1 x2 x3 x4 r (restCol l) := by
  unfold out0_16
  rw [View.canon_unit_zero zero3]
  simp only [View.ld_unit_zero (S := S1x512x1024) zero3, View.ld_unit_zero (S := S1x1x1x1024) zero4, View.ld_unit_zero (S := S1x1024) zero2,
    View.ld_unit_zero (S := S1024x2176) zero2]
  unfold k0_pay2
  refine (lead _ shapeCasts_S512x1536_S1x512x1536 r l).trans ?_
  exact (cols_apply _ slices_S512x2176_o0_640_S512x1536 r l (restCol l) rfl).trans (z_apply x0 x1 x2 x3 x4 r (restCol l))

end Stored

end Cert.Proof.AbIn

end
-- ==== Proof.AbIn.Spec.lean ====
/-
  The attention mixer's input projection: its results as functions of the arguments, and the blocks a point leaves as those
  functions' values at its tokens.
-/
module

public import proofs.«01_k».proof.Proof.AbIn.Payload

@[expose] public section

noncomputable section

namespace Cert.Proof.AbIn

open Cert.Kernel6Ideal Cert.Kernel6Ideal.Gen Idealize.ShloMosaic Idealize.ShloMosaic.TcCoe Idealize.SL.Sem
open Cert.Proof.Ffn (invRms modRow)
open scoped BigOperators

def headOf (c : Fin 1024) : Fin 8 := ⟨c.val / 128, by have := c.isLt; omega⟩

theorem headCol_of (c : Fin 1024) : headCol (headOf c) (laneOf c) = c :=
  Fin.ext (by show c.val / 128 * 128 + c.val % 128 = c.val; omega)

theorem headOf_head (h : Fin 8) (e : Fin 128) : headOf (headCol h e) = h :=
  Fin.ext (by show (h.val * 128 + e.val) / 128 = h.val; have := e.isLt; omega)

/-- Columns of the input weights: the queries' and the keys' compressed rows, and the convolution's. -/
def qIn (k : Fin 256) : Fin 1952 := ⟨k.val, by have := k.isLt; omega⟩
def kvIn (k : Fin 128) : Fin 1952 := ⟨256 + k.val, by have := k.isLt; omega⟩
def hyIn (l : Fin 1536) : Fin 1952 := ⟨416 + l.val, by have := l.isLt; omega⟩

/-- The cosines and the sines of a token's angles. -/
def cosAt (n : Fin 4096) (a : Fin 2) (i : Fin 8) : EReal := Ideal.cos (angAt n a i)
def sinAt (n : Fin 4096) (a : Fin 2) (i : Fin 8) : EReal := Ideal.sin (angAt n a i)

section Spec

variable (x : S8x4096x1024.Idx → EReal) (mods : S16x6x1x1024.Idx → EReal) (ng : S1024.Idx → EReal) (w : S1024x1952.Idx → EReal)
  (qg : S256.Idx → EReal) (wq : S256x768.Idx → EReal) (kg : S128.Idx → EReal) (wkv : S128x1024.Idx → EReal)

/-- Row `k` of batch `b`'s modulation vectors. -/
def modAt (b : Fin 8) (k : Fin 6) (d : Fin 1024) : EReal := mods (ix4 ⟨b.val, by have := b.isLt; omega⟩ k (0 : Fin 1) d)

/-- A token's modulated row. -/
def modulated (b : Fin 8) (n : Fin 4096) : Fin 1024 → EReal :=
  modRow (fun e => x (ix3 b n e)) (fun e => ng (ix1 e)) (modAt mods b 0) (modAt mods b 1)

/-- Its product with a column of the input weights. -/
def zAt (b : Fin 8) (n : Fin 4096) (l : Fin 1952) : EReal := ∑ d, modulated x mods ng b n d * w (ix2 d l)

/-- The compressed rows of the queries and of the keys and values, normalised. -/
def qAt (b : Fin 8) (n : Fin 4096) : Fin 256 → EReal :=
  normed 0x43800000#32 (fun k : Fin 256 => zAt x mods ng w b n (qIn k)) fun k => qg (ix1 k)
def kvAt (b : Fin 8) (n : Fin 4096) : Fin 128 → EReal :=
  normed 0x43000000#32 (fun k : Fin 128 => zAt x mods ng w b n (kvIn k)) fun k => kg (ix1 k)

/-- The queries before rotation. -/
def qWide (b : Fin 8) (n : Fin 4096) (l : Fin 768) : EReal := ∑ k, qAt x mods ng w qg b n k * wq (ix2 k l)

/-- The keys and values, a head's 64 key columns before its 64 value columns. -/
def kvWide (b : Fin 8) (n : Fin 4096) (l : Fin 1024) : EReal := ∑ k, kvAt x mods ng w kg b n k * wkv (ix2 k l)

def queryAt (b : Fin 8) (n : Fin 4096) (h : Fin 8) (e : Fin 128) : EReal :=
  lanes (fun i => qWide x mods ng w qg wq b n (plainCol h i))
    (turned (fun j i => qWide x mods ng w qg wq b n (turnCol h j i)) (cosAt n) (sinAt n)) (fun _ => 0) e * Ideal.ofBits .f32 0x3DD105EC#32

def keyAt (b : Fin 8) (n : Fin 4096) (h : Fin 8) (e : Fin 128) : EReal :=
  lanes (fun i => kvWide x mods ng w kg wkv b n (kCol h i))
    (turned (fun j i => zAt x mods ng w b n (keyCol j i)) (cosAt n) (sinAt n)) (fun _ => 0) e

def valueAt (b : Fin 8) (n : Fin 4096) (h : Fin 8) (e : Fin 128) : EReal :=
  lanes (fun i => kvWide x mods ng w kg wkv b n (vCol h i)) (fun _ _ => 0) (fun _ => 0) e

/-- The four results. -/
def queriesOf (i : S8x4096x1024.Idx) : EReal := queryAt x mods ng w qg wq (i 0) (i 1) (headOf (i 2)) (laneOf (i 2))
def keysAll (i : S8x4096x1024.Idx) : EReal := keyAt x mods ng w kg wkv (i 0) (i 1) (headOf (i 2)) (laneOf (i 2))
def valuesAll (i : S8x4096x1024.Idx) : EReal := valueAt x mods ng w kg wkv (i 0) (i 1) (headOf (i 2)) (laneOf (i 2))
def convIn (i : S8x4096x1536.Idx) : EReal := zAt x mods ng w (i 0) (i 1) (hyIn (i 2))

end Spec

/-! ## The spread weights and the tables turn lanes -/

theorem turn_lanes (a : Fin 4 → Fin 8 → EReal) (p : Fin 64 → EReal) (n : Fin 4096) (e : Fin 128) :
    lanes p a (fun _ => 0) e * cosTable (ix2 n e) + lanes (fun _ => 0) (swapped a) (fun _ => 0) e * sinTable (ix2 n e)
      = lanes p (turned a (cosAt n) (sinAt n)) (fun _ => 0) e := by
  rw [cosTable_apply, sinTable_apply]
  refine lane_cases (fun e => lanes p a (fun _ => 0) e * lanes (fun _ => 1) (fun j i => Ideal.cos (angAt n (axisOf j) i)) (fun _ => 1) e
      + lanes (fun _ => 0) (swapped a) (fun _ => 0) e * lanes (fun _ => 0) (fun j i => Ideal.sin (angAt n (axisOf j) i)) (fun _ => 0) e
      = lanes p (turned a (cosAt n) (sinAt n)) (fun _ => 0) e) (fun i => ?_) (fun j i => ?_) (fun i => ?_) e
  · simp only [lanes_0]
    rw [mul_one, mul_zero, add_zero]
  · simp only [lanes_R]
    exact turned_eq a (cosAt n) (sinAt n) j i
  · simp only [lanes_5]
    rw [mul_one, mul_zero, add_zero]

/-- Sums lane by lane. -/
theorem sum_lanes {N : Nat} (f : Fin N → EReal) (p : Fin N → Fin 64 → EReal) (q : Fin N → Fin 4 → Fin 8 → EReal) (e : Fin 128) :
    ∑ k, f k * lanes (p k) (q k) (fun _ => 0) e
      = lanes (fun i => ∑ k, f k * p k i) (fun j i => ∑ k, f k * q k j i) (fun _ => 0) e := by
  refine lane_cases (fun e => ∑ k, f k * lanes (p k) (q k) (fun _ => 0) e
      = lanes (fun i => ∑ k, f k * p k i) (fun j i => ∑ k, f k * q k j i) (fun _ => 0) e) (fun i => ?_) (fun j i => ?_) (fun i => ?_) e
  · simp only [lanes_0]
  · simp only [lanes_R]
  · simp only [lanes_5]
    exact sum_zero f

theorem sum_zero_lanes {N : Nat} (f : Fin N → EReal) (q : Fin N → Fin 4 → Fin 8 → EReal) (e : Fin 128) :
    ∑ k, f k * lanes (fun _ => 0) (q k) (fun _ => 0) e = lanes (fun _ => 0) (fun j i => ∑ k, f k * q k j i) (fun _ => 0) e := by
  rw [sum_lanes]
  exact congrArg (fun p => lanes p (fun j i => ∑ k, f k * q k j i) (fun _ => 0) e) (funext fun _ => sum_zero f)

theorem query_turn (f : Fin 256 → EReal) (wq : S256x768.Idx → EReal) (hf : ∀ k, IsReal (f k)) (hw : ∀ i, IsReal (wq i)) (n : Fin 4096) (h : Fin 8)
    (e : Fin 128) :
    (∑ k, f k * wideOf wq (ix2 k (headCol h e))) * cosTable (ix2 n e) + (∑ k, f k * wideSwap wq (ix2 k (headCol h e))) * sinTable (ix2 n e)
      = lanes (fun i => ∑ k, f k * wq (ix2 k (plainCol h i))) (turned (fun j i => ∑ k, f k * wq (ix2 k (turnCol h j i))) (cosAt n) (sinAt n)) (fun _ => 0) e := by
  refine Eq.trans ?_ (turn_lanes _ _ n e)
  refine congrArg₂ (fun a b : EReal => a * cosTable (ix2 n e) + b * sinTable (ix2 n e)) ?_ ?_
  · refine Eq.trans (Finset.sum_congr rfl fun k _ => congrArg (fun b : EReal => f k * b) (wide_apply wq k h e)) ?_
    exact sum_lanes f _ _ e
  · refine Eq.trans (Finset.sum_congr rfl fun k _ => congrArg (fun b : EReal => f k * b) (wideSwap_apply wq k h e)) ?_
    refine (sum_zero_lanes f _ e).trans ?_
    exact congrArg (fun q => lanes (fun _ => (0 : EReal)) q (fun _ => 0) e) (funext fun j => funext fun i =>
      sum_swapped f (fun k j i => wq (ix2 k (turnCol h j i))) hf (fun k j i => hw _) j i)

theorem key_turn (f : Fin 1024 → EReal) (w : S1024x1952.Idx → EReal) (hf : ∀ k, IsReal (f k)) (hw : ∀ i, IsReal (w i)) (n : Fin 4096) (e : Fin 128) :
    (∑ k, f k * innerOf w (ix2 k (spreadCol e))) * cosTable (ix2 n e) + (∑ k, f k * innerOf w (ix2 k (swapCol e))) * sinTable (ix2 n e)
      = lanes (fun _ => 0) (turned (fun j i => ∑ k, f k * w (ix2 k (keyCol j i))) (cosAt n) (sinAt n)) (fun _ => 0) e := by
  refine Eq.trans ?_ (turn_lanes _ _ n e)
  refine congrArg₂ (fun a b : EReal => a * cosTable (ix2 n e) + b * sinTable (ix2 n e)) ?_ ?_
  · refine Eq.trans (Finset.sum_congr rfl fun k _ => congrArg (fun b : EReal => f k * b) (inner_spread w k e)) ?_
    exact sum_zero_lanes f _ e
  · refine Eq.trans (Finset.sum_congr rfl fun k _ => congrArg (fun b : EReal => f k * b) (inner_swap w k e)) ?_
    refine (sum_zero_lanes f _ e).trans ?_
    exact congrArg (fun q => lanes (fun _ => (0 : EReal)) q (fun _ => 0) e) (funext fun j => funext fun i =>
      sum_swapped f (fun k j i => w (ix2 k (keyCol j i))) hf (fun k j i => hw _) j i)

theorem add_lanes (p : Fin 64 → EReal) (q : Fin 4 → Fin 8 → EReal) (e : Fin 128) :
    lanes p (fun _ _ => 0) (fun _ => 0) e + lanes (fun _ => 0) q (fun _ => 0) e = lanes p q (fun _ => 0) e := by
  refine lane_cases (fun e => lanes p (fun _ _ => 0) (fun _ => 0) e + lanes (fun _ => 0) q (fun _ => 0) e = lanes p q (fun _ => 0) e)
    (fun i => ?_) (fun j i => ?_) (fun i => ?_) e
  · simp only [lanes_0]
    exact add_zero _
  · simp only [lanes_R]
    exact zero_add _
  · simp only [lanes_5]
    exact add_zero _

/-- Products with the keys' or the values' spread weights. -/
theorem half_lanes (f : Fin 128 → EReal) (y : S128x1024.Idx → EReal) (wkv : S128x1024.Idx → EReal) (col : Fin 64 → Fin 1024) (l : Fin 1024) (e : Fin 128)
    (hy : ∀ k, y (ix2 k l) = lanes (fun i => wkv (ix2 k (col i))) (fun _ _ => 0) (fun _ => 0) e) :
    ∑ k, f k * y (ix2 k l) = lanes (fun i => ∑ k, f k * wkv (ix2 k (col i))) (fun _ _ => 0) (fun _ => 0) e := by
  refine Eq.trans (Finset.sum_congr rfl fun k _ => congrArg (fun b : EReal => f k * b) (hy k)) ?_
  refine (sum_lanes f _ _ e).trans ?_
  exact congrArg (fun q => lanes (fun i => ∑ k, f k * wkv (ix2 k (col i))) q (fun _ => 0) e) (funext fun _ => funext fun _ => sum_zero f)

/-! ## A point's blocks -/

section Blocks

variable (x : S8x4096x1024.Idx → EReal) (mods : S16x6x1x1024.Idx → EReal) (ng : S1024.Idx → EReal) (w : S1024x1952.Idx → EReal)
  (qg : S256.Idx → EReal) (wq : S256x768.Idx → EReal) (kg : S128.Idx → EReal) (wkv : S128x1024.Idx → EReal)
  (x0 : Vec Ideal S1x512x1024 .f32) (x1 x2 : Vec Ideal S1x1x1x1024 .f32) (x3 : Vec Ideal S1x1024 .f32) (x4 : Vec Ideal S1024x2176 .bf16)
  (x5 : Vec Ideal S1x256 .f32) (x6 x7 : Vec Ideal S256x1024 .bf16) (x8 : Vec Ideal S1x128 .f32) (x9 x10 : Vec Ideal S128x1024 .bf16)
  (x11 x12 : Vec Ideal S512x128 .f32) (b : Fin 8) (n : Fin 4096) (r : Fin 512)
  (h0 : ∀ d, x0 (ix3 (0 : Fin 1) r d) = x (ix3 b n d)) (h1 : ∀ d, x1 (ix4 (0 : Fin 1) (0 : Fin 1) (0 : Fin 1) d) = modAt mods b 0 d)
  (h2 : ∀ d, x2 (ix4 (0 : Fin 1) (0 : Fin 1) (0 : Fin 1) d) = modAt mods b 1 d) (h3 : ∀ d, x3 (ix2 (0 : Fin 1) d) = ng (ix1 d))
  (h4 : ∀ d l, x4 (ix2 d l) = innerOf w (ix2 d l)) (h5 : ∀ k, x5 (ix2 (0 : Fin 1) k) = qg (ix1 k)) (h6 : ∀ k l, x6 (ix2 k l) = wideOf wq (ix2 k l))
  (h7 : ∀ k l, x7 (ix2 k l) = wideSwap wq (ix2 k l)) (h8 : ∀ k, x8 (ix2 (0 : Fin 1) k) = kg (ix1 k)) (h9 : ∀ k l, x9 (ix2 k l) = keysOf wkv (ix2 k l))
  (h10 : ∀ k l, x10 (ix2 k l) = valuesOf wkv (ix2 k l)) (h11 : ∀ e, x11 (ix2 r e) = cosTable (ix2 n e)) (h12 : ∀ e, x12 (ix2 r e) = sinTable (ix2 n e))

include h0 h1 h2 h3 h4

theorem z_block (l : Fin 2176) : zRow x0 x1 x2 x3 x4 r l = ∑ d, modulated x mods ng b n d * innerOf w (ix2 d l) := by
  unfold zRow modulated
  rw [funext h0, funext h1, funext h2, funext h3]
  exact Finset.sum_congr rfl fun d _ => congrArg (fun b : EReal => _ * b) (h4 d l)

theorem z_col (l : Fin 2176) (l' : Fin 1952) (hl : ∀ d, innerOf w (ix2 d l) = w (ix2 d l')) : zRow x0 x1 x2 x3 x4 r l = zAt x mods ng w b n l' :=
  (z_block x mods ng w x0 x1 x2 x3 x4 b n r h0 h1 h2 h3 h4 l).trans (Finset.sum_congr rfl fun d _ => congrArg (fun b : EReal => _ * b) (hl d))

theorem conv_block (l : Fin 1536) : zRow x0 x1 x2 x3 x4 r (restCol l) = zAt x mods ng w b n (hyIn l) :=
  z_col x mods ng w x0 x1 x2 x3 x4 b n r h0 h1 h2 h3 h4 _ _ fun d => inner_rest w d l

include h5 in
theorem q_block (k : Fin 256) : qRow x0 x1 x2 x3 x4 x5 r k = qAt x mods ng w qg b n k := by
  unfold qRow qAt
  rw [funext h5]
  exact congrArg (fun f => normed 0x43800000#32 f (fun k => qg (ix1 k)) k) (funext fun k =>
    z_col x mods ng w x0 x1 x2 x3 x4 b n r h0 h1 h2 h3 h4 (qCol k) (qIn k) fun d => inner_low w d ⟨k.val, by have := k.isLt; omega⟩)

include h8 in
theorem kv_block (k : Fin 128) : kvRow x0 x1 x2 x3 x4 x8 r k = kvAt x mods ng w kg b n k := by
  unfold kvRow kvAt
  rw [funext h8]
  exact congrArg (fun f => normed 0x43000000#32 f (fun k => kg (ix1 k)) k) (funext fun k =>
    z_col x mods ng w x0 x1 x2 x3 x4 b n r h0 h1 h2 h3 h4 (kvCol k) (kvIn k) fun d => inner_low w d ⟨256 + k.val, by have := k.isLt; omega⟩)

include h5 h6 h7 h11 h12 in
theorem query_block (hqg : ∀ i, IsReal (qg i)) (hwq : ∀ i, IsReal (wq i)) (h : Fin 8) (e : Fin 128) :
    out0_13 (F := Ideal) x0 x1 x2 x3 x4 x5 x6 x7 x8 x9 x10 x11 x12 (ix3 (0 : Fin 1) r (headCol h e)) = queryAt x mods ng w qg wq b n h e := by
  refine (out13_apply _ _ _ _ _ _ _ _ _ _ _ _ _ r h e).trans ?_
  have hq := fun k => q_block x mods ng w qg x0 x1 x2 x3 x4 x5 b n r h0 h1 h2 h3 h4 h5 k
  simp only [hq, h6, h7, h11, h12]
  refine congrArg (fun a : EReal => a * Ideal.ofBits .f32 0x3DD105EC#32) ?_
  exact query_turn (qAt x mods ng w qg b n) wq (fun k => normed_isReal _ (by norm_num : (0 : ℝ) < 256) b256 _ _ (fun k => hqg _) k) hwq n h e

include h8 h9 h11 h12 in
theorem key_block (hng : ∀ i, IsReal (ng i)) (hmods : ∀ i, IsReal (mods i)) (hw : ∀ i, IsReal (w i)) (h : Fin 8) (e : Fin 128) :
    out0_14 (F := Ideal) x0 x1 x2 x3 x4 x5 x6 x7 x8 x9 x10 x11 x12 (ix3 (0 : Fin 1) r (headCol h e)) = keyAt x mods ng w kg wkv b n h e := by
  refine (out14_apply _ _ _ _ _ _ _ _ _ _ _ _ _ r h e).trans ?_
  have hq := fun k => kv_block x mods ng w kg x0 x1 x2 x3 x4 x8 b n r h0 h1 h2 h3 h4 h8 k
  have hz := fun l => z_block x mods ng w x0 x1 x2 x3 x4 b n r h0 h1 h2 h3 h4 l
  simp only [hq, hz, h9, h11, h12]
  refine Eq.trans ?_ (add_lanes _ _ e)
  refine congrArg₂ (fun a b : EReal => a + b) ?_ ?_
  · exact half_lanes (kvAt x mods ng w kg b n) (keysOf wkv) wkv (kCol h) (headCol h e) e fun k => keys_apply wkv k h e
  · exact key_turn (modulated x mods ng b n) w (fun d => modRow_isReal _ _ _ _ (fun d => hng _) (fun d => hmods _) (fun d => hmods _) d) hw n e

include h8 h10 in
theorem value_block (h : Fin 8) (e : Fin 128) :
    out0_15 (F := Ideal) x0 x1 x2 x3 x4 x5 x6 x7 x8 x9 x10 x11 x12 (ix3 (0 : Fin 1) r (headCol h e)) = valueAt x mods ng w kg wkv b n h e := by
  refine (out15_apply _ _ _ _ _ _ _ _ _ _ _ _ _ r (headCol h e)).trans ?_
  have hq := fun k => kv_block x mods ng w kg x0 x1 x2 x3 x4 x8 b n r h0 h1 h2 h3 h4 h8 k
  simp only [hq, h10]
  exact half_lanes (kvAt x mods ng w kg b n) (valuesOf wkv) wkv (vCol h) (headCol h e) e fun k => values_apply wkv k h e

end Blocks

end Cert.Proof.AbIn

end
-- ==== Proof.AbIn.Array.lean ====
/-
  The attention mixer's input projection: the kernel's four result arrays, its tiles' blocks put together.
-/
module

public import proofs.«01_k».proof.Proof.AbIn.Host
public import proofs.«01_k».proof.Proof.AbIn.Spec

@[expose] public section

noncomputable section

namespace Cert.Proof.AbIn

open Cert.Kernel6Ideal Cert.Kernel6Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

theorem t_lt (t : Fin cfg0.N) : t.val < 64 := lt_of_lt_of_eq t.isLt N_0

/-- The batch and the token under point `t`'s block coordinates. -/
def batchAt (t : Fin cfg0.N) : Fin 8 := ⟨t.val / 8, by have := t_lt t; omega⟩
def tokenAt (t : Fin cfg0.N) (r : Fin 512) : Fin 4096 := ⟨t.val % 8 * 512 + r.val, by have := r.isLt; omega⟩

theorem idx0 : ∀ t : Fin cfg0.N, win0_0.index t 0 = t.val / 8 ∧ win0_0.index t 1 = t.val % 8 ∧ win0_0.index t 2 = 0 :=
  (by decide +kernel : ∀ t : Fin grid0.N, _)

theorem blk0 (c : Dev nD) (t : Fin cfg0.N) (r : Fin 512) (d : Fin 1024) :
    iblk m c 0 t (ix3 (0 : Fin 1) r d) = m ((c : Thread nD τ).loc main_arg0) (ix3 (batchAt t) (tokenAt t r) d) := by
  obtain ⟨h0, h1, h2⟩ := idx0 t
  refine Eq.trans ?_ (congrFun (V_main_arg0 m c) _)
  refine congrArg (V m c main_arg0) (funext fun a => Fin.ext ?_)
  match a with
  | ⟨0, _⟩ => exact (Pipeline.Window.rect_emb_val win0_0 t _ 0).trans (by rw [h0]; show t.val / 8 * 1 + 0 = t.val / 8; omega)
  | ⟨1, _⟩ => exact (Pipeline.Window.rect_emb_val win0_0 t _ 1).trans (by rw [h1]; rfl)
  | ⟨2, _⟩ => exact (Pipeline.Window.rect_emb_val win0_0 t _ 2).trans (by rw [h2]; show 0 * 1024 + d.val = d.val; omega)

theorem idx1 : ∀ t : Fin cfg0.N, win0_1.index t 0 = t.val / 8 ∧ win0_1.index t 1 = 0 ∧ win0_1.index t 2 = 0 ∧ win0_1.index t 3 = 0 :=
  (by decide +kernel : ∀ t : Fin grid0.N, _)

theorem blk1 (c : Dev nD) (t : Fin cfg0.N) (d : Fin 1024) :
    iblk m c 1 t (ix4 (0 : Fin 1) (0 : Fin 1) (0 : Fin 1) d) = modAt (m ((c : Thread nD τ).loc main_arg1)) (batchAt t) 0 d := by
  obtain ⟨h0, h1, h2, h3⟩ := idx1 t
  refine Eq.trans ?_ (congrFun (V_main_arg1 m c) _)
  refine congrArg (V m c main_arg1) (funext fun a => Fin.ext ?_)
  match a with
  | ⟨0, _⟩ => exact (Pipeline.Window.rect_emb_val win0_1 t _ 0).trans (by rw [h0]; show t.val / 8 * 1 + 0 = t.val / 8; omega)
  | ⟨1, _⟩ => exact (Pipeline.Window.rect_emb_val win0_1 t _ 1).trans (by rw [h1]; rfl)
  | ⟨2, _⟩ => exact (Pipeline.Window.rect_emb_val win0_1 t _ 2).trans (by rw [h2]; rfl)
  | ⟨3, _⟩ => exact (Pipeline.Window.rect_emb_val win0_1 t _ 3).trans (by rw [h3]; show 0 * 1024 + d.val = d.val; omega)

theorem idx2 : ∀ t : Fin cfg0.N, win0_2.index t 0 = t.val / 8 ∧ win0_2.index t 1 = 1 ∧ win0_2.index t 2 = 0 ∧ win0_2.index t 3 = 0 :=
  (by decide +kernel : ∀ t : Fin grid0.N, _)

theorem blk2 (c : Dev nD) (t : Fin cfg0.N) (d : Fin 1024) :
    iblk m c 2 t (ix4 (0 : Fin 1) (0 : Fin 1) (0 : Fin 1) d) = modAt (m ((c : Thread nD τ).loc main_arg1)) (batchAt t) 1 d := by
  obtain ⟨h0, h1, h2, h3⟩ := idx2 t
  refine Eq.trans ?_ (congrFun (V_main_arg1 m c) _)
  refine congrArg (V m c main_arg1) (funext fun a => Fin.ext ?_)
  match a with
  | ⟨0, _⟩ => exact (Pipeline.Window.rect_emb_val win0_2 t _ 0).trans (by rw [h0]; show t.val / 8 * 1 + 0 = t.val / 8; omega)
  | ⟨1, _⟩ => exact (Pipeline.Window.rect_emb_val win0_2 t _ 1).trans (by rw [h1]; rfl)
  | ⟨2, _⟩ => exact (Pipeline.Window.rect_emb_val win0_2 t _ 2).trans (by rw [h2]; rfl)
  | ⟨3, _⟩ => exact (Pipeline.Window.rect_emb_val win0_2 t _ 3).trans (by rw [h3]; show 0 * 1024 + d.val = d.val; omega)

theorem idx3 : ∀ t : Fin cfg0.N, win0_3.index t 0 = 0 ∧ win0_3.index t 1 = 0 :=
  (by decide +kernel : ∀ t : Fin grid0.N, _)

theorem blk3 (c : Dev nD) (t : Fin cfg0.N) (e : Fin 1024) :
    iblk m c 3 t (ix2 (0 : Fin 1) e) = m ((c : Thread nD τ).loc main_arg2) (ix1 e) := by
  obtain ⟨h0, h1⟩ := idx3 t
  refine Eq.trans ?_ (V_norm m c e)
  refine congrArg (V m c main_v86) (funext fun a => Fin.ext ?_)
  match a with
  | ⟨0, _⟩ => exact (Pipeline.Window.rect_emb_val win0_3 t _ 0).trans (by rw [h0]; show 0 * 1 + 0 = 0; omega)
  | ⟨1, _⟩ => exact (Pipeline.Window.rect_emb_val win0_3 t _ 1).trans (by rw [h1]; show 0 * 1024 + e.val = e.val; omega)

theorem idx5 : ∀ t : Fin cfg0.N, win0_5.index t 0 = 0 ∧ win0_5.index t 1 = 0 :=
  (by decide +kernel : ∀ t : Fin grid0.N, _)

theorem blk5 (c : Dev nD) (t : Fin cfg0.N) (e : Fin 256) :
    iblk m c 5 t (ix2 (0 : Fin 1) e) = m ((c : Thread nD τ).loc main_arg4) (ix1 e) := by
  obtain ⟨h0, h1⟩ := idx5 t
  refine Eq.trans ?_ (V_qGain m c e)
  refine congrArg (V m c main_v87) (funext fun a => Fin.ext ?_)
  match a with
  | ⟨0, _⟩ => exact (Pipeline.Window.rect_emb_val win0_5 t _ 0).trans (by rw [h0]; show 0 * 1 + 0 = 0; omega)
  | ⟨1, _⟩ => exact (Pipeline.Window.rect_emb_val win0_5 t _ 1).trans (by rw [h1]; show 0 * 256 + e.val = e.val; omega)

theorem idx8 : ∀ t : Fin cfg0.N, win0_8.index t 0 = 0 ∧ win0_8.index t 1 = 0 :=
  (by decide +kernel : ∀ t : Fin grid0.N, _)

theorem blk8 (c : Dev nD) (t : Fin cfg0.N) (e : Fin 128) :
    iblk m c 8 t (ix2 (0 : Fin 1) e) = m ((c : Thread nD τ).loc main_arg6) (ix1 e) := by
  obtain ⟨h0, h1⟩ := idx8 t
  refine Eq.trans ?_ (V_kvGain m c e)
  refine congrArg (V m c main_v88) (funext fun a => Fin.ext ?_)
  match a with
  | ⟨0, _⟩ => exact (Pipeline.Window.rect_emb_val win0_8 t _ 0).trans (by rw [h0]; show 0 * 1 + 0 = 0; omega)
  | ⟨1, _⟩ => exact (Pipeline.Window.rect_emb_val win0_8 t _ 1).trans (by rw [h1]; show 0 * 128 + e.val = e.val; omega)

theorem idx4 : ∀ t : Fin cfg0.N, win0_4.index t 0 = 0 ∧ win0_4.index t 1 = 0 :=
  (by decide +kernel : ∀ t : Fin grid0.N, _)

theorem blk4 (c : Dev nD) (t : Fin cfg0.N) (r : Fin 1024) (e : Fin 2176) :
    iblk m c 4 t (ix2 r e) = innerOf (m ((c : Thread nD τ).loc main_arg3)) (ix2 r e) := by
  obtain ⟨h0, h1⟩ := idx4 t
  refine Eq.trans ?_ (congrFun (V_inner m c) _)
  refine congrArg (V m c main_v15) (funext fun a => Fin.ext ?_)
  match a with
  | ⟨0, _⟩ => exact (Pipeline.Window.rect_emb_val win0_4 t _ 0).trans (by rw [h0]; show 0 * 1024 + r.val = r.val; omega)
  | ⟨1, _⟩ => exact (Pipeline.Window.rect_emb_val win0_4 t _ 1).trans (by rw [h1]; show 0 * 2176 + e.val = e.val; omega)

theorem idx6 : ∀ t : Fin cfg0.N, win0_6.index t 0 = 0 ∧ win0_6.index t 1 = 0 :=
  (by decide +kernel : ∀ t : Fin grid0.N, _)

theorem blk6 (c : Dev nD) (t : Fin cfg0.N) (r : Fin 256) (e : Fin 1024) :
    iblk m c 6 t (ix2 r e) = wideOf (m ((c : Thread nD τ).loc main_arg5)) (ix2 r e) := by
  obtain ⟨h0, h1⟩ := idx6 t
  refine Eq.trans ?_ (congrFun (V_wide m c) _)
  refine congrArg (V m c main_v20) (funext fun a => Fin.ext ?_)
  match a with
  | ⟨0, _⟩ => exact (Pipeline.Window.rect_emb_val win0_6 t _ 0).trans (by rw [h0]; show 0 * 256 + r.val = r.val; omega)
  | ⟨1, _⟩ => exact (Pipeline.Window.rect_emb_val win0_6 t _ 1).trans (by rw [h1]; show 0 * 1024 + e.val = e.val; omega)

theorem idx7 : ∀ t : Fin cfg0.N, win0_7.index t 0 = 0 ∧ win0_7.index t 1 = 0 :=
  (by decide +kernel : ∀ t : Fin grid0.N, _)

theorem blk7 (c : Dev nD) (t : Fin cfg0.N) (r : Fin 256) (e : Fin 1024) :
    iblk m c 7 t (ix2 r e) = wideSwap (m ((c : Thread nD τ).loc main_arg5)) (ix2 r e) := by
  obtain ⟨h0, h1⟩ := idx7 t
  refine Eq.trans ?_ (congrFun (V_wideSwap m c) _)
  refine congrArg (V m c main_v34) (funext fun a => Fin.ext ?_)
  match a with
  | ⟨0, _⟩ => exact (Pipeline.Window.rect_emb_val win0_7 t _ 0).trans (by rw [h0]; show 0 * 256 + r.val = r.val; omega)
  | ⟨1, _⟩ => exact (Pipeline.Window.rect_emb_val win0_7 t _ 1).trans (by rw [h1]; show 0 * 1024 + e.val = e.val; omega)

theorem idx9 : ∀ t : Fin cfg0.N, win0_9.index t 0 = 0 ∧ win0_9.index t 1 = 0 :=
  (by decide +kernel : ∀ t : Fin grid0.N, _)

theorem blk9 (c : Dev nD) (t : Fin cfg0.N) (r : Fin 128) (e : Fin 1024) :
    iblk m c 9 t (ix2 r e) = keysOf (m ((c : Thread nD τ).loc main_arg7)) (ix2 r e) := by
  obtain ⟨h0, h1⟩ := idx9 t
  refine Eq.trans ?_ (congrFun (V_keys m c) _)
  refine congrArg (V m c main_v40) (funext fun a => Fin.ext ?_)
  match a with
  | ⟨0, _⟩ => exact (Pipeline.Window.rect_emb_val win0_9 t _ 0).trans (by rw [h0]; show 0 * 128 + r.val = r.val; omega)
  | ⟨1, _⟩ => exact (Pipeline.Window.rect_emb_val win0_9 t _ 1).trans (by rw [h1]; show 0 * 1024 + e.val = e.val; omega)

theorem idx10 : ∀ t : Fin cfg0.N, win0_10.index t 0 = 0 ∧ win0_10.index t 1 = 0 :=
  (by decide +kernel : ∀ t : Fin grid0.N, _)

theorem blk10 (c : Dev nD) (t : Fin cfg0.N) (r : Fin 128) (e : Fin 1024) :
    iblk m c 10 t (ix2 r e) = valuesOf (m ((c : Thread nD τ).loc main_arg7)) (ix2 r e) := by
  obtain ⟨h0, h1⟩ := idx10 t
  refine Eq.trans ?_ (congrFun (V_values m c) _)
  refine congrArg (V m c main_v45) (funext fun a => Fin.ext ?_)
  match a with
  | ⟨0, _⟩ => exact (Pipeline.Window.rect_emb_val win0_10 t _ 0).trans (by rw [h0]; show 0 * 128 + r.val = r.val; omega)
  | ⟨1, _⟩ => exact (Pipeline.Window.rect_emb_val win0_10 t _ 1).trans (by rw [h1]; show 0 * 1024 + e.val = e.val; omega)

theorem idx11 : ∀ t : Fin cfg0.N, win0_11.index t 0 = t.val % 8 ∧ win0_11.index t 1 = 0 :=
  (by decide +kernel : ∀ t : Fin grid0.N, _)

theorem blk11 (c : Dev nD) (t : Fin cfg0.N) (r : Fin 512) (e : Fin 128) :
    iblk m c 11 t (ix2 r e) = cosTable (ix2 (tokenAt t r) e) := by
  obtain ⟨h0, h1⟩ := idx11 t
  refine Eq.trans ?_ (congrFun (V_cos m c) _)
  refine congrArg (V m c main_v77) (funext fun a => Fin.ext ?_)
  match a with
  | ⟨0, _⟩ => exact (Pipeline.Window.rect_emb_val win0_11 t _ 0).trans (by rw [h0]; rfl)
  | ⟨1, _⟩ => exact (Pipeline.Window.rect_emb_val win0_11 t _ 1).trans (by rw [h1]; show 0 * 128 + e.val = e.val; omega)

theorem idx12 : ∀ t : Fin cfg0.N, win0_12.index t 0 = t.val % 8 ∧ win0_12.index t 1 = 0 :=
  (by decide +kernel : ∀ t : Fin grid0.N, _)

theorem blk12 (c : Dev nD) (t : Fin cfg0.N) (r : Fin 512) (e : Fin 128) :
    iblk m c 12 t (ix2 r e) = sinTable (ix2 (tokenAt t r) e) := by
  obtain ⟨h0, h1⟩ := idx12 t
  refine Eq.trans ?_ (congrFun (V_sin m c) _)
  refine congrArg (V m c main_v85) (funext fun a => Fin.ext ?_)
  match a with
  | ⟨0, _⟩ => exact (Pipeline.Window.rect_emb_val win0_12 t _ 0).trans (by rw [h0]; rfl)
  | ⟨1, _⟩ => exact (Pipeline.Window.rect_emb_val win0_12 t _ 1).trans (by rw [h1]; show 0 * 128 + e.val = e.val; omega)

/-- The results of device `c`'s arguments. -/
abbrev result0 (c : Dev nD) : Buf (Elt Ideal) ((c : Thread nD τ).loc main_v89_0) := queriesOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
abbrev result1 (c : Dev nD) : Buf (Elt Ideal) ((c : Thread nD τ).loc main_v89_1) := keysAll (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))
abbrev result2 (c : Dev nD) : Buf (Elt Ideal) ((c : Thread nD τ).loc main_v89_2) := valuesAll (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))
abbrev result3 (c : Dev nD) : Buf (Elt Ideal) ((c : Thread nD τ).loc main_v89_3) := convIn (m ((c : Thread nD τ).loc main_arg0)) (m ((c : Thread nD τ).loc main_arg1)) (m ((c : Thread nD τ).loc main_arg2)) (m ((c : Thread nD τ).loc main_arg3))

theorem idx13 : ∀ t : Fin cfg0.N, win0_13.index t 0 = t.val / 8 ∧ win0_13.index t 1 = t.val % 8 ∧ win0_13.index t 2 = 0 :=
  (by decide +kernel : ∀ t : Fin grid0.N, _)

theorem emb13 (t : Fin cfg0.N) (r : Fin 512) (d : Fin 1024) :
    (win0_13.blk t).view.emb (ix3 (0 : Fin 1) r d) = ix3 (batchAt t) (tokenAt t r) d := by
  obtain ⟨h0, h1, h2⟩ := idx13 t
  funext a; apply Fin.ext
  match a with
  | ⟨0, _⟩ => exact (Pipeline.Window.rect_emb_val win0_13 t _ 0).trans (by rw [h0]; show t.val / 8 * 1 + 0 = t.val / 8; omega)
  | ⟨1, _⟩ => exact (Pipeline.Window.rect_emb_val win0_13 t _ 1).trans (by rw [h1]; rfl)
  | ⟨2, _⟩ => exact (Pipeline.Window.rect_emb_val win0_13 t _ 2).trans (by rw [h2]; show 0 * 1024 + d.val = d.val; omega)

theorem cover13 (i : S8x4096x1024.Idx) :
    ∃ t : Fin cfg0.N, (cfg0.win 13).flush t = true ∧ i ∈ ((cfg0.win 13).blk t).view.set := by
  have h0 : (i 0).val < 8 := (i 0).isLt
  have h1 : (i 1).val < 4096 := (i 1).isLt
  have hN : cfg0.N = 64 := N_0
  have ht : (i 0).val * 8 + (i 1).val / 512 < cfg0.N := by omega
  refine ⟨⟨_, ht⟩, flush0_13 _, ?_⟩
  have e := emb13 ⟨_, ht⟩ ⟨(i 1).val % 512, by omega⟩ (i 2)
  have this : (win0_13.blk ⟨_, ht⟩).view.emb (ix3 (0 : Fin 1) ⟨(i 1).val % 512, by omega⟩ (i 2)) = i := by
    symm
    rw [e]
    funext a; apply Fin.ext
    match a with
    | ⟨0, _⟩ => show (i 0).val = ((i 0).val * 8 + (i 1).val / 512) / 8; omega
    | ⟨1, _⟩ => show (i 1).val = ((i 0).val * 8 + (i 1).val / 512) % 8 * 512 + (i 1).val % 512; omega
    | ⟨2, _⟩ => rfl
  have hm := View.emb_mem_set (win0_13.blk ⟨_, ht⟩).view (ix3 (0 : Fin 1) ⟨(i 1).val % 512, by omega⟩ (i 2))
  rwa [this] at hm

theorem flushed_eq13 (c : Dev nD) (hqg : ∀ i, IsReal ((m ((c : Thread nD τ).loc main_arg4)) i)) (hwq : ∀ i, IsReal ((m ((c : Thread nD τ).loc main_arg5)) i)) (t : Fin cfg0.N) :
    (dats m 0 c).flushed 13 t = (win0_13.blk t).view.read (Elt Ideal) (result0 m c) := by
  rw [Value.flushed13]
  funext y
  show out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
    = result0 m c ((win0_13.blk t).view.emb y)
  obtain ⟨r, d, rfl⟩ := tile_idx y
  rw [emb13]
  refine (congrArg (fun d' => out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 (0 : Fin 1) r d')) (headCol_of d)).symm.trans ?_
  exact query_block _ _ _ _ _ _ _ _ _ _ _ _ _ _ _ _ _ _ _ (batchAt t) (tokenAt t r) r (blk0 m c t r) (blk1 m c t) (blk2 m c t) (blk3 m c t) (blk4 m c t) (blk5 m c t) (blk6 m c t) (blk7 m c t) (blk11 m c t r) (blk12 m c t r) hqg hwq (headOf d) (laneOf d)

theorem final13 (c : Dev nD) (hqg : ∀ i, IsReal ((m ((c : Thread nD τ).loc main_arg4)) i)) (hwq : ∀ i, IsReal ((m ((c : Thread nD τ).loc main_arg5)) i)) : (dats m 0 c).arrAt 13 cfg0.N = result0 m c :=
  (dats m 0 c).arrAt_eq_of_cover 13 (result0 m c) (fun t _ => flushed_eq13 m c hqg hwq t) cover13

theorem idx14 : ∀ t : Fin cfg0.N, win0_14.index t 0 = t.val / 8 ∧ win0_14.index t 1 = t.val % 8 ∧ win0_14.index t 2 = 0 :=
  (by decide +kernel : ∀ t : Fin grid0.N, _)

theorem emb14 (t : Fin cfg0.N) (r : Fin 512) (d : Fin 1024) :
    (win0_14.blk t).view.emb (ix3 (0 : Fin 1) r d) = ix3 (batchAt t) (tokenAt t r) d := by
  obtain ⟨h0, h1, h2⟩ := idx14 t
  funext a; apply Fin.ext
  match a with
  | ⟨0, _⟩ => exact (Pipeline.Window.rect_emb_val win0_14 t _ 0).trans (by rw [h0]; show t.val / 8 * 1 + 0 = t.val / 8; omega)
  | ⟨1, _⟩ => exact (Pipeline.Window.rect_emb_val win0_14 t _ 1).trans (by rw [h1]; rfl)
  | ⟨2, _⟩ => exact (Pipeline.Window.rect_emb_val win0_14 t _ 2).trans (by rw [h2]; show 0 * 1024 + d.val = d.val; omega)

theorem cover14 (i : S8x4096x1024.Idx) :
    ∃ t : Fin cfg0.N, (cfg0.win 14).flush t = true ∧ i ∈ ((cfg0.win 14).blk t).view.set := by
  have h0 : (i 0).val < 8 := (i 0).isLt
  have h1 : (i 1).val < 4096 := (i 1).isLt
  have hN : cfg0.N = 64 := N_0
  have ht : (i 0).val * 8 + (i 1).val / 512 < cfg0.N := by omega
  refine ⟨⟨_, ht⟩, flush0_14 _, ?_⟩
  have e := emb14 ⟨_, ht⟩ ⟨(i 1).val % 512, by omega⟩ (i 2)
  have this : (win0_14.blk ⟨_, ht⟩).view.emb (ix3 (0 : Fin 1) ⟨(i 1).val % 512, by omega⟩ (i 2)) = i := by
    symm
    rw [e]
    funext a; apply Fin.ext
    match a with
    | ⟨0, _⟩ => show (i 0).val = ((i 0).val * 8 + (i 1).val / 512) / 8; omega
    | ⟨1, _⟩ => show (i 1).val = ((i 0).val * 8 + (i 1).val / 512) % 8 * 512 + (i 1).val % 512; omega
    | ⟨2, _⟩ => rfl
  have hm := View.emb_mem_set (win0_14.blk ⟨_, ht⟩).view (ix3 (0 : Fin 1) ⟨(i 1).val % 512, by omega⟩ (i 2))
  rwa [this] at hm

theorem flushed_eq14 (c : Dev nD) (hng : ∀ i, IsReal ((m ((c : Thread nD τ).loc main_arg2)) i)) (hmods : ∀ i, IsReal ((m ((c : Thread nD τ).loc main_arg1)) i)) (hw : ∀ i, IsReal ((m ((c : Thread nD τ).loc main_arg3)) i)) (t : Fin cfg0.N) :
    (dats m 0 c).flushed 14 t = (win0_14.blk t).view.read (Elt Ideal) (result1 m c) := by
  rw [Value.flushed14]
  funext y
  show out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
    = result1 m c ((win0_14.blk t).view.emb y)
  obtain ⟨r, d, rfl⟩ := tile_idx y
  rw [emb14]
  refine (congrArg (fun d' => out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 (0 : Fin 1) r d')) (headCol_of d)).symm.trans ?_
  exact key_block _ _ _ _ _ _ _ _ _ _ _ _ _ _ _ _ _ _ _ (batchAt t) (tokenAt t r) r (blk0 m c t r) (blk1 m c t) (blk2 m c t) (blk3 m c t) (blk4 m c t) (blk8 m c t) (blk9 m c t) (blk11 m c t r) (blk12 m c t r) hng hmods hw (headOf d) (laneOf d)

theorem final14 (c : Dev nD) (hng : ∀ i, IsReal ((m ((c : Thread nD τ).loc main_arg2)) i)) (hmods : ∀ i, IsReal ((m ((c : Thread nD τ).loc main_arg1)) i)) (hw : ∀ i, IsReal ((m ((c : Thread nD τ).loc main_arg3)) i)) : (dats m 0 c).arrAt 14 cfg0.N = result1 m c :=
  (dats m 0 c).arrAt_eq_of_cover 14 (result1 m c) (fun t _ => flushed_eq14 m c hng hmods hw t) cover14

theorem idx15 : ∀ t : Fin cfg0.N, win0_15.index t 0 = t.val / 8 ∧ win0_15.index t 1 = t.val % 8 ∧ win0_15.index t 2 = 0 :=
  (by decide +kernel : ∀ t : Fin grid0.N, _)

theorem emb15 (t : Fin cfg0.N) (r : Fin 512) (d : Fin 1024) :
    (win0_15.blk t).view.emb (ix3 (0 : Fin 1) r d) = ix3 (batchAt t) (tokenAt t r) d := by
  obtain ⟨h0, h1, h2⟩ := idx15 t
  funext a; apply Fin.ext
  match a with
  | ⟨0, _⟩ => exact (Pipeline.Window.rect_emb_val win0_15 t _ 0).trans (by rw [h0]; show t.val / 8 * 1 + 0 = t.val / 8; omega)
  | ⟨1, _⟩ => exact (Pipeline.Window.rect_emb_val win0_15 t _ 1).trans (by rw [h1]; rfl)
  | ⟨2, _⟩ => exact (Pipeline.Window.rect_emb_val win0_15 t _ 2).trans (by rw [h2]; show 0 * 1024 + d.val = d.val; omega)

theorem cover15 (i : S8x4096x1024.Idx) :
    ∃ t : Fin cfg0.N, (cfg0.win 15).flush t = true ∧ i ∈ ((cfg0.win 15).blk t).view.set := by
  have h0 : (i 0).val < 8 := (i 0).isLt
  have h1 : (i 1).val < 4096 := (i 1).isLt
  have hN : cfg0.N = 64 := N_0
  have ht : (i 0).val * 8 + (i 1).val / 512 < cfg0.N := by omega
  refine ⟨⟨_, ht⟩, flush0_15 _, ?_⟩
  have e := emb15 ⟨_, ht⟩ ⟨(i 1).val % 512, by omega⟩ (i 2)
  have this : (win0_15.blk ⟨_, ht⟩).view.emb (ix3 (0 : Fin 1) ⟨(i 1).val % 512, by omega⟩ (i 2)) = i := by
    symm
    rw [e]
    funext a; apply Fin.ext
    match a with
    | ⟨0, _⟩ => show (i 0).val = ((i 0).val * 8 + (i 1).val / 512) / 8; omega
    | ⟨1, _⟩ => show (i 1).val = ((i 0).val * 8 + (i 1).val / 512) % 8 * 512 + (i 1).val % 512; omega
    | ⟨2, _⟩ => rfl
  have hm := View.emb_mem_set (win0_15.blk ⟨_, ht⟩).view (ix3 (0 : Fin 1) ⟨(i 1).val % 512, by omega⟩ (i 2))
  rwa [this] at hm

theorem flushed_eq15 (c : Dev nD) (t : Fin cfg0.N) :
    (dats m 0 c).flushed 15 t = (win0_15.blk t).view.read (Elt Ideal) (result2 m c) := by
  rw [Value.flushed15]
  funext y
  show out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
    = result2 m c ((win0_15.blk t).view.emb y)
  obtain ⟨r, d, rfl⟩ := tile_idx y
  rw [emb15]
  refine (congrArg (fun d' => out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 (0 : Fin 1) r d')) (headCol_of d)).symm.trans ?_
  exact value_block _ _ _ _ _ _ _ _ _ _ _ _ _ _ _ _ _ _ _ (batchAt t) (tokenAt t r) r (blk0 m c t r) (blk1 m c t) (blk2 m c t) (blk3 m c t) (blk4 m c t) (blk8 m c t) (blk10 m c t) (headOf d) (laneOf d)

theorem final15 (c : Dev nD) : (dats m 0 c).arrAt 15 cfg0.N = result2 m c :=
  (dats m 0 c).arrAt_eq_of_cover 15 (result2 m c) (fun t _ => flushed_eq15 m c t) cover15

theorem idx16 : ∀ t : Fin cfg0.N, win0_16.index t 0 = t.val / 8 ∧ win0_16.index t 1 = t.val % 8 ∧ win0_16.index t 2 = 0 :=
  (by decide +kernel : ∀ t : Fin grid0.N, _)

theorem emb16 (t : Fin cfg0.N) (r : Fin 512) (d : Fin 1536) :
    (win0_16.blk t).view.emb (ix3 (0 : Fin 1) r d) = ix3 (batchAt t) (tokenAt t r) d := by
  obtain ⟨h0, h1, h2⟩ := idx16 t
  funext a; apply Fin.ext
  match a with
  | ⟨0, _⟩ => exact (Pipeline.Window.rect_emb_val win0_16 t _ 0).trans (by rw [h0]; show t.val / 8 * 1 + 0 = t.val / 8; omega)
  | ⟨1, _⟩ => exact (Pipeline.Window.rect_emb_val win0_16 t _ 1).trans (by rw [h1]; rfl)
  | ⟨2, _⟩ => exact (Pipeline.Window.rect_emb_val win0_16 t _ 2).trans (by rw [h2]; show 0 * 1536 + d.val = d.val; omega)

theorem cover16 (i : S8x4096x1536.Idx) :
    ∃ t : Fin cfg0.N, (cfg0.win 16).flush t = true ∧ i ∈ ((cfg0.win 16).blk t).view.set := by
  have h0 : (i 0).val < 8 := (i 0).isLt
  have h1 : (i 1).val < 4096 := (i 1).isLt
  have hN : cfg0.N = 64 := N_0
  have ht : (i 0).val * 8 + (i 1).val / 512 < cfg0.N := by omega
  refine ⟨⟨_, ht⟩, flush0_16 _, ?_⟩
  have e := emb16 ⟨_, ht⟩ ⟨(i 1).val % 512, by omega⟩ (i 2)
  have this : (win0_16.blk ⟨_, ht⟩).view.emb (ix3 (0 : Fin 1) ⟨(i 1).val % 512, by omega⟩ (i 2)) = i := by
    symm
    rw [e]
    funext a; apply Fin.ext
    match a with
    | ⟨0, _⟩ => show (i 0).val = ((i 0).val * 8 + (i 1).val / 512) / 8; omega
    | ⟨1, _⟩ => show (i 1).val = ((i 0).val * 8 + (i 1).val / 512) % 8 * 512 + (i 1).val % 512; omega
    | ⟨2, _⟩ => rfl
  have hm := View.emb_mem_set (win0_16.blk ⟨_, ht⟩).view (ix3 (0 : Fin 1) ⟨(i 1).val % 512, by omega⟩ (i 2))
  rwa [this] at hm

theorem flushed_eq16 (c : Dev nD) (t : Fin cfg0.N) :
    (dats m 0 c).flushed 16 t = (win0_16.blk t).view.read (Elt Ideal) (result3 m c) := by
  rw [Value.flushed16]
  funext y
  show out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
    = result3 m c ((win0_16.blk t).view.emb y)
  obtain ⟨r, d, rfl⟩ := tile_idx y
  rw [emb16]
  refine (out16_apply _ _ _ _ _ _ _ _ _ _ _ _ _ r d).trans ?_
  exact conv_block _ _ _ _ _ _ _ _ _ (batchAt t) (tokenAt t r) r (blk0 m c t r) (blk1 m c t) (blk2 m c t) (blk3 m c t) (blk4 m c t) d

theorem final16 (c : Dev nD) : (dats m 0 c).arrAt 16 cfg0.N = result3 m c :=
  (dats m 0 c).arrAt_eq_of_cover 16 (result3 m c) (fun t _ => flushed_eq16 m c t) cover16

end Cert.Proof.AbIn

end
-- ==== Proof.AbIn.RefRows.lean ====
/-
  The reference's intermediate arrays, row by row: the modulated rows, the compressed rows and their products, and the angles.
-/
module

public import proofs.«01_k».proof.Proof.AbIn.Spec
public import proofs.«01_k».proof.Proof.Gen.Reference6Ideal.Read
public import Idealize.ShloMosaic.Lib.KernelVsHost

@[expose] public section

noncomputable section

namespace Cert.Proof.AbIn

open Cert.Reference6Ideal Cert.Reference6Ideal.Gen Cert.Reference6Ideal.Read Idealize.ShloMosaic Idealize.ShloMosaic.TcCoe Idealize.SL.Sem
open Cert.Proof.Ffn (invRms modRow)
open scoped BigOperators

variable (x : S8x4096x1024.Idx → EReal) (mods : S16x6x1x1024.Idx → EReal) (ng : S1024.Idx → EReal) (w : S1024x1952.Idx → EReal)
  (qg : S256.Idx → EReal) (wq : S256x768.Idx → EReal) (kg : S128.Idx → EReal) (wkv : S128x1024.Idx → EReal)

/-- The modulation vectors without their unit axis. -/
theorem ref_mods (b : Fin 8) (k : Fin 6) (d : Fin 1024) :
    val_main_v26 (F := Ideal) mods (ix3 b k d) = modAt mods b k d := by
  refine (val_main_v26_apply (F := Ideal) mods _).trans ((val_main_v25_apply (F := Ideal) mods _).trans (congrArg mods ?_))
  have := b.isLt; have := k.isLt; have := d.isLt
  funext a; apply Fin.ext
  match a with
  | ⟨0, _⟩ => show ((b.val * 6 + k.val) * 1024 + d.val) / 6144 = b.val; omega
  | ⟨1, _⟩ => show ((b.val * 6 + k.val) * 1024 + d.val) / 1024 % 6 = k.val; omega
  | ⟨2, _⟩ => rfl
  | ⟨3, _⟩ => show ((b.val * 6 + k.val) * 1024 + d.val) % 1024 = d.val; omega

theorem ref_shift (b : Fin 8) (d : Fin 1024) : val_main_v29 (F := Ideal) mods (ix3 b (0 : Fin 1) d) = modAt mods b 0 d := by
  refine (val_main_v29_apply (F := Ideal) mods _).trans ((val_main_v28_apply (F := Ideal) mods _).trans
    ((val_main_v27_apply (F := Ideal) mods _).trans (Eq.trans (congrArg _ ?_) (ref_mods mods b 0 d))))
  have := b.isLt; have := d.isLt
  funext a; apply Fin.ext
  match a with
  | ⟨0, _⟩ => show (b.val * 1024 + d.val) / 1024 = b.val; omega
  | ⟨1, _⟩ => rfl
  | ⟨2, _⟩ => show (b.val * 1024 + d.val) % 1024 = d.val; omega

theorem ref_scale (b : Fin 8) (d : Fin 1024) : val_main_v32 (F := Ideal) mods (ix3 b (0 : Fin 1) d) = modAt mods b 1 d := by
  refine (val_main_v32_apply (F := Ideal) mods _).trans ((val_main_v31_apply (F := Ideal) mods _).trans
    ((val_main_v30_apply (F := Ideal) mods _).trans (Eq.trans (congrArg _ ?_) (ref_mods mods b 1 d))))
  have := b.isLt; have := d.isLt
  funext a; apply Fin.ext
  match a with
  | ⟨0, _⟩ => show (b.val * 1024 + d.val) / 1024 = b.val; omega
  | ⟨1, _⟩ => rfl
  | ⟨2, _⟩ => show (b.val * 1024 + d.val) % 1024 = d.val; omega

/-- One over the root of a token's mean square. -/
theorem ref_inv (b : Fin 8) (n : Fin 4096) :
    val_main_v40 (F := Ideal) x (ix3 b n (0 : Fin 1)) = invRms fun e => x (ix3 b n e) := by
  refine (val_main_v40_apply (F := Ideal) x _).trans ?_
  refine congrArg Ideal.rsqrt ?_
  refine (val_main_v39_apply (F := Ideal) x _).trans ?_
  refine congrArg₂ (fun a b : EReal => a + b) ?_ (val_main_v38_apply (F := Ideal) _)
  refine (val_main_v37_apply (F := Ideal) x _).trans (congrArg₂ Ideal.div ?_ (val_main_v36_apply (F := Ideal) _))
  refine (val_main_v35_apply (F := Ideal) x _).trans ((val_main_v34_apply x _).trans ?_)
  show Ideal.ofBits .f32 0x00000000#32 + _ = _
  rw [Ideal.ofBits_zero_f32, zero_add]
  refine Finset.sum_congr rfl fun e _ => ?_
  refine (val_main_v33_apply (F := Ideal) x _).trans ?_
  refine congrArg (fun i => x i * x i) ?_
  funext a; apply Fin.ext
  match a with
  | ⟨0, _⟩ => rfl
  | ⟨1, _⟩ => rfl
  | ⟨2, _⟩ => rfl

/-- A token's modulated row. -/
theorem ref_modulated (b : Fin 8) (n : Fin 4096) (d : Fin 1024) :
    val_main_v51 (F := Ideal) x mods ng (ix3 b n d) = modulated x mods ng b n d := by
  refine (val_main_v51_apply (F := Ideal) x mods ng _).trans ?_
  refine congrArg₂ (fun a b : EReal => a + b) ?_ ?_
  · refine (val_main_v49_apply (F := Ideal) x mods ng _).trans (congrArg₂ (fun a b : EReal => a * b) ?_ ?_)
    · refine (val_main_v45_apply (F := Ideal) x ng _).trans (congrArg₂ (fun a b : EReal => a * b) ?_ ?_)
      · refine (val_main_v42_apply (F := Ideal) x _).trans (congrArg (fun r : EReal => x (ix3 b n d) * r) ?_)
        refine (val_main_v41_apply (F := Ideal) x _).trans (Eq.trans (congrArg _ ?_) (ref_inv x b n))
        funext a; apply Fin.ext
        match a with
        | ⟨0, _⟩ => rfl
        | ⟨1, _⟩ => rfl
        | ⟨2, _⟩ => rfl
      · refine (val_main_v44_apply (F := Ideal) ng _).trans ((val_main_v43_apply (F := Ideal) ng _).trans (congrArg ng ?_))
        funext a; apply Fin.ext
        match a with
        | ⟨0, _⟩ => rfl
    · refine (val_main_v48_apply (F := Ideal) mods _).trans ((val_main_v47_apply (F := Ideal) mods _).trans ?_)
      refine congrArg₂ (fun a b : EReal => a + b) ((val_main_v46_apply (F := Ideal) _).trans Ideal.ofBits_one_f32) ?_
      refine Eq.trans (congrArg _ ?_) (ref_scale mods b d)
      funext a; apply Fin.ext
      match a with
      | ⟨0, _⟩ => rfl
      | ⟨1, _⟩ => rfl
      | ⟨2, _⟩ => rfl
  · refine (val_main_v50_apply (F := Ideal) mods _).trans (Eq.trans (congrArg _ ?_) (ref_shift mods b d))
    funext a; apply Fin.ext
    match a with
    | ⟨0, _⟩ => rfl
    | ⟨1, _⟩ => rfl
    | ⟨2, _⟩ => rfl

/-- The product with the input weights at a token. -/
theorem ref_z (b : Fin 8) (n : Fin 4096) (l : Fin 1952) : val_main_v52 (F := Ideal) x mods ng w (ix3 b n l) = zAt x mods ng w b n l := by
  refine (val_main_v52_apply x mods ng w _).trans (Finset.sum_congr rfl fun d _ => ?_)
  refine congrArg₂ (fun a b : EReal => a * b) (Eq.trans (congrArg _ ?_) (ref_modulated x mods ng b n d)) (congrArg w ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl

/-- The columns the queries are made of. -/
theorem ref_q_in (b : Fin 8) (n : Fin 4096) (k : Fin 256) : val_main_v53 (F := Ideal) x mods ng w (ix3 b n k) = zAt x mods ng w b n (qIn k) := by
  refine (val_main_v53_apply (F := Ideal) x mods ng w _).trans (Eq.trans (congrArg _ ?_) (ref_z x mods ng w b n (qIn k)))
  funext a; apply Fin.ext
  match a with
  | ⟨0, _⟩ => rfl
  | ⟨1, _⟩ => rfl
  | ⟨2, _⟩ => rfl

/-- One over the root of the queries' compressed row's mean square. -/
theorem ref_q_inv (b : Fin 8) (n : Fin 4096) :
    val_main_v61 (F := Ideal) x mods ng w (ix3 b n (0 : Fin 1)) = rms 0x43800000#32 fun k : Fin 256 => zAt x mods ng w b n (qIn k) := by
  refine (val_main_v61_apply (F := Ideal) x mods ng w _).trans ?_
  refine congrArg Ideal.rsqrt ?_
  refine (val_main_v60_apply (F := Ideal) x mods ng w _).trans ?_
  refine congrArg₂ (fun a b : EReal => a + b) ?_ (val_main_v59_apply (F := Ideal) _)
  refine (val_main_v58_apply (F := Ideal) x mods ng w _).trans (congrArg₂ Ideal.div ?_ (val_main_v57_apply (F := Ideal) _))
  refine (val_main_v56_apply (F := Ideal) x mods ng w _).trans ((val_main_v55_apply x mods ng w _).trans ?_)
  show Ideal.ofBits .f32 0x00000000#32 + _ = _
  rw [Ideal.ofBits_zero_f32, zero_add]
  refine Finset.sum_congr rfl fun k _ => ?_
  refine (val_main_v54_apply (F := Ideal) x mods ng w _).trans ?_
  have h : val_main_v53 (F := Ideal) x mods ng w (idx_main_v55 (idx_main_v56 (ix3 b n (0 : Fin 1))) k) = zAt x mods ng w b n (qIn k) := by
    refine Eq.trans (congrArg _ ?_) (ref_q_in x mods ng w b n k)
    funext a; apply Fin.ext
    match a with
    | ⟨0, _⟩ => rfl
    | ⟨1, _⟩ => rfl
    | ⟨2, _⟩ => rfl
  exact congrArg₂ (fun a b : EReal => a * b) h h

/-- The queries' compressed row, normalised. -/
theorem ref_q (b : Fin 8) (n : Fin 4096) (k : Fin 256) : val_main_v66 (F := Ideal) x mods ng w qg (ix3 b n k) = qAt x mods ng w qg b n k := by
  refine (val_main_v66_apply (F := Ideal) x mods ng w qg _).trans (congrArg₂ (fun a b : EReal => a * b) ?_ ?_)
  · refine (val_main_v63_apply (F := Ideal) x mods ng w _).trans (congrArg₂ (fun a b : EReal => a * b) (ref_q_in x mods ng w b n k) ?_)
    refine (val_main_v62_apply (F := Ideal) x mods ng w _).trans (Eq.trans (congrArg _ ?_) (ref_q_inv x mods ng w b n))
    funext a; apply Fin.ext
    match a with
    | ⟨0, _⟩ => rfl
    | ⟨1, _⟩ => rfl
    | ⟨2, _⟩ => rfl
  · refine (val_main_v65_apply (F := Ideal) qg _).trans ((val_main_v64_apply (F := Ideal) qg _).trans (congrArg qg ?_))
    funext a; apply Fin.ext
    match a with
    | ⟨0, _⟩ => rfl

/-- Its product with the second weights. -/
theorem ref_q_wide (b : Fin 8) (n : Fin 4096) (l : Fin 768) : val_main_v67 (F := Ideal) x mods ng w qg wq (ix3 b n l) = qWide x mods ng w qg wq b n l := by
  refine (val_main_v67_apply x mods ng w qg wq _).trans (Finset.sum_congr rfl fun k _ => ?_)
  refine congrArg₂ (fun a b : EReal => a * b) (Eq.trans (congrArg _ ?_) (ref_q x mods ng w qg b n k)) (congrArg wq ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl

/-- The columns the keys and values are made of. -/
theorem ref_kv_in (b : Fin 8) (n : Fin 4096) (k : Fin 128) : val_main_v69 (F := Ideal) x mods ng w (ix3 b n k) = zAt x mods ng w b n (kvIn k) := by
  refine (val_main_v69_apply (F := Ideal) x mods ng w _).trans (Eq.trans (congrArg _ ?_) (ref_z x mods ng w b n (kvIn k)))
  funext a; apply Fin.ext
  match a with
  | ⟨0, _⟩ => rfl
  | ⟨1, _⟩ => rfl
  | ⟨2, _⟩ => rfl

/-- One over the root of the keys' and values' compressed row's mean square. -/
theorem ref_kv_inv (b : Fin 8) (n : Fin 4096) :
    val_main_v77 (F := Ideal) x mods ng w (ix3 b n (0 : Fin 1)) = rms 0x43000000#32 fun k : Fin 128 => zAt x mods ng w b n (kvIn k) := by
  refine (val_main_v77_apply (F := Ideal) x mods ng w _).trans ?_
  refine congrArg Ideal.rsqrt ?_
  refine (val_main_v76_apply (F := Ideal) x mods ng w _).trans ?_
  refine congrArg₂ (fun a b : EReal => a + b) ?_ (val_main_v75_apply (F := Ideal) _)
  refine (val_main_v74_apply (F := Ideal) x mods ng w _).trans (congrArg₂ Ideal.div ?_ (val_main_v73_apply (F := Ideal) _))
  refine (val_main_v72_apply (F := Ideal) x mods ng w _).trans ((val_main_v71_apply x mods ng w _).trans ?_)
  show Ideal.ofBits .f32 0x00000000#32 + _ = _
  rw [Ideal.ofBits_zero_f32, zero_add]
  refine Finset.sum_congr rfl fun k _ => ?_
  refine (val_main_v70_apply (F := Ideal) x mods ng w _).trans ?_
  have h : val_main_v69 (F := Ideal) x mods ng w (idx_main_v71 (idx_main_v72 (ix3 b n (0 : Fin 1))) k) = zAt x mods ng w b n (kvIn k) := by
    refine Eq.trans (congrArg _ ?_) (ref_kv_in x mods ng w b n k)
    funext a; apply Fin.ext
    match a with
    | ⟨0, _⟩ => rfl
    | ⟨1, _⟩ => rfl
    | ⟨2, _⟩ => rfl
  exact congrArg₂ (fun a b : EReal => a * b) h h

/-- The keys' and values' compressed row, normalised. -/
theorem ref_kv (b : Fin 8) (n : Fin 4096) (k : Fin 128) : val_main_v82 (F := Ideal) x mods ng w kg (ix3 b n k) = kvAt x mods ng w kg b n k := by
  refine (val_main_v82_apply (F := Ideal) x mods ng w kg _).trans (congrArg₂ (fun a b : EReal => a * b) ?_ ?_)
  · refine (val_main_v79_apply (F := Ideal) x mods ng w _).trans (congrArg₂ (fun a b : EReal => a * b) (ref_kv_in x mods ng w b n k) ?_)
    refine (val_main_v78_apply (F := Ideal) x mods ng w _).trans (Eq.trans (congrArg _ ?_) (ref_kv_inv x mods ng w b n))
    funext a; apply Fin.ext
    match a with
    | ⟨0, _⟩ => rfl
    | ⟨1, _⟩ => rfl
    | ⟨2, _⟩ => rfl
  · refine (val_main_v81_apply (F := Ideal) kg _).trans ((val_main_v80_apply (F := Ideal) kg _).trans (congrArg kg ?_))
    funext a; apply Fin.ext
    match a with
    | ⟨0, _⟩ => rfl

/-- Its product with the second weights. -/
theorem ref_kv_wide (b : Fin 8) (n : Fin 4096) (l : Fin 1024) : val_main_v83 (F := Ideal) x mods ng w kg wkv (ix3 b n l) = kvWide x mods ng w kg wkv b n l := by
  refine (val_main_v83_apply x mods ng w kg wkv _).trans (Finset.sum_congr rfl fun k _ => ?_)
  refine congrArg₂ (fun a b : EReal => a * b) (Eq.trans (congrArg _ ?_) (ref_kv x mods ng w kg b n k)) (congrArg wkv ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl

/-- The convolution's columns are a result as they are. -/
theorem ref_conv : val_main_v191 (F := Ideal) x mods ng w = convIn x mods ng w := by
  funext i
  obtain ⟨b, n, l, rfl⟩ : ∃ (b : Fin 8) (n : Fin 4096) (l : Fin 1536), i = ix3 b n l :=
    ⟨i 0, i 1, i 2, funext fun a => by
      match a with
      | ⟨0, _⟩ => rfl
      | ⟨1, _⟩ => rfl
      | ⟨2, _⟩ => rfl⟩
  show _ = zAt x mods ng w b n (hyIn l)
  refine (val_main_v191_apply (F := Ideal) x mods ng w _).trans (Eq.trans (congrArg _ ?_) (ref_z x mods ng w b n (hyIn l)))
  funext a; apply Fin.ext
  match a with
  | ⟨0, _⟩ => rfl
  | ⟨1, _⟩ => rfl
  | ⟨2, _⟩ => rfl

/-! ## Angles -/

/-- The places' rows beside their columns. -/
theorem ref_places (n : Fin 4096) (a : Fin 2) : val_main_v11 (F := Ideal) (ix2 n a) = places a (ix1 n) := by
  unfold val_main_v11
  match a with
  | ⟨0, _⟩ =>
    refine (concatenate_apply_piece (t := S4096x2) 1 [⟨S4096x1, val_main_v9 (F := Ideal)⟩, ⟨S4096x1, val_main_v10 (F := Ideal)⟩] _ (ix2 n (0 : Fin 2)) 0
      (by show 0 < 2; omega) S4096x1 (val_main_v9 (F := Ideal)) rfl rfl 0 rfl (ix2 n (0 : Fin 1)) (fun a ha => ?_) rfl).trans ?_
    · match a with
      | ⟨0, _⟩ => rfl
      | ⟨1, _⟩ => exact absurd rfl ha
    · refine (val_main_v9_apply (F := Ideal) _).trans (Eq.trans (congrArg _ ?_) (rfl : val_main_v3 (F := Ideal) (ix1 n) = places 0 (ix1 n)))
      funext a; apply Fin.ext
      match a with
      | ⟨0, _⟩ => rfl
  | ⟨1, _⟩ =>
    refine (concatenate_apply_piece (t := S4096x2) 1 [⟨S4096x1, val_main_v9 (F := Ideal)⟩, ⟨S4096x1, val_main_v10 (F := Ideal)⟩] _ (ix2 n (1 : Fin 2)) 1
      (by show 1 < 2; omega) S4096x1 (val_main_v10 (F := Ideal)) rfl rfl 1 rfl (ix2 n (0 : Fin 1)) (fun a ha => ?_) rfl).trans ?_
    · match a with
      | ⟨0, _⟩ => rfl
      | ⟨1, _⟩ => exact absurd rfl ha
    · refine (val_main_v10_apply (F := Ideal) _).trans (Eq.trans (congrArg _ ?_) (rfl : val_main_v8 (F := Ideal) (ix1 n) = places 1 (ix1 n)))
      funext a; apply Fin.ext
      match a with
      | ⟨0, _⟩ => rfl

/-- A token's angles. -/
theorem ref_ang (n : Fin 4096) (a : Fin 2) (f : Fin 8) : val_main_v22 (F := Ideal) (ix3 n a f) = angAt n a f := by
  refine (val_main_v22_apply (F := Ideal) _).trans (congrArg₂ (fun a b : EReal => a * b) ?_ ?_)
  · refine (val_main_v20_apply (F := Ideal) _).trans ((val_main_v12_apply (F := Ideal) _).trans (Eq.trans (congrArg _ ?_) (ref_places n a)))
    funext a; apply Fin.ext
    match a with
    | ⟨0, _⟩ => rfl
    | ⟨1, _⟩ => rfl
  · refine (val_main_v21_apply (F := Ideal) _).trans ((val_main_v19_apply (F := Ideal) _).trans
      (Eq.trans (congrArg _ ?_) (rfl : val_main_v18 (F := Ideal) (ix1 f) = freqs (ix1 f))))
    funext a; apply Fin.ext
    match a with
    | ⟨0, _⟩ => rfl

theorem ref_cos (n : Fin 4096) (a : Fin 2) (f : Fin 8) : val_main_v23 (F := Ideal) (ix3 n a f) = cosAt n a f :=
  (val_main_v23_apply (F := Ideal) _).trans (congrArg Ideal.cos (ref_ang n a f))

theorem ref_sin (n : Fin 4096) (a : Fin 2) (f : Fin 8) : val_main_v24 (F := Ideal) (ix3 n a f) = sinAt n a f :=
  (val_main_v24_apply (F := Ideal) _).trans (congrArg Ideal.sin (ref_ang n a f))

end Cert.Proof.AbIn

end
-- ==== Proof.AbIn.RefTurn.lean ====
/-
  The reference's turned quarters, of the queries' heads and of the shared key, and its concatenations read piece by piece.
-/
module

public import proofs.«01_k».proof.Proof.AbIn.RefRows

@[expose] public section

noncomputable section

namespace Cert.Proof.AbIn

open Cert.Reference6Ideal Cert.Reference6Ideal.Gen Cert.Reference6Ideal.Read Idealize.ShloMosaic Idealize.ShloMosaic.TcCoe Idealize.SL.Sem
open Cert.Proof.Ffn (invRms modRow)
open scoped BigOperators

variable (x : S8x4096x1024.Idx → EReal) (mods : S16x6x1x1024.Idx → EReal) (ng : S1024.Idx → EReal) (w : S1024x1952.Idx → EReal)
  (qg : S256.Idx → EReal) (wq : S256x768.Idx → EReal) (kg : S128.Idx → EReal) (wkv : S128x1024.Idx → EReal)

theorem ref_c0 (n : Fin 4096) (i : Fin 8) : val_main_v94 (F := Ideal) (ix3 n (0 : Fin 1) i) = cosAt n 0 i := by
  refine (val_main_v94_apply (F := Ideal) _).trans ((val_main_v93_apply (F := Ideal) _).trans ((val_main_v87_apply (F := Ideal) _).trans (Eq.trans (congrArg _ ?_) (ref_cos n 0 i))))
  have := n.isLt; have := i.isLt
  funext a; apply Fin.ext
  match a with
  | ⟨0, _⟩ => show ((n.val * 1 + 0) * 8 + i.val) / 8 = n.val; omega
  | ⟨1, _⟩ => rfl
  | ⟨2, _⟩ => show ((n.val * 1 + 0) * 8 + i.val) % 8 = i.val; omega

theorem ref_c1 (n : Fin 4096) (i : Fin 8) : val_main_v96 (F := Ideal) (ix3 n (0 : Fin 1) i) = cosAt n 1 i := by
  refine (val_main_v96_apply (F := Ideal) _).trans ((val_main_v95_apply (F := Ideal) _).trans ((val_main_v87_apply (F := Ideal) _).trans (Eq.trans (congrArg _ ?_) (ref_cos n 1 i))))
  have := n.isLt; have := i.isLt
  funext a; apply Fin.ext
  match a with
  | ⟨0, _⟩ => show ((n.val * 1 + 0) * 8 + i.val) / 8 = n.val; omega
  | ⟨1, _⟩ => rfl
  | ⟨2, _⟩ => show ((n.val * 1 + 0) * 8 + i.val) % 8 = i.val; omega

theorem ref_s0 (n : Fin 4096) (i : Fin 8) : val_main_v98 (F := Ideal) (ix3 n (0 : Fin 1) i) = sinAt n 0 i := by
  refine (val_main_v98_apply (F := Ideal) _).trans ((val_main_v97_apply (F := Ideal) _).trans ((val_main_v88_apply (F := Ideal) _).trans (Eq.trans (congrArg _ ?_) (ref_sin n 0 i))))
  have := n.isLt; have := i.isLt
  funext a; apply Fin.ext
  match a with
  | ⟨0, _⟩ => show ((n.val * 1 + 0) * 8 + i.val) / 8 = n.val; omega
  | ⟨1, _⟩ => rfl
  | ⟨2, _⟩ => show ((n.val * 1 + 0) * 8 + i.val) % 8 = i.val; omega

theorem ref_s1 (n : Fin 4096) (i : Fin 8) : val_main_v100 (F := Ideal) (ix3 n (0 : Fin 1) i) = sinAt n 1 i := by
  refine (val_main_v100_apply (F := Ideal) _).trans ((val_main_v99_apply (F := Ideal) _).trans ((val_main_v88_apply (F := Ideal) _).trans (Eq.trans (congrArg _ ?_) (ref_sin n 1 i))))
  have := n.isLt; have := i.isLt
  funext a; apply Fin.ext
  match a with
  | ⟨0, _⟩ => show ((n.val * 1 + 0) * 8 + i.val) / 8 = n.val; omega
  | ⟨1, _⟩ => rfl
  | ⟨2, _⟩ => show ((n.val * 1 + 0) * 8 + i.val) % 8 = i.val; omega

theorem ref_at102 (b : Fin 8) (n : Fin 4096) (h i : Fin 8) : val_main_v102 (F := Ideal) (ix4 b n h i) = cosAt n 0 i := by
  refine (val_main_v102_apply (F := Ideal) _).trans ((val_main_v101_apply (F := Ideal) _).trans (Eq.trans (congrArg _ ?_) (ref_c0 n i)))
  funext a; apply Fin.ext
  match a with
  | ⟨0, _⟩ => rfl
  | ⟨1, _⟩ => rfl
  | ⟨2, _⟩ => rfl

theorem ref_at105 (b : Fin 8) (n : Fin 4096) (h i : Fin 8) : val_main_v105 (F := Ideal) (ix4 b n h i) = sinAt n 0 i := by
  refine (val_main_v105_apply (F := Ideal) _).trans ((val_main_v104_apply (F := Ideal) _).trans (Eq.trans (congrArg _ ?_) (ref_s0 n i)))
  funext a; apply Fin.ext
  match a with
  | ⟨0, _⟩ => rfl
  | ⟨1, _⟩ => rfl
  | ⟨2, _⟩ => rfl

theorem ref_at109 (b : Fin 8) (n : Fin 4096) (h i : Fin 8) : val_main_v109 (F := Ideal) (ix4 b n h i) = cosAt n 0 i := by
  refine (val_main_v109_apply (F := Ideal) _).trans ((val_main_v108_apply (F := Ideal) _).trans (Eq.trans (congrArg _ ?_) (ref_c0 n i)))
  funext a; apply Fin.ext
  match a with
  | ⟨0, _⟩ => rfl
  | ⟨1, _⟩ => rfl
  | ⟨2, _⟩ => rfl

theorem ref_at112 (b : Fin 8) (n : Fin 4096) (h i : Fin 8) : val_main_v112 (F := Ideal) (ix4 b n h i) = sinAt n 0 i := by
  refine (val_main_v112_apply (F := Ideal) _).trans ((val_main_v111_apply (F := Ideal) _).trans (Eq.trans (congrArg _ ?_) (ref_s0 n i)))
  funext a; apply Fin.ext
  match a with
  | ⟨0, _⟩ => rfl
  | ⟨1, _⟩ => rfl
  | ⟨2, _⟩ => rfl

theorem ref_at116 (b : Fin 8) (n : Fin 4096) (h i : Fin 8) : val_main_v116 (F := Ideal) (ix4 b n h i) = cosAt n 1 i := by
  refine (val_main_v116_apply (F := Ideal) _).trans ((val_main_v115_apply (F := Ideal) _).trans (Eq.trans (congrArg _ ?_) (ref_c1 n i)))
  funext a; apply Fin.ext
  match a with
  | ⟨0, _⟩ => rfl
  | ⟨1, _⟩ => rfl
  | ⟨2, _⟩ => rfl

theorem ref_at119 (b : Fin 8) (n : Fin 4096) (h i : Fin 8) : val_main_v119 (F := Ideal) (ix4 b n h i) = sinAt n 1 i := by
  refine (val_main_v119_apply (F := Ideal) _).trans ((val_main_v118_apply (F := Ideal) _).trans (Eq.trans (congrArg _ ?_) (ref_s1 n i)))
  funext a; apply Fin.ext
  match a with
  | ⟨0, _⟩ => rfl
  | ⟨1, _⟩ => rfl
  | ⟨2, _⟩ => rfl

theorem ref_at123 (b : Fin 8) (n : Fin 4096) (h i : Fin 8) : val_main_v123 (F := Ideal) (ix4 b n h i) = cosAt n 1 i := by
  refine (val_main_v123_apply (F := Ideal) _).trans ((val_main_v122_apply (F := Ideal) _).trans (Eq.trans (congrArg _ ?_) (ref_c1 n i)))
  funext a; apply Fin.ext
  match a with
  | ⟨0, _⟩ => rfl
  | ⟨1, _⟩ => rfl
  | ⟨2, _⟩ => rfl

theorem ref_at126 (b : Fin 8) (n : Fin 4096) (h i : Fin 8) : val_main_v126 (F := Ideal) (ix4 b n h i) = sinAt n 1 i := by
  refine (val_main_v126_apply (F := Ideal) _).trans ((val_main_v125_apply (F := Ideal) _).trans (Eq.trans (congrArg _ ?_) (ref_s1 n i)))
  funext a; apply Fin.ext
  match a with
  | ⟨0, _⟩ => rfl
  | ⟨1, _⟩ => rfl
  | ⟨2, _⟩ => rfl

theorem ref_quarter0 (b : Fin 8) (n : Fin 4096) (h i : Fin 8) :
    val_main_v89 (F := Ideal) x mods ng w qg wq (ix4 b n h i) = qWide x mods ng w qg wq b n (turnCol h 0 i) := by
  refine (val_main_v89_apply (F := Ideal) x mods ng w qg wq _).trans ((val_main_v86_apply (F := Ideal) x mods ng w qg wq _).trans ((val_main_v68_apply (F := Ideal) x mods ng w qg wq _).trans (Eq.trans (congrArg _ ?_) (ref_q_wide x mods ng w qg wq b n (turnCol h 0 i)))))
  have := b.isLt; have := n.isLt; have := h.isLt; have := i.isLt
  funext a; apply Fin.ext
  match a with
  | ⟨0, _⟩ => show (((b.val * 4096 + n.val) * 8 + h.val) * 96 + (64 + i.val)) / 3145728 = b.val; omega
  | ⟨1, _⟩ => show (((b.val * 4096 + n.val) * 8 + h.val) * 96 + (64 + i.val)) / 768 % 4096 = n.val; omega
  | ⟨2, _⟩ => show (((b.val * 4096 + n.val) * 8 + h.val) * 96 + (64 + i.val)) % 768 = h.val * 96 + (64 + 0 * 8 + i.val); omega

theorem ref_quarter1 (b : Fin 8) (n : Fin 4096) (h i : Fin 8) :
    val_main_v90 (F := Ideal) x mods ng w qg wq (ix4 b n h i) = qWide x mods ng w qg wq b n (turnCol h 1 i) := by
  refine (val_main_v90_apply (F := Ideal) x mods ng w qg wq _).trans ((val_main_v86_apply (F := Ideal) x mods ng w qg wq _).trans ((val_main_v68_apply (F := Ideal) x mods ng w qg wq _).trans (Eq.trans (congrArg _ ?_) (ref_q_wide x mods ng w qg wq b n (turnCol h 1 i)))))
  have := b.isLt; have := n.isLt; have := h.isLt; have := i.isLt
  funext a; apply Fin.ext
  match a with
  | ⟨0, _⟩ => show (((b.val * 4096 + n.val) * 8 + h.val) * 96 + (64 + (8 + i.val))) / 3145728 = b.val; omega
  | ⟨1, _⟩ => show (((b.val * 4096 + n.val) * 8 + h.val) * 96 + (64 + (8 + i.val))) / 768 % 4096 = n.val; omega
  | ⟨2, _⟩ => show (((b.val * 4096 + n.val) * 8 + h.val) * 96 + (64 + (8 + i.val))) % 768 = h.val * 96 + (64 + 1 * 8 + i.val); omega

theorem ref_quarter2 (b : Fin 8) (n : Fin 4096) (h i : Fin 8) :
    val_main_v91 (F := Ideal) x mods ng w qg wq (ix4 b n h i) = qWide x mods ng w qg wq b n (turnCol h 2 i) := by
  refine (val_main_v91_apply (F := Ideal) x mods ng w qg wq _).trans ((val_main_v86_apply (F := Ideal) x mods ng w qg wq _).trans ((val_main_v68_apply (F := Ideal) x mods ng w qg wq _).trans (Eq.trans (congrArg _ ?_) (ref_q_wide x mods ng w qg wq b n (turnCol h 2 i)))))
  have := b.isLt; have := n.isLt; have := h.isLt; have := i.isLt
  funext a; apply Fin.ext
  match a with
  | ⟨0, _⟩ => show (((b.val * 4096 + n.val) * 8 + h.val) * 96 + (64 + (16 + i.val))) / 3145728 = b.val; omega
  | ⟨1, _⟩ => show (((b.val * 4096 + n.val) * 8 + h.val) * 96 + (64 + (16 + i.val))) / 768 % 4096 = n.val; omega
  | ⟨2, _⟩ => show (((b.val * 4096 + n.val) * 8 + h.val) * 96 + (64 + (16 + i.val))) % 768 = h.val * 96 + (64 + 2 * 8 + i.val); omega

theorem ref_quarter3 (b : Fin 8) (n : Fin 4096) (h i : Fin 8) :
    val_main_v92 (F := Ideal) x mods ng w qg wq (ix4 b n h i) = qWide x mods ng w qg wq b n (turnCol h 3 i) := by
  refine (val_main_v92_apply (F := Ideal) x mods ng w qg wq _).trans ((val_main_v86_apply (F := Ideal) x mods ng w qg wq _).trans ((val_main_v68_apply (F := Ideal) x mods ng w qg wq _).trans (Eq.trans (congrArg _ ?_) (ref_q_wide x mods ng w qg wq b n (turnCol h 3 i)))))
  have := b.isLt; have := n.isLt; have := h.isLt; have := i.isLt
  funext a; apply Fin.ext
  match a with
  | ⟨0, _⟩ => show (((b.val * 4096 + n.val) * 8 + h.val) * 96 + (64 + (24 + i.val))) / 3145728 = b.val; omega
  | ⟨1, _⟩ => show (((b.val * 4096 + n.val) * 8 + h.val) * 96 + (64 + (24 + i.val))) / 768 % 4096 = n.val; omega
  | ⟨2, _⟩ => show (((b.val * 4096 + n.val) * 8 + h.val) * 96 + (64 + (24 + i.val))) % 768 = h.val * 96 + (64 + 3 * 8 + i.val); omega

/-- The columns of a head that are not turned. -/
theorem ref_plain (b : Fin 8) (n : Fin 4096) (h : Fin 8) (i : Fin 64) :
    val_main_v85 (F := Ideal) x mods ng w qg wq (ix4 b n h i) = qWide x mods ng w qg wq b n (plainCol h i) := by
  refine (val_main_v85_apply (F := Ideal) x mods ng w qg wq _).trans ((val_main_v68_apply (F := Ideal) x mods ng w qg wq _).trans (Eq.trans (congrArg _ ?_) (ref_q_wide x mods ng w qg wq b n (plainCol h i))))
  have := b.isLt; have := n.isLt; have := h.isLt; have := i.isLt
  funext a; apply Fin.ext
  match a with
  | ⟨0, _⟩ => show (((b.val * 4096 + n.val) * 8 + h.val) * 96 + i.val) / 3145728 = b.val; omega
  | ⟨1, _⟩ => show (((b.val * 4096 + n.val) * 8 + h.val) * 96 + i.val) / 768 % 4096 = n.val; omega
  | ⟨2, _⟩ => show (((b.val * 4096 + n.val) * 8 + h.val) * 96 + i.val) % 768 = h.val * 96 + i.val; omega

/-! ## The quarters of a head, turned -/

theorem ref_turn0 (b : Fin 8) (n : Fin 4096) (h i : Fin 8) :
    val_main_v107 (F := Ideal) x mods ng w qg wq (ix4 b n h i) = qWide x mods ng w qg wq b n (turnCol h 0 i) * cosAt n 0 i - qWide x mods ng w qg wq b n (turnCol h 1 i) * sinAt n 0 i := by
  refine (val_main_v107_apply (F := Ideal) x mods ng w qg wq _).trans (congrArg₂ (fun a b : EReal => a - b) ?_ ?_)
  · exact (val_main_v103_apply (F := Ideal) x mods ng w qg wq _).trans (congrArg₂ (fun a b : EReal => a * b) (ref_quarter0 x mods ng w qg wq b n h i) (ref_at102 b n h i))
  · exact (val_main_v106_apply (F := Ideal) x mods ng w qg wq _).trans (congrArg₂ (fun a b : EReal => a * b) (ref_quarter1 x mods ng w qg wq b n h i) (ref_at105 b n h i))

theorem ref_turn1 (b : Fin 8) (n : Fin 4096) (h i : Fin 8) :
    val_main_v114 (F := Ideal) x mods ng w qg wq (ix4 b n h i) = qWide x mods ng w qg wq b n (turnCol h 1 i) * cosAt n 0 i + qWide x mods ng w qg wq b n (turnCol h 0 i) * sinAt n 0 i := by
  refine (val_main_v114_apply (F := Ideal) x mods ng w qg wq _).trans (congrArg₂ (fun a b : EReal => a + b) ?_ ?_)
  · exact (val_main_v110_apply (F := Ideal) x mods ng w qg wq _).trans (congrArg₂ (fun a b : EReal => a * b) (ref_quarter1 x mods ng w qg wq b n h i) (ref_at109 b n h i))
  · exact (val_main_v113_apply (F := Ideal) x mods ng w qg wq _).trans (congrArg₂ (fun a b : EReal => a * b) (ref_quarter0 x mods ng w qg wq b n h i) (ref_at112 b n h i))

theorem ref_turn2 (b : Fin 8) (n : Fin 4096) (h i : Fin 8) :
    val_main_v121 (F := Ideal) x mods ng w qg wq (ix4 b n h i) = qWide x mods ng w qg wq b n (turnCol h 2 i) * cosAt n 1 i - qWide x mods ng w qg wq b n (turnCol h 3 i) * sinAt n 1 i := by
  refine (val_main_v121_apply (F := Ideal) x mods ng w qg wq _).trans (congrArg₂ (fun a b : EReal => a - b) ?_ ?_)
  · exact (val_main_v117_apply (F := Ideal) x mods ng w qg wq _).trans (congrArg₂ (fun a b : EReal => a * b) (ref_quarter2 x mods ng w qg wq b n h i) (ref_at116 b n h i))
  · exact (val_main_v120_apply (F := Ideal) x mods ng w qg wq _).trans (congrArg₂ (fun a b : EReal => a * b) (ref_quarter3 x mods ng w qg wq b n h i) (ref_at119 b n h i))

theorem ref_turn3 (b : Fin 8) (n : Fin 4096) (h i : Fin 8) :
    val_main_v128 (F := Ideal) x mods ng w qg wq (ix4 b n h i) = qWide x mods ng w qg wq b n (turnCol h 3 i) * cosAt n 1 i + qWide x mods ng w qg wq b n (turnCol h 2 i) * sinAt n 1 i := by
  refine (val_main_v128_apply (F := Ideal) x mods ng w qg wq _).trans (congrArg₂ (fun a b : EReal => a + b) ?_ ?_)
  · exact (val_main_v124_apply (F := Ideal) x mods ng w qg wq _).trans (congrArg₂ (fun a b : EReal => a * b) (ref_quarter3 x mods ng w qg wq b n h i) (ref_at123 b n h i))
  · exact (val_main_v127_apply (F := Ideal) x mods ng w qg wq _).trans (congrArg₂ (fun a b : EReal => a * b) (ref_quarter2 x mods ng w qg wq b n h i) (ref_at126 b n h i))

/-! ## Concatenations, piece by piece -/

theorem quarters_0 (p0 : S8x4096x8x8.Idx → EReal) (p1 : S8x4096x8x8.Idx → EReal) (p2 : S8x4096x8x8.Idx → EReal) (p3 : S8x4096x8x8.Idx → EReal) (b : Fin 8) (n : Fin 4096) (h : Fin 8) (i : Fin 8) (l : Fin 32) (hl : l.val = 0 + i.val) :
    concatenate S8x4096x8x32 3 [⟨S8x4096x8x8, p0⟩, ⟨S8x4096x8x8, p1⟩, ⟨S8x4096x8x8, p2⟩, ⟨S8x4096x8x8, p3⟩] concatenates_S8x4096x8x8_S8x4096x8x8_S8x4096x8x8_S8x4096x8x8_S8x4096x8x32_d3 (ix4 b n h l) = p0 (ix4 b n h i) := by
  refine concatenate_apply_piece (t := S8x4096x8x32) 3 [⟨S8x4096x8x8, p0⟩, ⟨S8x4096x8x8, p1⟩, ⟨S8x4096x8x8, p2⟩, ⟨S8x4096x8x8, p3⟩] _ (ix4 b n h l) 0
    (by show 0 < 4; omega) S8x4096x8x8 p0 rfl rfl 0 rfl (ix4 b n h i) (fun a ha => ?_) (by show 0 + i.val = l.val; omega)
  match a with
  | ⟨0, _⟩ => rfl
  | ⟨1, _⟩ => rfl
  | ⟨2, _⟩ => rfl
  | ⟨3, _⟩ => exact absurd rfl ha

theorem quarters_1 (p0 : S8x4096x8x8.Idx → EReal) (p1 : S8x4096x8x8.Idx → EReal) (p2 : S8x4096x8x8.Idx → EReal) (p3 : S8x4096x8x8.Idx → EReal) (b : Fin 8) (n : Fin 4096) (h : Fin 8) (i : Fin 8) (l : Fin 32) (hl : l.val = 8 + i.val) :
    concatenate S8x4096x8x32 3 [⟨S8x4096x8x8, p0⟩, ⟨S8x4096x8x8, p1⟩, ⟨S8x4096x8x8, p2⟩, ⟨S8x4096x8x8, p3⟩] concatenates_S8x4096x8x8_S8x4096x8x8_S8x4096x8x8_S8x4096x8x8_S8x4096x8x32_d3 (ix4 b n h l) = p1 (ix4 b n h i) := by
  refine concatenate_apply_piece (t := S8x4096x8x32) 3 [⟨S8x4096x8x8, p0⟩, ⟨S8x4096x8x8, p1⟩, ⟨S8x4096x8x8, p2⟩, ⟨S8x4096x8x8, p3⟩] _ (ix4 b n h l) 1
    (by show 1 < 4; omega) S8x4096x8x8 p1 rfl rfl 8 rfl (ix4 b n h i) (fun a ha => ?_) (by show 8 + i.val = l.val; omega)
  match a with
  | ⟨0, _⟩ => rfl
  | ⟨1, _⟩ => rfl
  | ⟨2, _⟩ => rfl
  | ⟨3, _⟩ => exact absurd rfl ha

theorem quarters_2 (p0 : S8x4096x8x8.Idx → EReal) (p1 : S8x4096x8x8.Idx → EReal) (p2 : S8x4096x8x8.Idx → EReal) (p3 : S8x4096x8x8.Idx → EReal) (b : Fin 8) (n : Fin 4096) (h : Fin 8) (i : Fin 8) (l : Fin 32) (hl : l.val = 16 + i.val) :
    concatenate S8x4096x8x32 3 [⟨S8x4096x8x8, p0⟩, ⟨S8x4096x8x8, p1⟩, ⟨S8x4096x8x8, p2⟩, ⟨S8x4096x8x8, p3⟩] concatenates_S8x4096x8x8_S8x4096x8x8_S8x4096x8x8_S8x4096x8x8_S8x4096x8x32_d3 (ix4 b n h l) = p2 (ix4 b n h i) := by
  refine concatenate_apply_piece (t := S8x4096x8x32) 3 [⟨S8x4096x8x8, p0⟩, ⟨S8x4096x8x8, p1⟩, ⟨S8x4096x8x8, p2⟩, ⟨S8x4096x8x8, p3⟩] _ (ix4 b n h l) 2
    (by show 2 < 4; omega) S8x4096x8x8 p2 rfl rfl 16 rfl (ix4 b n h i) (fun a ha => ?_) (by show 16 + i.val = l.val; omega)
  match a with
  | ⟨0, _⟩ => rfl
  | ⟨1, _⟩ => rfl
  | ⟨2, _⟩ => rfl
  | ⟨3, _⟩ => exact absurd rfl ha

theorem quarters_3 (p0 : S8x4096x8x8.Idx → EReal) (p1 : S8x4096x8x8.Idx → EReal) (p2 : S8x4096x8x8.Idx → EReal) (p3 : S8x4096x8x8.Idx → EReal) (b : Fin 8) (n : Fin 4096) (h : Fin 8) (i : Fin 8) (l : Fin 32) (hl : l.val = 24 + i.val) :
    concatenate S8x4096x8x32 3 [⟨S8x4096x8x8, p0⟩, ⟨S8x4096x8x8, p1⟩, ⟨S8x4096x8x8, p2⟩, ⟨S8x4096x8x8, p3⟩] concatenates_S8x4096x8x8_S8x4096x8x8_S8x4096x8x8_S8x4096x8x8_S8x4096x8x32_d3 (ix4 b n h l) = p3 (ix4 b n h i) := by
  refine concatenate_apply_piece (t := S8x4096x8x32) 3 [⟨S8x4096x8x8, p0⟩, ⟨S8x4096x8x8, p1⟩, ⟨S8x4096x8x8, p2⟩, ⟨S8x4096x8x8, p3⟩] _ (ix4 b n h l) 3
    (by show 3 < 4; omega) S8x4096x8x8 p3 rfl rfl 24 rfl (ix4 b n h i) (fun a ha => ?_) (by show 24 + i.val = l.val; omega)
  match a with
  | ⟨0, _⟩ => rfl
  | ⟨1, _⟩ => rfl
  | ⟨2, _⟩ => rfl
  | ⟨3, _⟩ => exact absurd rfl ha

theorem headCols_0 (p0 : S8x4096x8x64.Idx → EReal) (p1 : S8x4096x8x32.Idx → EReal) (b : Fin 8) (n : Fin 4096) (h : Fin 8) (i : Fin 64) (l : Fin 96) (hl : l.val = 0 + i.val) :
    concatenate S8x4096x8x96 3 [⟨S8x4096x8x64, p0⟩, ⟨S8x4096x8x32, p1⟩] concatenates_S8x4096x8x64_S8x4096x8x32_S8x4096x8x96_d3 (ix4 b n h l) = p0 (ix4 b n h i) := by
  refine concatenate_apply_piece (t := S8x4096x8x96) 3 [⟨S8x4096x8x64, p0⟩, ⟨S8x4096x8x32, p1⟩] _ (ix4 b n h l) 0
    (by show 0 < 2; omega) S8x4096x8x64 p0 rfl rfl 0 rfl (ix4 b n h i) (fun a ha => ?_) (by show 0 + i.val = l.val; omega)
  match a with
  | ⟨0, _⟩ => rfl
  | ⟨1, _⟩ => rfl
  | ⟨2, _⟩ => rfl
  | ⟨3, _⟩ => exact absurd rfl ha

theorem headCols_1 (p0 : S8x4096x8x64.Idx → EReal) (p1 : S8x4096x8x32.Idx → EReal) (b : Fin 8) (n : Fin 4096) (h : Fin 8) (i : Fin 32) (l : Fin 96) (hl : l.val = 64 + i.val) :
    concatenate S8x4096x8x96 3 [⟨S8x4096x8x64, p0⟩, ⟨S8x4096x8x32, p1⟩] concatenates_S8x4096x8x64_S8x4096x8x32_S8x4096x8x96_d3 (ix4 b n h l) = p1 (ix4 b n h i) := by
  refine concatenate_apply_piece (t := S8x4096x8x96) 3 [⟨S8x4096x8x64, p0⟩, ⟨S8x4096x8x32, p1⟩] _ (ix4 b n h l) 1
    (by show 1 < 2; omega) S8x4096x8x32 p1 rfl rfl 64 rfl (ix4 b n h i) (fun a ha => ?_) (by show 64 + i.val = l.val; omega)
  match a with
  | ⟨0, _⟩ => rfl
  | ⟨1, _⟩ => rfl
  | ⟨2, _⟩ => rfl
  | ⟨3, _⟩ => exact absurd rfl ha

theorem padded_0 (p0 : S8x4096x8x96.Idx → EReal) (p1 : S8x4096x8x32.Idx → EReal) (b : Fin 8) (n : Fin 4096) (h : Fin 8) (i : Fin 96) (l : Fin 128) (hl : l.val = 0 + i.val) :
    concatenate S8x4096x8x128 3 [⟨S8x4096x8x96, p0⟩, ⟨S8x4096x8x32, p1⟩] concatenates_S8x4096x8x96_S8x4096x8x32_S8x4096x8x128_d3 (ix4 b n h l) = p0 (ix4 b n h i) := by
  refine concatenate_apply_piece (t := S8x4096x8x128) 3 [⟨S8x4096x8x96, p0⟩, ⟨S8x4096x8x32, p1⟩] _ (ix4 b n h l) 0
    (by show 0 < 2; omega) S8x4096x8x96 p0 rfl rfl 0 rfl (ix4 b n h i) (fun a ha => ?_) (by show 0 + i.val = l.val; omega)
  match a with
  | ⟨0, _⟩ => rfl
  | ⟨1, _⟩ => rfl
  | ⟨2, _⟩ => rfl
  | ⟨3, _⟩ => exact absurd rfl ha

theorem padded_1 (p0 : S8x4096x8x96.Idx → EReal) (p1 : S8x4096x8x32.Idx → EReal) (b : Fin 8) (n : Fin 4096) (h : Fin 8) (i : Fin 32) (l : Fin 128) (hl : l.val = 96 + i.val) :
    concatenate S8x4096x8x128 3 [⟨S8x4096x8x96, p0⟩, ⟨S8x4096x8x32, p1⟩] concatenates_S8x4096x8x96_S8x4096x8x32_S8x4096x8x128_d3 (ix4 b n h l) = p1 (ix4 b n h i) := by
  refine concatenate_apply_piece (t := S8x4096x8x128) 3 [⟨S8x4096x8x96, p0⟩, ⟨S8x4096x8x32, p1⟩] _ (ix4 b n h l) 1
    (by show 1 < 2; omega) S8x4096x8x32 p1 rfl rfl 96 rfl (ix4 b n h i) (fun a ha => ?_) (by show 96 + i.val = l.val; omega)
  match a with
  | ⟨0, _⟩ => rfl
  | ⟨1, _⟩ => rfl
  | ⟨2, _⟩ => rfl
  | ⟨3, _⟩ => exact absurd rfl ha

theorem keyQuarters_0 (p0 : S8x4096x8.Idx → EReal) (p1 : S8x4096x8.Idx → EReal) (p2 : S8x4096x8.Idx → EReal) (p3 : S8x4096x8.Idx → EReal) (b : Fin 8) (n : Fin 4096) (i : Fin 8) (l : Fin 32) (hl : l.val = 0 + i.val) :
    concatenate S8x4096x32 2 [⟨S8x4096x8, p0⟩, ⟨S8x4096x8, p1⟩, ⟨S8x4096x8, p2⟩, ⟨S8x4096x8, p3⟩] concatenates_S8x4096x8_S8x4096x8_S8x4096x8_S8x4096x8_S8x4096x32_d2 (ix3 b n l) = p0 (ix3 b n i) := by
  refine concatenate_apply_piece (t := S8x4096x32) 2 [⟨S8x4096x8, p0⟩, ⟨S8x4096x8, p1⟩, ⟨S8x4096x8, p2⟩, ⟨S8x4096x8, p3⟩] _ (ix3 b n l) 0
    (by show 0 < 4; omega) S8x4096x8 p0 rfl rfl 0 rfl (ix3 b n i) (fun a ha => ?_) (by show 0 + i.val = l.val; omega)
  match a with
  | ⟨0, _⟩ => rfl
  | ⟨1, _⟩ => rfl
  | ⟨2, _⟩ => exact absurd rfl ha

theorem keyQuarters_1 (p0 : S8x4096x8.Idx → EReal) (p1 : S8x4096x8.Idx → EReal) (p2 : S8x4096x8.Idx → EReal) (p3 : S8x4096x8.Idx → EReal) (b : Fin 8) (n : Fin 4096) (i : Fin 8) (l : Fin 32) (hl : l.val = 8 + i.val) :
    concatenate S8x4096x32 2 [⟨S8x4096x8, p0⟩, ⟨S8x4096x8, p1⟩, ⟨S8x4096x8, p2⟩, ⟨S8x4096x8, p3⟩] concatenates_S8x4096x8_S8x4096x8_S8x4096x8_S8x4096x8_S8x4096x32_d2 (ix3 b n l) = p1 (ix3 b n i) := by
  refine concatenate_apply_piece (t := S8x4096x32) 2 [⟨S8x4096x8, p0⟩, ⟨S8x4096x8, p1⟩, ⟨S8x4096x8, p2⟩, ⟨S8x4096x8, p3⟩] _ (ix3 b n l) 1
    (by show 1 < 4; omega) S8x4096x8 p1 rfl rfl 8 rfl (ix3 b n i) (fun a ha => ?_) (by show 8 + i.val = l.val; omega)
  match a with
  | ⟨0, _⟩ => rfl
  | ⟨1, _⟩ => rfl
  | ⟨2, _⟩ => exact absurd rfl ha

theorem keyQuarters_2 (p0 : S8x4096x8.Idx → EReal) (p1 : S8x4096x8.Idx → EReal) (p2 : S8x4096x8.Idx → EReal) (p3 : S8x4096x8.Idx → EReal) (b : Fin 8) (n : Fin 4096) (i : Fin 8) (l : Fin 32) (hl : l.val = 16 + i.val) :
    concatenate S8x4096x32 2 [⟨S8x4096x8, p0⟩, ⟨S8x4096x8, p1⟩, ⟨S8x4096x8, p2⟩, ⟨S8x4096x8, p3⟩] concatenates_S8x4096x8_S8x4096x8_S8x4096x8_S8x4096x8_S8x4096x32_d2 (ix3 b n l) = p2 (ix3 b n i) := by
  refine concatenate_apply_piece (t := S8x4096x32) 2 [⟨S8x4096x8, p0⟩, ⟨S8x4096x8, p1⟩, ⟨S8x4096x8, p2⟩, ⟨S8x4096x8, p3⟩] _ (ix3 b n l) 2
    (by show 2 < 4; omega) S8x4096x8 p2 rfl rfl 16 rfl (ix3 b n i) (fun a ha => ?_) (by show 16 + i.val = l.val; omega)
  match a with
  | ⟨0, _⟩ => rfl
  | ⟨1, _⟩ => rfl
  | ⟨2, _⟩ => exact absurd rfl ha

theorem keyQuarters_3 (p0 : S8x4096x8.Idx → EReal) (p1 : S8x4096x8.Idx → EReal) (p2 : S8x4096x8.Idx → EReal) (p3 : S8x4096x8.Idx → EReal) (b : Fin 8) (n : Fin 4096) (i : Fin 8) (l : Fin 32) (hl : l.val = 24 + i.val) :
    concatenate S8x4096x32 2 [⟨S8x4096x8, p0⟩, ⟨S8x4096x8, p1⟩, ⟨S8x4096x8, p2⟩, ⟨S8x4096x8, p3⟩] concatenates_S8x4096x8_S8x4096x8_S8x4096x8_S8x4096x8_S8x4096x32_d2 (ix3 b n l) = p3 (ix3 b n i) := by
  refine concatenate_apply_piece (t := S8x4096x32) 2 [⟨S8x4096x8, p0⟩, ⟨S8x4096x8, p1⟩, ⟨S8x4096x8, p2⟩, ⟨S8x4096x8, p3⟩] _ (ix3 b n l) 3
    (by show 3 < 4; omega) S8x4096x8 p3 rfl rfl 24 rfl (ix3 b n i) (fun a ha => ?_) (by show 24 + i.val = l.val; omega)
  match a with
  | ⟨0, _⟩ => rfl
  | ⟨1, _⟩ => rfl
  | ⟨2, _⟩ => exact absurd rfl ha

theorem keyCols_0 (p0 : S8x4096x8x64.Idx → EReal) (p1 : S8x4096x8x32.Idx → EReal) (p2 : S8x4096x8x32.Idx → EReal) (b : Fin 8) (n : Fin 4096) (h : Fin 8) (i : Fin 64) (l : Fin 128) (hl : l.val = 0 + i.val) :
    concatenate S8x4096x8x128 3 [⟨S8x4096x8x64, p0⟩, ⟨S8x4096x8x32, p1⟩, ⟨S8x4096x8x32, p2⟩] concatenates_S8x4096x8x64_S8x4096x8x32_S8x4096x8x32_S8x4096x8x128_d3 (ix4 b n h l) = p0 (ix4 b n h i) := by
  refine concatenate_apply_piece (t := S8x4096x8x128) 3 [⟨S8x4096x8x64, p0⟩, ⟨S8x4096x8x32, p1⟩, ⟨S8x4096x8x32, p2⟩] _ (ix4 b n h l) 0
    (by show 0 < 3; omega) S8x4096x8x64 p0 rfl rfl 0 rfl (ix4 b n h i) (fun a ha => ?_) (by show 0 + i.val = l.val; omega)
  match a with
  | ⟨0, _⟩ => rfl
  | ⟨1, _⟩ => rfl
  | ⟨2, _⟩ => rfl
  | ⟨3, _⟩ => exact absurd rfl ha

theorem keyCols_1 (p0 : S8x4096x8x64.Idx → EReal) (p1 : S8x4096x8x32.Idx → EReal) (p2 : S8x4096x8x32.Idx → EReal) (b : Fin 8) (n : Fin 4096) (h : Fin 8) (i : Fin 32) (l : Fin 128) (hl : l.val = 64 + i.val) :
    concatenate S8x4096x8x128 3 [⟨S8x4096x8x64, p0⟩, ⟨S8x4096x8x32, p1⟩, ⟨S8x4096x8x32, p2⟩] concatenates_S8x4096x8x64_S8x4096x8x32_S8x4096x8x32_S8x4096x8x128_d3 (ix4 b n h l) = p1 (ix4 b n h i) := by
  refine concatenate_apply_piece (t := S8x4096x8x128) 3 [⟨S8x4096x8x64, p0⟩, ⟨S8x4096x8x32, p1⟩, ⟨S8x4096x8x32, p2⟩] _ (ix4 b n h l) 1
    (by show 1 < 3; omega) S8x4096x8x32 p1 rfl rfl 64 rfl (ix4 b n h i) (fun a ha => ?_) (by show 64 + i.val = l.val; omega)
  match a with
  | ⟨0, _⟩ => rfl
  | ⟨1, _⟩ => rfl
  | ⟨2, _⟩ => rfl
  | ⟨3, _⟩ => exact absurd rfl ha

theorem keyCols_2 (p0 : S8x4096x8x64.Idx → EReal) (p1 : S8x4096x8x32.Idx → EReal) (p2 : S8x4096x8x32.Idx → EReal) (b : Fin 8) (n : Fin 4096) (h : Fin 8) (i : Fin 32) (l : Fin 128) (hl : l.val = 96 + i.val) :
    concatenate S8x4096x8x128 3 [⟨S8x4096x8x64, p0⟩, ⟨S8x4096x8x32, p1⟩, ⟨S8x4096x8x32, p2⟩] concatenates_S8x4096x8x64_S8x4096x8x32_S8x4096x8x32_S8x4096x8x128_d3 (ix4 b n h l) = p2 (ix4 b n h i) := by
  refine concatenate_apply_piece (t := S8x4096x8x128) 3 [⟨S8x4096x8x64, p0⟩, ⟨S8x4096x8x32, p1⟩, ⟨S8x4096x8x32, p2⟩] _ (ix4 b n h l) 2
    (by show 2 < 3; omega) S8x4096x8x32 p2 rfl rfl 96 rfl (ix4 b n h i) (fun a ha => ?_) (by show 96 + i.val = l.val; omega)
  match a with
  | ⟨0, _⟩ => rfl
  | ⟨1, _⟩ => rfl
  | ⟨2, _⟩ => rfl
  | ⟨3, _⟩ => exact absurd rfl ha

theorem valueCols_0 (p0 : S8x4096x8x64.Idx → EReal) (p1 : S8x4096x8x64.Idx → EReal) (b : Fin 8) (n : Fin 4096) (h : Fin 8) (i : Fin 64) (l : Fin 128) (hl : l.val = 0 + i.val) :
    concatenate S8x4096x8x128 3 [⟨S8x4096x8x64, p0⟩, ⟨S8x4096x8x64, p1⟩] concatenates_S8x4096x8x64_S8x4096x8x64_S8x4096x8x128_d3 (ix4 b n h l) = p0 (ix4 b n h i) := by
  refine concatenate_apply_piece (t := S8x4096x8x128) 3 [⟨S8x4096x8x64, p0⟩, ⟨S8x4096x8x64, p1⟩] _ (ix4 b n h l) 0
    (by show 0 < 2; omega) S8x4096x8x64 p0 rfl rfl 0 rfl (ix4 b n h i) (fun a ha => ?_) (by show 0 + i.val = l.val; omega)
  match a with
  | ⟨0, _⟩ => rfl
  | ⟨1, _⟩ => rfl
  | ⟨2, _⟩ => rfl
  | ⟨3, _⟩ => exact absurd rfl ha

theorem valueCols_1 (p0 : S8x4096x8x64.Idx → EReal) (p1 : S8x4096x8x64.Idx → EReal) (b : Fin 8) (n : Fin 4096) (h : Fin 8) (i : Fin 64) (l : Fin 128) (hl : l.val = 64 + i.val) :
    concatenate S8x4096x8x128 3 [⟨S8x4096x8x64, p0⟩, ⟨S8x4096x8x64, p1⟩] concatenates_S8x4096x8x64_S8x4096x8x64_S8x4096x8x128_d3 (ix4 b n h l) = p1 (ix4 b n h i) := by
  refine concatenate_apply_piece (t := S8x4096x8x128) 3 [⟨S8x4096x8x64, p0⟩, ⟨S8x4096x8x64, p1⟩] _ (ix4 b n h l) 1
    (by show 1 < 2; omega) S8x4096x8x64 p1 rfl rfl 64 rfl (ix4 b n h i) (fun a ha => ?_) (by show 64 + i.val = l.val; omega)
  match a with
  | ⟨0, _⟩ => rfl
  | ⟨1, _⟩ => rfl
  | ⟨2, _⟩ => rfl
  | ⟨3, _⟩ => exact absurd rfl ha

/-! ## The quarters of the shared key, turned -/

theorem ref_kc0 (n : Fin 4096) (i : Fin 8) : val_main_v139 (F := Ideal) (ix2 n i) = cosAt n 0 i := by
  refine (val_main_v139_apply (F := Ideal) _).trans ((val_main_v138_apply (F := Ideal) _).trans (Eq.trans (congrArg _ ?_) (ref_cos n 0 i)))
  have := n.isLt; have := i.isLt
  funext a; apply Fin.ext
  match a with
  | ⟨0, _⟩ => show (n.val * 8 + i.val) / 8 = n.val; omega
  | ⟨1, _⟩ => rfl
  | ⟨2, _⟩ => show (n.val * 8 + i.val) % 8 = i.val; omega

theorem ref_kc1 (n : Fin 4096) (i : Fin 8) : val_main_v141 (F := Ideal) (ix2 n i) = cosAt n 1 i := by
  refine (val_main_v141_apply (F := Ideal) _).trans ((val_main_v140_apply (F := Ideal) _).trans (Eq.trans (congrArg _ ?_) (ref_cos n 1 i)))
  have := n.isLt; have := i.isLt
  funext a; apply Fin.ext
  match a with
  | ⟨0, _⟩ => show (n.val * 8 + i.val) / 8 = n.val; omega
  | ⟨1, _⟩ => rfl
  | ⟨2, _⟩ => show (n.val * 8 + i.val) % 8 = i.val; omega

theorem ref_ks0 (n : Fin 4096) (i : Fin 8) : val_main_v143 (F := Ideal) (ix2 n i) = sinAt n 0 i := by
  refine (val_main_v143_apply (F := Ideal) _).trans ((val_main_v142_apply (F := Ideal) _).trans (Eq.trans (congrArg _ ?_) (ref_sin n 0 i)))
  have := n.isLt; have := i.isLt
  funext a; apply Fin.ext
  match a with
  | ⟨0, _⟩ => show (n.val * 8 + i.val) / 8 = n.val; omega
  | ⟨1, _⟩ => rfl
  | ⟨2, _⟩ => show (n.val * 8 + i.val) % 8 = i.val; omega

theorem ref_ks1 (n : Fin 4096) (i : Fin 8) : val_main_v145 (F := Ideal) (ix2 n i) = sinAt n 1 i := by
  refine (val_main_v145_apply (F := Ideal) _).trans ((val_main_v144_apply (F := Ideal) _).trans (Eq.trans (congrArg _ ?_) (ref_sin n 1 i)))
  have := n.isLt; have := i.isLt
  funext a; apply Fin.ext
  match a with
  | ⟨0, _⟩ => show (n.val * 8 + i.val) / 8 = n.val; omega
  | ⟨1, _⟩ => rfl
  | ⟨2, _⟩ => show (n.val * 8 + i.val) % 8 = i.val; omega

theorem ref_at147 (b : Fin 8) (n : Fin 4096) (i : Fin 8) : val_main_v147 (F := Ideal) (ix3 b n i) = cosAt n 0 i := by
  refine (val_main_v147_apply (F := Ideal) _).trans ((val_main_v146_apply (F := Ideal) _).trans (Eq.trans (congrArg _ ?_) (ref_kc0 n i)))
  funext a; apply Fin.ext
  match a with
  | ⟨0, _⟩ => rfl
  | ⟨1, _⟩ => rfl

theorem ref_at150 (b : Fin 8) (n : Fin 4096) (i : Fin 8) : val_main_v150 (F := Ideal) (ix3 b n i) = sinAt n 0 i := by
  refine (val_main_v150_apply (F := Ideal) _).trans ((val_main_v149_apply (F := Ideal) _).trans (Eq.trans (congrArg _ ?_) (ref_ks0 n i)))
  funext a; apply Fin.ext
  match a with
  | ⟨0, _⟩ => rfl
  | ⟨1, _⟩ => rfl

theorem ref_at154 (b : Fin 8) (n : Fin 4096) (i : Fin 8) : val_main_v154 (F := Ideal) (ix3 b n i) = cosAt n 0 i := by
  refine (val_main_v154_apply (F := Ideal) _).trans ((val_main_v153_apply (F := Ideal) _).trans (Eq.trans (congrArg _ ?_) (ref_kc0 n i)))
  funext a; apply Fin.ext
  match a with
  | ⟨0, _⟩ => rfl
  | ⟨1, _⟩ => rfl

theorem ref_at157 (b : Fin 8) (n : Fin 4096) (i : Fin 8) : val_main_v157 (F := Ideal) (ix3 b n i) = sinAt n 0 i := by
  refine (val_main_v157_apply (F := Ideal) _).trans ((val_main_v156_apply (F := Ideal) _).trans (Eq.trans (congrArg _ ?_) (ref_ks0 n i)))
  funext a; apply Fin.ext
  match a with
  | ⟨0, _⟩ => rfl
  | ⟨1, _⟩ => rfl

theorem ref_at161 (b : Fin 8) (n : Fin 4096) (i : Fin 8) : val_main_v161 (F := Ideal) (ix3 b n i) = cosAt n 1 i := by
  refine (val_main_v161_apply (F := Ideal) _).trans ((val_main_v160_apply (F := Ideal) _).trans (Eq.trans (congrArg _ ?_) (ref_kc1 n i)))
  funext a; apply Fin.ext
  match a with
  | ⟨0, _⟩ => rfl
  | ⟨1, _⟩ => rfl

theorem ref_at164 (b : Fin 8) (n : Fin 4096) (i : Fin 8) : val_main_v164 (F := Ideal) (ix3 b n i) = sinAt n 1 i := by
  refine (val_main_v164_apply (F := Ideal) _).trans ((val_main_v163_apply (F := Ideal) _).trans (Eq.trans (congrArg _ ?_) (ref_ks1 n i)))
  funext a; apply Fin.ext
  match a with
  | ⟨0, _⟩ => rfl
  | ⟨1, _⟩ => rfl

theorem ref_at168 (b : Fin 8) (n : Fin 4096) (i : Fin 8) : val_main_v168 (F := Ideal) (ix3 b n i) = cosAt n 1 i := by
  refine (val_main_v168_apply (F := Ideal) _).trans ((val_main_v167_apply (F := Ideal) _).trans (Eq.trans (congrArg _ ?_) (ref_kc1 n i)))
  funext a; apply Fin.ext
  match a with
  | ⟨0, _⟩ => rfl
  | ⟨1, _⟩ => rfl

theorem ref_at171 (b : Fin 8) (n : Fin 4096) (i : Fin 8) : val_main_v171 (F := Ideal) (ix3 b n i) = sinAt n 1 i := by
  refine (val_main_v171_apply (F := Ideal) _).trans ((val_main_v170_apply (F := Ideal) _).trans (Eq.trans (congrArg _ ?_) (ref_ks1 n i)))
  funext a; apply Fin.ext
  match a with
  | ⟨0, _⟩ => rfl
  | ⟨1, _⟩ => rfl

theorem ref_keyQuarter0 (b : Fin 8) (n : Fin 4096) (i : Fin 8) :
    val_main_v134 (F := Ideal) x mods ng w (ix3 b n i) = zAt x mods ng w b n (keyCol 0 i) := by
  refine (val_main_v134_apply (F := Ideal) x mods ng w _).trans ((val_main_v133_apply (F := Ideal) x mods ng w _).trans (Eq.trans (congrArg _ ?_) (ref_z x mods ng w b n (keyCol 0 i))))
  funext a; apply Fin.ext
  match a with
  | ⟨0, _⟩ => rfl
  | ⟨1, _⟩ => rfl
  | ⟨2, _⟩ => show 384 + (i.val) = 384 + (0 * 8 + i.val); omega

theorem ref_keyQuarter1 (b : Fin 8) (n : Fin 4096) (i : Fin 8) :
    val_main_v135 (F := Ideal) x mods ng w (ix3 b n i) = zAt x mods ng w b n (keyCol 1 i) := by
  refine (val_main_v135_apply (F := Ideal) x mods ng w _).trans ((val_main_v133_apply (F := Ideal) x mods ng w _).trans (Eq.trans (congrArg _ ?_) (ref_z x mods ng w b n (keyCol 1 i))))
  funext a; apply Fin.ext
  match a with
  | ⟨0, _⟩ => rfl
  | ⟨1, _⟩ => rfl
  | ⟨2, _⟩ => show 384 + (8 + i.val) = 384 + (1 * 8 + i.val); omega

theorem ref_keyQuarter2 (b : Fin 8) (n : Fin 4096) (i : Fin 8) :
    val_main_v136 (F := Ideal) x mods ng w (ix3 b n i) = zAt x mods ng w b n (keyCol 2 i) := by
  refine (val_main_v136_apply (F := Ideal) x mods ng w _).trans ((val_main_v133_apply (F := Ideal) x mods ng w _).trans (Eq.trans (congrArg _ ?_) (ref_z x mods ng w b n (keyCol 2 i))))
  funext a; apply Fin.ext
  match a with
  | ⟨0, _⟩ => rfl
  | ⟨1, _⟩ => rfl
  | ⟨2, _⟩ => show 384 + (16 + i.val) = 384 + (2 * 8 + i.val); omega

theorem ref_keyQuarter3 (b : Fin 8) (n : Fin 4096) (i : Fin 8) :
    val_main_v137 (F := Ideal) x mods ng w (ix3 b n i) = zAt x mods ng w b n (keyCol 3 i) := by
  refine (val_main_v137_apply (F := Ideal) x mods ng w _).trans ((val_main_v133_apply (F := Ideal) x mods ng w _).trans (Eq.trans (congrArg _ ?_) (ref_z x mods ng w b n (keyCol 3 i))))
  funext a; apply Fin.ext
  match a with
  | ⟨0, _⟩ => rfl
  | ⟨1, _⟩ => rfl
  | ⟨2, _⟩ => show 384 + (24 + i.val) = 384 + (3 * 8 + i.val); omega

theorem ref_keyTurn0 (b : Fin 8) (n : Fin 4096) (i : Fin 8) :
    val_main_v152 (F := Ideal) x mods ng w (ix3 b n i) = zAt x mods ng w b n (keyCol 0 i) * cosAt n 0 i - zAt x mods ng w b n (keyCol 1 i) * sinAt n 0 i := by
  refine (val_main_v152_apply (F := Ideal) x mods ng w _).trans (congrArg₂ (fun a b : EReal => a - b) ?_ ?_)
  · exact (val_main_v148_apply (F := Ideal) x mods ng w _).trans (congrArg₂ (fun a b : EReal => a * b) (ref_keyQuarter0 x mods ng w b n i) (ref_at147 b n i))
  · exact (val_main_v151_apply (F := Ideal) x mods ng w _).trans (congrArg₂ (fun a b : EReal => a * b) (ref_keyQuarter1 x mods ng w b n i) (ref_at150 b n i))

theorem ref_keyTurn1 (b : Fin 8) (n : Fin 4096) (i : Fin 8) :
    val_main_v159 (F := Ideal) x mods ng w (ix3 b n i) = zAt x mods ng w b n (keyCol 1 i) * cosAt n 0 i + zAt x mods ng w b n (keyCol 0 i) * sinAt n 0 i := by
  refine (val_main_v159_apply (F := Ideal) x mods ng w _).trans (congrArg₂ (fun a b : EReal => a + b) ?_ ?_)
  · exact (val_main_v155_apply (F := Ideal) x mods ng w _).trans (congrArg₂ (fun a b : EReal => a * b) (ref_keyQuarter1 x mods ng w b n i) (ref_at154 b n i))
  · exact (val_main_v158_apply (F := Ideal) x mods ng w _).trans (congrArg₂ (fun a b : EReal => a * b) (ref_keyQuarter0 x mods ng w b n i) (ref_at157 b n i))

theorem ref_keyTurn2 (b : Fin 8) (n : Fin 4096) (i : Fin 8) :
    val_main_v166 (F := Ideal) x mods ng w (ix3 b n i) = zAt x mods ng w b n (keyCol 2 i) * cosAt n 1 i - zAt x mods ng w b n (keyCol 3 i) * sinAt n 1 i := by
  refine (val_main_v166_apply (F := Ideal) x mods ng w _).trans (congrArg₂ (fun a b : EReal => a - b) ?_ ?_)
  · exact (val_main_v162_apply (F := Ideal) x mods ng w _).trans (congrArg₂ (fun a b : EReal => a * b) (ref_keyQuarter2 x mods ng w b n i) (ref_at161 b n i))
  · exact (val_main_v165_apply (F := Ideal) x mods ng w _).trans (congrArg₂ (fun a b : EReal => a * b) (ref_keyQuarter3 x mods ng w b n i) (ref_at164 b n i))

theorem ref_keyTurn3 (b : Fin 8) (n : Fin 4096) (i : Fin 8) :
    val_main_v173 (F := Ideal) x mods ng w (ix3 b n i) = zAt x mods ng w b n (keyCol 3 i) * cosAt n 1 i + zAt x mods ng w b n (keyCol 2 i) * sinAt n 1 i := by
  refine (val_main_v173_apply (F := Ideal) x mods ng w _).trans (congrArg₂ (fun a b : EReal => a + b) ?_ ?_)
  · exact (val_main_v169_apply (F := Ideal) x mods ng w _).trans (congrArg₂ (fun a b : EReal => a * b) (ref_keyQuarter3 x mods ng w b n i) (ref_at168 b n i))
  · exact (val_main_v172_apply (F := Ideal) x mods ng w _).trans (congrArg₂ (fun a b : EReal => a * b) (ref_keyQuarter2 x mods ng w b n i) (ref_at171 b n i))

end Cert.Proof.AbIn

end
-- ==== Proof.AbIn.Ref.lean ====
/-
  The reference's results are the four results of the projection.
-/
module

public import proofs.«01_k».proof.Proof.AbIn.RefTurn

@[expose] public section

noncomputable section

namespace Cert.Proof.AbIn

open Cert.Reference6Ideal Cert.Reference6Ideal.Gen Cert.Reference6Ideal.Read Idealize.ShloMosaic Idealize.ShloMosaic.TcCoe Idealize.SL.Sem
open Cert.Proof.Ffn (invRms modRow)
open scoped BigOperators

variable (x : S8x4096x1024.Idx → EReal) (mods : S16x6x1x1024.Idx → EReal) (ng : S1024.Idx → EReal) (w : S1024x1952.Idx → EReal)
  (qg : S256.Idx → EReal) (wq : S256x768.Idx → EReal) (kg : S128.Idx → EReal) (wkv : S128x1024.Idx → EReal)

/-- A head's turned columns, a quarter after the other. -/
theorem ref_turned (b : Fin 8) (n : Fin 4096) (h : Fin 8) (j : Fin 4) (i : Fin 8) (l : Fin 32) (hl : l.val = j.val * 8 + i.val) :
    val_main_v129 (F := Ideal) x mods ng w qg wq (ix4 b n h l) = turned (fun j i => qWide x mods ng w qg wq b n (turnCol h j i)) (cosAt n) (sinAt n) j i := by
  unfold val_main_v129
  match j with
  | ⟨0, _⟩ => exact (quarters_0 _ _ _ _ b n h i l (by have : l.val = 0 * 8 + i.val := hl; omega)).trans (ref_turn0 x mods ng w qg wq b n h i)
  | ⟨1, _⟩ => exact (quarters_1 _ _ _ _ b n h i l (by have : l.val = 1 * 8 + i.val := hl; omega)).trans (ref_turn1 x mods ng w qg wq b n h i)
  | ⟨2, _⟩ => exact (quarters_2 _ _ _ _ b n h i l (by have : l.val = 2 * 8 + i.val := hl; omega)).trans (ref_turn2 x mods ng w qg wq b n h i)
  | ⟨3, _⟩ => exact (quarters_3 _ _ _ _ b n h i l (by have : l.val = 3 * 8 + i.val := hl; omega)).trans (ref_turn3 x mods ng w qg wq b n h i)

/-- The shared key's turned columns. -/
theorem ref_keyTurned (b : Fin 8) (n : Fin 4096) (j : Fin 4) (i : Fin 8) (l : Fin 32) (hl : l.val = j.val * 8 + i.val) :
    val_main_v174 (F := Ideal) x mods ng w (ix3 b n l) = turned (fun j i => zAt x mods ng w b n (keyCol j i)) (cosAt n) (sinAt n) j i := by
  unfold val_main_v174
  match j with
  | ⟨0, _⟩ => exact (keyQuarters_0 _ _ _ _ b n i l (by have : l.val = 0 * 8 + i.val := hl; omega)).trans (ref_keyTurn0 x mods ng w b n i)
  | ⟨1, _⟩ => exact (keyQuarters_1 _ _ _ _ b n i l (by have : l.val = 1 * 8 + i.val := hl; omega)).trans (ref_keyTurn1 x mods ng w b n i)
  | ⟨2, _⟩ => exact (keyQuarters_2 _ _ _ _ b n i l (by have : l.val = 2 * 8 + i.val := hl; omega)).trans (ref_keyTurn2 x mods ng w b n i)
  | ⟨3, _⟩ => exact (keyQuarters_3 _ _ _ _ b n i l (by have : l.val = 3 * 8 + i.val := hl; omega)).trans (ref_keyTurn3 x mods ng w b n i)

/-- The padding. -/
theorem ref_zeros (i : S8x4096x8x64.Idx) : val_main_v177 (F := Ideal) i = (0 : EReal) :=
  (val_main_v177_apply (F := Ideal) i).trans Ideal.ofBits_zero_f32

theorem ref_scaled (b : Fin 8) (n : Fin 4096) (h : Fin 8) (l : Fin 96) (z : EReal) (hz : val_main_v130 (F := Ideal) x mods ng w qg wq (ix4 b n h l) = z) :
    val_main_v132 (F := Ideal) x mods ng w qg wq (ix4 b n h l) = z * Ideal.ofBits .f32 0x3DD105EC#32 :=
  (val_main_v132_apply (F := Ideal) x mods ng w qg wq _).trans (congrArg₂ (fun a b : EReal => a * b) hz (val_main_v131_apply (F := Ideal) _))

theorem ref_k (b : Fin 8) (n : Fin 4096) (h : Fin 8) (i : Fin 64) :
    val_main_v182 (F := Ideal) x mods ng w kg wkv (ix4 b n h i) = kvWide x mods ng w kg wkv b n (kCol h i) := by
  refine (val_main_v182_apply (F := Ideal) x mods ng w kg wkv _).trans ((val_main_v84_apply (F := Ideal) x mods ng w kg wkv _).trans (Eq.trans (congrArg _ ?_) (ref_kv_wide x mods ng w kg wkv b n (kCol h i))))
  have := b.isLt; have := n.isLt; have := h.isLt; have := i.isLt
  funext a; apply Fin.ext
  match a with
  | ⟨0, _⟩ => show (((b.val * 4096 + n.val) * 8 + h.val) * 128 + i.val) / 4194304 = b.val; omega
  | ⟨1, _⟩ => show (((b.val * 4096 + n.val) * 8 + h.val) * 128 + i.val) / 1024 % 4096 = n.val; omega
  | ⟨2, _⟩ => show (((b.val * 4096 + n.val) * 8 + h.val) * 128 + i.val) % 1024 = h.val * 128 + i.val; omega

theorem ref_v (b : Fin 8) (n : Fin 4096) (h : Fin 8) (i : Fin 64) :
    val_main_v187 (F := Ideal) x mods ng w kg wkv (ix4 b n h i) = kvWide x mods ng w kg wkv b n (vCol h i) := by
  refine (val_main_v187_apply (F := Ideal) x mods ng w kg wkv _).trans ((val_main_v84_apply (F := Ideal) x mods ng w kg wkv _).trans (Eq.trans (congrArg _ ?_) (ref_kv_wide x mods ng w kg wkv b n (vCol h i))))
  have := b.isLt; have := n.isLt; have := h.isLt; have := i.isLt
  funext a; apply Fin.ext
  match a with
  | ⟨0, _⟩ => show (((b.val * 4096 + n.val) * 8 + h.val) * 128 + (64 + i.val)) / 4194304 = b.val; omega
  | ⟨1, _⟩ => show (((b.val * 4096 + n.val) * 8 + h.val) * 128 + (64 + i.val)) / 1024 % 4096 = n.val; omega
  | ⟨2, _⟩ => show (((b.val * 4096 + n.val) * 8 + h.val) * 128 + (64 + i.val)) % 1024 = h.val * 128 + (64 + i.val); omega

/-- A lane of a head's query. -/
theorem ref_query (b : Fin 8) (n : Fin 4096) (h : Fin 8) (e : Fin 128) :
    val_main_v179 (F := Ideal) x mods ng w qg wq (ix4 b n h e) = queryAt x mods ng w qg wq b n h e := by
  refine lane_cases (fun e => val_main_v179 (F := Ideal) x mods ng w qg wq (ix4 b n h e) = queryAt x mods ng w qg wq b n h e) (fun i => ?_) (fun j i => ?_) (fun i => ?_) e
  · have hi := i.isLt
    unfold val_main_v179 queryAt
    rw [lanes_0]
    refine (padded_0 _ _ b n h ⟨i.val, by omega⟩ (lane0 i) (Nat.zero_add _).symm).trans (ref_scaled x mods ng w qg wq b n h _ _ ?_)
    unfold val_main_v130
    exact (headCols_0 _ _ b n h i ⟨i.val, by omega⟩ (Nat.zero_add _).symm).trans (ref_plain x mods ng w qg wq b n h i)
  · have hi := i.isLt; have hj := j.isLt
    unfold val_main_v179 queryAt
    rw [lanes_R]
    refine (padded_0 _ _ b n h ⟨64 + (j.val * 8 + i.val), by omega⟩ (laneR j i) (by show 64 + j.val * 8 + i.val = 0 + (64 + (j.val * 8 + i.val)); omega)).trans
      (ref_scaled x mods ng w qg wq b n h _ _ ?_)
    unfold val_main_v130
    exact (headCols_1 _ _ b n h ⟨j.val * 8 + i.val, by omega⟩ ⟨64 + (j.val * 8 + i.val), by omega⟩ rfl).trans (ref_turned x mods ng w qg wq b n h j i _ rfl)
  · unfold val_main_v179 queryAt
    rw [lanes_5, zero_mul]
    refine (padded_1 _ _ b n h i (lane5 i) rfl).trans ?_
    exact (val_main_v178_apply (F := Ideal) _).trans (ref_zeros _)

/-- A lane of a head's key. -/
theorem ref_key (b : Fin 8) (n : Fin 4096) (h : Fin 8) (e : Fin 128) :
    val_main_v184 (F := Ideal) x mods ng w kg wkv (ix4 b n h e) = keyAt x mods ng w kg wkv b n h e := by
  refine lane_cases (fun e => val_main_v184 (F := Ideal) x mods ng w kg wkv (ix4 b n h e) = keyAt x mods ng w kg wkv b n h e) (fun i => ?_) (fun j i => ?_) (fun i => ?_) e
  · unfold val_main_v184 keyAt
    rw [lanes_0]
    exact (keyCols_0 _ _ _ b n h i (lane0 i) (Nat.zero_add _).symm).trans (ref_k x mods ng w kg wkv b n h i)
  · have hi := i.isLt; have hj := j.isLt
    unfold val_main_v184 keyAt
    rw [lanes_R]
    refine (keyCols_1 _ _ _ b n h ⟨j.val * 8 + i.val, by omega⟩ (laneR j i) (by show 64 + j.val * 8 + i.val = 64 + (j.val * 8 + i.val); omega)).trans ?_
    refine (val_main_v176_apply (F := Ideal) x mods ng w _).trans ((val_main_v175_apply (F := Ideal) x mods ng w _).trans (Eq.trans (congrArg _ ?_) (ref_keyTurned x mods ng w b n j i ⟨j.val * 8 + i.val, by omega⟩ rfl)))
    funext a; apply Fin.ext
    match a with
    | ⟨0, _⟩ => rfl
    | ⟨1, _⟩ => rfl
    | ⟨2, _⟩ => rfl
  · unfold val_main_v184 keyAt
    rw [lanes_5]
    refine (keyCols_2 _ _ _ b n h i (lane5 i) rfl).trans ?_
    exact (val_main_v183_apply (F := Ideal) _).trans (ref_zeros _)

/-- A lane of a head's value. -/
theorem ref_val (b : Fin 8) (n : Fin 4096) (h : Fin 8) (e : Fin 128) :
    val_main_v188 (F := Ideal) x mods ng w kg wkv (ix4 b n h e) = valueAt x mods ng w kg wkv b n h e := by
  refine lane_cases (fun e => val_main_v188 (F := Ideal) x mods ng w kg wkv (ix4 b n h e) = valueAt x mods ng w kg wkv b n h e) (fun i => ?_) (fun j i => ?_) (fun i => ?_) e
  · unfold val_main_v188 valueAt
    rw [lanes_0]
    exact (valueCols_0 _ _ b n h i (lane0 i) (Nat.zero_add _).symm).trans (ref_v x mods ng w kg wkv b n h i)
  · have hi := i.isLt; have hj := j.isLt
    unfold val_main_v188 valueAt
    rw [lanes_R]
    exact (valueCols_1 _ _ b n h ⟨j.val * 8 + i.val, by omega⟩ (laneR j i) (by show 64 + j.val * 8 + i.val = 64 + (j.val * 8 + i.val); omega)).trans (ref_zeros _)
  · have hi := i.isLt
    unfold val_main_v188 valueAt
    rw [lanes_5]
    exact (valueCols_1 _ _ b n h ⟨32 + i.val, by omega⟩ (lane5 i) (by show 96 + i.val = 64 + (32 + i.val); omega)).trans (ref_zeros _)

theorem ref_queries : val_main_v181 (F := Ideal) x mods ng w qg wq = queriesOf x mods ng w qg wq := by
  funext i
  obtain ⟨b, n, c, rfl⟩ : ∃ (b : Fin 8) (n : Fin 4096) (c : Fin 1024), i = ix3 b n c :=
    ⟨i 0, i 1, i 2, funext fun a => by
      match a with
      | ⟨0, _⟩ => rfl
      | ⟨1, _⟩ => rfl
      | ⟨2, _⟩ => rfl⟩
  show _ = queryAt x mods ng w qg wq b n (headOf c) (laneOf c)
  refine (val_main_v181_apply (F := Ideal) x mods ng w qg wq _).trans ?_
  refine (val_main_v180_apply (F := Ideal) x mods ng w qg wq _).trans (Eq.trans (congrArg _ ?_) (ref_query x mods ng w qg wq b n (headOf c) (laneOf c)))
  have := b.isLt; have := n.isLt; have := c.isLt
  funext a; apply Fin.ext
  match a with
  | ⟨0, _⟩ => show ((b.val * 4096 + n.val) * 1024 + c.val) / 4194304 = b.val; omega
  | ⟨1, _⟩ => show ((b.val * 4096 + n.val) * 1024 + c.val) / 1024 % 4096 = n.val; omega
  | ⟨2, _⟩ => show ((b.val * 4096 + n.val) * 1024 + c.val) / 128 % 8 = c.val / 128; omega
  | ⟨3, _⟩ => show ((b.val * 4096 + n.val) * 1024 + c.val) % 128 = c.val % 128; omega

theorem ref_keys : val_main_v186 (F := Ideal) x mods ng w kg wkv = keysAll x mods ng w kg wkv := by
  funext i
  obtain ⟨b, n, c, rfl⟩ : ∃ (b : Fin 8) (n : Fin 4096) (c : Fin 1024), i = ix3 b n c :=
    ⟨i 0, i 1, i 2, funext fun a => by
      match a with
      | ⟨0, _⟩ => rfl
      | ⟨1, _⟩ => rfl
      | ⟨2, _⟩ => rfl⟩
  show _ = keyAt x mods ng w kg wkv b n (headOf c) (laneOf c)
  refine (val_main_v186_apply (F := Ideal) x mods ng w kg wkv _).trans ?_
  refine (val_main_v185_apply (F := Ideal) x mods ng w kg wkv _).trans (Eq.trans (congrArg _ ?_) (ref_key x mods ng w kg wkv b n (headOf c) (laneOf c)))
  have := b.isLt; have := n.isLt; have := c.isLt
  funext a; apply Fin.ext
  match a with
  | ⟨0, _⟩ => show ((b.val * 4096 + n.val) * 1024 + c.val) / 4194304 = b.val; omega
  | ⟨1, _⟩ => show ((b.val * 4096 + n.val) * 1024 + c.val) / 1024 % 4096 = n.val; omega
  | ⟨2, _⟩ => show ((b.val * 4096 + n.val) * 1024 + c.val) / 128 % 8 = c.val / 128; omega
  | ⟨3, _⟩ => show ((b.val * 4096 + n.val) * 1024 + c.val) % 128 = c.val % 128; omega

theorem ref_values : val_main_v190 (F := Ideal) x mods ng w kg wkv = valuesAll x mods ng w kg wkv := by
  funext i
  obtain ⟨b, n, c, rfl⟩ : ∃ (b : Fin 8) (n : Fin 4096) (c : Fin 1024), i = ix3 b n c :=
    ⟨i 0, i 1, i 2, funext fun a => by
      match a with
      | ⟨0, _⟩ => rfl
      | ⟨1, _⟩ => rfl
      | ⟨2, _⟩ => rfl⟩
  show _ = valueAt x mods ng w kg wkv b n (headOf c) (laneOf c)
  refine (val_main_v190_apply (F := Ideal) x mods ng w kg wkv _).trans ?_
  refine (val_main_v189_apply (F := Ideal) x mods ng w kg wkv _).trans (Eq.trans (congrArg _ ?_) (ref_val x mods ng w kg wkv b n (headOf c) (laneOf c)))
  have := b.isLt; have := n.isLt; have := c.isLt
  funext a; apply Fin.ext
  match a with
  | ⟨0, _⟩ => show ((b.val * 4096 + n.val) * 1024 + c.val) / 4194304 = b.val; omega
  | ⟨1, _⟩ => show ((b.val * 4096 + n.val) * 1024 + c.val) / 1024 % 4096 = n.val; omega
  | ⟨2, _⟩ => show ((b.val * 4096 + n.val) * 1024 + c.val) / 128 % 8 = c.val / 128; omega
  | ⟨3, _⟩ => show ((b.val * 4096 + n.val) * 1024 + c.val) % 128 = c.val % 128; omega

end Cert.Proof.AbIn

end
-- ==== Proof.AbIn.Claim.lean ====
/-
  The claims about the attention mixer's input projection: the programs run, and the kernel's four results are the reference's
  when the modulation vectors, the gains and the weights of the turned columns are numbers.
-/
module

public import proofs.«01_k».proof.Defs
public import proofs.«01_k».proof.Proof.AbIn.Array
public import proofs.«01_k».proof.Proof.AbIn.Ref
public import proofs.«01_k».proof.Proof.Attn.Claim
public import proofs.«01_k».proof.Proof.Gen.Kernel6.Frame
public import proofs.«01_k».proof.Proof.Gen.Kernel6Ideal.Frame
public import Idealize.ShloMosaic.Lib.Quiescent

@[expose] public section

noncomputable section

namespace Cert.Proof.AbIn

open Idealize.ShloMosaic Idealize.SL.Sem

/-- The side conditions of the precondition's operations. -/
theorem preFacts : Cert.Pre_finite_proj.Facts := ⟨by decide, by decide, by decide, by decide, by decide⟩

section Pre

variable [Cert.Pre_finite_proj.Facts]

variable (x : FVec Ideal Cert.Pre_finite_proj.S8x4096x1024 .f32) (mods : FVec Ideal Cert.Pre_finite_proj.S16x6x1x1024 .f32) (ng : FVec Ideal Cert.Pre_finite_proj.S1024 .f32)
  (w : FVec Ideal Cert.Pre_finite_proj.S1024x1952 .f32) (qg : FVec Ideal Cert.Pre_finite_proj.S256 .f32) (wq : FVec Ideal Cert.Pre_finite_proj.S256x768 .f32)
  (kg : FVec Ideal Cert.Pre_finite_proj.S128 .f32) (wkv : FVec Ideal Cert.Pre_finite_proj.S128x1024 .f32)

theorem pre_mods (h : (Cert.Pre_finite_proj.fn (F := Ideal) x mods ng w qg wq kg wkv).1 = fun _ => 1#1) (i : Cert.Pre_finite_proj.S16x6x1x1024.Idx) :
    IsReal (mods i) :=
    haveI := Attn.preFacts; Attn.isReal_of_cmp (congrFun h i)

theorem pre_ng (h : (Cert.Pre_finite_proj.fn (F := Ideal) x mods ng w qg wq kg wkv).2.1 = fun _ => 1#1) (i : Cert.Pre_finite_proj.S1024.Idx) :
    IsReal (ng i) :=
    haveI := Attn.preFacts; Attn.isReal_of_cmp (congrFun h i)

theorem pre_w (h : (Cert.Pre_finite_proj.fn (F := Ideal) x mods ng w qg wq kg wkv).2.2.1 = fun _ => 1#1) (i : Cert.Pre_finite_proj.S1024x1952.Idx) :
    IsReal (w i) :=
    haveI := Attn.preFacts; Attn.isReal_of_cmp (congrFun h i)

theorem pre_qg (h : (Cert.Pre_finite_proj.fn (F := Ideal) x mods ng w qg wq kg wkv).2.2.2.1 = fun _ => 1#1) (i : Cert.Pre_finite_proj.S256.Idx) :
    IsReal (qg i) :=
    haveI := Attn.preFacts; Attn.isReal_of_cmp (congrFun h i)

theorem pre_wq (h : (Cert.Pre_finite_proj.fn (F := Ideal) x mods ng w qg wq kg wkv).2.2.2.2 = fun _ => 1#1) (i : Cert.Pre_finite_proj.S256x768.Idx) :
    IsReal (wq i) :=
    haveI := Attn.preFacts; Attn.isReal_of_cmp (congrFun h i)

end Pre

theorem frame_reference : Cert.quiescent_Reference6Ideal := fun m ρ _ =>
  (θ_run (Cert.Reference6Ideal.defs (F := Ideal)) _ _).mono
    (fun r h => ⟨fun c => (h c).2.2.2.2, Idealize.ShloMosaic.sem_eq_zero_of_no_sems (by decide) r.2⟩)
    (Cert.Reference6Ideal.Value.run (F := Ideal) m ρ)

theorem algebraic (hP : Cert.Pre_finite_proj.Facts) :
    Cert.algebraic_Kernel6Ideal_Reference6Ideal_pre_finite_proj (hPre_finite_proj := hP) := by
  intro m g m' g' hpre hargs
  refine ⟨fun c => result0 m c, fun c => result1 m c, fun c => result2 m c, fun c => result3 m c, ?_, ?_⟩
  · refine (θ_run (Cert.Kernel6Ideal.defs (F := Ideal)) _ _).mono (fun r h c => ?_) (Cert.Kernel6Ideal.Value.run_blocks (F := Ideal) m g)
    obtain ⟨p0, p1, p2, p3, p4⟩ := hpre c
    obtain ⟨r0, r1, r2, r3, hr⟩ := h c
    exact ⟨r0.trans (final13 m c (pre_qg _ _ _ _ _ _ _ _ p3) (pre_wq _ _ _ _ _ _ _ _ p4)),
      r1.trans (final14 m c (pre_ng _ _ _ _ _ _ _ _ p1) (pre_mods _ _ _ _ _ _ _ _ p0) (pre_w _ _ _ _ _ _ _ _ p2)),
      r2.trans (final15 m c), r3.trans (final16 m c), hr⟩
  · refine (θ_run (Cert.Reference6Ideal.defs (F := Ideal)) _ _).mono (fun r h c => ?_) (Cert.Reference6Ideal.Value.run (F := Ideal) m' g')
    obtain ⟨h0, h1, h2, h3, h4, h5, h6, h7⟩ := hargs c
    obtain ⟨r0, r1, r2, r3, hr⟩ := h c
    have e0 : Idealize.ShloMosaic.StableHlo.launchContents m' c (Proc.devRef .tc Cert.Reference6Ideal.main_arg0) = m ((c.tc : Thread Cert.Kernel6Ideal.nD Cert.Kernel6Ideal.τ).loc Cert.Kernel6Ideal.main_arg0) := h0
    have e1 : Idealize.ShloMosaic.StableHlo.launchContents m' c (Proc.devRef .tc Cert.Reference6Ideal.main_arg1) = m ((c.tc : Thread Cert.Kernel6Ideal.nD Cert.Kernel6Ideal.τ).loc Cert.Kernel6Ideal.main_arg1) := h1
    have e2 : Idealize.ShloMosaic.StableHlo.launchContents m' c (Proc.devRef .tc Cert.Reference6Ideal.main_arg2) = m ((c.tc : Thread Cert.Kernel6Ideal.nD Cert.Kernel6Ideal.τ).loc Cert.Kernel6Ideal.main_arg2) := h2
    have e3 : Idealize.ShloMosaic.StableHlo.launchContents m' c (Proc.devRef .tc Cert.Reference6Ideal.main_arg3) = m ((c.tc : Thread Cert.Kernel6Ideal.nD Cert.Kernel6Ideal.τ).loc Cert.Kernel6Ideal.main_arg3) := h3
    have e4 : Idealize.ShloMosaic.StableHlo.launchContents m' c (Proc.devRef .tc Cert.Reference6Ideal.main_arg4) = m ((c.tc : Thread Cert.Kernel6Ideal.nD Cert.Kernel6Ideal.τ).loc Cert.Kernel6Ideal.main_arg4) := h4
    have e5 : Idealize.ShloMosaic.StableHlo.launchContents m' c (Proc.devRef .tc Cert.Reference6Ideal.main_arg5) = m ((c.tc : Thread Cert.Kernel6Ideal.nD Cert.Kernel6Ideal.τ).loc Cert.Kernel6Ideal.main_arg5) := h5
    have e6 : Idealize.ShloMosaic.StableHlo.launchContents m' c (Proc.devRef .tc Cert.Reference6Ideal.main_arg6) = m ((c.tc : Thread Cert.Kernel6Ideal.nD Cert.Kernel6Ideal.τ).loc Cert.Kernel6Ideal.main_arg6) := h6
    have e7 : Idealize.ShloMosaic.StableHlo.launchContents m' c (Proc.devRef .tc Cert.Reference6Ideal.main_arg7) = m ((c.tc : Thread Cert.Kernel6Ideal.nD Cert.Kernel6Ideal.τ).loc Cert.Kernel6Ideal.main_arg7) := h7
    refine ⟨r0.trans ?_, r1.trans ?_, r2.trans ?_, r3.trans ?_, hr⟩
    · refine (Cert.Reference6Ideal.Read.val_main_v181_eq (F := Ideal) _).trans ?_
      rw [e0, e1, e2, e3, e4, e5]
      exact ref_queries _ _ _ _ _ _
    · refine (Cert.Reference6Ideal.Read.val_main_v186_eq (F := Ideal) _).trans ?_
      rw [e0, e1, e2, e3, e6, e7]
      exact ref_keys _ _ _ _ _ _
    · refine (Cert.Reference6Ideal.Read.val_main_v190_eq (F := Ideal) _).trans ?_
      rw [e0, e1, e2, e3, e6, e7]
      exact ref_values _ _ _ _ _ _
    · refine (Cert.Reference6Ideal.Read.val_main_v191_eq (F := Ideal) _).trans ?_
      rw [e0, e1, e2, e3]
      exact ref_conv _ _ _ _

end Cert.Proof.AbIn

end
-- ==== Proof.Mods.Payload.lean ====
/-
  The modulation vectors' body, read at one element: the silu of a conditioning row times a column of the weights, and its bias.
-/
module

public import proofs.«01_k».proof.Proof.HgIn.Payload
public import proofs.«01_k».proof.Proof.Gen.Kernel7Ideal.Value

@[expose] public section

noncomputable section

namespace Cert.Proof.Mods

open Cert.Kernel7Ideal Cert.Kernel7Ideal.Gen Idealize.ShloMosaic Idealize.ShloMosaic.TcCoe Idealize.SL.Sem
open Cert.Proof.HgIn (silu zero2 zero3)
open scoped BigOperators

theorem drop_rows {α : Type} (x : S16x1024.Idx → α) (r : Fin 16) (d : Fin 1024) :
    shapeCast S16x1024 x shapeCasts_S16x1024_S16x1024 (ix2 r d) = x (ix2 r d) :=
  shapeCast_apply x _ _ _ rfl

theorem drop_weights {α : Type} (x : S1x1024x512.Idx → α) (d : Fin 1024) (l : Fin 512) :
    shapeCast S1024x512 x shapeCasts_S1x1024x512_S1024x512 (ix2 d l) = x (ix3 (0 : Fin 1) d l) :=
  shapeCast_apply x _ _ _ (by
    rw [Shape.rowMajor_val_two, Shape.rowMajor_val_three]
    show (0 * 1024 + d.val) * 512 + l.val = d.val * 512 + l.val
    omega)

theorem drop_bias {α : Type} (x : S1x1x512.Idx → α) (r : Fin 16) (l : Fin 512) :
    broadcastTo S16x512 (shapeCast S1x512 x shapeCasts_S1x1x512_S1x512) broadcasts_S1x512_S16x512 (ix2 r l)
      = x (ix3 (0 : Fin 1) (0 : Fin 1) l) := by
  refine Eq.trans (b := shapeCast S1x512 x shapeCasts_S1x1x512_S1x512 (ix2 (0 : Fin 1) l)) ?_ ?_
  · pointwise
  · exact shapeCast_apply x _ _ _ (by
      rw [Shape.rowMajor_val_two, Shape.rowMajor_val_three]
      show (0 * 1 + 0) * 512 + l.val = 0 * 512 + l.val
      omega)

theorem lead_apply (y : FVec Ideal S16x512 .f32) (r : Fin 16) (l : Fin 512) :
    shapeCast S1x16x512 y shapeCasts_S16x512_S1x16x512 (ix3 (0 : Fin 1) r l) = y (ix2 r l) :=
  shapeCast_apply _ shapeCasts_S16x512_S1x16x512 (ix3 (0 : Fin 1) r l) (ix2 r l) (by
    rw [Shape.rowMajor_val_two, Shape.rowMajor_val_three]
    show r.val * 512 + l.val = (0 * 16 + r.val) * 512 + l.val
    omega)

theorem prod_apply (u : FVec Ideal S16x1024 .f32) (w : FVec Ideal S1x1024x512 .f32) (r : Fin 16) (l : Fin 512) :
    Ideal.matmul dot_S16x1024_S1024x512_S16x512_1_0_0_1_n_n u (shapeCast S1024x512 w shapeCasts_S1x1024x512_S1024x512)
      (constant (F := Ideal) S16x512 .f32 0x00000000#32) (ix2 r l) = ∑ d : Fin 1024, u (ix2 r d) * w (ix3 (0 : Fin 1) d l) := by
  refine (Ideal.matmul_plain_apply (M := 16) (K := 1024) (N := 512) (φ₁ := .f32) (φ₂ := .f32) (some .fp32) u _ _ r l).trans ?_
  show Ideal.ofBits .f32 0x00000000#32 + _ = _
  rw [Ideal.ofBits_zero_f32, zero_add]
  exact Finset.sum_congr rfl fun d _ => congrArg (fun b : EReal => u (ix2 r d) * b) (drop_weights w d l)

variable (x0 : Vec Ideal S16x1024 .f32) (x1 : Vec Ideal S1x1024x512 .f32) (x2 : Vec Ideal S1x1x512 .f32)

/-- What a point leaves in its output block. -/
theorem out_apply (r : Fin 16) (l : Fin 512) :
    out0_3 (F := Ideal) x0 x1 x2 (ix3 (0 : Fin 1) r l)
      = (∑ d : Fin 1024, silu (x0 (ix2 r d)) * x1 (ix3 (0 : Fin 1) d l)) + x2 (ix3 (0 : Fin 1) (0 : Fin 1) l) := by
  unfold out0_3 k0_pay1
  rw [View.canon_unit_zero zero3]
  simp only [View.ld_unit_zero (S := S16x1024) zero2, View.ld_unit_zero (S := S1x1024x512) zero3, View.ld_unit_zero (S := S1x1x512) zero3]
  refine (lead_apply _ r l).trans (congrArg₂ (fun a b : EReal => a + b) ((prod_apply _ x1 r l).trans ?_) (drop_bias x2 r l))
  exact Finset.sum_congr rfl fun d _ => congrArg (fun a : EReal => silu a * x1 (ix3 (0 : Fin 1) d l)) (drop_rows x0 r d)

end Cert.Proof.Mods

end
-- ==== Proof.Mods.Array.lean ====
/-
  The modulation vectors: the host's rows, and the kernel's result array, its blocks put together.
-/
module

public import proofs.«01_k».proof.Proof.Mods.Payload
public import Idealize.ShloMosaic.Lib.Routing.OpsSet

@[expose] public section

noncomputable section

namespace Cert.Proof.Mods

open Cert.Kernel7Ideal Cert.Kernel7Ideal.Gen Idealize.ShloMosaic Idealize.ShloMosaic.TcCoe Idealize.SL.Sem
open Idealize.ShloMosaic.Pipeline (Dat)
open Cert.Proof.HgIn (silu)
open scoped BigOperators

section Spec

variable (cond : S8x1024.Idx → EReal) (ctx : S1024.Idx → EReal) (w : S2x1024x6144.Idx → EReal) (b : S2x6144.Idx → EReal)

/-- The conditioning rows: one per batch, the context's after them, and zeros. -/
def rowAt (r : Fin 16) (d : Fin 1024) : EReal :=
  if h : r.val < 8 then cond (ix2 (⟨r.val, h⟩ : Fin 8) d) else if r.val = 8 then ctx (ix1 d) else 0

/-- The modulation vectors of a layer and a row. -/
def vectors (i : S2x16x6144.Idx) : EReal :=
  (∑ d : Fin 1024, silu (rowAt cond ctx (i 1) d) * w (ix3 (i 0) d (i 2))) + b (ix2 (i 0) (i 2))

end Spec

/-! ## The host's rows -/

section Rows

/-- Where an element of the batch's rows lands. -/
theorem lands_batch (idx : IVec S1 32) (k : Nat) (hidx : ∀ q, (idx q).toInt = (k : Int)) (r' : Fin 8) (e' : Fin 1024) (r : Fin 16) (e : Fin 1024) :
    scatter_S16x1024_S1_S8x1024_01_n_0_0.resultIdx? (ix2 r' e') idx = some (ix2 r e) ↔ k + r'.val = r.val ∧ e' = e := by
  have w0 : scatter_S16x1024_S1_S8x1024_01_n_0_0.window (ix2 r' e') 0 = r'.val := rfl
  have w1 : scatter_S16x1024_S1_S8x1024_01_n_0_0.window (ix2 r' e') 1 = e'.val := rfl
  have s0 : scatter_S16x1024_S1_S8x1024_01_n_0_0.start (ix2 r' e') idx 0 = (k : Int) := by
    unfold ScatterDims.start
    exact (dif_pos (List.mem_singleton.2 rfl)).trans (hidx _)
  have s1 : scatter_S16x1024_S1_S8x1024_01_n_0_0.start (ix2 r' e') idx 1 = 0 := by
    unfold ScatterDims.start
    exact dif_neg fun h => absurd (List.mem_singleton.1 h) (by decide : (1 : Fin 2) ≠ 0)
  rw [Fin.ext_iff]
  refine (Routing.resultIdx?_ix2 (R := 16) (C := 1024) _ _ _ r e).trans ?_
  rw [s0, w0, s1, w1]
  omega

/-- Where an element of the context's row lands. -/
theorem lands_ctx (idx : IVec S1 32) (k : Nat) (hidx : ∀ q, (idx q).toInt = (k : Int)) (e' : Fin 1024) (r : Fin 16) (e : Fin 1024) :
    scatter_S16x1024_S1_S1024_0_0_0_0.resultIdx? (ix1 e') idx = some (ix2 r e) ↔ k = r.val ∧ e' = e := by
  have w0 : scatter_S16x1024_S1_S1024_0_0_0_0.window (ix1 e') 0 = 0 := rfl
  have w1 : scatter_S16x1024_S1_S1024_0_0_0_0.window (ix1 e') 1 = e'.val := rfl
  have s0 : scatter_S16x1024_S1_S1024_0_0_0_0.start (ix1 e') idx 0 = (k : Int) := by
    unfold ScatterDims.start
    exact (dif_pos (List.mem_singleton.2 rfl)).trans (hidx _)
  have s1 : scatter_S16x1024_S1_S1024_0_0_0_0.start (ix1 e') idx 1 = 0 := by
    unfold ScatterDims.start
    exact dif_neg fun h => absurd (List.mem_singleton.1 h) (by decide : (1 : Fin 2) ≠ 0)
  rw [Fin.ext_iff]
  refine (Routing.resultIdx?_ix2 (R := 16) (C := 1024) _ _ _ r e).trans ?_
  rw [s0, w0, s1, w1]
  omega

theorem eq_pair (j : S8x1024.Idx) : j = ix2 (j 0 : Fin 8) (j 1 : Fin 1024) := by
  funext a
  match a with
  | ⟨0, _⟩ => rfl
  | ⟨1, _⟩ => rfl

theorem eq_single (j : S1024.Idx) : j = ix1 (j 0 : Fin 1024) := by
  funext a
  match a with
  | ⟨0, _⟩ => rfl

theorem set_batch (x : S16x1024.Idx → EReal) (idx : IVec S1 32) (hidx : ∀ q, (idx q).toInt = (0 : Int)) (u : S8x1024.Idx → EReal) (r : Fin 16) (e : Fin 1024) :
    Host.scatter scatter_S16x1024_S1_S8x1024_01_n_0_0 (fun _ b => b) x idx u (ix2 r e)
      = if h : r.val < 8 then u (ix2 (⟨r.val, h⟩ : Fin 8) e) else x (ix2 r e) := by
  have key : ∀ j : S8x1024.Idx, scatter_S16x1024_S1_S8x1024_01_n_0_0.resultIdx? j idx = some (ix2 r e) → 0 + (j 0).val = r.val ∧ (j 1 : Fin 1024) = e := fun j hj =>
    (lands_batch idx 0 hidx (j 0) (j 1) r e).1 ((congrArg (fun t => scatter_S16x1024_S1_S8x1024_01_n_0_0.resultIdx? t idx) (eq_pair j).symm).trans hj)
  by_cases h : r.val < 8
  · rw [dif_pos h]
    refine Routing.scatter_set_hit _ x idx u _ _ (fun j hj => congrArg u ((eq_pair j).trans ?_)) (ix2 (⟨r.val, h⟩ : Fin 8) e)
      ((lands_batch idx 0 hidx _ e r e).2 ⟨by show 0 + r.val = r.val; omega, rfl⟩)
    have e0 : (j 0 : Fin 8) = ⟨r.val, h⟩ := Fin.ext ((Nat.zero_add _).symm.trans (key j hj).1)
    rw [e0, (key j hj).2]
    rfl
  · rw [dif_neg h]
    refine Routing.scatter_set_miss _ x idx u _ fun j hj => h ?_
    have h0 := (key j hj).1
    have h1 : (j 0).val < 8 := (j 0).isLt
    omega

theorem set_ctx (x : S16x1024.Idx → EReal) (idx : IVec S1 32) (hidx : ∀ q, (idx q).toInt = ((8 : Nat) : Int)) (u : S1024.Idx → EReal) (r : Fin 16) (e : Fin 1024) :
    Host.scatter scatter_S16x1024_S1_S1024_0_0_0_0 (fun _ b => b) x idx u (ix2 r e)
      = if r.val = 8 then u (ix1 e) else x (ix2 r e) := by
  have key : ∀ j : S1024.Idx, scatter_S16x1024_S1_S1024_0_0_0_0.resultIdx? j idx = some (ix2 r e) → 8 = r.val ∧ (j 0 : Fin 1024) = e := fun j hj =>
    (lands_ctx idx 8 hidx (j 0) r e).1 ((congrArg (fun t => scatter_S16x1024_S1_S1024_0_0_0_0.resultIdx? t idx) (eq_single j).symm).trans hj)
  by_cases h : r.val = 8
  · rw [if_pos h]
    refine Routing.scatter_set_hit _ x idx u _ _ (fun j hj => congrArg u ((eq_single j).trans ?_)) (ix1 e)
      ((lands_ctx idx 8 hidx e r e).2 ⟨h.symm, rfl⟩)
    rw [(key j hj).2]
    rfl
  · rw [if_neg h]
    exact Routing.scatter_set_miss _ x idx u _ fun j hj => h (key j hj).1.symm

end Rows

variable (m : (ℓ : Loc nD τ sig) → Buf (Elt Ideal) ℓ) (ρ : Dev nD → PrngReg)

theorem V_rows (c : Dev nD) (r : Fin 16) (d : Fin 1024) :
    V m c main_v4 (ix2 r d) = rowAt (m ((c : Thread nD τ).loc main_arg0)) (m ((c : Thread nD τ).loc main_arg1)) r d := by
  have hv : V m c main_v4 = Host.scatter scatter_S16x1024_S1_S1024_0_0_0_0 (fun _ b => b)
      (Host.scatter scatter_S16x1024_S1_S8x1024_01_n_0_0 (fun _ b => b)
        (broadcastInDim S16x1024 ![] bcast_S_S16x1024 (constant (F := Ideal) S_ .f32 0x00000000#32))
        (broadcastInDim S1 ![] bcast_S_S1 (constantI S_ 32 0#32)) (m ((c : Thread nD τ).loc main_arg0)))
      (broadcastInDim S1 ![] bcast_S_S1 (constantI S_ 32 8#32)) (m ((c : Thread nD τ).loc main_arg1)) := by
    show StableHlo.after _ _ _ = _
    simp only [hostOps0, List.flatten_cons, List.flatten_nil, List.append_nil, List.cons_append, List.nil_append]
    after_results_simp <;> rfl
  rw [hv]
  refine (set_ctx _ _ (fun q => by rfl) _ r d).trans ?_
  unfold rowAt
  by_cases h : r.val < 8
  · rw [dif_pos h, if_neg (by omega)]
    exact (set_batch _ _ (fun q => by rfl) _ r d).trans (dif_pos h)
  · rw [dif_neg h]
    refine congrArg (ite _ _) ((set_batch _ _ (fun q => by rfl) _ r d).trans ((dif_neg h).trans ?_))
    exact Ideal.ofBits_zero_f32

/-- The biases with a unit axis. -/
theorem V_bias (c : Dev nD) (l : Fin 2) (e : Fin 6144) :
    V m c main_v5 (ix3 l (0 : Fin 1) e) = m ((c : Thread nD τ).loc main_arg3) (ix2 l e) := by
  have hv : V m c main_v5 = shapeCast S2x1x6144 (m ((c : Thread nD τ).loc main_arg3)) shapeCasts_S2x6144_S2x1x6144 := by
    show StableHlo.after _ _ _ = _
    simp only [hostOps0, List.flatten_cons, List.flatten_nil, List.append_nil, List.cons_append, List.nil_append]
    after_results_simp <;> rfl
  rw [hv]
  exact shapeCast_apply (s := S2x6144) _ _ _ _ (by
    rw [Shape.rowMajor_val_two, Shape.rowMajor_val_three]
    show l.val * 6144 + e.val = (l.val * 1 + 0) * 6144 + e.val
    omega)

theorem t_lt (t : Fin cfg0.N) : t.val < 24 := lt_of_lt_of_eq t.isLt N_0

/-- The layer and the columns under point `t`'s block coordinates. -/
def layerAt (t : Fin cfg0.N) : Fin 2 := ⟨t.val / 12, by have := t_lt t; omega⟩
def colAt (t : Fin cfg0.N) (e : Fin 512) : Fin 6144 := ⟨t.val % 12 * 512 + e.val, by have := e.isLt; omega⟩

theorem idx3 : ∀ t : Fin cfg0.N, win0_3.index t 0 = t.val / 12 ∧ win0_3.index t 1 = 0 ∧ win0_3.index t 2 = t.val % 12 :=
  (by decide +kernel : ∀ t : Fin grid0.N, _)

theorem emb3 (t : Fin cfg0.N) (r : Fin 16) (e : Fin 512) :
    (win0_3.blk t).view.emb (ix3 (0 : Fin 1) r e) = ix3 (layerAt t) r (colAt t e) := by
  obtain ⟨h0, h1, h2⟩ := idx3 t
  funext a; apply Fin.ext
  match a with
  | ⟨0, _⟩ => exact (Pipeline.Window.rect_emb_val win0_3 t _ 0).trans (by rw [h0]; show t.val / 12 * 1 + 0 = t.val / 12; omega)
  | ⟨1, _⟩ => exact (Pipeline.Window.rect_emb_val win0_3 t _ 1).trans (by rw [h1]; show 0 * 16 + r.val = r.val; omega)
  | ⟨2, _⟩ => exact (Pipeline.Window.rect_emb_val win0_3 t _ 2).trans (by rw [h2]; rfl)

theorem idx0 : ∀ t : Fin cfg0.N, win0_0.index t 0 = 0 ∧ win0_0.index t 1 = 0 :=
  (by decide +kernel : ∀ t : Fin grid0.N, _)

theorem blk0 (c : Dev nD) (t : Fin cfg0.N) (r : Fin 16) (d : Fin 1024) :
    iblk m c 0 t (ix2 r d) = rowAt (m ((c : Thread nD τ).loc main_arg0)) (m ((c : Thread nD τ).loc main_arg1)) r d := by
  obtain ⟨h0, h1⟩ := idx0 t
  refine Eq.trans ?_ (V_rows m c r d)
  refine congrArg (V m c main_v4) (funext fun a => Fin.ext ?_)
  match a with
  | ⟨0, _⟩ => exact (Pipeline.Window.rect_emb_val win0_0 t _ 0).trans (by rw [h0]; show 0 * 16 + r.val = r.val; omega)
  | ⟨1, _⟩ => exact (Pipeline.Window.rect_emb_val win0_0 t _ 1).trans (by rw [h1]; show 0 * 1024 + d.val = d.val; omega)

theorem idx1 : ∀ t : Fin cfg0.N, win0_1.index t 0 = t.val / 12 ∧ win0_1.index t 1 = 0 ∧ win0_1.index t 2 = t.val % 12 :=
  (by decide +kernel : ∀ t : Fin grid0.N, _)

theorem blk1 (c : Dev nD) (t : Fin cfg0.N) (d : Fin 1024) (e : Fin 512) :
    iblk m c 1 t (ix3 (0 : Fin 1) d e) = m ((c : Thread nD τ).loc main_arg2) (ix3 (layerAt t) d (colAt t e)) := by
  obtain ⟨h0, h1, h2⟩ := idx1 t
  refine Eq.trans ?_ (congrFun (V_main_arg2 m c) _)
  refine congrArg (V m c main_arg2) (funext fun a => Fin.ext ?_)
  match a with
  | ⟨0, _⟩ => exact (Pipeline.Window.rect_emb_val win0_1 t _ 0).trans (by rw [h0]; show t.val / 12 * 1 + 0 = t.val / 12; omega)
  | ⟨1, _⟩ => exact (Pipeline.Window.rect_emb_val win0_1 t _ 1).trans (by rw [h1]; show 0 * 1024 + d.val = d.val; omega)
  | ⟨2, _⟩ => exact (Pipeline.Window.rect_emb_val win0_1 t _ 2).trans (by rw [h2]; rfl)

theorem idx2 : ∀ t : Fin cfg0.N, win0_2.index t 0 = t.val / 12 ∧ win0_2.index t 1 = 0 ∧ win0_2.index t 2 = t.val % 12 :=
  (by decide +kernel : ∀ t : Fin grid0.N, _)

theorem blk2 (c : Dev nD) (t : Fin cfg0.N) (e : Fin 512) :
    iblk m c 2 t (ix3 (0 : Fin 1) (0 : Fin 1) e) = m ((c : Thread nD τ).loc main_arg3) (ix2 (layerAt t) (colAt t e)) := by
  obtain ⟨h0, h1, h2⟩ := idx2 t
  refine Eq.trans ?_ (V_bias m c (layerAt t) (colAt t e))
  refine congrArg (V m c main_v5) (funext fun a => Fin.ext ?_)
  match a with
  | ⟨0, _⟩ => exact (Pipeline.Window.rect_emb_val win0_2 t _ 0).trans (by rw [h0]; show t.val / 12 * 1 + 0 = t.val / 12; omega)
  | ⟨1, _⟩ => exact (Pipeline.Window.rect_emb_val win0_2 t _ 1).trans (by rw [h1]; rfl)
  | ⟨2, _⟩ => exact (Pipeline.Window.rect_emb_val win0_2 t _ 2).trans (by rw [h2]; rfl)

/-- The modulation vectors of device `c`'s arguments. -/
abbrev result (c : Dev nD) : Buf (Elt Ideal) ((c : Thread nD τ).loc main_v6) :=
  vectors (m ((c : Thread nD τ).loc main_arg0)) (m ((c : Thread nD τ).loc main_arg1)) (m ((c : Thread nD τ).loc main_arg2))
    (m ((c : Thread nD τ).loc main_arg3))

/-- What a point writes back is its block of the modulation vectors. -/
theorem flushed_eq (c : Dev nD) (t : Fin cfg0.N) :
    (dats m 0 c).flushed 3 t = (win0_3.blk t).view.read (Elt Ideal) (result m c) := by
  rw [Value.flushed3]
  funext y
  show out0_3 (F := Ideal) (iblk m c 0 t) (iblk m c 1 t) (iblk m c 2 t) y = result m c ((win0_3.blk t).view.emb y)
  obtain ⟨r, e, rfl⟩ : ∃ (r : Fin 16) (e : Fin 512), y = ix3 (0 : Fin 1) r e :=
    ⟨y 1, y 2, funext fun a => Fin.ext (by
      match a with
      | ⟨0, _⟩ => exact Nat.lt_one_iff.mp (y 0).isLt
      | ⟨1, _⟩ => rfl
      | ⟨2, _⟩ => rfl)⟩
  refine (out_apply _ _ _ r e).trans ?_
  rw [emb3]
  refine congrArg₂ (fun a b : EReal => a + b) ?_ (blk2 m c t e)
  exact Finset.sum_congr rfl fun d _ => congrArg₂ (fun a b : EReal => silu a * b) (blk0 m c t r d) (blk1 m c t d e)

/-- The blocks tile the result. -/
theorem cover (i : S2x16x6144.Idx) :
    ∃ t : Fin cfg0.N, (cfg0.win 3).flush t = true ∧ i ∈ ((cfg0.win 3).blk t).view.set := by
  have h0 : (i 0).val < 2 := (i 0).isLt
  have h2 : (i 2).val < 6144 := (i 2).isLt
  have hN : cfg0.N = 24 := N_0
  have ht : (i 0).val * 12 + (i 2).val / 512 < cfg0.N := by omega
  refine ⟨⟨_, ht⟩, flush0_3 _, ?_⟩
  have e := emb3 ⟨_, ht⟩ (i 1) ⟨(i 2).val % 512, by omega⟩
  have this : (win0_3.blk ⟨_, ht⟩).view.emb (ix3 (0 : Fin 1) (i 1) ⟨(i 2).val % 512, by omega⟩) = i := by
    symm
    rw [e]
    funext a; apply Fin.ext
    match a with
    | ⟨0, _⟩ => show (i 0).val = ((i 0).val * 12 + (i 2).val / 512) / 12; omega
    | ⟨1, _⟩ => rfl
    | ⟨2, _⟩ => show (i 2).val = ((i 0).val * 12 + (i 2).val / 512) % 12 * 512 + (i 2).val % 512; omega
  have hm := View.emb_mem_set (win0_3.blk ⟨_, ht⟩).view (ix3 (0 : Fin 1) (i 1) ⟨(i 2).val % 512, by omega⟩)
  rwa [this] at hm

theorem final (c : Dev nD) : (dats m 0 c).arrAt 3 cfg0.N = result m c :=
  (dats m 0 c).arrAt_eq_of_cover 3 (result m c) (fun t _ => flushed_eq m c t) cover

end Cert.Proof.Mods

end
-- ==== Proof.Mods.Ref.lean ====
/-
  The reference's result array is the modulation vectors of its arguments.
-/
module

public import proofs.«01_k».proof.Proof.Mods.Array
public import proofs.«01_k».proof.Proof.Gen.Reference7Ideal.Read
public import Idealize.ShloMosaic.Lib.KernelVsHost

@[expose] public section

noncomputable section

namespace Cert.Proof.Mods

open Cert.Reference7Ideal Cert.Reference7Ideal.Gen Cert.Reference7Ideal.Read Idealize.ShloMosaic Idealize.ShloMosaic.TcCoe Idealize.SL.Sem
open Cert.Proof.HgIn (silu)
open scoped BigOperators

variable (cond : S8x1024.Idx → EReal) (ctx : S1024.Idx → EReal) (w : S2x1024x6144.Idx → EReal) (b : S2x6144.Idx → EReal)

/-- The rows put together. -/
theorem ref_rows (r : Fin 16) (d : Fin 1024) : val_main_v2 (F := Ideal) cond ctx (ix2 r d) = rowAt cond ctx r d := by
  unfold val_main_v2 rowAt
  have hr := r.isLt
  by_cases h : r.val < 8
  · rw [dif_pos h]
    refine concatenate_apply_piece (t := S16x1024) 0 [⟨S8x1024, cond⟩, ⟨S1x1024, val_main_v0 (F := Ideal) ctx⟩, ⟨S7x1024, val_main_v1 (F := Ideal)⟩] _ (ix2 r d) 0
      (by show 0 < 3; omega) S8x1024 cond rfl rfl 0 rfl (ix2 (⟨r.val, h⟩ : Fin 8) d) (fun a ha => ?_) (by show 0 + r.val = r.val; omega)
    match a with
    | ⟨0, _⟩ => exact absurd rfl ha
    | ⟨1, _⟩ => rfl
  · rw [dif_neg h]
    by_cases h8 : r.val = 8
    · rw [if_pos h8]
      refine (concatenate_apply_piece (t := S16x1024) 0 [⟨S8x1024, cond⟩, ⟨S1x1024, val_main_v0 (F := Ideal) ctx⟩, ⟨S7x1024, val_main_v1 (F := Ideal)⟩] _ (ix2 r d) 1
        (by show 1 < 3; omega) S1x1024 (val_main_v0 (F := Ideal) ctx) rfl rfl 8 rfl (ix2 (0 : Fin 1) d) (fun a ha => ?_) (by show 8 + 0 = r.val; omega)).trans ?_
      · match a with
        | ⟨0, _⟩ => exact absurd rfl ha
        | ⟨1, _⟩ => rfl
      · refine (val_main_v0_apply (F := Ideal) ctx _).trans (congrArg ctx ?_)
        funext a; apply Fin.ext
        match a with
        | ⟨0, _⟩ => rfl
    · rw [if_neg h8]
      refine (concatenate_apply_piece (t := S16x1024) 0 [⟨S8x1024, cond⟩, ⟨S1x1024, val_main_v0 (F := Ideal) ctx⟩, ⟨S7x1024, val_main_v1 (F := Ideal)⟩] _ (ix2 r d) 2
        (by show 2 < 3; omega) S7x1024 (val_main_v1 (F := Ideal)) rfl rfl 9 rfl (ix2 (⟨r.val - 9, by omega⟩ : Fin 7) d) (fun a ha => ?_) (by show 9 + (r.val - 9) = r.val; omega)).trans ?_
      · match a with
        | ⟨0, _⟩ => exact absurd rfl ha
        | ⟨1, _⟩ => rfl
      · exact (val_main_v1_apply (F := Ideal) _).trans Ideal.ofBits_zero_f32

theorem ref_silu (r : Fin 16) (d : Fin 1024) : val_main_v3 (F := Ideal) cond ctx (ix2 r d) = silu (rowAt cond ctx r d) := by
  have hg := ref_rows cond ctx r d
  refine (val_main_v3_apply (F := Ideal) cond ctx _).trans (congrArg₂ (fun a b : EReal => a * b) hg ?_)
  refine (val_main_call0_v5_apply (F := Ideal) cond ctx _).trans ?_
  have h1 : val_main_call0_v4 (F := Ideal) (ix2 r d) = (1 : EReal) :=
    (val_main_call0_v4_apply (F := Ideal) _).trans Ideal.ofBits_one_f32
  have h2 : val_main_call0_v2 (F := Ideal) (ix2 r d) = (1 : EReal) :=
    (val_main_call0_v2_apply (F := Ideal) _).trans Ideal.ofBits_one_f32
  refine (congrArg₂ Ideal.div h1 ?_).trans (rfl : Ideal.div 1 (1 + Ideal.exp (-rowAt cond ctx r d)) = _)
  refine (val_main_call0_v3_apply (F := Ideal) cond ctx _).trans (congrArg₂ (fun a b : EReal => a + b) h2 ?_)
  refine (val_main_call0_v1_apply (F := Ideal) cond ctx _).trans (congrArg Ideal.exp ?_)
  exact (val_main_call0_v0_apply (F := Ideal) cond ctx _).trans (congrArg (fun a : EReal => -a) hg)

/-- The reference's result is the modulation vectors. -/
theorem ref_value : val_main_v8 (F := Ideal) cond ctx w b = vectors cond ctx w b := by
  funext i
  obtain ⟨l, r, e, rfl⟩ : ∃ (l : Fin 2) (r : Fin 16) (e : Fin 6144), i = ix3 l r e :=
    ⟨i 0, i 1, i 2, funext fun a => by
      match a with
      | ⟨0, _⟩ => rfl
      | ⟨1, _⟩ => rfl
      | ⟨2, _⟩ => rfl⟩
  refine (val_main_v8_apply (F := Ideal) cond ctx w b _).trans ((val_main_v7_apply (F := Ideal) cond ctx w b _).trans ?_)
  refine congrArg₂ (fun a b : EReal => a + b) ?_ ?_
  · refine (val_main_v4_apply cond ctx w _).trans (Finset.sum_congr rfl fun d _ => ?_)
    refine congrArg₂ (fun a b : EReal => a * b) (Eq.trans (congrArg _ ?_) (ref_silu cond ctx r d)) (congrArg w ?_)
    · funext a; apply Fin.ext
      match a with
      | ⟨0, _⟩ => rfl
      | ⟨1, _⟩ => rfl
    · funext a; apply Fin.ext
      match a with
      | ⟨0, _⟩ => rfl
      | ⟨1, _⟩ => rfl
      | ⟨2, _⟩ => rfl
  · refine (val_main_v6_apply (F := Ideal) b _).trans ((val_main_v5_apply (F := Ideal) b _).trans (congrArg b ?_))
    funext a; apply Fin.ext
    match a with
    | ⟨0, _⟩ => rfl
    | ⟨1, _⟩ => rfl

end Cert.Proof.Mods

end
-- ==== Proof.Mods.Claim.lean ====
/-
  The claims on the modulation vectors.
-/
module

public import proofs.«01_k».proof.Defs
public import proofs.«01_k».proof.Proof.Mods.Array
public import proofs.«01_k».proof.Proof.Mods.Ref
public import proofs.«01_k».proof.Proof.Gen.Kernel7.Frame
public import proofs.«01_k».proof.Proof.Gen.Kernel7Ideal.Frame
public import Idealize.ShloMosaic.Lib.Quiescent

@[expose] public section

noncomputable section

namespace Cert.Proof.Mods

open Idealize.ShloMosaic Idealize.SL.Sem

theorem frame_reference : Cert.quiescent_Reference7Ideal := fun m ρ _ =>
  (θ_run (Cert.Reference7Ideal.defs (F := Ideal)) _ _).mono
    (fun r h => ⟨fun c => (h c).2, Idealize.ShloMosaic.sem_eq_zero_of_no_sems (by decide) r.2⟩)
    (Cert.Reference7Ideal.Value.run (F := Ideal) m ρ)

theorem algebraic : Cert.algebraic_Kernel7Ideal_Reference7Ideal := by
  intro m g m' g' _ hargs
  refine ⟨fun c => result m c, ?_, ?_⟩
  · exact (θ_run (Cert.Kernel7Ideal.defs (F := Ideal)) _ _).mono (fun r h c => ⟨(h c).1.trans (final m c), (h c).2⟩)
      (Cert.Kernel7Ideal.Value.run_blocks (F := Ideal) m g)
  · refine (θ_run (Cert.Reference7Ideal.defs (F := Ideal)) _ _).mono (fun r h c => ⟨(h c).1.trans ?_, (h c).2⟩)
      (Cert.Reference7Ideal.Value.run (F := Ideal) m' g')
    obtain ⟨h0, h1, h2, h3⟩ := hargs c
    refine (Cert.Reference7Ideal.Read.val_main_v8_eq (F := Ideal) _ _ _ _).trans ?_
    rw [h0, h1, h2, h3]
    exact ref_value _ _ _ _

end Cert.Proof.Mods

end
-- ==== Proof.HyConv.Payload.lean ====
/-
  The short convolution's body, read at one element: a token, the one before it and the one after it, zeros past the ends.
-/
module

public import proofs.«01_k».proof.Proof.HgIn.Payload
public import proofs.«01_k».proof.Proof.Gen.Kernel8Ideal.Value
public import Idealize.ShloMosaic.Lib.WordCmp

@[expose] public section

noncomputable section

namespace Cert.Proof.HyConv

open Cert.Kernel8Ideal Cert.Kernel8Ideal.Gen Idealize.ShloMosaic Idealize.ShloMosaic.TcCoe Idealize.SL.Sem
open Cert.Proof.HgIn (zero2 zero3)

/-- A sequence with a zero before it and a zero after it. -/
def padded (y : Fin 4096 → EReal) (j : Nat) : EReal := if h : 1 ≤ j ∧ j ≤ 4096 then y ⟨j - 1, by omega⟩ else 0

/-- The convolution over three neighbouring tokens. -/
def conv (y : Fin 4096 → EReal) (w : Fin 3 → EReal) (b : EReal) (n : Fin 4096) : EReal :=
  padded y n.val * w 0 + padded y (n.val + 1) * w 1 + padded y (n.val + 2) * w 2 + b

theorem drop_block {α : Type} (x : S1x4096x256.Idx → α) (r : Fin 4096) (l : Fin 256) :
    shapeCast S4096x256 x shapeCasts_S1x4096x256_S4096x256 (ix2 r l) = x (ix3 (0 : Fin 1) r l) :=
  shapeCast_apply x _ _ _ (by
    rw [Shape.rowMajor_val_two, Shape.rowMajor_val_three]
    show (0 * 4096 + r.val) * 256 + l.val = r.val * 256 + l.val
    omega)

theorem lead_block {α : Type} (y : S4096x256.Idx → α) (r : Fin 4096) (l : Fin 256) :
    shapeCast S1x4096x256 y shapeCasts_S4096x256_S1x4096x256 (ix3 (0 : Fin 1) r l) = y (ix2 r l) :=
  shapeCast_apply _ shapeCasts_S4096x256_S1x4096x256 (ix3 (0 : Fin 1) r l) (ix2 r l) (by
    rw [Shape.rowMajor_val_two, Shape.rowMajor_val_three]
    show r.val * 256 + l.val = (0 * 4096 + r.val) * 256 + l.val
    omega)

theorem bias_apply (x : FVec Ideal S1x256 .f32) (r : Fin 4096) (l : Fin 256) :
    broadcastTo S4096x256 (shapeCast S1x256 x shapeCasts_S1x256_S1x256) broadcasts_S1x256_S4096x256 (ix2 r l) = x (ix2 (0 : Fin 1) l) := by
  refine Eq.trans (b := shapeCast S1x256 x shapeCasts_S1x256_S1x256 (ix2 (0 : Fin 1) l)) ?_ (shapeCast_apply x _ _ _ rfl)
  pointwise

theorem tap0 (w : FVec Ideal S3x256 .f32) (r : Fin 4096) (l : Fin 256) :
    broadcastTo S4096x256 (extractStridedSlice S1x256 ![0, 0] w slices_S3x256_o0_0_S1x256) broadcasts_S1x256_S4096x256 (ix2 r l)
      = w (ix2 (0 : Fin 3) l) := by
  pointwise

theorem tap1 (w : FVec Ideal S3x256 .f32) (r : Fin 4096) (l : Fin 256) :
    broadcastTo S4096x256 (extractStridedSlice S1x256 ![1, 0] w slices_S3x256_o1_0_S1x256) broadcasts_S1x256_S4096x256 (ix2 r l)
      = w (ix2 (1 : Fin 3) l) := by
  pointwise

theorem tap2 (w : FVec Ideal S3x256 .f32) (r : Fin 4096) (l : Fin 256) :
    broadcastTo S4096x256 (extractStridedSlice S1x256 ![2, 0] w slices_S3x256_o2_0_S1x256) broadcasts_S1x256_S4096x256 (ix2 r l)
      = w (ix2 (2 : Fin 3) l) := by
  pointwise

/-- Whether a row is the row `k`. -/
theorem is_row (k : Nat) (hk : k < 4096) (r : Fin 4096) (l : Fin 256) :
    cmpi .eq (iota .tc S4096x256 32 [0] iota_S4096x256_d0_w32) (broadcast S4096x256 (BitVec.ofNat 32 k)) (ix2 r l) = 1#1 ↔ r.val = k := by
  have hr := r.isLt
  show IntOp.cmpi .eq (iota .tc S4096x256 32 [0] iota_S4096x256_d0_w32 (ix2 r l)) (BitVec.ofNat 32 k) = 1#1 ↔ r.val = k
  rw [iota_single_apply]
  exact WordCmp.cmpi_eq_ofNat_eq_one_iff (show r.val < 2 ^ 32 by omega) (show k < 2 ^ 32 by omega)

/-- The rows moved down by one, a zero first. -/
theorem before_apply (y : FVec Ideal S4096x256 .f32) (r : Fin 4096) (l : Fin 256) :
    select (cmpi .eq (iota .tc S4096x256 32 [0] iota_S4096x256_d0_w32) (broadcast S4096x256 0#32))
      (broadcast S4096x256 (Scalar.ofBits (F := Ideal) .f32 0x00000000#32)) (dynamicRotate 0 1#32 none y rotates_S4096x256_d0) (ix2 r l)
      = padded (fun n => y (ix2 n l)) r.val := by
  have hr := r.isLt
  unfold padded
  by_cases h : r.val = 0
  · rw [dif_neg (by omega)]
    exact (if_pos ((is_row 0 (by omega) r l).2 h)).trans Ideal.ofBits_zero_f32
  · rw [dif_pos ⟨by omega, by omega⟩]
    refine (if_neg (fun e => h ((is_row 0 (by omega) r l).1 e))).trans ?_
    refine dynamicRotate_apply (s := S4096x256) 0 1#32 y rotates_S4096x256_d0 (ix2 r l) (ix2 (⟨r.val - 1, by omega⟩ : Fin 4096) l) fun b => ?_
    match b with
    | ⟨0, _⟩ =>
      show r.val - 1 = (r.val + 4096 - 1) % 4096
      omega
    | ⟨1, _⟩ => rfl

/-- The rows moved up by one, a zero last. -/
theorem after_apply (y : FVec Ideal S4096x256 .f32) (r : Fin 4096) (l : Fin 256) :
    select (cmpi .eq (iota .tc S4096x256 32 [0] iota_S4096x256_d0_w32) (broadcast S4096x256 4095#32))
      (broadcast S4096x256 (Scalar.ofBits (F := Ideal) .f32 0x00000000#32)) (dynamicRotate 0 4095#32 none y rotates_S4096x256_d0) (ix2 r l)
      = padded (fun n => y (ix2 n l)) (r.val + 2) := by
  have hr := r.isLt
  unfold padded
  by_cases h : r.val = 4095
  · rw [dif_neg (by omega)]
    exact (if_pos ((is_row 4095 (by omega) r l).2 h)).trans Ideal.ofBits_zero_f32
  · rw [dif_pos ⟨by omega, by omega⟩]
    refine (if_neg (fun e => h ((is_row 4095 (by omega) r l).1 e))).trans ?_
    refine dynamicRotate_apply (s := S4096x256) 0 4095#32 y rotates_S4096x256_d0 (ix2 r l) (ix2 (⟨r.val + 2 - 1, by omega⟩ : Fin 4096) l) fun b => ?_
    match b with
    | ⟨0, _⟩ =>
      show r.val + 2 - 1 = (r.val + 4096 - 4095) % 4096
      omega
    | ⟨1, _⟩ => rfl

variable (x0 : Vec Ideal S1x4096x256 .f32) (x1 : Vec Ideal S3x256 .f32) (x2 : Vec Ideal S1x256 .f32)

/-- The sum of the three taps and the bias. -/
theorem sum_apply (r : Fin 4096) (l : Fin 256) :
    k0_pay1 (F := Ideal) x0 x1 x2 (ix2 r l)
      = conv (fun n => x0 (ix3 (0 : Fin 1) n l)) (fun k => x1 (ix2 k l)) (x2 (ix2 (0 : Fin 1) l)) r := by
  have hr := r.isLt
  have hy : (fun n : Fin 4096 => shapeCast S4096x256 x0 shapeCasts_S1x4096x256_S4096x256 (ix2 n l)) = fun n => x0 (ix3 (0 : Fin 1) n l) :=
    funext fun n => drop_block x0 n l
  have hc : padded (fun n => x0 (ix3 (0 : Fin 1) n l)) (r.val + 1) = x0 (ix3 (0 : Fin 1) r l) := by
    unfold padded
    exact dif_pos ⟨by omega, by omega⟩
  unfold k0_pay1 conv
  refine congrArg₂ (fun a b : EReal => a + b) ?_ (bias_apply x2 r l)
  refine congrArg₂ (fun a b : EReal => a + b) (congrArg₂ (fun a b : EReal => a + b) ?_ ?_) ?_
  · exact congrArg₂ (fun a b : EReal => a * b) ((before_apply _ r l).trans (congrArg (fun y => padded y r.val) hy)) (tap0 x1 r l)
  · exact congrArg₂ (fun a b : EReal => a * b) ((drop_block x0 r l).trans hc.symm) (tap1 x1 r l)
  · exact congrArg₂ (fun a b : EReal => a * b) ((after_apply _ r l).trans (congrArg (fun y => padded y (r.val + 2)) hy)) (tap2 x1 r l)

/-- What a point leaves in its first output block. -/
theorem out_apply (r : Fin 4096) (l : Fin 256) :
    out0_3 (F := Ideal) x0 x1 x2 (ix3 (0 : Fin 1) r l)
      = conv (fun n => x0 (ix3 (0 : Fin 1) n l)) (fun k => x1 (ix2 k l)) (x2 (ix2 (0 : Fin 1) l)) r := by
  unfold out0_3 k0_pay2
  rw [View.canon_unit_zero zero3]
  simp only [View.ld_unit_zero (S := S1x4096x256) zero3, View.ld_unit_zero (S := S3x256) zero2, View.ld_unit_zero (S := S1x256) zero2]
  exact (lead_block _ r l).trans (sum_apply x0 x1 x2 r l)

/-- What a point leaves in its second output block: the same, its change of format the identity. -/
theorem copy_apply (r : Fin 4096) (l : Fin 256) :
    out0_4 (F := Ideal) x0 x1 x2 (ix3 (0 : Fin 1) r l)
      = conv (fun n => x0 (ix3 (0 : Fin 1) n l)) (fun k => x1 (ix2 k l)) (x2 (ix2 (0 : Fin 1) l)) r := by
  unfold out0_4 k0_pay3
  rw [View.canon_unit_zero zero3]
  simp only [View.ld_unit_zero (S := S1x4096x256) zero3, View.ld_unit_zero (S := S3x256) zero2, View.ld_unit_zero (S := S1x256) zero2]
  exact (lead_block _ r l).trans (sum_apply x0 x1 x2 r l)

end Cert.Proof.HyConv

end
-- ==== Proof.HyConv.Array.lean ====
/-
  The short convolution: the kernel's two result arrays, their blocks put together.
-/
module

public import proofs.«01_k».proof.Proof.HyConv.Payload

@[expose] public section

noncomputable section

namespace Cert.Proof.HyConv

open Cert.Kernel8Ideal Cert.Kernel8Ideal.Gen Idealize.ShloMosaic Idealize.ShloMosaic.TcCoe Idealize.SL.Sem
open Idealize.ShloMosaic.Pipeline (Dat)

/-- The convolution of every batch and column. -/
def convs (x : S8x4096x1536.Idx → EReal) (w : S3x1536.Idx → EReal) (b : S1536.Idx → EReal) (i : S8x4096x1536.Idx) : EReal :=
  conv (fun n => x (ix3 (i 0) n (i 2))) (fun k => w (ix2 k (i 2))) (b (ix1 (i 2))) (i 1)

variable (m : (ℓ : Loc nD τ sig) → Buf (Elt Ideal) ℓ) (ρ : Dev nD → PrngReg)

/-- The biases as a row. -/
theorem V_bias (c : Dev nD) (e : Fin 1536) : V m c main_v0 (ix2 (0 : Fin 1) e) = m ((c : Thread nD τ).loc main_arg2) (ix1 e) := by
  have hv : V m c main_v0 = shapeCast S1x1536 (m ((c : Thread nD τ).loc main_arg2)) shapeCasts_S1536_S1x1536 := by
    show StableHlo.after _ _ _ = _
    simp only [hostOps0, List.flatten_cons, List.flatten_nil, List.append_nil, List.cons_append, List.nil_append]
    after_results_simp <;> rfl
  rw [hv]
  exact shapeCast_apply (s := S1536) _ _ _ _ (by
    rw [Shape.rowMajor_val_one, Shape.rowMajor_val_two]
    show e.val = 0 * 1536 + e.val
    omega)

theorem t_lt (t : Fin cfg0.N) : t.val < 48 := lt_of_lt_of_eq t.isLt N_0

/-- The batch and the columns under point `t`'s block coordinates. -/
def batchAt (t : Fin cfg0.N) : Fin 8 := ⟨t.val / 6, by have := t_lt t; omega⟩
def colAt (t : Fin cfg0.N) (e : Fin 256) : Fin 1536 := ⟨t.val % 6 * 256 + e.val, by have := e.isLt; omega⟩

theorem idx0 : ∀ t : Fin cfg0.N, win0_0.index t 0 = t.val / 6 ∧ win0_0.index t 1 = 0 ∧ win0_0.index t 2 = t.val % 6 :=
  (by decide +kernel : ∀ t : Fin grid0.N, _)

theorem blk0 (c : Dev nD) (t : Fin cfg0.N) (r : Fin 4096) (e : Fin 256) :
    iblk m c 0 t (ix3 (0 : Fin 1) r e) = m ((c : Thread nD τ).loc main_arg0) (ix3 (batchAt t) r (colAt t e)) := by
  obtain ⟨h0, h1, h2⟩ := idx0 t
  refine Eq.trans ?_ (congrFun (V_main_arg0 m c) _)
  refine congrArg (V m c main_arg0) (funext fun a => Fin.ext ?_)
  match a with
  | ⟨0, _⟩ => exact (Pipeline.Window.rect_emb_val win0_0 t _ 0).trans (by rw [h0]; show t.val / 6 * 1 + 0 = t.val / 6; omega)
  | ⟨1, _⟩ => exact (Pipeline.Window.rect_emb_val win0_0 t _ 1).trans (by rw [h1]; show 0 * 4096 + r.val = r.val; omega)
  | ⟨2, _⟩ => exact (Pipeline.Window.rect_emb_val win0_0 t _ 2).trans (by rw [h2]; rfl)

theorem idx1 : ∀ t : Fin cfg0.N, win0_1.index t 0 = 0 ∧ win0_1.index t 1 = t.val % 6 :=
  (by decide +kernel : ∀ t : Fin grid0.N, _)

theorem blk1 (c : Dev nD) (t : Fin cfg0.N) (k : Fin 3) (e : Fin 256) :
    iblk m c 1 t (ix2 k e) = m ((c : Thread nD τ).loc main_arg1) (ix2 k (colAt t e)) := by
  obtain ⟨h0, h1⟩ := idx1 t
  refine Eq.trans ?_ (congrFun (V_main_arg1 m c) _)
  refine congrArg (V m c main_arg1) (funext fun a => Fin.ext ?_)
  match a with
  | ⟨0, _⟩ => exact (Pipeline.Window.rect_emb_val win0_1 t _ 0).trans (by rw [h0]; show 0 * 3 + k.val = k.val; omega)
  | ⟨1, _⟩ => exact (Pipeline.Window.rect_emb_val win0_1 t _ 1).trans (by rw [h1]; rfl)

theorem idx2 : ∀ t : Fin cfg0.N, win0_2.index t 0 = 0 ∧ win0_2.index t 1 = t.val % 6 :=
  (by decide +kernel : ∀ t : Fin grid0.N, _)

theorem blk2 (c : Dev nD) (t : Fin cfg0.N) (e : Fin 256) :
    iblk m c 2 t (ix2 (0 : Fin 1) e) = m ((c : Thread nD τ).loc main_arg2) (ix1 (colAt t e)) := by
  obtain ⟨h0, h1⟩ := idx2 t
  refine Eq.trans ?_ (V_bias m c (colAt t e))
  refine congrArg (V m c main_v0) (funext fun a => Fin.ext ?_)
  match a with
  | ⟨0, _⟩ => exact (Pipeline.Window.rect_emb_val win0_2 t _ 0).trans (by rw [h0]; rfl)
  | ⟨1, _⟩ => exact (Pipeline.Window.rect_emb_val win0_2 t _ 1).trans (by rw [h1]; rfl)

theorem block_idx (y : S1x4096x256.Idx) : ∃ (r : Fin 4096) (e : Fin 256), y = ix3 (0 : Fin 1) r e :=
  ⟨y 1, y 2, funext fun a => Fin.ext (by
    match a with
    | ⟨0, _⟩ => exact Nat.lt_one_iff.mp (y 0).isLt
    | ⟨1, _⟩ => rfl
    | ⟨2, _⟩ => rfl)⟩

/-- A point's convolution is its columns of the whole. -/
theorem conv_eq (c : Dev nD) (t : Fin cfg0.N) (r : Fin 4096) (e : Fin 256) :
    conv (fun n => iblk m c 0 t (ix3 (0 : Fin 1) n e)) (fun k => iblk m c 1 t (ix2 k e)) (iblk m c 2 t (ix2 (0 : Fin 1) e)) r
      = convs (m ((c : Thread nD τ).loc main_arg0)) (m ((c : Thread nD τ).loc main_arg1)) (m ((c : Thread nD τ).loc main_arg2))
          (ix3 (batchAt t) r (colAt t e)) := by
  have e0 : (fun n : Fin 4096 => (iblk m c 0 t (ix3 (0 : Fin 1) n e) : EReal)) = fun n => m ((c : Thread nD τ).loc main_arg0) (ix3 (batchAt t) n (colAt t e)) :=
    funext fun n => blk0 m c t n e
  have e1 : (fun k : Fin 3 => (iblk m c 1 t (ix2 k e) : EReal)) = fun k => m ((c : Thread nD τ).loc main_arg1) (ix2 k (colAt t e)) :=
    funext fun k => blk1 m c t k e
  exact (congrArg₂ (fun y w => conv y w (iblk m c 2 t (ix2 (0 : Fin 1) e)) r) e0 e1).trans
    (congrArg (fun b => conv _ _ b r) (blk2 m c t e))

theorem idx3 : ∀ t : Fin cfg0.N, win0_3.index t 0 = t.val / 6 ∧ win0_3.index t 1 = 0 ∧ win0_3.index t 2 = t.val % 6 :=
  (by decide +kernel : ∀ t : Fin grid0.N, _)

theorem emb3 (t : Fin cfg0.N) (r : Fin 4096) (e : Fin 256) :
    (win0_3.blk t).view.emb (ix3 (0 : Fin 1) r e) = ix3 (batchAt t) r (colAt t e) := by
  obtain ⟨h0, h1, h2⟩ := idx3 t
  funext a; apply Fin.ext
  match a with
  | ⟨0, _⟩ => exact (Pipeline.Window.rect_emb_val win0_3 t _ 0).trans (by rw [h0]; show t.val / 6 * 1 + 0 = t.val / 6; omega)
  | ⟨1, _⟩ => exact (Pipeline.Window.rect_emb_val win0_3 t _ 1).trans (by rw [h1]; show 0 * 4096 + r.val = r.val; omega)
  | ⟨2, _⟩ => exact (Pipeline.Window.rect_emb_val win0_3 t _ 2).trans (by rw [h2]; rfl)

/-- The convolution of device `c`'s arguments. -/
abbrev result0 (c : Dev nD) : Buf (Elt Ideal) ((c : Thread nD τ).loc main_v1_0) :=
  convs (m ((c : Thread nD τ).loc main_arg0)) (m ((c : Thread nD τ).loc main_arg1)) (m ((c : Thread nD τ).loc main_arg2))

theorem flushed_eq3 (c : Dev nD) (t : Fin cfg0.N) :
    (dats m 0 c).flushed 3 t = (win0_3.blk t).view.read (Elt Ideal) (result0 m c) := by
  rw [Value.flushed3]
  funext y
  show out0_3 (F := Ideal) (iblk m c 0 t) (iblk m c 1 t) (iblk m c 2 t) y = result0 m c ((win0_3.blk t).view.emb y)
  obtain ⟨r, e, rfl⟩ := block_idx y
  refine (out_apply _ _ _ r e).trans ?_
  rw [emb3]
  exact conv_eq m c t r e

theorem cover3 (i : S8x4096x1536.Idx) :
    ∃ t : Fin cfg0.N, (cfg0.win 3).flush t = true ∧ i ∈ ((cfg0.win 3).blk t).view.set := by
  have h0 : (i 0).val < 8 := (i 0).isLt
  have h2 : (i 2).val < 1536 := (i 2).isLt
  have hN : cfg0.N = 48 := N_0
  have ht : (i 0).val * 6 + (i 2).val / 256 < cfg0.N := by omega
  refine ⟨⟨_, ht⟩, flush0_3 _, ?_⟩
  have e := emb3 ⟨_, ht⟩ (i 1) ⟨(i 2).val % 256, by omega⟩
  have this : (win0_3.blk ⟨_, ht⟩).view.emb (ix3 (0 : Fin 1) (i 1) ⟨(i 2).val % 256, by omega⟩) = i := by
    symm
    rw [e]
    funext a; apply Fin.ext
    match a with
    | ⟨0, _⟩ => show (i 0).val = ((i 0).val * 6 + (i 2).val / 256) / 6; omega
    | ⟨1, _⟩ => rfl
    | ⟨2, _⟩ => show (i 2).val = ((i 0).val * 6 + (i 2).val / 256) % 6 * 256 + (i 2).val % 256; omega
  have hm := View.emb_mem_set (win0_3.blk ⟨_, ht⟩).view (ix3 (0 : Fin 1) (i 1) ⟨(i 2).val % 256, by omega⟩)
  rwa [this] at hm

theorem final3 (c : Dev nD) : (dats m 0 c).arrAt 3 cfg0.N = result0 m c :=
  (dats m 0 c).arrAt_eq_of_cover 3 (result0 m c) (fun t _ => flushed_eq3 m c t) cover3

theorem idx4 : ∀ t : Fin cfg0.N, win0_4.index t 0 = t.val / 6 ∧ win0_4.index t 1 = 0 ∧ win0_4.index t 2 = t.val % 6 :=
  (by decide +kernel : ∀ t : Fin grid0.N, _)

theorem emb4 (t : Fin cfg0.N) (r : Fin 4096) (e : Fin 256) :
    (win0_4.blk t).view.emb (ix3 (0 : Fin 1) r e) = ix3 (batchAt t) r (colAt t e) := by
  obtain ⟨h0, h1, h2⟩ := idx4 t
  funext a; apply Fin.ext
  match a with
  | ⟨0, _⟩ => exact (Pipeline.Window.rect_emb_val win0_4 t _ 0).trans (by rw [h0]; show t.val / 6 * 1 + 0 = t.val / 6; omega)
  | ⟨1, _⟩ => exact (Pipeline.Window.rect_emb_val win0_4 t _ 1).trans (by rw [h1]; show 0 * 4096 + r.val = r.val; omega)
  | ⟨2, _⟩ => exact (Pipeline.Window.rect_emb_val win0_4 t _ 2).trans (by rw [h2]; rfl)

/-- The convolution of device `c`'s arguments, in the second array. -/
abbrev result1 (c : Dev nD) : Buf (Elt Ideal) ((c : Thread nD τ).loc main_v1_1) :=
  convs (m ((c : Thread nD τ).loc main_arg0)) (m ((c : Thread nD τ).loc main_arg1)) (m ((c : Thread nD τ).loc main_arg2))

theorem flushed_eq4 (c : Dev nD) (t : Fin cfg0.N) :
    (dats m 0 c).flushed 4 t = (win0_4.blk t).view.read (Elt Ideal) (result1 m c) := by
  rw [Value.flushed4]
  funext y
  show out0_4 (F := Ideal) (iblk m c 0 t) (iblk m c 1 t) (iblk m c 2 t) y = result1 m c ((win0_4.blk t).view.emb y)
  obtain ⟨r, e, rfl⟩ := block_idx y
  refine (copy_apply _ _ _ r e).trans ?_
  rw [emb4]
  exact conv_eq m c t r e

theorem cover4 (i : S8x4096x1536.Idx) :
    ∃ t : Fin cfg0.N, (cfg0.win 4).flush t = true ∧ i ∈ ((cfg0.win 4).blk t).view.set := by
  have h0 : (i 0).val < 8 := (i 0).isLt
  have h2 : (i 2).val < 1536 := (i 2).isLt
  have hN : cfg0.N = 48 := N_0
  have ht : (i 0).val * 6 + (i 2).val / 256 < cfg0.N := by omega
  refine ⟨⟨_, ht⟩, flush0_4 _, ?_⟩
  have e := emb4 ⟨_, ht⟩ (i 1) ⟨(i 2).val % 256, by omega⟩
  have this : (win0_4.blk ⟨_, ht⟩).view.emb (ix3 (0 : Fin 1) (i 1) ⟨(i 2).val % 256, by omega⟩) = i := by
    symm
    rw [e]
    funext a; apply Fin.ext
    match a with
    | ⟨0, _⟩ => show (i 0).val = ((i 0).val * 6 + (i 2).val / 256) / 6; omega
    | ⟨1, _⟩ => rfl
    | ⟨2, _⟩ => show (i 2).val = ((i 0).val * 6 + (i 2).val / 256) % 6 * 256 + (i 2).val % 256; omega
  have hm := View.emb_mem_set (win0_4.blk ⟨_, ht⟩).view (ix3 (0 : Fin 1) (i 1) ⟨(i 2).val % 256, by omega⟩)
  rwa [this] at hm

theorem final4 (c : Dev nD) : (dats m 0 c).arrAt 4 cfg0.N = result1 m c :=
  (dats m 0 c).arrAt_eq_of_cover 4 (result1 m c) (fun t _ => flushed_eq4 m c t) cover4

end Cert.Proof.HyConv

end
-- ==== Proof.HyConv.Ref.lean ====
/-
  The reference's result arrays are the convolution of its arguments.
-/
module

public import proofs.«01_k».proof.Proof.HyConv.Array
public import proofs.«01_k».proof.Proof.Gen.Reference8Ideal.Read
public import Idealize.ShloMosaic.Lib.KernelVsHost

@[expose] public section

noncomputable section

namespace Cert.Proof.HyConv

open Cert.Reference8Ideal Cert.Reference8Ideal.Gen Cert.Reference8Ideal.Read Idealize.ShloMosaic Idealize.ShloMosaic.TcCoe Idealize.SL.Sem

variable (x : S8x4096x1536.Idx → EReal) (w : S3x1536.Idx → EReal) (b : S1536.Idx → EReal)

/-- The padded sequence. -/
theorem ref_padded (c : Fin 8) (j : Fin 4098) (l : Fin 1536) :
    val_main_v0 (F := Ideal) x (ix3 c j l) = padded (fun n => x (ix3 c n l)) j.val := by
  unfold val_main_v0 padded
  split
  · next h =>
    refine pad_apply_of_inside _ _ _ x _ _ h_S_ _ (ix3 c (⟨j.val - 1, by omega⟩ : Fin 4096) l) fun a => ?_
    match a with
    | ⟨0, _⟩ => show c.val = 0 + c.val * (0 + 1); omega
    | ⟨1, _⟩ => show j.val = 1 + (j.val - 1) * (0 + 1); omega
    | ⟨2, _⟩ => show l.val = 0 + l.val * (0 + 1); omega
  · next h =>
    refine (pad_apply_of_not_inside _ _ _ x _ _ h_S_ _ (1 : Fin 3) fun hn => h ?_).trans ?_
    · have h1 : 1 ≤ j.val := hn.1
      have h2 : (j.val - 1) / (0 + 1) < 4096 := hn.2.2
      rw [Nat.zero_add, Nat.div_one] at h2
      exact ⟨h1, by omega⟩
    · show (((0#32 : BitVec 32).toInt : ℝ) : EReal) = 0
      simp

/-- The reference's first result is the convolution. -/
theorem ref_value : val_main_v23 (F := Ideal) x w b = convs x w b := by
  funext i
  obtain ⟨c, n, l, rfl⟩ : ∃ (c : Fin 8) (n : Fin 4096) (l : Fin 1536), i = ix3 c n l :=
    ⟨i 0, i 1, i 2, funext fun a => by
      match a with
      | ⟨0, _⟩ => rfl
      | ⟨1, _⟩ => rfl
      | ⟨2, _⟩ => rfl⟩
  have hn := n.isLt
  refine (val_main_v23_apply (F := Ideal) x w b _).trans ?_
  refine congrArg₂ (fun a b : EReal => a + b) ?_ ?_
  · refine (val_main_v20_apply (F := Ideal) x w _).trans (congrArg₂ (fun a b : EReal => a + b) ?_ ?_)
    · refine (val_main_v13_apply (F := Ideal) x w _).trans (congrArg₂ (fun a b : EReal => a + b) ?_ ?_)
      · refine (val_main_v6_apply (F := Ideal) x w _).trans (congrArg₂ (fun a b : EReal => a * b) ?_ ?_)
        · refine (val_main_v1_apply (F := Ideal) x _).trans (Eq.trans (congrArg _ ?_) (ref_padded x c ⟨n.val, by omega⟩ l))
          funext a; apply Fin.ext
          match a with
          | ⟨0, _⟩ => rfl
          | ⟨1, _⟩ => rfl
          | ⟨2, _⟩ => rfl
        · refine (val_main_v5_apply (F := Ideal) w _).trans ((val_main_v4_apply (F := Ideal) w _).trans
            ((val_main_v3_apply (F := Ideal) w _).trans ((val_main_v2_apply (F := Ideal) w _).trans (congrArg w ?_))))
          funext a; apply Fin.ext
          match a with
          | ⟨0, _⟩ => rfl
          | ⟨1, _⟩ => exact Nat.mod_eq_of_lt l.isLt
      · refine (val_main_v12_apply (F := Ideal) x w _).trans (congrArg₂ (fun a b : EReal => a * b) ?_ ?_)
        · refine (val_main_v7_apply (F := Ideal) x _).trans (Eq.trans (congrArg _ ?_) (ref_padded x c ⟨n.val + 1, by omega⟩ l))
          funext a; apply Fin.ext
          match a with
          | ⟨0, _⟩ => rfl
          | ⟨1, _⟩ => exact Nat.add_comm 1 n.val
          | ⟨2, _⟩ => rfl
        · refine (val_main_v11_apply (F := Ideal) w _).trans ((val_main_v10_apply (F := Ideal) w _).trans
            ((val_main_v9_apply (F := Ideal) w _).trans ((val_main_v8_apply (F := Ideal) w _).trans (congrArg w ?_))))
          funext a; apply Fin.ext
          match a with
          | ⟨0, _⟩ => rfl
          | ⟨1, _⟩ => exact Nat.mod_eq_of_lt l.isLt
    · refine (val_main_v19_apply (F := Ideal) x w _).trans (congrArg₂ (fun a b : EReal => a * b) ?_ ?_)
      · refine (val_main_v14_apply (F := Ideal) x _).trans (Eq.trans (congrArg _ ?_) (ref_padded x c ⟨n.val + 2, by omega⟩ l))
        funext a; apply Fin.ext
        match a with
        | ⟨0, _⟩ => rfl
        | ⟨1, _⟩ => exact Nat.add_comm 2 n.val
        | ⟨2, _⟩ => rfl
      · refine (val_main_v18_apply (F := Ideal) w _).trans ((val_main_v17_apply (F := Ideal) w _).trans
          ((val_main_v16_apply (F := Ideal) w _).trans ((val_main_v15_apply (F := Ideal) w _).trans (congrArg w ?_))))
        funext a; apply Fin.ext
        match a with
        | ⟨0, _⟩ => rfl
        | ⟨1, _⟩ => exact Nat.mod_eq_of_lt l.isLt
  · refine (val_main_v22_apply (F := Ideal) b _).trans ((val_main_v21_apply (F := Ideal) b _).trans (congrArg b ?_))
    funext a; apply Fin.ext
    match a with
    | ⟨0, _⟩ => rfl

/-- The second is the same, its change of format the identity. -/
theorem ref_copy : val_main_v24 (F := Ideal) x w b = convs x w b :=
  (funext fun i => val_main_v24_apply (F := Ideal) x w b i).trans (ref_value x w b)

end Cert.Proof.HyConv

end
-- ==== Proof.HyConv.Claim.lean ====
/-
  The claims on the short convolution of the Hyena branch.
-/
module

public import proofs.«01_k».proof.Defs
public import proofs.«01_k».proof.Proof.HyConv.Array
public import proofs.«01_k».proof.Proof.HyConv.Ref
public import proofs.«01_k».proof.Proof.Gen.Kernel8.Frame
public import proofs.«01_k».proof.Proof.Gen.Kernel8Ideal.Frame
public import Idealize.ShloMosaic.Lib.Quiescent

@[expose] public section

noncomputable section

namespace Cert.Proof.HyConv

open Idealize.ShloMosaic Idealize.SL.Sem

theorem frame_reference : Cert.quiescent_Reference8Ideal := fun m ρ _ =>
  (θ_run (Cert.Reference8Ideal.defs (F := Ideal)) _ _).mono
    (fun r h => ⟨fun c => (h c).2.2, Idealize.ShloMosaic.sem_eq_zero_of_no_sems (by decide) r.2⟩)
    (Cert.Reference8Ideal.Value.run (F := Ideal) m ρ)

theorem algebraic : Cert.algebraic_Kernel8Ideal_Reference8Ideal := by
  intro m g m' g' _ hargs
  refine ⟨fun c => result0 m c, fun c => result1 m c, ?_, ?_⟩
  · refine (θ_run (Cert.Kernel8Ideal.defs (F := Ideal)) _ _).mono (fun r h c => ?_) (Cert.Kernel8Ideal.Value.run_blocks (F := Ideal) m g)
    obtain ⟨r0, r1, hr⟩ := h c
    exact ⟨r0.trans (final3 m c), r1.trans (final4 m c), hr⟩
  · refine (θ_run (Cert.Reference8Ideal.defs (F := Ideal)) _ _).mono (fun r h c => ?_) (Cert.Reference8Ideal.Value.run (F := Ideal) m' g')
    obtain ⟨h0, h1, h2⟩ := hargs c
    obtain ⟨r0, r1, hr⟩ := h c
    refine ⟨r0.trans ?_, r1.trans ?_, hr⟩
    · refine (Cert.Reference8Ideal.Read.val_main_v23_eq (F := Ideal) _ _ _).trans ?_
      rw [h0, h1, h2]
      exact ref_value _ _ _
    · refine (Cert.Reference8Ideal.Read.val_main_v24_eq (F := Ideal) _ _ _).trans ?_
      rw [h0, h1, h2]
      exact ref_copy _ _ _

end Cert.Proof.HyConv

end
-- ==== Proof.HyTab.Tables.lean ====
/-
  The tables of the transforms: the cosines, the negated sines, the alternating signs, and the two tables that hold the signs in the
  place of the sines of the zero frequency.
-/
module

public import proofs.«01_k».proof.Proof.HgIn.Payload
public import proofs.«01_k».proof.Proof.Gen.Reference9Ideal.Read
public import Idealize.ShloMosaic.Lib.WordCmp

@[expose] public section

noncomputable section

namespace Cert.Proof.HyTab

open scoped BigOperators
open Cert.Reference9Ideal Cert.Reference9Ideal.Gen Cert.Reference9Ideal.Read Idealize.ShloMosaic Idealize.ShloMosaic.TcCoe Idealize.SL.Sem

/-- The cosines of the angles `2π·f·t / 8192`. -/
def cosT (f t : Fin 4096) : EReal := val_main_v16 (F := Ideal) (ix2 f t)

/-- Their sines, negated. -/
def sinT (f t : Fin 4096) : EReal := val_main_v20 (F := Ideal) (ix2 f t)

/-- The signs of the last frequency. -/
def altT (t : Fin 4096) : EReal := val_main_v27 (F := Ideal) (ix1 t)

/-- The negated sines, the first row the signs. -/
def rowT (f t : Fin 4096) : EReal := if f.val = 0 then altT t else sinT f t

/-- The negated sines, the first column the signs. -/
def colT (t f : Fin 4096) : EReal := if f.val = 0 then altT t else sinT t f

theorem angle_zero (i : S4096x4096.Idx) (h : val_main_v5 (F := Ideal) i = 0#32) : val_main_v9 (F := Ideal) i = 0 := by
  have h6 : val_main_v6 (F := Ideal) i = 0#32 := by
    rw [val_main_v6_apply, val_main_call0_v12_apply, val_main_call0_v14_apply, val_main_call0_v11_apply, val_main_call0_v6_apply, val_main_call0_v8_apply,
      val_main_call0_v4_apply, h, val_main_call0_v3_apply, val_main_call0_v5_apply, val_main_call0_v7_apply, val_main_call0_v10_apply, val_main_call0_v13_apply,
      val_main_call0_v9_apply]
    simp only [val_main_call0_v2_apply, val_main_call0_v1_apply, val_main_call0_v0_apply, val_main_call0_c_apply, val_main_call0_c_0_apply,
      val_main_call0_c_1_apply, val_main_call0_c_2_apply, val_main_call0_c_3_apply, val_main_c_apply]
    decide +kernel
  rw [val_main_v9_apply, val_main_v7_apply, h6]
  show (((0#32 : BitVec 32).toInt : ℝ) : EReal) * _ = 0
  rw [show ((0#32 : BitVec 32).toInt : ℝ) = 0 by simp]
  exact zero_mul _

theorem sin_zero (i : S4096x4096.Idx) (h : val_main_v5 (F := Ideal) i = 0#32) : val_main_v20 (F := Ideal) i = 0 := by
  rw [val_main_v20_apply, val_main_v19_apply, angle_zero i h]
  show -(((Real.sin (0 : EReal).toReal : ℝ)) : EReal) = 0
  simp

theorem sinT_left (t : Fin 4096) : sinT 0 t = 0 := by
  refine sin_zero _ ?_
  rw [val_main_v5_apply, val_main_v3_apply, val_main_v4_apply, val_main_v1_apply, val_main_v2_apply, val_main_v0_apply, val_main_v0_apply]
  show BitVec.ofNat 32 0 * BitVec.ofNat 32 _ = 0#32
  simp

theorem sinT_right (f : Fin 4096) : sinT f 0 = 0 := by
  refine sin_zero _ ?_
  rw [val_main_v5_apply, val_main_v3_apply, val_main_v4_apply, val_main_v1_apply, val_main_v2_apply, val_main_v0_apply, val_main_v0_apply]
  show BitVec.ofNat 32 _ * BitVec.ofNat 32 0 = 0#32
  simp

/-- A sum against the table with the signs in its first column is the sum against the sines and the signs times the first term. -/
theorem sum_col (t : Fin 4096) (y : Fin 4096 → EReal) : ∑ f : Fin 4096, colT t f * y f = (∑ f : Fin 4096, y f * sinT t f) + altT t * y 0 := by
  rw [Fin.sum_univ_succ (n := 4095) (fun f => colT t f * y f), Fin.sum_univ_succ (n := 4095) (fun f => y f * sinT t f), sinT_right, mul_zero, zero_add, add_comm]
  refine congrArg₂ (fun a b : EReal => a + b) (Finset.sum_congr rfl fun f _ => ?_) rfl
  rw [mul_comm]
  exact congrArg (fun a : EReal => y f.succ * a) (if_neg (Nat.succ_ne_zero f.val))

end Cert.Proof.HyTab

end
-- ==== Proof.HyBack.Host.lean ====
/-
  The tables the last transform is given.
-/
module

public import proofs.«01_k».proof.Proof.HyTab.Tables
public import proofs.«01_k».proof.Proof.Gen.Kernel9Ideal.Value

@[expose] public section

noncomputable section

namespace Cert.Proof.HyBack

open Cert.Kernel9Ideal Cert.Kernel9Ideal.Gen Idealize.ShloMosaic Idealize.ShloMosaic.TcCoe Idealize.SL.Sem
open Cert.Proof.HyTab

variable (m : (ℓ : Loc nD τ sig) → Buf (Elt Ideal) ℓ) (ρ : Dev nD → PrngReg)

set_option maxHeartbeats 1600000 in
theorem V_cos (c : Dev nD) : V m c main_v28 = Cert.Reference9Ideal.Read.val_main_v16 (F := Ideal) := by
  show StableHlo.after _ _ _ = _
  simp only [hostOps0, List.flatten_cons, List.flatten_nil, List.append_nil, List.cons_append, List.nil_append]
  after_results_simp <;> rfl

set_option maxHeartbeats 1600000 in
theorem V_col (c : Dev nD) (t f : Fin 4096) : V m c main_v30 (ix2 t f) = colT t f := by
  have hv : V m c main_v30 = select
      (broadcastInDim S4096x4096 ![0, 1] bcast_S1x4096_S4096x4096_0_1 (cmpi .eq
        (broadcastInDim S1x4096 ![1] bcast_S4096_S1x4096_1 (iotaInDim S4096 32 0)) (broadcastInDim S1x4096 ![] bcast_S_S1x4096 (constantI S_ 32 0#32))))
      (broadcastInDim S4096x4096 ![0, 1] bcast_S4096x1_S4096x4096_0_1
        (broadcastInDim S4096x1 ![0] bcast_S4096_S4096x1_0 (Cert.Reference9Ideal.Read.val_main_v27 (F := Ideal))))
      (Cert.Reference9Ideal.Read.val_main_v20 (F := Ideal)) := by
    show StableHlo.after _ _ _ = _
    simp only [hostOps0, List.flatten_cons, List.flatten_nil, List.append_nil, List.cons_append, List.nil_append]
    after_results_simp <;> rfl
  rw [hv]
  have hf := f.isLt
  have hc : IntOp.cmpi .eq (BitVec.ofNat 32 f.val) (BitVec.ofNat 32 0) = 1#1 ↔ f.val = 0 :=
    WordCmp.cmpi_eq_ofNat_eq_one_iff (show f.val < 2 ^ 32 by omega) (by decide)
  refine Eq.trans (b := Scalar.select (IntOp.cmpi .eq (BitVec.ofNat 32 f.val) (BitVec.ofNat 32 0)) (altT t) (sinT t f)) ?_ ?_
  · show Scalar.select _ _ _ = _
    refine congrArg₂ (fun b x => Scalar.select b x (sinT t f)) ?_ ?_
    · pointwise
    · unfold altT
      pointwise
  · unfold colT
    split
    · next h => exact if_pos (hc.2 h)
    · next h => exact if_neg (fun e => h (hc.1 e))

end Cert.Proof.HyBack

end
-- ==== Proof.HyBack.Payload.lean ====
/-
  The body of the last transform, read at one element: a row of cosines times the real parts, a row of sines times the imaginary
  ones, the bypass and the gate.
-/
module

public import proofs.«01_k».proof.Proof.HgIn.Payload
public import proofs.«01_k».proof.Proof.Gen.Kernel9Ideal.Value
public import Idealize.ShloMosaic.Lib.Pipeline.ValueKit.Tiles

@[expose] public section

noncomputable section

namespace Cert.Proof.HyBack

open Cert.Kernel9Ideal Cert.Kernel9Ideal.Gen Idealize.ShloMosaic Idealize.ShloMosaic.TcCoe Idealize.SL.Sem
open Cert.Proof.HgIn (zero2 zero3)
open scoped BigOperators

theorem drop_part {α : Type} (x : S1x1x4096x512.Idx → α) (k : Fin 4096) (l : Fin 512) :
    shapeCast S4096x512 x shapeCasts_S1x1x4096x512_S4096x512 (ix2 k l) = x (ix4 (0 : Fin 1) (0 : Fin 1) k l) :=
  shapeCast_apply x _ _ _ (by
    rw [Shape.rowMajor_val_two, Shape.rowMajor_val_four]
    show ((0 * 1 + 0) * 4096 + k.val) * 512 + l.val = k.val * 512 + l.val
    omega)

theorem drop_block {α : Type} (x : S1x512x512.Idx → α) (r l : Fin 512) :
    shapeCast S512x512 x shapeCasts_S1x512x512_S512x512 (ix2 r l) = x (ix3 (0 : Fin 1) r l) :=
  shapeCast_apply x _ _ _ (by
    rw [Shape.rowMajor_val_two, Shape.rowMajor_val_three]
    show (0 * 512 + r.val) * 512 + l.val = r.val * 512 + l.val
    omega)

theorem lead_block {α : Type} (y : S512x512.Idx → α) (r l : Fin 512) :
    shapeCast S1x512x512 y shapeCasts_S512x512_S1x512x512 (ix3 (0 : Fin 1) r l) = y (ix2 r l) :=
  shapeCast_apply _ shapeCasts_S512x512_S1x512x512 (ix3 (0 : Fin 1) r l) (ix2 r l) (by
    rw [Shape.rowMajor_val_two, Shape.rowMajor_val_three]
    show r.val * 512 + l.val = (0 * 512 + r.val) * 512 + l.val
    omega)

theorem row_apply (x : FVec Ideal S1x512 .f32) (r l : Fin 512) :
    broadcastTo S512x512 (shapeCast S1x512 x shapeCasts_S1x512_S1x512) broadcasts_S1x512_S512x512 (ix2 r l) = x (ix2 (0 : Fin 1) l) := by
  refine Eq.trans (b := shapeCast S1x512 x shapeCasts_S1x512_S1x512 (ix2 (0 : Fin 1) l)) ?_ (shapeCast_apply x _ _ _ rfl)
  pointwise

/-- A row of a table times a column. -/
theorem prod_apply (a : FVec Ideal S512x4096 .bf16) (y : FVec Ideal S4096x512 .bf16) (r l : Fin 512) :
    Ideal.matmul dot_S512x4096_S4096x512_S512x512_1_0_0_1_n_n (shapeCast S512x4096 a shapeCasts_S512x4096_S512x4096) y
      (constant (F := Ideal) S512x512 .f32 0x00000000#32) (ix2 r l) = ∑ k : Fin 4096, a (ix2 r k) * y (ix2 k l) := by
  refine (Ideal.matmul_plain_apply (M := 512) (K := 4096) (N := 512) (φ₁ := .bf16) (φ₂ := .bf16) none _ _ _ r l).trans ?_
  show Ideal.ofBits .f32 0x00000000#32 + _ = _
  rw [Ideal.ofBits_zero_f32, zero_add]
  exact Finset.sum_congr rfl fun k _ => congrArg (fun b : EReal => b * y (ix2 k l)) (shapeCast_apply a _ _ _ rfl)

theorem ld_re (x : Vec Ideal S1x2x4096x512 .bf16) (k : Fin 4096) (l : Fin 512) :
    View.ld x r0_1 (ix4 (0 : Fin 1) (0 : Fin 1) k l) = x (ix4 (0 : Fin 1) (0 : Fin 2) k l) :=
  View.ld_unit_apply_of x _ _ _ (ix4 (0 : Fin 1) (0 : Fin 1) k l) (ix4 (0 : Fin 1) (0 : Fin 2) k l) fun a => by
    match a with
    | ⟨0, _⟩ => rfl
    | ⟨1, _⟩ => rfl
    | ⟨2, _⟩ => show k.val = 0 + k.val; omega
    | ⟨3, _⟩ => show l.val = 0 + l.val; omega

theorem ld_im (x : Vec Ideal S1x2x4096x512 .bf16) (k : Fin 4096) (l : Fin 512) :
    View.ld x r0_2 (ix4 (0 : Fin 1) (0 : Fin 1) k l) = x (ix4 (0 : Fin 1) (1 : Fin 2) k l) :=
  View.ld_unit_apply_of x _ _ _ (ix4 (0 : Fin 1) (0 : Fin 1) k l) (ix4 (0 : Fin 1) (1 : Fin 2) k l) fun a => by
    match a with
    | ⟨0, _⟩ => rfl
    | ⟨1, _⟩ => rfl
    | ⟨2, _⟩ => show k.val = 0 + k.val; omega
    | ⟨3, _⟩ => show l.val = 0 + l.val; omega

variable (x0 : Vec Ideal S1x2x4096x512 .bf16) (x1 : Vec Ideal S512x4096 .bf16) (x2 : Vec Ideal S512x4096 .bf16)
  (x3 : Vec Ideal S1x512x512 .f32) (x4 : Vec Ideal S1x512x512 .f32) (x5 : Vec Ideal S1x512 .f32)

/-- The gated sum of the transform and the bypass. -/
def gated (r l : Fin 512) : EReal :=
  x4 (ix3 (0 : Fin 1) r l) * (((∑ k : Fin 4096, x1 (ix2 r k) * x0 (ix4 (0 : Fin 1) (0 : Fin 2) k l))
    + (∑ k : Fin 4096, x2 (ix2 r k) * x0 (ix4 (0 : Fin 1) (1 : Fin 2) k l))) + x3 (ix3 (0 : Fin 1) r l) * x5 (ix2 (0 : Fin 1) l))

theorem gated_apply (r l : Fin 512) :
    k0_pay1 (F := Ideal) x1 (View.ld x0 r0_1) x2 (View.ld x0 r0_2) x4 x3 x5 (ix2 r l) = gated x0 x1 x2 x3 x4 x5 r l := by
  unfold k0_pay1 gated
  refine congrArg₂ (fun a b : EReal => a * b) (drop_block x4 r l) (congrArg₂ (fun a b : EReal => a + b) (congrArg₂ (fun a b : EReal => a + b) ?_ ?_) ?_)
  · exact (prod_apply x1 _ r l).trans (Finset.sum_congr rfl fun k _ => congrArg (fun b : EReal => x1 (ix2 r k) * b) ((drop_part _ k l).trans (ld_re x0 k l)))
  · exact (prod_apply x2 _ r l).trans (Finset.sum_congr rfl fun k _ => congrArg (fun b : EReal => x2 (ix2 r k) * b) ((drop_part _ k l).trans (ld_im x0 k l)))
  · exact congrArg₂ (fun a b : EReal => a * b) (drop_block x3 r l) (row_apply x5 r l)

/-- What a point leaves in its first output block. -/
theorem out_apply (r l : Fin 512) : out0_6 (F := Ideal) x0 x1 x2 x3 x4 x5 (ix3 (0 : Fin 1) r l) = gated x0 x1 x2 x3 x4 x5 r l := by
  unfold out0_6 k0_pay2
  rw [View.canon_unit_zero zero3]
  simp only [View.ld_unit_zero (S := S512x4096) zero2, View.ld_unit_zero (S := S1x512x512) zero3, View.ld_unit_zero (S := S1x512) zero2]
  exact (lead_block _ r l).trans (gated_apply x0 x1 x2 x3 x4 x5 r l)

/-- What a point leaves in its second output block: the same, its change of format the identity. -/
theorem copy_apply (r l : Fin 512) : out0_7 (F := Ideal) x0 x1 x2 x3 x4 x5 (ix3 (0 : Fin 1) r l) = gated x0 x1 x2 x3 x4 x5 r l := by
  unfold out0_7 k0_pay3
  rw [View.canon_unit_zero zero3]
  simp only [View.ld_unit_zero (S := S512x4096) zero2, View.ld_unit_zero (S := S1x512x512) zero3, View.ld_unit_zero (S := S1x512) zero2]
  exact (lead_block _ r l).trans (gated_apply x0 x1 x2 x3 x4 x5 r l)

end Cert.Proof.HyBack

end
-- ==== Proof.HyBack.Array.lean ====
/-
  The last transform: the kernel's two result arrays, their blocks put together.
-/
module

public import proofs.«01_k».proof.Proof.HyBack.Host
public import proofs.«01_k».proof.Proof.HyBack.Payload

@[expose] public section

noncomputable section

namespace Cert.Proof.HyBack

open Cert.Kernel9Ideal Cert.Kernel9Ideal.Gen Idealize.ShloMosaic Idealize.ShloMosaic.TcCoe Idealize.SL.Sem
open Idealize.ShloMosaic.Pipeline (Dat)
open Cert.Proof.HyTab
open scoped BigOperators

/-- The column of the bypass and that of the gate. -/
def inCol (l : Fin 512) : Fin 1536 := ⟨l.val, by have := l.isLt; omega⟩
def gateCol (l : Fin 512) : Fin 1536 := ⟨512 + l.val, by have := l.isLt; omega⟩

/-- The gated transform of every batch, token and column. -/
def whole (y : S8x2x4096x512.Idx → EReal) (h : S8x4096x1536.Idx → EReal) (d : S512.Idx → EReal) (i : S8x4096x512.Idx) : EReal :=
  h (ix3 (i 0) (i 1) (gateCol (i 2))) * (((∑ k : Fin 4096, cosT (i 1) k * y (ix4 (i 0) (0 : Fin 2) k (i 2)))
    + (∑ k : Fin 4096, colT (i 1) k * y (ix4 (i 0) (1 : Fin 2) k (i 2)))) + h (ix3 (i 0) (i 1) (inCol (i 2))) * d (ix1 (i 2)))

variable (m : (ℓ : Loc nD τ sig) → Buf (Elt Ideal) ℓ) (ρ : Dev nD → PrngReg)

/-- The weights of the bypass as a row. -/
theorem V_bypass (c : Dev nD) (l : Fin 512) : V m c main_v31 (ix2 (0 : Fin 1) l) = m ((c : Thread nD τ).loc main_arg2) (ix1 l) := by
  have hv : V m c main_v31 = shapeCast S1x512 (m ((c : Thread nD τ).loc main_arg2)) shapeCasts_S512_S1x512 := by
    show StableHlo.after _ _ _ = _
    simp only [hostOps0, List.flatten_cons, List.flatten_nil, List.append_nil, List.cons_append, List.nil_append]
    after_results_simp <;> rfl
  rw [hv]
  exact shapeCast_apply (s := S512) _ _ _ _ (by
    rw [Shape.rowMajor_val_one, Shape.rowMajor_val_two]
    show l.val = 0 * 512 + l.val
    omega)

theorem t_lt (t : Fin cfg0.N) : t.val < 64 := lt_of_lt_of_eq t.isLt N_0

/-- The batch and the rows under point `t`'s block coordinates. -/
def batchAt (t : Fin cfg0.N) : Fin 8 := ⟨t.val / 8, by have := t_lt t; omega⟩
def rowAt (t : Fin cfg0.N) (r : Fin 512) : Fin 4096 := ⟨t.val % 8 * 512 + r.val, by have := r.isLt; omega⟩

theorem idx0 : ∀ t : Fin cfg0.N, win0_0.index t 0 = t.val / 8 ∧ win0_0.index t 1 = 0 ∧ win0_0.index t 2 = 0 ∧ win0_0.index t 3 = 0 :=
  (by decide +kernel : ∀ t : Fin grid0.N, _)

theorem blk0 (c : Dev nD) (t : Fin cfg0.N) (p : Fin 2) (k : Fin 4096) (l : Fin 512) :
    iblk m c 0 t (ix4 (0 : Fin 1) p k l) = m ((c : Thread nD τ).loc main_arg0) (ix4 (batchAt t) p k l) := by
  obtain ⟨h0, h1, h2, h3⟩ := idx0 t
  refine Eq.trans ?_ (congrFun (V_main_arg0 m c) _)
  refine congrArg (V m c main_arg0) (funext fun a => Fin.ext ?_)
  match a with
  | ⟨0, _⟩ => exact (Pipeline.Window.rect_emb_val win0_0 t _ 0).trans (by rw [h0]; show t.val / 8 * 1 + 0 = t.val / 8; omega)
  | ⟨1, _⟩ => exact (Pipeline.Window.rect_emb_val win0_0 t _ 1).trans (by rw [h1]; show 0 * 2 + p.val = p.val; omega)
  | ⟨2, _⟩ => exact (Pipeline.Window.rect_emb_val win0_0 t _ 2).trans (by rw [h2]; show 0 * 4096 + k.val = k.val; omega)
  | ⟨3, _⟩ => exact (Pipeline.Window.rect_emb_val win0_0 t _ 3).trans (by rw [h3]; show 0 * 512 + l.val = l.val; omega)

theorem idx1 : ∀ t : Fin cfg0.N, win0_1.index t 0 = t.val % 8 ∧ win0_1.index t 1 = 0 :=
  (by decide +kernel : ∀ t : Fin grid0.N, _)

theorem blk1 (c : Dev nD) (t : Fin cfg0.N) (r : Fin 512) (k : Fin 4096) : iblk m c 1 t (ix2 r k) = cosT (rowAt t r) k := by
  obtain ⟨h0, h1⟩ := idx1 t
  refine Eq.trans ?_ (congrFun (V_cos m c) (ix2 (rowAt t r) k))
  refine congrArg (V m c main_v28) (funext fun a => Fin.ext ?_)
  match a with
  | ⟨0, _⟩ => exact (Pipeline.Window.rect_emb_val win0_1 t _ 0).trans (by rw [h0]; rfl)
  | ⟨1, _⟩ => exact (Pipeline.Window.rect_emb_val win0_1 t _ 1).trans (by rw [h1]; show 0 * 4096 + k.val = k.val; omega)

theorem idx2 : ∀ t : Fin cfg0.N, win0_2.index t 0 = t.val % 8 ∧ win0_2.index t 1 = 0 :=
  (by decide +kernel : ∀ t : Fin grid0.N, _)

theorem blk2 (c : Dev nD) (t : Fin cfg0.N) (r : Fin 512) (k : Fin 4096) : iblk m c 2 t (ix2 r k) = colT (rowAt t r) k := by
  obtain ⟨h0, h1⟩ := idx2 t
  refine Eq.trans ?_ (V_col m c (rowAt t r) k)
  refine congrArg (V m c main_v30) (funext fun a => Fin.ext ?_)
  match a with
  | ⟨0, _⟩ => exact (Pipeline.Window.rect_emb_val win0_2 t _ 0).trans (by rw [h0]; rfl)
  | ⟨1, _⟩ => exact (Pipeline.Window.rect_emb_val win0_2 t _ 1).trans (by rw [h1]; show 0 * 4096 + k.val = k.val; omega)

theorem idx3 : ∀ t : Fin cfg0.N, win0_3.index t 0 = t.val / 8 ∧ win0_3.index t 1 = t.val % 8 ∧ win0_3.index t 2 = 0 :=
  (by decide +kernel : ∀ t : Fin grid0.N, _)

theorem blk3 (c : Dev nD) (t : Fin cfg0.N) (r l : Fin 512) :
    iblk m c 3 t (ix3 (0 : Fin 1) r l) = m ((c : Thread nD τ).loc main_arg1) (ix3 (batchAt t) (rowAt t r) (inCol l)) := by
  obtain ⟨h0, h1, h2⟩ := idx3 t
  refine Eq.trans ?_ (congrFun (V_main_arg1 m c) _)
  refine congrArg (V m c main_arg1) (funext fun a => Fin.ext ?_)
  match a with
  | ⟨0, _⟩ => exact (Pipeline.Window.rect_emb_val win0_3 t _ 0).trans (by rw [h0]; show t.val / 8 * 1 + 0 = t.val / 8; omega)
  | ⟨1, _⟩ => exact (Pipeline.Window.rect_emb_val win0_3 t _ 1).trans (by rw [h1]; rfl)
  | ⟨2, _⟩ => exact (Pipeline.Window.rect_emb_val win0_3 t _ 2).trans (by rw [h2]; show 0 * 512 + l.val = l.val; omega)

theorem idx4 : ∀ t : Fin cfg0.N, win0_4.index t 0 = t.val / 8 ∧ win0_4.index t 1 = t.val % 8 ∧ win0_4.index t 2 = 1 :=
  (by decide +kernel : ∀ t : Fin grid0.N, _)

theorem blk4 (c : Dev nD) (t : Fin cfg0.N) (r l : Fin 512) :
    iblk m c 4 t (ix3 (0 : Fin 1) r l) = m ((c : Thread nD τ).loc main_arg1) (ix3 (batchAt t) (rowAt t r) (gateCol l)) := by
  obtain ⟨h0, h1, h2⟩ := idx4 t
  refine Eq.trans ?_ (congrFun (V_main_arg1 m c) _)
  refine congrArg (V m c main_arg1) (funext fun a => Fin.ext ?_)
  match a with
  | ⟨0, _⟩ => exact (Pipeline.Window.rect_emb_val win0_4 t _ 0).trans (by rw [h0]; show t.val / 8 * 1 + 0 = t.val / 8; omega)
  | ⟨1, _⟩ => exact (Pipeline.Window.rect_emb_val win0_4 t _ 1).trans (by rw [h1]; rfl)
  | ⟨2, _⟩ => exact (Pipeline.Window.rect_emb_val win0_4 t _ 2).trans (by rw [h2]; show 1 * 512 + l.val = 512 + l.val; omega)

theorem idx5 : ∀ t : Fin cfg0.N, win0_5.index t 0 = 0 ∧ win0_5.index t 1 = 0 :=
  (by decide +kernel : ∀ t : Fin grid0.N, _)

theorem blk5 (c : Dev nD) (t : Fin cfg0.N) (l : Fin 512) :
    iblk m c 5 t (ix2 (0 : Fin 1) l) = m ((c : Thread nD τ).loc main_arg2) (ix1 l) := by
  obtain ⟨h0, h1⟩ := idx5 t
  refine Eq.trans ?_ (V_bypass m c l)
  refine congrArg (V m c main_v31) (funext fun a => Fin.ext ?_)
  match a with
  | ⟨0, _⟩ => exact (Pipeline.Window.rect_emb_val win0_5 t _ 0).trans (by rw [h0]; rfl)
  | ⟨1, _⟩ => exact (Pipeline.Window.rect_emb_val win0_5 t _ 1).trans (by rw [h1]; show 0 * 512 + l.val = l.val; omega)

theorem block_idx (y : S1x512x512.Idx) : ∃ (r l : Fin 512), y = ix3 (0 : Fin 1) r l :=
  ⟨y 1, y 2, funext fun a => Fin.ext (by
    match a with
    | ⟨0, _⟩ => exact Nat.lt_one_iff.mp (y 0).isLt
    | ⟨1, _⟩ => rfl
    | ⟨2, _⟩ => rfl)⟩

/-- A point's block is its rows of the whole. -/
theorem gated_eq (c : Dev nD) (t : Fin cfg0.N) (r l : Fin 512) :
    gated (iblk m c 0 t) (iblk m c 1 t) (iblk m c 2 t) (iblk m c 3 t) (iblk m c 4 t) (iblk m c 5 t) r l
      = whole (m ((c : Thread nD τ).loc main_arg0)) (m ((c : Thread nD τ).loc main_arg1)) (m ((c : Thread nD τ).loc main_arg2))
          (ix3 (batchAt t) (rowAt t r) l) := by
  unfold gated whole
  refine congrArg₂ (fun a b : EReal => a * b) (blk4 m c t r l) (congrArg₂ (fun a b : EReal => a + b) (congrArg₂ (fun a b : EReal => a + b) ?_ ?_) ?_)
  · exact Finset.sum_congr rfl fun k _ => congrArg₂ (fun a b : EReal => a * b) (blk1 m c t r k) (blk0 m c t 0 k l)
  · exact Finset.sum_congr rfl fun k _ => congrArg₂ (fun a b : EReal => a * b) (blk2 m c t r k) (blk0 m c t 1 k l)
  · exact congrArg₂ (fun a b : EReal => a * b) (blk3 m c t r l) (blk5 m c t l)

theorem idx6 : ∀ t : Fin cfg0.N, win0_6.index t 0 = t.val / 8 ∧ win0_6.index t 1 = t.val % 8 ∧ win0_6.index t 2 = 0 :=
  (by decide +kernel : ∀ t : Fin grid0.N, _)

theorem emb6 (t : Fin cfg0.N) (r l : Fin 512) :
    (win0_6.blk t).view.emb (ix3 (0 : Fin 1) r l) = ix3 (batchAt t) (rowAt t r) l := by
  obtain ⟨h0, h1, h2⟩ := idx6 t
  funext a; apply Fin.ext
  match a with
  | ⟨0, _⟩ => exact (Pipeline.Window.rect_emb_val win0_6 t _ 0).trans (by rw [h0]; show t.val / 8 * 1 + 0 = t.val / 8; omega)
  | ⟨1, _⟩ => exact (Pipeline.Window.rect_emb_val win0_6 t _ 1).trans (by rw [h1]; rfl)
  | ⟨2, _⟩ => exact (Pipeline.Window.rect_emb_val win0_6 t _ 2).trans (by rw [h2]; show 0 * 512 + l.val = l.val; omega)

/-- The gated transform of device `c`'s arguments. -/
abbrev result0 (c : Dev nD) : Buf (Elt Ideal) ((c : Thread nD τ).loc main_v32_0) :=
  whole (m ((c : Thread nD τ).loc main_arg0)) (m ((c : Thread nD τ).loc main_arg1)) (m ((c : Thread nD τ).loc main_arg2))

theorem flushed_eq6 (c : Dev nD) (t : Fin cfg0.N) :
    (dats m 0 c).flushed 6 t = (win0_6.blk t).view.read (Elt Ideal) (result0 m c) := by
  rw [Value.flushed6]
  funext y
  show out0_6 (F := Ideal) (iblk m c 0 t) (iblk m c 1 t) (iblk m c 2 t) (iblk m c 3 t) (iblk m c 4 t) (iblk m c 5 t) y = result0 m c ((win0_6.blk t).view.emb y)
  obtain ⟨r, l, rfl⟩ := block_idx y
  refine (out_apply _ _ _ _ _ _ r l).trans ?_
  rw [emb6]
  exact gated_eq m c t r l

theorem cover6 (i : S8x4096x512.Idx) :
    ∃ t : Fin cfg0.N, (cfg0.win 6).flush t = true ∧ i ∈ ((cfg0.win 6).blk t).view.set := by
  have h0 : (i 0).val < 8 := (i 0).isLt
  have h1 : (i 1).val < 4096 := (i 1).isLt
  have hN : cfg0.N = 64 := N_0
  have ht : (i 0).val * 8 + (i 1).val / 512 < cfg0.N := by omega
  refine ⟨⟨_, ht⟩, flush0_6 _, ?_⟩
  have e := emb6 ⟨_, ht⟩ ⟨(i 1).val % 512, by omega⟩ (i 2)
  have this : (win0_6.blk ⟨_, ht⟩).view.emb (ix3 (0 : Fin 1) ⟨(i 1).val % 512, by omega⟩ (i 2)) = i := by
    symm
    rw [e]
    funext a; apply Fin.ext
    match a with
    | ⟨0, _⟩ => show (i 0).val = ((i 0).val * 8 + (i 1).val / 512) / 8; omega
    | ⟨1, _⟩ => show (i 1).val = ((i 0).val * 8 + (i 1).val / 512) % 8 * 512 + (i 1).val % 512; omega
    | ⟨2, _⟩ => rfl
  have hm := View.emb_mem_set (win0_6.blk ⟨_, ht⟩).view (ix3 (0 : Fin 1) ⟨(i 1).val % 512, by omega⟩ (i 2))
  rwa [this] at hm

theorem final6 (c : Dev nD) : (dats m 0 c).arrAt 6 cfg0.N = result0 m c :=
  (dats m 0 c).arrAt_eq_of_cover 6 (result0 m c) (fun t _ => flushed_eq6 m c t) cover6

theorem idx7 : ∀ t : Fin cfg0.N, win0_7.index t 0 = t.val / 8 ∧ win0_7.index t 1 = t.val % 8 ∧ win0_7.index t 2 = 0 :=
  (by decide +kernel : ∀ t : Fin grid0.N, _)

theorem emb7 (t : Fin cfg0.N) (r l : Fin 512) :
    (win0_7.blk t).view.emb (ix3 (0 : Fin 1) r l) = ix3 (batchAt t) (rowAt t r) l := by
  obtain ⟨h0, h1, h2⟩ := idx7 t
  funext a; apply Fin.ext
  match a with
  | ⟨0, _⟩ => exact (Pipeline.Window.rect_emb_val win0_7 t _ 0).trans (by rw [h0]; show t.val / 8 * 1 + 0 = t.val / 8; omega)
  | ⟨1, _⟩ => exact (Pipeline.Window.rect_emb_val win0_7 t _ 1).trans (by rw [h1]; rfl)
  | ⟨2, _⟩ => exact (Pipeline.Window.rect_emb_val win0_7 t _ 2).trans (by rw [h2]; show 0 * 512 + l.val = l.val; omega)

/-- The same in the second array. -/
abbrev result1 (c : Dev nD) : Buf (Elt Ideal) ((c : Thread nD τ).loc main_v32_1) :=
  whole (m ((c : Thread nD τ).loc main_arg0)) (m ((c : Thread nD τ).loc main_arg1)) (m ((c : Thread nD τ).loc main_arg2))

theorem flushed_eq7 (c : Dev nD) (t : Fin cfg0.N) :
    (dats m 0 c).flushed 7 t = (win0_7.blk t).view.read (Elt Ideal) (result1 m c) := by
  rw [Value.flushed7]
  funext y
  show out0_7 (F := Ideal) (iblk m c 0 t) (iblk m c 1 t) (iblk m c 2 t) (iblk m c 3 t) (iblk m c 4 t) (iblk m c 5 t) y = result1 m c ((win0_7.blk t).view.emb y)
  obtain ⟨r, l, rfl⟩ := block_idx y
  refine (copy_apply _ _ _ _ _ _ r l).trans ?_
  rw [emb7]
  exact gated_eq m c t r l

theorem cover7 (i : S8x4096x512.Idx) :
    ∃ t : Fin cfg0.N, (cfg0.win 7).flush t = true ∧ i ∈ ((cfg0.win 7).blk t).view.set := by
  have h0 : (i 0).val < 8 := (i 0).isLt
  have h1 : (i 1).val < 4096 := (i 1).isLt
  have hN : cfg0.N = 64 := N_0
  have ht : (i 0).val * 8 + (i 1).val / 512 < cfg0.N := by omega
  refine ⟨⟨_, ht⟩, flush0_7 _, ?_⟩
  have e := emb7 ⟨_, ht⟩ ⟨(i 1).val % 512, by omega⟩ (i 2)
  have this : (win0_7.blk ⟨_, ht⟩).view.emb (ix3 (0 : Fin 1) ⟨(i 1).val % 512, by omega⟩ (i 2)) = i := by
    symm
    rw [e]
    funext a; apply Fin.ext
    match a with
    | ⟨0, _⟩ => show (i 0).val = ((i 0).val * 8 + (i 1).val / 512) / 8; omega
    | ⟨1, _⟩ => show (i 1).val = ((i 0).val * 8 + (i 1).val / 512) % 8 * 512 + (i 1).val % 512; omega
    | ⟨2, _⟩ => rfl
  have hm := View.emb_mem_set (win0_7.blk ⟨_, ht⟩).view (ix3 (0 : Fin 1) ⟨(i 1).val % 512, by omega⟩ (i 2))
  rwa [this] at hm

theorem final7 (c : Dev nD) : (dats m 0 c).arrAt 7 cfg0.N = result1 m c :=
  (dats m 0 c).arrAt_eq_of_cover 7 (result1 m c) (fun t _ => flushed_eq7 m c t) cover7

end Cert.Proof.HyBack

end
-- ==== Proof.HyBack.Ref.lean ====
/-
  The reference's result arrays are the gated transform of its arguments.
-/
module

public import proofs.«01_k».proof.Proof.HyBack.Array
public import proofs.«01_k».proof.Proof.Gen.Reference9Ideal.Read

@[expose] public section

noncomputable section

namespace Cert.Proof.HyBack

open Cert.Reference9Ideal Cert.Reference9Ideal.Gen Cert.Reference9Ideal.Read Idealize.ShloMosaic Idealize.ShloMosaic.TcCoe Idealize.SL.Sem
open Cert.Proof.HyTab
open scoped BigOperators

variable (y : S8x2x4096x512.Idx → EReal) (h : S8x4096x1536.Idx → EReal) (d : S512.Idx → EReal)

theorem ref_re (b : Fin 8) (k : Fin 4096) (l : Fin 512) : val_main_v12 (F := Ideal) y (ix3 b k l) = y (ix4 b (0 : Fin 2) k l) := by
  refine (val_main_v12_apply (F := Ideal) y _).trans ?_
  show val_main_v11 (F := Ideal) y _ = _
  unfold val_main_v11
  refine (shapeCast_apply _ _ _ (ix4 b (0 : Fin 1) k l) (by
    rw [Shape.rowMajor_val_three, Shape.rowMajor_val_four]
    show ((b.val * 1 + 0) * 4096 + k.val) * 512 + l.val = (b.val * 4096 + k.val) * 512 + l.val
    omega)).trans ?_
  refine (val_main_v10_apply (F := Ideal) y _).trans (congrArg y (funext fun a => Fin.ext ?_))
  match a with
  | ⟨0, _⟩ => rfl
  | ⟨1, _⟩ => rfl
  | ⟨2, _⟩ => rfl
  | ⟨3, _⟩ => rfl

theorem ref_im (b : Fin 8) (k : Fin 4096) (l : Fin 512) : val_main_v15 (F := Ideal) y (ix3 b k l) = y (ix4 b (1 : Fin 2) k l) := by
  refine (val_main_v15_apply (F := Ideal) y _).trans ?_
  show val_main_v14 (F := Ideal) y _ = _
  unfold val_main_v14
  refine (shapeCast_apply _ _ _ (ix4 b (0 : Fin 1) k l) (by
    rw [Shape.rowMajor_val_three, Shape.rowMajor_val_four]
    show ((b.val * 1 + 0) * 4096 + k.val) * 512 + l.val = (b.val * 4096 + k.val) * 512 + l.val
    omega)).trans ?_
  refine (val_main_v13_apply (F := Ideal) y _).trans (congrArg y (funext fun a => Fin.ext ?_))
  match a with
  | ⟨0, _⟩ => rfl
  | ⟨1, _⟩ => rfl
  | ⟨2, _⟩ => rfl
  | ⟨3, _⟩ => rfl

/-- The reference's first result is the gated transform. -/
theorem ref_value : val_main_v42 (F := Ideal) y h d = whole y h d := by
  funext i
  obtain ⟨b, n, l, rfl⟩ : ∃ (b : Fin 8) (n : Fin 4096) (l : Fin 512), i = ix3 b n l :=
    ⟨i 0, i 1, i 2, funext fun a => by
      match a with
      | ⟨0, _⟩ => rfl
      | ⟨1, _⟩ => rfl
      | ⟨2, _⟩ => rfl⟩
  refine (val_main_v42_apply (F := Ideal) y h d _).trans (congrArg₂ (fun a b : EReal => a * b) ?_ ?_)
  · refine (val_main_v37_apply (F := Ideal) h _).trans (congrArg h (funext fun a => Fin.ext ?_))
    match a with
    | ⟨0, _⟩ => rfl
    | ⟨1, _⟩ => rfl
    | ⟨2, _⟩ => rfl
  refine (val_main_v41_apply (F := Ideal) y h d _).trans (congrArg₂ (fun a b : EReal => a + b) ?_ ?_)
  · refine (val_main_v35_apply (F := Ideal) y _).trans ?_
    refine Eq.trans (b := ((∑ k : Fin 4096, cosT n k * y (ix4 b (0 : Fin 2) k l)) + ∑ k : Fin 4096, y (ix4 b (1 : Fin 2) k l) * sinT n k)
      + altT n * y (ix4 b (1 : Fin 2) (0 : Fin 4096) l)) ?_ ?_
    · refine congrArg₂ (fun a b : EReal => a + b) ?_ ?_
      · refine (val_main_v23_apply (F := Ideal) y _).trans (congrArg₂ (fun a b : EReal => a + b) ?_ ?_)
        · refine (val_main_v18_apply (F := Ideal) y _).trans ((val_main_v17_apply y _).trans (Finset.sum_congr rfl fun k _ => ?_))
          refine Eq.trans (congrArg₂ (fun a b : EReal => a * b) (Eq.trans (congrArg _ ?_) (ref_re y b k l)) (congrArg _ ?_)) (mul_comm _ _)
          · funext a; apply Fin.ext
            match a with
            | ⟨0, _⟩ => rfl
            | ⟨1, _⟩ => rfl
            | ⟨2, _⟩ => rfl
          · funext a; apply Fin.ext
            match a with
            | ⟨0, _⟩ => rfl
            | ⟨1, _⟩ => rfl
        · refine (val_main_v22_apply (F := Ideal) y _).trans ((val_main_v21_apply y _).trans (Finset.sum_congr rfl fun k _ => ?_))
          refine congrArg₂ (fun a b : EReal => a * b) (Eq.trans (congrArg _ ?_) (ref_im y b k l)) (congrArg _ ?_)
          · funext a; apply Fin.ext
            match a with
            | ⟨0, _⟩ => rfl
            | ⟨1, _⟩ => rfl
            | ⟨2, _⟩ => rfl
          · funext a; apply Fin.ext
            match a with
            | ⟨0, _⟩ => rfl
            | ⟨1, _⟩ => rfl
      · refine (val_main_v34_apply (F := Ideal) y _).trans (congrArg₂ (fun a b : EReal => a * b) ?_ ?_)
        · refine (val_main_v32_apply (F := Ideal) _).trans ((val_main_v31_apply (F := Ideal) _).trans ((val_main_v30_apply (F := Ideal) _).trans
            ((val_main_v28_apply (F := Ideal) _).trans (congrArg _ (funext fun a => Fin.ext ?_)))))
          match a with
          | ⟨0, _⟩ => rfl
        · refine (val_main_v33_apply (F := Ideal) y _).trans ((val_main_v29_apply (F := Ideal) y _).trans (Eq.trans (congrArg _ ?_) (ref_im y b 0 l)))
          funext a; apply Fin.ext
          match a with
          | ⟨0, _⟩ => rfl
          | ⟨1, _⟩ => rfl
          | ⟨2, _⟩ => rfl
    · rw [add_assoc]
      exact congrArg (fun a : EReal => (∑ k : Fin 4096, cosT n k * y (ix4 b (0 : Fin 2) k l)) + a) (sum_col n fun k => y (ix4 b (1 : Fin 2) k l)).symm
  · refine (val_main_v40_apply (F := Ideal) h d _).trans (congrArg₂ (fun a b : EReal => a * b) ?_ ?_)
    · refine (val_main_v36_apply (F := Ideal) h _).trans (congrArg h (funext fun a => Fin.ext ?_))
      match a with
      | ⟨0, _⟩ => rfl
      | ⟨1, _⟩ => rfl
      | ⟨2, _⟩ => rfl
    · refine (val_main_v39_apply (F := Ideal) d _).trans ((val_main_v38_apply (F := Ideal) d _).trans (congrArg d (funext fun a => Fin.ext ?_)))
      match a with
      | ⟨0, _⟩ => rfl

/-- The second is the same, its change of format the identity. -/
theorem ref_copy : val_main_v43 (F := Ideal) y h d = whole y h d :=
  (funext fun i => val_main_v43_apply (F := Ideal) y h d i).trans (ref_value y h d)

end Cert.Proof.HyBack

end
-- ==== Proof.HyBack.Claim.lean ====
/-
  The claims on the last transform of the Hyena branch and its gate.
-/
module

public import proofs.«01_k».proof.Defs
public import proofs.«01_k».proof.Proof.HyBack.Array
public import proofs.«01_k».proof.Proof.HyBack.Ref
public import proofs.«01_k».proof.Proof.Gen.Kernel9.Frame
public import proofs.«01_k».proof.Proof.Gen.Kernel9Ideal.Frame
public import Idealize.ShloMosaic.Lib.Quiescent

@[expose] public section

noncomputable section

namespace Cert.Proof.HyBack

open Idealize.ShloMosaic Idealize.SL.Sem

theorem frame_reference : Cert.quiescent_Reference9Ideal := fun m ρ _ =>
  (θ_run (Cert.Reference9Ideal.defs (F := Ideal)) _ _).mono
    (fun r h => ⟨fun c => (h c).2.2, Idealize.ShloMosaic.sem_eq_zero_of_no_sems (by decide) r.2⟩)
    (Cert.Reference9Ideal.Value.run (F := Ideal) m ρ)

theorem algebraic : Cert.algebraic_Kernel9Ideal_Reference9Ideal := by
  intro m g m' g' _ hargs
  refine ⟨fun c => result0 m c, fun c => result1 m c, ?_, ?_⟩
  · refine (θ_run (Cert.Kernel9Ideal.defs (F := Ideal)) _ _).mono (fun r h c => ?_) (Cert.Kernel9Ideal.Value.run_blocks (F := Ideal) m g)
    obtain ⟨r0, r1, hr⟩ := h c
    exact ⟨r0.trans (final6 m c), r1.trans (final7 m c), hr⟩
  · refine (θ_run (Cert.Reference9Ideal.defs (F := Ideal)) _ _).mono (fun r h c => ?_) (Cert.Reference9Ideal.Value.run (F := Ideal) m' g')
    obtain ⟨h0, h1, h2⟩ := hargs c
    obtain ⟨r0, r1, hr⟩ := h c
    refine ⟨r0.trans ?_, r1.trans ?_, hr⟩
    · refine (Cert.Reference9Ideal.Read.val_main_v42_eq (F := Ideal) _ _).trans ?_
      rw [h0, h1, h2]
      exact ref_value _ _ _
    · refine (Cert.Reference9Ideal.Read.val_main_v43_eq (F := Ideal) _ _).trans ?_
      rw [h0, h1, h2]
      exact ref_copy _ _ _

end Cert.Proof.HyBack

end
-- ==== Proof.HyTab.Row.lean ====
/-
  The table of sines with the signs in its first row, as the host makes it, and the mark of the first row.
-/
module

public import proofs.«01_k».proof.Proof.HyTab.Tables
public import proofs.«01_k».proof.Proof.Gen.Kernel9Ideal.Value

@[expose] public section

noncomputable section

namespace Cert.Proof.HyTab

open Cert.Kernel9Ideal Cert.Kernel9Ideal.Gen Idealize.ShloMosaic Idealize.ShloMosaic.TcCoe Idealize.SL.Sem

/-- The host's table: the signs where the row's number is zero, the sines elsewhere. -/
def rowTable : S4096x4096.Idx → EReal := select
  (broadcastInDim S4096x4096 ![0, 1] bcast_S4096x1_S4096x4096_0_1 (cmpi .eq
    (broadcastInDim S4096x1 ![0] bcast_S4096_S4096x1_0 (iotaInDim S4096 32 0)) (broadcastInDim S4096x1 ![] bcast_S_S4096x1 (constantI S_ 32 0#32))))
  (broadcastInDim S4096x4096 ![0, 1] bcast_S1x4096_S4096x4096_0_1
    (broadcastInDim S1x4096 ![1] bcast_S4096_S1x4096_1 (Cert.Reference9Ideal.Read.val_main_v27 (F := Ideal))))
  (Cert.Reference9Ideal.Read.val_main_v20 (F := Ideal))

theorem select_of_iff {α : Type} {b : BitVec 1} {p : Prop} [Decidable p] (h : b = 1#1 ↔ p) (x y : α) :
    Scalar.select b x y = if p then x else y := by
  by_cases hp : p
  · rw [if_pos hp]
    exact if_pos (h.2 hp)
  · rw [if_neg hp]
    exact if_neg fun e => hp (h.1 e)

theorem first_host (n : Fin 4096) : IntOp.cmpi .eq (BitVec.ofNat 32 n.val) (BitVec.ofNat 32 0) = 1#1 ↔ n.val = 0 :=
  WordCmp.cmpi_eq_ofNat_eq_one_iff (show n.val < 2 ^ 32 by have := n.isLt; omega) (by decide)

/-- The row's number, from its tile's number and its place in the tile, is zero. -/
theorem first_tile : ∀ (a : Fin 8) (r : Fin 512),
    IntOp.cmpi .eq (IntOp.addi (Scalar.muli (BitVec.ofNat 32 a.val) 512#32) (BitVec.ofNat 32 r.val)) 0#32 = 1#1 ↔ a.val * 512 + r.val = 0 := by
  decide +kernel

theorem rowTable_apply (f t : Fin 4096) : rowTable (ix2 f t) = rowT f t := by
  unfold rowTable rowT
  refine Eq.trans (b := Scalar.select (IntOp.cmpi .eq (BitVec.ofNat 32 f.val) (BitVec.ofNat 32 0)) (altT t) (sinT f t)) ?_ (select_of_iff (first_host f) _ _)
  show Scalar.select _ _ _ = _
  refine congrArg₂ (fun b x => Scalar.select b x (sinT f t)) ?_ ?_
  · pointwise
  · unfold altT
    pointwise

end Cert.Proof.HyTab

end
-- ==== Proof.HySpec.Host.lean ====
/-
  The tables the transform is given.
-/
module

public import proofs.«01_k».proof.Proof.HyTab.Row
public import proofs.«01_k».proof.Proof.Gen.Kernel10Ideal.Value

@[expose] public section

noncomputable section

namespace Cert.Proof.HySpec

open Cert.Kernel10Ideal Cert.Kernel10Ideal.Gen Idealize.ShloMosaic Idealize.ShloMosaic.TcCoe Idealize.SL.Sem
open Cert.Proof.HyTab

variable (m : (ℓ : Loc nD τ sig) → Buf (Elt Ideal) ℓ)

set_option maxHeartbeats 1600000 in
theorem V_cos (c : Dev nD) : V m c main_v28 = Cert.Reference9Ideal.Read.val_main_v16 (F := Ideal) := by
  show StableHlo.after _ _ _ = _
  simp only [hostOps0, List.flatten_cons, List.flatten_nil, List.append_nil, List.cons_append, List.nil_append]
  after_results_simp <;> rfl

set_option maxHeartbeats 1600000 in
theorem V_row (c : Dev nD) : V m c main_v29 = rowTable := by
  show StableHlo.after _ _ _ = _
  simp only [hostOps0, List.flatten_cons, List.flatten_nil, List.append_nil, List.cons_append, List.nil_append]
  after_results_simp <;> rfl

end Cert.Proof.HySpec

end
-- ==== Proof.HySpec.Payload.lean ====
/-
  The body of the transform and its product with the filter, read at one element.
-/
module

public import proofs.«01_k».proof.Proof.HgIn.Payload
public import proofs.«01_k».proof.Proof.Gen.Kernel10Ideal.Value
public import Idealize.ShloMosaic.Lib.Pipeline.ValueKit.Tiles

@[expose] public section

noncomputable section

namespace Cert.Proof.HySpec

open Cert.Kernel10Ideal Cert.Kernel10Ideal.Gen Idealize.ShloMosaic Idealize.ShloMosaic.TcCoe Idealize.SL.Sem
open Cert.Proof.HgIn (zero2 zero3)
open scoped BigOperators

theorem lead_block {α : Type} (y : S512x512.Idx → α) (r l : Fin 512) :
    shapeCast S1x1x512x512 y shapeCasts_S512x512_S1x1x512x512 (ix4 (0 : Fin 1) (0 : Fin 1) r l) = y (ix2 r l) :=
  shapeCast_apply _ shapeCasts_S512x512_S1x1x512x512 (ix4 (0 : Fin 1) (0 : Fin 1) r l) (ix2 r l) (by
    rw [Shape.rowMajor_val_two, Shape.rowMajor_val_four]
    show r.val * 512 + l.val = ((0 * 1 + 0) * 512 + r.val) * 512 + l.val
    omega)

/-- A row of a table times a column. -/
theorem prod_apply (a : FVec Ideal S512x4096 .bf16) (y : FVec Ideal S4096x512 .bf16) (r l : Fin 512) :
    Ideal.matmul dot_S512x4096_S4096x512_S512x512_1_0_0_1_n_n (shapeCast S512x4096 a shapeCasts_S512x4096_S512x4096) y
      (constant (F := Ideal) S512x512 .f32 0x00000000#32) (ix2 r l) = ∑ k : Fin 4096, a (ix2 r k) * y (ix2 k l) := by
  refine (Ideal.matmul_plain_apply (M := 512) (K := 4096) (N := 512) (φ₁ := .bf16) (φ₂ := .bf16) none _ _ _ r l).trans ?_
  show Ideal.ofBits .f32 0x00000000#32 + _ = _
  rw [Ideal.ofBits_zero_f32, zero_add]
  exact Finset.sum_congr rfl fun k _ => congrArg (fun b : EReal => b * y (ix2 k l)) (shapeCast_apply a _ _ _ rfl)

/-- The mark of the first row, from the tile's number. -/
def mark (i : grid0.Coords) (r : Fin 512) : BitVec 1 :=
  IntOp.cmpi .eq (IntOp.addi (Scalar.muli (BitVec.ofNat 32 (i 1).val) 512#32) (BitVec.ofNat 32 r.val)) 0#32

theorem mark_col (i : grid0.Coords) (r : Fin 512) :
    cmpi .eq (addi (broadcast S512x1 (Scalar.muli (BitVec.ofNat 32 (i 1).val) 512#32)) (iota .tc S512x1 32 [0] iota_S512x1_d0_w32))
      (broadcast S512x1 0#32) (ix2 r (0 : Fin 1)) = mark i r := by
  show IntOp.cmpi .eq (IntOp.addi _ (iota .tc S512x1 32 [0] iota_S512x1_d0_w32 (ix2 r (0 : Fin 1)))) _ = _
  rw [iota_single_apply]
  rfl

theorem mark_apply (x : IVec S512x1 1) (r l : Fin 512) :
    broadcastTo S512x512 (shapeCast S512x1 x shapeCasts_S512x1_S512x1) broadcasts_S512x1_S512x512 (ix2 r l) = x (ix2 r (0 : Fin 1)) := by
  refine Eq.trans (b := shapeCast S512x1 x shapeCasts_S512x1_S512x1 (ix2 r (0 : Fin 1))) ?_ (shapeCast_apply x _ _ _ rfl)
  pointwise

theorem drop_part {α : Type} (x : S1x4096x512.Idx → α) (k : Fin 4096) (l : Fin 512) :
    shapeCast S4096x512 x shapeCasts_S1x4096x512_S4096x512 (ix2 k l) = x (ix3 (0 : Fin 1) k l) :=
  shapeCast_apply x _ _ _ (by
    rw [Shape.rowMajor_val_two, Shape.rowMajor_val_three]
    show (0 * 4096 + k.val) * 512 + l.val = k.val * 512 + l.val
    omega)

theorem drop_block {α : Type} (x : S1x512x512.Idx → α) (r l : Fin 512) :
    shapeCast S512x512 x shapeCasts_S1x512x512_S512x512 (ix2 r l) = x (ix3 (0 : Fin 1) r l) :=
  shapeCast_apply x _ _ _ (by
    rw [Shape.rowMajor_val_two, Shape.rowMajor_val_three]
    show (0 * 512 + r.val) * 512 + l.val = r.val * 512 + l.val
    omega)

theorem scale_apply (x : FVec Ideal S512x1 .f32) (r l : Fin 512) :
    broadcastTo S512x512 x broadcasts_S512x1_S512x512 (ix2 r l) = x (ix2 r (0 : Fin 1)) := by
  pointwise

theorem ld_re (x : Vec Ideal S2x512x512 .f32) (r l : Fin 512) : View.ld x r0_2 (ix3 (0 : Fin 1) r l) = x (ix3 (0 : Fin 2) r l) :=
  View.ld_unit_apply_of x _ _ _ (ix3 (0 : Fin 1) r l) (ix3 (0 : Fin 2) r l) fun a => by
    match a with
    | ⟨0, _⟩ => rfl
    | ⟨1, _⟩ => show r.val = 0 + r.val; omega
    | ⟨2, _⟩ => show l.val = 0 + l.val; omega

theorem ld_im (x : Vec Ideal S2x512x512 .f32) (r l : Fin 512) : View.ld x r0_3 (ix3 (0 : Fin 1) r l) = x (ix3 (1 : Fin 2) r l) :=
  View.ld_unit_apply_of x _ _ _ (ix3 (0 : Fin 1) r l) (ix3 (1 : Fin 2) r l) fun a => by
    match a with
    | ⟨0, _⟩ => rfl
    | ⟨1, _⟩ => show r.val = 0 + r.val; omega
    | ⟨2, _⟩ => show l.val = 0 + l.val; omega

variable (i : grid0.Coords) (x0 : Vec Ideal S1x4096x512 .bf16) (x1 x2 : Vec Ideal S512x4096 .bf16) (x3 : Vec Ideal S2x512x512 .f32)

/-- A row of a table against a column of the block. -/
def spec (x : Vec Ideal S512x4096 .bf16) (r l : Fin 512) : EReal := ∑ k : Fin 4096, x (ix2 r k) * x0 (ix3 (0 : Fin 1) k l)

/-- The weight of a frequency, from the mark of the first. -/
def weight (b : BitVec 1) : EReal := Scalar.select b (Ideal.ofBits .f32 0x39000000#32) (Ideal.ofBits .f32 0x39800000#32)

/-- The two parts of the product of the spectra. -/
def partRe (r l : Fin 512) : EReal :=
  (spec x0 x1 r l * x3 (ix3 (0 : Fin 2) r l) - Scalar.select (mark i r) (Ideal.ofBits .f32 0x00000000#32) (spec x0 x2 r l * x3 (ix3 (1 : Fin 2) r l)))
    * weight (mark i r)
def partIm (r l : Fin 512) : EReal :=
  Scalar.select (mark i r) (spec x0 x2 r l * x3 (ix3 (1 : Fin 2) r l)) (spec x0 x1 r l * x3 (ix3 (1 : Fin 2) r l) + spec x0 x2 r l * x3 (ix3 (0 : Fin 2) r l))
    * weight (mark i r)

theorem spec_apply (x : Vec Ideal S512x4096 .bf16) (r l : Fin 512) : k0_pay4 (F := Ideal) x0 x (ix2 r l) = spec x0 x r l := by
  unfold k0_pay4 k0_pay3
  exact (prod_apply x _ r l).trans (Finset.sum_congr rfl fun k _ => congrArg (fun b : EReal => x (ix2 r k) * b) (drop_part x0 k l))

theorem spec_apply' (x : Vec Ideal S512x4096 .bf16) (r l : Fin 512) : k0_pay5 (F := Ideal) x0 x (ix2 r l) = spec x0 x r l :=
  spec_apply x0 x r l

theorem ker_re (r l : Fin 512) : k0_pay6 (F := Ideal) (View.ld x3 r0_2) (ix2 r l) = x3 (ix3 (0 : Fin 2) r l) := by
  unfold k0_pay6
  exact (drop_block _ r l).trans (ld_re x3 r l)

theorem ker_im (r l : Fin 512) : k0_pay7 (F := Ideal) (View.ld x3 r0_3) (ix2 r l) = x3 (ix3 (1 : Fin 2) r l) := by
  unfold k0_pay7
  exact (drop_block _ r l).trans (ld_im x3 r l)

theorem weight_apply (r l : Fin 512) :
    broadcastTo S512x512 (k0_pay11 (F := Ideal) i) broadcasts_S512x1_S512x512 (ix2 r l) = weight (mark i r) := by
  refine (scale_apply _ r l).trans ?_
  unfold k0_pay11 k0_pay8 weight
  exact congrArg (fun b => Scalar.select b (Ideal.ofBits .f32 0x39000000#32) (Ideal.ofBits .f32 0x39800000#32)) (mark_col i r)

theorem mark_all (r l : Fin 512) :
    broadcastTo S512x512 (shapeCast S512x1 (k0_pay8 i) shapeCasts_S512x1_S512x1) broadcasts_S512x1_S512x512 (ix2 r l) = mark i r :=
  (mark_apply _ r l).trans (mark_col i r)

theorem re_apply (r l : Fin 512) :
    k0_pay1 (F := Ideal) (k0_pay12 i x0 x1 x2 (View.ld x3 r0_2) (View.ld x3 r0_3)) (ix4 (0 : Fin 1) (0 : Fin 1) r l) = partRe i x0 x1 x2 x3 r l := by
  unfold k0_pay1
  refine (lead_block _ r l).trans ?_
  unfold k0_pay12 k0_pay9 partRe
  refine congrArg₂ (fun a b : EReal => a * b) (congrArg₂ (fun a b : EReal => a - b) ?_ ?_) (weight_apply i r l)
  · exact congrArg₂ (fun a b : EReal => a * b) (spec_apply x0 x1 r l) (ker_re x3 r l)
  · exact congrArg₂ (fun b x => Scalar.select b (Ideal.ofBits .f32 0x00000000#32) x) (mark_all i r l)
      (congrArg₂ (fun a b : EReal => a * b) (spec_apply' x0 x2 r l) (ker_im x3 r l))

theorem im_apply (r l : Fin 512) :
    k0_pay2 (F := Ideal) (k0_pay10 i x0 x1 x2 (View.ld x3 r0_2) (View.ld x3 r0_3)) (k0_pay11 i) (ix4 (0 : Fin 1) (0 : Fin 1) r l)
      = partIm i x0 x1 x2 x3 r l := by
  unfold k0_pay2
  refine (lead_block _ r l).trans ?_
  unfold k0_pay10 k0_pay9 partIm
  refine congrArg₂ (fun a b : EReal => a * b) ?_ (weight_apply i r l)
  show Scalar.select _ _ _ = _
  have e1 := mark_all i r l
  have e2 := congrArg₂ (fun a b : EReal => a * b) (spec_apply' x0 x2 r l) (ker_im x3 r l)
  have e3 := congrArg₂ (fun a b : EReal => a + b) (congrArg₂ (fun a b : EReal => a * b) (spec_apply x0 x1 r l) (ker_im x3 r l))
    (congrArg₂ (fun a b : EReal => a * b) (spec_apply' x0 x2 r l) (ker_re x3 r l))
  exact congr (congrArg₂ (fun b x => Scalar.select b x) e1 e2) e3

/-- What a point leaves in its output block: the two parts. -/
theorem out_apply (p : Fin 2) (r l : Fin 512) :
    out0_4 (F := Ideal) i x0 x1 x2 x3 (ix4 (0 : Fin 1) p r l) = if p.val = 0 then partRe i x0 x1 x2 x3 r l else partIm i x0 x1 x2 x3 r l := by
  unfold out0_4
  have hp := p.isLt
  by_cases h : p.val = 0
  · rw [if_pos h]
    refine (View.canon_cons_of_not_mem _ _ ?_).trans ?_
    · show _ ∉ (Rect.unit (s := S1x2x512x512) ![0, 1, 0, 0] S1x1x512x512.size inb_S1x2x512x512_S1x1x512x512_0_1_0_0).set
      rw [Rect.mem_set_unit]
      intro hm
      have h2 : 1 ≤ p.val := (hm 1).1
      omega
    · have e : (Rect.unit (s := S1x2x512x512) ![0, 0, 0, 0] S1x1x512x512.size inb_S1x2x512x512_S1x1x512x512_0_0_0_0).emb (ix4 (0 : Fin 1) (0 : Fin 1) r l)
          = (ix4 (0 : Fin 1) p r l : S1x2x512x512.Idx) := by
        funext a; apply Fin.ext
        match a with
        | ⟨0, _⟩ => rfl
        | ⟨1, _⟩ => show 0 + 1 * 0 = p.val; omega
        | ⟨2, _⟩ => show 0 + 1 * r.val = r.val; omega
        | ⟨3, _⟩ => show 0 + 1 * l.val = l.val; omega
      rw [← e]
      refine (View.canon_cons_emb _ _ _ _).trans ?_
      simp only [View.ld_unit_zero (S := S512x4096) zero2, View.ld_unit_zero (S := S1x4096x512) zero3]
      exact re_apply i x0 x1 x2 x3 r l
  · rw [if_neg h]
    have e : (Rect.unit (s := S1x2x512x512) ![0, 1, 0, 0] S1x1x512x512.size inb_S1x2x512x512_S1x1x512x512_0_1_0_0).emb (ix4 (0 : Fin 1) (0 : Fin 1) r l)
        = (ix4 (0 : Fin 1) p r l : S1x2x512x512.Idx) := by
      funext a; apply Fin.ext
      match a with
      | ⟨0, _⟩ => rfl
      | ⟨1, _⟩ => show 1 + 1 * 0 = p.val; omega
      | ⟨2, _⟩ => show 0 + 1 * r.val = r.val; omega
      | ⟨3, _⟩ => show 0 + 1 * l.val = l.val; omega
    rw [← e]
    refine (View.canon_cons_emb _ _ _ _).trans ?_
    simp only [View.ld_unit_zero (S := S512x4096) zero2, View.ld_unit_zero (S := S1x4096x512) zero3]
    exact im_apply i x0 x1 x2 x3 r l

end Cert.Proof.HySpec

end
-- ==== Proof.HySpec.Array.lean ====
/-
  The product of the spectra: the kernel's result array, its blocks put together.
-/
module

public import proofs.«01_k».proof.Proof.HySpec.Host
public import proofs.«01_k».proof.Proof.HySpec.Payload

@[expose] public section

noncomputable section

namespace Cert.Proof.HySpec

open Cert.Kernel10Ideal Cert.Kernel10Ideal.Gen Idealize.ShloMosaic Idealize.ShloMosaic.TcCoe Idealize.SL.Sem
open Idealize.ShloMosaic.Pipeline (Dat)
open Cert.Proof.HyTab
open scoped BigOperators

/-- The columns of the branch's input that are transformed. -/
def inCol (l : Fin 512) : Fin 1536 := ⟨l.val, by have := l.isLt; omega⟩

/-- A row of a table against a column of a batch. -/
def proj (y : Fin 4096 → EReal) (x : S8x4096x1536.Idx → EReal) (b : Fin 8) (l : Fin 512) : EReal := ∑ k : Fin 4096, y k * x (ix3 b k (inCol l))

/-- The weight of a frequency in the transform back. -/
def wt (n : Fin 4096) : EReal := if n.val = 0 then Ideal.ofBits .f32 0x39000000#32 else Ideal.ofBits .f32 0x39800000#32

/-- The real part of the product of the spectra. -/
def prodRe (x : S8x4096x1536.Idx → EReal) (s : S2x4096x512.Idx → EReal) (b : Fin 8) (n : Fin 4096) (l : Fin 512) : EReal :=
  (proj (cosT n) x b l * s (ix3 (0 : Fin 2) n l) - if n.val = 0 then Ideal.ofBits .f32 0x00000000#32 else proj (rowT n) x b l * s (ix3 (1 : Fin 2) n l)) * wt n

/-- The imaginary part; at the zero frequency the product of the last ones. -/
def prodIm (x : S8x4096x1536.Idx → EReal) (s : S2x4096x512.Idx → EReal) (b : Fin 8) (n : Fin 4096) (l : Fin 512) : EReal :=
  (if n.val = 0 then proj (rowT n) x b l * s (ix3 (1 : Fin 2) n l)
    else proj (cosT n) x b l * s (ix3 (1 : Fin 2) n l) + proj (rowT n) x b l * s (ix3 (0 : Fin 2) n l)) * wt n

def whole (x : S8x4096x1536.Idx → EReal) (s : S2x4096x512.Idx → EReal) (i : S8x2x4096x512.Idx) : EReal :=
  if (i 1).val = 0 then prodRe x s (i 0) (i 2) (i 3) else prodIm x s (i 0) (i 2) (i 3)

variable (m : (ℓ : Loc nD τ sig) → Buf (Elt Ideal) ℓ)

theorem t_lt (t : Fin cfg0.N) : t.val < 64 := lt_of_lt_of_eq t.isLt N_0

/-- The leading coordinate and the rows under point `t`'s block coordinates. -/
def leadAt (t : Fin cfg0.N) : Fin 8 := ⟨t.val / 8, by have := t_lt t; omega⟩
def rowAt (t : Fin cfg0.N) (r : Fin 512) : Fin 4096 := ⟨t.val % 8 * 512 + r.val, by have := r.isLt; omega⟩

theorem tile : ∀ t : Fin cfg0.N, (grid0.coords t 1).val = t.val % 8 :=
  (by decide +kernel : ∀ t : Fin grid0.N, _)

/-- The mark says whether the row is the first. -/
theorem mark_iff (t : Fin cfg0.N) (r : Fin 512) : mark (grid0.coords t) r = 1#1 ↔ (rowAt t r).val = 0 := by
  unfold mark
  rw [tile t]
  exact first_tile ⟨t.val % 8, by omega⟩ r

theorem idxC : ∀ t : Fin cfg0.N, win0_1.index t 0 = t.val % 8 ∧ win0_1.index t 1 = 0 :=
  (by decide +kernel : ∀ t : Fin grid0.N, _)

theorem blkC (c : Dev nD) (t : Fin cfg0.N) (r : Fin 512) (k : Fin 4096) : iblk m c 1 t (ix2 r k) = cosT (rowAt t r) k := by
  obtain ⟨h0, h1⟩ := idxC t
  refine Eq.trans ?_ (congrFun (V_cos m c) (ix2 (rowAt t r) k))
  refine congrArg (V m c main_v28) (funext fun a => Fin.ext ?_)
  match a with
  | ⟨0, _⟩ => exact (Pipeline.Window.rect_emb_val win0_1 t _ 0).trans (by rw [h0]; rfl)
  | ⟨1, _⟩ => exact (Pipeline.Window.rect_emb_val win0_1 t _ 1).trans (by rw [h1]; show 0 * 4096 + k.val = k.val; omega)

theorem idxS : ∀ t : Fin cfg0.N, win0_2.index t 0 = t.val % 8 ∧ win0_2.index t 1 = 0 :=
  (by decide +kernel : ∀ t : Fin grid0.N, _)

theorem blkS (c : Dev nD) (t : Fin cfg0.N) (r : Fin 512) (k : Fin 4096) : iblk m c 2 t (ix2 r k) = rowT (rowAt t r) k := by
  obtain ⟨h0, h1⟩ := idxS t
  refine Eq.trans ?_ ((congrFun (V_row m c) (ix2 (rowAt t r) k)).trans (rowTable_apply _ _))
  refine congrArg (V m c main_v29) (funext fun a => Fin.ext ?_)
  match a with
  | ⟨0, _⟩ => exact (Pipeline.Window.rect_emb_val win0_2 t _ 0).trans (by rw [h0]; rfl)
  | ⟨1, _⟩ => exact (Pipeline.Window.rect_emb_val win0_2 t _ 1).trans (by rw [h1]; show 0 * 4096 + k.val = k.val; omega)

theorem idx0 : ∀ t : Fin cfg0.N, win0_0.index t 0 = t.val / 8 ∧ win0_0.index t 1 = 0 ∧ win0_0.index t 2 = 0 :=
  (by decide +kernel : ∀ t : Fin grid0.N, _)

theorem blk0 (c : Dev nD) (t : Fin cfg0.N) (k : Fin 4096) (l : Fin 512) :
    iblk m c 0 t (ix3 (0 : Fin 1) k l) = m ((c : Thread nD τ).loc main_arg0) (ix3 (leadAt t) k (inCol l)) := by
  obtain ⟨h0, h1, h2⟩ := idx0 t
  refine Eq.trans ?_ (congrFun (V_main_arg0 m c) _)
  refine congrArg (V m c main_arg0) (funext fun a => Fin.ext ?_)
  match a with
  | ⟨0, _⟩ => exact (Pipeline.Window.rect_emb_val win0_0 t _ 0).trans (by rw [h0]; show t.val / 8 * 1 + 0 = t.val / 8; omega)
  | ⟨1, _⟩ => exact (Pipeline.Window.rect_emb_val win0_0 t _ 1).trans (by rw [h1]; show 0 * 4096 + k.val = k.val; omega)
  | ⟨2, _⟩ => exact (Pipeline.Window.rect_emb_val win0_0 t _ 2).trans (by rw [h2]; show 0 * 512 + l.val = l.val; omega)

theorem idx3 : ∀ t : Fin cfg0.N, win0_3.index t 0 = 0 ∧ win0_3.index t 1 = t.val % 8 ∧ win0_3.index t 2 = 0 :=
  (by decide +kernel : ∀ t : Fin grid0.N, _)

theorem blk3 (c : Dev nD) (t : Fin cfg0.N) (p : Fin 2) (r l : Fin 512) :
    iblk m c 3 t (ix3 p r l) = m ((c : Thread nD τ).loc main_arg1) (ix3 p (rowAt t r) l) := by
  obtain ⟨h0, h1, h2⟩ := idx3 t
  refine Eq.trans ?_ (congrFun (V_main_arg1 m c) _)
  refine congrArg (V m c main_arg1) (funext fun a => Fin.ext ?_)
  match a with
  | ⟨0, _⟩ => exact (Pipeline.Window.rect_emb_val win0_3 t _ 0).trans (by rw [h0]; show 0 * 2 + p.val = p.val; omega)
  | ⟨1, _⟩ => exact (Pipeline.Window.rect_emb_val win0_3 t _ 1).trans (by rw [h1]; rfl)
  | ⟨2, _⟩ => exact (Pipeline.Window.rect_emb_val win0_3 t _ 2).trans (by rw [h2]; show 0 * 512 + l.val = l.val; omega)

theorem cos_eq (c : Dev nD) (t : Fin cfg0.N) (r l : Fin 512) :
    spec (iblk m c 0 t) (iblk m c 1 t) r l = proj (cosT (rowAt t r)) (m ((c : Thread nD τ).loc main_arg0)) (leadAt t) l :=
  Finset.sum_congr rfl fun k _ => congrArg₂ (fun a b : EReal => a * b) (blkC m c t r k) (blk0 m c t k l)

theorem row_eq (c : Dev nD) (t : Fin cfg0.N) (r l : Fin 512) :
    spec (iblk m c 0 t) (iblk m c 2 t) r l = proj (rowT (rowAt t r)) (m ((c : Thread nD τ).loc main_arg0)) (leadAt t) l :=
  Finset.sum_congr rfl fun k _ => congrArg₂ (fun a b : EReal => a * b) (blkS m c t r k) (blk0 m c t k l)

theorem re_eq (c : Dev nD) (t : Fin cfg0.N) (r l : Fin 512) :
    partRe (grid0.coords t) (iblk m c 0 t) (iblk m c 1 t) (iblk m c 2 t) (iblk m c 3 t) r l
      = prodRe (m ((c : Thread nD τ).loc main_arg0)) (m ((c : Thread nD τ).loc main_arg1)) (leadAt t) (rowAt t r) l := by
  unfold partRe prodRe weight wt
  rw [select_of_iff (mark_iff t r), select_of_iff (mark_iff t r), cos_eq m c t r l, row_eq m c t r l, blk3 m c t 0 r l, blk3 m c t 1 r l]

theorem im_eq (c : Dev nD) (t : Fin cfg0.N) (r l : Fin 512) :
    partIm (grid0.coords t) (iblk m c 0 t) (iblk m c 1 t) (iblk m c 2 t) (iblk m c 3 t) r l
      = prodIm (m ((c : Thread nD τ).loc main_arg0)) (m ((c : Thread nD τ).loc main_arg1)) (leadAt t) (rowAt t r) l := by
  unfold partIm prodIm weight wt
  rw [select_of_iff (mark_iff t r), select_of_iff (mark_iff t r), cos_eq m c t r l, row_eq m c t r l, blk3 m c t 0 r l, blk3 m c t 1 r l]

theorem block_idx (y : S1x2x512x512.Idx) : ∃ (p : Fin 2) (r l : Fin 512), y = ix4 (0 : Fin 1) p r l :=
  ⟨y 1, y 2, y 3, funext fun a => Fin.ext (by
    match a with
    | ⟨0, _⟩ => exact Nat.lt_one_iff.mp (y 0).isLt
    | ⟨1, _⟩ => rfl
    | ⟨2, _⟩ => rfl
    | ⟨3, _⟩ => rfl)⟩

theorem idx4 : ∀ t : Fin cfg0.N, win0_4.index t 0 = t.val / 8 ∧ win0_4.index t 1 = 0 ∧ win0_4.index t 2 = t.val % 8 ∧ win0_4.index t 3 = 0 :=
  (by decide +kernel : ∀ t : Fin grid0.N, _)

theorem emb4 (t : Fin cfg0.N) (p : Fin 2) (r l : Fin 512) :
    (win0_4.blk t).view.emb (ix4 (0 : Fin 1) p r l) = ix4 (leadAt t) p (rowAt t r) l := by
  obtain ⟨h0, h1, h2, h3⟩ := idx4 t
  funext a; apply Fin.ext
  match a with
  | ⟨0, _⟩ => exact (Pipeline.Window.rect_emb_val win0_4 t _ 0).trans (by rw [h0]; show t.val / 8 * 1 + 0 = t.val / 8; omega)
  | ⟨1, _⟩ => exact (Pipeline.Window.rect_emb_val win0_4 t _ 1).trans (by rw [h1]; show 0 * 2 + p.val = p.val; omega)
  | ⟨2, _⟩ => exact (Pipeline.Window.rect_emb_val win0_4 t _ 2).trans (by rw [h2]; rfl)
  | ⟨3, _⟩ => exact (Pipeline.Window.rect_emb_val win0_4 t _ 3).trans (by rw [h3]; show 0 * 512 + l.val = l.val; omega)

/-- The whole of device `c`'s arguments. -/
abbrev result (c : Dev nD) : Buf (Elt Ideal) ((c : Thread nD τ).loc main_v31) :=
  whole (m ((c : Thread nD τ).loc main_arg0)) (m ((c : Thread nD τ).loc main_arg1))

theorem flushed_eq (c : Dev nD) (t : Fin cfg0.N) :
    (dats m 0 c).flushed 4 t = (win0_4.blk t).view.read (Elt Ideal) (result m c) := by
  rw [Value.flushed4]
  funext y
  show out0_4 (F := Ideal) (grid0.coords t) (iblk m c 0 t) (iblk m c 1 t) (iblk m c 2 t) (iblk m c 3 t) y = result m c ((win0_4.blk t).view.emb y)
  obtain ⟨p, r, l, rfl⟩ := block_idx y
  refine (out_apply _ _ _ _ _ p r l).trans ?_
  rw [emb4]
  show _ = whole (m ((c : Thread nD τ).loc main_arg0)) (m ((c : Thread nD τ).loc main_arg1)) (ix4 (leadAt t) p (rowAt t r) l)
  unfold whole
  show _ = if p.val = 0 then _ else _
  by_cases h : p.val = 0
  · rw [if_pos h, if_pos h]
    exact re_eq m c t r l
  · rw [if_neg h, if_neg h]
    exact im_eq m c t r l

theorem cover (i : S8x2x4096x512.Idx) :
    ∃ t : Fin cfg0.N, (cfg0.win 4).flush t = true ∧ i ∈ ((cfg0.win 4).blk t).view.set := by
  have h0 : (i 0).val < 8 := (i 0).isLt
  have h2 : (i 2).val < 4096 := (i 2).isLt
  have hN : cfg0.N = 64 := N_0
  have ht : (i 0).val * 8 + (i 2).val / 512 < cfg0.N := by omega
  refine ⟨⟨_, ht⟩, flush0_4 _, ?_⟩
  have e := emb4 ⟨_, ht⟩ (i 1) ⟨(i 2).val % 512, by omega⟩ (i 3)
  have this : (win0_4.blk ⟨_, ht⟩).view.emb (ix4 (0 : Fin 1) (i 1) ⟨(i 2).val % 512, by omega⟩ (i 3)) = i := by
    symm
    rw [e]
    funext a; apply Fin.ext
    match a with
    | ⟨0, _⟩ => show (i 0).val = ((i 0).val * 8 + (i 2).val / 512) / 8; omega
    | ⟨1, _⟩ => rfl
    | ⟨2, _⟩ => show (i 2).val = ((i 0).val * 8 + (i 2).val / 512) % 8 * 512 + (i 2).val % 512; omega
    | ⟨3, _⟩ => rfl
  have hm := View.emb_mem_set (win0_4.blk ⟨_, ht⟩).view (ix4 (0 : Fin 1) (i 1) ⟨(i 2).val % 512, by omega⟩ (i 3))
  rwa [this] at hm

theorem final (c : Dev nD) : (dats m 0 c).arrAt 4 cfg0.N = result m c :=
  (dats m 0 c).arrAt_eq_of_cover 4 (result m c) (fun t _ => flushed_eq m c t) cover

end Cert.Proof.HySpec

end
-- ==== Proof.HySpec.Ref.lean ====
/-
  The reference's result array is the product of the spectra of its arguments.
-/
module

public import proofs.«01_k».proof.Proof.HySpec.Array
public import proofs.«01_k».proof.Proof.Gen.Reference10Ideal.Read

@[expose] public section

noncomputable section

namespace Cert.Proof.HySpec

open Cert.Reference10Ideal Cert.Reference10Ideal.Gen Cert.Reference10Ideal.Read Idealize.ShloMosaic Idealize.ShloMosaic.TcCoe Idealize.SL.Sem
open Cert.Proof.HyTab
open scoped BigOperators

theorem piece_re (p0 p1 : S8x1x4096x512.Idx → EReal) (b : Fin 8) (n : Fin 4096) (l : Fin 512) :
    concatenate S8x2x4096x512 1 [⟨S8x1x4096x512, p0⟩, ⟨S8x1x4096x512, p1⟩] concatenates_S8x1x4096x512_S8x1x4096x512_S8x2x4096x512_d1 (ix4 b (0 : Fin 2) n l)
      = p0 (ix4 b (0 : Fin 1) n l) := by
  refine concatenate_apply_piece (t := S8x2x4096x512) 1 [⟨S8x1x4096x512, p0⟩, ⟨S8x1x4096x512, p1⟩] _ (ix4 b (0 : Fin 2) n l) 0
    (by show 0 < 2; omega) S8x1x4096x512 p0 rfl rfl 0 rfl (ix4 b (0 : Fin 1) n l) (fun a ha => ?_) (by show 0 + 0 = 0; omega)
  match a with
  | ⟨0, _⟩ => rfl
  | ⟨1, _⟩ => exact absurd rfl ha
  | ⟨2, _⟩ => rfl
  | ⟨3, _⟩ => rfl

theorem piece_im (p0 p1 : S8x1x4096x512.Idx → EReal) (b : Fin 8) (n : Fin 4096) (l : Fin 512) :
    concatenate S8x2x4096x512 1 [⟨S8x1x4096x512, p0⟩, ⟨S8x1x4096x512, p1⟩] concatenates_S8x1x4096x512_S8x1x4096x512_S8x2x4096x512_d1 (ix4 b (1 : Fin 2) n l)
      = p1 (ix4 b (0 : Fin 1) n l) := by
  refine concatenate_apply_piece (t := S8x2x4096x512) 1 [⟨S8x1x4096x512, p0⟩, ⟨S8x1x4096x512, p1⟩] _ (ix4 b (1 : Fin 2) n l) 1
    (by show 1 < 2; omega) S8x1x4096x512 p1 rfl rfl 1 rfl (ix4 b (0 : Fin 1) n l) (fun a ha => ?_) (by show 1 + 0 = 1; omega)
  match a with
  | ⟨0, _⟩ => rfl
  | ⟨1, _⟩ => exact absurd rfl ha
  | ⟨2, _⟩ => rfl
  | ⟨3, _⟩ => rfl

variable (x : S8x4096x1536.Idx → EReal) (s : S2x4096x512.Idx → EReal)

theorem ref_in (b : Fin 8) (k : Fin 4096) (l : Fin 512) : val_main_v11 (F := Ideal) x (ix3 b k l) = x (ix3 b k (inCol l)) := by
  refine (val_main_v11_apply (F := Ideal) x _).trans ((val_main_v10_apply (F := Ideal) x _).trans (congrArg x (funext fun a => Fin.ext ?_)))
  match a with
  | ⟨0, _⟩ => rfl
  | ⟨1, _⟩ => rfl
  | ⟨2, _⟩ => rfl

theorem ref_cos (b : Fin 8) (n : Fin 4096) (l : Fin 512) : val_main_v14 (F := Ideal) x (ix3 b n l) = proj (cosT n) x b l := by
  refine (val_main_v14_apply (F := Ideal) x _).trans ((val_main_v13_apply x _).trans (Finset.sum_congr rfl fun k _ => ?_))
  refine Eq.trans (congrArg₂ (fun a b : EReal => a * b) (Eq.trans (congrArg _ ?_) (ref_in x b k l)) (congrArg _ ?_)) (mul_comm _ _)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl

theorem ref_sin (b : Fin 8) (n : Fin 4096) (l : Fin 512) : val_main_v18 (F := Ideal) x (ix3 b n l) = proj (sinT n) x b l := by
  refine (val_main_v18_apply (F := Ideal) x _).trans ((val_main_v17_apply x _).trans (Finset.sum_congr rfl fun k _ => ?_))
  refine Eq.trans (congrArg₂ (fun a b : EReal => a * b) (Eq.trans (congrArg _ ?_) (ref_in x b k l)) (congrArg _ ?_)) (mul_comm _ _)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl

theorem ref_alt (b : Fin 8) (n : Fin 4096) (l : Fin 512) : val_main_v42 (F := Ideal) x (ix3 b n l) = proj altT x b l := by
  refine (val_main_v42_apply (F := Ideal) x _).trans ((val_main_v24_apply (F := Ideal) x _).trans ((val_main_v23_apply x _).trans (Finset.sum_congr rfl fun k _ => ?_)))
  refine congrArg₂ (fun a b : EReal => a * b) (congrArg _ ?_) (Eq.trans (congrArg _ ?_) (ref_in x b k l))
  · funext a; apply Fin.ext
    match a with
    | ⟨0, _⟩ => rfl
  · funext a; apply Fin.ext
    match a with
    | ⟨0, _⟩ => rfl
    | ⟨1, _⟩ => rfl
    | ⟨2, _⟩ => rfl

theorem filt_31 (b : Fin 8) (n : Fin 4096) (l : Fin 512) : val_main_v31 (F := Ideal) s (ix3 b n l) = s (ix3 (0 : Fin 2) n l) := by
  have hl := l.isLt
  have hn := n.isLt
  refine (val_main_v31_apply (F := Ideal) s _).trans ((val_main_v30_apply (F := Ideal) s _).trans ((val_main_v29_apply (F := Ideal) s _).trans
    ((val_main_v28_apply (F := Ideal) s _).trans (congrArg s (funext fun a => Fin.ext ?_)))))
  match a with
  | ⟨0, _⟩ => rfl
  | ⟨1, _⟩ => show (n.val * 512 + l.val) / 512 % 4096 = n.val; omega
  | ⟨2, _⟩ => show (n.val * 512 + l.val) % 512 = l.val; omega

theorem filt_36 (b : Fin 8) (n : Fin 4096) (l : Fin 512) : val_main_v36 (F := Ideal) s (ix3 b n l) = s (ix3 (1 : Fin 2) n l) := by
  have hl := l.isLt
  have hn := n.isLt
  refine (val_main_v36_apply (F := Ideal) s _).trans ((val_main_v35_apply (F := Ideal) s _).trans ((val_main_v34_apply (F := Ideal) s _).trans
    ((val_main_v33_apply (F := Ideal) s _).trans (congrArg s (funext fun a => Fin.ext ?_)))))
  match a with
  | ⟨0, _⟩ => rfl
  | ⟨1, _⟩ => show (n.val * 512 + l.val) / 512 % 4096 = n.val; omega
  | ⟨2, _⟩ => show (n.val * 512 + l.val) % 512 = l.val; omega

theorem filt_43 (b : Fin 8) (n : Fin 4096) (l : Fin 512) : val_main_v43 (F := Ideal) s (ix3 b n l) = s (ix3 (1 : Fin 2) n l) := by
  have hl := l.isLt
  have hn := n.isLt
  refine (val_main_v43_apply (F := Ideal) s _).trans ((val_main_v41_apply (F := Ideal) s _).trans ((val_main_v40_apply (F := Ideal) s _).trans
    ((val_main_v39_apply (F := Ideal) s _).trans (congrArg s (funext fun a => Fin.ext ?_)))))
  match a with
  | ⟨0, _⟩ => rfl
  | ⟨1, _⟩ => show (n.val * 512 + l.val) / 512 % 4096 = n.val; omega
  | ⟨2, _⟩ => show (n.val * 512 + l.val) % 512 = l.val; omega

theorem filt_48 (b : Fin 8) (n : Fin 4096) (l : Fin 512) : val_main_v48 (F := Ideal) s (ix3 b n l) = s (ix3 (1 : Fin 2) n l) := by
  have hl := l.isLt
  have hn := n.isLt
  refine (val_main_v48_apply (F := Ideal) s _).trans ((val_main_v47_apply (F := Ideal) s _).trans ((val_main_v46_apply (F := Ideal) s _).trans
    ((val_main_v45_apply (F := Ideal) s _).trans (congrArg s (funext fun a => Fin.ext ?_)))))
  match a with
  | ⟨0, _⟩ => rfl
  | ⟨1, _⟩ => show (n.val * 512 + l.val) / 512 % 4096 = n.val; omega
  | ⟨2, _⟩ => show (n.val * 512 + l.val) % 512 = l.val; omega

theorem filt_53 (b : Fin 8) (n : Fin 4096) (l : Fin 512) : val_main_v53 (F := Ideal) s (ix3 b n l) = s (ix3 (0 : Fin 2) n l) := by
  have hl := l.isLt
  have hn := n.isLt
  refine (val_main_v53_apply (F := Ideal) s _).trans ((val_main_v52_apply (F := Ideal) s _).trans ((val_main_v51_apply (F := Ideal) s _).trans
    ((val_main_v50_apply (F := Ideal) s _).trans (congrArg s (funext fun a => Fin.ext ?_)))))
  match a with
  | ⟨0, _⟩ => rfl
  | ⟨1, _⟩ => show (n.val * 512 + l.val) / 512 % 4096 = n.val; omega
  | ⟨2, _⟩ => show (n.val * 512 + l.val) % 512 = l.val; omega

theorem ref_first (i : S4096x1.Idx) : val_main_v27 (F := Ideal) i = 1#1 ↔ (i 0).val = 0 := by
  rw [val_main_v27_apply, val_main_v26_apply, val_main_v25_apply, val_main_c_4_apply, val_main_v0_apply]
  exact first_host (i 0)

theorem ref_wt60 (b : Fin 8) (n : Fin 4096) (l : Fin 512) : val_main_v60 (F := Ideal) (ix3 b n l) = wt n := by
  rw [val_main_v60_apply, val_main_v59_apply, val_main_v58_apply, val_main_v57_apply, select_of_iff (ref_first _), val_main_call4_v0_apply, val_main_call4_v1_apply,
    val_main_cst_5_apply, val_main_cst_6_apply]
  rfl

theorem ref_wt64 (b : Fin 8) (n : Fin 4096) (l : Fin 512) : val_main_v64 (F := Ideal) (ix3 b n l) = wt n := by
  rw [val_main_v64_apply, val_main_v63_apply, val_main_v62_apply, val_main_v57_apply, select_of_iff (ref_first _), val_main_call4_v0_apply, val_main_call4_v1_apply,
    val_main_cst_5_apply, val_main_cst_6_apply]
  rfl

theorem proj_row {n : Fin 4096} (h : n.val ≠ 0) (b : Fin 8) (l : Fin 512) : proj (rowT n) x b l = proj (sinT n) x b l :=
  Finset.sum_congr rfl fun k _ => congrArg (fun a : EReal => a * x (ix3 b k (inCol l))) (if_neg h)

theorem proj_alt {n : Fin 4096} (h : n.val = 0) (b : Fin 8) (l : Fin 512) : proj (rowT n) x b l = proj altT x b l :=
  Finset.sum_congr rfl fun k _ => congrArg (fun a : EReal => a * x (ix3 b k (inCol l))) (if_pos h)

/-- The sines of the zero frequency vanish. -/
theorem proj_sin {n : Fin 4096} (h : n.val = 0) (b : Fin 8) (l : Fin 512) : proj (sinT n) x b l = 0 := by
  obtain rfl : n = 0 := Fin.ext h
  exact Finset.sum_eq_zero fun k _ => by rw [sinT_left, zero_mul]

theorem value_re (b : Fin 8) (n : Fin 4096) (l : Fin 512) : val_main_v61 (F := Ideal) x s (ix3 b n l) = prodRe x s b n l := by
  refine (val_main_v61_apply (F := Ideal) x s _).trans (congrArg₂ (fun a b : EReal => a * b) ?_ (ref_wt60 b n l))
  refine (val_main_v38_apply (F := Ideal) x s _).trans (congrArg₂ (fun a b : EReal => a - b) ?_ ?_)
  · exact (val_main_v32_apply (F := Ideal) x s _).trans (congrArg₂ (fun a b : EReal => a * b) (ref_cos x b n l) (filt_31 s b n l))
  · refine (val_main_v37_apply (F := Ideal) x s _).trans ((congrArg₂ (fun a b : EReal => a * b) (ref_sin x b n l) (filt_36 s b n l)).trans ?_)
    by_cases h : n.val = 0
    · rw [if_pos h, proj_sin x h, Ideal.ofBits_zero_f32]
      exact zero_mul _
    · rw [if_neg h, proj_row x h]

theorem value_im (b : Fin 8) (n : Fin 4096) (l : Fin 512) : val_main_v65 (F := Ideal) x s (ix3 b n l) = prodIm x s b n l := by
  refine (val_main_v65_apply (F := Ideal) x s _).trans (congrArg₂ (fun a b : EReal => a * b) ?_ (ref_wt64 b n l))
  refine (val_main_v56_apply (F := Ideal) x s _).trans ?_
  rw [val_main_call3_v0_apply, select_of_iff (ref_first _)]
  show (if n.val = 0 then _ else _) = _
  by_cases h : n.val = 0
  · rw [if_pos h, if_pos h, proj_alt x h]
    exact (val_main_v44_apply (F := Ideal) x s _).trans (congrArg₂ (fun a b : EReal => a * b) (ref_alt x b n l) (filt_43 s b n l))
  · rw [if_neg h, if_neg h, proj_row x h]
    refine (val_main_v55_apply (F := Ideal) x s _).trans (congrArg₂ (fun a b : EReal => a + b) ?_ ?_)
    · exact (val_main_v49_apply (F := Ideal) x s _).trans (congrArg₂ (fun a b : EReal => a * b) (ref_cos x b n l) (filt_48 s b n l))
    · exact (val_main_v54_apply (F := Ideal) x s _).trans (congrArg₂ (fun a b : EReal => a * b) (ref_sin x b n l) (filt_53 s b n l))

theorem ref_re (b : Fin 8) (n : Fin 4096) (l : Fin 512) : val_main_v68 (F := Ideal) x s (ix4 b (0 : Fin 2) n l) = whole x s (ix4 b (0 : Fin 2) n l) := by
  unfold val_main_v68
  refine (piece_re _ _ b n l).trans ((val_main_v66_apply (F := Ideal) x s _).trans (Eq.trans (congrArg _ ?_) (value_re x s b n l)))
  funext a; apply Fin.ext
  match a with
  | ⟨0, _⟩ => rfl
  | ⟨1, _⟩ => rfl
  | ⟨2, _⟩ => rfl

theorem ref_im (b : Fin 8) (n : Fin 4096) (l : Fin 512) : val_main_v68 (F := Ideal) x s (ix4 b (1 : Fin 2) n l) = whole x s (ix4 b (1 : Fin 2) n l) := by
  unfold val_main_v68
  refine (piece_im _ _ b n l).trans ((val_main_v67_apply (F := Ideal) x s _).trans (Eq.trans (congrArg _ ?_) (value_im x s b n l)))
  funext a; apply Fin.ext
  match a with
  | ⟨0, _⟩ => rfl
  | ⟨1, _⟩ => rfl
  | ⟨2, _⟩ => rfl

/-- The reference's result is the whole. -/
theorem ref_value : val_main_v69 (F := Ideal) x s = whole x s := by
  funext i
  obtain ⟨b, p, n, l, rfl⟩ : ∃ (b : Fin 8) (p : Fin 2) (n : Fin 4096) (l : Fin 512), i = ix4 b p n l :=
    ⟨i 0, i 1, i 2, i 3, funext fun a => by
      match a with
      | ⟨0, _⟩ => rfl
      | ⟨1, _⟩ => rfl
      | ⟨2, _⟩ => rfl
      | ⟨3, _⟩ => rfl⟩
  refine (val_main_v69_apply (F := Ideal) x s _).trans ?_
  show val_main_v68 (F := Ideal) x s _ = _
  have hp := p.isLt
  by_cases h : p.val = 0
  · obtain rfl : p = 0 := Fin.ext h
    exact ref_re x s b n l
  · obtain rfl : p = 1 := Fin.ext (by show p.val = 1; omega)
    exact ref_im x s b n l

end Cert.Proof.HySpec

end
-- ==== Proof.HySpec.Claim.lean ====
/-
  The claims on the transform of the Hyena branch and its product with the filter.
-/
module

public import proofs.«01_k».proof.Defs
public import proofs.«01_k».proof.Proof.HySpec.Array
public import proofs.«01_k».proof.Proof.HySpec.Ref
public import proofs.«01_k».proof.Proof.Gen.Kernel10.Frame
public import proofs.«01_k».proof.Proof.Gen.Kernel10Ideal.Frame
public import Idealize.ShloMosaic.Lib.Quiescent

@[expose] public section

noncomputable section

namespace Cert.Proof.HySpec

open Idealize.ShloMosaic Idealize.SL.Sem

theorem frame_reference : Cert.quiescent_Reference10Ideal := fun m ρ _ =>
  (θ_run (Cert.Reference10Ideal.defs (F := Ideal)) _ _).mono
    (fun r h => ⟨fun c => (h c).2, Idealize.ShloMosaic.sem_eq_zero_of_no_sems (by decide) r.2⟩)
    (Cert.Reference10Ideal.Value.run (F := Ideal) m ρ)

theorem algebraic : Cert.algebraic_Kernel10Ideal_Reference10Ideal := by
  intro m g m' g' _ hargs
  refine ⟨fun c => result m c, ?_, ?_⟩
  · refine (θ_run (Cert.Kernel10Ideal.defs (F := Ideal)) _ _).mono (fun r h c => ?_) (Cert.Kernel10Ideal.Value.run_blocks (F := Ideal) m g)
    obtain ⟨r0, hr⟩ := h c
    exact ⟨r0.trans (final m c), hr⟩
  · refine (θ_run (Cert.Reference10Ideal.defs (F := Ideal)) _ _).mono (fun r h c => ?_) (Cert.Reference10Ideal.Value.run (F := Ideal) m' g')
    obtain ⟨h0, h1⟩ := hargs c
    obtain ⟨r0, hr⟩ := h c
    refine ⟨r0.trans ?_, hr⟩
    refine (Cert.Reference10Ideal.Read.val_main_v69_eq (F := Ideal) _ _).trans ?_
    rw [h0, h1]
    exact ref_value _ _

end Cert.Proof.HySpec

end
-- ==== Proof.HyBand.Host.lean ====
/-
  The tables the transform is given.
-/
module

public import proofs.«01_k».proof.Proof.HyTab.Row
public import proofs.«01_k».proof.Proof.Gen.Kernel11Ideal.Value

@[expose] public section

noncomputable section

namespace Cert.Proof.HyBand

open Cert.Kernel11Ideal Cert.Kernel11Ideal.Gen Idealize.ShloMosaic Idealize.ShloMosaic.TcCoe Idealize.SL.Sem
open Cert.Proof.HyTab

variable (m : (ℓ : Loc nD τ sig) → Buf (Elt Ideal) ℓ)

set_option maxHeartbeats 1600000 in
theorem V_cos (c : Dev nD) : V m c main_v28 = Cert.Reference9Ideal.Read.val_main_v16 (F := Ideal) := by
  show StableHlo.after _ _ _ = _
  simp only [hostOps0, List.flatten_cons, List.flatten_nil, List.append_nil, List.cons_append, List.nil_append]
  after_results_simp <;> rfl

set_option maxHeartbeats 1600000 in
theorem V_row (c : Dev nD) : V m c main_v29 = rowTable := by
  show StableHlo.after _ _ _ = _
  simp only [hostOps0, List.flatten_cons, List.flatten_nil, List.append_nil, List.cons_append, List.nil_append]
  after_results_simp <;> rfl

end Cert.Proof.HyBand

end
-- ==== Proof.HyBand.Payload.lean ====
/-
  The body of the transform of the filters, read at one element.
-/
module

public import proofs.«01_k».proof.Proof.HgIn.Payload
public import proofs.«01_k».proof.Proof.Gen.Kernel11Ideal.Value
public import Idealize.ShloMosaic.Lib.Pipeline.ValueKit.Tiles

@[expose] public section

noncomputable section

namespace Cert.Proof.HyBand

open Cert.Kernel11Ideal Cert.Kernel11Ideal.Gen Idealize.ShloMosaic Idealize.ShloMosaic.TcCoe Idealize.SL.Sem
open Cert.Proof.HgIn (zero2 zero3)
open scoped BigOperators

theorem lead_block {α : Type} (y : S512x512.Idx → α) (r l : Fin 512) :
    shapeCast S1x1x512x512 y shapeCasts_S512x512_S1x1x512x512 (ix4 (0 : Fin 1) (0 : Fin 1) r l) = y (ix2 r l) :=
  shapeCast_apply _ shapeCasts_S512x512_S1x1x512x512 (ix4 (0 : Fin 1) (0 : Fin 1) r l) (ix2 r l) (by
    rw [Shape.rowMajor_val_two, Shape.rowMajor_val_four]
    show r.val * 512 + l.val = ((0 * 1 + 0) * 512 + r.val) * 512 + l.val
    omega)

/-- A row of a table times a column. -/
theorem prod_apply (a : FVec Ideal S512x4096 .bf16) (y : FVec Ideal S4096x512 .bf16) (r l : Fin 512) :
    Ideal.matmul dot_S512x4096_S4096x512_S512x512_1_0_0_1_n_n (shapeCast S512x4096 a shapeCasts_S512x4096_S512x4096) y
      (constant (F := Ideal) S512x512 .f32 0x00000000#32) (ix2 r l) = ∑ k : Fin 4096, a (ix2 r k) * y (ix2 k l) := by
  refine (Ideal.matmul_plain_apply (M := 512) (K := 4096) (N := 512) (φ₁ := .bf16) (φ₂ := .bf16) none _ _ _ r l).trans ?_
  show Ideal.ofBits .f32 0x00000000#32 + _ = _
  rw [Ideal.ofBits_zero_f32, zero_add]
  exact Finset.sum_congr rfl fun k _ => congrArg (fun b : EReal => b * y (ix2 k l)) (shapeCast_apply a _ _ _ rfl)

/-- The mark of the first row, from the tile's number. -/
def mark (i : grid0.Coords) (r : Fin 512) : BitVec 1 :=
  IntOp.cmpi .eq (IntOp.addi (Scalar.muli (BitVec.ofNat 32 (i 1).val) 512#32) (BitVec.ofNat 32 r.val)) 0#32

theorem mark_col (i : grid0.Coords) (r : Fin 512) :
    cmpi .eq (addi (broadcast S512x1 (Scalar.muli (BitVec.ofNat 32 (i 1).val) 512#32)) (iota .tc S512x1 32 [0] iota_S512x1_d0_w32))
      (broadcast S512x1 0#32) (ix2 r (0 : Fin 1)) = mark i r := by
  show IntOp.cmpi .eq (IntOp.addi _ (iota .tc S512x1 32 [0] iota_S512x1_d0_w32 (ix2 r (0 : Fin 1)))) _ = _
  rw [iota_single_apply]
  rfl

theorem mark_apply (x : IVec S512x1 1) (r l : Fin 512) :
    broadcastTo S512x512 (shapeCast S512x1 x shapeCasts_S512x1_S512x1) broadcasts_S512x1_S512x512 (ix2 r l) = x (ix2 r (0 : Fin 1)) := by
  refine Eq.trans (b := shapeCast S512x1 x shapeCasts_S512x1_S512x1 (ix2 r (0 : Fin 1))) ?_ (shapeCast_apply x _ _ _ rfl)
  pointwise

theorem prod8_apply (a : FVec Ideal S8x4096 .bf16) (y : FVec Ideal S4096x512 .bf16) (r : Fin 8) (l : Fin 512) :
    Ideal.matmul dot_S8x4096_S4096x512_S8x512_1_0_0_1_n_n (shapeCast S8x4096 a shapeCasts_S8x4096_S8x4096) y
      (constant (F := Ideal) S8x512 .f32 0x00000000#32) (ix2 r l) = ∑ k : Fin 4096, a (ix2 r k) * y (ix2 k l) := by
  refine (Ideal.matmul_plain_apply (M := 8) (K := 4096) (N := 512) (φ₁ := .bf16) (φ₂ := .bf16) none _ _ _ r l).trans ?_
  show Ideal.ofBits .f32 0x00000000#32 + _ = _
  rw [Ideal.ofBits_zero_f32, zero_add]
  exact Finset.sum_congr rfl fun k _ => congrArg (fun b : EReal => b * y (ix2 k l)) (shapeCast_apply a _ _ _ rfl)

theorem top_row (x : FVec Ideal S8x512 .f32) (r l : Fin 512) :
    broadcastTo S512x512 (shapeCast S1x512 (extractStridedSlice S1x512 ![0, 0] x slices_S8x512_o0_0_S1x512) shapeCasts_S1x512_S1x512)
      broadcasts_S1x512_S512x512 (ix2 r l) = x (ix2 (0 : Fin 8) l) := by
  refine Eq.trans (b := shapeCast S1x512 (extractStridedSlice S1x512 ![0, 0] x slices_S8x512_o0_0_S1x512) shapeCasts_S1x512_S1x512 (ix2 (0 : Fin 1) l)) ?_
    ((shapeCast_apply _ _ _ (ix2 (0 : Fin 1) l) rfl).trans (extractStridedSlice_apply ![0, 0] x _ _ (ix2 (0 : Fin 8) l) fun a => ?_))
  · pointwise
  · match a with
    | ⟨0, _⟩ => rfl
    | ⟨1, _⟩ => show l.val = 0 + l.val; omega

theorem ld_top (x : Vec Ideal S512x4096 .bf16) (k : Fin 4096) : View.ld x r0_3 (ix2 (0 : Fin 8) k) = x (ix2 (0 : Fin 512) k) :=
  View.ld_unit_apply_of x _ _ _ (ix2 (0 : Fin 8) k) (ix2 (0 : Fin 512) k) fun a => by
    match a with
    | ⟨0, _⟩ => rfl
    | ⟨1, _⟩ => show k.val = 0 + k.val; omega

variable (i : grid0.Coords) (x0 x1 : Vec Ideal S4096x512 .bf16) (x2 x3 : Vec Ideal S512x4096 .bf16)

/-- The real part: the even band against the cosines. -/
def partRe (r l : Fin 512) : EReal := ∑ k : Fin 4096, x2 (ix2 r k) * x0 (ix2 k l)

/-- The imaginary part: the odd band against the sines, in the first row the even band against the signs. -/
def partIm (r l : Fin 512) : EReal :=
  Scalar.select (mark i r) (∑ k : Fin 4096, x3 (ix2 (0 : Fin 512) k) * x0 (ix2 k l)) (∑ k : Fin 4096, x3 (ix2 r k) * x1 (ix2 k l))

theorem re_apply (r l : Fin 512) : k0_pay1 (F := Ideal) x0 x2 (ix4 (0 : Fin 1) (0 : Fin 1) r l) = partRe x0 x2 r l := by
  unfold k0_pay1
  exact (lead_block _ r l).trans (prod_apply x2 x0 r l)

theorem im_apply (r l : Fin 512) :
    k0_pay2 (F := Ideal) i x0 x3 x1 (View.ld x3 r0_3) (ix4 (0 : Fin 1) (0 : Fin 1) r l) = partIm i x0 x1 x3 r l := by
  unfold k0_pay2 partIm
  refine (lead_block _ r l).trans ?_
  show Scalar.select _ _ _ = _
  have e1 := (mark_apply _ r l).trans (mark_col i r)
  have e2 := (top_row _ r l).trans ((prod8_apply (View.ld x3 r0_3) x0 0 l).trans
    (Finset.sum_congr rfl fun k _ => congrArg (fun b : EReal => b * x0 (ix2 k l)) (ld_top x3 k)))
  have e3 := prod_apply x3 x1 r l
  exact congr (congrArg₂ (fun b x => Scalar.select b x) e1 e2) e3

/-- What a point leaves in its output block: the two parts. -/
theorem out_apply (p : Fin 2) (r l : Fin 512) :
    out0_4 (F := Ideal) i x0 x1 x2 x3 (ix4 (0 : Fin 1) p r l) = if p.val = 0 then partRe x0 x2 r l else partIm i x0 x1 x3 r l := by
  unfold out0_4
  have hp := p.isLt
  by_cases h : p.val = 0
  · rw [if_pos h]
    refine (View.canon_cons_of_not_mem _ _ ?_).trans ?_
    · show _ ∉ (Rect.unit (s := S1x2x512x512) ![0, 1, 0, 0] S1x1x512x512.size inb_S1x2x512x512_S1x1x512x512_0_1_0_0).set
      rw [Rect.mem_set_unit]
      intro hm
      have h2 : 1 ≤ p.val := (hm 1).1
      omega
    · have e : (Rect.unit (s := S1x2x512x512) ![0, 0, 0, 0] S1x1x512x512.size inb_S1x2x512x512_S1x1x512x512_0_0_0_0).emb (ix4 (0 : Fin 1) (0 : Fin 1) r l)
          = (ix4 (0 : Fin 1) p r l : S1x2x512x512.Idx) := by
        funext a; apply Fin.ext
        match a with
        | ⟨0, _⟩ => rfl
        | ⟨1, _⟩ => show 0 + 1 * 0 = p.val; omega
        | ⟨2, _⟩ => show 0 + 1 * r.val = r.val; omega
        | ⟨3, _⟩ => show 0 + 1 * l.val = l.val; omega
      rw [← e]
      refine (View.canon_cons_emb _ _ _ _).trans ?_
      simp only [View.ld_unit_zero (S := S512x4096) zero2, View.ld_unit_zero (S := S4096x512) zero2]
      exact re_apply x0 x2 r l
  · rw [if_neg h]
    have e : (Rect.unit (s := S1x2x512x512) ![0, 1, 0, 0] S1x1x512x512.size inb_S1x2x512x512_S1x1x512x512_0_1_0_0).emb (ix4 (0 : Fin 1) (0 : Fin 1) r l)
        = (ix4 (0 : Fin 1) p r l : S1x2x512x512.Idx) := by
      funext a; apply Fin.ext
      match a with
      | ⟨0, _⟩ => rfl
      | ⟨1, _⟩ => show 1 + 1 * 0 = p.val; omega
      | ⟨2, _⟩ => show 0 + 1 * r.val = r.val; omega
      | ⟨3, _⟩ => show 0 + 1 * l.val = l.val; omega
    rw [← e]
    refine (View.canon_cons_emb _ _ _ _).trans ?_
    simp only [View.ld_unit_zero (S := S512x4096) zero2, View.ld_unit_zero (S := S4096x512) zero2]
    exact im_apply i x0 x1 x3 r l

end Cert.Proof.HyBand

end
-- ==== Proof.HyBand.Array.lean ====
/-
  The transform of the filters: the kernel's result array, its blocks put together.
-/
module

public import proofs.«01_k».proof.Proof.HyBand.Host
public import proofs.«01_k».proof.Proof.HyBand.Payload

@[expose] public section

noncomputable section

namespace Cert.Proof.HyBand

open Cert.Kernel11Ideal Cert.Kernel11Ideal.Gen Idealize.ShloMosaic Idealize.ShloMosaic.TcCoe Idealize.SL.Sem
open Idealize.ShloMosaic.Pipeline (Dat)
open Cert.Proof.HyTab
open scoped BigOperators

/-- The columns of a layer's even band and those of its odd one. -/
def evenCol (o : Fin 2) (l : Fin 512) : Fin 2048 := ⟨o.val * 1024 + 0 + l.val, by have := o.isLt; have := l.isLt; omega⟩
def oddCol (o : Fin 2) (l : Fin 512) : Fin 2048 := ⟨o.val * 1024 + 512 + l.val, by have := o.isLt; have := l.isLt; omega⟩

/-- The spectra of every layer's filters: the real parts of the even band, the imaginary parts of the odd one, and at the zero frequency
    in their place the even band's last. -/
def whole (p : S4096x2048.Idx → EReal) (i : S2x2x4096x512.Idx) : EReal :=
  if (i 1).val = 0 then ∑ k : Fin 4096, cosT (i 2) k * p (ix2 k (evenCol (i 0) (i 3)))
  else if (i 2).val = 0 then ∑ k : Fin 4096, altT k * p (ix2 k (evenCol (i 0) (i 3)))
  else ∑ k : Fin 4096, sinT (i 2) k * p (ix2 k (oddCol (i 0) (i 3)))

variable (m : (ℓ : Loc nD τ sig) → Buf (Elt Ideal) ℓ)

theorem t_lt (t : Fin cfg0.N) : t.val < 16 := lt_of_lt_of_eq t.isLt N_0

/-- The leading coordinate and the rows under point `t`'s block coordinates. -/
def leadAt (t : Fin cfg0.N) : Fin 2 := ⟨t.val / 8, by have := t_lt t; omega⟩
def rowAt (t : Fin cfg0.N) (r : Fin 512) : Fin 4096 := ⟨t.val % 8 * 512 + r.val, by have := r.isLt; omega⟩

theorem tile : ∀ t : Fin cfg0.N, (grid0.coords t 1).val = t.val % 8 :=
  (by decide +kernel : ∀ t : Fin grid0.N, _)

/-- The mark says whether the row is the first. -/
theorem mark_iff (t : Fin cfg0.N) (r : Fin 512) : mark (grid0.coords t) r = 1#1 ↔ (rowAt t r).val = 0 := by
  unfold mark
  rw [tile t]
  exact first_tile ⟨t.val % 8, by omega⟩ r

theorem idxC : ∀ t : Fin cfg0.N, win0_2.index t 0 = t.val % 8 ∧ win0_2.index t 1 = 0 :=
  (by decide +kernel : ∀ t : Fin grid0.N, _)

theorem blkC (c : Dev nD) (t : Fin cfg0.N) (r : Fin 512) (k : Fin 4096) : iblk m c 2 t (ix2 r k) = cosT (rowAt t r) k := by
  obtain ⟨h0, h1⟩ := idxC t
  refine Eq.trans ?_ (congrFun (V_cos m c) (ix2 (rowAt t r) k))
  refine congrArg (V m c main_v28) (funext fun a => Fin.ext ?_)
  match a with
  | ⟨0, _⟩ => exact (Pipeline.Window.rect_emb_val win0_2 t _ 0).trans (by rw [h0]; rfl)
  | ⟨1, _⟩ => exact (Pipeline.Window.rect_emb_val win0_2 t _ 1).trans (by rw [h1]; show 0 * 4096 + k.val = k.val; omega)

theorem idxS : ∀ t : Fin cfg0.N, win0_3.index t 0 = t.val % 8 ∧ win0_3.index t 1 = 0 :=
  (by decide +kernel : ∀ t : Fin grid0.N, _)

theorem blkS (c : Dev nD) (t : Fin cfg0.N) (r : Fin 512) (k : Fin 4096) : iblk m c 3 t (ix2 r k) = rowT (rowAt t r) k := by
  obtain ⟨h0, h1⟩ := idxS t
  refine Eq.trans ?_ ((congrFun (V_row m c) (ix2 (rowAt t r) k)).trans (rowTable_apply _ _))
  refine congrArg (V m c main_v29) (funext fun a => Fin.ext ?_)
  match a with
  | ⟨0, _⟩ => exact (Pipeline.Window.rect_emb_val win0_3 t _ 0).trans (by rw [h0]; rfl)
  | ⟨1, _⟩ => exact (Pipeline.Window.rect_emb_val win0_3 t _ 1).trans (by rw [h1]; show 0 * 4096 + k.val = k.val; omega)

theorem idx0 : ∀ t : Fin cfg0.N, win0_0.index t 0 = 0 ∧ win0_0.index t 1 = t.val / 8 * 2 + 0 :=
  (by decide +kernel : ∀ t : Fin grid0.N, _)

theorem blk0 (c : Dev nD) (t : Fin cfg0.N) (k : Fin 4096) (l : Fin 512) :
    iblk m c 0 t (ix2 k l) = m ((c : Thread nD τ).loc main_arg0) (ix2 k (evenCol (leadAt t) l)) := by
  obtain ⟨h0, h1⟩ := idx0 t
  refine Eq.trans ?_ (congrFun (V_main_arg0 m c) _)
  refine congrArg (V m c main_arg0) (funext fun a => Fin.ext ?_)
  match a with
  | ⟨0, _⟩ => exact (Pipeline.Window.rect_emb_val win0_0 t _ 0).trans (by rw [h0]; show 0 * 4096 + k.val = k.val; omega)
  | ⟨1, _⟩ => exact (Pipeline.Window.rect_emb_val win0_0 t _ 1).trans (by rw [h1]; show (t.val / 8 * 2 + 0) * 512 + l.val = t.val / 8 * 1024 + 0 + l.val; omega)

theorem idx1 : ∀ t : Fin cfg0.N, win0_1.index t 0 = 0 ∧ win0_1.index t 1 = t.val / 8 * 2 + 1 :=
  (by decide +kernel : ∀ t : Fin grid0.N, _)

theorem blk1 (c : Dev nD) (t : Fin cfg0.N) (k : Fin 4096) (l : Fin 512) :
    iblk m c 1 t (ix2 k l) = m ((c : Thread nD τ).loc main_arg0) (ix2 k (oddCol (leadAt t) l)) := by
  obtain ⟨h0, h1⟩ := idx1 t
  refine Eq.trans ?_ (congrFun (V_main_arg0 m c) _)
  refine congrArg (V m c main_arg0) (funext fun a => Fin.ext ?_)
  match a with
  | ⟨0, _⟩ => exact (Pipeline.Window.rect_emb_val win0_1 t _ 0).trans (by rw [h0]; show 0 * 4096 + k.val = k.val; omega)
  | ⟨1, _⟩ => exact (Pipeline.Window.rect_emb_val win0_1 t _ 1).trans (by rw [h1]; show (t.val / 8 * 2 + 1) * 512 + l.val = t.val / 8 * 1024 + 512 + l.val; omega)

theorem re_eq (c : Dev nD) (t : Fin cfg0.N) (r l : Fin 512) :
    partRe (iblk m c 0 t) (iblk m c 2 t) r l
      = ∑ k : Fin 4096, cosT (rowAt t r) k * m ((c : Thread nD τ).loc main_arg0) (ix2 k (evenCol (leadAt t) l)) :=
  Finset.sum_congr rfl fun k _ => congrArg₂ (fun a b : EReal => a * b) (blkC m c t r k) (blk0 m c t k l)

theorem im_eq (c : Dev nD) (t : Fin cfg0.N) (r l : Fin 512) :
    partIm (grid0.coords t) (iblk m c 0 t) (iblk m c 1 t) (iblk m c 3 t) r l
      = if (rowAt t r).val = 0 then ∑ k : Fin 4096, altT k * m ((c : Thread nD τ).loc main_arg0) (ix2 k (evenCol (leadAt t) l))
        else ∑ k : Fin 4096, sinT (rowAt t r) k * m ((c : Thread nD τ).loc main_arg0) (ix2 k (oddCol (leadAt t) l)) := by
  refine (select_of_iff (mark_iff t r) _ _).trans ?_
  by_cases h : (rowAt t r).val = 0
  · rw [if_pos h, if_pos h]
    refine Finset.sum_congr rfl fun k _ => congrArg₂ (fun a b : EReal => a * b) ((blkS m c t 0 k).trans (if_pos ?_)) (blk0 m c t k l)
    have h' : t.val % 8 * 512 + r.val = 0 := h
    show t.val % 8 * 512 + 0 = 0
    omega
  · rw [if_neg h, if_neg h]
    exact Finset.sum_congr rfl fun k _ => congrArg₂ (fun a b : EReal => a * b) ((blkS m c t r k).trans (if_neg h)) (blk1 m c t k l)

theorem block_idx (y : S1x2x512x512.Idx) : ∃ (p : Fin 2) (r l : Fin 512), y = ix4 (0 : Fin 1) p r l :=
  ⟨y 1, y 2, y 3, funext fun a => Fin.ext (by
    match a with
    | ⟨0, _⟩ => exact Nat.lt_one_iff.mp (y 0).isLt
    | ⟨1, _⟩ => rfl
    | ⟨2, _⟩ => rfl
    | ⟨3, _⟩ => rfl)⟩

theorem idx4 : ∀ t : Fin cfg0.N, win0_4.index t 0 = t.val / 8 ∧ win0_4.index t 1 = 0 ∧ win0_4.index t 2 = t.val % 8 ∧ win0_4.index t 3 = 0 :=
  (by decide +kernel : ∀ t : Fin grid0.N, _)

theorem emb4 (t : Fin cfg0.N) (p : Fin 2) (r l : Fin 512) :
    (win0_4.blk t).view.emb (ix4 (0 : Fin 1) p r l) = ix4 (leadAt t) p (rowAt t r) l := by
  obtain ⟨h0, h1, h2, h3⟩ := idx4 t
  funext a; apply Fin.ext
  match a with
  | ⟨0, _⟩ => exact (Pipeline.Window.rect_emb_val win0_4 t _ 0).trans (by rw [h0]; show t.val / 8 * 1 + 0 = t.val / 8; omega)
  | ⟨1, _⟩ => exact (Pipeline.Window.rect_emb_val win0_4 t _ 1).trans (by rw [h1]; show 0 * 2 + p.val = p.val; omega)
  | ⟨2, _⟩ => exact (Pipeline.Window.rect_emb_val win0_4 t _ 2).trans (by rw [h2]; rfl)
  | ⟨3, _⟩ => exact (Pipeline.Window.rect_emb_val win0_4 t _ 3).trans (by rw [h3]; show 0 * 512 + l.val = l.val; omega)

/-- The whole of device `c`'s arguments. -/
abbrev result (c : Dev nD) : Buf (Elt Ideal) ((c : Thread nD τ).loc main_v31) :=
  whole (m ((c : Thread nD τ).loc main_arg0))

theorem flushed_eq (c : Dev nD) (t : Fin cfg0.N) :
    (dats m 0 c).flushed 4 t = (win0_4.blk t).view.read (Elt Ideal) (result m c) := by
  rw [Value.flushed4]
  funext y
  show out0_4 (F := Ideal) (grid0.coords t) (iblk m c 0 t) (iblk m c 1 t) (iblk m c 2 t) (iblk m c 3 t) y = result m c ((win0_4.blk t).view.emb y)
  obtain ⟨p, r, l, rfl⟩ := block_idx y
  refine (out_apply _ _ _ _ _ p r l).trans ?_
  rw [emb4]
  show _ = whole (m ((c : Thread nD τ).loc main_arg0)) (ix4 (leadAt t) p (rowAt t r) l)
  unfold whole
  show _ = if p.val = 0 then _ else _
  by_cases h : p.val = 0
  · rw [if_pos h, if_pos h]
    exact re_eq m c t r l
  · rw [if_neg h, if_neg h]
    exact im_eq m c t r l

theorem cover (i : S2x2x4096x512.Idx) :
    ∃ t : Fin cfg0.N, (cfg0.win 4).flush t = true ∧ i ∈ ((cfg0.win 4).blk t).view.set := by
  have h0 : (i 0).val < 2 := (i 0).isLt
  have h2 : (i 2).val < 4096 := (i 2).isLt
  have hN : cfg0.N = 16 := N_0
  have ht : (i 0).val * 8 + (i 2).val / 512 < cfg0.N := by omega
  refine ⟨⟨_, ht⟩, flush0_4 _, ?_⟩
  have e := emb4 ⟨_, ht⟩ (i 1) ⟨(i 2).val % 512, by omega⟩ (i 3)
  have this : (win0_4.blk ⟨_, ht⟩).view.emb (ix4 (0 : Fin 1) (i 1) ⟨(i 2).val % 512, by omega⟩ (i 3)) = i := by
    symm
    rw [e]
    funext a; apply Fin.ext
    match a with
    | ⟨0, _⟩ => show (i 0).val = ((i 0).val * 8 + (i 2).val / 512) / 8; omega
    | ⟨1, _⟩ => rfl
    | ⟨2, _⟩ => show (i 2).val = ((i 0).val * 8 + (i 2).val / 512) % 8 * 512 + (i 2).val % 512; omega
    | ⟨3, _⟩ => rfl
  have hm := View.emb_mem_set (win0_4.blk ⟨_, ht⟩).view (ix4 (0 : Fin 1) (i 1) ⟨(i 2).val % 512, by omega⟩ (i 3))
  rwa [this] at hm

theorem final (c : Dev nD) : (dats m 0 c).arrAt 4 cfg0.N = result m c :=
  (dats m 0 c).arrAt_eq_of_cover 4 (result m c) (fun t _ => flushed_eq m c t) cover

end Cert.Proof.HyBand

end
-- ==== Proof.HyBand.Ref.lean ====
/-
  The reference's result array is the transform of its argument.
-/
module

public import proofs.«01_k».proof.Proof.HyBand.Array
public import proofs.«01_k».proof.Proof.Gen.Reference11Ideal.Read

@[expose] public section

noncomputable section

namespace Cert.Proof.HyBand

open Cert.Reference11Ideal Cert.Reference11Ideal.Gen Cert.Reference11Ideal.Read Idealize.ShloMosaic Idealize.ShloMosaic.TcCoe Idealize.SL.Sem
open Cert.Proof.HyTab
open scoped BigOperators

theorem piece_re (p0 p1 : S2x1x4096x512.Idx → EReal) (b : Fin 2) (n : Fin 4096) (l : Fin 512) :
    concatenate S2x2x4096x512 1 [⟨S2x1x4096x512, p0⟩, ⟨S2x1x4096x512, p1⟩] concatenates_S2x1x4096x512_S2x1x4096x512_S2x2x4096x512_d1 (ix4 b (0 : Fin 2) n l)
      = p0 (ix4 b (0 : Fin 1) n l) := by
  refine concatenate_apply_piece (t := S2x2x4096x512) 1 [⟨S2x1x4096x512, p0⟩, ⟨S2x1x4096x512, p1⟩] _ (ix4 b (0 : Fin 2) n l) 0
    (by show 0 < 2; omega) S2x1x4096x512 p0 rfl rfl 0 rfl (ix4 b (0 : Fin 1) n l) (fun a ha => ?_) (by show 0 + 0 = 0; omega)
  match a with
  | ⟨0, _⟩ => rfl
  | ⟨1, _⟩ => exact absurd rfl ha
  | ⟨2, _⟩ => rfl
  | ⟨3, _⟩ => rfl

theorem piece_im (p0 p1 : S2x1x4096x512.Idx → EReal) (b : Fin 2) (n : Fin 4096) (l : Fin 512) :
    concatenate S2x2x4096x512 1 [⟨S2x1x4096x512, p0⟩, ⟨S2x1x4096x512, p1⟩] concatenates_S2x1x4096x512_S2x1x4096x512_S2x2x4096x512_d1 (ix4 b (1 : Fin 2) n l)
      = p1 (ix4 b (0 : Fin 1) n l) := by
  refine concatenate_apply_piece (t := S2x2x4096x512) 1 [⟨S2x1x4096x512, p0⟩, ⟨S2x1x4096x512, p1⟩] _ (ix4 b (1 : Fin 2) n l) 1
    (by show 1 < 2; omega) S2x1x4096x512 p1 rfl rfl 1 rfl (ix4 b (0 : Fin 1) n l) (fun a ha => ?_) (by show 1 + 0 = 1; omega)
  match a with
  | ⟨0, _⟩ => rfl
  | ⟨1, _⟩ => exact absurd rfl ha
  | ⟨2, _⟩ => rfl
  | ⟨3, _⟩ => rfl

variable (p : S4096x2048.Idx → EReal)

theorem ref_even (k : Fin 4096) (o : Fin 2) (l : Fin 512) : val_main_v13 (F := Ideal) p (ix3 k o l) = p (ix2 k (evenCol o l)) := by
  have hl := l.isLt
  have ho := o.isLt
  refine (val_main_v13_apply (F := Ideal) p _).trans ((val_main_v12_apply (F := Ideal) p _).trans ?_)
  refine Eq.trans (congrArg (val_main_v11 (F := Ideal) p) (show _ = ix4 k o (0 : Fin 2) l from ?_)) ?_
  · funext a; apply Fin.ext
    match a with
    | ⟨0, _⟩ => show ((k.val * 2 + o.val) * 512 + l.val) / 1024 = k.val; omega
    | ⟨1, _⟩ => show ((k.val * 2 + o.val) * 512 + l.val) / 512 % 2 = o.val; omega
    | ⟨2, _⟩ => rfl
    | ⟨3, _⟩ => show ((k.val * 2 + o.val) * 512 + l.val) % 512 = l.val; omega
  · refine (val_main_v11_apply (F := Ideal) p _).trans (congrArg p (funext fun a => Fin.ext ?_))
    match a with
    | ⟨0, _⟩ => show (((k.val * 2 + o.val) * 2 + 0) * 512 + l.val) / 2048 = k.val; omega
    | ⟨1, _⟩ => show (((k.val * 2 + o.val) * 2 + 0) * 512 + l.val) % 2048 = o.val * 1024 + 0 + l.val; omega

theorem ref_odd (k : Fin 4096) (o : Fin 2) (l : Fin 512) : val_main_v15 (F := Ideal) p (ix3 k o l) = p (ix2 k (oddCol o l)) := by
  have hl := l.isLt
  have ho := o.isLt
  refine (val_main_v15_apply (F := Ideal) p _).trans ((val_main_v14_apply (F := Ideal) p _).trans ?_)
  refine Eq.trans (congrArg (val_main_v11 (F := Ideal) p) (show _ = ix4 k o (1 : Fin 2) l from ?_)) ?_
  · funext a; apply Fin.ext
    match a with
    | ⟨0, _⟩ => show ((k.val * 2 + o.val) * 512 + l.val) / 1024 = k.val; omega
    | ⟨1, _⟩ => show ((k.val * 2 + o.val) * 512 + l.val) / 512 % 2 = o.val; omega
    | ⟨2, _⟩ => rfl
    | ⟨3, _⟩ => show ((k.val * 2 + o.val) * 512 + l.val) % 512 = l.val; omega
  · refine (val_main_v11_apply (F := Ideal) p _).trans (congrArg p (funext fun a => Fin.ext ?_))
    match a with
    | ⟨0, _⟩ => show (((k.val * 2 + o.val) * 2 + 1) * 512 + l.val) / 2048 = k.val; omega
    | ⟨1, _⟩ => show (((k.val * 2 + o.val) * 2 + 1) * 512 + l.val) % 2048 = o.val * 1024 + 512 + l.val; omega

theorem ref_cos (o : Fin 2) (n : Fin 4096) (l : Fin 512) :
    val_main_v18 (F := Ideal) p (ix3 o n l) = ∑ k : Fin 4096, cosT n k * p (ix2 k (evenCol o l)) := by
  refine (val_main_v18_apply (F := Ideal) p _).trans ((val_main_v17_apply p _).trans (Finset.sum_congr rfl fun k _ => ?_))
  refine Eq.trans (congrArg₂ (fun a b : EReal => a * b) (Eq.trans (congrArg _ ?_) (ref_even p k o l)) (congrArg _ ?_)) (mul_comm _ _)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl

theorem ref_sin (o : Fin 2) (n : Fin 4096) (l : Fin 512) :
    val_main_v22 (F := Ideal) p (ix3 o n l) = ∑ k : Fin 4096, sinT n k * p (ix2 k (oddCol o l)) := by
  refine (val_main_v22_apply (F := Ideal) p _).trans ((val_main_v21_apply p _).trans (Finset.sum_congr rfl fun k _ => ?_))
  refine Eq.trans (congrArg₂ (fun a b : EReal => a * b) (Eq.trans (congrArg _ ?_) (ref_odd p k o l)) (congrArg _ ?_)) (mul_comm _ _)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl

theorem ref_alt (o : Fin 2) (l : Fin 512) :
    val_main_v27 (F := Ideal) p (ix2 o l) = ∑ k : Fin 4096, altT k * p (ix2 k (evenCol o l)) := by
  refine (val_main_v27_apply p _).trans (Finset.sum_congr rfl fun k _ => ?_)
  refine congrArg₂ (fun a b : EReal => a * b) (congrArg _ ?_) (Eq.trans (congrArg _ ?_) (ref_even p k o l))
  · funext a; apply Fin.ext
    match a with
    | ⟨0, _⟩ => rfl
  · funext a; apply Fin.ext
    match a with
    | ⟨0, _⟩ => rfl
    | ⟨1, _⟩ => rfl
    | ⟨2, _⟩ => rfl

theorem ref_first (i : S4096x1.Idx) : val_main_v31 (F := Ideal) i = 1#1 ↔ (i 0).val = 0 := by
  rw [val_main_v31_apply, val_main_v30_apply, val_main_v29_apply, val_main_c_4_apply, val_main_v0_apply]
  exact first_host (i 0)

theorem ref_re (b : Fin 2) (n : Fin 4096) (l : Fin 512) : val_main_v35 (F := Ideal) p (ix4 b (0 : Fin 2) n l) = whole p (ix4 b (0 : Fin 2) n l) := by
  unfold val_main_v35
  refine (piece_re _ _ b n l).trans ((val_main_v33_apply (F := Ideal) p _).trans (Eq.trans (congrArg _ ?_) (ref_cos p b n l)))
  funext a; apply Fin.ext
  match a with
  | ⟨0, _⟩ => rfl
  | ⟨1, _⟩ => rfl
  | ⟨2, _⟩ => rfl

theorem ref_im (b : Fin 2) (n : Fin 4096) (l : Fin 512) : val_main_v35 (F := Ideal) p (ix4 b (1 : Fin 2) n l) = whole p (ix4 b (1 : Fin 2) n l) := by
  unfold val_main_v35
  refine (piece_im _ _ b n l).trans ((val_main_v34_apply (F := Ideal) p _).trans ?_)
  refine Eq.trans (congrArg (val_main_v32 (F := Ideal) p) (show _ = ix3 b n l from ?_)) ?_
  · funext a; apply Fin.ext
    match a with
    | ⟨0, _⟩ => rfl
    | ⟨1, _⟩ => rfl
    | ⟨2, _⟩ => rfl
  · refine (val_main_v32_apply (F := Ideal) p _).trans ?_
    rw [val_main_call3_v0_apply, select_of_iff (ref_first _), val_main_call3_v1_apply, val_main_v28_apply, ref_sin p b n l]
    refine congrArg (fun a : EReal => if n.val = 0 then a else ∑ k : Fin 4096, sinT n k * p (ix2 k (oddCol b l))) (Eq.trans (congrArg _ ?_) (ref_alt p b l))
    funext a; apply Fin.ext
    match a with
    | ⟨0, _⟩ => rfl
    | ⟨1, _⟩ => rfl

/-- The reference's result is the whole. -/
theorem ref_value : val_main_v35 (F := Ideal) p = whole p := by
  funext i
  obtain ⟨b, p, n, l, rfl⟩ : ∃ (b : Fin 2) (p : Fin 2) (n : Fin 4096) (l : Fin 512), i = ix4 b p n l :=
    ⟨i 0, i 1, i 2, i 3, funext fun a => by
      match a with
      | ⟨0, _⟩ => rfl
      | ⟨1, _⟩ => rfl
      | ⟨2, _⟩ => rfl
      | ⟨3, _⟩ => rfl⟩
  have hp := p.isLt
  by_cases h : p.val = 0
  · obtain rfl : p = 0 := Fin.ext h
    exact ref_re p b n l
  · obtain rfl : p = 1 := Fin.ext (by show p.val = 1; omega)
    exact ref_im p b n l

end Cert.Proof.HyBand

end
-- ==== Proof.HyBand.Claim.lean ====
/-
  The claims on the transform of the filters of the Hyena branch.
-/
module

public import proofs.«01_k».proof.Defs
public import proofs.«01_k».proof.Proof.HyBand.Array
public import proofs.«01_k».proof.Proof.HyBand.Ref
public import proofs.«01_k».proof.Proof.Gen.Kernel11.Frame
public import proofs.«01_k».proof.Proof.Gen.Kernel11Ideal.Frame
public import Idealize.ShloMosaic.Lib.Quiescent

@[expose] public section

noncomputable section

namespace Cert.Proof.HyBand

open Idealize.ShloMosaic Idealize.SL.Sem

theorem frame_reference : Cert.quiescent_Reference11Ideal := fun m ρ _ =>
  (θ_run (Cert.Reference11Ideal.defs (F := Ideal)) _ _).mono
    (fun r h => ⟨fun c => (h c).2, Idealize.ShloMosaic.sem_eq_zero_of_no_sems (by decide) r.2⟩)
    (Cert.Reference11Ideal.Value.run (F := Ideal) m ρ)

theorem algebraic : Cert.algebraic_Kernel11Ideal_Reference11Ideal := by
  intro m g m' g' _ hargs
  refine ⟨fun c => result m c, ?_, ?_⟩
  · refine (θ_run (Cert.Kernel11Ideal.defs (F := Ideal)) _ _).mono (fun r h c => ?_) (Cert.Kernel11Ideal.Value.run_blocks (F := Ideal) m g)
    obtain ⟨r0, hr⟩ := h c
    exact ⟨r0.trans (final m c), hr⟩
  · refine (θ_run (Cert.Reference11Ideal.defs (F := Ideal)) _ _).mono (fun r h c => ?_) (Cert.Reference11Ideal.Value.run (F := Ideal) m' g')
    obtain ⟨r0, hr⟩ := h c
    refine ⟨r0.trans ?_, hr⟩
    refine (Cert.Reference11Ideal.Read.val_main_v35_eq (F := Ideal) _ _).trans ?_
    rw [hargs c]
    exact ref_value _

end Cert.Proof.HyBand

end
-- ==== Proof.lean ====
module

public import proofs.«01_k».proof.Defs
public import proofs.«01_k».proof.Proof.Attn.Claim
public import proofs.«01_k».proof.Proof.Ffn.Claim
public import proofs.«01_k».proof.Proof.HgIn.Claim
public import proofs.«01_k».proof.Proof.HgOut.Claim
public import proofs.«01_k».proof.Proof.AbOut.Claim
public import proofs.«01_k».proof.Proof.AbIn.Claim
public import proofs.«01_k».proof.Proof.Mods.Claim
public import proofs.«01_k».proof.Proof.HyConv.Claim
public import proofs.«01_k».proof.Proof.HyBack.Claim
public import proofs.«01_k».proof.Proof.HySpec.Claim
public import proofs.«01_k».proof.Proof.HyBand.Claim

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Attn.preFacts, AbIn.preFacts,
    fun m ρ _ => Cert.Kernel.Gen.frame m ρ,
    fun m ρ _ => Cert.KernelIdeal.Gen.frame m ρ,
    fun m ρ _ => Cert.KernelIdeal.Gen.frame m ρ,
    Attn.frame_reference,
    fun m ρ _ => Attn.frame_reference m ρ trivial,
    fun m ρ _ => Cert.Kernel2.Gen.frame m ρ,
    fun m ρ _ => Cert.Kernel2Ideal.Gen.frame m ρ,
    Ffn.frame_reference,
    fun m ρ _ => Cert.Kernel3.Gen.frame m ρ,
    fun m ρ _ => Cert.Kernel3Ideal.Gen.frame m ρ,
    HgIn.frame_reference,
    fun m ρ _ => Cert.Kernel4.Gen.frame m ρ,
    fun m ρ _ => Cert.Kernel4Ideal.Gen.frame m ρ,
    HgOut.frame_reference,
    fun m ρ _ => Cert.Kernel5.Gen.frame m ρ,
    fun m ρ _ => Cert.Kernel5Ideal.Gen.frame m ρ,
    AbOut.frame_reference,
    fun m ρ _ => Cert.Kernel6.Gen.frame m ρ,
    fun m ρ _ => Cert.Kernel6Ideal.Gen.frame m ρ,
    fun m ρ _ => Cert.Kernel6Ideal.Gen.frame m ρ,
    AbIn.frame_reference,
    fun m ρ _ => AbIn.frame_reference m ρ trivial,
    fun m ρ _ => Cert.Kernel7.Gen.frame m ρ,
    fun m ρ _ => Cert.Kernel7Ideal.Gen.frame m ρ,
    Mods.frame_reference,
    fun m ρ _ => Cert.Kernel8.Gen.frame m ρ,
    fun m ρ _ => Cert.Kernel8Ideal.Gen.frame m ρ,
    HyConv.frame_reference,
    fun m ρ _ => Cert.Kernel9.Gen.frame m ρ,
    fun m ρ _ => Cert.Kernel9Ideal.Gen.frame m ρ,
    HyBack.frame_reference,
    fun m ρ _ => Cert.Kernel10.Gen.frame m ρ,
    fun m ρ _ => Cert.Kernel10Ideal.Gen.frame m ρ,
    HySpec.frame_reference,
    fun m ρ _ => Cert.Kernel11.Gen.frame m ρ,
    fun m ρ _ => Cert.Kernel11Ideal.Gen.frame m ρ,
    HyBand.frame_reference,
    trivial,
    Attn.algebraic Attn.preFacts,
    trivial,
    Ffn.algebraic,
    trivial,
    HgIn.algebraic,
    trivial,
    HgOut.algebraic,
    trivial,
    AbOut.algebraic,
    trivial,
    AbIn.algebraic AbIn.preFacts,
    trivial,
    Mods.algebraic,
    trivial,
    HyConv.algebraic,
    trivial,
    HyBack.algebraic,
    trivial,
    HySpec.algebraic,
    trivial,
    HyBand.algebraic⟩

end Cert.Proof

end
